-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DhKernel (m : (ℓ : Loc Cert.DhKernel.nD Cert.DhKernel.τ Cert.DhKernel.sig) → Buf (Elt Bits) ℓ) : Prop :=
  True

def Pre_DhKernelIdeal (m : (ℓ : Loc Cert.DhKernelIdeal.nD Cert.DhKernelIdeal.τ Cert.DhKernelIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_DwDilKernel (m : (ℓ : Loc Cert.DwDilKernel.nD Cert.DwDilKernel.τ Cert.DwDilKernel.sig) → Buf (Elt Bits) ℓ) : Prop :=
  True

def Pre_DwDilKernelIdeal (m : (ℓ : Loc Cert.DwDilKernelIdeal.nD Cert.DwDilKernelIdeal.τ Cert.DwDilKernelIdeal.sig) → Buf (Elt Ideal) ℓ) : Prop :=
  True

def Pre_DwDilReferenceIdeal (m : (ℓ : Loc Cert.DwDilReferenceIdeal.nD Cert.DwDilReferenceIdeal.τ Cert.DwDilReferenceIdeal.sig) → Buf (Elt Ideal) ℓ) : Prop :=
  True

def Pre_DwGateKernel (m : (ℓ : Loc Cert.DwGateKernel.nD Cert.DwGateKernel.τ Cert.DwGateKernel.sig) → Buf (Elt Bits) ℓ) : Prop :=
  True

def Pre_DwGateKernelIdeal (m : (ℓ : Loc Cert.DwGateKernelIdeal.nD Cert.DwGateKernelIdeal.τ Cert.DwGateKernelIdeal.sig) → Buf (Elt Ideal) ℓ) : Prop :=
  True

def Pre_DwGateReferenceIdeal (m : (ℓ : Loc Cert.DwGateReferenceIdeal.nD Cert.DwGateReferenceIdeal.τ Cert.DwGateReferenceIdeal.sig) → Buf (Elt Ideal) ℓ) : Prop :=
  True

def Pre_DwDnKernel (m : (ℓ : Loc Cert.DwDnKernel.nD Cert.DwDnKernel.τ Cert.DwDnKernel.sig) → Buf (Elt Bits) ℓ) : Prop :=
  True

def Pre_DwDnKernelIdeal (m : (ℓ : Loc Cert.DwDnKernelIdeal.nD Cert.DwDnKernelIdeal.τ Cert.DwDnKernelIdeal.sig) → Buf (Elt Ideal) ℓ) : Prop :=
  True

def Pre_DwDnReferenceIdeal (m : (ℓ : Loc Cert.DwDnReferenceIdeal.nD Cert.DwDnReferenceIdeal.τ Cert.DwDnReferenceIdeal.sig) → Buf (Elt Ideal) ℓ) : Prop :=
  True

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_BrFwdKernel (m : (ℓ : Loc Cert.BrFwdKernel.nD Cert.BrFwdKernel.τ Cert.BrFwdKernel.sig) → Buf (Elt Bits) ℓ) : Prop :=
  True

def Pre_BrFwdKernelIdeal (m : (ℓ : Loc Cert.BrFwdKernelIdeal.nD Cert.BrFwdKernelIdeal.τ Cert.BrFwdKernelIdeal.sig) → Buf (Elt Ideal) ℓ) : Prop :=
  True

def Pre_BrFwdReferenceIdeal (m : (ℓ : Loc Cert.BrFwdReferenceIdeal.nD Cert.BrFwdReferenceIdeal.τ Cert.BrFwdReferenceIdeal.sig) → Buf (Elt Ideal) ℓ) : Prop :=
  True

def Pre_BrDhKernel (m : (ℓ : Loc Cert.BrDhKernel.nD Cert.BrDhKernel.τ Cert.BrDhKernel.sig) → Buf (Elt Bits) ℓ) : Prop :=
  True

def Pre_BrDhKernelIdeal (m : (ℓ : Loc Cert.BrDhKernelIdeal.nD Cert.BrDhKernelIdeal.τ Cert.BrDhKernelIdeal.sig) → Buf (Elt Ideal) ℓ) : Prop :=
  True

def Pre_BrDhReferenceIdeal (m : (ℓ : Loc Cert.BrDhReferenceIdeal.nD Cert.BrDhReferenceIdeal.τ Cert.BrDhReferenceIdeal.sig) → Buf (Elt Ideal) ℓ) : Prop :=
  True

def Pre_BrDwKernel (m : (ℓ : Loc Cert.BrDwKernel.nD Cert.BrDwKernel.τ Cert.BrDwKernel.sig) → Buf (Elt Bits) ℓ) : Prop :=
  True

def Pre_BrDwKernelIdeal (m : (ℓ : Loc Cert.BrDwKernelIdeal.nD Cert.BrDwKernelIdeal.τ Cert.BrDwKernelIdeal.sig) → Buf (Elt Ideal) ℓ) : Prop :=
  True

def Pre_BrDwReferenceIdeal (m : (ℓ : Loc Cert.BrDwReferenceIdeal.nD Cert.BrDwReferenceIdeal.τ Cert.BrDwReferenceIdeal.sig) → Buf (Elt Ideal) ℓ) : Prop :=
  True

def Pre_OutFwdKernel (m : (ℓ : Loc Cert.OutFwdKernel.nD Cert.OutFwdKernel.τ Cert.OutFwdKernel.sig) → Buf (Elt Bits) ℓ) : Prop :=
  True

def Pre_OutFwdKernelIdeal (m : (ℓ : Loc Cert.OutFwdKernelIdeal.nD Cert.OutFwdKernelIdeal.τ Cert.OutFwdKernelIdeal.sig) → Buf (Elt Ideal) ℓ) : Prop :=
  True

def Pre_OutFwdReferenceIdeal (m : (ℓ : Loc Cert.OutFwdReferenceIdeal.nD Cert.OutFwdReferenceIdeal.τ Cert.OutFwdReferenceIdeal.sig) → Buf (Elt Ideal) ℓ) : Prop :=
  True

def Pre_OutDhKernel (m : (ℓ : Loc Cert.OutDhKernel.nD Cert.OutDhKernel.τ Cert.OutDhKernel.sig) → Buf (Elt Bits) ℓ) : Prop :=
  True

def Pre_OutDhKernelIdeal (m : (ℓ : Loc Cert.OutDhKernelIdeal.nD Cert.OutDhKernelIdeal.τ Cert.OutDhKernelIdeal.sig) → Buf (Elt Ideal) ℓ) : Prop :=
  True

def Pre_OutDhReferenceIdeal (m : (ℓ : Loc Cert.OutDhReferenceIdeal.nD Cert.OutDhReferenceIdeal.τ Cert.OutDhReferenceIdeal.sig) → Buf (Elt Ideal) ℓ) : Prop :=
  True

def Pre_OutDwKernel (m : (ℓ : Loc Cert.OutDwKernel.nD Cert.OutDwKernel.τ Cert.OutDwKernel.sig) → Buf (Elt Bits) ℓ) : Prop :=
  True

def Pre_OutDwKernelIdeal (m : (ℓ : Loc Cert.OutDwKernelIdeal.nD Cert.OutDwKernelIdeal.τ Cert.OutDwKernelIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_QbFwdKernel (m : (ℓ : Loc Cert.QbFwdKernel.nD Cert.QbFwdKernel.τ Cert.QbFwdKernel.sig) → Buf (Elt Bits) ℓ) : Prop :=
  True

def Pre_QbFwdKernelIdeal (m : (ℓ : Loc Cert.QbFwdKernelIdeal.nD Cert.QbFwdKernelIdeal.τ Cert.QbFwdKernelIdeal.sig) → Buf (Elt Ideal) ℓ) : Prop :=
  True

def Pre_QbFwdReferenceIdeal (m : (ℓ : Loc Cert.QbFwdReferenceIdeal.nD Cert.QbFwdReferenceIdeal.τ Cert.QbFwdReferenceIdeal.sig) → Buf (Elt Ideal) ℓ) : Prop :=
  True

def Pre_QbDhKernel (m : (ℓ : Loc Cert.QbDhKernel.nD Cert.QbDhKernel.τ Cert.QbDhKernel.sig) → Buf (Elt Bits) ℓ) : Prop :=
  True

def Pre_QbDhKernelIdeal (m : (ℓ : Loc Cert.QbDhKernelIdeal.nD Cert.QbDhKernelIdeal.τ Cert.QbDhKernelIdeal.sig) → Buf (Elt Ideal) ℓ) : Prop :=
  True

def Pre_QbDhReferenceIdeal (m : (ℓ : Loc Cert.QbDhReferenceIdeal.nD Cert.QbDhReferenceIdeal.τ Cert.QbDhReferenceIdeal.sig) → Buf (Elt Ideal) ℓ) : Prop :=
  True

def Pre_QbDwKernel (m : (ℓ : Loc Cert.QbDwKernel.nD Cert.QbDwKernel.τ Cert.QbDwKernel.sig) → Buf (Elt Bits) ℓ) : Prop :=
  True

def Pre_QbDwKernelIdeal (m : (ℓ : Loc Cert.QbDwKernelIdeal.nD Cert.QbDwKernelIdeal.τ Cert.QbDwKernelIdeal.sig) → Buf (Elt Ideal) ℓ) : Prop :=
  True

def Pre_QbDwReferenceIdeal (m : (ℓ : Loc Cert.QbDwReferenceIdeal.nD Cert.QbDwReferenceIdeal.τ Cert.QbDwReferenceIdeal.sig) → Buf (Elt Ideal) ℓ) : Prop :=
  True

def Pre_KvFwdKernel (m : (ℓ : Loc Cert.KvFwdKernel.nD Cert.KvFwdKernel.τ Cert.KvFwdKernel.sig) → Buf (Elt Bits) ℓ) : Prop :=
  True

def Pre_KvFwdKernelIdeal (m : (ℓ : Loc Cert.KvFwdKernelIdeal.nD Cert.KvFwdKernelIdeal.τ Cert.KvFwdKernelIdeal.sig) → Buf (Elt Ideal) ℓ) : Prop :=
  True

def Pre_KvFwdReferenceIdeal (m : (ℓ : Loc Cert.KvFwdReferenceIdeal.nD Cert.KvFwdReferenceIdeal.τ Cert.KvFwdReferenceIdeal.sig) → Buf (Elt Ideal) ℓ) : Prop :=
  True

def Pre_KvDwKernel (m : (ℓ : Loc Cert.KvDwKernel.nD Cert.KvDwKernel.τ Cert.KvDwKernel.sig) → Buf (Elt Bits) ℓ) : Prop :=
  True

def Pre_KvDwKernelIdeal (m : (ℓ : Loc Cert.KvDwKernelIdeal.nD Cert.KvDwKernelIdeal.τ Cert.KvDwKernelIdeal.sig) → Buf (Elt Ideal) ℓ) : Prop :=
  True

def Pre_KvDwReferenceIdeal (m : (ℓ : Loc Cert.KvDwReferenceIdeal.nD Cert.KvDwReferenceIdeal.τ Cert.KvDwReferenceIdeal.sig) → Buf (Elt Ideal) ℓ) : Prop :=
  True

def Pre_DwNarrowKernel (m : (ℓ : Loc Cert.DwNarrowKernel.nD Cert.DwNarrowKernel.τ Cert.DwNarrowKernel.sig) → Buf (Elt Bits) ℓ) : Prop :=
  True

def Pre_DwNarrowKernelIdeal (m : (ℓ : Loc Cert.DwNarrowKernelIdeal.nD Cert.DwNarrowKernelIdeal.τ Cert.DwNarrowKernelIdeal.sig) → Buf (Elt Ideal) ℓ) : Prop :=
  True

def Pre_DwNarrowReferenceIdeal (m : (ℓ : Loc Cert.DwNarrowReferenceIdeal.nD Cert.DwNarrowReferenceIdeal.τ Cert.DwNarrowReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DhKernel [hDhKernel : Cert.DhKernel.Facts] : Prop :=
  ∀ (m : (ℓ : Loc Cert.DhKernel.nD Cert.DhKernel.τ Cert.DhKernel.sig) → Buf (Elt Bits) ℓ) (g : Dev Cert.DhKernel.nD → PrngReg), Pre_DhKernel m →
    θ_run (Cert.DhKernel.defs (F := Bits)) (onTc (τ := Cert.DhKernel.τ) (Cert.DhKernel.main (F := Bits))) ⟨m, fun _ => 0, g⟩ (fun r => (∀ c : Dev Cert.DhKernel.nD,
      r.2.mem ((c.tc : Thread Cert.DhKernel.nD Cert.DhKernel.τ).loc Cert.DhKernel.main_arg0) = m ((c.tc : Thread Cert.DhKernel.nD Cert.DhKernel.τ).loc Cert.DhKernel.main_arg0)
      ∧ r.2.mem ((c.tc : Thread Cert.DhKernel.nD Cert.DhKernel.τ).loc Cert.DhKernel.main_arg1) = m ((c.tc : Thread Cert.DhKernel.nD Cert.DhKernel.τ).loc Cert.DhKernel.main_arg1)
      ∧ r.2.mem ((c.tc : Thread Cert.DhKernel.nD Cert.DhKernel.τ).loc Cert.DhKernel.main_arg2) = m ((c.tc : Thread Cert.DhKernel.nD Cert.DhKernel.τ).loc Cert.DhKernel.main_arg2)
      ∧ r.2.mem ((c.tc : Thread Cert.DhKernel.nD Cert.DhKernel.τ).loc Cert.DhKernel.main_arg3) = m ((c.tc : Thread Cert.DhKernel.nD Cert.DhKernel.τ).loc Cert.DhKernel.main_arg3)
      ∧ r.2.mem ((c.tc : Thread Cert.DhKernel.nD Cert.DhKernel.τ).loc Cert.DhKernel.main_arg4) = m ((c.tc : Thread Cert.DhKernel.nD Cert.DhKernel.τ).loc Cert.DhKernel.main_arg4)
      ∧ r.2.mem ((c.tc : Thread Cert.DhKernel.nD Cert.DhKernel.τ).loc Cert.DhKernel.main_arg5) = m ((c.tc : Thread Cert.DhKernel.nD Cert.DhKernel.τ).loc Cert.DhKernel.main_arg5)
      ∧ r.2.mem ((c.tc : Thread Cert.DhKernel.nD Cert.DhKernel.τ).loc Cert.DhKernel.main_arg6) = m ((c.tc : Thread Cert.DhKernel.nD Cert.DhKernel.τ).loc Cert.DhKernel.main_arg6)
      ∧ r.2.mem ((c.tc : Thread Cert.DhKernel.nD Cert.DhKernel.τ).loc Cert.DhKernel.main_arg7) = m ((c.tc : Thread Cert.DhKernel.nD Cert.DhKernel.τ).loc Cert.DhKernel.main_arg7)
      ∧ r.2.mem ((c.tc : Thread Cert.DhKernel.nD Cert.DhKernel.τ).loc Cert.DhKernel.main_arg8) = m ((c.tc : Thread Cert.DhKernel.nD Cert.DhKernel.τ).loc Cert.DhKernel.main_arg8)
      ∧ r.2.mem ((c.tc : Thread Cert.DhKernel.nD Cert.DhKernel.τ).loc Cert.DhKernel.main_arg9) = m ((c.tc : Thread Cert.DhKernel.nD Cert.DhKernel.τ).loc Cert.DhKernel.main_arg9)
      ∧ r.2.mem ((c.tc : Thread Cert.DhKernel.nD Cert.DhKernel.τ).loc Cert.DhKernel.main_arg10) = m ((c.tc : Thread Cert.DhKernel.nD Cert.DhKernel.τ).loc Cert.DhKernel.main_arg10)
      ∧ r.2.mem ((c.tc : Thread Cert.DhKernel.nD Cert.DhKernel.τ).loc Cert.DhKernel.main_arg11) = m ((c.tc : Thread Cert.DhKernel.nD Cert.DhKernel.τ).loc Cert.DhKernel.main_arg11)
      ∧ r.2.mem ((c.tc : Thread Cert.DhKernel.nD Cert.DhKernel.τ).loc Cert.DhKernel.main_arg12) = m ((c.tc : Thread Cert.DhKernel.nD Cert.DhKernel.τ).loc Cert.DhKernel.main_arg12)
      ∧ r.2.mem ((c.tc : Thread Cert.DhKernel.nD Cert.DhKernel.τ).loc Cert.DhKernel.main_arg13) = m ((c.tc : Thread Cert.DhKernel.nD Cert.DhKernel.τ).loc Cert.DhKernel.main_arg13)
      ∧ r.2.mem ((c.tc : Thread Cert.DhKernel.nD Cert.DhKernel.τ).loc Cert.DhKernel.main_arg14) = m ((c.tc : Thread Cert.DhKernel.nD Cert.DhKernel.τ).loc Cert.DhKernel.main_arg14)
      ∧ r.2.mem ((c.tc : Thread Cert.DhKernel.nD Cert.DhKernel.τ).loc Cert.DhKernel.main_arg15) = m ((c.tc : Thread Cert.DhKernel.nD Cert.DhKernel.τ).loc Cert.DhKernel.main_arg15)
      ∧ r.2.mem ((c.tc : Thread Cert.DhKernel.nD Cert.DhKernel.τ).loc Cert.DhKernel.main_arg16) = m ((c.tc : Thread Cert.DhKernel.nD Cert.DhKernel.τ).loc Cert.DhKernel.main_arg16)
      ∧ r.2.mem ((c.tc : Thread Cert.DhKernel.nD Cert.DhKernel.τ).loc Cert.DhKernel.main_arg17) = m ((c.tc : Thread Cert.DhKernel.nD Cert.DhKernel.τ).loc Cert.DhKernel.main_arg17)
      ∧ r.2.mem ((c.tc : Thread Cert.DhKernel.nD Cert.DhKernel.τ).loc Cert.DhKernel.main_arg18) = m ((c.tc : Thread Cert.DhKernel.nD Cert.DhKernel.τ).loc Cert.DhKernel.main_arg18)
      ∧ r.2.mem ((c.tc : Thread Cert.DhKernel.nD Cert.DhKernel.τ).loc Cert.DhKernel.main_arg19) = m ((c.tc : Thread Cert.DhKernel.nD Cert.DhKernel.τ).loc Cert.DhKernel.main_arg19)
      ∧ r.2.mem ((c.tc : Thread Cert.DhKernel.nD Cert.DhKernel.τ).loc Cert.DhKernel.main_arg20) = m ((c.tc : Thread Cert.DhKernel.nD Cert.DhKernel.τ).loc Cert.DhKernel.main_arg20))
      ∧ r.2.sem = fun _ => 0)

def quiescent_DhKernelIdeal [hDhKernelIdeal : Cert.DhKernelIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
      ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
      ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
      ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4)
      ∧ r.2.mem ((c.tc : Thread Cert.DhKernelIdeal.nD Cert.DhKernelIdeal.τ).loc Cert.DhKernelIdeal.main_arg5) = m ((c.tc : Thread Cert.DhKernelIdeal.nD Cert.DhKernelIdeal.τ).loc Cert.DhKernelIdeal.main_arg5)
      ∧ r.2.mem ((c.tc : Thread Cert.DhKernelIdeal.nD Cert.DhKernelIdeal.τ).loc Cert.DhKernelIdeal.main_arg6) = m ((c.tc : Thread Cert.DhKernelIdeal.nD Cert.DhKernelIdeal.τ).loc Cert.DhKernelIdeal.main_arg6)
      ∧ r.2.mem ((c.tc : Thread Cert.DhKernelIdeal.nD Cert.DhKernelIdeal.τ).loc Cert.DhKernelIdeal.main_arg7) = m ((c.tc : Thread Cert.DhKernelIdeal.nD Cert.DhKernelIdeal.τ).loc Cert.DhKernelIdeal.main_arg7)
      ∧ r.2.mem ((c.tc : Thread Cert.DhKernelIdeal.nD Cert.DhKernelIdeal.τ).loc Cert.DhKernelIdeal.main_arg8) = m ((c.tc : Thread Cert.DhKernelIdeal.nD Cert.DhKernelIdeal.τ).loc Cert.DhKernelIdeal.main_arg8)
      ∧ r.2.mem ((c.tc : Thread Cert.DhKernelIdeal.nD Cert.DhKernelIdeal.τ).loc Cert.DhKernelIdeal.main_arg9) = m ((c.tc : Thread Cert.DhKernelIdeal.nD Cert.DhKernelIdeal.τ).loc Cert.DhKernelIdeal.main_arg9)
      ∧ r.2.mem ((c.tc : Thread Cert.DhKernelIdeal.nD Cert.DhKernelIdeal.τ).loc Cert.DhKernelIdeal.main_arg10) = m ((c.tc : Thread Cert.DhKernelIdeal.nD Cert.DhKernelIdeal.τ).loc Cert.DhKernelIdeal.main_arg10)
      ∧ r.2.mem ((c.tc : Thread Cert.DhKernelIdeal.nD Cert.DhKernelIdeal.τ).loc Cert.DhKernelIdeal.main_arg11) = m ((c.tc : Thread Cert.DhKernelIdeal.nD Cert.DhKernelIdeal.τ).loc Cert.DhKernelIdeal.main_arg11)
      ∧ r.2.mem ((c.tc : Thread Cert.DhKernelIdeal.nD Cert.DhKernelIdeal.τ).loc Cert.DhKernelIdeal.main_arg12) = m ((c.tc : Thread Cert.DhKernelIdeal.nD Cert.DhKernelIdeal.τ).loc Cert.DhKernelIdeal.main_arg12)
      ∧ r.2.mem ((c.tc : Thread Cert.DhKernelIdeal.nD Cert.DhKernelIdeal.τ).loc Cert.DhKernelIdeal.main_arg13) = m ((c.tc : Thread Cert.DhKernelIdeal.nD Cert.DhKernelIdeal.τ).loc Cert.DhKernelIdeal.main_arg13)
      ∧ r.2.mem ((c.tc : Thread Cert.DhKernelIdeal.nD Cert.DhKernelIdeal.τ).loc Cert.DhKernelIdeal.main_arg14) = m ((c.tc : Thread Cert.DhKernelIdeal.nD Cert.DhKernelIdeal.τ).loc Cert.DhKernelIdeal.main_arg14)
      ∧ r.2.mem ((c.tc : Thread Cert.DhKernelIdeal.nD Cert.DhKernelIdeal.τ).loc Cert.DhKernelIdeal.main_arg15) = m ((c.tc : Thread Cert.DhKernelIdeal.nD Cert.DhKernelIdeal.τ).loc Cert.DhKernelIdeal.main_arg15)
      ∧ r.2.mem ((c.tc : Thread Cert.DhKernelIdeal.nD Cert.DhKernelIdeal.τ).loc Cert.DhKernelIdeal.main_arg16) = m ((c.tc : Thread Cert.DhKernelIdeal.nD Cert.DhKernelIdeal.τ).loc Cert.DhKernelIdeal.main_arg16)
      ∧ r.2.mem ((c.tc : Thread Cert.DhKernelIdeal.nD Cert.DhKernelIdeal.τ).loc Cert.DhKernelIdeal.main_arg17) = m ((c.tc : Thread Cert.DhKernelIdeal.nD Cert.DhKernelIdeal.τ).loc Cert.DhKernelIdeal.main_arg17)
      ∧ r.2.mem ((c.tc : Thread Cert.DhKernelIdeal.nD Cert.DhKernelIdeal.τ).loc Cert.DhKernelIdeal.main_arg18) = m ((c.tc : Thread Cert.DhKernelIdeal.nD Cert.DhKernelIdeal.τ).loc Cert.DhKernelIdeal.main_arg18)
      ∧ r.2.mem ((c.tc : Thread Cert.DhKernelIdeal.nD Cert.DhKernelIdeal.τ).loc Cert.DhKernelIdeal.main_arg19) = m ((c.tc : Thread Cert.DhKernelIdeal.nD Cert.DhKernelIdeal.τ).loc Cert.DhKernelIdeal.main_arg19)
      ∧ r.2.mem ((c.tc : Thread Cert.DhKernelIdeal.nD Cert.DhKernelIdeal.τ).loc Cert.DhKernelIdeal.main_arg20) = m ((c.tc : Thread Cert.DhKernelIdeal.nD Cert.DhKernelIdeal.τ).loc Cert.DhKernelIdeal.main_arg20))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4)
      ∧ r.2.mem ((c.tc : Thread Cert.DhReferenceIdeal.nD Cert.DhReferenceIdeal.τ).loc Cert.DhReferenceIdeal.main_arg5) = m ((c.tc : Thread Cert.DhReferenceIdeal.nD Cert.DhReferenceIdeal.τ).loc Cert.DhReferenceIdeal.main_arg5)
      ∧ r.2.mem ((c.tc : Thread Cert.DhReferenceIdeal.nD Cert.DhReferenceIdeal.τ).loc Cert.DhReferenceIdeal.main_arg6) = m ((c.tc : Thread Cert.DhReferenceIdeal.nD Cert.DhReferenceIdeal.τ).loc Cert.DhReferenceIdeal.main_arg6)
      ∧ r.2.mem ((c.tc : Thread Cert.DhReferenceIdeal.nD Cert.DhReferenceIdeal.τ).loc Cert.DhReferenceIdeal.main_arg7) = m ((c.tc : Thread Cert.DhReferenceIdeal.nD Cert.DhReferenceIdeal.τ).loc Cert.DhReferenceIdeal.main_arg7)
      ∧ r.2.mem ((c.tc : Thread Cert.DhReferenceIdeal.nD Cert.DhReferenceIdeal.τ).loc Cert.DhReferenceIdeal.main_arg8) = m ((c.tc : Thread Cert.DhReferenceIdeal.nD Cert.DhReferenceIdeal.τ).loc Cert.DhReferenceIdeal.main_arg8)
      ∧ r.2.mem ((c.tc : Thread Cert.DhReferenceIdeal.nD Cert.DhReferenceIdeal.τ).loc Cert.DhReferenceIdeal.main_arg9) = m ((c.tc : Thread Cert.DhReferenceIdeal.nD Cert.DhReferenceIdeal.τ).loc Cert.DhReferenceIdeal.main_arg9)
      ∧ r.2.mem ((c.tc : Thread Cert.DhReferenceIdeal.nD Cert.DhReferenceIdeal.τ).loc Cert.DhReferenceIdeal.main_arg10) = m ((c.tc : Thread Cert.DhReferenceIdeal.nD Cert.DhReferenceIdeal.τ).loc Cert.DhReferenceIdeal.main_arg10)
      ∧ r.2.mem ((c.tc : Thread Cert.DhReferenceIdeal.nD Cert.DhReferenceIdeal.τ).loc Cert.DhReferenceIdeal.main_arg11) = m ((c.tc : Thread Cert.DhReferenceIdeal.nD Cert.DhReferenceIdeal.τ).loc Cert.DhReferenceIdeal.main_arg11)
      ∧ r.2.mem ((c.tc : Thread Cert.DhReferenceIdeal.nD Cert.DhReferenceIdeal.τ).loc Cert.DhReferenceIdeal.main_arg12) = m ((c.tc : Thread Cert.DhReferenceIdeal.nD Cert.DhReferenceIdeal.τ).loc Cert.DhReferenceIdeal.main_arg12)
      ∧ r.2.mem ((c.tc : Thread Cert.DhReferenceIdeal.nD Cert.DhReferenceIdeal.τ).loc Cert.DhReferenceIdeal.main_arg13) = m ((c.tc : Thread Cert.DhReferenceIdeal.nD Cert.DhReferenceIdeal.τ).loc Cert.DhReferenceIdeal.main_arg13)
      ∧ r.2.mem ((c.tc : Thread Cert.DhReferenceIdeal.nD Cert.DhReferenceIdeal.τ).loc Cert.DhReferenceIdeal.main_arg14) = m ((c.tc : Thread Cert.DhReferenceIdeal.nD Cert.DhReferenceIdeal.τ).loc Cert.DhReferenceIdeal.main_arg14)
      ∧ r.2.mem ((c.tc : Thread Cert.DhReferenceIdeal.nD Cert.DhReferenceIdeal.τ).loc Cert.DhReferenceIdeal.main_arg15) = m ((c.tc : Thread Cert.DhReferenceIdeal.nD Cert.DhReferenceIdeal.τ).loc Cert.DhReferenceIdeal.main_arg15)
      ∧ r.2.mem ((c.tc : Thread Cert.DhReferenceIdeal.nD Cert.DhReferenceIdeal.τ).loc Cert.DhReferenceIdeal.main_arg16) = m ((c.tc : Thread Cert.DhReferenceIdeal.nD Cert.DhReferenceIdeal.τ).loc Cert.DhReferenceIdeal.main_arg16)
      ∧ r.2.mem ((c.tc : Thread Cert.DhReferenceIdeal.nD Cert.DhReferenceIdeal.τ).loc Cert.DhReferenceIdeal.main_arg17) = m ((c.tc : Thread Cert.DhReferenceIdeal.nD Cert.DhReferenceIdeal.τ).loc Cert.DhReferenceIdeal.main_arg17)
      ∧ r.2.mem ((c.tc : Thread Cert.DhReferenceIdeal.nD Cert.DhReferenceIdeal.τ).loc Cert.DhReferenceIdeal.main_arg18) = m ((c.tc : Thread Cert.DhReferenceIdeal.nD Cert.DhReferenceIdeal.τ).loc Cert.DhReferenceIdeal.main_arg18)
      ∧ r.2.mem ((c.tc : Thread Cert.DhReferenceIdeal.nD Cert.DhReferenceIdeal.τ).loc Cert.DhReferenceIdeal.main_arg19) = m ((c.tc : Thread Cert.DhReferenceIdeal.nD Cert.DhReferenceIdeal.τ).loc Cert.DhReferenceIdeal.main_arg19)
      ∧ r.2.mem ((c.tc : Thread Cert.DhReferenceIdeal.nD Cert.DhReferenceIdeal.τ).loc Cert.DhReferenceIdeal.main_arg20) = m ((c.tc : Thread Cert.DhReferenceIdeal.nD Cert.DhReferenceIdeal.τ).loc Cert.DhReferenceIdeal.main_arg20))
      ∧ r.2.sem = fun _ => 0)

def quiescent_DwDilKernel [hDwDilKernel : Cert.DwDilKernel.Facts] : Prop :=
  ∀ (m : (ℓ : Loc Cert.DwDilKernel.nD Cert.DwDilKernel.τ Cert.DwDilKernel.sig) → Buf (Elt Bits) ℓ) (g : Dev Cert.DwDilKernel.nD → PrngReg), Pre_DwDilKernel m →
    θ_run (Cert.DwDilKernel.defs (F := Bits)) (onTc (τ := Cert.DwDilKernel.τ) (Cert.DwDilKernel.main (F := Bits))) ⟨m, fun _ => 0, g⟩ (fun r => (∀ c : Dev Cert.DwDilKernel.nD,
      r.2.mem ((c.tc : Thread Cert.DwDilKernel.nD Cert.DwDilKernel.τ).loc Cert.DwDilKernel.main_arg0) = m ((c.tc : Thread Cert.DwDilKernel.nD Cert.DwDilKernel.τ).loc Cert.DwDilKernel.main_arg0)
      ∧ r.2.mem ((c.tc : Thread Cert.DwDilKernel.nD Cert.DwDilKernel.τ).loc Cert.DwDilKernel.main_arg1) = m ((c.tc : Thread Cert.DwDilKernel.nD Cert.DwDilKernel.τ).loc Cert.DwDilKernel.main_arg1)
      ∧ r.2.mem ((c.tc : Thread Cert.DwDilKernel.nD Cert.DwDilKernel.τ).loc Cert.DwDilKernel.main_arg2) = m ((c.tc : Thread Cert.DwDilKernel.nD Cert.DwDilKernel.τ).loc Cert.DwDilKernel.main_arg2))
      ∧ r.2.sem = fun _ => 0)

def quiescent_DwDilKernelIdeal [hDwDilKernelIdeal : Cert.DwDilKernelIdeal.Facts] : Prop :=
  ∀ (m : (ℓ : Loc Cert.DwDilKernelIdeal.nD Cert.DwDilKernelIdeal.τ Cert.DwDilKernelIdeal.sig) → Buf (Elt Ideal) ℓ) (g : Dev Cert.DwDilKernelIdeal.nD → PrngReg), Pre_DwDilKernelIdeal m →
    θ_run (Cert.DwDilKernelIdeal.defs (F := Ideal)) (onTc (τ := Cert.DwDilKernelIdeal.τ) (Cert.DwDilKernelIdeal.main (F := Ideal))) ⟨m, fun _ => 0, g⟩ (fun r => (∀ c : Dev Cert.DwDilKernelIdeal.nD,
      r.2.mem ((c.tc : Thread Cert.DwDilKernelIdeal.nD Cert.DwDilKernelIdeal.τ).loc Cert.DwDilKernelIdeal.main_arg0) = m ((c.tc : Thread Cert.DwDilKernelIdeal.nD Cert.DwDilKernelIdeal.τ).loc Cert.DwDilKernelIdeal.main_arg0)
      ∧ r.2.mem ((c.tc : Thread Cert.DwDilKernelIdeal.nD Cert.DwDilKernelIdeal.τ).loc Cert.DwDilKernelIdeal.main_arg1) = m ((c.tc : Thread Cert.DwDilKernelIdeal.nD Cert.DwDilKernelIdeal.τ).loc Cert.DwDilKernelIdeal.main_arg1)
      ∧ r.2.mem ((c.tc : Thread Cert.DwDilKernelIdeal.nD Cert.DwDilKernelIdeal.τ).loc Cert.DwDilKernelIdeal.main_arg2) = m ((c.tc : Thread Cert.DwDilKernelIdeal.nD Cert.DwDilKernelIdeal.τ).loc Cert.DwDilKernelIdeal.main_arg2))
      ∧ r.2.sem = fun _ => 0)

def quiescent_DwDilReferenceIdeal [hDwDilReferenceIdeal : Cert.DwDilReferenceIdeal.Facts] : Prop :=
  ∀ (m : (ℓ : Loc Cert.DwDilReferenceIdeal.nD Cert.DwDilReferenceIdeal.τ Cert.DwDilReferenceIdeal.sig) → Buf (Elt Ideal) ℓ) (g : Dev Cert.DwDilReferenceIdeal.nD → PrngReg), Pre_DwDilReferenceIdeal m →
    θ_run (Cert.DwDilReferenceIdeal.defs (F := Ideal)) (onTc (τ := Cert.DwDilReferenceIdeal.τ) (Cert.DwDilReferenceIdeal.main (F := Ideal))) ⟨m, fun _ => 0, g⟩ (fun r => (∀ c : Dev Cert.DwDilReferenceIdeal.nD,
      r.2.mem ((c.tc : Thread Cert.DwDilReferenceIdeal.nD Cert.DwDilReferenceIdeal.τ).loc Cert.DwDilReferenceIdeal.main_arg0) = m ((c.tc : Thread Cert.DwDilReferenceIdeal.nD Cert.DwDilReferenceIdeal.τ).loc Cert.DwDilReferenceIdeal.main_arg0)
      ∧ r.2.mem ((c.tc : Thread Cert.DwDilReferenceIdeal.nD Cert.DwDilReferenceIdeal.τ).loc Cert.DwDilReferenceIdeal.main_arg1) = m ((c.tc : Thread Cert.DwDilReferenceIdeal.nD Cert.DwDilReferenceIdeal.τ).loc Cert.DwDilReferenceIdeal.main_arg1)
      ∧ r.2.mem ((c.tc : Thread Cert.DwDilReferenceIdeal.nD Cert.DwDilReferenceIdeal.τ).loc Cert.DwDilReferenceIdeal.main_arg2) = m ((c.tc : Thread Cert.DwDilReferenceIdeal.nD Cert.DwDilReferenceIdeal.τ).loc Cert.DwDilReferenceIdeal.main_arg2))
      ∧ r.2.sem = fun _ => 0)

def quiescent_DwGateKernel [hDwGateKernel : Cert.DwGateKernel.Facts] : Prop :=
  ∀ (m : (ℓ : Loc Cert.DwGateKernel.nD Cert.DwGateKernel.τ Cert.DwGateKernel.sig) → Buf (Elt Bits) ℓ) (g : Dev Cert.DwGateKernel.nD → PrngReg), Pre_DwGateKernel m →
    θ_run (Cert.DwGateKernel.defs (F := Bits)) (onTc (τ := Cert.DwGateKernel.τ) (Cert.DwGateKernel.main (F := Bits))) ⟨m, fun _ => 0, g⟩ (fun r => (∀ c : Dev Cert.DwGateKernel.nD,
      r.2.mem ((c.tc : Thread Cert.DwGateKernel.nD Cert.DwGateKernel.τ).loc Cert.DwGateKernel.main_arg0) = m ((c.tc : Thread Cert.DwGateKernel.nD Cert.DwGateKernel.τ).loc Cert.DwGateKernel.main_arg0)
      ∧ r.2.mem ((c.tc : Thread Cert.DwGateKernel.nD Cert.DwGateKernel.τ).loc Cert.DwGateKernel.main_arg1) = m ((c.tc : Thread Cert.DwGateKernel.nD Cert.DwGateKernel.τ).loc Cert.DwGateKernel.main_arg1)
      ∧ r.2.mem ((c.tc : Thread Cert.DwGateKernel.nD Cert.DwGateKernel.τ).loc Cert.DwGateKernel.main_arg2) = m ((c.tc : Thread Cert.DwGateKernel.nD Cert.DwGateKernel.τ).loc Cert.DwGateKernel.main_arg2))
      ∧ r.2.sem = fun _ => 0)

def quiescent_DwGateKernelIdeal [hDwGateKernelIdeal : Cert.DwGateKernelIdeal.Facts] : Prop :=
  ∀ (m : (ℓ : Loc Cert.DwGateKernelIdeal.nD Cert.DwGateKernelIdeal.τ Cert.DwGateKernelIdeal.sig) → Buf (Elt Ideal) ℓ) (g : Dev Cert.DwGateKernelIdeal.nD → PrngReg), Pre_DwGateKernelIdeal m →
    θ_run (Cert.DwGateKernelIdeal.defs (F := Ideal)) (onTc (τ := Cert.DwGateKernelIdeal.τ) (Cert.DwGateKernelIdeal.main (F := Ideal))) ⟨m, fun _ => 0, g⟩ (fun r => (∀ c : Dev Cert.DwGateKernelIdeal.nD,
      r.2.mem ((c.tc : Thread Cert.DwGateKernelIdeal.nD Cert.DwGateKernelIdeal.τ).loc Cert.DwGateKernelIdeal.main_arg0) = m ((c.tc : Thread Cert.DwGateKernelIdeal.nD Cert.DwGateKernelIdeal.τ).loc Cert.DwGateKernelIdeal.main_arg0)
      ∧ r.2.mem ((c.tc : Thread Cert.DwGateKernelIdeal.nD Cert.DwGateKernelIdeal.τ).loc Cert.DwGateKernelIdeal.main_arg1) = m ((c.tc : Thread Cert.DwGateKernelIdeal.nD Cert.DwGateKernelIdeal.τ).loc Cert.DwGateKernelIdeal.main_arg1)
      ∧ r.2.mem ((c.tc : Thread Cert.DwGateKernelIdeal.nD Cert.DwGateKernelIdeal.τ).loc Cert.DwGateKernelIdeal.main_arg2) = m ((c.tc : Thread Cert.DwGateKernelIdeal.nD Cert.DwGateKernelIdeal.τ).loc Cert.DwGateKernelIdeal.main_arg2))
      ∧ r.2.sem = fun _ => 0)

def quiescent_DwGateReferenceIdeal [hDwGateReferenceIdeal : Cert.DwGateReferenceIdeal.Facts] : Prop :=
  ∀ (m : (ℓ : Loc Cert.DwGateReferenceIdeal.nD Cert.DwGateReferenceIdeal.τ Cert.DwGateReferenceIdeal.sig) → Buf (Elt Ideal) ℓ) (g : Dev Cert.DwGateReferenceIdeal.nD → PrngReg), Pre_DwGateReferenceIdeal m →
    θ_run (Cert.DwGateReferenceIdeal.defs (F := Ideal)) (onTc (τ := Cert.DwGateReferenceIdeal.τ) (Cert.DwGateReferenceIdeal.main (F := Ideal))) ⟨m, fun _ => 0, g⟩ (fun r => (∀ c : Dev Cert.DwGateReferenceIdeal.nD,
      r.2.mem ((c.tc : Thread Cert.DwGateReferenceIdeal.nD Cert.DwGateReferenceIdeal.τ).loc Cert.DwGateReferenceIdeal.main_arg0) = m ((c.tc : Thread Cert.DwGateReferenceIdeal.nD Cert.DwGateReferenceIdeal.τ).loc Cert.DwGateReferenceIdeal.main_arg0)
      ∧ r.2.mem ((c.tc : Thread Cert.DwGateReferenceIdeal.nD Cert.DwGateReferenceIdeal.τ).loc Cert.DwGateReferenceIdeal.main_arg1) = m ((c.tc : Thread Cert.DwGateReferenceIdeal.nD Cert.DwGateReferenceIdeal.τ).loc Cert.DwGateReferenceIdeal.main_arg1)
      ∧ r.2.mem ((c.tc : Thread Cert.DwGateReferenceIdeal.nD Cert.DwGateReferenceIdeal.τ).loc Cert.DwGateReferenceIdeal.main_arg2) = m ((c.tc : Thread Cert.DwGateReferenceIdeal.nD Cert.DwGateReferenceIdeal.τ).loc Cert.DwGateReferenceIdeal.main_arg2))
      ∧ r.2.sem = fun _ => 0)

def quiescent_DwDnKernel [hDwDnKernel : Cert.DwDnKernel.Facts] : Prop :=
  ∀ (m : (ℓ : Loc Cert.DwDnKernel.nD Cert.DwDnKernel.τ Cert.DwDnKernel.sig) → Buf (Elt Bits) ℓ) (g : Dev Cert.DwDnKernel.nD → PrngReg), Pre_DwDnKernel m →
    θ_run (Cert.DwDnKernel.defs (F := Bits)) (onTc (τ := Cert.DwDnKernel.τ) (Cert.DwDnKernel.main (F := Bits))) ⟨m, fun _ => 0, g⟩ (fun r => (∀ c : Dev Cert.DwDnKernel.nD,
      r.2.mem ((c.tc : Thread Cert.DwDnKernel.nD Cert.DwDnKernel.τ).loc Cert.DwDnKernel.main_arg0) = m ((c.tc : Thread Cert.DwDnKernel.nD Cert.DwDnKernel.τ).loc Cert.DwDnKernel.main_arg0)
      ∧ r.2.mem ((c.tc : Thread Cert.DwDnKernel.nD Cert.DwDnKernel.τ).loc Cert.DwDnKernel.main_arg1) = m ((c.tc : Thread Cert.DwDnKernel.nD Cert.DwDnKernel.τ).loc Cert.DwDnKernel.main_arg1)
      ∧ r.2.mem ((c.tc : Thread Cert.DwDnKernel.nD Cert.DwDnKernel.τ).loc Cert.DwDnKernel.main_arg2) = m ((c.tc : Thread Cert.DwDnKernel.nD Cert.DwDnKernel.τ).loc Cert.DwDnKernel.main_arg2))
      ∧ r.2.sem = fun _ => 0)

def quiescent_DwDnKernelIdeal [hDwDnKernelIdeal : Cert.DwDnKernelIdeal.Facts] : Prop :=
  ∀ (m : (ℓ : Loc Cert.DwDnKernelIdeal.nD Cert.DwDnKernelIdeal.τ Cert.DwDnKernelIdeal.sig) → Buf (Elt Ideal) ℓ) (g : Dev Cert.DwDnKernelIdeal.nD → PrngReg), Pre_DwDnKernelIdeal m →
    θ_run (Cert.DwDnKernelIdeal.defs (F := Ideal)) (onTc (τ := Cert.DwDnKernelIdeal.τ) (Cert.DwDnKernelIdeal.main (F := Ideal))) ⟨m, fun _ => 0, g⟩ (fun r => (∀ c : Dev Cert.DwDnKernelIdeal.nD,
      r.2.mem ((c.tc : Thread Cert.DwDnKernelIdeal.nD Cert.DwDnKernelIdeal.τ).loc Cert.DwDnKernelIdeal.main_arg0) = m ((c.tc : Thread Cert.DwDnKernelIdeal.nD Cert.DwDnKernelIdeal.τ).loc Cert.DwDnKernelIdeal.main_arg0)
      ∧ r.2.mem ((c.tc : Thread Cert.DwDnKernelIdeal.nD Cert.DwDnKernelIdeal.τ).loc Cert.DwDnKernelIdeal.main_arg1) = m ((c.tc : Thread Cert.DwDnKernelIdeal.nD Cert.DwDnKernelIdeal.τ).loc Cert.DwDnKernelIdeal.main_arg1)
      ∧ r.2.mem ((c.tc : Thread Cert.DwDnKernelIdeal.nD Cert.DwDnKernelIdeal.τ).loc Cert.DwDnKernelIdeal.main_arg2) = m ((c.tc : Thread Cert.DwDnKernelIdeal.nD Cert.DwDnKernelIdeal.τ).loc Cert.DwDnKernelIdeal.main_arg2))
      ∧ r.2.sem = fun _ => 0)

def quiescent_DwDnReferenceIdeal [hDwDnReferenceIdeal : Cert.DwDnReferenceIdeal.Facts] : Prop :=
  ∀ (m : (ℓ : Loc Cert.DwDnReferenceIdeal.nD Cert.DwDnReferenceIdeal.τ Cert.DwDnReferenceIdeal.sig) → Buf (Elt Ideal) ℓ) (g : Dev Cert.DwDnReferenceIdeal.nD → PrngReg), Pre_DwDnReferenceIdeal m →
    θ_run (Cert.DwDnReferenceIdeal.defs (F := Ideal)) (onTc (τ := Cert.DwDnReferenceIdeal.τ) (Cert.DwDnReferenceIdeal.main (F := Ideal))) ⟨m, fun _ => 0, g⟩ (fun r => (∀ c : Dev Cert.DwDnReferenceIdeal.nD,
      r.2.mem ((c.tc : Thread Cert.DwDnReferenceIdeal.nD Cert.DwDnReferenceIdeal.τ).loc Cert.DwDnReferenceIdeal.main_arg0) = m ((c.tc : Thread Cert.DwDnReferenceIdeal.nD Cert.DwDnReferenceIdeal.τ).loc Cert.DwDnReferenceIdeal.main_arg0)
      ∧ r.2.mem ((c.tc : Thread Cert.DwDnReferenceIdeal.nD Cert.DwDnReferenceIdeal.τ).loc Cert.DwDnReferenceIdeal.main_arg1) = m ((c.tc : Thread Cert.DwDnReferenceIdeal.nD Cert.DwDnReferenceIdeal.τ).loc Cert.DwDnReferenceIdeal.main_arg1)
      ∧ r.2.mem ((c.tc : Thread Cert.DwDnReferenceIdeal.nD Cert.DwDnReferenceIdeal.τ).loc Cert.DwDnReferenceIdeal.main_arg2) = m ((c.tc : Thread Cert.DwDnReferenceIdeal.nD Cert.DwDnReferenceIdeal.τ).loc Cert.DwDnReferenceIdeal.main_arg2))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4)
      ∧ r.2.mem ((c.tc : Thread Cert.FwdKernel.nD Cert.FwdKernel.τ).loc Cert.FwdKernel.main_arg5) = m ((c.tc : Thread Cert.FwdKernel.nD Cert.FwdKernel.τ).loc Cert.FwdKernel.main_arg5)
      ∧ r.2.mem ((c.tc : Thread Cert.FwdKernel.nD Cert.FwdKernel.τ).loc Cert.FwdKernel.main_arg6) = m ((c.tc : Thread Cert.FwdKernel.nD Cert.FwdKernel.τ).loc Cert.FwdKernel.main_arg6)
      ∧ r.2.mem ((c.tc : Thread Cert.FwdKernel.nD Cert.FwdKernel.τ).loc Cert.FwdKernel.main_arg7) = m ((c.tc : Thread Cert.FwdKernel.nD Cert.FwdKernel.τ).loc Cert.FwdKernel.main_arg7)
      ∧ r.2.mem ((c.tc : Thread Cert.FwdKernel.nD Cert.FwdKernel.τ).loc Cert.FwdKernel.main_arg8) = m ((c.tc : Thread Cert.FwdKernel.nD Cert.FwdKernel.τ).loc Cert.FwdKernel.main_arg8)
      ∧ r.2.mem ((c.tc : Thread Cert.FwdKernel.nD Cert.FwdKernel.τ).loc Cert.FwdKernel.main_arg9) = m ((c.tc : Thread Cert.FwdKernel.nD Cert.FwdKernel.τ).loc Cert.FwdKernel.main_arg9)
      ∧ r.2.mem ((c.tc : Thread Cert.FwdKernel.nD Cert.FwdKernel.τ).loc Cert.FwdKernel.main_arg10) = m ((c.tc : Thread Cert.FwdKernel.nD Cert.FwdKernel.τ).loc Cert.FwdKernel.main_arg10))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
      ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
      ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6)
      ∧ r.2.mem ((c.tc : Thread Cert.FwdKernelIdeal.nD Cert.FwdKernelIdeal.τ).loc Cert.FwdKernelIdeal.main_arg7) = m ((c.tc : Thread Cert.FwdKernelIdeal.nD Cert.FwdKernelIdeal.τ).loc Cert.FwdKernelIdeal.main_arg7)
      ∧ r.2.mem ((c.tc : Thread Cert.FwdKernelIdeal.nD Cert.FwdKernelIdeal.τ).loc Cert.FwdKernelIdeal.main_arg8) = m ((c.tc : Thread Cert.FwdKernelIdeal.nD Cert.FwdKernelIdeal.τ).loc Cert.FwdKernelIdeal.main_arg8)
      ∧ r.2.mem ((c.tc : Thread Cert.FwdKernelIdeal.nD Cert.FwdKernelIdeal.τ).loc Cert.FwdKernelIdeal.main_arg9) = m ((c.tc : Thread Cert.FwdKernelIdeal.nD Cert.FwdKernelIdeal.τ).loc Cert.FwdKernelIdeal.main_arg9)
      ∧ r.2.mem ((c.tc : Thread Cert.FwdKernelIdeal.nD Cert.FwdKernelIdeal.τ).loc Cert.FwdKernelIdeal.main_arg10) = m ((c.tc : Thread Cert.FwdKernelIdeal.nD Cert.FwdKernelIdeal.τ).loc Cert.FwdKernelIdeal.main_arg10))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5)
      ∧ r.2.mem ((c.tc : Thread Cert.FwdReferenceIdeal.nD Cert.FwdReferenceIdeal.τ).loc Cert.FwdReferenceIdeal.main_arg6) = m ((c.tc : Thread Cert.FwdReferenceIdeal.nD Cert.FwdReferenceIdeal.τ).loc Cert.FwdReferenceIdeal.main_arg6)
      ∧ r.2.mem ((c.tc : Thread Cert.FwdReferenceIdeal.nD Cert.FwdReferenceIdeal.τ).loc Cert.FwdReferenceIdeal.main_arg7) = m ((c.tc : Thread Cert.FwdReferenceIdeal.nD Cert.FwdReferenceIdeal.τ).loc Cert.FwdReferenceIdeal.main_arg7)
      ∧ r.2.mem ((c.tc : Thread Cert.FwdReferenceIdeal.nD Cert.FwdReferenceIdeal.τ).loc Cert.FwdReferenceIdeal.main_arg8) = m ((c.tc : Thread Cert.FwdReferenceIdeal.nD Cert.FwdReferenceIdeal.τ).loc Cert.FwdReferenceIdeal.main_arg8)
      ∧ r.2.mem ((c.tc : Thread Cert.FwdReferenceIdeal.nD Cert.FwdReferenceIdeal.τ).loc Cert.FwdReferenceIdeal.main_arg9) = m ((c.tc : Thread Cert.FwdReferenceIdeal.nD Cert.FwdReferenceIdeal.τ).loc Cert.FwdReferenceIdeal.main_arg9)
      ∧ r.2.mem ((c.tc : Thread Cert.FwdReferenceIdeal.nD Cert.FwdReferenceIdeal.τ).loc Cert.FwdReferenceIdeal.main_arg10) = m ((c.tc : Thread Cert.FwdReferenceIdeal.nD Cert.FwdReferenceIdeal.τ).loc Cert.FwdReferenceIdeal.main_arg10))
      ∧ r.2.sem = fun _ => 0)

def quiescent_BrFwdKernel [hBrFwdKernel : Cert.BrFwdKernel.Facts] : Prop :=
  ∀ (m : (ℓ : Loc Cert.BrFwdKernel.nD Cert.BrFwdKernel.τ Cert.BrFwdKernel.sig) → Buf (Elt Bits) ℓ) (g : Dev Cert.BrFwdKernel.nD → PrngReg), Pre_BrFwdKernel m →
    θ_run (Cert.BrFwdKernel.defs (F := Bits)) (onTc (τ := Cert.BrFwdKernel.τ) (Cert.BrFwdKernel.main (F := Bits))) ⟨m, fun _ => 0, g⟩ (fun r => (∀ c : Dev Cert.BrFwdKernel.nD,
      r.2.mem ((c.tc : Thread Cert.BrFwdKernel.nD Cert.BrFwdKernel.τ).loc Cert.BrFwdKernel.main_arg0) = m ((c.tc : Thread Cert.BrFwdKernel.nD Cert.BrFwdKernel.τ).loc Cert.BrFwdKernel.main_arg0)
      ∧ r.2.mem ((c.tc : Thread Cert.BrFwdKernel.nD Cert.BrFwdKernel.τ).loc Cert.BrFwdKernel.main_arg1) = m ((c.tc : Thread Cert.BrFwdKernel.nD Cert.BrFwdKernel.τ).loc Cert.BrFwdKernel.main_arg1))
      ∧ r.2.sem = fun _ => 0)

def quiescent_BrFwdKernelIdeal [hBrFwdKernelIdeal : Cert.BrFwdKernelIdeal.Facts] : Prop :=
  ∀ (m : (ℓ : Loc Cert.BrFwdKernelIdeal.nD Cert.BrFwdKernelIdeal.τ Cert.BrFwdKernelIdeal.sig) → Buf (Elt Ideal) ℓ) (g : Dev Cert.BrFwdKernelIdeal.nD → PrngReg), Pre_BrFwdKernelIdeal m →
    θ_run (Cert.BrFwdKernelIdeal.defs (F := Ideal)) (onTc (τ := Cert.BrFwdKernelIdeal.τ) (Cert.BrFwdKernelIdeal.main (F := Ideal))) ⟨m, fun _ => 0, g⟩ (fun r => (∀ c : Dev Cert.BrFwdKernelIdeal.nD,
      r.2.mem ((c.tc : Thread Cert.BrFwdKernelIdeal.nD Cert.BrFwdKernelIdeal.τ).loc Cert.BrFwdKernelIdeal.main_arg0) = m ((c.tc : Thread Cert.BrFwdKernelIdeal.nD Cert.BrFwdKernelIdeal.τ).loc Cert.BrFwdKernelIdeal.main_arg0)
      ∧ r.2.mem ((c.tc : Thread Cert.BrFwdKernelIdeal.nD Cert.BrFwdKernelIdeal.τ).loc Cert.BrFwdKernelIdeal.main_arg1) = m ((c.tc : Thread Cert.BrFwdKernelIdeal.nD Cert.BrFwdKernelIdeal.τ).loc Cert.BrFwdKernelIdeal.main_arg1))
      ∧ r.2.sem = fun _ => 0)

def quiescent_BrFwdReferenceIdeal [hBrFwdReferenceIdeal : Cert.BrFwdReferenceIdeal.Facts] : Prop :=
  ∀ (m : (ℓ : Loc Cert.BrFwdReferenceIdeal.nD Cert.BrFwdReferenceIdeal.τ Cert.BrFwdReferenceIdeal.sig) → Buf (Elt Ideal) ℓ) (g : Dev Cert.BrFwdReferenceIdeal.nD → PrngReg), Pre_BrFwdReferenceIdeal m →
    θ_run (Cert.BrFwdReferenceIdeal.defs (F := Ideal)) (onTc (τ := Cert.BrFwdReferenceIdeal.τ) (Cert.BrFwdReferenceIdeal.main (F := Ideal))) ⟨m, fun _ => 0, g⟩ (fun r => (∀ c : Dev Cert.BrFwdReferenceIdeal.nD,
      r.2.mem ((c.tc : Thread Cert.BrFwdReferenceIdeal.nD Cert.BrFwdReferenceIdeal.τ).loc Cert.BrFwdReferenceIdeal.main_arg0) = m ((c.tc : Thread Cert.BrFwdReferenceIdeal.nD Cert.BrFwdReferenceIdeal.τ).loc Cert.BrFwdReferenceIdeal.main_arg0)
      ∧ r.2.mem ((c.tc : Thread Cert.BrFwdReferenceIdeal.nD Cert.BrFwdReferenceIdeal.τ).loc Cert.BrFwdReferenceIdeal.main_arg1) = m ((c.tc : Thread Cert.BrFwdReferenceIdeal.nD Cert.BrFwdReferenceIdeal.τ).loc Cert.BrFwdReferenceIdeal.main_arg1))
      ∧ r.2.sem = fun _ => 0)

def quiescent_BrDhKernel [hBrDhKernel : Cert.BrDhKernel.Facts] : Prop :=
  ∀ (m : (ℓ : Loc Cert.BrDhKernel.nD Cert.BrDhKernel.τ Cert.BrDhKernel.sig) → Buf (Elt Bits) ℓ) (g : Dev Cert.BrDhKernel.nD → PrngReg), Pre_BrDhKernel m →
    θ_run (Cert.BrDhKernel.defs (F := Bits)) (onTc (τ := Cert.BrDhKernel.τ) (Cert.BrDhKernel.main (F := Bits))) ⟨m, fun _ => 0, g⟩ (fun r => (∀ c : Dev Cert.BrDhKernel.nD,
      r.2.mem ((c.tc : Thread Cert.BrDhKernel.nD Cert.BrDhKernel.τ).loc Cert.BrDhKernel.main_arg0) = m ((c.tc : Thread Cert.BrDhKernel.nD Cert.BrDhKernel.τ).loc Cert.BrDhKernel.main_arg0)
      ∧ r.2.mem ((c.tc : Thread Cert.BrDhKernel.nD Cert.BrDhKernel.τ).loc Cert.BrDhKernel.main_arg1) = m ((c.tc : Thread Cert.BrDhKernel.nD Cert.BrDhKernel.τ).loc Cert.BrDhKernel.main_arg1)
      ∧ r.2.mem ((c.tc : Thread Cert.BrDhKernel.nD Cert.BrDhKernel.τ).loc Cert.BrDhKernel.main_arg2) = m ((c.tc : Thread Cert.BrDhKernel.nD Cert.BrDhKernel.τ).loc Cert.BrDhKernel.main_arg2))
      ∧ r.2.sem = fun _ => 0)

def quiescent_BrDhKernelIdeal [hBrDhKernelIdeal : Cert.BrDhKernelIdeal.Facts] : Prop :=
  ∀ (m : (ℓ : Loc Cert.BrDhKernelIdeal.nD Cert.BrDhKernelIdeal.τ Cert.BrDhKernelIdeal.sig) → Buf (Elt Ideal) ℓ) (g : Dev Cert.BrDhKernelIdeal.nD → PrngReg), Pre_BrDhKernelIdeal m →
    θ_run (Cert.BrDhKernelIdeal.defs (F := Ideal)) (onTc (τ := Cert.BrDhKernelIdeal.τ) (Cert.BrDhKernelIdeal.main (F := Ideal))) ⟨m, fun _ => 0, g⟩ (fun r => (∀ c : Dev Cert.BrDhKernelIdeal.nD,
      r.2.mem ((c.tc : Thread Cert.BrDhKernelIdeal.nD Cert.BrDhKernelIdeal.τ).loc Cert.BrDhKernelIdeal.main_arg0) = m ((c.tc : Thread Cert.BrDhKernelIdeal.nD Cert.BrDhKernelIdeal.τ).loc Cert.BrDhKernelIdeal.main_arg0)
      ∧ r.2.mem ((c.tc : Thread Cert.BrDhKernelIdeal.nD Cert.BrDhKernelIdeal.τ).loc Cert.BrDhKernelIdeal.main_arg1) = m ((c.tc : Thread Cert.BrDhKernelIdeal.nD Cert.BrDhKernelIdeal.τ).loc Cert.BrDhKernelIdeal.main_arg1)
      ∧ r.2.mem ((c.tc : Thread Cert.BrDhKernelIdeal.nD Cert.BrDhKernelIdeal.τ).loc Cert.BrDhKernelIdeal.main_arg2) = m ((c.tc : Thread Cert.BrDhKernelIdeal.nD Cert.BrDhKernelIdeal.τ).loc Cert.BrDhKernelIdeal.main_arg2))
      ∧ r.2.sem = fun _ => 0)

def quiescent_BrDhReferenceIdeal [hBrDhReferenceIdeal : Cert.BrDhReferenceIdeal.Facts] : Prop :=
  ∀ (m : (ℓ : Loc Cert.BrDhReferenceIdeal.nD Cert.BrDhReferenceIdeal.τ Cert.BrDhReferenceIdeal.sig) → Buf (Elt Ideal) ℓ) (g : Dev Cert.BrDhReferenceIdeal.nD → PrngReg), Pre_BrDhReferenceIdeal m →
    θ_run (Cert.BrDhReferenceIdeal.defs (F := Ideal)) (onTc (τ := Cert.BrDhReferenceIdeal.τ) (Cert.BrDhReferenceIdeal.main (F := Ideal))) ⟨m, fun _ => 0, g⟩ (fun r => (∀ c : Dev Cert.BrDhReferenceIdeal.nD,
      r.2.mem ((c.tc : Thread Cert.BrDhReferenceIdeal.nD Cert.BrDhReferenceIdeal.τ).loc Cert.BrDhReferenceIdeal.main_arg0) = m ((c.tc : Thread Cert.BrDhReferenceIdeal.nD Cert.BrDhReferenceIdeal.τ).loc Cert.BrDhReferenceIdeal.main_arg0)
      ∧ r.2.mem ((c.tc : Thread Cert.BrDhReferenceIdeal.nD Cert.BrDhReferenceIdeal.τ).loc Cert.BrDhReferenceIdeal.main_arg1) = m ((c.tc : Thread Cert.BrDhReferenceIdeal.nD Cert.BrDhReferenceIdeal.τ).loc Cert.BrDhReferenceIdeal.main_arg1)
      ∧ r.2.mem ((c.tc : Thread Cert.BrDhReferenceIdeal.nD Cert.BrDhReferenceIdeal.τ).loc Cert.BrDhReferenceIdeal.main_arg2) = m ((c.tc : Thread Cert.BrDhReferenceIdeal.nD Cert.BrDhReferenceIdeal.τ).loc Cert.BrDhReferenceIdeal.main_arg2))
      ∧ r.2.sem = fun _ => 0)

def quiescent_BrDwKernel [hBrDwKernel : Cert.BrDwKernel.Facts] : Prop :=
  ∀ (m : (ℓ : Loc Cert.BrDwKernel.nD Cert.BrDwKernel.τ Cert.BrDwKernel.sig) → Buf (Elt Bits) ℓ) (g : Dev Cert.BrDwKernel.nD → PrngReg), Pre_BrDwKernel m →
    θ_run (Cert.BrDwKernel.defs (F := Bits)) (onTc (τ := Cert.BrDwKernel.τ) (Cert.BrDwKernel.main (F := Bits))) ⟨m, fun _ => 0, g⟩ (fun r => (∀ c : Dev Cert.BrDwKernel.nD,
      r.2.mem ((c.tc : Thread Cert.BrDwKernel.nD Cert.BrDwKernel.τ).loc Cert.BrDwKernel.main_arg0) = m ((c.tc : Thread Cert.BrDwKernel.nD Cert.BrDwKernel.τ).loc Cert.BrDwKernel.main_arg0)
      ∧ r.2.mem ((c.tc : Thread Cert.BrDwKernel.nD Cert.BrDwKernel.τ).loc Cert.BrDwKernel.main_arg1) = m ((c.tc : Thread Cert.BrDwKernel.nD Cert.BrDwKernel.τ).loc Cert.BrDwKernel.main_arg1)
      ∧ r.2.mem ((c.tc : Thread Cert.BrDwKernel.nD Cert.BrDwKernel.τ).loc Cert.BrDwKernel.main_arg2) = m ((c.tc : Thread Cert.BrDwKernel.nD Cert.BrDwKernel.τ).loc Cert.BrDwKernel.main_arg2))
      ∧ r.2.sem = fun _ => 0)

def quiescent_BrDwKernelIdeal [hBrDwKernelIdeal : Cert.BrDwKernelIdeal.Facts] : Prop :=
  ∀ (m : (ℓ : Loc Cert.BrDwKernelIdeal.nD Cert.BrDwKernelIdeal.τ Cert.BrDwKernelIdeal.sig) → Buf (Elt Ideal) ℓ) (g : Dev Cert.BrDwKernelIdeal.nD → PrngReg), Pre_BrDwKernelIdeal m →
    θ_run (Cert.BrDwKernelIdeal.defs (F := Ideal)) (onTc (τ := Cert.BrDwKernelIdeal.τ) (Cert.BrDwKernelIdeal.main (F := Ideal))) ⟨m, fun _ => 0, g⟩ (fun r => (∀ c : Dev Cert.BrDwKernelIdeal.nD,
      r.2.mem ((c.tc : Thread Cert.BrDwKernelIdeal.nD Cert.BrDwKernelIdeal.τ).loc Cert.BrDwKernelIdeal.main_arg0) = m ((c.tc : Thread Cert.BrDwKernelIdeal.nD Cert.BrDwKernelIdeal.τ).loc Cert.BrDwKernelIdeal.main_arg0)
      ∧ r.2.mem ((c.tc : Thread Cert.BrDwKernelIdeal.nD Cert.BrDwKernelIdeal.τ).loc Cert.BrDwKernelIdeal.main_arg1) = m ((c.tc : Thread Cert.BrDwKernelIdeal.nD Cert.BrDwKernelIdeal.τ).loc Cert.BrDwKernelIdeal.main_arg1)
      ∧ r.2.mem ((c.tc : Thread Cert.BrDwKernelIdeal.nD Cert.BrDwKernelIdeal.τ).loc Cert.BrDwKernelIdeal.main_arg2) = m ((c.tc : Thread Cert.BrDwKernelIdeal.nD Cert.BrDwKernelIdeal.τ).loc Cert.BrDwKernelIdeal.main_arg2))
      ∧ r.2.sem = fun _ => 0)

def quiescent_BrDwReferenceIdeal [hBrDwReferenceIdeal : Cert.BrDwReferenceIdeal.Facts] : Prop :=
  ∀ (m : (ℓ : Loc Cert.BrDwReferenceIdeal.nD Cert.BrDwReferenceIdeal.τ Cert.BrDwReferenceIdeal.sig) → Buf (Elt Ideal) ℓ) (g : Dev Cert.BrDwReferenceIdeal.nD → PrngReg), Pre_BrDwReferenceIdeal m →
    θ_run (Cert.BrDwReferenceIdeal.defs (F := Ideal)) (onTc (τ := Cert.BrDwReferenceIdeal.τ) (Cert.BrDwReferenceIdeal.main (F := Ideal))) ⟨m, fun _ => 0, g⟩ (fun r => (∀ c : Dev Cert.BrDwReferenceIdeal.nD,
      r.2.mem ((c.tc : Thread Cert.BrDwReferenceIdeal.nD Cert.BrDwReferenceIdeal.τ).loc Cert.BrDwReferenceIdeal.main_arg0) = m ((c.tc : Thread Cert.BrDwReferenceIdeal.nD Cert.BrDwReferenceIdeal.τ).loc Cert.BrDwReferenceIdeal.main_arg0)
      ∧ r.2.mem ((c.tc : Thread Cert.BrDwReferenceIdeal.nD Cert.BrDwReferenceIdeal.τ).loc Cert.BrDwReferenceIdeal.main_arg1) = m ((c.tc : Thread Cert.BrDwReferenceIdeal.nD Cert.BrDwReferenceIdeal.τ).loc Cert.BrDwReferenceIdeal.main_arg1)
      ∧ r.2.mem ((c.tc : Thread Cert.BrDwReferenceIdeal.nD Cert.BrDwReferenceIdeal.τ).loc Cert.BrDwReferenceIdeal.main_arg2) = m ((c.tc : Thread Cert.BrDwReferenceIdeal.nD Cert.BrDwReferenceIdeal.τ).loc Cert.BrDwReferenceIdeal.main_arg2))
      ∧ r.2.sem = fun _ => 0)

def quiescent_OutFwdKernel [hOutFwdKernel : Cert.OutFwdKernel.Facts] : Prop :=
  ∀ (m : (ℓ : Loc Cert.OutFwdKernel.nD Cert.OutFwdKernel.τ Cert.OutFwdKernel.sig) → Buf (Elt Bits) ℓ) (g : Dev Cert.OutFwdKernel.nD → PrngReg), Pre_OutFwdKernel m →
    θ_run (Cert.OutFwdKernel.defs (F := Bits)) (onTc (τ := Cert.OutFwdKernel.τ) (Cert.OutFwdKernel.main (F := Bits))) ⟨m, fun _ => 0, g⟩ (fun r => (∀ c : Dev Cert.OutFwdKernel.nD,
      r.2.mem ((c.tc : Thread Cert.OutFwdKernel.nD Cert.OutFwdKernel.τ).loc Cert.OutFwdKernel.main_arg0) = m ((c.tc : Thread Cert.OutFwdKernel.nD Cert.OutFwdKernel.τ).loc Cert.OutFwdKernel.main_arg0)
      ∧ r.2.mem ((c.tc : Thread Cert.OutFwdKernel.nD Cert.OutFwdKernel.τ).loc Cert.OutFwdKernel.main_arg1) = m ((c.tc : Thread Cert.OutFwdKernel.nD Cert.OutFwdKernel.τ).loc Cert.OutFwdKernel.main_arg1)
      ∧ r.2.mem ((c.tc : Thread Cert.OutFwdKernel.nD Cert.OutFwdKernel.τ).loc Cert.OutFwdKernel.main_arg2) = m ((c.tc : Thread Cert.OutFwdKernel.nD Cert.OutFwdKernel.τ).loc Cert.OutFwdKernel.main_arg2))
      ∧ r.2.sem = fun _ => 0)

def quiescent_OutFwdKernelIdeal [hOutFwdKernelIdeal : Cert.OutFwdKernelIdeal.Facts] : Prop :=
  ∀ (m : (ℓ : Loc Cert.OutFwdKernelIdeal.nD Cert.OutFwdKernelIdeal.τ Cert.OutFwdKernelIdeal.sig) → Buf (Elt Ideal) ℓ) (g : Dev Cert.OutFwdKernelIdeal.nD → PrngReg), Pre_OutFwdKernelIdeal m →
    θ_run (Cert.OutFwdKernelIdeal.defs (F := Ideal)) (onTc (τ := Cert.OutFwdKernelIdeal.τ) (Cert.OutFwdKernelIdeal.main (F := Ideal))) ⟨m, fun _ => 0, g⟩ (fun r => (∀ c : Dev Cert.OutFwdKernelIdeal.nD,
      r.2.mem ((c.tc : Thread Cert.OutFwdKernelIdeal.nD Cert.OutFwdKernelIdeal.τ).loc Cert.OutFwdKernelIdeal.main_arg0) = m ((c.tc : Thread Cert.OutFwdKernelIdeal.nD Cert.OutFwdKernelIdeal.τ).loc Cert.OutFwdKernelIdeal.main_arg0)
      ∧ r.2.mem ((c.tc : Thread Cert.OutFwdKernelIdeal.nD Cert.OutFwdKernelIdeal.τ).loc Cert.OutFwdKernelIdeal.main_arg1) = m ((c.tc : Thread Cert.OutFwdKernelIdeal.nD Cert.OutFwdKernelIdeal.τ).loc Cert.OutFwdKernelIdeal.main_arg1)
      ∧ r.2.mem ((c.tc : Thread Cert.OutFwdKernelIdeal.nD Cert.OutFwdKernelIdeal.τ).loc Cert.OutFwdKernelIdeal.main_arg2) = m ((c.tc : Thread Cert.OutFwdKernelIdeal.nD Cert.OutFwdKernelIdeal.τ).loc Cert.OutFwdKernelIdeal.main_arg2))
      ∧ r.2.sem = fun _ => 0)

def quiescent_OutFwdReferenceIdeal [hOutFwdReferenceIdeal : Cert.OutFwdReferenceIdeal.Facts] : Prop :=
  ∀ (m : (ℓ : Loc Cert.OutFwdReferenceIdeal.nD Cert.OutFwdReferenceIdeal.τ Cert.OutFwdReferenceIdeal.sig) → Buf (Elt Ideal) ℓ) (g : Dev Cert.OutFwdReferenceIdeal.nD → PrngReg), Pre_OutFwdReferenceIdeal m →
    θ_run (Cert.OutFwdReferenceIdeal.defs (F := Ideal)) (onTc (τ := Cert.OutFwdReferenceIdeal.τ) (Cert.OutFwdReferenceIdeal.main (F := Ideal))) ⟨m, fun _ => 0, g⟩ (fun r => (∀ c : Dev Cert.OutFwdReferenceIdeal.nD,
      r.2.mem ((c.tc : Thread Cert.OutFwdReferenceIdeal.nD Cert.OutFwdReferenceIdeal.τ).loc Cert.OutFwdReferenceIdeal.main_arg0) = m ((c.tc : Thread Cert.OutFwdReferenceIdeal.nD Cert.OutFwdReferenceIdeal.τ).loc Cert.OutFwdReferenceIdeal.main_arg0)
      ∧ r.2.mem ((c.tc : Thread Cert.OutFwdReferenceIdeal.nD Cert.OutFwdReferenceIdeal.τ).loc Cert.OutFwdReferenceIdeal.main_arg1) = m ((c.tc : Thread Cert.OutFwdReferenceIdeal.nD Cert.OutFwdReferenceIdeal.τ).loc Cert.OutFwdReferenceIdeal.main_arg1)
      ∧ r.2.mem ((c.tc : Thread Cert.OutFwdReferenceIdeal.nD Cert.OutFwdReferenceIdeal.τ).loc Cert.OutFwdReferenceIdeal.main_arg2) = m ((c.tc : Thread Cert.OutFwdReferenceIdeal.nD Cert.OutFwdReferenceIdeal.τ).loc Cert.OutFwdReferenceIdeal.main_arg2))
      ∧ r.2.sem = fun _ => 0)

def quiescent_OutDhKernel [hOutDhKernel : Cert.OutDhKernel.Facts] : Prop :=
  ∀ (m : (ℓ : Loc Cert.OutDhKernel.nD Cert.OutDhKernel.τ Cert.OutDhKernel.sig) → Buf (Elt Bits) ℓ) (g : Dev Cert.OutDhKernel.nD → PrngReg), Pre_OutDhKernel m →
    θ_run (Cert.OutDhKernel.defs (F := Bits)) (onTc (τ := Cert.OutDhKernel.τ) (Cert.OutDhKernel.main (F := Bits))) ⟨m, fun _ => 0, g⟩ (fun r => (∀ c : Dev Cert.OutDhKernel.nD,
      r.2.mem ((c.tc : Thread Cert.OutDhKernel.nD Cert.OutDhKernel.τ).loc Cert.OutDhKernel.main_arg0) = m ((c.tc : Thread Cert.OutDhKernel.nD Cert.OutDhKernel.τ).loc Cert.OutDhKernel.main_arg0)
      ∧ r.2.mem ((c.tc : Thread Cert.OutDhKernel.nD Cert.OutDhKernel.τ).loc Cert.OutDhKernel.main_arg1) = m ((c.tc : Thread Cert.OutDhKernel.nD Cert.OutDhKernel.τ).loc Cert.OutDhKernel.main_arg1)
      ∧ r.2.mem ((c.tc : Thread Cert.OutDhKernel.nD Cert.OutDhKernel.τ).loc Cert.OutDhKernel.main_arg2) = m ((c.tc : Thread Cert.OutDhKernel.nD Cert.OutDhKernel.τ).loc Cert.OutDhKernel.main_arg2))
      ∧ r.2.sem = fun _ => 0)

def quiescent_OutDhKernelIdeal [hOutDhKernelIdeal : Cert.OutDhKernelIdeal.Facts] : Prop :=
  ∀ (m : (ℓ : Loc Cert.OutDhKernelIdeal.nD Cert.OutDhKernelIdeal.τ Cert.OutDhKernelIdeal.sig) → Buf (Elt Ideal) ℓ) (g : Dev Cert.OutDhKernelIdeal.nD → PrngReg), Pre_OutDhKernelIdeal m →
    θ_run (Cert.OutDhKernelIdeal.defs (F := Ideal)) (onTc (τ := Cert.OutDhKernelIdeal.τ) (Cert.OutDhKernelIdeal.main (F := Ideal))) ⟨m, fun _ => 0, g⟩ (fun r => (∀ c : Dev Cert.OutDhKernelIdeal.nD,
      r.2.mem ((c.tc : Thread Cert.OutDhKernelIdeal.nD Cert.OutDhKernelIdeal.τ).loc Cert.OutDhKernelIdeal.main_arg0) = m ((c.tc : Thread Cert.OutDhKernelIdeal.nD Cert.OutDhKernelIdeal.τ).loc Cert.OutDhKernelIdeal.main_arg0)
      ∧ r.2.mem ((c.tc : Thread Cert.OutDhKernelIdeal.nD Cert.OutDhKernelIdeal.τ).loc Cert.OutDhKernelIdeal.main_arg1) = m ((c.tc : Thread Cert.OutDhKernelIdeal.nD Cert.OutDhKernelIdeal.τ).loc Cert.OutDhKernelIdeal.main_arg1)
      ∧ r.2.mem ((c.tc : Thread Cert.OutDhKernelIdeal.nD Cert.OutDhKernelIdeal.τ).loc Cert.OutDhKernelIdeal.main_arg2) = m ((c.tc : Thread Cert.OutDhKernelIdeal.nD Cert.OutDhKernelIdeal.τ).loc Cert.OutDhKernelIdeal.main_arg2))
      ∧ r.2.sem = fun _ => 0)

def quiescent_OutDhReferenceIdeal [hOutDhReferenceIdeal : Cert.OutDhReferenceIdeal.Facts] : Prop :=
  ∀ (m : (ℓ : Loc Cert.OutDhReferenceIdeal.nD Cert.OutDhReferenceIdeal.τ Cert.OutDhReferenceIdeal.sig) → Buf (Elt Ideal) ℓ) (g : Dev Cert.OutDhReferenceIdeal.nD → PrngReg), Pre_OutDhReferenceIdeal m →
    θ_run (Cert.OutDhReferenceIdeal.defs (F := Ideal)) (onTc (τ := Cert.OutDhReferenceIdeal.τ) (Cert.OutDhReferenceIdeal.main (F := Ideal))) ⟨m, fun _ => 0, g⟩ (fun r => (∀ c : Dev Cert.OutDhReferenceIdeal.nD,
      r.2.mem ((c.tc : Thread Cert.OutDhReferenceIdeal.nD Cert.OutDhReferenceIdeal.τ).loc Cert.OutDhReferenceIdeal.main_arg0) = m ((c.tc : Thread Cert.OutDhReferenceIdeal.nD Cert.OutDhReferenceIdeal.τ).loc Cert.OutDhReferenceIdeal.main_arg0)
      ∧ r.2.mem ((c.tc : Thread Cert.OutDhReferenceIdeal.nD Cert.OutDhReferenceIdeal.τ).loc Cert.OutDhReferenceIdeal.main_arg1) = m ((c.tc : Thread Cert.OutDhReferenceIdeal.nD Cert.OutDhReferenceIdeal.τ).loc Cert.OutDhReferenceIdeal.main_arg1)
      ∧ r.2.mem ((c.tc : Thread Cert.OutDhReferenceIdeal.nD Cert.OutDhReferenceIdeal.τ).loc Cert.OutDhReferenceIdeal.main_arg2) = m ((c.tc : Thread Cert.OutDhReferenceIdeal.nD Cert.OutDhReferenceIdeal.τ).loc Cert.OutDhReferenceIdeal.main_arg2))
      ∧ r.2.sem = fun _ => 0)

def quiescent_OutDwKernel [hOutDwKernel : Cert.OutDwKernel.Facts] : Prop :=
  ∀ (m : (ℓ : Loc Cert.OutDwKernel.nD Cert.OutDwKernel.τ Cert.OutDwKernel.sig) → Buf (Elt Bits) ℓ) (g : Dev Cert.OutDwKernel.nD → PrngReg), Pre_OutDwKernel m →
    θ_run (Cert.OutDwKernel.defs (F := Bits)) (onTc (τ := Cert.OutDwKernel.τ) (Cert.OutDwKernel.main (F := Bits))) ⟨m, fun _ => 0, g⟩ (fun r => (∀ c : Dev Cert.OutDwKernel.nD,
      r.2.mem ((c.tc : Thread Cert.OutDwKernel.nD Cert.OutDwKernel.τ).loc Cert.OutDwKernel.main_arg0) = m ((c.tc : Thread Cert.OutDwKernel.nD Cert.OutDwKernel.τ).loc Cert.OutDwKernel.main_arg0)
      ∧ r.2.mem ((c.tc : Thread Cert.OutDwKernel.nD Cert.OutDwKernel.τ).loc Cert.OutDwKernel.main_arg1) = m ((c.tc : Thread Cert.OutDwKernel.nD Cert.OutDwKernel.τ).loc Cert.OutDwKernel.main_arg1)
      ∧ r.2.mem ((c.tc : Thread Cert.OutDwKernel.nD Cert.OutDwKernel.τ).loc Cert.OutDwKernel.main_arg2) = m ((c.tc : Thread Cert.OutDwKernel.nD Cert.OutDwKernel.τ).loc Cert.OutDwKernel.main_arg2))
      ∧ r.2.sem = fun _ => 0)

def quiescent_OutDwKernelIdeal [hOutDwKernelIdeal : Cert.OutDwKernelIdeal.Facts] : Prop :=
  ∀ (m : (ℓ : Loc Cert.OutDwKernelIdeal.nD Cert.OutDwKernelIdeal.τ Cert.OutDwKernelIdeal.sig) → Buf (Elt Ideal) ℓ) (g : Dev Cert.OutDwKernelIdeal.nD → PrngReg), Pre_OutDwKernelIdeal m →
    θ_run (Cert.OutDwKernelIdeal.defs (F := Ideal)) (onTc (τ := Cert.OutDwKernelIdeal.τ) (Cert.OutDwKernelIdeal.main (F := Ideal))) ⟨m, fun _ => 0, g⟩ (fun r => (∀ c : Dev Cert.OutDwKernelIdeal.nD,
      r.2.mem ((c.tc : Thread Cert.OutDwKernelIdeal.nD Cert.OutDwKernelIdeal.τ).loc Cert.OutDwKernelIdeal.main_arg0) = m ((c.tc : Thread Cert.OutDwKernelIdeal.nD Cert.OutDwKernelIdeal.τ).loc Cert.OutDwKernelIdeal.main_arg0)
      ∧ r.2.mem ((c.tc : Thread Cert.OutDwKernelIdeal.nD Cert.OutDwKernelIdeal.τ).loc Cert.OutDwKernelIdeal.main_arg1) = m ((c.tc : Thread Cert.OutDwKernelIdeal.nD Cert.OutDwKernelIdeal.τ).loc Cert.OutDwKernelIdeal.main_arg1)
      ∧ r.2.mem ((c.tc : Thread Cert.OutDwKernelIdeal.nD Cert.OutDwKernelIdeal.τ).loc Cert.OutDwKernelIdeal.main_arg2) = m ((c.tc : Thread Cert.OutDwKernelIdeal.nD Cert.OutDwKernelIdeal.τ).loc Cert.OutDwKernelIdeal.main_arg2))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1)
      ∧ r.2.mem ((c.tc : Thread Cert.OutDwReferenceIdeal.nD Cert.OutDwReferenceIdeal.τ).loc Cert.OutDwReferenceIdeal.main_arg2) = m ((c.tc : Thread Cert.OutDwReferenceIdeal.nD Cert.OutDwReferenceIdeal.τ).loc Cert.OutDwReferenceIdeal.main_arg2))
      ∧ r.2.sem = fun _ => 0)

def quiescent_QbFwdKernel [hQbFwdKernel : Cert.QbFwdKernel.Facts] : Prop :=
  ∀ (m : (ℓ : Loc Cert.QbFwdKernel.nD Cert.QbFwdKernel.τ Cert.QbFwdKernel.sig) → Buf (Elt Bits) ℓ) (g : Dev Cert.QbFwdKernel.nD → PrngReg), Pre_QbFwdKernel m →
    θ_run (Cert.QbFwdKernel.defs (F := Bits)) (onTc (τ := Cert.QbFwdKernel.τ) (Cert.QbFwdKernel.main (F := Bits))) ⟨m, fun _ => 0, g⟩ (fun r => (∀ c : Dev Cert.QbFwdKernel.nD,
      r.2.mem ((c.tc : Thread Cert.QbFwdKernel.nD Cert.QbFwdKernel.τ).loc Cert.QbFwdKernel.main_arg0) = m ((c.tc : Thread Cert.QbFwdKernel.nD Cert.QbFwdKernel.τ).loc Cert.QbFwdKernel.main_arg0)
      ∧ r.2.mem ((c.tc : Thread Cert.QbFwdKernel.nD Cert.QbFwdKernel.τ).loc Cert.QbFwdKernel.main_arg1) = m ((c.tc : Thread Cert.QbFwdKernel.nD Cert.QbFwdKernel.τ).loc Cert.QbFwdKernel.main_arg1))
      ∧ r.2.sem = fun _ => 0)

def quiescent_QbFwdKernelIdeal [hQbFwdKernelIdeal : Cert.QbFwdKernelIdeal.Facts] : Prop :=
  ∀ (m : (ℓ : Loc Cert.QbFwdKernelIdeal.nD Cert.QbFwdKernelIdeal.τ Cert.QbFwdKernelIdeal.sig) → Buf (Elt Ideal) ℓ) (g : Dev Cert.QbFwdKernelIdeal.nD → PrngReg), Pre_QbFwdKernelIdeal m →
    θ_run (Cert.QbFwdKernelIdeal.defs (F := Ideal)) (onTc (τ := Cert.QbFwdKernelIdeal.τ) (Cert.QbFwdKernelIdeal.main (F := Ideal))) ⟨m, fun _ => 0, g⟩ (fun r => (∀ c : Dev Cert.QbFwdKernelIdeal.nD,
      r.2.mem ((c.tc : Thread Cert.QbFwdKernelIdeal.nD Cert.QbFwdKernelIdeal.τ).loc Cert.QbFwdKernelIdeal.main_arg0) = m ((c.tc : Thread Cert.QbFwdKernelIdeal.nD Cert.QbFwdKernelIdeal.τ).loc Cert.QbFwdKernelIdeal.main_arg0)
      ∧ r.2.mem ((c.tc : Thread Cert.QbFwdKernelIdeal.nD Cert.QbFwdKernelIdeal.τ).loc Cert.QbFwdKernelIdeal.main_arg1) = m ((c.tc : Thread Cert.QbFwdKernelIdeal.nD Cert.QbFwdKernelIdeal.τ).loc Cert.QbFwdKernelIdeal.main_arg1))
      ∧ r.2.sem = fun _ => 0)

def quiescent_QbFwdReferenceIdeal [hQbFwdReferenceIdeal : Cert.QbFwdReferenceIdeal.Facts] : Prop :=
  ∀ (m : (ℓ : Loc Cert.QbFwdReferenceIdeal.nD Cert.QbFwdReferenceIdeal.τ Cert.QbFwdReferenceIdeal.sig) → Buf (Elt Ideal) ℓ) (g : Dev Cert.QbFwdReferenceIdeal.nD → PrngReg), Pre_QbFwdReferenceIdeal m →
    θ_run (Cert.QbFwdReferenceIdeal.defs (F := Ideal)) (onTc (τ := Cert.QbFwdReferenceIdeal.τ) (Cert.QbFwdReferenceIdeal.main (F := Ideal))) ⟨m, fun _ => 0, g⟩ (fun r => (∀ c : Dev Cert.QbFwdReferenceIdeal.nD,
      r.2.mem ((c.tc : Thread Cert.QbFwdReferenceIdeal.nD Cert.QbFwdReferenceIdeal.τ).loc Cert.QbFwdReferenceIdeal.main_arg0) = m ((c.tc : Thread Cert.QbFwdReferenceIdeal.nD Cert.QbFwdReferenceIdeal.τ).loc Cert.QbFwdReferenceIdeal.main_arg0)
      ∧ r.2.mem ((c.tc : Thread Cert.QbFwdReferenceIdeal.nD Cert.QbFwdReferenceIdeal.τ).loc Cert.QbFwdReferenceIdeal.main_arg1) = m ((c.tc : Thread Cert.QbFwdReferenceIdeal.nD Cert.QbFwdReferenceIdeal.τ).loc Cert.QbFwdReferenceIdeal.main_arg1))
      ∧ r.2.sem = fun _ => 0)

def quiescent_QbDhKernel [hQbDhKernel : Cert.QbDhKernel.Facts] : Prop :=
  ∀ (m : (ℓ : Loc Cert.QbDhKernel.nD Cert.QbDhKernel.τ Cert.QbDhKernel.sig) → Buf (Elt Bits) ℓ) (g : Dev Cert.QbDhKernel.nD → PrngReg), Pre_QbDhKernel m →
    θ_run (Cert.QbDhKernel.defs (F := Bits)) (onTc (τ := Cert.QbDhKernel.τ) (Cert.QbDhKernel.main (F := Bits))) ⟨m, fun _ => 0, g⟩ (fun r => (∀ c : Dev Cert.QbDhKernel.nD,
      r.2.mem ((c.tc : Thread Cert.QbDhKernel.nD Cert.QbDhKernel.τ).loc Cert.QbDhKernel.main_arg0) = m ((c.tc : Thread Cert.QbDhKernel.nD Cert.QbDhKernel.τ).loc Cert.QbDhKernel.main_arg0)
      ∧ r.2.mem ((c.tc : Thread Cert.QbDhKernel.nD Cert.QbDhKernel.τ).loc Cert.QbDhKernel.main_arg1) = m ((c.tc : Thread Cert.QbDhKernel.nD Cert.QbDhKernel.τ).loc Cert.QbDhKernel.main_arg1)
      ∧ r.2.mem ((c.tc : Thread Cert.QbDhKernel.nD Cert.QbDhKernel.τ).loc Cert.QbDhKernel.main_arg2) = m ((c.tc : Thread Cert.QbDhKernel.nD Cert.QbDhKernel.τ).loc Cert.QbDhKernel.main_arg2))
      ∧ r.2.sem = fun _ => 0)

def quiescent_QbDhKernelIdeal [hQbDhKernelIdeal : Cert.QbDhKernelIdeal.Facts] : Prop :=
  ∀ (m : (ℓ : Loc Cert.QbDhKernelIdeal.nD Cert.QbDhKernelIdeal.τ Cert.QbDhKernelIdeal.sig) → Buf (Elt Ideal) ℓ) (g : Dev Cert.QbDhKernelIdeal.nD → PrngReg), Pre_QbDhKernelIdeal m →
    θ_run (Cert.QbDhKernelIdeal.defs (F := Ideal)) (onTc (τ := Cert.QbDhKernelIdeal.τ) (Cert.QbDhKernelIdeal.main (F := Ideal))) ⟨m, fun _ => 0, g⟩ (fun r => (∀ c : Dev Cert.QbDhKernelIdeal.nD,
      r.2.mem ((c.tc : Thread Cert.QbDhKernelIdeal.nD Cert.QbDhKernelIdeal.τ).loc Cert.QbDhKernelIdeal.main_arg0) = m ((c.tc : Thread Cert.QbDhKernelIdeal.nD Cert.QbDhKernelIdeal.τ).loc Cert.QbDhKernelIdeal.main_arg0)
      ∧ r.2.mem ((c.tc : Thread Cert.QbDhKernelIdeal.nD Cert.QbDhKernelIdeal.τ).loc Cert.QbDhKernelIdeal.main_arg1) = m ((c.tc : Thread Cert.QbDhKernelIdeal.nD Cert.QbDhKernelIdeal.τ).loc Cert.QbDhKernelIdeal.main_arg1)
      ∧ r.2.mem ((c.tc : Thread Cert.QbDhKernelIdeal.nD Cert.QbDhKernelIdeal.τ).loc Cert.QbDhKernelIdeal.main_arg2) = m ((c.tc : Thread Cert.QbDhKernelIdeal.nD Cert.QbDhKernelIdeal.τ).loc Cert.QbDhKernelIdeal.main_arg2))
      ∧ r.2.sem = fun _ => 0)

def quiescent_QbDhReferenceIdeal [hQbDhReferenceIdeal : Cert.QbDhReferenceIdeal.Facts] : Prop :=
  ∀ (m : (ℓ : Loc Cert.QbDhReferenceIdeal.nD Cert.QbDhReferenceIdeal.τ Cert.QbDhReferenceIdeal.sig) → Buf (Elt Ideal) ℓ) (g : Dev Cert.QbDhReferenceIdeal.nD → PrngReg), Pre_QbDhReferenceIdeal m →
    θ_run (Cert.QbDhReferenceIdeal.defs (F := Ideal)) (onTc (τ := Cert.QbDhReferenceIdeal.τ) (Cert.QbDhReferenceIdeal.main (F := Ideal))) ⟨m, fun _ => 0, g⟩ (fun r => (∀ c : Dev Cert.QbDhReferenceIdeal.nD,
      r.2.mem ((c.tc : Thread Cert.QbDhReferenceIdeal.nD Cert.QbDhReferenceIdeal.τ).loc Cert.QbDhReferenceIdeal.main_arg0) = m ((c.tc : Thread Cert.QbDhReferenceIdeal.nD Cert.QbDhReferenceIdeal.τ).loc Cert.QbDhReferenceIdeal.main_arg0)
      ∧ r.2.mem ((c.tc : Thread Cert.QbDhReferenceIdeal.nD Cert.QbDhReferenceIdeal.τ).loc Cert.QbDhReferenceIdeal.main_arg1) = m ((c.tc : Thread Cert.QbDhReferenceIdeal.nD Cert.QbDhReferenceIdeal.τ).loc Cert.QbDhReferenceIdeal.main_arg1)
      ∧ r.2.mem ((c.tc : Thread Cert.QbDhReferenceIdeal.nD Cert.QbDhReferenceIdeal.τ).loc Cert.QbDhReferenceIdeal.main_arg2) = m ((c.tc : Thread Cert.QbDhReferenceIdeal.nD Cert.QbDhReferenceIdeal.τ).loc Cert.QbDhReferenceIdeal.main_arg2))
      ∧ r.2.sem = fun _ => 0)

def quiescent_QbDwKernel [hQbDwKernel : Cert.QbDwKernel.Facts] : Prop :=
  ∀ (m : (ℓ : Loc Cert.QbDwKernel.nD Cert.QbDwKernel.τ Cert.QbDwKernel.sig) → Buf (Elt Bits) ℓ) (g : Dev Cert.QbDwKernel.nD → PrngReg), Pre_QbDwKernel m →
    θ_run (Cert.QbDwKernel.defs (F := Bits)) (onTc (τ := Cert.QbDwKernel.τ) (Cert.QbDwKernel.main (F := Bits))) ⟨m, fun _ => 0, g⟩ (fun r => (∀ c : Dev Cert.QbDwKernel.nD,
      r.2.mem ((c.tc : Thread Cert.QbDwKernel.nD Cert.QbDwKernel.τ).loc Cert.QbDwKernel.main_arg0) = m ((c.tc : Thread Cert.QbDwKernel.nD Cert.QbDwKernel.τ).loc Cert.QbDwKernel.main_arg0)
      ∧ r.2.mem ((c.tc : Thread Cert.QbDwKernel.nD Cert.QbDwKernel.τ).loc Cert.QbDwKernel.main_arg1) = m ((c.tc : Thread Cert.QbDwKernel.nD Cert.QbDwKernel.τ).loc Cert.QbDwKernel.main_arg1)
      ∧ r.2.mem ((c.tc : Thread Cert.QbDwKernel.nD Cert.QbDwKernel.τ).loc Cert.QbDwKernel.main_arg2) = m ((c.tc : Thread Cert.QbDwKernel.nD Cert.QbDwKernel.τ).loc Cert.QbDwKernel.main_arg2))
      ∧ r.2.sem = fun _ => 0)

def quiescent_QbDwKernelIdeal [hQbDwKernelIdeal : Cert.QbDwKernelIdeal.Facts] : Prop :=
  ∀ (m : (ℓ : Loc Cert.QbDwKernelIdeal.nD Cert.QbDwKernelIdeal.τ Cert.QbDwKernelIdeal.sig) → Buf (Elt Ideal) ℓ) (g : Dev Cert.QbDwKernelIdeal.nD → PrngReg), Pre_QbDwKernelIdeal m →
    θ_run (Cert.QbDwKernelIdeal.defs (F := Ideal)) (onTc (τ := Cert.QbDwKernelIdeal.τ) (Cert.QbDwKernelIdeal.main (F := Ideal))) ⟨m, fun _ => 0, g⟩ (fun r => (∀ c : Dev Cert.QbDwKernelIdeal.nD,
      r.2.mem ((c.tc : Thread Cert.QbDwKernelIdeal.nD Cert.QbDwKernelIdeal.τ).loc Cert.QbDwKernelIdeal.main_arg0) = m ((c.tc : Thread Cert.QbDwKernelIdeal.nD Cert.QbDwKernelIdeal.τ).loc Cert.QbDwKernelIdeal.main_arg0)
      ∧ r.2.mem ((c.tc : Thread Cert.QbDwKernelIdeal.nD Cert.QbDwKernelIdeal.τ).loc Cert.QbDwKernelIdeal.main_arg1) = m ((c.tc : Thread Cert.QbDwKernelIdeal.nD Cert.QbDwKernelIdeal.τ).loc Cert.QbDwKernelIdeal.main_arg1)
      ∧ r.2.mem ((c.tc : Thread Cert.QbDwKernelIdeal.nD Cert.QbDwKernelIdeal.τ).loc Cert.QbDwKernelIdeal.main_arg2) = m ((c.tc : Thread Cert.QbDwKernelIdeal.nD Cert.QbDwKernelIdeal.τ).loc Cert.QbDwKernelIdeal.main_arg2))
      ∧ r.2.sem = fun _ => 0)

def quiescent_QbDwReferenceIdeal [hQbDwReferenceIdeal : Cert.QbDwReferenceIdeal.Facts] : Prop :=
  ∀ (m : (ℓ : Loc Cert.QbDwReferenceIdeal.nD Cert.QbDwReferenceIdeal.τ Cert.QbDwReferenceIdeal.sig) → Buf (Elt Ideal) ℓ) (g : Dev Cert.QbDwReferenceIdeal.nD → PrngReg), Pre_QbDwReferenceIdeal m →
    θ_run (Cert.QbDwReferenceIdeal.defs (F := Ideal)) (onTc (τ := Cert.QbDwReferenceIdeal.τ) (Cert.QbDwReferenceIdeal.main (F := Ideal))) ⟨m, fun _ => 0, g⟩ (fun r => (∀ c : Dev Cert.QbDwReferenceIdeal.nD,
      r.2.mem ((c.tc : Thread Cert.QbDwReferenceIdeal.nD Cert.QbDwReferenceIdeal.τ).loc Cert.QbDwReferenceIdeal.main_arg0) = m ((c.tc : Thread Cert.QbDwReferenceIdeal.nD Cert.QbDwReferenceIdeal.τ).loc Cert.QbDwReferenceIdeal.main_arg0)
      ∧ r.2.mem ((c.tc : Thread Cert.QbDwReferenceIdeal.nD Cert.QbDwReferenceIdeal.τ).loc Cert.QbDwReferenceIdeal.main_arg1) = m ((c.tc : Thread Cert.QbDwReferenceIdeal.nD Cert.QbDwReferenceIdeal.τ).loc Cert.QbDwReferenceIdeal.main_arg1)
      ∧ r.2.mem ((c.tc : Thread Cert.QbDwReferenceIdeal.nD Cert.QbDwReferenceIdeal.τ).loc Cert.QbDwReferenceIdeal.main_arg2) = m ((c.tc : Thread Cert.QbDwReferenceIdeal.nD Cert.QbDwReferenceIdeal.τ).loc Cert.QbDwReferenceIdeal.main_arg2))
      ∧ r.2.sem = fun _ => 0)

def quiescent_KvFwdKernel [hKvFwdKernel : Cert.KvFwdKernel.Facts] : Prop :=
  ∀ (m : (ℓ : Loc Cert.KvFwdKernel.nD Cert.KvFwdKernel.τ Cert.KvFwdKernel.sig) → Buf (Elt Bits) ℓ) (g : Dev Cert.KvFwdKernel.nD → PrngReg), Pre_KvFwdKernel m →
    θ_run (Cert.KvFwdKernel.defs (F := Bits)) (onTc (τ := Cert.KvFwdKernel.τ) (Cert.KvFwdKernel.main (F := Bits))) ⟨m, fun _ => 0, g⟩ (fun r => (∀ c : Dev Cert.KvFwdKernel.nD,
      r.2.mem ((c.tc : Thread Cert.KvFwdKernel.nD Cert.KvFwdKernel.τ).loc Cert.KvFwdKernel.main_arg0) = m ((c.tc : Thread Cert.KvFwdKernel.nD Cert.KvFwdKernel.τ).loc Cert.KvFwdKernel.main_arg0)
      ∧ r.2.mem ((c.tc : Thread Cert.KvFwdKernel.nD Cert.KvFwdKernel.τ).loc Cert.KvFwdKernel.main_arg1) = m ((c.tc : Thread Cert.KvFwdKernel.nD Cert.KvFwdKernel.τ).loc Cert.KvFwdKernel.main_arg1))
      ∧ r.2.sem = fun _ => 0)

def quiescent_KvFwdKernelIdeal [hKvFwdKernelIdeal : Cert.KvFwdKernelIdeal.Facts] : Prop :=
  ∀ (m : (ℓ : Loc Cert.KvFwdKernelIdeal.nD Cert.KvFwdKernelIdeal.τ Cert.KvFwdKernelIdeal.sig) → Buf (Elt Ideal) ℓ) (g : Dev Cert.KvFwdKernelIdeal.nD → PrngReg), Pre_KvFwdKernelIdeal m →
    θ_run (Cert.KvFwdKernelIdeal.defs (F := Ideal)) (onTc (τ := Cert.KvFwdKernelIdeal.τ) (Cert.KvFwdKernelIdeal.main (F := Ideal))) ⟨m, fun _ => 0, g⟩ (fun r => (∀ c : Dev Cert.KvFwdKernelIdeal.nD,
      r.2.mem ((c.tc : Thread Cert.KvFwdKernelIdeal.nD Cert.KvFwdKernelIdeal.τ).loc Cert.KvFwdKernelIdeal.main_arg0) = m ((c.tc : Thread Cert.KvFwdKernelIdeal.nD Cert.KvFwdKernelIdeal.τ).loc Cert.KvFwdKernelIdeal.main_arg0)
      ∧ r.2.mem ((c.tc : Thread Cert.KvFwdKernelIdeal.nD Cert.KvFwdKernelIdeal.τ).loc Cert.KvFwdKernelIdeal.main_arg1) = m ((c.tc : Thread Cert.KvFwdKernelIdeal.nD Cert.KvFwdKernelIdeal.τ).loc Cert.KvFwdKernelIdeal.main_arg1))
      ∧ r.2.sem = fun _ => 0)

def quiescent_KvFwdReferenceIdeal [hKvFwdReferenceIdeal : Cert.KvFwdReferenceIdeal.Facts] : Prop :=
  ∀ (m : (ℓ : Loc Cert.KvFwdReferenceIdeal.nD Cert.KvFwdReferenceIdeal.τ Cert.KvFwdReferenceIdeal.sig) → Buf (Elt Ideal) ℓ) (g : Dev Cert.KvFwdReferenceIdeal.nD → PrngReg), Pre_KvFwdReferenceIdeal m →
    θ_run (Cert.KvFwdReferenceIdeal.defs (F := Ideal)) (onTc (τ := Cert.KvFwdReferenceIdeal.τ) (Cert.KvFwdReferenceIdeal.main (F := Ideal))) ⟨m, fun _ => 0, g⟩ (fun r => (∀ c : Dev Cert.KvFwdReferenceIdeal.nD,
      r.2.mem ((c.tc : Thread Cert.KvFwdReferenceIdeal.nD Cert.KvFwdReferenceIdeal.τ).loc Cert.KvFwdReferenceIdeal.main_arg0) = m ((c.tc : Thread Cert.KvFwdReferenceIdeal.nD Cert.KvFwdReferenceIdeal.τ).loc Cert.KvFwdReferenceIdeal.main_arg0)
      ∧ r.2.mem ((c.tc : Thread Cert.KvFwdReferenceIdeal.nD Cert.KvFwdReferenceIdeal.τ).loc Cert.KvFwdReferenceIdeal.main_arg1) = m ((c.tc : Thread Cert.KvFwdReferenceIdeal.nD Cert.KvFwdReferenceIdeal.τ).loc Cert.KvFwdReferenceIdeal.main_arg1))
      ∧ r.2.sem = fun _ => 0)

def quiescent_KvDwKernel [hKvDwKernel : Cert.KvDwKernel.Facts] : Prop :=
  ∀ (m : (ℓ : Loc Cert.KvDwKernel.nD Cert.KvDwKernel.τ Cert.KvDwKernel.sig) → Buf (Elt Bits) ℓ) (g : Dev Cert.KvDwKernel.nD → PrngReg), Pre_KvDwKernel m →
    θ_run (Cert.KvDwKernel.defs (F := Bits)) (onTc (τ := Cert.KvDwKernel.τ) (Cert.KvDwKernel.main (F := Bits))) ⟨m, fun _ => 0, g⟩ (fun r => (∀ c : Dev Cert.KvDwKernel.nD,
      r.2.mem ((c.tc : Thread Cert.KvDwKernel.nD Cert.KvDwKernel.τ).loc Cert.KvDwKernel.main_arg0) = m ((c.tc : Thread Cert.KvDwKernel.nD Cert.KvDwKernel.τ).loc Cert.KvDwKernel.main_arg0)
      ∧ r.2.mem ((c.tc : Thread Cert.KvDwKernel.nD Cert.KvDwKernel.τ).loc Cert.KvDwKernel.main_arg1) = m ((c.tc : Thread Cert.KvDwKernel.nD Cert.KvDwKernel.τ).loc Cert.KvDwKernel.main_arg1)
      ∧ r.2.mem ((c.tc : Thread Cert.KvDwKernel.nD Cert.KvDwKernel.τ).loc Cert.KvDwKernel.main_arg2) = m ((c.tc : Thread Cert.KvDwKernel.nD Cert.KvDwKernel.τ).loc Cert.KvDwKernel.main_arg2))
      ∧ r.2.sem = fun _ => 0)

def quiescent_KvDwKernelIdeal [hKvDwKernelIdeal : Cert.KvDwKernelIdeal.Facts] : Prop :=
  ∀ (m : (ℓ : Loc Cert.KvDwKernelIdeal.nD Cert.KvDwKernelIdeal.τ Cert.KvDwKernelIdeal.sig) → Buf (Elt Ideal) ℓ) (g : Dev Cert.KvDwKernelIdeal.nD → PrngReg), Pre_KvDwKernelIdeal m →
    θ_run (Cert.KvDwKernelIdeal.defs (F := Ideal)) (onTc (τ := Cert.KvDwKernelIdeal.τ) (Cert.KvDwKernelIdeal.main (F := Ideal))) ⟨m, fun _ => 0, g⟩ (fun r => (∀ c : Dev Cert.KvDwKernelIdeal.nD,
      r.2.mem ((c.tc : Thread Cert.KvDwKernelIdeal.nD Cert.KvDwKernelIdeal.τ).loc Cert.KvDwKernelIdeal.main_arg0) = m ((c.tc : Thread Cert.KvDwKernelIdeal.nD Cert.KvDwKernelIdeal.τ).loc Cert.KvDwKernelIdeal.main_arg0)
      ∧ r.2.mem ((c.tc : Thread Cert.KvDwKernelIdeal.nD Cert.KvDwKernelIdeal.τ).loc Cert.KvDwKernelIdeal.main_arg1) = m ((c.tc : Thread Cert.KvDwKernelIdeal.nD Cert.KvDwKernelIdeal.τ).loc Cert.KvDwKernelIdeal.main_arg1)
      ∧ r.2.mem ((c.tc : Thread Cert.KvDwKernelIdeal.nD Cert.KvDwKernelIdeal.τ).loc Cert.KvDwKernelIdeal.main_arg2) = m ((c.tc : Thread Cert.KvDwKernelIdeal.nD Cert.KvDwKernelIdeal.τ).loc Cert.KvDwKernelIdeal.main_arg2))
      ∧ r.2.sem = fun _ => 0)

def quiescent_KvDwReferenceIdeal [hKvDwReferenceIdeal : Cert.KvDwReferenceIdeal.Facts] : Prop :=
  ∀ (m : (ℓ : Loc Cert.KvDwReferenceIdeal.nD Cert.KvDwReferenceIdeal.τ Cert.KvDwReferenceIdeal.sig) → Buf (Elt Ideal) ℓ) (g : Dev Cert.KvDwReferenceIdeal.nD → PrngReg), Pre_KvDwReferenceIdeal m →
    θ_run (Cert.KvDwReferenceIdeal.defs (F := Ideal)) (onTc (τ := Cert.KvDwReferenceIdeal.τ) (Cert.KvDwReferenceIdeal.main (F := Ideal))) ⟨m, fun _ => 0, g⟩ (fun r => (∀ c : Dev Cert.KvDwReferenceIdeal.nD,
      r.2.mem ((c.tc : Thread Cert.KvDwReferenceIdeal.nD Cert.KvDwReferenceIdeal.τ).loc Cert.KvDwReferenceIdeal.main_arg0) = m ((c.tc : Thread Cert.KvDwReferenceIdeal.nD Cert.KvDwReferenceIdeal.τ).loc Cert.KvDwReferenceIdeal.main_arg0)
      ∧ r.2.mem ((c.tc : Thread Cert.KvDwReferenceIdeal.nD Cert.KvDwReferenceIdeal.τ).loc Cert.KvDwReferenceIdeal.main_arg1) = m ((c.tc : Thread Cert.KvDwReferenceIdeal.nD Cert.KvDwReferenceIdeal.τ).loc Cert.KvDwReferenceIdeal.main_arg1)
      ∧ r.2.mem ((c.tc : Thread Cert.KvDwReferenceIdeal.nD Cert.KvDwReferenceIdeal.τ).loc Cert.KvDwReferenceIdeal.main_arg2) = m ((c.tc : Thread Cert.KvDwReferenceIdeal.nD Cert.KvDwReferenceIdeal.τ).loc Cert.KvDwReferenceIdeal.main_arg2))
      ∧ r.2.sem = fun _ => 0)

def quiescent_DwNarrowKernel [hDwNarrowKernel : Cert.DwNarrowKernel.Facts] : Prop :=
  ∀ (m : (ℓ : Loc Cert.DwNarrowKernel.nD Cert.DwNarrowKernel.τ Cert.DwNarrowKernel.sig) → Buf (Elt Bits) ℓ) (g : Dev Cert.DwNarrowKernel.nD → PrngReg), Pre_DwNarrowKernel m →
    θ_run (Cert.DwNarrowKernel.defs (F := Bits)) (onTc (τ := Cert.DwNarrowKernel.τ) (Cert.DwNarrowKernel.main (F := Bits))) ⟨m, fun _ => 0, g⟩ (fun r => (∀ c : Dev Cert.DwNarrowKernel.nD,
      r.2.mem ((c.tc : Thread Cert.DwNarrowKernel.nD Cert.DwNarrowKernel.τ).loc Cert.DwNarrowKernel.main_arg0) = m ((c.tc : Thread Cert.DwNarrowKernel.nD Cert.DwNarrowKernel.τ).loc Cert.DwNarrowKernel.main_arg0)
      ∧ r.2.mem ((c.tc : Thread Cert.DwNarrowKernel.nD Cert.DwNarrowKernel.τ).loc Cert.DwNarrowKernel.main_arg1) = m ((c.tc : Thread Cert.DwNarrowKernel.nD Cert.DwNarrowKernel.τ).loc Cert.DwNarrowKernel.main_arg1)
      ∧ r.2.mem ((c.tc : Thread Cert.DwNarrowKernel.nD Cert.DwNarrowKernel.τ).loc Cert.DwNarrowKernel.main_arg2) = m ((c.tc : Thread Cert.DwNarrowKernel.nD Cert.DwNarrowKernel.τ).loc Cert.DwNarrowKernel.main_arg2)
      ∧ r.2.mem ((c.tc : Thread Cert.DwNarrowKernel.nD Cert.DwNarrowKernel.τ).loc Cert.DwNarrowKernel.main_arg3) = m ((c.tc : Thread Cert.DwNarrowKernel.nD Cert.DwNarrowKernel.τ).loc Cert.DwNarrowKernel.main_arg3)
      ∧ r.2.mem ((c.tc : Thread Cert.DwNarrowKernel.nD Cert.DwNarrowKernel.τ).loc Cert.DwNarrowKernel.main_arg4) = m ((c.tc : Thread Cert.DwNarrowKernel.nD Cert.DwNarrowKernel.τ).loc Cert.DwNarrowKernel.main_arg4)
      ∧ r.2.mem ((c.tc : Thread Cert.DwNarrowKernel.nD Cert.DwNarrowKernel.τ).loc Cert.DwNarrowKernel.main_arg5) = m ((c.tc : Thread Cert.DwNarrowKernel.nD Cert.DwNarrowKernel.τ).loc Cert.DwNarrowKernel.main_arg5)
      ∧ r.2.mem ((c.tc : Thread Cert.DwNarrowKernel.nD Cert.DwNarrowKernel.τ).loc Cert.DwNarrowKernel.main_arg6) = m ((c.tc : Thread Cert.DwNarrowKernel.nD Cert.DwNarrowKernel.τ).loc Cert.DwNarrowKernel.main_arg6)
      ∧ r.2.mem ((c.tc : Thread Cert.DwNarrowKernel.nD Cert.DwNarrowKernel.τ).loc Cert.DwNarrowKernel.main_arg7) = m ((c.tc : Thread Cert.DwNarrowKernel.nD Cert.DwNarrowKernel.τ).loc Cert.DwNarrowKernel.main_arg7)
      ∧ r.2.mem ((c.tc : Thread Cert.DwNarrowKernel.nD Cert.DwNarrowKernel.τ).loc Cert.DwNarrowKernel.main_arg8) = m ((c.tc : Thread Cert.DwNarrowKernel.nD Cert.DwNarrowKernel.τ).loc Cert.DwNarrowKernel.main_arg8)
      ∧ r.2.mem ((c.tc : Thread Cert.DwNarrowKernel.nD Cert.DwNarrowKernel.τ).loc Cert.DwNarrowKernel.main_arg9) = m ((c.tc : Thread Cert.DwNarrowKernel.nD Cert.DwNarrowKernel.τ).loc Cert.DwNarrowKernel.main_arg9)
      ∧ r.2.mem ((c.tc : Thread Cert.DwNarrowKernel.nD Cert.DwNarrowKernel.τ).loc Cert.DwNarrowKernel.main_arg10) = m ((c.tc : Thread Cert.DwNarrowKernel.nD Cert.DwNarrowKernel.τ).loc Cert.DwNarrowKernel.main_arg10)
      ∧ r.2.mem ((c.tc : Thread Cert.DwNarrowKernel.nD Cert.DwNarrowKernel.τ).loc Cert.DwNarrowKernel.main_arg11) = m ((c.tc : Thread Cert.DwNarrowKernel.nD Cert.DwNarrowKernel.τ).loc Cert.DwNarrowKernel.main_arg11)
      ∧ r.2.mem ((c.tc : Thread Cert.DwNarrowKernel.nD Cert.DwNarrowKernel.τ).loc Cert.DwNarrowKernel.main_arg12) = m ((c.tc : Thread Cert.DwNarrowKernel.nD Cert.DwNarrowKernel.τ).loc Cert.DwNarrowKernel.main_arg12)
      ∧ r.2.mem ((c.tc : Thread Cert.DwNarrowKernel.nD Cert.DwNarrowKernel.τ).loc Cert.DwNarrowKernel.main_arg13) = m ((c.tc : Thread Cert.DwNarrowKernel.nD Cert.DwNarrowKernel.τ).loc Cert.DwNarrowKernel.main_arg13)
      ∧ r.2.mem ((c.tc : Thread Cert.DwNarrowKernel.nD Cert.DwNarrowKernel.τ).loc Cert.DwNarrowKernel.main_arg14) = m ((c.tc : Thread Cert.DwNarrowKernel.nD Cert.DwNarrowKernel.τ).loc Cert.DwNarrowKernel.main_arg14))
      ∧ r.2.sem = fun _ => 0)

def quiescent_DwNarrowKernelIdeal [hDwNarrowKernelIdeal : Cert.DwNarrowKernelIdeal.Facts] : Prop :=
  ∀ (m : (ℓ : Loc Cert.DwNarrowKernelIdeal.nD Cert.DwNarrowKernelIdeal.τ Cert.DwNarrowKernelIdeal.sig) → Buf (Elt Ideal) ℓ) (g : Dev Cert.DwNarrowKernelIdeal.nD → PrngReg), Pre_DwNarrowKernelIdeal m →
    θ_run (Cert.DwNarrowKernelIdeal.defs (F := Ideal)) (onTc (τ := Cert.DwNarrowKernelIdeal.τ) (Cert.DwNarrowKernelIdeal.main (F := Ideal))) ⟨m, fun _ => 0, g⟩ (fun r => (∀ c : Dev Cert.DwNarrowKernelIdeal.nD,
      r.2.mem ((c.tc : Thread Cert.DwNarrowKernelIdeal.nD Cert.DwNarrowKernelIdeal.τ).loc Cert.DwNarrowKernelIdeal.main_arg0) = m ((c.tc : Thread Cert.DwNarrowKernelIdeal.nD Cert.DwNarrowKernelIdeal.τ).loc Cert.DwNarrowKernelIdeal.main_arg0)
      ∧ r.2.mem ((c.tc : Thread Cert.DwNarrowKernelIdeal.nD Cert.DwNarrowKernelIdeal.τ).loc Cert.DwNarrowKernelIdeal.main_arg1) = m ((c.tc : Thread Cert.DwNarrowKernelIdeal.nD Cert.DwNarrowKernelIdeal.τ).loc Cert.DwNarrowKernelIdeal.main_arg1)
      ∧ r.2.mem ((c.tc : Thread Cert.DwNarrowKernelIdeal.nD Cert.DwNarrowKernelIdeal.τ).loc Cert.DwNarrowKernelIdeal.main_arg2) = m ((c.tc : Thread Cert.DwNarrowKernelIdeal.nD Cert.DwNarrowKernelIdeal.τ).loc Cert.DwNarrowKernelIdeal.main_arg2)
      ∧ r.2.mem ((c.tc : Thread Cert.DwNarrowKernelIdeal.nD Cert.DwNarrowKernelIdeal.τ).loc Cert.DwNarrowKernelIdeal.main_arg3) = m ((c.tc : Thread Cert.DwNarrowKernelIdeal.nD Cert.DwNarrowKernelIdeal.τ).loc Cert.DwNarrowKernelIdeal.main_arg3)
      ∧ r.2.mem ((c.tc : Thread Cert.DwNarrowKernelIdeal.nD Cert.DwNarrowKernelIdeal.τ).loc Cert.DwNarrowKernelIdeal.main_arg4) = m ((c.tc : Thread Cert.DwNarrowKernelIdeal.nD Cert.DwNarrowKernelIdeal.τ).loc Cert.DwNarrowKernelIdeal.main_arg4)
      ∧ r.2.mem ((c.tc : Thread Cert.DwNarrowKernelIdeal.nD Cert.DwNarrowKernelIdeal.τ).loc Cert.DwNarrowKernelIdeal.main_arg5) = m ((c.tc : Thread Cert.DwNarrowKernelIdeal.nD Cert.DwNarrowKernelIdeal.τ).loc Cert.DwNarrowKernelIdeal.main_arg5)
      ∧ r.2.mem ((c.tc : Thread Cert.DwNarrowKernelIdeal.nD Cert.DwNarrowKernelIdeal.τ).loc Cert.DwNarrowKernelIdeal.main_arg6) = m ((c.tc : Thread Cert.DwNarrowKernelIdeal.nD Cert.DwNarrowKernelIdeal.τ).loc Cert.DwNarrowKernelIdeal.main_arg6)
      ∧ r.2.mem ((c.tc : Thread Cert.DwNarrowKernelIdeal.nD Cert.DwNarrowKernelIdeal.τ).loc Cert.DwNarrowKernelIdeal.main_arg7) = m ((c.tc : Thread Cert.DwNarrowKernelIdeal.nD Cert.DwNarrowKernelIdeal.τ).loc Cert.DwNarrowKernelIdeal.main_arg7)
      ∧ r.2.mem ((c.tc : Thread Cert.DwNarrowKernelIdeal.nD Cert.DwNarrowKernelIdeal.τ).loc Cert.DwNarrowKernelIdeal.main_arg8) = m ((c.tc : Thread Cert.DwNarrowKernelIdeal.nD Cert.DwNarrowKernelIdeal.τ).loc Cert.DwNarrowKernelIdeal.main_arg8)
      ∧ r.2.mem ((c.tc : Thread Cert.DwNarrowKernelIdeal.nD Cert.DwNarrowKernelIdeal.τ).loc Cert.DwNarrowKernelIdeal.main_arg9) = m ((c.tc : Thread Cert.DwNarrowKernelIdeal.nD Cert.DwNarrowKernelIdeal.τ).loc Cert.DwNarrowKernelIdeal.main_arg9)
      ∧ r.2.mem ((c.tc : Thread Cert.DwNarrowKernelIdeal.nD Cert.DwNarrowKernelIdeal.τ).loc Cert.DwNarrowKernelIdeal.main_arg10) = m ((c.tc : Thread Cert.DwNarrowKernelIdeal.nD Cert.DwNarrowKernelIdeal.τ).loc Cert.DwNarrowKernelIdeal.main_arg10)
      ∧ r.2.mem ((c.tc : Thread Cert.DwNarrowKernelIdeal.nD Cert.DwNarrowKernelIdeal.τ).loc Cert.DwNarrowKernelIdeal.main_arg11) = m ((c.tc : Thread Cert.DwNarrowKernelIdeal.nD Cert.DwNarrowKernelIdeal.τ).loc Cert.DwNarrowKernelIdeal.main_arg11)
      ∧ r.2.mem ((c.tc : Thread Cert.DwNarrowKernelIdeal.nD Cert.DwNarrowKernelIdeal.τ).loc Cert.DwNarrowKernelIdeal.main_arg12) = m ((c.tc : Thread Cert.DwNarrowKernelIdeal.nD Cert.DwNarrowKernelIdeal.τ).loc Cert.DwNarrowKernelIdeal.main_arg12)
      ∧ r.2.mem ((c.tc : Thread Cert.DwNarrowKernelIdeal.nD Cert.DwNarrowKernelIdeal.τ).loc Cert.DwNarrowKernelIdeal.main_arg13) = m ((c.tc : Thread Cert.DwNarrowKernelIdeal.nD Cert.DwNarrowKernelIdeal.τ).loc Cert.DwNarrowKernelIdeal.main_arg13)
      ∧ r.2.mem ((c.tc : Thread Cert.DwNarrowKernelIdeal.nD Cert.DwNarrowKernelIdeal.τ).loc Cert.DwNarrowKernelIdeal.main_arg14) = m ((c.tc : Thread Cert.DwNarrowKernelIdeal.nD Cert.DwNarrowKernelIdeal.τ).loc Cert.DwNarrowKernelIdeal.main_arg14))
      ∧ r.2.sem = fun _ => 0)

def quiescent_DwNarrowReferenceIdeal [hDwNarrowReferenceIdeal : Cert.DwNarrowReferenceIdeal.Facts] : Prop :=
  ∀ (m : (ℓ : Loc Cert.DwNarrowReferenceIdeal.nD Cert.DwNarrowReferenceIdeal.τ Cert.DwNarrowReferenceIdeal.sig) → Buf (Elt Ideal) ℓ) (g : Dev Cert.DwNarrowReferenceIdeal.nD → PrngReg), Pre_DwNarrowReferenceIdeal m →
    θ_run (Cert.DwNarrowReferenceIdeal.defs (F := Ideal)) (onTc (τ := Cert.DwNarrowReferenceIdeal.τ) (Cert.DwNarrowReferenceIdeal.main (F := Ideal))) ⟨m, fun _ => 0, g⟩ (fun r => (∀ c : Dev Cert.DwNarrowReferenceIdeal.nD,
      r.2.mem ((c.tc : Thread Cert.DwNarrowReferenceIdeal.nD Cert.DwNarrowReferenceIdeal.τ).loc Cert.DwNarrowReferenceIdeal.main_arg0) = m ((c.tc : Thread Cert.DwNarrowReferenceIdeal.nD Cert.DwNarrowReferenceIdeal.τ).loc Cert.DwNarrowReferenceIdeal.main_arg0)
      ∧ r.2.mem ((c.tc : Thread Cert.DwNarrowReferenceIdeal.nD Cert.DwNarrowReferenceIdeal.τ).loc Cert.DwNarrowReferenceIdeal.main_arg1) = m ((c.tc : Thread Cert.DwNarrowReferenceIdeal.nD Cert.DwNarrowReferenceIdeal.τ).loc Cert.DwNarrowReferenceIdeal.main_arg1)
      ∧ r.2.mem ((c.tc : Thread Cert.DwNarrowReferenceIdeal.nD Cert.DwNarrowReferenceIdeal.τ).loc Cert.DwNarrowReferenceIdeal.main_arg2) = m ((c.tc : Thread Cert.DwNarrowReferenceIdeal.nD Cert.DwNarrowReferenceIdeal.τ).loc Cert.DwNarrowReferenceIdeal.main_arg2)
      ∧ r.2.mem ((c.tc : Thread Cert.DwNarrowReferenceIdeal.nD Cert.DwNarrowReferenceIdeal.τ).loc Cert.DwNarrowReferenceIdeal.main_arg3) = m ((c.tc : Thread Cert.DwNarrowReferenceIdeal.nD Cert.DwNarrowReferenceIdeal.τ).loc Cert.DwNarrowReferenceIdeal.main_arg3)
      ∧ r.2.mem ((c.tc : Thread Cert.DwNarrowReferenceIdeal.nD Cert.DwNarrowReferenceIdeal.τ).loc Cert.DwNarrowReferenceIdeal.main_arg4) = m ((c.tc : Thread Cert.DwNarrowReferenceIdeal.nD Cert.DwNarrowReferenceIdeal.τ).loc Cert.DwNarrowReferenceIdeal.main_arg4)
      ∧ r.2.mem ((c.tc : Thread Cert.DwNarrowReferenceIdeal.nD Cert.DwNarrowReferenceIdeal.τ).loc Cert.DwNarrowReferenceIdeal.main_arg5) = m ((c.tc : Thread Cert.DwNarrowReferenceIdeal.nD Cert.DwNarrowReferenceIdeal.τ).loc Cert.DwNarrowReferenceIdeal.main_arg5)
      ∧ r.2.mem ((c.tc : Thread Cert.DwNarrowReferenceIdeal.nD Cert.DwNarrowReferenceIdeal.τ).loc Cert.DwNarrowReferenceIdeal.main_arg6) = m ((c.tc : Thread Cert.DwNarrowReferenceIdeal.nD Cert.DwNarrowReferenceIdeal.τ).loc Cert.DwNarrowReferenceIdeal.main_arg6)
      ∧ r.2.mem ((c.tc : Thread Cert.DwNarrowReferenceIdeal.nD Cert.DwNarrowReferenceIdeal.τ).loc Cert.DwNarrowReferenceIdeal.main_arg7) = m ((c.tc : Thread Cert.DwNarrowReferenceIdeal.nD Cert.DwNarrowReferenceIdeal.τ).loc Cert.DwNarrowReferenceIdeal.main_arg7)
      ∧ r.2.mem ((c.tc : Thread Cert.DwNarrowReferenceIdeal.nD Cert.DwNarrowReferenceIdeal.τ).loc Cert.DwNarrowReferenceIdeal.main_arg8) = m ((c.tc : Thread Cert.DwNarrowReferenceIdeal.nD Cert.DwNarrowReferenceIdeal.τ).loc Cert.DwNarrowReferenceIdeal.main_arg8)
      ∧ r.2.mem ((c.tc : Thread Cert.DwNarrowReferenceIdeal.nD Cert.DwNarrowReferenceIdeal.τ).loc Cert.DwNarrowReferenceIdeal.main_arg9) = m ((c.tc : Thread Cert.DwNarrowReferenceIdeal.nD Cert.DwNarrowReferenceIdeal.τ).loc Cert.DwNarrowReferenceIdeal.main_arg9)
      ∧ r.2.mem ((c.tc : Thread Cert.DwNarrowReferenceIdeal.nD Cert.DwNarrowReferenceIdeal.τ).loc Cert.DwNarrowReferenceIdeal.main_arg10) = m ((c.tc : Thread Cert.DwNarrowReferenceIdeal.nD Cert.DwNarrowReferenceIdeal.τ).loc Cert.DwNarrowReferenceIdeal.main_arg10)
      ∧ r.2.mem ((c.tc : Thread Cert.DwNarrowReferenceIdeal.nD Cert.DwNarrowReferenceIdeal.τ).loc Cert.DwNarrowReferenceIdeal.main_arg11) = m ((c.tc : Thread Cert.DwNarrowReferenceIdeal.nD Cert.DwNarrowReferenceIdeal.τ).loc Cert.DwNarrowReferenceIdeal.main_arg11)
      ∧ r.2.mem ((c.tc : Thread Cert.DwNarrowReferenceIdeal.nD Cert.DwNarrowReferenceIdeal.τ).loc Cert.DwNarrowReferenceIdeal.main_arg12) = m ((c.tc : Thread Cert.DwNarrowReferenceIdeal.nD Cert.DwNarrowReferenceIdeal.τ).loc Cert.DwNarrowReferenceIdeal.main_arg12)
      ∧ r.2.mem ((c.tc : Thread Cert.DwNarrowReferenceIdeal.nD Cert.DwNarrowReferenceIdeal.τ).loc Cert.DwNarrowReferenceIdeal.main_arg13) = m ((c.tc : Thread Cert.DwNarrowReferenceIdeal.nD Cert.DwNarrowReferenceIdeal.τ).loc Cert.DwNarrowReferenceIdeal.main_arg13)
      ∧ r.2.mem ((c.tc : Thread Cert.DwNarrowReferenceIdeal.nD Cert.DwNarrowReferenceIdeal.τ).loc Cert.DwNarrowReferenceIdeal.main_arg14) = m ((c.tc : Thread Cert.DwNarrowReferenceIdeal.nD Cert.DwNarrowReferenceIdeal.τ).loc Cert.DwNarrowReferenceIdeal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_v163) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DhKernel_DhKernelIdeal : Prop :=
  True

def algebraic_DhKernelIdeal_DhReferenceIdeal [hDhKernelIdeal : Cert.DhKernelIdeal.Facts] [hDhReferenceIdeal : Cert.DhReferenceIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhKernelIdeal m →
    (∀ c : Dev Cert.DhKernelIdeal.nD,
      m' ((c.tc : Thread Cert.DhReferenceIdeal.nD Cert.DhReferenceIdeal.τ).loc Cert.DhReferenceIdeal.main_arg0) = m ((c.tc : Thread Cert.DhKernelIdeal.nD Cert.DhKernelIdeal.τ).loc Cert.DhKernelIdeal.main_arg0)
      ∧ m' ((c.tc : Thread Cert.DhReferenceIdeal.nD Cert.DhReferenceIdeal.τ).loc Cert.DhReferenceIdeal.main_arg1) = m ((c.tc : Thread Cert.DhKernelIdeal.nD Cert.DhKernelIdeal.τ).loc Cert.DhKernelIdeal.main_arg1)
      ∧ m' ((c.tc : Thread Cert.DhReferenceIdeal.nD Cert.DhReferenceIdeal.τ).loc Cert.DhReferenceIdeal.main_arg2) = m ((c.tc : Thread Cert.DhKernelIdeal.nD Cert.DhKernelIdeal.τ).loc Cert.DhKernelIdeal.main_arg2)
      ∧ m' ((c.tc : Thread Cert.DhReferenceIdeal.nD Cert.DhReferenceIdeal.τ).loc Cert.DhReferenceIdeal.main_arg3) = m ((c.tc : Thread Cert.DhKernelIdeal.nD Cert.DhKernelIdeal.τ).loc Cert.DhKernelIdeal.main_arg3)
      ∧ m' ((c.tc : Thread Cert.DhReferenceIdeal.nD Cert.DhReferenceIdeal.τ).loc Cert.DhReferenceIdeal.main_arg4) = m ((c.tc : Thread Cert.DhKernelIdeal.nD Cert.DhKernelIdeal.τ).loc Cert.DhKernelIdeal.main_arg4)
      ∧ m' ((c.tc : Thread Cert.DhReferenceIdeal.nD Cert.DhReferenceIdeal.τ).loc Cert.DhReferenceIdeal.main_arg5) = m ((c.tc : Thread Cert.DhKernelIdeal.nD Cert.DhKernelIdeal.τ).loc Cert.DhKernelIdeal.main_arg5)
      ∧ m' ((c.tc : Thread Cert.DhReferenceIdeal.nD Cert.DhReferenceIdeal.τ).loc Cert.DhReferenceIdeal.main_arg6) = m ((c.tc : Thread Cert.DhKernelIdeal.nD Cert.DhKernelIdeal.τ).loc Cert.DhKernelIdeal.main_arg6)
      ∧ m' ((c.tc : Thread Cert.DhReferenceIdeal.nD Cert.DhReferenceIdeal.τ).loc Cert.DhReferenceIdeal.main_arg7) = m ((c.tc : Thread Cert.DhKernelIdeal.nD Cert.DhKernelIdeal.τ).loc Cert.DhKernelIdeal.main_arg7)
      ∧ m' ((c.tc : Thread Cert.DhReferenceIdeal.nD Cert.DhReferenceIdeal.τ).loc Cert.DhReferenceIdeal.main_arg8) = m ((c.tc : Thread Cert.DhKernelIdeal.nD Cert.DhKernelIdeal.τ).loc Cert.DhKernelIdeal.main_arg8)
      ∧ m' ((c.tc : Thread Cert.DhReferenceIdeal.nD Cert.DhReferenceIdeal.τ).loc Cert.DhReferenceIdeal.main_arg9) = m ((c.tc : Thread Cert.DhKernelIdeal.nD Cert.DhKernelIdeal.τ).loc Cert.DhKernelIdeal.main_arg9)
      ∧ m' ((c.tc : Thread Cert.DhReferenceIdeal.nD Cert.DhReferenceIdeal.τ).loc Cert.DhReferenceIdeal.main_arg10) = m ((c.tc : Thread Cert.DhKernelIdeal.nD Cert.DhKernelIdeal.τ).loc Cert.DhKernelIdeal.main_arg10)
      ∧ m' ((c.tc : Thread Cert.DhReferenceIdeal.nD Cert.DhReferenceIdeal.τ).loc Cert.DhReferenceIdeal.main_arg11) = m ((c.tc : Thread Cert.DhKernelIdeal.nD Cert.DhKernelIdeal.τ).loc Cert.DhKernelIdeal.main_arg11)
      ∧ m' ((c.tc : Thread Cert.DhReferenceIdeal.nD Cert.DhReferenceIdeal.τ).loc Cert.DhReferenceIdeal.main_arg12) = m ((c.tc : Thread Cert.DhKernelIdeal.nD Cert.DhKernelIdeal.τ).loc Cert.DhKernelIdeal.main_arg12)
      ∧ m' ((c.tc : Thread Cert.DhReferenceIdeal.nD Cert.DhReferenceIdeal.τ).loc Cert.DhReferenceIdeal.main_arg13) = m ((c.tc : Thread Cert.DhKernelIdeal.nD Cert.DhKernelIdeal.τ).loc Cert.DhKernelIdeal.main_arg13)
      ∧ m' ((c.tc : Thread Cert.DhReferenceIdeal.nD Cert.DhReferenceIdeal.τ).loc Cert.DhReferenceIdeal.main_arg14) = m ((c.tc : Thread Cert.DhKernelIdeal.nD Cert.DhKernelIdeal.τ).loc Cert.DhKernelIdeal.main_arg14)
      ∧ m' ((c.tc : Thread Cert.DhReferenceIdeal.nD Cert.DhReferenceIdeal.τ).loc Cert.DhReferenceIdeal.main_arg15) = m ((c.tc : Thread Cert.DhKernelIdeal.nD Cert.DhKernelIdeal.τ).loc Cert.DhKernelIdeal.main_arg15)
      ∧ m' ((c.tc : Thread Cert.DhReferenceIdeal.nD Cert.DhReferenceIdeal.τ).loc Cert.DhReferenceIdeal.main_arg16) = m ((c.tc : Thread Cert.DhKernelIdeal.nD Cert.DhKernelIdeal.τ).loc Cert.DhKernelIdeal.main_arg16)
      ∧ m' ((c.tc : Thread Cert.DhReferenceIdeal.nD Cert.DhReferenceIdeal.τ).loc Cert.DhReferenceIdeal.main_arg17) = m ((c.tc : Thread Cert.DhKernelIdeal.nD Cert.DhKernelIdeal.τ).loc Cert.DhKernelIdeal.main_arg17)
      ∧ m' ((c.tc : Thread Cert.DhReferenceIdeal.nD Cert.DhReferenceIdeal.τ).loc Cert.DhReferenceIdeal.main_arg18) = m ((c.tc : Thread Cert.DhKernelIdeal.nD Cert.DhKernelIdeal.τ).loc Cert.DhKernelIdeal.main_arg18)
      ∧ m' ((c.tc : Thread Cert.DhReferenceIdeal.nD Cert.DhReferenceIdeal.τ).loc Cert.DhReferenceIdeal.main_arg19) = m ((c.tc : Thread Cert.DhKernelIdeal.nD Cert.DhKernelIdeal.τ).loc Cert.DhKernelIdeal.main_arg19)
      ∧ m' ((c.tc : Thread Cert.DhReferenceIdeal.nD Cert.DhReferenceIdeal.τ).loc Cert.DhReferenceIdeal.main_arg20) = m ((c.tc : Thread Cert.DhKernelIdeal.nD Cert.DhKernelIdeal.τ).loc Cert.DhKernelIdeal.main_arg20)) →
    ∃ (v0 : (c : Dev Cert.DhKernelIdeal.nD) → Buf (Elt Ideal) ((c.tc : Thread Cert.DhKernelIdeal.nD Cert.DhKernelIdeal.τ).loc Cert.DhKernelIdeal.main_v3)),
      θ_run (Cert.DhKernelIdeal.defs (F := Ideal)) (onTc (τ := Cert.DhKernelIdeal.τ) (Cert.DhKernelIdeal.main (F := Ideal))) ⟨m, fun _ => 0, g⟩ (fun r => ∀ c : Dev Cert.DhKernelIdeal.nD,
          r.2.mem ((c.tc : Thread Cert.DhKernelIdeal.nD Cert.DhKernelIdeal.τ).loc Cert.DhKernelIdeal.main_v3) = v0 c
          ∧ r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
          ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
          ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
          ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
          ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4)
          ∧ r.2.mem ((c.tc : Thread Cert.DhKernelIdeal.nD Cert.DhKernelIdeal.τ).loc Cert.DhKernelIdeal.main_arg5) = m ((c.tc : Thread Cert.DhKernelIdeal.nD Cert.DhKernelIdeal.τ).loc Cert.DhKernelIdeal.main_arg5)
          ∧ r.2.mem ((c.tc : Thread Cert.DhKernelIdeal.nD Cert.DhKernelIdeal.τ).loc Cert.DhKernelIdeal.main_arg6) = m ((c.tc : Thread Cert.DhKernelIdeal.nD Cert.DhKernelIdeal.τ).loc Cert.DhKernelIdeal.main_arg6)
          ∧ r.2.mem ((c.tc : Thread Cert.DhKernelIdeal.nD Cert.DhKernelIdeal.τ).loc Cert.DhKernelIdeal.main_arg7) = m ((c.tc : Thread Cert.DhKernelIdeal.nD Cert.DhKernelIdeal.τ).loc Cert.DhKernelIdeal.main_arg7)
          ∧ r.2.mem ((c.tc : Thread Cert.DhKernelIdeal.nD Cert.DhKernelIdeal.τ).loc Cert.DhKernelIdeal.main_arg8) = m ((c.tc : Thread Cert.DhKernelIdeal.nD Cert.DhKernelIdeal.τ).loc Cert.DhKernelIdeal.main_arg8)
          ∧ r.2.mem ((c.tc : Thread Cert.DhKernelIdeal.nD Cert.DhKernelIdeal.τ).loc Cert.DhKernelIdeal.main_arg9) = m ((c.tc : Thread Cert.DhKernelIdeal.nD Cert.DhKernelIdeal.τ).loc Cert.DhKernelIdeal.main_arg9)
          ∧ r.2.mem ((c.tc : Thread Cert.DhKernelIdeal.nD Cert.DhKernelIdeal.τ).loc Cert.DhKernelIdeal.main_arg10) = m ((c.tc : Thread Cert.DhKernelIdeal.nD Cert.DhKernelIdeal.τ).loc Cert.DhKernelIdeal.main_arg10)
          ∧ r.2.mem ((c.tc : Thread Cert.DhKernelIdeal.nD Cert.DhKernelIdeal.τ).loc Cert.DhKernelIdeal.main_arg11) = m ((c.tc : Thread Cert.DhKernelIdeal.nD Cert.DhKernelIdeal.τ).loc Cert.DhKernelIdeal.main_arg11)
          ∧ r.2.mem ((c.tc : Thread Cert.DhKernelIdeal.nD Cert.DhKernelIdeal.τ).loc Cert.DhKernelIdeal.main_arg12) = m ((c.tc : Thread Cert.DhKernelIdeal.nD Cert.DhKernelIdeal.τ).loc Cert.DhKernelIdeal.main_arg12)
          ∧ r.2.mem ((c.tc : Thread Cert.DhKernelIdeal.nD Cert.DhKernelIdeal.τ).loc Cert.DhKernelIdeal.main_arg13) = m ((c.tc : Thread Cert.DhKernelIdeal.nD Cert.DhKernelIdeal.τ).loc Cert.DhKernelIdeal.main_arg13)
          ∧ r.2.mem ((c.tc : Thread Cert.DhKernelIdeal.nD Cert.DhKernelIdeal.τ).loc Cert.DhKernelIdeal.main_arg14) = m ((c.tc : Thread Cert.DhKernelIdeal.nD Cert.DhKernelIdeal.τ).loc Cert.DhKernelIdeal.main_arg14)
          ∧ r.2.mem ((c.tc : Thread Cert.DhKernelIdeal.nD Cert.DhKernelIdeal.τ).loc Cert.DhKernelIdeal.main_arg15) = m ((c.tc : Thread Cert.DhKernelIdeal.nD Cert.DhKernelIdeal.τ).loc Cert.DhKernelIdeal.main_arg15)
          ∧ r.2.mem ((c.tc : Thread Cert.DhKernelIdeal.nD Cert.DhKernelIdeal.τ).loc Cert.DhKernelIdeal.main_arg16) = m ((c.tc : Thread Cert.DhKernelIdeal.nD Cert.DhKernelIdeal.τ).loc Cert.DhKernelIdeal.main_arg16)
          ∧ r.2.mem ((c.tc : Thread Cert.DhKernelIdeal.nD Cert.DhKernelIdeal.τ).loc Cert.DhKernelIdeal.main_arg17) = m ((c.tc : Thread Cert.DhKernelIdeal.nD Cert.DhKernelIdeal.τ).loc Cert.DhKernelIdeal.main_arg17)
          ∧ r.2.mem ((c.tc : Thread Cert.DhKernelIdeal.nD Cert.DhKernelIdeal.τ).loc Cert.DhKernelIdeal.main_arg18) = m ((c.tc : Thread Cert.DhKernelIdeal.nD Cert.DhKernelIdeal.τ).loc Cert.DhKernelIdeal.main_arg18)
          ∧ r.2.mem ((c.tc : Thread Cert.DhKernelIdeal.nD Cert.DhKernelIdeal.τ).loc Cert.DhKernelIdeal.main_arg19) = m ((c.tc : Thread Cert.DhKernelIdeal.nD Cert.DhKernelIdeal.τ).loc Cert.DhKernelIdeal.main_arg19)
          ∧ r.2.mem ((c.tc : Thread Cert.DhKernelIdeal.nD Cert.DhKernelIdeal.τ).loc Cert.DhKernelIdeal.main_arg20) = m ((c.tc : Thread Cert.DhKernelIdeal.nD Cert.DhKernelIdeal.τ).loc Cert.DhKernelIdeal.main_arg20))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v58) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3)
          ∧ r.2.mem ((c.tc : Thread Cert.DhReferenceIdeal.nD Cert.DhReferenceIdeal.τ).loc Cert.DhReferenceIdeal.main_arg4) = m' ((c.tc : Thread Cert.DhReferenceIdeal.nD Cert.DhReferenceIdeal.τ).loc Cert.DhReferenceIdeal.main_arg4)
          ∧ r.2.mem ((c.tc : Thread Cert.DhReferenceIdeal.nD Cert.DhReferenceIdeal.τ).loc Cert.DhReferenceIdeal.main_arg5) = m' ((c.tc : Thread Cert.DhReferenceIdeal.nD Cert.DhReferenceIdeal.τ).loc Cert.DhReferenceIdeal.main_arg5)
          ∧ r.2.mem ((c.tc : Thread Cert.DhReferenceIdeal.nD Cert.DhReferenceIdeal.τ).loc Cert.DhReferenceIdeal.main_arg6) = m' ((c.tc : Thread Cert.DhReferenceIdeal.nD Cert.DhReferenceIdeal.τ).loc Cert.DhReferenceIdeal.main_arg6)
          ∧ r.2.mem ((c.tc : Thread Cert.DhReferenceIdeal.nD Cert.DhReferenceIdeal.τ).loc Cert.DhReferenceIdeal.main_arg7) = m' ((c.tc : Thread Cert.DhReferenceIdeal.nD Cert.DhReferenceIdeal.τ).loc Cert.DhReferenceIdeal.main_arg7)
          ∧ r.2.mem ((c.tc : Thread Cert.DhReferenceIdeal.nD Cert.DhReferenceIdeal.τ).loc Cert.DhReferenceIdeal.main_arg8) = m' ((c.tc : Thread Cert.DhReferenceIdeal.nD Cert.DhReferenceIdeal.τ).loc Cert.DhReferenceIdeal.main_arg8)
          ∧ r.2.mem ((c.tc : Thread Cert.DhReferenceIdeal.nD Cert.DhReferenceIdeal.τ).loc Cert.DhReferenceIdeal.main_arg9) = m' ((c.tc : Thread Cert.DhReferenceIdeal.nD Cert.DhReferenceIdeal.τ).loc Cert.DhReferenceIdeal.main_arg9)
          ∧ r.2.mem ((c.tc : Thread Cert.DhReferenceIdeal.nD Cert.DhReferenceIdeal.τ).loc Cert.DhReferenceIdeal.main_arg10) = m' ((c.tc : Thread Cert.DhReferenceIdeal.nD Cert.DhReferenceIdeal.τ).loc Cert.DhReferenceIdeal.main_arg10)
          ∧ r.2.mem ((c.tc : Thread Cert.DhReferenceIdeal.nD Cert.DhReferenceIdeal.τ).loc Cert.DhReferenceIdeal.main_arg11) = m' ((c.tc : Thread Cert.DhReferenceIdeal.nD Cert.DhReferenceIdeal.τ).loc Cert.DhReferenceIdeal.main_arg11)
          ∧ r.2.mem ((c.tc : Thread Cert.DhReferenceIdeal.nD Cert.DhReferenceIdeal.τ).loc Cert.DhReferenceIdeal.main_arg12) = m' ((c.tc : Thread Cert.DhReferenceIdeal.nD Cert.DhReferenceIdeal.τ).loc Cert.DhReferenceIdeal.main_arg12)
          ∧ r.2.mem ((c.tc : Thread Cert.DhReferenceIdeal.nD Cert.DhReferenceIdeal.τ).loc Cert.DhReferenceIdeal.main_arg13) = m' ((c.tc : Thread Cert.DhReferenceIdeal.nD Cert.DhReferenceIdeal.τ).loc Cert.DhReferenceIdeal.main_arg13)
          ∧ r.2.mem ((c.tc : Thread Cert.DhReferenceIdeal.nD Cert.DhReferenceIdeal.τ).loc Cert.DhReferenceIdeal.main_arg14) = m' ((c.tc : Thread Cert.DhReferenceIdeal.nD Cert.DhReferenceIdeal.τ).loc Cert.DhReferenceIdeal.main_arg14)
          ∧ r.2.mem ((c.tc : Thread Cert.DhReferenceIdeal.nD Cert.DhReferenceIdeal.τ).loc Cert.DhReferenceIdeal.main_arg15) = m' ((c.tc : Thread Cert.DhReferenceIdeal.nD Cert.DhReferenceIdeal.τ).loc Cert.DhReferenceIdeal.main_arg15)
          ∧ r.2.mem ((c.tc : Thread Cert.DhReferenceIdeal.nD Cert.DhReferenceIdeal.τ).loc Cert.DhReferenceIdeal.main_arg16) = m' ((c.tc : Thread Cert.DhReferenceIdeal.nD Cert.DhReferenceIdeal.τ).loc Cert.DhReferenceIdeal.main_arg16)
          ∧ r.2.mem ((c.tc : Thread Cert.DhReferenceIdeal.nD Cert.DhReferenceIdeal.τ).loc Cert.DhReferenceIdeal.main_arg17) = m' ((c.tc : Thread Cert.DhReferenceIdeal.nD Cert.DhReferenceIdeal.τ).loc Cert.DhReferenceIdeal.main_arg17)
          ∧ r.2.mem ((c.tc : Thread Cert.DhReferenceIdeal.nD Cert.DhReferenceIdeal.τ).loc Cert.DhReferenceIdeal.main_arg18) = m' ((c.tc : Thread Cert.DhReferenceIdeal.nD Cert.DhReferenceIdeal.τ).loc Cert.DhReferenceIdeal.main_arg18)
          ∧ r.2.mem ((c.tc : Thread Cert.DhReferenceIdeal.nD Cert.DhReferenceIdeal.τ).loc Cert.DhReferenceIdeal.main_arg19) = m' ((c.tc : Thread Cert.DhReferenceIdeal.nD Cert.DhReferenceIdeal.τ).loc Cert.DhReferenceIdeal.main_arg19)
          ∧ r.2.mem ((c.tc : Thread Cert.DhReferenceIdeal.nD Cert.DhReferenceIdeal.τ).loc Cert.DhReferenceIdeal.main_arg20) = m' ((c.tc : Thread Cert.DhReferenceIdeal.nD Cert.DhReferenceIdeal.τ).loc Cert.DhReferenceIdeal.main_arg20))

def preserves_DwDilKernel_DwDilKernelIdeal : Prop :=
  True

def algebraic_DwDilKernelIdeal_DwDilReferenceIdeal [hDwDilKernelIdeal : Cert.DwDilKernelIdeal.Facts] [hDwDilReferenceIdeal : Cert.DwDilReferenceIdeal.Facts] : Prop :=
  ∀ (m : (ℓ : Loc Cert.DwDilKernelIdeal.nD Cert.DwDilKernelIdeal.τ Cert.DwDilKernelIdeal.sig) → Buf (Elt Ideal) ℓ) (g : Dev Cert.DwDilKernelIdeal.nD → PrngReg)
    (m' : (ℓ : Loc Cert.DwDilReferenceIdeal.nD Cert.DwDilReferenceIdeal.τ Cert.DwDilReferenceIdeal.sig) → Buf (Elt Ideal) ℓ) (g' : Dev Cert.DwDilReferenceIdeal.nD → PrngReg), Pre_DwDilKernelIdeal m →
    (∀ c : Dev Cert.DwDilKernelIdeal.nD,
      m' ((c.tc : Thread Cert.DwDilReferenceIdeal.nD Cert.DwDilReferenceIdeal.τ).loc Cert.DwDilReferenceIdeal.main_arg0) = m ((c.tc : Thread Cert.DwDilKernelIdeal.nD Cert.DwDilKernelIdeal.τ).loc Cert.DwDilKernelIdeal.main_arg0)
      ∧ m' ((c.tc : Thread Cert.DwDilReferenceIdeal.nD Cert.DwDilReferenceIdeal.τ).loc Cert.DwDilReferenceIdeal.main_arg1) = m ((c.tc : Thread Cert.DwDilKernelIdeal.nD Cert.DwDilKernelIdeal.τ).loc Cert.DwDilKernelIdeal.main_arg1)
      ∧ m' ((c.tc : Thread Cert.DwDilReferenceIdeal.nD Cert.DwDilReferenceIdeal.τ).loc Cert.DwDilReferenceIdeal.main_arg2) = m ((c.tc : Thread Cert.DwDilKernelIdeal.nD Cert.DwDilKernelIdeal.τ).loc Cert.DwDilKernelIdeal.main_arg2)) →
    ∃ (v0 : (c : Dev Cert.DwDilKernelIdeal.nD) → Buf (Elt Ideal) ((c.tc : Thread Cert.DwDilKernelIdeal.nD Cert.DwDilKernelIdeal.τ).loc Cert.DwDilKernelIdeal.main_v0)),
      θ_run (Cert.DwDilKernelIdeal.defs (F := Ideal)) (onTc (τ := Cert.DwDilKernelIdeal.τ) (Cert.DwDilKernelIdeal.main (F := Ideal))) ⟨m, fun _ => 0, g⟩ (fun r => ∀ c : Dev Cert.DwDilKernelIdeal.nD,
          r.2.mem ((c.tc : Thread Cert.DwDilKernelIdeal.nD Cert.DwDilKernelIdeal.τ).loc Cert.DwDilKernelIdeal.main_v0) = v0 c
          ∧ r.2.mem ((c.tc : Thread Cert.DwDilKernelIdeal.nD Cert.DwDilKernelIdeal.τ).loc Cert.DwDilKernelIdeal.main_arg0) = m ((c.tc : Thread Cert.DwDilKernelIdeal.nD Cert.DwDilKernelIdeal.τ).loc Cert.DwDilKernelIdeal.main_arg0)
          ∧ r.2.mem ((c.tc : Thread Cert.DwDilKernelIdeal.nD Cert.DwDilKernelIdeal.τ).loc Cert.DwDilKernelIdeal.main_arg1) = m ((c.tc : Thread Cert.DwDilKernelIdeal.nD Cert.DwDilKernelIdeal.τ).loc Cert.DwDilKernelIdeal.main_arg1)
          ∧ r.2.mem ((c.tc : Thread Cert.DwDilKernelIdeal.nD Cert.DwDilKernelIdeal.τ).loc Cert.DwDilKernelIdeal.main_arg2) = m ((c.tc : Thread Cert.DwDilKernelIdeal.nD Cert.DwDilKernelIdeal.τ).loc Cert.DwDilKernelIdeal.main_arg2))
      ∧ θ_run (Cert.DwDilReferenceIdeal.defs (F := Ideal)) (onTc (τ := Cert.DwDilReferenceIdeal.τ) (Cert.DwDilReferenceIdeal.main (F := Ideal))) ⟨m', fun _ => 0, g'⟩ (fun r => ∀ c : Dev Cert.DwDilReferenceIdeal.nD,
          r.2.mem ((c.tc : Thread Cert.DwDilReferenceIdeal.nD Cert.DwDilReferenceIdeal.τ).loc Cert.DwDilReferenceIdeal.main_v5) = v0 c
          ∧ r.2.mem ((c.tc : Thread Cert.DwDilReferenceIdeal.nD Cert.DwDilReferenceIdeal.τ).loc Cert.DwDilReferenceIdeal.main_arg0) = m' ((c.tc : Thread Cert.DwDilReferenceIdeal.nD Cert.DwDilReferenceIdeal.τ).loc Cert.DwDilReferenceIdeal.main_arg0)
          ∧ r.2.mem ((c.tc : Thread Cert.DwDilReferenceIdeal.nD Cert.DwDilReferenceIdeal.τ).loc Cert.DwDilReferenceIdeal.main_arg1) = m' ((c.tc : Thread Cert.DwDilReferenceIdeal.nD Cert.DwDilReferenceIdeal.τ).loc Cert.DwDilReferenceIdeal.main_arg1)
          ∧ r.2.mem ((c.tc : Thread Cert.DwDilReferenceIdeal.nD Cert.DwDilReferenceIdeal.τ).loc Cert.DwDilReferenceIdeal.main_arg2) = m' ((c.tc : Thread Cert.DwDilReferenceIdeal.nD Cert.DwDilReferenceIdeal.τ).loc Cert.DwDilReferenceIdeal.main_arg2))

def preserves_DwGateKernel_DwGateKernelIdeal : Prop :=
  True

def algebraic_DwGateKernelIdeal_DwGateReferenceIdeal [hDwGateKernelIdeal : Cert.DwGateKernelIdeal.Facts] [hDwGateReferenceIdeal : Cert.DwGateReferenceIdeal.Facts] : Prop :=
  ∀ (m : (ℓ : Loc Cert.DwGateKernelIdeal.nD Cert.DwGateKernelIdeal.τ Cert.DwGateKernelIdeal.sig) → Buf (Elt Ideal) ℓ) (g : Dev Cert.DwGateKernelIdeal.nD → PrngReg)
    (m' : (ℓ : Loc Cert.DwGateReferenceIdeal.nD Cert.DwGateReferenceIdeal.τ Cert.DwGateReferenceIdeal.sig) → Buf (Elt Ideal) ℓ) (g' : Dev Cert.DwGateReferenceIdeal.nD → PrngReg), Pre_DwGateKernelIdeal m →
    (∀ c : Dev Cert.DwGateKernelIdeal.nD,
      m' ((c.tc : Thread Cert.DwGateReferenceIdeal.nD Cert.DwGateReferenceIdeal.τ).loc Cert.DwGateReferenceIdeal.main_arg0) = m ((c.tc : Thread Cert.DwGateKernelIdeal.nD Cert.DwGateKernelIdeal.τ).loc Cert.DwGateKernelIdeal.main_arg0)
      ∧ m' ((c.tc : Thread Cert.DwGateReferenceIdeal.nD Cert.DwGateReferenceIdeal.τ).loc Cert.DwGateReferenceIdeal.main_arg1) = m ((c.tc : Thread Cert.DwGateKernelIdeal.nD Cert.DwGateKernelIdeal.τ).loc Cert.DwGateKernelIdeal.main_arg1)
      ∧ m' ((c.tc : Thread Cert.DwGateReferenceIdeal.nD Cert.DwGateReferenceIdeal.τ).loc Cert.DwGateReferenceIdeal.main_arg2) = m ((c.tc : Thread Cert.DwGateKernelIdeal.nD Cert.DwGateKernelIdeal.τ).loc Cert.DwGateKernelIdeal.main_arg2)) →
    ∃ (v0 : (c : Dev Cert.DwGateKernelIdeal.nD) → Buf (Elt Ideal) ((c.tc : Thread Cert.DwGateKernelIdeal.nD Cert.DwGateKernelIdeal.τ).loc Cert.DwGateKernelIdeal.main_v0)),
      θ_run (Cert.DwGateKernelIdeal.defs (F := Ideal)) (onTc (τ := Cert.DwGateKernelIdeal.τ) (Cert.DwGateKernelIdeal.main (F := Ideal))) ⟨m, fun _ => 0, g⟩ (fun r => ∀ c : Dev Cert.DwGateKernelIdeal.nD,
          r.2.mem ((c.tc : Thread Cert.DwGateKernelIdeal.nD Cert.DwGateKernelIdeal.τ).loc Cert.DwGateKernelIdeal.main_v0) = v0 c
          ∧ r.2.mem ((c.tc : Thread Cert.DwGateKernelIdeal.nD Cert.DwGateKernelIdeal.τ).loc Cert.DwGateKernelIdeal.main_arg0) = m ((c.tc : Thread Cert.DwGateKernelIdeal.nD Cert.DwGateKernelIdeal.τ).loc Cert.DwGateKernelIdeal.main_arg0)
          ∧ r.2.mem ((c.tc : Thread Cert.DwGateKernelIdeal.nD Cert.DwGateKernelIdeal.τ).loc Cert.DwGateKernelIdeal.main_arg1) = m ((c.tc : Thread Cert.DwGateKernelIdeal.nD Cert.DwGateKernelIdeal.τ).loc Cert.DwGateKernelIdeal.main_arg1)
          ∧ r.2.mem ((c.tc : Thread Cert.DwGateKernelIdeal.nD Cert.DwGateKernelIdeal.τ).loc Cert.DwGateKernelIdeal.main_arg2) = m ((c.tc : Thread Cert.DwGateKernelIdeal.nD Cert.DwGateKernelIdeal.τ).loc Cert.DwGateKernelIdeal.main_arg2))
      ∧ θ_run (Cert.DwGateReferenceIdeal.defs (F := Ideal)) (onTc (τ := Cert.DwGateReferenceIdeal.τ) (Cert.DwGateReferenceIdeal.main (F := Ideal))) ⟨m', fun _ => 0, g'⟩ (fun r => ∀ c : Dev Cert.DwGateReferenceIdeal.nD,
          r.2.mem ((c.tc : Thread Cert.DwGateReferenceIdeal.nD Cert.DwGateReferenceIdeal.τ).loc Cert.DwGateReferenceIdeal.main_v5) = v0 c
          ∧ r.2.mem ((c.tc : Thread Cert.DwGateReferenceIdeal.nD Cert.DwGateReferenceIdeal.τ).loc Cert.DwGateReferenceIdeal.main_arg0) = m' ((c.tc : Thread Cert.DwGateReferenceIdeal.nD Cert.DwGateReferenceIdeal.τ).loc Cert.DwGateReferenceIdeal.main_arg0)
          ∧ r.2.mem ((c.tc : Thread Cert.DwGateReferenceIdeal.nD Cert.DwGateReferenceIdeal.τ).loc Cert.DwGateReferenceIdeal.main_arg1) = m' ((c.tc : Thread Cert.DwGateReferenceIdeal.nD Cert.DwGateReferenceIdeal.τ).loc Cert.DwGateReferenceIdeal.main_arg1)
          ∧ r.2.mem ((c.tc : Thread Cert.DwGateReferenceIdeal.nD Cert.DwGateReferenceIdeal.τ).loc Cert.DwGateReferenceIdeal.main_arg2) = m' ((c.tc : Thread Cert.DwGateReferenceIdeal.nD Cert.DwGateReferenceIdeal.τ).loc Cert.DwGateReferenceIdeal.main_arg2))

def preserves_DwDnKernel_DwDnKernelIdeal : Prop :=
  True

def algebraic_DwDnKernelIdeal_DwDnReferenceIdeal [hDwDnKernelIdeal : Cert.DwDnKernelIdeal.Facts] [hDwDnReferenceIdeal : Cert.DwDnReferenceIdeal.Facts] : Prop :=
  ∀ (m : (ℓ : Loc Cert.DwDnKernelIdeal.nD Cert.DwDnKernelIdeal.τ Cert.DwDnKernelIdeal.sig) → Buf (Elt Ideal) ℓ) (g : Dev Cert.DwDnKernelIdeal.nD → PrngReg)
    (m' : (ℓ : Loc Cert.DwDnReferenceIdeal.nD Cert.DwDnReferenceIdeal.τ Cert.DwDnReferenceIdeal.sig) → Buf (Elt Ideal) ℓ) (g' : Dev Cert.DwDnReferenceIdeal.nD → PrngReg), Pre_DwDnKernelIdeal m →
    (∀ c : Dev Cert.DwDnKernelIdeal.nD,
      m' ((c.tc : Thread Cert.DwDnReferenceIdeal.nD Cert.DwDnReferenceIdeal.τ).loc Cert.DwDnReferenceIdeal.main_arg0) = m ((c.tc : Thread Cert.DwDnKernelIdeal.nD Cert.DwDnKernelIdeal.τ).loc Cert.DwDnKernelIdeal.main_arg0)
      ∧ m' ((c.tc : Thread Cert.DwDnReferenceIdeal.nD Cert.DwDnReferenceIdeal.τ).loc Cert.DwDnReferenceIdeal.main_arg1) = m ((c.tc : Thread Cert.DwDnKernelIdeal.nD Cert.DwDnKernelIdeal.τ).loc Cert.DwDnKernelIdeal.main_arg1)
      ∧ m' ((c.tc : Thread Cert.DwDnReferenceIdeal.nD Cert.DwDnReferenceIdeal.τ).loc Cert.DwDnReferenceIdeal.main_arg2) = m ((c.tc : Thread Cert.DwDnKernelIdeal.nD Cert.DwDnKernelIdeal.τ).loc Cert.DwDnKernelIdeal.main_arg2)) →
    ∃ (v0 : (c : Dev Cert.DwDnKernelIdeal.nD) → Buf (Elt Ideal) ((c.tc : Thread Cert.DwDnKernelIdeal.nD Cert.DwDnKernelIdeal.τ).loc Cert.DwDnKernelIdeal.main_v0)),
      θ_run (Cert.DwDnKernelIdeal.defs (F := Ideal)) (onTc (τ := Cert.DwDnKernelIdeal.τ) (Cert.DwDnKernelIdeal.main (F := Ideal))) ⟨m, fun _ => 0, g⟩ (fun r => ∀ c : Dev Cert.DwDnKernelIdeal.nD,
          r.2.mem ((c.tc : Thread Cert.DwDnKernelIdeal.nD Cert.DwDnKernelIdeal.τ).loc Cert.DwDnKernelIdeal.main_v0) = v0 c
          ∧ r.2.mem ((c.tc : Thread Cert.DwDnKernelIdeal.nD Cert.DwDnKernelIdeal.τ).loc Cert.DwDnKernelIdeal.main_arg0) = m ((c.tc : Thread Cert.DwDnKernelIdeal.nD Cert.DwDnKernelIdeal.τ).loc Cert.DwDnKernelIdeal.main_arg0)
          ∧ r.2.mem ((c.tc : Thread Cert.DwDnKernelIdeal.nD Cert.DwDnKernelIdeal.τ).loc Cert.DwDnKernelIdeal.main_arg1) = m ((c.tc : Thread Cert.DwDnKernelIdeal.nD Cert.DwDnKernelIdeal.τ).loc Cert.DwDnKernelIdeal.main_arg1)
          ∧ r.2.mem ((c.tc : Thread Cert.DwDnKernelIdeal.nD Cert.DwDnKernelIdeal.τ).loc Cert.DwDnKernelIdeal.main_arg2) = m ((c.tc : Thread Cert.DwDnKernelIdeal.nD Cert.DwDnKernelIdeal.τ).loc Cert.DwDnKernelIdeal.main_arg2))
      ∧ θ_run (Cert.DwDnReferenceIdeal.defs (F := Ideal)) (onTc (τ := Cert.DwDnReferenceIdeal.τ) (Cert.DwDnReferenceIdeal.main (F := Ideal))) ⟨m', fun _ => 0, g'⟩ (fun r => ∀ c : Dev Cert.DwDnReferenceIdeal.nD,
          r.2.mem ((c.tc : Thread Cert.DwDnReferenceIdeal.nD Cert.DwDnReferenceIdeal.τ).loc Cert.DwDnReferenceIdeal.main_v5) = v0 c
          ∧ r.2.mem ((c.tc : Thread Cert.DwDnReferenceIdeal.nD Cert.DwDnReferenceIdeal.τ).loc Cert.DwDnReferenceIdeal.main_arg0) = m' ((c.tc : Thread Cert.DwDnReferenceIdeal.nD Cert.DwDnReferenceIdeal.τ).loc Cert.DwDnReferenceIdeal.main_arg0)
          ∧ r.2.mem ((c.tc : Thread Cert.DwDnReferenceIdeal.nD Cert.DwDnReferenceIdeal.τ).loc Cert.DwDnReferenceIdeal.main_arg1) = m' ((c.tc : Thread Cert.DwDnReferenceIdeal.nD Cert.DwDnReferenceIdeal.τ).loc Cert.DwDnReferenceIdeal.main_arg1)
          ∧ r.2.mem ((c.tc : Thread Cert.DwDnReferenceIdeal.nD Cert.DwDnReferenceIdeal.τ).loc Cert.DwDnReferenceIdeal.main_arg2) = m' ((c.tc : Thread Cert.DwDnReferenceIdeal.nD Cert.DwDnReferenceIdeal.τ).loc Cert.DwDnReferenceIdeal.main_arg2))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)
      ∧ m' ((c.tc : Thread Cert.FwdReferenceIdeal.nD Cert.FwdReferenceIdeal.τ).loc Cert.FwdReferenceIdeal.main_arg4) = m ((c.tc : Thread Cert.FwdKernelIdeal.nD Cert.FwdKernelIdeal.τ).loc Cert.FwdKernelIdeal.main_arg4)
      ∧ m' ((c.tc : Thread Cert.FwdReferenceIdeal.nD Cert.FwdReferenceIdeal.τ).loc Cert.FwdReferenceIdeal.main_arg5) = m ((c.tc : Thread Cert.FwdKernelIdeal.nD Cert.FwdKernelIdeal.τ).loc Cert.FwdKernelIdeal.main_arg5)
      ∧ m' ((c.tc : Thread Cert.FwdReferenceIdeal.nD Cert.FwdReferenceIdeal.τ).loc Cert.FwdReferenceIdeal.main_arg6) = m ((c.tc : Thread Cert.FwdKernelIdeal.nD Cert.FwdKernelIdeal.τ).loc Cert.FwdKernelIdeal.main_arg6)
      ∧ m' ((c.tc : Thread Cert.FwdReferenceIdeal.nD Cert.FwdReferenceIdeal.τ).loc Cert.FwdReferenceIdeal.main_arg7) = m ((c.tc : Thread Cert.FwdKernelIdeal.nD Cert.FwdKernelIdeal.τ).loc Cert.FwdKernelIdeal.main_arg7)
      ∧ m' ((c.tc : Thread Cert.FwdReferenceIdeal.nD Cert.FwdReferenceIdeal.τ).loc Cert.FwdReferenceIdeal.main_arg8) = m ((c.tc : Thread Cert.FwdKernelIdeal.nD Cert.FwdKernelIdeal.τ).loc Cert.FwdKernelIdeal.main_arg8)
      ∧ m' ((c.tc : Thread Cert.FwdReferenceIdeal.nD Cert.FwdReferenceIdeal.τ).loc Cert.FwdReferenceIdeal.main_arg9) = m ((c.tc : Thread Cert.FwdKernelIdeal.nD Cert.FwdKernelIdeal.τ).loc Cert.FwdKernelIdeal.main_arg9)
      ∧ m' ((c.tc : Thread Cert.FwdReferenceIdeal.nD Cert.FwdReferenceIdeal.τ).loc Cert.FwdReferenceIdeal.main_arg10) = m ((c.tc : Thread Cert.FwdKernelIdeal.nD Cert.FwdKernelIdeal.τ).loc Cert.FwdKernelIdeal.main_arg10)) →
    ∃ (v0 : (c : Dev Cert.FwdKernelIdeal.nD) → Buf (Elt Ideal) ((c.tc : Thread Cert.FwdKernelIdeal.nD Cert.FwdKernelIdeal.τ).loc Cert.FwdKernelIdeal.main_v0_0)) (v1 : (c : Dev Cert.FwdKernelIdeal.nD) → Buf (Elt Ideal) ((c.tc : Thread Cert.FwdKernelIdeal.nD Cert.FwdKernelIdeal.τ).loc Cert.FwdKernelIdeal.main_v0_1)) (v2 : (c : Dev Cert.FwdKernelIdeal.nD) → Buf (Elt Ideal) ((c.tc : Thread Cert.FwdKernelIdeal.nD Cert.FwdKernelIdeal.τ).loc Cert.FwdKernelIdeal.main_v0_2)) (v3 : (c : Dev Cert.FwdKernelIdeal.nD) → Buf (Elt Ideal) ((c.tc : Thread Cert.FwdKernelIdeal.nD Cert.FwdKernelIdeal.τ).loc Cert.FwdKernelIdeal.main_v0_3)) (v4 : (c : Dev Cert.FwdKernelIdeal.nD) → Buf (Elt Ideal) ((c.tc : Thread Cert.FwdKernelIdeal.nD Cert.FwdKernelIdeal.τ).loc Cert.FwdKernelIdeal.main_v1)) (v5 : (c : Dev Cert.FwdKernelIdeal.nD) → Buf (Elt Ideal) ((c.tc : Thread Cert.FwdKernelIdeal.nD Cert.FwdKernelIdeal.τ).loc Cert.FwdKernelIdeal.main_v0_4)) (v6 : (c : Dev Cert.FwdKernelIdeal.nD) → Buf (Elt Ideal) ((c.tc : Thread Cert.FwdKernelIdeal.nD Cert.FwdKernelIdeal.τ).loc Cert.FwdKernelIdeal.main_v0_5)) (v7 : (c : Dev Cert.FwdKernelIdeal.nD) → Buf (Elt Ideal) ((c.tc : Thread Cert.FwdKernelIdeal.nD Cert.FwdKernelIdeal.τ).loc Cert.FwdKernelIdeal.main_v2)) (v8 : (c : Dev Cert.FwdKernelIdeal.nD) → Buf (Elt Ideal) ((c.tc : Thread Cert.FwdKernelIdeal.nD Cert.FwdKernelIdeal.τ).loc Cert.FwdKernelIdeal.main_v0_6)) (v9 : (c : Dev Cert.FwdKernelIdeal.nD) → Buf (Elt Ideal) ((c.tc : Thread Cert.FwdKernelIdeal.nD Cert.FwdKernelIdeal.τ).loc Cert.FwdKernelIdeal.main_v3)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v0_0) = v0 c
          ∧ r.2.mem ((c.tc : Thread Cert.FwdKernelIdeal.nD Cert.FwdKernelIdeal.τ).loc Cert.FwdKernelIdeal.main_v0_1) = v1 c
          ∧ r.2.mem ((c.tc : Thread Cert.FwdKernelIdeal.nD Cert.FwdKernelIdeal.τ).loc Cert.FwdKernelIdeal.main_v0_2) = v2 c
          ∧ r.2.mem ((c.tc : Thread Cert.FwdKernelIdeal.nD Cert.FwdKernelIdeal.τ).loc Cert.FwdKernelIdeal.main_v0_3) = v3 c
          ∧ r.2.mem ((c.tc : Thread Cert.FwdKernelIdeal.nD Cert.FwdKernelIdeal.τ).loc Cert.FwdKernelIdeal.main_v1) = v4 c
          ∧ r.2.mem ((c.tc : Thread Cert.FwdKernelIdeal.nD Cert.FwdKernelIdeal.τ).loc Cert.FwdKernelIdeal.main_v0_4) = v5 c
          ∧ r.2.mem ((c.tc : Thread Cert.FwdKernelIdeal.nD Cert.FwdKernelIdeal.τ).loc Cert.FwdKernelIdeal.main_v0_5) = v6 c
          ∧ r.2.mem ((c.tc : Thread Cert.FwdKernelIdeal.nD Cert.FwdKernelIdeal.τ).loc Cert.FwdKernelIdeal.main_v2) = v7 c
          ∧ r.2.mem ((c.tc : Thread Cert.FwdKernelIdeal.nD Cert.FwdKernelIdeal.τ).loc Cert.FwdKernelIdeal.main_v0_6) = v8 c
          ∧ r.2.mem ((c.tc : Thread Cert.FwdKernelIdeal.nD Cert.FwdKernelIdeal.τ).loc Cert.FwdKernelIdeal.main_v3) = v9 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
          ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
          ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6)
          ∧ r.2.mem ((c.tc : Thread Cert.FwdKernelIdeal.nD Cert.FwdKernelIdeal.τ).loc Cert.FwdKernelIdeal.main_arg7) = m ((c.tc : Thread Cert.FwdKernelIdeal.nD Cert.FwdKernelIdeal.τ).loc Cert.FwdKernelIdeal.main_arg7)
          ∧ r.2.mem ((c.tc : Thread Cert.FwdKernelIdeal.nD Cert.FwdKernelIdeal.τ).loc Cert.FwdKernelIdeal.main_arg8) = m ((c.tc : Thread Cert.FwdKernelIdeal.nD Cert.FwdKernelIdeal.τ).loc Cert.FwdKernelIdeal.main_arg8)
          ∧ r.2.mem ((c.tc : Thread Cert.FwdKernelIdeal.nD Cert.FwdKernelIdeal.τ).loc Cert.FwdKernelIdeal.main_arg9) = m ((c.tc : Thread Cert.FwdKernelIdeal.nD Cert.FwdKernelIdeal.τ).loc Cert.FwdKernelIdeal.main_arg9)
          ∧ r.2.mem ((c.tc : Thread Cert.FwdKernelIdeal.nD Cert.FwdKernelIdeal.τ).loc Cert.FwdKernelIdeal.main_arg10) = m ((c.tc : Thread Cert.FwdKernelIdeal.nD Cert.FwdKernelIdeal.τ).loc Cert.FwdKernelIdeal.main_arg10))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v1) = v0 c
          ∧ r.2.mem ((c.tc : Thread Cert.FwdReferenceIdeal.nD Cert.FwdReferenceIdeal.τ).loc Cert.FwdReferenceIdeal.main_v3) = v1 c
          ∧ r.2.mem ((c.tc : Thread Cert.FwdReferenceIdeal.nD Cert.FwdReferenceIdeal.τ).loc Cert.FwdReferenceIdeal.main_v5) = v2 c
          ∧ r.2.mem ((c.tc : Thread Cert.FwdReferenceIdeal.nD Cert.FwdReferenceIdeal.τ).loc Cert.FwdReferenceIdeal.main_v7) = v3 c
          ∧ r.2.mem ((c.tc : Thread Cert.FwdReferenceIdeal.nD Cert.FwdReferenceIdeal.τ).loc Cert.FwdReferenceIdeal.main_v9) = v4 c
          ∧ r.2.mem ((c.tc : Thread Cert.FwdReferenceIdeal.nD Cert.FwdReferenceIdeal.τ).loc Cert.FwdReferenceIdeal.main_v11) = v5 c
          ∧ r.2.mem ((c.tc : Thread Cert.FwdReferenceIdeal.nD Cert.FwdReferenceIdeal.τ).loc Cert.FwdReferenceIdeal.main_v13) = v6 c
          ∧ r.2.mem ((c.tc : Thread Cert.FwdReferenceIdeal.nD Cert.FwdReferenceIdeal.τ).loc Cert.FwdReferenceIdeal.main_v15) = v7 c
          ∧ r.2.mem ((c.tc : Thread Cert.FwdReferenceIdeal.nD Cert.FwdReferenceIdeal.τ).loc Cert.FwdReferenceIdeal.main_v17) = v8 c
          ∧ r.2.mem ((c.tc : Thread Cert.FwdReferenceIdeal.nD Cert.FwdReferenceIdeal.τ).loc Cert.FwdReferenceIdeal.main_v19) = v9 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5)
          ∧ r.2.mem ((c.tc : Thread Cert.FwdReferenceIdeal.nD Cert.FwdReferenceIdeal.τ).loc Cert.FwdReferenceIdeal.main_arg6) = m' ((c.tc : Thread Cert.FwdReferenceIdeal.nD Cert.FwdReferenceIdeal.τ).loc Cert.FwdReferenceIdeal.main_arg6)
          ∧ r.2.mem ((c.tc : Thread Cert.FwdReferenceIdeal.nD Cert.FwdReferenceIdeal.τ).loc Cert.FwdReferenceIdeal.main_arg7) = m' ((c.tc : Thread Cert.FwdReferenceIdeal.nD Cert.FwdReferenceIdeal.τ).loc Cert.FwdReferenceIdeal.main_arg7)
          ∧ r.2.mem ((c.tc : Thread Cert.FwdReferenceIdeal.nD Cert.FwdReferenceIdeal.τ).loc Cert.FwdReferenceIdeal.main_arg8) = m' ((c.tc : Thread Cert.FwdReferenceIdeal.nD Cert.FwdReferenceIdeal.τ).loc Cert.FwdReferenceIdeal.main_arg8)
          ∧ r.2.mem ((c.tc : Thread Cert.FwdReferenceIdeal.nD Cert.FwdReferenceIdeal.τ).loc Cert.FwdReferenceIdeal.main_arg9) = m' ((c.tc : Thread Cert.FwdReferenceIdeal.nD Cert.FwdReferenceIdeal.τ).loc Cert.FwdReferenceIdeal.main_arg9)
          ∧ r.2.mem ((c.tc : Thread Cert.FwdReferenceIdeal.nD Cert.FwdReferenceIdeal.τ).loc Cert.FwdReferenceIdeal.main_arg10) = m' ((c.tc : Thread Cert.FwdReferenceIdeal.nD Cert.FwdReferenceIdeal.τ).loc Cert.FwdReferenceIdeal.main_arg10))

def preserves_BrFwdKernel_BrFwdKernelIdeal : Prop :=
  True

def algebraic_BrFwdKernelIdeal_BrFwdReferenceIdeal [hBrFwdKernelIdeal : Cert.BrFwdKernelIdeal.Facts] [hBrFwdReferenceIdeal : Cert.BrFwdReferenceIdeal.Facts] : Prop :=
  ∀ (m : (ℓ : Loc Cert.BrFwdKernelIdeal.nD Cert.BrFwdKernelIdeal.τ Cert.BrFwdKernelIdeal.sig) → Buf (Elt Ideal) ℓ) (g : Dev Cert.BrFwdKernelIdeal.nD → PrngReg)
    (m' : (ℓ : Loc Cert.BrFwdReferenceIdeal.nD Cert.BrFwdReferenceIdeal.τ Cert.BrFwdReferenceIdeal.sig) → Buf (Elt Ideal) ℓ) (g' : Dev Cert.BrFwdReferenceIdeal.nD → PrngReg), Pre_BrFwdKernelIdeal m →
    (∀ c : Dev Cert.BrFwdKernelIdeal.nD,
      m' ((c.tc : Thread Cert.BrFwdReferenceIdeal.nD Cert.BrFwdReferenceIdeal.τ).loc Cert.BrFwdReferenceIdeal.main_arg0) = m ((c.tc : Thread Cert.BrFwdKernelIdeal.nD Cert.BrFwdKernelIdeal.τ).loc Cert.BrFwdKernelIdeal.main_arg0)
      ∧ m' ((c.tc : Thread Cert.BrFwdReferenceIdeal.nD Cert.BrFwdReferenceIdeal.τ).loc Cert.BrFwdReferenceIdeal.main_arg1) = m ((c.tc : Thread Cert.BrFwdKernelIdeal.nD Cert.BrFwdKernelIdeal.τ).loc Cert.BrFwdKernelIdeal.main_arg1)) →
    ∃ (v0 : (c : Dev Cert.BrFwdKernelIdeal.nD) → Buf (Elt Ideal) ((c.tc : Thread Cert.BrFwdKernelIdeal.nD Cert.BrFwdKernelIdeal.τ).loc Cert.BrFwdKernelIdeal.main_v0)),
      θ_run (Cert.BrFwdKernelIdeal.defs (F := Ideal)) (onTc (τ := Cert.BrFwdKernelIdeal.τ) (Cert.BrFwdKernelIdeal.main (F := Ideal))) ⟨m, fun _ => 0, g⟩ (fun r => ∀ c : Dev Cert.BrFwdKernelIdeal.nD,
          r.2.mem ((c.tc : Thread Cert.BrFwdKernelIdeal.nD Cert.BrFwdKernelIdeal.τ).loc Cert.BrFwdKernelIdeal.main_v0) = v0 c
          ∧ r.2.mem ((c.tc : Thread Cert.BrFwdKernelIdeal.nD Cert.BrFwdKernelIdeal.τ).loc Cert.BrFwdKernelIdeal.main_arg0) = m ((c.tc : Thread Cert.BrFwdKernelIdeal.nD Cert.BrFwdKernelIdeal.τ).loc Cert.BrFwdKernelIdeal.main_arg0)
          ∧ r.2.mem ((c.tc : Thread Cert.BrFwdKernelIdeal.nD Cert.BrFwdKernelIdeal.τ).loc Cert.BrFwdKernelIdeal.main_arg1) = m ((c.tc : Thread Cert.BrFwdKernelIdeal.nD Cert.BrFwdKernelIdeal.τ).loc Cert.BrFwdKernelIdeal.main_arg1))
      ∧ θ_run (Cert.BrFwdReferenceIdeal.defs (F := Ideal)) (onTc (τ := Cert.BrFwdReferenceIdeal.τ) (Cert.BrFwdReferenceIdeal.main (F := Ideal))) ⟨m', fun _ => 0, g'⟩ (fun r => ∀ c : Dev Cert.BrFwdReferenceIdeal.nD,
          r.2.mem ((c.tc : Thread Cert.BrFwdReferenceIdeal.nD Cert.BrFwdReferenceIdeal.τ).loc Cert.BrFwdReferenceIdeal.main_v0) = v0 c
          ∧ r.2.mem ((c.tc : Thread Cert.BrFwdReferenceIdeal.nD Cert.BrFwdReferenceIdeal.τ).loc Cert.BrFwdReferenceIdeal.main_arg0) = m' ((c.tc : Thread Cert.BrFwdReferenceIdeal.nD Cert.BrFwdReferenceIdeal.τ).loc Cert.BrFwdReferenceIdeal.main_arg0)
          ∧ r.2.mem ((c.tc : Thread Cert.BrFwdReferenceIdeal.nD Cert.BrFwdReferenceIdeal.τ).loc Cert.BrFwdReferenceIdeal.main_arg1) = m' ((c.tc : Thread Cert.BrFwdReferenceIdeal.nD Cert.BrFwdReferenceIdeal.τ).loc Cert.BrFwdReferenceIdeal.main_arg1))

def preserves_BrDhKernel_BrDhKernelIdeal : Prop :=
  True

def algebraic_BrDhKernelIdeal_BrDhReferenceIdeal [hBrDhKernelIdeal : Cert.BrDhKernelIdeal.Facts] [hBrDhReferenceIdeal : Cert.BrDhReferenceIdeal.Facts] : Prop :=
  ∀ (m : (ℓ : Loc Cert.BrDhKernelIdeal.nD Cert.BrDhKernelIdeal.τ Cert.BrDhKernelIdeal.sig) → Buf (Elt Ideal) ℓ) (g : Dev Cert.BrDhKernelIdeal.nD → PrngReg)
    (m' : (ℓ : Loc Cert.BrDhReferenceIdeal.nD Cert.BrDhReferenceIdeal.τ Cert.BrDhReferenceIdeal.sig) → Buf (Elt Ideal) ℓ) (g' : Dev Cert.BrDhReferenceIdeal.nD → PrngReg), Pre_BrDhKernelIdeal m →
    (∀ c : Dev Cert.BrDhKernelIdeal.nD,
      m' ((c.tc : Thread Cert.BrDhReferenceIdeal.nD Cert.BrDhReferenceIdeal.τ).loc Cert.BrDhReferenceIdeal.main_arg0) = m ((c.tc : Thread Cert.BrDhKernelIdeal.nD Cert.BrDhKernelIdeal.τ).loc Cert.BrDhKernelIdeal.main_arg0)
      ∧ m' ((c.tc : Thread Cert.BrDhReferenceIdeal.nD Cert.BrDhReferenceIdeal.τ).loc Cert.BrDhReferenceIdeal.main_arg1) = m ((c.tc : Thread Cert.BrDhKernelIdeal.nD Cert.BrDhKernelIdeal.τ).loc Cert.BrDhKernelIdeal.main_arg1)
      ∧ m' ((c.tc : Thread Cert.BrDhReferenceIdeal.nD Cert.BrDhReferenceIdeal.τ).loc Cert.BrDhReferenceIdeal.main_arg2) = m ((c.tc : Thread Cert.BrDhKernelIdeal.nD Cert.BrDhKernelIdeal.τ).loc Cert.BrDhKernelIdeal.main_arg2)) →
    ∃ (v0 : (c : Dev Cert.BrDhKernelIdeal.nD) → Buf (Elt Ideal) ((c.tc : Thread Cert.BrDhKernelIdeal.nD Cert.BrDhKernelIdeal.τ).loc Cert.BrDhKernelIdeal.main_v0)),
      θ_run (Cert.BrDhKernelIdeal.defs (F := Ideal)) (onTc (τ := Cert.BrDhKernelIdeal.τ) (Cert.BrDhKernelIdeal.main (F := Ideal))) ⟨m, fun _ => 0, g⟩ (fun r => ∀ c : Dev Cert.BrDhKernelIdeal.nD,
          r.2.mem ((c.tc : Thread Cert.BrDhKernelIdeal.nD Cert.BrDhKernelIdeal.τ).loc Cert.BrDhKernelIdeal.main_v0) = v0 c
          ∧ r.2.mem ((c.tc : Thread Cert.BrDhKernelIdeal.nD Cert.BrDhKernelIdeal.τ).loc Cert.BrDhKernelIdeal.main_arg0) = m ((c.tc : Thread Cert.BrDhKernelIdeal.nD Cert.BrDhKernelIdeal.τ).loc Cert.BrDhKernelIdeal.main_arg0)
          ∧ r.2.mem ((c.tc : Thread Cert.BrDhKernelIdeal.nD Cert.BrDhKernelIdeal.τ).loc Cert.BrDhKernelIdeal.main_arg1) = m ((c.tc : Thread Cert.BrDhKernelIdeal.nD Cert.BrDhKernelIdeal.τ).loc Cert.BrDhKernelIdeal.main_arg1)
          ∧ r.2.mem ((c.tc : Thread Cert.BrDhKernelIdeal.nD Cert.BrDhKernelIdeal.τ).loc Cert.BrDhKernelIdeal.main_arg2) = m ((c.tc : Thread Cert.BrDhKernelIdeal.nD Cert.BrDhKernelIdeal.τ).loc Cert.BrDhKernelIdeal.main_arg2))
      ∧ θ_run (Cert.BrDhReferenceIdeal.defs (F := Ideal)) (onTc (τ := Cert.BrDhReferenceIdeal.τ) (Cert.BrDhReferenceIdeal.main (F := Ideal))) ⟨m', fun _ => 0, g'⟩ (fun r => ∀ c : Dev Cert.BrDhReferenceIdeal.nD,
          r.2.mem ((c.tc : Thread Cert.BrDhReferenceIdeal.nD Cert.BrDhReferenceIdeal.τ).loc Cert.BrDhReferenceIdeal.main_v2) = v0 c
          ∧ r.2.mem ((c.tc : Thread Cert.BrDhReferenceIdeal.nD Cert.BrDhReferenceIdeal.τ).loc Cert.BrDhReferenceIdeal.main_arg0) = m' ((c.tc : Thread Cert.BrDhReferenceIdeal.nD Cert.BrDhReferenceIdeal.τ).loc Cert.BrDhReferenceIdeal.main_arg0)
          ∧ r.2.mem ((c.tc : Thread Cert.BrDhReferenceIdeal.nD Cert.BrDhReferenceIdeal.τ).loc Cert.BrDhReferenceIdeal.main_arg1) = m' ((c.tc : Thread Cert.BrDhReferenceIdeal.nD Cert.BrDhReferenceIdeal.τ).loc Cert.BrDhReferenceIdeal.main_arg1)
          ∧ r.2.mem ((c.tc : Thread Cert.BrDhReferenceIdeal.nD Cert.BrDhReferenceIdeal.τ).loc Cert.BrDhReferenceIdeal.main_arg2) = m' ((c.tc : Thread Cert.BrDhReferenceIdeal.nD Cert.BrDhReferenceIdeal.τ).loc Cert.BrDhReferenceIdeal.main_arg2))

def preserves_BrDwKernel_BrDwKernelIdeal : Prop :=
  True

def algebraic_BrDwKernelIdeal_BrDwReferenceIdeal [hBrDwKernelIdeal : Cert.BrDwKernelIdeal.Facts] [hBrDwReferenceIdeal : Cert.BrDwReferenceIdeal.Facts] : Prop :=
  ∀ (m : (ℓ : Loc Cert.BrDwKernelIdeal.nD Cert.BrDwKernelIdeal.τ Cert.BrDwKernelIdeal.sig) → Buf (Elt Ideal) ℓ) (g : Dev Cert.BrDwKernelIdeal.nD → PrngReg)
    (m' : (ℓ : Loc Cert.BrDwReferenceIdeal.nD Cert.BrDwReferenceIdeal.τ Cert.BrDwReferenceIdeal.sig) → Buf (Elt Ideal) ℓ) (g' : Dev Cert.BrDwReferenceIdeal.nD → PrngReg), Pre_BrDwKernelIdeal m →
    (∀ c : Dev Cert.BrDwKernelIdeal.nD,
      m' ((c.tc : Thread Cert.BrDwReferenceIdeal.nD Cert.BrDwReferenceIdeal.τ).loc Cert.BrDwReferenceIdeal.main_arg0) = m ((c.tc : Thread Cert.BrDwKernelIdeal.nD Cert.BrDwKernelIdeal.τ).loc Cert.BrDwKernelIdeal.main_arg0)
      ∧ m' ((c.tc : Thread Cert.BrDwReferenceIdeal.nD Cert.BrDwReferenceIdeal.τ).loc Cert.BrDwReferenceIdeal.main_arg1) = m ((c.tc : Thread Cert.BrDwKernelIdeal.nD Cert.BrDwKernelIdeal.τ).loc Cert.BrDwKernelIdeal.main_arg1)
      ∧ m' ((c.tc : Thread Cert.BrDwReferenceIdeal.nD Cert.BrDwReferenceIdeal.τ).loc Cert.BrDwReferenceIdeal.main_arg2) = m ((c.tc : Thread Cert.BrDwKernelIdeal.nD Cert.BrDwKernelIdeal.τ).loc Cert.BrDwKernelIdeal.main_arg2)) →
    ∃ (v0 : (c : Dev Cert.BrDwKernelIdeal.nD) → Buf (Elt Ideal) ((c.tc : Thread Cert.BrDwKernelIdeal.nD Cert.BrDwKernelIdeal.τ).loc Cert.BrDwKernelIdeal.main_v0)),
      θ_run (Cert.BrDwKernelIdeal.defs (F := Ideal)) (onTc (τ := Cert.BrDwKernelIdeal.τ) (Cert.BrDwKernelIdeal.main (F := Ideal))) ⟨m, fun _ => 0, g⟩ (fun r => ∀ c : Dev Cert.BrDwKernelIdeal.nD,
          r.2.mem ((c.tc : Thread Cert.BrDwKernelIdeal.nD Cert.BrDwKernelIdeal.τ).loc Cert.BrDwKernelIdeal.main_v0) = v0 c
          ∧ r.2.mem ((c.tc : Thread Cert.BrDwKernelIdeal.nD Cert.BrDwKernelIdeal.τ).loc Cert.BrDwKernelIdeal.main_arg0) = m ((c.tc : Thread Cert.BrDwKernelIdeal.nD Cert.BrDwKernelIdeal.τ).loc Cert.BrDwKernelIdeal.main_arg0)
          ∧ r.2.mem ((c.tc : Thread Cert.BrDwKernelIdeal.nD Cert.BrDwKernelIdeal.τ).loc Cert.BrDwKernelIdeal.main_arg1) = m ((c.tc : Thread Cert.BrDwKernelIdeal.nD Cert.BrDwKernelIdeal.τ).loc Cert.BrDwKernelIdeal.main_arg1)
          ∧ r.2.mem ((c.tc : Thread Cert.BrDwKernelIdeal.nD Cert.BrDwKernelIdeal.τ).loc Cert.BrDwKernelIdeal.main_arg2) = m ((c.tc : Thread Cert.BrDwKernelIdeal.nD Cert.BrDwKernelIdeal.τ).loc Cert.BrDwKernelIdeal.main_arg2))
      ∧ θ_run (Cert.BrDwReferenceIdeal.defs (F := Ideal)) (onTc (τ := Cert.BrDwReferenceIdeal.τ) (Cert.BrDwReferenceIdeal.main (F := Ideal))) ⟨m', fun _ => 0, g'⟩ (fun r => ∀ c : Dev Cert.BrDwReferenceIdeal.nD,
          r.2.mem ((c.tc : Thread Cert.BrDwReferenceIdeal.nD Cert.BrDwReferenceIdeal.τ).loc Cert.BrDwReferenceIdeal.main_v3) = v0 c
          ∧ r.2.mem ((c.tc : Thread Cert.BrDwReferenceIdeal.nD Cert.BrDwReferenceIdeal.τ).loc Cert.BrDwReferenceIdeal.main_arg0) = m' ((c.tc : Thread Cert.BrDwReferenceIdeal.nD Cert.BrDwReferenceIdeal.τ).loc Cert.BrDwReferenceIdeal.main_arg0)
          ∧ r.2.mem ((c.tc : Thread Cert.BrDwReferenceIdeal.nD Cert.BrDwReferenceIdeal.τ).loc Cert.BrDwReferenceIdeal.main_arg1) = m' ((c.tc : Thread Cert.BrDwReferenceIdeal.nD Cert.BrDwReferenceIdeal.τ).loc Cert.BrDwReferenceIdeal.main_arg1)
          ∧ r.2.mem ((c.tc : Thread Cert.BrDwReferenceIdeal.nD Cert.BrDwReferenceIdeal.τ).loc Cert.BrDwReferenceIdeal.main_arg2) = m' ((c.tc : Thread Cert.BrDwReferenceIdeal.nD Cert.BrDwReferenceIdeal.τ).loc Cert.BrDwReferenceIdeal.main_arg2))

def preserves_OutFwdKernel_OutFwdKernelIdeal : Prop :=
  True

def algebraic_OutFwdKernelIdeal_OutFwdReferenceIdeal [hOutFwdKernelIdeal : Cert.OutFwdKernelIdeal.Facts] [hOutFwdReferenceIdeal : Cert.OutFwdReferenceIdeal.Facts] : Prop :=
  ∀ (m : (ℓ : Loc Cert.OutFwdKernelIdeal.nD Cert.OutFwdKernelIdeal.τ Cert.OutFwdKernelIdeal.sig) → Buf (Elt Ideal) ℓ) (g : Dev Cert.OutFwdKernelIdeal.nD → PrngReg)
    (m' : (ℓ : Loc Cert.OutFwdReferenceIdeal.nD Cert.OutFwdReferenceIdeal.τ Cert.OutFwdReferenceIdeal.sig) → Buf (Elt Ideal) ℓ) (g' : Dev Cert.OutFwdReferenceIdeal.nD → PrngReg), Pre_OutFwdKernelIdeal m →
    (∀ c : Dev Cert.OutFwdKernelIdeal.nD,
      m' ((c.tc : Thread Cert.OutFwdReferenceIdeal.nD Cert.OutFwdReferenceIdeal.τ).loc Cert.OutFwdReferenceIdeal.main_arg0) = m ((c.tc : Thread Cert.OutFwdKernelIdeal.nD Cert.OutFwdKernelIdeal.τ).loc Cert.OutFwdKernelIdeal.main_arg0)
      ∧ m' ((c.tc : Thread Cert.OutFwdReferenceIdeal.nD Cert.OutFwdReferenceIdeal.τ).loc Cert.OutFwdReferenceIdeal.main_arg1) = m ((c.tc : Thread Cert.OutFwdKernelIdeal.nD Cert.OutFwdKernelIdeal.τ).loc Cert.OutFwdKernelIdeal.main_arg1)
      ∧ m' ((c.tc : Thread Cert.OutFwdReferenceIdeal.nD Cert.OutFwdReferenceIdeal.τ).loc Cert.OutFwdReferenceIdeal.main_arg2) = m ((c.tc : Thread Cert.OutFwdKernelIdeal.nD Cert.OutFwdKernelIdeal.τ).loc Cert.OutFwdKernelIdeal.main_arg2)) →
    ∃ (v0 : (c : Dev Cert.OutFwdKernelIdeal.nD) → Buf (Elt Ideal) ((c.tc : Thread Cert.OutFwdKernelIdeal.nD Cert.OutFwdKernelIdeal.τ).loc Cert.OutFwdKernelIdeal.main_v0)),
      θ_run (Cert.OutFwdKernelIdeal.defs (F := Ideal)) (onTc (τ := Cert.OutFwdKernelIdeal.τ) (Cert.OutFwdKernelIdeal.main (F := Ideal))) ⟨m, fun _ => 0, g⟩ (fun r => ∀ c : Dev Cert.OutFwdKernelIdeal.nD,
          r.2.mem ((c.tc : Thread Cert.OutFwdKernelIdeal.nD Cert.OutFwdKernelIdeal.τ).loc Cert.OutFwdKernelIdeal.main_v0) = v0 c
          ∧ r.2.mem ((c.tc : Thread Cert.OutFwdKernelIdeal.nD Cert.OutFwdKernelIdeal.τ).loc Cert.OutFwdKernelIdeal.main_arg0) = m ((c.tc : Thread Cert.OutFwdKernelIdeal.nD Cert.OutFwdKernelIdeal.τ).loc Cert.OutFwdKernelIdeal.main_arg0)
          ∧ r.2.mem ((c.tc : Thread Cert.OutFwdKernelIdeal.nD Cert.OutFwdKernelIdeal.τ).loc Cert.OutFwdKernelIdeal.main_arg1) = m ((c.tc : Thread Cert.OutFwdKernelIdeal.nD Cert.OutFwdKernelIdeal.τ).loc Cert.OutFwdKernelIdeal.main_arg1)
          ∧ r.2.mem ((c.tc : Thread Cert.OutFwdKernelIdeal.nD Cert.OutFwdKernelIdeal.τ).loc Cert.OutFwdKernelIdeal.main_arg2) = m ((c.tc : Thread Cert.OutFwdKernelIdeal.nD Cert.OutFwdKernelIdeal.τ).loc Cert.OutFwdKernelIdeal.main_arg2))
      ∧ θ_run (Cert.OutFwdReferenceIdeal.defs (F := Ideal)) (onTc (τ := Cert.OutFwdReferenceIdeal.τ) (Cert.OutFwdReferenceIdeal.main (F := Ideal))) ⟨m', fun _ => 0, g'⟩ (fun r => ∀ c : Dev Cert.OutFwdReferenceIdeal.nD,
          r.2.mem ((c.tc : Thread Cert.OutFwdReferenceIdeal.nD Cert.OutFwdReferenceIdeal.τ).loc Cert.OutFwdReferenceIdeal.main_v1) = v0 c
          ∧ r.2.mem ((c.tc : Thread Cert.OutFwdReferenceIdeal.nD Cert.OutFwdReferenceIdeal.τ).loc Cert.OutFwdReferenceIdeal.main_arg0) = m' ((c.tc : Thread Cert.OutFwdReferenceIdeal.nD Cert.OutFwdReferenceIdeal.τ).loc Cert.OutFwdReferenceIdeal.main_arg0)
          ∧ r.2.mem ((c.tc : Thread Cert.OutFwdReferenceIdeal.nD Cert.OutFwdReferenceIdeal.τ).loc Cert.OutFwdReferenceIdeal.main_arg1) = m' ((c.tc : Thread Cert.OutFwdReferenceIdeal.nD Cert.OutFwdReferenceIdeal.τ).loc Cert.OutFwdReferenceIdeal.main_arg1)
          ∧ r.2.mem ((c.tc : Thread Cert.OutFwdReferenceIdeal.nD Cert.OutFwdReferenceIdeal.τ).loc Cert.OutFwdReferenceIdeal.main_arg2) = m' ((c.tc : Thread Cert.OutFwdReferenceIdeal.nD Cert.OutFwdReferenceIdeal.τ).loc Cert.OutFwdReferenceIdeal.main_arg2))

def preserves_OutDhKernel_OutDhKernelIdeal : Prop :=
  True

def algebraic_OutDhKernelIdeal_OutDhReferenceIdeal [hOutDhKernelIdeal : Cert.OutDhKernelIdeal.Facts] [hOutDhReferenceIdeal : Cert.OutDhReferenceIdeal.Facts] : Prop :=
  ∀ (m : (ℓ : Loc Cert.OutDhKernelIdeal.nD Cert.OutDhKernelIdeal.τ Cert.OutDhKernelIdeal.sig) → Buf (Elt Ideal) ℓ) (g : Dev Cert.OutDhKernelIdeal.nD → PrngReg)
    (m' : (ℓ : Loc Cert.OutDhReferenceIdeal.nD Cert.OutDhReferenceIdeal.τ Cert.OutDhReferenceIdeal.sig) → Buf (Elt Ideal) ℓ) (g' : Dev Cert.OutDhReferenceIdeal.nD → PrngReg), Pre_OutDhKernelIdeal m →
    (∀ c : Dev Cert.OutDhKernelIdeal.nD,
      m' ((c.tc : Thread Cert.OutDhReferenceIdeal.nD Cert.OutDhReferenceIdeal.τ).loc Cert.OutDhReferenceIdeal.main_arg0) = m ((c.tc : Thread Cert.OutDhKernelIdeal.nD Cert.OutDhKernelIdeal.τ).loc Cert.OutDhKernelIdeal.main_arg0)
      ∧ m' ((c.tc : Thread Cert.OutDhReferenceIdeal.nD Cert.OutDhReferenceIdeal.τ).loc Cert.OutDhReferenceIdeal.main_arg1) = m ((c.tc : Thread Cert.OutDhKernelIdeal.nD Cert.OutDhKernelIdeal.τ).loc Cert.OutDhKernelIdeal.main_arg1)
      ∧ m' ((c.tc : Thread Cert.OutDhReferenceIdeal.nD Cert.OutDhReferenceIdeal.τ).loc Cert.OutDhReferenceIdeal.main_arg2) = m ((c.tc : Thread Cert.OutDhKernelIdeal.nD Cert.OutDhKernelIdeal.τ).loc Cert.OutDhKernelIdeal.main_arg2)) →
    ∃ (v0 : (c : Dev Cert.OutDhKernelIdeal.nD) → Buf (Elt Ideal) ((c.tc : Thread Cert.OutDhKernelIdeal.nD Cert.OutDhKernelIdeal.τ).loc Cert.OutDhKernelIdeal.main_v0)),
      θ_run (Cert.OutDhKernelIdeal.defs (F := Ideal)) (onTc (τ := Cert.OutDhKernelIdeal.τ) (Cert.OutDhKernelIdeal.main (F := Ideal))) ⟨m, fun _ => 0, g⟩ (fun r => ∀ c : Dev Cert.OutDhKernelIdeal.nD,
          r.2.mem ((c.tc : Thread Cert.OutDhKernelIdeal.nD Cert.OutDhKernelIdeal.τ).loc Cert.OutDhKernelIdeal.main_v0) = v0 c
          ∧ r.2.mem ((c.tc : Thread Cert.OutDhKernelIdeal.nD Cert.OutDhKernelIdeal.τ).loc Cert.OutDhKernelIdeal.main_arg0) = m ((c.tc : Thread Cert.OutDhKernelIdeal.nD Cert.OutDhKernelIdeal.τ).loc Cert.OutDhKernelIdeal.main_arg0)
          ∧ r.2.mem ((c.tc : Thread Cert.OutDhKernelIdeal.nD Cert.OutDhKernelIdeal.τ).loc Cert.OutDhKernelIdeal.main_arg1) = m ((c.tc : Thread Cert.OutDhKernelIdeal.nD Cert.OutDhKernelIdeal.τ).loc Cert.OutDhKernelIdeal.main_arg1)
          ∧ r.2.mem ((c.tc : Thread Cert.OutDhKernelIdeal.nD Cert.OutDhKernelIdeal.τ).loc Cert.OutDhKernelIdeal.main_arg2) = m ((c.tc : Thread Cert.OutDhKernelIdeal.nD Cert.OutDhKernelIdeal.τ).loc Cert.OutDhKernelIdeal.main_arg2))
      ∧ θ_run (Cert.OutDhReferenceIdeal.defs (F := Ideal)) (onTc (τ := Cert.OutDhReferenceIdeal.τ) (Cert.OutDhReferenceIdeal.main (F := Ideal))) ⟨m', fun _ => 0, g'⟩ (fun r => ∀ c : Dev Cert.OutDhReferenceIdeal.nD,
          r.2.mem ((c.tc : Thread Cert.OutDhReferenceIdeal.nD Cert.OutDhReferenceIdeal.τ).loc Cert.OutDhReferenceIdeal.main_v2) = v0 c
          ∧ r.2.mem ((c.tc : Thread Cert.OutDhReferenceIdeal.nD Cert.OutDhReferenceIdeal.τ).loc Cert.OutDhReferenceIdeal.main_arg0) = m' ((c.tc : Thread Cert.OutDhReferenceIdeal.nD Cert.OutDhReferenceIdeal.τ).loc Cert.OutDhReferenceIdeal.main_arg0)
          ∧ r.2.mem ((c.tc : Thread Cert.OutDhReferenceIdeal.nD Cert.OutDhReferenceIdeal.τ).loc Cert.OutDhReferenceIdeal.main_arg1) = m' ((c.tc : Thread Cert.OutDhReferenceIdeal.nD Cert.OutDhReferenceIdeal.τ).loc Cert.OutDhReferenceIdeal.main_arg1)
          ∧ r.2.mem ((c.tc : Thread Cert.OutDhReferenceIdeal.nD Cert.OutDhReferenceIdeal.τ).loc Cert.OutDhReferenceIdeal.main_arg2) = m' ((c.tc : Thread Cert.OutDhReferenceIdeal.nD Cert.OutDhReferenceIdeal.τ).loc Cert.OutDhReferenceIdeal.main_arg2))

def preserves_OutDwKernel_OutDwKernelIdeal : Prop :=
  True

def algebraic_OutDwKernelIdeal_OutDwReferenceIdeal [hOutDwKernelIdeal : Cert.OutDwKernelIdeal.Facts] [hOutDwReferenceIdeal : Cert.OutDwReferenceIdeal.Facts] : Prop :=
  ∀ (m : (ℓ : Loc Cert.OutDwKernelIdeal.nD Cert.OutDwKernelIdeal.τ Cert.OutDwKernelIdeal.sig) → Buf (Elt Ideal) ℓ) (g : Dev Cert.OutDwKernelIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwKernelIdeal m →
    (∀ c : Dev Cert.OutDwKernelIdeal.nD,
      m' ((c.tc : Thread Cert.OutDwReferenceIdeal.nD Cert.OutDwReferenceIdeal.τ).loc Cert.OutDwReferenceIdeal.main_arg0) = m ((c.tc : Thread Cert.OutDwKernelIdeal.nD Cert.OutDwKernelIdeal.τ).loc Cert.OutDwKernelIdeal.main_arg0)
      ∧ m' ((c.tc : Thread Cert.OutDwReferenceIdeal.nD Cert.OutDwReferenceIdeal.τ).loc Cert.OutDwReferenceIdeal.main_arg1) = m ((c.tc : Thread Cert.OutDwKernelIdeal.nD Cert.OutDwKernelIdeal.τ).loc Cert.OutDwKernelIdeal.main_arg1)
      ∧ m' ((c.tc : Thread Cert.OutDwReferenceIdeal.nD Cert.OutDwReferenceIdeal.τ).loc Cert.OutDwReferenceIdeal.main_arg2) = m ((c.tc : Thread Cert.OutDwKernelIdeal.nD Cert.OutDwKernelIdeal.τ).loc Cert.OutDwKernelIdeal.main_arg2)) →
    ∃ (v0 : (c : Dev Cert.OutDwKernelIdeal.nD) → Buf (Elt Ideal) ((c.tc : Thread Cert.OutDwKernelIdeal.nD Cert.OutDwKernelIdeal.τ).loc Cert.OutDwKernelIdeal.main_v0)),
      θ_run (Cert.OutDwKernelIdeal.defs (F := Ideal)) (onTc (τ := Cert.OutDwKernelIdeal.τ) (Cert.OutDwKernelIdeal.main (F := Ideal))) ⟨m, fun _ => 0, g⟩ (fun r => ∀ c : Dev Cert.OutDwKernelIdeal.nD,
          r.2.mem ((c.tc : Thread Cert.OutDwKernelIdeal.nD Cert.OutDwKernelIdeal.τ).loc Cert.OutDwKernelIdeal.main_v0) = v0 c
          ∧ r.2.mem ((c.tc : Thread Cert.OutDwKernelIdeal.nD Cert.OutDwKernelIdeal.τ).loc Cert.OutDwKernelIdeal.main_arg0) = m ((c.tc : Thread Cert.OutDwKernelIdeal.nD Cert.OutDwKernelIdeal.τ).loc Cert.OutDwKernelIdeal.main_arg0)
          ∧ r.2.mem ((c.tc : Thread Cert.OutDwKernelIdeal.nD Cert.OutDwKernelIdeal.τ).loc Cert.OutDwKernelIdeal.main_arg1) = m ((c.tc : Thread Cert.OutDwKernelIdeal.nD Cert.OutDwKernelIdeal.τ).loc Cert.OutDwKernelIdeal.main_arg1)
          ∧ r.2.mem ((c.tc : Thread Cert.OutDwKernelIdeal.nD Cert.OutDwKernelIdeal.τ).loc Cert.OutDwKernelIdeal.main_arg2) = m ((c.tc : Thread Cert.OutDwKernelIdeal.nD Cert.OutDwKernelIdeal.τ).loc Cert.OutDwKernelIdeal.main_arg2))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v3) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1)
          ∧ r.2.mem ((c.tc : Thread Cert.OutDwReferenceIdeal.nD Cert.OutDwReferenceIdeal.τ).loc Cert.OutDwReferenceIdeal.main_arg2) = m' ((c.tc : Thread Cert.OutDwReferenceIdeal.nD Cert.OutDwReferenceIdeal.τ).loc Cert.OutDwReferenceIdeal.main_arg2))

def preserves_QbFwdKernel_QbFwdKernelIdeal : Prop :=
  True

def algebraic_QbFwdKernelIdeal_QbFwdReferenceIdeal [hQbFwdKernelIdeal : Cert.QbFwdKernelIdeal.Facts] [hQbFwdReferenceIdeal : Cert.QbFwdReferenceIdeal.Facts] : Prop :=
  ∀ (m : (ℓ : Loc Cert.QbFwdKernelIdeal.nD Cert.QbFwdKernelIdeal.τ Cert.QbFwdKernelIdeal.sig) → Buf (Elt Ideal) ℓ) (g : Dev Cert.QbFwdKernelIdeal.nD → PrngReg)
    (m' : (ℓ : Loc Cert.QbFwdReferenceIdeal.nD Cert.QbFwdReferenceIdeal.τ Cert.QbFwdReferenceIdeal.sig) → Buf (Elt Ideal) ℓ) (g' : Dev Cert.QbFwdReferenceIdeal.nD → PrngReg), Pre_QbFwdKernelIdeal m →
    (∀ c : Dev Cert.QbFwdKernelIdeal.nD,
      m' ((c.tc : Thread Cert.QbFwdReferenceIdeal.nD Cert.QbFwdReferenceIdeal.τ).loc Cert.QbFwdReferenceIdeal.main_arg0) = m ((c.tc : Thread Cert.QbFwdKernelIdeal.nD Cert.QbFwdKernelIdeal.τ).loc Cert.QbFwdKernelIdeal.main_arg0)
      ∧ m' ((c.tc : Thread Cert.QbFwdReferenceIdeal.nD Cert.QbFwdReferenceIdeal.τ).loc Cert.QbFwdReferenceIdeal.main_arg1) = m ((c.tc : Thread Cert.QbFwdKernelIdeal.nD Cert.QbFwdKernelIdeal.τ).loc Cert.QbFwdKernelIdeal.main_arg1)) →
    ∃ (v0 : (c : Dev Cert.QbFwdKernelIdeal.nD) → Buf (Elt Ideal) ((c.tc : Thread Cert.QbFwdKernelIdeal.nD Cert.QbFwdKernelIdeal.τ).loc Cert.QbFwdKernelIdeal.main_v0)),
      θ_run (Cert.QbFwdKernelIdeal.defs (F := Ideal)) (onTc (τ := Cert.QbFwdKernelIdeal.τ) (Cert.QbFwdKernelIdeal.main (F := Ideal))) ⟨m, fun _ => 0, g⟩ (fun r => ∀ c : Dev Cert.QbFwdKernelIdeal.nD,
          r.2.mem ((c.tc : Thread Cert.QbFwdKernelIdeal.nD Cert.QbFwdKernelIdeal.τ).loc Cert.QbFwdKernelIdeal.main_v0) = v0 c
          ∧ r.2.mem ((c.tc : Thread Cert.QbFwdKernelIdeal.nD Cert.QbFwdKernelIdeal.τ).loc Cert.QbFwdKernelIdeal.main_arg0) = m ((c.tc : Thread Cert.QbFwdKernelIdeal.nD Cert.QbFwdKernelIdeal.τ).loc Cert.QbFwdKernelIdeal.main_arg0)
          ∧ r.2.mem ((c.tc : Thread Cert.QbFwdKernelIdeal.nD Cert.QbFwdKernelIdeal.τ).loc Cert.QbFwdKernelIdeal.main_arg1) = m ((c.tc : Thread Cert.QbFwdKernelIdeal.nD Cert.QbFwdKernelIdeal.τ).loc Cert.QbFwdKernelIdeal.main_arg1))
      ∧ θ_run (Cert.QbFwdReferenceIdeal.defs (F := Ideal)) (onTc (τ := Cert.QbFwdReferenceIdeal.τ) (Cert.QbFwdReferenceIdeal.main (F := Ideal))) ⟨m', fun _ => 0, g'⟩ (fun r => ∀ c : Dev Cert.QbFwdReferenceIdeal.nD,
          r.2.mem ((c.tc : Thread Cert.QbFwdReferenceIdeal.nD Cert.QbFwdReferenceIdeal.τ).loc Cert.QbFwdReferenceIdeal.main_v0) = v0 c
          ∧ r.2.mem ((c.tc : Thread Cert.QbFwdReferenceIdeal.nD Cert.QbFwdReferenceIdeal.τ).loc Cert.QbFwdReferenceIdeal.main_arg0) = m' ((c.tc : Thread Cert.QbFwdReferenceIdeal.nD Cert.QbFwdReferenceIdeal.τ).loc Cert.QbFwdReferenceIdeal.main_arg0)
          ∧ r.2.mem ((c.tc : Thread Cert.QbFwdReferenceIdeal.nD Cert.QbFwdReferenceIdeal.τ).loc Cert.QbFwdReferenceIdeal.main_arg1) = m' ((c.tc : Thread Cert.QbFwdReferenceIdeal.nD Cert.QbFwdReferenceIdeal.τ).loc Cert.QbFwdReferenceIdeal.main_arg1))

def preserves_QbDhKernel_QbDhKernelIdeal : Prop :=
  True

def algebraic_QbDhKernelIdeal_QbDhReferenceIdeal [hQbDhKernelIdeal : Cert.QbDhKernelIdeal.Facts] [hQbDhReferenceIdeal : Cert.QbDhReferenceIdeal.Facts] : Prop :=
  ∀ (m : (ℓ : Loc Cert.QbDhKernelIdeal.nD Cert.QbDhKernelIdeal.τ Cert.QbDhKernelIdeal.sig) → Buf (Elt Ideal) ℓ) (g : Dev Cert.QbDhKernelIdeal.nD → PrngReg)
    (m' : (ℓ : Loc Cert.QbDhReferenceIdeal.nD Cert.QbDhReferenceIdeal.τ Cert.QbDhReferenceIdeal.sig) → Buf (Elt Ideal) ℓ) (g' : Dev Cert.QbDhReferenceIdeal.nD → PrngReg), Pre_QbDhKernelIdeal m →
    (∀ c : Dev Cert.QbDhKernelIdeal.nD,
      m' ((c.tc : Thread Cert.QbDhReferenceIdeal.nD Cert.QbDhReferenceIdeal.τ).loc Cert.QbDhReferenceIdeal.main_arg0) = m ((c.tc : Thread Cert.QbDhKernelIdeal.nD Cert.QbDhKernelIdeal.τ).loc Cert.QbDhKernelIdeal.main_arg0)
      ∧ m' ((c.tc : Thread Cert.QbDhReferenceIdeal.nD Cert.QbDhReferenceIdeal.τ).loc Cert.QbDhReferenceIdeal.main_arg1) = m ((c.tc : Thread Cert.QbDhKernelIdeal.nD Cert.QbDhKernelIdeal.τ).loc Cert.QbDhKernelIdeal.main_arg1)
      ∧ m' ((c.tc : Thread Cert.QbDhReferenceIdeal.nD Cert.QbDhReferenceIdeal.τ).loc Cert.QbDhReferenceIdeal.main_arg2) = m ((c.tc : Thread Cert.QbDhKernelIdeal.nD Cert.QbDhKernelIdeal.τ).loc Cert.QbDhKernelIdeal.main_arg2)) →
    ∃ (v0 : (c : Dev Cert.QbDhKernelIdeal.nD) → Buf (Elt Ideal) ((c.tc : Thread Cert.QbDhKernelIdeal.nD Cert.QbDhKernelIdeal.τ).loc Cert.QbDhKernelIdeal.main_v0)),
      θ_run (Cert.QbDhKernelIdeal.defs (F := Ideal)) (onTc (τ := Cert.QbDhKernelIdeal.τ) (Cert.QbDhKernelIdeal.main (F := Ideal))) ⟨m, fun _ => 0, g⟩ (fun r => ∀ c : Dev Cert.QbDhKernelIdeal.nD,
          r.2.mem ((c.tc : Thread Cert.QbDhKernelIdeal.nD Cert.QbDhKernelIdeal.τ).loc Cert.QbDhKernelIdeal.main_v0) = v0 c
          ∧ r.2.mem ((c.tc : Thread Cert.QbDhKernelIdeal.nD Cert.QbDhKernelIdeal.τ).loc Cert.QbDhKernelIdeal.main_arg0) = m ((c.tc : Thread Cert.QbDhKernelIdeal.nD Cert.QbDhKernelIdeal.τ).loc Cert.QbDhKernelIdeal.main_arg0)
          ∧ r.2.mem ((c.tc : Thread Cert.QbDhKernelIdeal.nD Cert.QbDhKernelIdeal.τ).loc Cert.QbDhKernelIdeal.main_arg1) = m ((c.tc : Thread Cert.QbDhKernelIdeal.nD Cert.QbDhKernelIdeal.τ).loc Cert.QbDhKernelIdeal.main_arg1)
          ∧ r.2.mem ((c.tc : Thread Cert.QbDhKernelIdeal.nD Cert.QbDhKernelIdeal.τ).loc Cert.QbDhKernelIdeal.main_arg2) = m ((c.tc : Thread Cert.QbDhKernelIdeal.nD Cert.QbDhKernelIdeal.τ).loc Cert.QbDhKernelIdeal.main_arg2))
      ∧ θ_run (Cert.QbDhReferenceIdeal.defs (F := Ideal)) (onTc (τ := Cert.QbDhReferenceIdeal.τ) (Cert.QbDhReferenceIdeal.main (F := Ideal))) ⟨m', fun _ => 0, g'⟩ (fun r => ∀ c : Dev Cert.QbDhReferenceIdeal.nD,
          r.2.mem ((c.tc : Thread Cert.QbDhReferenceIdeal.nD Cert.QbDhReferenceIdeal.τ).loc Cert.QbDhReferenceIdeal.main_v2) = v0 c
          ∧ r.2.mem ((c.tc : Thread Cert.QbDhReferenceIdeal.nD Cert.QbDhReferenceIdeal.τ).loc Cert.QbDhReferenceIdeal.main_arg0) = m' ((c.tc : Thread Cert.QbDhReferenceIdeal.nD Cert.QbDhReferenceIdeal.τ).loc Cert.QbDhReferenceIdeal.main_arg0)
          ∧ r.2.mem ((c.tc : Thread Cert.QbDhReferenceIdeal.nD Cert.QbDhReferenceIdeal.τ).loc Cert.QbDhReferenceIdeal.main_arg1) = m' ((c.tc : Thread Cert.QbDhReferenceIdeal.nD Cert.QbDhReferenceIdeal.τ).loc Cert.QbDhReferenceIdeal.main_arg1)
          ∧ r.2.mem ((c.tc : Thread Cert.QbDhReferenceIdeal.nD Cert.QbDhReferenceIdeal.τ).loc Cert.QbDhReferenceIdeal.main_arg2) = m' ((c.tc : Thread Cert.QbDhReferenceIdeal.nD Cert.QbDhReferenceIdeal.τ).loc Cert.QbDhReferenceIdeal.main_arg2))

def preserves_QbDwKernel_QbDwKernelIdeal : Prop :=
  True

def algebraic_QbDwKernelIdeal_QbDwReferenceIdeal [hQbDwKernelIdeal : Cert.QbDwKernelIdeal.Facts] [hQbDwReferenceIdeal : Cert.QbDwReferenceIdeal.Facts] : Prop :=
  ∀ (m : (ℓ : Loc Cert.QbDwKernelIdeal.nD Cert.QbDwKernelIdeal.τ Cert.QbDwKernelIdeal.sig) → Buf (Elt Ideal) ℓ) (g : Dev Cert.QbDwKernelIdeal.nD → PrngReg)
    (m' : (ℓ : Loc Cert.QbDwReferenceIdeal.nD Cert.QbDwReferenceIdeal.τ Cert.QbDwReferenceIdeal.sig) → Buf (Elt Ideal) ℓ) (g' : Dev Cert.QbDwReferenceIdeal.nD → PrngReg), Pre_QbDwKernelIdeal m →
    (∀ c : Dev Cert.QbDwKernelIdeal.nD,
      m' ((c.tc : Thread Cert.QbDwReferenceIdeal.nD Cert.QbDwReferenceIdeal.τ).loc Cert.QbDwReferenceIdeal.main_arg0) = m ((c.tc : Thread Cert.QbDwKernelIdeal.nD Cert.QbDwKernelIdeal.τ).loc Cert.QbDwKernelIdeal.main_arg0)
      ∧ m' ((c.tc : Thread Cert.QbDwReferenceIdeal.nD Cert.QbDwReferenceIdeal.τ).loc Cert.QbDwReferenceIdeal.main_arg1) = m ((c.tc : Thread Cert.QbDwKernelIdeal.nD Cert.QbDwKernelIdeal.τ).loc Cert.QbDwKernelIdeal.main_arg1)
      ∧ m' ((c.tc : Thread Cert.QbDwReferenceIdeal.nD Cert.QbDwReferenceIdeal.τ).loc Cert.QbDwReferenceIdeal.main_arg2) = m ((c.tc : Thread Cert.QbDwKernelIdeal.nD Cert.QbDwKernelIdeal.τ).loc Cert.QbDwKernelIdeal.main_arg2)) →
    ∃ (v0 : (c : Dev Cert.QbDwKernelIdeal.nD) → Buf (Elt Ideal) ((c.tc : Thread Cert.QbDwKernelIdeal.nD Cert.QbDwKernelIdeal.τ).loc Cert.QbDwKernelIdeal.main_v0)),
      θ_run (Cert.QbDwKernelIdeal.defs (F := Ideal)) (onTc (τ := Cert.QbDwKernelIdeal.τ) (Cert.QbDwKernelIdeal.main (F := Ideal))) ⟨m, fun _ => 0, g⟩ (fun r => ∀ c : Dev Cert.QbDwKernelIdeal.nD,
          r.2.mem ((c.tc : Thread Cert.QbDwKernelIdeal.nD Cert.QbDwKernelIdeal.τ).loc Cert.QbDwKernelIdeal.main_v0) = v0 c
          ∧ r.2.mem ((c.tc : Thread Cert.QbDwKernelIdeal.nD Cert.QbDwKernelIdeal.τ).loc Cert.QbDwKernelIdeal.main_arg0) = m ((c.tc : Thread Cert.QbDwKernelIdeal.nD Cert.QbDwKernelIdeal.τ).loc Cert.QbDwKernelIdeal.main_arg0)
          ∧ r.2.mem ((c.tc : Thread Cert.QbDwKernelIdeal.nD Cert.QbDwKernelIdeal.τ).loc Cert.QbDwKernelIdeal.main_arg1) = m ((c.tc : Thread Cert.QbDwKernelIdeal.nD Cert.QbDwKernelIdeal.τ).loc Cert.QbDwKernelIdeal.main_arg1)
          ∧ r.2.mem ((c.tc : Thread Cert.QbDwKernelIdeal.nD Cert.QbDwKernelIdeal.τ).loc Cert.QbDwKernelIdeal.main_arg2) = m ((c.tc : Thread Cert.QbDwKernelIdeal.nD Cert.QbDwKernelIdeal.τ).loc Cert.QbDwKernelIdeal.main_arg2))
      ∧ θ_run (Cert.QbDwReferenceIdeal.defs (F := Ideal)) (onTc (τ := Cert.QbDwReferenceIdeal.τ) (Cert.QbDwReferenceIdeal.main (F := Ideal))) ⟨m', fun _ => 0, g'⟩ (fun r => ∀ c : Dev Cert.QbDwReferenceIdeal.nD,
          r.2.mem ((c.tc : Thread Cert.QbDwReferenceIdeal.nD Cert.QbDwReferenceIdeal.τ).loc Cert.QbDwReferenceIdeal.main_v3) = v0 c
          ∧ r.2.mem ((c.tc : Thread Cert.QbDwReferenceIdeal.nD Cert.QbDwReferenceIdeal.τ).loc Cert.QbDwReferenceIdeal.main_arg0) = m' ((c.tc : Thread Cert.QbDwReferenceIdeal.nD Cert.QbDwReferenceIdeal.τ).loc Cert.QbDwReferenceIdeal.main_arg0)
          ∧ r.2.mem ((c.tc : Thread Cert.QbDwReferenceIdeal.nD Cert.QbDwReferenceIdeal.τ).loc Cert.QbDwReferenceIdeal.main_arg1) = m' ((c.tc : Thread Cert.QbDwReferenceIdeal.nD Cert.QbDwReferenceIdeal.τ).loc Cert.QbDwReferenceIdeal.main_arg1)
          ∧ r.2.mem ((c.tc : Thread Cert.QbDwReferenceIdeal.nD Cert.QbDwReferenceIdeal.τ).loc Cert.QbDwReferenceIdeal.main_arg2) = m' ((c.tc : Thread Cert.QbDwReferenceIdeal.nD Cert.QbDwReferenceIdeal.τ).loc Cert.QbDwReferenceIdeal.main_arg2))

def preserves_KvFwdKernel_KvFwdKernelIdeal : Prop :=
  True

def algebraic_KvFwdKernelIdeal_KvFwdReferenceIdeal [hKvFwdKernelIdeal : Cert.KvFwdKernelIdeal.Facts] [hKvFwdReferenceIdeal : Cert.KvFwdReferenceIdeal.Facts] : Prop :=
  ∀ (m : (ℓ : Loc Cert.KvFwdKernelIdeal.nD Cert.KvFwdKernelIdeal.τ Cert.KvFwdKernelIdeal.sig) → Buf (Elt Ideal) ℓ) (g : Dev Cert.KvFwdKernelIdeal.nD → PrngReg)
    (m' : (ℓ : Loc Cert.KvFwdReferenceIdeal.nD Cert.KvFwdReferenceIdeal.τ Cert.KvFwdReferenceIdeal.sig) → Buf (Elt Ideal) ℓ) (g' : Dev Cert.KvFwdReferenceIdeal.nD → PrngReg), Pre_KvFwdKernelIdeal m →
    (∀ c : Dev Cert.KvFwdKernelIdeal.nD,
      m' ((c.tc : Thread Cert.KvFwdReferenceIdeal.nD Cert.KvFwdReferenceIdeal.τ).loc Cert.KvFwdReferenceIdeal.main_arg0) = m ((c.tc : Thread Cert.KvFwdKernelIdeal.nD Cert.KvFwdKernelIdeal.τ).loc Cert.KvFwdKernelIdeal.main_arg0)
      ∧ m' ((c.tc : Thread Cert.KvFwdReferenceIdeal.nD Cert.KvFwdReferenceIdeal.τ).loc Cert.KvFwdReferenceIdeal.main_arg1) = m ((c.tc : Thread Cert.KvFwdKernelIdeal.nD Cert.KvFwdKernelIdeal.τ).loc Cert.KvFwdKernelIdeal.main_arg1)) →
    ∃ (v0 : (c : Dev Cert.KvFwdKernelIdeal.nD) → Buf (Elt Ideal) ((c.tc : Thread Cert.KvFwdKernelIdeal.nD Cert.KvFwdKernelIdeal.τ).loc Cert.KvFwdKernelIdeal.main_v0)),
      θ_run (Cert.KvFwdKernelIdeal.defs (F := Ideal)) (onTc (τ := Cert.KvFwdKernelIdeal.τ) (Cert.KvFwdKernelIdeal.main (F := Ideal))) ⟨m, fun _ => 0, g⟩ (fun r => ∀ c : Dev Cert.KvFwdKernelIdeal.nD,
          r.2.mem ((c.tc : Thread Cert.KvFwdKernelIdeal.nD Cert.KvFwdKernelIdeal.τ).loc Cert.KvFwdKernelIdeal.main_v0) = v0 c
          ∧ r.2.mem ((c.tc : Thread Cert.KvFwdKernelIdeal.nD Cert.KvFwdKernelIdeal.τ).loc Cert.KvFwdKernelIdeal.main_arg0) = m ((c.tc : Thread Cert.KvFwdKernelIdeal.nD Cert.KvFwdKernelIdeal.τ).loc Cert.KvFwdKernelIdeal.main_arg0)
          ∧ r.2.mem ((c.tc : Thread Cert.KvFwdKernelIdeal.nD Cert.KvFwdKernelIdeal.τ).loc Cert.KvFwdKernelIdeal.main_arg1) = m ((c.tc : Thread Cert.KvFwdKernelIdeal.nD Cert.KvFwdKernelIdeal.τ).loc Cert.KvFwdKernelIdeal.main_arg1))
      ∧ θ_run (Cert.KvFwdReferenceIdeal.defs (F := Ideal)) (onTc (τ := Cert.KvFwdReferenceIdeal.τ) (Cert.KvFwdReferenceIdeal.main (F := Ideal))) ⟨m', fun _ => 0, g'⟩ (fun r => ∀ c : Dev Cert.KvFwdReferenceIdeal.nD,
          r.2.mem ((c.tc : Thread Cert.KvFwdReferenceIdeal.nD Cert.KvFwdReferenceIdeal.τ).loc Cert.KvFwdReferenceIdeal.main_v0) = v0 c
          ∧ r.2.mem ((c.tc : Thread Cert.KvFwdReferenceIdeal.nD Cert.KvFwdReferenceIdeal.τ).loc Cert.KvFwdReferenceIdeal.main_arg0) = m' ((c.tc : Thread Cert.KvFwdReferenceIdeal.nD Cert.KvFwdReferenceIdeal.τ).loc Cert.KvFwdReferenceIdeal.main_arg0)
          ∧ r.2.mem ((c.tc : Thread Cert.KvFwdReferenceIdeal.nD Cert.KvFwdReferenceIdeal.τ).loc Cert.KvFwdReferenceIdeal.main_arg1) = m' ((c.tc : Thread Cert.KvFwdReferenceIdeal.nD Cert.KvFwdReferenceIdeal.τ).loc Cert.KvFwdReferenceIdeal.main_arg1))

def preserves_KvDwKernel_KvDwKernelIdeal : Prop :=
  True

def algebraic_KvDwKernelIdeal_KvDwReferenceIdeal [hKvDwKernelIdeal : Cert.KvDwKernelIdeal.Facts] [hKvDwReferenceIdeal : Cert.KvDwReferenceIdeal.Facts] : Prop :=
  ∀ (m : (ℓ : Loc Cert.KvDwKernelIdeal.nD Cert.KvDwKernelIdeal.τ Cert.KvDwKernelIdeal.sig) → Buf (Elt Ideal) ℓ) (g : Dev Cert.KvDwKernelIdeal.nD → PrngReg)
    (m' : (ℓ : Loc Cert.KvDwReferenceIdeal.nD Cert.KvDwReferenceIdeal.τ Cert.KvDwReferenceIdeal.sig) → Buf (Elt Ideal) ℓ) (g' : Dev Cert.KvDwReferenceIdeal.nD → PrngReg), Pre_KvDwKernelIdeal m →
    (∀ c : Dev Cert.KvDwKernelIdeal.nD,
      m' ((c.tc : Thread Cert.KvDwReferenceIdeal.nD Cert.KvDwReferenceIdeal.τ).loc Cert.KvDwReferenceIdeal.main_arg0) = m ((c.tc : Thread Cert.KvDwKernelIdeal.nD Cert.KvDwKernelIdeal.τ).loc Cert.KvDwKernelIdeal.main_arg0)
      ∧ m' ((c.tc : Thread Cert.KvDwReferenceIdeal.nD Cert.KvDwReferenceIdeal.τ).loc Cert.KvDwReferenceIdeal.main_arg1) = m ((c.tc : Thread Cert.KvDwKernelIdeal.nD Cert.KvDwKernelIdeal.τ).loc Cert.KvDwKernelIdeal.main_arg1)
      ∧ m' ((c.tc : Thread Cert.KvDwReferenceIdeal.nD Cert.KvDwReferenceIdeal.τ).loc Cert.KvDwReferenceIdeal.main_arg2) = m ((c.tc : Thread Cert.KvDwKernelIdeal.nD Cert.KvDwKernelIdeal.τ).loc Cert.KvDwKernelIdeal.main_arg2)) →
    ∃ (v0 : (c : Dev Cert.KvDwKernelIdeal.nD) → Buf (Elt Ideal) ((c.tc : Thread Cert.KvDwKernelIdeal.nD Cert.KvDwKernelIdeal.τ).loc Cert.KvDwKernelIdeal.main_v0)),
      θ_run (Cert.KvDwKernelIdeal.defs (F := Ideal)) (onTc (τ := Cert.KvDwKernelIdeal.τ) (Cert.KvDwKernelIdeal.main (F := Ideal))) ⟨m, fun _ => 0, g⟩ (fun r => ∀ c : Dev Cert.KvDwKernelIdeal.nD,
          r.2.mem ((c.tc : Thread Cert.KvDwKernelIdeal.nD Cert.KvDwKernelIdeal.τ).loc Cert.KvDwKernelIdeal.main_v0) = v0 c
          ∧ r.2.mem ((c.tc : Thread Cert.KvDwKernelIdeal.nD Cert.KvDwKernelIdeal.τ).loc Cert.KvDwKernelIdeal.main_arg0) = m ((c.tc : Thread Cert.KvDwKernelIdeal.nD Cert.KvDwKernelIdeal.τ).loc Cert.KvDwKernelIdeal.main_arg0)
          ∧ r.2.mem ((c.tc : Thread Cert.KvDwKernelIdeal.nD Cert.KvDwKernelIdeal.τ).loc Cert.KvDwKernelIdeal.main_arg1) = m ((c.tc : Thread Cert.KvDwKernelIdeal.nD Cert.KvDwKernelIdeal.τ).loc Cert.KvDwKernelIdeal.main_arg1)
          ∧ r.2.mem ((c.tc : Thread Cert.KvDwKernelIdeal.nD Cert.KvDwKernelIdeal.τ).loc Cert.KvDwKernelIdeal.main_arg2) = m ((c.tc : Thread Cert.KvDwKernelIdeal.nD Cert.KvDwKernelIdeal.τ).loc Cert.KvDwKernelIdeal.main_arg2))
      ∧ θ_run (Cert.KvDwReferenceIdeal.defs (F := Ideal)) (onTc (τ := Cert.KvDwReferenceIdeal.τ) (Cert.KvDwReferenceIdeal.main (F := Ideal))) ⟨m', fun _ => 0, g'⟩ (fun r => ∀ c : Dev Cert.KvDwReferenceIdeal.nD,
          r.2.mem ((c.tc : Thread Cert.KvDwReferenceIdeal.nD Cert.KvDwReferenceIdeal.τ).loc Cert.KvDwReferenceIdeal.main_v3) = v0 c
          ∧ r.2.mem ((c.tc : Thread Cert.KvDwReferenceIdeal.nD Cert.KvDwReferenceIdeal.τ).loc Cert.KvDwReferenceIdeal.main_arg0) = m' ((c.tc : Thread Cert.KvDwReferenceIdeal.nD Cert.KvDwReferenceIdeal.τ).loc Cert.KvDwReferenceIdeal.main_arg0)
          ∧ r.2.mem ((c.tc : Thread Cert.KvDwReferenceIdeal.nD Cert.KvDwReferenceIdeal.τ).loc Cert.KvDwReferenceIdeal.main_arg1) = m' ((c.tc : Thread Cert.KvDwReferenceIdeal.nD Cert.KvDwReferenceIdeal.τ).loc Cert.KvDwReferenceIdeal.main_arg1)
          ∧ r.2.mem ((c.tc : Thread Cert.KvDwReferenceIdeal.nD Cert.KvDwReferenceIdeal.τ).loc Cert.KvDwReferenceIdeal.main_arg2) = m' ((c.tc : Thread Cert.KvDwReferenceIdeal.nD Cert.KvDwReferenceIdeal.τ).loc Cert.KvDwReferenceIdeal.main_arg2))

def preserves_DwNarrowKernel_DwNarrowKernelIdeal : Prop :=
  True

def algebraic_DwNarrowKernelIdeal_DwNarrowReferenceIdeal [hDwNarrowKernelIdeal : Cert.DwNarrowKernelIdeal.Facts] [hDwNarrowReferenceIdeal : Cert.DwNarrowReferenceIdeal.Facts] : Prop :=
  ∀ (m : (ℓ : Loc Cert.DwNarrowKernelIdeal.nD Cert.DwNarrowKernelIdeal.τ Cert.DwNarrowKernelIdeal.sig) → Buf (Elt Ideal) ℓ) (g : Dev Cert.DwNarrowKernelIdeal.nD → PrngReg)
    (m' : (ℓ : Loc Cert.DwNarrowReferenceIdeal.nD Cert.DwNarrowReferenceIdeal.τ Cert.DwNarrowReferenceIdeal.sig) → Buf (Elt Ideal) ℓ) (g' : Dev Cert.DwNarrowReferenceIdeal.nD → PrngReg), Pre_DwNarrowKernelIdeal m →
    (∀ c : Dev Cert.DwNarrowKernelIdeal.nD,
      m' ((c.tc : Thread Cert.DwNarrowReferenceIdeal.nD Cert.DwNarrowReferenceIdeal.τ).loc Cert.DwNarrowReferenceIdeal.main_arg0) = m ((c.tc : Thread Cert.DwNarrowKernelIdeal.nD Cert.DwNarrowKernelIdeal.τ).loc Cert.DwNarrowKernelIdeal.main_arg0)
      ∧ m' ((c.tc : Thread Cert.DwNarrowReferenceIdeal.nD Cert.DwNarrowReferenceIdeal.τ).loc Cert.DwNarrowReferenceIdeal.main_arg1) = m ((c.tc : Thread Cert.DwNarrowKernelIdeal.nD Cert.DwNarrowKernelIdeal.τ).loc Cert.DwNarrowKernelIdeal.main_arg1)
      ∧ m' ((c.tc : Thread Cert.DwNarrowReferenceIdeal.nD Cert.DwNarrowReferenceIdeal.τ).loc Cert.DwNarrowReferenceIdeal.main_arg2) = m ((c.tc : Thread Cert.DwNarrowKernelIdeal.nD Cert.DwNarrowKernelIdeal.τ).loc Cert.DwNarrowKernelIdeal.main_arg2)
      ∧ m' ((c.tc : Thread Cert.DwNarrowReferenceIdeal.nD Cert.DwNarrowReferenceIdeal.τ).loc Cert.DwNarrowReferenceIdeal.main_arg3) = m ((c.tc : Thread Cert.DwNarrowKernelIdeal.nD Cert.DwNarrowKernelIdeal.τ).loc Cert.DwNarrowKernelIdeal.main_arg3)
      ∧ m' ((c.tc : Thread Cert.DwNarrowReferenceIdeal.nD Cert.DwNarrowReferenceIdeal.τ).loc Cert.DwNarrowReferenceIdeal.main_arg4) = m ((c.tc : Thread Cert.DwNarrowKernelIdeal.nD Cert.DwNarrowKernelIdeal.τ).loc Cert.DwNarrowKernelIdeal.main_arg4)
      ∧ m' ((c.tc : Thread Cert.DwNarrowReferenceIdeal.nD Cert.DwNarrowReferenceIdeal.τ).loc Cert.DwNarrowReferenceIdeal.main_arg5) = m ((c.tc : Thread Cert.DwNarrowKernelIdeal.nD Cert.DwNarrowKernelIdeal.τ).loc Cert.DwNarrowKernelIdeal.main_arg5)
      ∧ m' ((c.tc : Thread Cert.DwNarrowReferenceIdeal.nD Cert.DwNarrowReferenceIdeal.τ).loc Cert.DwNarrowReferenceIdeal.main_arg6) = m ((c.tc : Thread Cert.DwNarrowKernelIdeal.nD Cert.DwNarrowKernelIdeal.τ).loc Cert.DwNarrowKernelIdeal.main_arg6)
      ∧ m' ((c.tc : Thread Cert.DwNarrowReferenceIdeal.nD Cert.DwNarrowReferenceIdeal.τ).loc Cert.DwNarrowReferenceIdeal.main_arg7) = m ((c.tc : Thread Cert.DwNarrowKernelIdeal.nD Cert.DwNarrowKernelIdeal.τ).loc Cert.DwNarrowKernelIdeal.main_arg7)
      ∧ m' ((c.tc : Thread Cert.DwNarrowReferenceIdeal.nD Cert.DwNarrowReferenceIdeal.τ).loc Cert.DwNarrowReferenceIdeal.main_arg8) = m ((c.tc : Thread Cert.DwNarrowKernelIdeal.nD Cert.DwNarrowKernelIdeal.τ).loc Cert.DwNarrowKernelIdeal.main_arg8)
      ∧ m' ((c.tc : Thread Cert.DwNarrowReferenceIdeal.nD Cert.DwNarrowReferenceIdeal.τ).loc Cert.DwNarrowReferenceIdeal.main_arg9) = m ((c.tc : Thread Cert.DwNarrowKernelIdeal.nD Cert.DwNarrowKernelIdeal.τ).loc Cert.DwNarrowKernelIdeal.main_arg9)
      ∧ m' ((c.tc : Thread Cert.DwNarrowReferenceIdeal.nD Cert.DwNarrowReferenceIdeal.τ).loc Cert.DwNarrowReferenceIdeal.main_arg10) = m ((c.tc : Thread Cert.DwNarrowKernelIdeal.nD Cert.DwNarrowKernelIdeal.τ).loc Cert.DwNarrowKernelIdeal.main_arg10)
      ∧ m' ((c.tc : Thread Cert.DwNarrowReferenceIdeal.nD Cert.DwNarrowReferenceIdeal.τ).loc Cert.DwNarrowReferenceIdeal.main_arg11) = m ((c.tc : Thread Cert.DwNarrowKernelIdeal.nD Cert.DwNarrowKernelIdeal.τ).loc Cert.DwNarrowKernelIdeal.main_arg11)
      ∧ m' ((c.tc : Thread Cert.DwNarrowReferenceIdeal.nD Cert.DwNarrowReferenceIdeal.τ).loc Cert.DwNarrowReferenceIdeal.main_arg12) = m ((c.tc : Thread Cert.DwNarrowKernelIdeal.nD Cert.DwNarrowKernelIdeal.τ).loc Cert.DwNarrowKernelIdeal.main_arg12)
      ∧ m' ((c.tc : Thread Cert.DwNarrowReferenceIdeal.nD Cert.DwNarrowReferenceIdeal.τ).loc Cert.DwNarrowReferenceIdeal.main_arg13) = m ((c.tc : Thread Cert.DwNarrowKernelIdeal.nD Cert.DwNarrowKernelIdeal.τ).loc Cert.DwNarrowKernelIdeal.main_arg13)
      ∧ m' ((c.tc : Thread Cert.DwNarrowReferenceIdeal.nD Cert.DwNarrowReferenceIdeal.τ).loc Cert.DwNarrowReferenceIdeal.main_arg14) = m ((c.tc : Thread Cert.DwNarrowKernelIdeal.nD Cert.DwNarrowKernelIdeal.τ).loc Cert.DwNarrowKernelIdeal.main_arg14)) →
    ∃ (v0 : (c : Dev Cert.DwNarrowKernelIdeal.nD) → Buf (Elt Ideal) ((c.tc : Thread Cert.DwNarrowKernelIdeal.nD Cert.DwNarrowKernelIdeal.τ).loc Cert.DwNarrowKernelIdeal.main_v0_0)) (v1 : (c : Dev Cert.DwNarrowKernelIdeal.nD) → Buf (Elt Ideal) ((c.tc : Thread Cert.DwNarrowKernelIdeal.nD Cert.DwNarrowKernelIdeal.τ).loc Cert.DwNarrowKernelIdeal.main_v0_1)) (v2 : (c : Dev Cert.DwNarrowKernelIdeal.nD) → Buf (Elt Ideal) ((c.tc : Thread Cert.DwNarrowKernelIdeal.nD Cert.DwNarrowKernelIdeal.τ).loc Cert.DwNarrowKernelIdeal.main_v0_2)) (v3 : (c : Dev Cert.DwNarrowKernelIdeal.nD) → Buf (Elt Ideal) ((c.tc : Thread Cert.DwNarrowKernelIdeal.nD Cert.DwNarrowKernelIdeal.τ).loc Cert.DwNarrowKernelIdeal.main_v0_3)) (v4 : (c : Dev Cert.DwNarrowKernelIdeal.nD) → Buf (Elt Ideal) ((c.tc : Thread Cert.DwNarrowKernelIdeal.nD Cert.DwNarrowKernelIdeal.τ).loc Cert.DwNarrowKernelIdeal.main_v0_4)) (v5 : (c : Dev Cert.DwNarrowKernelIdeal.nD) → Buf (Elt Ideal) ((c.tc : Thread Cert.DwNarrowKernelIdeal.nD Cert.DwNarrowKernelIdeal.τ).loc Cert.DwNarrowKernelIdeal.main_v0_5)) (v6 : (c : Dev Cert.DwNarrowKernelIdeal.nD) → Buf (Elt Ideal) ((c.tc : Thread Cert.DwNarrowKernelIdeal.nD Cert.DwNarrowKernelIdeal.τ).loc Cert.DwNarrowKernelIdeal.main_v0_6)),
      θ_run (Cert.DwNarrowKernelIdeal.defs (F := Ideal)) (onTc (τ := Cert.DwNarrowKernelIdeal.τ) (Cert.DwNarrowKernelIdeal.main (F := Ideal))) ⟨m, fun _ => 0, g⟩ (fun r => ∀ c : Dev Cert.DwNarrowKernelIdeal.nD,
          r.2.mem ((c.tc : Thread Cert.DwNarrowKernelIdeal.nD Cert.DwNarrowKernelIdeal.τ).loc Cert.DwNarrowKernelIdeal.main_v0_0) = v0 c
          ∧ r.2.mem ((c.tc : Thread Cert.DwNarrowKernelIdeal.nD Cert.DwNarrowKernelIdeal.τ).loc Cert.DwNarrowKernelIdeal.main_v0_1) = v1 c
          ∧ r.2.mem ((c.tc : Thread Cert.DwNarrowKernelIdeal.nD Cert.DwNarrowKernelIdeal.τ).loc Cert.DwNarrowKernelIdeal.main_v0_2) = v2 c
          ∧ r.2.mem ((c.tc : Thread Cert.DwNarrowKernelIdeal.nD Cert.DwNarrowKernelIdeal.τ).loc Cert.DwNarrowKernelIdeal.main_v0_3) = v3 c
          ∧ r.2.mem ((c.tc : Thread Cert.DwNarrowKernelIdeal.nD Cert.DwNarrowKernelIdeal.τ).loc Cert.DwNarrowKernelIdeal.main_v0_4) = v4 c
          ∧ r.2.mem ((c.tc : Thread Cert.DwNarrowKernelIdeal.nD Cert.DwNarrowKernelIdeal.τ).loc Cert.DwNarrowKernelIdeal.main_v0_5) = v5 c
          ∧ r.2.mem ((c.tc : Thread Cert.DwNarrowKernelIdeal.nD Cert.DwNarrowKernelIdeal.τ).loc Cert.DwNarrowKernelIdeal.main_v0_6) = v6 c
          ∧ r.2.mem ((c.tc : Thread Cert.DwNarrowKernelIdeal.nD Cert.DwNarrowKernelIdeal.τ).loc Cert.DwNarrowKernelIdeal.main_arg0) = m ((c.tc : Thread Cert.DwNarrowKernelIdeal.nD Cert.DwNarrowKernelIdeal.τ).loc Cert.DwNarrowKernelIdeal.main_arg0)
          ∧ r.2.mem ((c.tc : Thread Cert.DwNarrowKernelIdeal.nD Cert.DwNarrowKernelIdeal.τ).loc Cert.DwNarrowKernelIdeal.main_arg1) = m ((c.tc : Thread Cert.DwNarrowKernelIdeal.nD Cert.DwNarrowKernelIdeal.τ).loc Cert.DwNarrowKernelIdeal.main_arg1)
          ∧ r.2.mem ((c.tc : Thread Cert.DwNarrowKernelIdeal.nD Cert.DwNarrowKernelIdeal.τ).loc Cert.DwNarrowKernelIdeal.main_arg2) = m ((c.tc : Thread Cert.DwNarrowKernelIdeal.nD Cert.DwNarrowKernelIdeal.τ).loc Cert.DwNarrowKernelIdeal.main_arg2)
          ∧ r.2.mem ((c.tc : Thread Cert.DwNarrowKernelIdeal.nD Cert.DwNarrowKernelIdeal.τ).loc Cert.DwNarrowKernelIdeal.main_arg3) = m ((c.tc : Thread Cert.DwNarrowKernelIdeal.nD Cert.DwNarrowKernelIdeal.τ).loc Cert.DwNarrowKernelIdeal.main_arg3)
          ∧ r.2.mem ((c.tc : Thread Cert.DwNarrowKernelIdeal.nD Cert.DwNarrowKernelIdeal.τ).loc Cert.DwNarrowKernelIdeal.main_arg4) = m ((c.tc : Thread Cert.DwNarrowKernelIdeal.nD Cert.DwNarrowKernelIdeal.τ).loc Cert.DwNarrowKernelIdeal.main_arg4)
          ∧ r.2.mem ((c.tc : Thread Cert.DwNarrowKernelIdeal.nD Cert.DwNarrowKernelIdeal.τ).loc Cert.DwNarrowKernelIdeal.main_arg5) = m ((c.tc : Thread Cert.DwNarrowKernelIdeal.nD Cert.DwNarrowKernelIdeal.τ).loc Cert.DwNarrowKernelIdeal.main_arg5)
          ∧ r.2.mem ((c.tc : Thread Cert.DwNarrowKernelIdeal.nD Cert.DwNarrowKernelIdeal.τ).loc Cert.DwNarrowKernelIdeal.main_arg6) = m ((c.tc : Thread Cert.DwNarrowKernelIdeal.nD Cert.DwNarrowKernelIdeal.τ).loc Cert.DwNarrowKernelIdeal.main_arg6)
          ∧ r.2.mem ((c.tc : Thread Cert.DwNarrowKernelIdeal.nD Cert.DwNarrowKernelIdeal.τ).loc Cert.DwNarrowKernelIdeal.main_arg7) = m ((c.tc : Thread Cert.DwNarrowKernelIdeal.nD Cert.DwNarrowKernelIdeal.τ).loc Cert.DwNarrowKernelIdeal.main_arg7)
          ∧ r.2.mem ((c.tc : Thread Cert.DwNarrowKernelIdeal.nD Cert.DwNarrowKernelIdeal.τ).loc Cert.DwNarrowKernelIdeal.main_arg8) = m ((c.tc : Thread Cert.DwNarrowKernelIdeal.nD Cert.DwNarrowKernelIdeal.τ).loc Cert.DwNarrowKernelIdeal.main_arg8)
          ∧ r.2.mem ((c.tc : Thread Cert.DwNarrowKernelIdeal.nD Cert.DwNarrowKernelIdeal.τ).loc Cert.DwNarrowKernelIdeal.main_arg9) = m ((c.tc : Thread Cert.DwNarrowKernelIdeal.nD Cert.DwNarrowKernelIdeal.τ).loc Cert.DwNarrowKernelIdeal.main_arg9)
          ∧ r.2.mem ((c.tc : Thread Cert.DwNarrowKernelIdeal.nD Cert.DwNarrowKernelIdeal.τ).loc Cert.DwNarrowKernelIdeal.main_arg10) = m ((c.tc : Thread Cert.DwNarrowKernelIdeal.nD Cert.DwNarrowKernelIdeal.τ).loc Cert.DwNarrowKernelIdeal.main_arg10)
          ∧ r.2.mem ((c.tc : Thread Cert.DwNarrowKernelIdeal.nD Cert.DwNarrowKernelIdeal.τ).loc Cert.DwNarrowKernelIdeal.main_arg11) = m ((c.tc : Thread Cert.DwNarrowKernelIdeal.nD Cert.DwNarrowKernelIdeal.τ).loc Cert.DwNarrowKernelIdeal.main_arg11)
          ∧ r.2.mem ((c.tc : Thread Cert.DwNarrowKernelIdeal.nD Cert.DwNarrowKernelIdeal.τ).loc Cert.DwNarrowKernelIdeal.main_arg12) = m ((c.tc : Thread Cert.DwNarrowKernelIdeal.nD Cert.DwNarrowKernelIdeal.τ).loc Cert.DwNarrowKernelIdeal.main_arg12)
          ∧ r.2.mem ((c.tc : Thread Cert.DwNarrowKernelIdeal.nD Cert.DwNarrowKernelIdeal.τ).loc Cert.DwNarrowKernelIdeal.main_arg13) = m ((c.tc : Thread Cert.DwNarrowKernelIdeal.nD Cert.DwNarrowKernelIdeal.τ).loc Cert.DwNarrowKernelIdeal.main_arg13)
          ∧ r.2.mem ((c.tc : Thread Cert.DwNarrowKernelIdeal.nD Cert.DwNarrowKernelIdeal.τ).loc Cert.DwNarrowKernelIdeal.main_arg14) = m ((c.tc : Thread Cert.DwNarrowKernelIdeal.nD Cert.DwNarrowKernelIdeal.τ).loc Cert.DwNarrowKernelIdeal.main_arg14))
      ∧ θ_run (Cert.DwNarrowReferenceIdeal.defs (F := Ideal)) (onTc (τ := Cert.DwNarrowReferenceIdeal.τ) (Cert.DwNarrowReferenceIdeal.main (F := Ideal))) ⟨m', fun _ => 0, g'⟩ (fun r => ∀ c : Dev Cert.DwNarrowReferenceIdeal.nD,
          r.2.mem ((c.tc : Thread Cert.DwNarrowReferenceIdeal.nD Cert.DwNarrowReferenceIdeal.τ).loc Cert.DwNarrowReferenceIdeal.main_v41) = v0 c
          ∧ r.2.mem ((c.tc : Thread Cert.DwNarrowReferenceIdeal.nD Cert.DwNarrowReferenceIdeal.τ).loc Cert.DwNarrowReferenceIdeal.main_v37) = v1 c
          ∧ r.2.mem ((c.tc : Thread Cert.DwNarrowReferenceIdeal.nD Cert.DwNarrowReferenceIdeal.τ).loc Cert.DwNarrowReferenceIdeal.main_v33) = v2 c
          ∧ r.2.mem ((c.tc : Thread Cert.DwNarrowReferenceIdeal.nD Cert.DwNarrowReferenceIdeal.τ).loc Cert.DwNarrowReferenceIdeal.main_v29) = v3 c
          ∧ r.2.mem ((c.tc : Thread Cert.DwNarrowReferenceIdeal.nD Cert.DwNarrowReferenceIdeal.τ).loc Cert.DwNarrowReferenceIdeal.main_v25) = v4 c
          ∧ r.2.mem ((c.tc : Thread Cert.DwNarrowReferenceIdeal.nD Cert.DwNarrowReferenceIdeal.τ).loc Cert.DwNarrowReferenceIdeal.main_v21) = v5 c
          ∧ r.2.mem ((c.tc : Thread Cert.DwNarrowReferenceIdeal.nD Cert.DwNarrowReferenceIdeal.τ).loc Cert.DwNarrowReferenceIdeal.main_v17) = v6 c
          ∧ r.2.mem ((c.tc : Thread Cert.DwNarrowReferenceIdeal.nD Cert.DwNarrowReferenceIdeal.τ).loc Cert.DwNarrowReferenceIdeal.main_arg0) = m' ((c.tc : Thread Cert.DwNarrowReferenceIdeal.nD Cert.DwNarrowReferenceIdeal.τ).loc Cert.DwNarrowReferenceIdeal.main_arg0)
          ∧ r.2.mem ((c.tc : Thread Cert.DwNarrowReferenceIdeal.nD Cert.DwNarrowReferenceIdeal.τ).loc Cert.DwNarrowReferenceIdeal.main_arg1) = m' ((c.tc : Thread Cert.DwNarrowReferenceIdeal.nD Cert.DwNarrowReferenceIdeal.τ).loc Cert.DwNarrowReferenceIdeal.main_arg1)
          ∧ r.2.mem ((c.tc : Thread Cert.DwNarrowReferenceIdeal.nD Cert.DwNarrowReferenceIdeal.τ).loc Cert.DwNarrowReferenceIdeal.main_arg2) = m' ((c.tc : Thread Cert.DwNarrowReferenceIdeal.nD Cert.DwNarrowReferenceIdeal.τ).loc Cert.DwNarrowReferenceIdeal.main_arg2)
          ∧ r.2.mem ((c.tc : Thread Cert.DwNarrowReferenceIdeal.nD Cert.DwNarrowReferenceIdeal.τ).loc Cert.DwNarrowReferenceIdeal.main_arg3) = m' ((c.tc : Thread Cert.DwNarrowReferenceIdeal.nD Cert.DwNarrowReferenceIdeal.τ).loc Cert.DwNarrowReferenceIdeal.main_arg3)
          ∧ r.2.mem ((c.tc : Thread Cert.DwNarrowReferenceIdeal.nD Cert.DwNarrowReferenceIdeal.τ).loc Cert.DwNarrowReferenceIdeal.main_arg4) = m' ((c.tc : Thread Cert.DwNarrowReferenceIdeal.nD Cert.DwNarrowReferenceIdeal.τ).loc Cert.DwNarrowReferenceIdeal.main_arg4)
          ∧ r.2.mem ((c.tc : Thread Cert.DwNarrowReferenceIdeal.nD Cert.DwNarrowReferenceIdeal.τ).loc Cert.DwNarrowReferenceIdeal.main_arg5) = m' ((c.tc : Thread Cert.DwNarrowReferenceIdeal.nD Cert.DwNarrowReferenceIdeal.τ).loc Cert.DwNarrowReferenceIdeal.main_arg5)
          ∧ r.2.mem ((c.tc : Thread Cert.DwNarrowReferenceIdeal.nD Cert.DwNarrowReferenceIdeal.τ).loc Cert.DwNarrowReferenceIdeal.main_arg6) = m' ((c.tc : Thread Cert.DwNarrowReferenceIdeal.nD Cert.DwNarrowReferenceIdeal.τ).loc Cert.DwNarrowReferenceIdeal.main_arg6)
          ∧ r.2.mem ((c.tc : Thread Cert.DwNarrowReferenceIdeal.nD Cert.DwNarrowReferenceIdeal.τ).loc Cert.DwNarrowReferenceIdeal.main_arg7) = m' ((c.tc : Thread Cert.DwNarrowReferenceIdeal.nD Cert.DwNarrowReferenceIdeal.τ).loc Cert.DwNarrowReferenceIdeal.main_arg7)
          ∧ r.2.mem ((c.tc : Thread Cert.DwNarrowReferenceIdeal.nD Cert.DwNarrowReferenceIdeal.τ).loc Cert.DwNarrowReferenceIdeal.main_arg8) = m' ((c.tc : Thread Cert.DwNarrowReferenceIdeal.nD Cert.DwNarrowReferenceIdeal.τ).loc Cert.DwNarrowReferenceIdeal.main_arg8)
          ∧ r.2.mem ((c.tc : Thread Cert.DwNarrowReferenceIdeal.nD Cert.DwNarrowReferenceIdeal.τ).loc Cert.DwNarrowReferenceIdeal.main_arg9) = m' ((c.tc : Thread Cert.DwNarrowReferenceIdeal.nD Cert.DwNarrowReferenceIdeal.τ).loc Cert.DwNarrowReferenceIdeal.main_arg9)
          ∧ r.2.mem ((c.tc : Thread Cert.DwNarrowReferenceIdeal.nD Cert.DwNarrowReferenceIdeal.τ).loc Cert.DwNarrowReferenceIdeal.main_arg10) = m' ((c.tc : Thread Cert.DwNarrowReferenceIdeal.nD Cert.DwNarrowReferenceIdeal.τ).loc Cert.DwNarrowReferenceIdeal.main_arg10)
          ∧ r.2.mem ((c.tc : Thread Cert.DwNarrowReferenceIdeal.nD Cert.DwNarrowReferenceIdeal.τ).loc Cert.DwNarrowReferenceIdeal.main_arg11) = m' ((c.tc : Thread Cert.DwNarrowReferenceIdeal.nD Cert.DwNarrowReferenceIdeal.τ).loc Cert.DwNarrowReferenceIdeal.main_arg11)
          ∧ r.2.mem ((c.tc : Thread Cert.DwNarrowReferenceIdeal.nD Cert.DwNarrowReferenceIdeal.τ).loc Cert.DwNarrowReferenceIdeal.main_arg12) = m' ((c.tc : Thread Cert.DwNarrowReferenceIdeal.nD Cert.DwNarrowReferenceIdeal.τ).loc Cert.DwNarrowReferenceIdeal.main_arg12)
          ∧ r.2.mem ((c.tc : Thread Cert.DwNarrowReferenceIdeal.nD Cert.DwNarrowReferenceIdeal.τ).loc Cert.DwNarrowReferenceIdeal.main_arg13) = m' ((c.tc : Thread Cert.DwNarrowReferenceIdeal.nD Cert.DwNarrowReferenceIdeal.τ).loc Cert.DwNarrowReferenceIdeal.main_arg13)
          ∧ r.2.mem ((c.tc : Thread Cert.DwNarrowReferenceIdeal.nD Cert.DwNarrowReferenceIdeal.τ).loc Cert.DwNarrowReferenceIdeal.main_arg14) = m' ((c.tc : Thread Cert.DwNarrowReferenceIdeal.nD Cert.DwNarrowReferenceIdeal.τ).loc Cert.DwNarrowReferenceIdeal.main_arg14))

def Claim : Prop :=
  ∃ (hKernel : Cert.Kernel.Facts) (hKernelIdeal : Cert.KernelIdeal.Facts) (hReferenceIdeal : Cert.ReferenceIdeal.Facts) (hDhKernel : Cert.DhKernel.Facts) (hDhKernelIdeal : Cert.DhKernelIdeal.Facts) (hDhReferenceIdeal : Cert.DhReferenceIdeal.Facts) (hDwDilKernel : Cert.DwDilKernel.Facts) (hDwDilKernelIdeal : Cert.DwDilKernelIdeal.Facts) (hDwDilReferenceIdeal : Cert.DwDilReferenceIdeal.Facts) (hDwGateKernel : Cert.DwGateKernel.Facts) (hDwGateKernelIdeal : Cert.DwGateKernelIdeal.Facts) (hDwGateReferenceIdeal : Cert.DwGateReferenceIdeal.Facts) (hDwDnKernel : Cert.DwDnKernel.Facts) (hDwDnKernelIdeal : Cert.DwDnKernelIdeal.Facts) (hDwDnReferenceIdeal : Cert.DwDnReferenceIdeal.Facts) (hFwdKernel : Cert.FwdKernel.Facts) (hFwdKernelIdeal : Cert.FwdKernelIdeal.Facts) (hFwdReferenceIdeal : Cert.FwdReferenceIdeal.Facts) (hBrFwdKernel : Cert.BrFwdKernel.Facts) (hBrFwdKernelIdeal : Cert.BrFwdKernelIdeal.Facts) (hBrFwdReferenceIdeal : Cert.BrFwdReferenceIdeal.Facts) (hBrDhKernel : Cert.BrDhKernel.Facts) (hBrDhKernelIdeal : Cert.BrDhKernelIdeal.Facts) (hBrDhReferenceIdeal : Cert.BrDhReferenceIdeal.Facts) (hBrDwKernel : Cert.BrDwKernel.Facts) (hBrDwKernelIdeal : Cert.BrDwKernelIdeal.Facts) (hBrDwReferenceIdeal : Cert.BrDwReferenceIdeal.Facts) (hOutFwdKernel : Cert.OutFwdKernel.Facts) (hOutFwdKernelIdeal : Cert.OutFwdKernelIdeal.Facts) (hOutFwdReferenceIdeal : Cert.OutFwdReferenceIdeal.Facts) (hOutDhKernel : Cert.OutDhKernel.Facts) (hOutDhKernelIdeal : Cert.OutDhKernelIdeal.Facts) (hOutDhReferenceIdeal : Cert.OutDhReferenceIdeal.Facts) (hOutDwKernel : Cert.OutDwKernel.Facts) (hOutDwKernelIdeal : Cert.OutDwKernelIdeal.Facts) (hOutDwReferenceIdeal : Cert.OutDwReferenceIdeal.Facts) (hQbFwdKernel : Cert.QbFwdKernel.Facts) (hQbFwdKernelIdeal : Cert.QbFwdKernelIdeal.Facts) (hQbFwdReferenceIdeal : Cert.QbFwdReferenceIdeal.Facts) (hQbDhKernel : Cert.QbDhKernel.Facts) (hQbDhKernelIdeal : Cert.QbDhKernelIdeal.Facts) (hQbDhReferenceIdeal : Cert.QbDhReferenceIdeal.Facts) (hQbDwKernel : Cert.QbDwKernel.Facts) (hQbDwKernelIdeal : Cert.QbDwKernelIdeal.Facts) (hQbDwReferenceIdeal : Cert.QbDwReferenceIdeal.Facts) (hKvFwdKernel : Cert.KvFwdKernel.Facts) (hKvFwdKernelIdeal : Cert.KvFwdKernelIdeal.Facts) (hKvFwdReferenceIdeal : Cert.KvFwdReferenceIdeal.Facts) (hKvDwKernel : Cert.KvDwKernel.Facts) (hKvDwKernelIdeal : Cert.KvDwKernelIdeal.Facts) (hKvDwReferenceIdeal : Cert.KvDwReferenceIdeal.Facts) (hDwNarrowKernel : Cert.DwNarrowKernel.Facts) (hDwNarrowKernelIdeal : Cert.DwNarrowKernelIdeal.Facts) (hDwNarrowReferenceIdeal : Cert.DwNarrowReferenceIdeal.Facts),
    quiescent_Kernel (hKernel := hKernel)
    ∧ quiescent_KernelIdeal (hKernelIdeal := hKernelIdeal)
    ∧ quiescent_ReferenceIdeal (hReferenceIdeal := hReferenceIdeal)
    ∧ quiescent_DhKernel (hDhKernel := hDhKernel)
    ∧ quiescent_DhKernelIdeal (hDhKernelIdeal := hDhKernelIdeal)
    ∧ quiescent_DhReferenceIdeal (hDhReferenceIdeal := hDhReferenceIdeal)
    ∧ quiescent_DwDilKernel (hDwDilKernel := hDwDilKernel)
    ∧ quiescent_DwDilKernelIdeal (hDwDilKernelIdeal := hDwDilKernelIdeal)
    ∧ quiescent_DwDilReferenceIdeal (hDwDilReferenceIdeal := hDwDilReferenceIdeal)
    ∧ quiescent_DwGateKernel (hDwGateKernel := hDwGateKernel)
    ∧ quiescent_DwGateKernelIdeal (hDwGateKernelIdeal := hDwGateKernelIdeal)
    ∧ quiescent_DwGateReferenceIdeal (hDwGateReferenceIdeal := hDwGateReferenceIdeal)
    ∧ quiescent_DwDnKernel (hDwDnKernel := hDwDnKernel)
    ∧ quiescent_DwDnKernelIdeal (hDwDnKernelIdeal := hDwDnKernelIdeal)
    ∧ quiescent_DwDnReferenceIdeal (hDwDnReferenceIdeal := hDwDnReferenceIdeal)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ quiescent_BrFwdKernel (hBrFwdKernel := hBrFwdKernel)
    ∧ quiescent_BrFwdKernelIdeal (hBrFwdKernelIdeal := hBrFwdKernelIdeal)
    ∧ quiescent_BrFwdReferenceIdeal (hBrFwdReferenceIdeal := hBrFwdReferenceIdeal)
    ∧ quiescent_BrDhKernel (hBrDhKernel := hBrDhKernel)
    ∧ quiescent_BrDhKernelIdeal (hBrDhKernelIdeal := hBrDhKernelIdeal)
    ∧ quiescent_BrDhReferenceIdeal (hBrDhReferenceIdeal := hBrDhReferenceIdeal)
    ∧ quiescent_BrDwKernel (hBrDwKernel := hBrDwKernel)
    ∧ quiescent_BrDwKernelIdeal (hBrDwKernelIdeal := hBrDwKernelIdeal)
    ∧ quiescent_BrDwReferenceIdeal (hBrDwReferenceIdeal := hBrDwReferenceIdeal)
    ∧ quiescent_OutFwdKernel (hOutFwdKernel := hOutFwdKernel)
    ∧ quiescent_OutFwdKernelIdeal (hOutFwdKernelIdeal := hOutFwdKernelIdeal)
    ∧ quiescent_OutFwdReferenceIdeal (hOutFwdReferenceIdeal := hOutFwdReferenceIdeal)
    ∧ quiescent_OutDhKernel (hOutDhKernel := hOutDhKernel)
    ∧ quiescent_OutDhKernelIdeal (hOutDhKernelIdeal := hOutDhKernelIdeal)
    ∧ quiescent_OutDhReferenceIdeal (hOutDhReferenceIdeal := hOutDhReferenceIdeal)
    ∧ quiescent_OutDwKernel (hOutDwKernel := hOutDwKernel)
    ∧ quiescent_OutDwKernelIdeal (hOutDwKernelIdeal := hOutDwKernelIdeal)
    ∧ quiescent_OutDwReferenceIdeal (hOutDwReferenceIdeal := hOutDwReferenceIdeal)
    ∧ quiescent_QbFwdKernel (hQbFwdKernel := hQbFwdKernel)
    ∧ quiescent_QbFwdKernelIdeal (hQbFwdKernelIdeal := hQbFwdKernelIdeal)
    ∧ quiescent_QbFwdReferenceIdeal (hQbFwdReferenceIdeal := hQbFwdReferenceIdeal)
    ∧ quiescent_QbDhKernel (hQbDhKernel := hQbDhKernel)
    ∧ quiescent_QbDhKernelIdeal (hQbDhKernelIdeal := hQbDhKernelIdeal)
    ∧ quiescent_QbDhReferenceIdeal (hQbDhReferenceIdeal := hQbDhReferenceIdeal)
    ∧ quiescent_QbDwKernel (hQbDwKernel := hQbDwKernel)
    ∧ quiescent_QbDwKernelIdeal (hQbDwKernelIdeal := hQbDwKernelIdeal)
    ∧ quiescent_QbDwReferenceIdeal (hQbDwReferenceIdeal := hQbDwReferenceIdeal)
    ∧ quiescent_KvFwdKernel (hKvFwdKernel := hKvFwdKernel)
    ∧ quiescent_KvFwdKernelIdeal (hKvFwdKernelIdeal := hKvFwdKernelIdeal)
    ∧ quiescent_KvFwdReferenceIdeal (hKvFwdReferenceIdeal := hKvFwdReferenceIdeal)
    ∧ quiescent_KvDwKernel (hKvDwKernel := hKvDwKernel)
    ∧ quiescent_KvDwKernelIdeal (hKvDwKernelIdeal := hKvDwKernelIdeal)
    ∧ quiescent_KvDwReferenceIdeal (hKvDwReferenceIdeal := hKvDwReferenceIdeal)
    ∧ quiescent_DwNarrowKernel (hDwNarrowKernel := hDwNarrowKernel)
    ∧ quiescent_DwNarrowKernelIdeal (hDwNarrowKernelIdeal := hDwNarrowKernelIdeal)
    ∧ quiescent_DwNarrowReferenceIdeal (hDwNarrowReferenceIdeal := hDwNarrowReferenceIdeal)
    ∧ preserves_Kernel_KernelIdeal
    ∧ algebraic_KernelIdeal_ReferenceIdeal (hKernelIdeal := hKernelIdeal) (hReferenceIdeal := hReferenceIdeal)
    ∧ preserves_DhKernel_DhKernelIdeal
    ∧ algebraic_DhKernelIdeal_DhReferenceIdeal (hDhKernelIdeal := hDhKernelIdeal) (hDhReferenceIdeal := hDhReferenceIdeal)
    ∧ preserves_DwDilKernel_DwDilKernelIdeal
    ∧ algebraic_DwDilKernelIdeal_DwDilReferenceIdeal (hDwDilKernelIdeal := hDwDilKernelIdeal) (hDwDilReferenceIdeal := hDwDilReferenceIdeal)
    ∧ preserves_DwGateKernel_DwGateKernelIdeal
    ∧ algebraic_DwGateKernelIdeal_DwGateReferenceIdeal (hDwGateKernelIdeal := hDwGateKernelIdeal) (hDwGateReferenceIdeal := hDwGateReferenceIdeal)
    ∧ preserves_DwDnKernel_DwDnKernelIdeal
    ∧ algebraic_DwDnKernelIdeal_DwDnReferenceIdeal (hDwDnKernelIdeal := hDwDnKernelIdeal) (hDwDnReferenceIdeal := hDwDnReferenceIdeal)
    ∧ preserves_FwdKernel_FwdKernelIdeal
    ∧ algebraic_FwdKernelIdeal_FwdReferenceIdeal (hFwdKernelIdeal := hFwdKernelIdeal) (hFwdReferenceIdeal := hFwdReferenceIdeal)
    ∧ preserves_BrFwdKernel_BrFwdKernelIdeal
    ∧ algebraic_BrFwdKernelIdeal_BrFwdReferenceIdeal (hBrFwdKernelIdeal := hBrFwdKernelIdeal) (hBrFwdReferenceIdeal := hBrFwdReferenceIdeal)
    ∧ preserves_BrDhKernel_BrDhKernelIdeal
    ∧ algebraic_BrDhKernelIdeal_BrDhReferenceIdeal (hBrDhKernelIdeal := hBrDhKernelIdeal) (hBrDhReferenceIdeal := hBrDhReferenceIdeal)
    ∧ preserves_BrDwKernel_BrDwKernelIdeal
    ∧ algebraic_BrDwKernelIdeal_BrDwReferenceIdeal (hBrDwKernelIdeal := hBrDwKernelIdeal) (hBrDwReferenceIdeal := hBrDwReferenceIdeal)
    ∧ preserves_OutFwdKernel_OutFwdKernelIdeal
    ∧ algebraic_OutFwdKernelIdeal_OutFwdReferenceIdeal (hOutFwdKernelIdeal := hOutFwdKernelIdeal) (hOutFwdReferenceIdeal := hOutFwdReferenceIdeal)
    ∧ preserves_OutDhKernel_OutDhKernelIdeal
    ∧ algebraic_OutDhKernelIdeal_OutDhReferenceIdeal (hOutDhKernelIdeal := hOutDhKernelIdeal) (hOutDhReferenceIdeal := hOutDhReferenceIdeal)
    ∧ preserves_OutDwKernel_OutDwKernelIdeal
    ∧ algebraic_OutDwKernelIdeal_OutDwReferenceIdeal (hOutDwKernelIdeal := hOutDwKernelIdeal) (hOutDwReferenceIdeal := hOutDwReferenceIdeal)
    ∧ preserves_QbFwdKernel_QbFwdKernelIdeal
    ∧ algebraic_QbFwdKernelIdeal_QbFwdReferenceIdeal (hQbFwdKernelIdeal := hQbFwdKernelIdeal) (hQbFwdReferenceIdeal := hQbFwdReferenceIdeal)
    ∧ preserves_QbDhKernel_QbDhKernelIdeal
    ∧ algebraic_QbDhKernelIdeal_QbDhReferenceIdeal (hQbDhKernelIdeal := hQbDhKernelIdeal) (hQbDhReferenceIdeal := hQbDhReferenceIdeal)
    ∧ preserves_QbDwKernel_QbDwKernelIdeal
    ∧ algebraic_QbDwKernelIdeal_QbDwReferenceIdeal (hQbDwKernelIdeal := hQbDwKernelIdeal) (hQbDwReferenceIdeal := hQbDwReferenceIdeal)
    ∧ preserves_KvFwdKernel_KvFwdKernelIdeal
    ∧ algebraic_KvFwdKernelIdeal_KvFwdReferenceIdeal (hKvFwdKernelIdeal := hKvFwdKernelIdeal) (hKvFwdReferenceIdeal := hKvFwdReferenceIdeal)
    ∧ preserves_KvDwKernel_KvDwKernelIdeal
    ∧ algebraic_KvDwKernelIdeal_KvDwReferenceIdeal (hKvDwKernelIdeal := hKvDwKernelIdeal) (hKvDwReferenceIdeal := hKvDwReferenceIdeal)
    ∧ preserves_DwNarrowKernel_DwNarrowKernelIdeal
    ∧ algebraic_DwNarrowKernelIdeal_DwNarrowReferenceIdeal (hDwNarrowKernelIdeal := hDwNarrowKernelIdeal) (hDwNarrowReferenceIdeal := hDwNarrowReferenceIdeal)
-- ==== Kernel.lean ====
abbrev S4096x512 : Shape := ⟨2, ![4096, 512]⟩
abbrev S2048x128 : Shape := ⟨2, ![2048, 128]⟩
abbrev S128x128 : Shape := ⟨2, ![128, 128]⟩
abbrev S128x256 : Shape := ⟨2, ![128, 256]⟩
abbrev S256x128 : Shape := ⟨2, ![256, 128]⟩
abbrev S128 : Shape := ⟨1, ![128]⟩
abbrev S128x1 : Shape := ⟨2, ![128, 1]⟩

abbrev nBuf : Space → Nat
  | .hbm => 8
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32_2 : BitVec 32 := 0#32
  let c16_i32 : BitVec 32 := 16#32
  let v5 : BitVec 32 := Scalar.addi c0_i32_2 c16_i32
  let c1_i32_3 : BitVec 32 := 1#32
  ⟨c0_i32_2, v5, c1_i32_3⟩
def k0_off1 (k0_t1 : Fin k0_t1_loop.trips) : Fin 2 → Nat :=
  let c0_i32_2 : BitVec 32 := 0#32
  let c1_i32_3 : BitVec 32 := 1#32
  let arg14 : BitVec 32 := Scf.iv c0_i32_2 c1_i32_3 k0_t1
  let c0_i32_7 : BitVec 32 := 0#32
  let v8 : BitVec 32 := Scalar.addi arg14 c0_i32_7
  let v9 : Index := Scalar.indexCast v8
  let c0 : Index := 0#32
  ![v9.toNat, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c1_i32_0 : BitVec 32 := 1#32
  let v1 : BitVec 32 := Scalar.muli v0 c1_i32_0
  let c1_i32_1 : BitVec 32 := 1#32
  let v2 : BitVec 32 := Scalar.subi v1 c1_i32_1
  let c0_i32 : BitVec 32 := 0#32
  let v3 : BitVec 32 := Scalar.maxsi v2 c0_i32
  let c0_i32_2 : BitVec 32 := 0#32
  ![v3.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c1_i32_0 : BitVec 32 := 1#32
  let v1 : BitVec 32 := Scalar.muli v0 c1_i32_0
  let c1_i32_1 : BitVec 32 := 1#32
  let v2 : BitVec 32 := Scalar.subi v1 c1_i32_1
  let c0_i32 : BitVec 32 := 0#32
  let v3 : BitVec 32 := Scalar.maxsi v2 c0_i32
  let c0_i32_2 : BitVec 32 := 0#32
  ![v3.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x512 : Shape := ⟨2, ![4096, 512]⟩
abbrev S1x4096x4x128 : Shape := ⟨4, ![1, 4096, 4, 128]⟩
abbrev S1x256x16x4x128 : Shape := ⟨5, ![1, 256, 16, 4, 128]⟩
abbrev S1x16x256x4x128 : Shape := ⟨5, ![1, 16, 256, 4, 128]⟩
abbrev S1x16x2x128x4x128 : Shape := ⟨6, ![1, 16, 2, 128, 4, 128]⟩
abbrev S1x16x1x128x4x128 : Shape := ⟨6, ![1, 16, 1, 128, 4, 128]⟩
abbrev S_ : Shape := ⟨0, ![]⟩
abbrev S1x16x2x256x4x128 : Shape := ⟨6, ![1, 16, 2, 256, 4, 128]⟩
abbrev S1x16x2x4x128x256 : Shape := ⟨6, ![1, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2 : Shape := ⟨1, ![2]⟩
abbrev S2x1x1 : Shape := ⟨3, ![2, 1, 1]⟩
abbrev S1x1x256 : Shape := ⟨3, ![1, 1, 256]⟩
abbrev S2x1x256 : Shape := ⟨3, ![2, 1, 256]⟩
abbrev S1x128x256 : Shape := ⟨3, ![1, 128, 256]⟩
abbrev S2x128x256 : Shape := ⟨3, ![2, 128, 256]⟩
abbrev S2x1x128x256 : Shape := ⟨4, ![2, 1, 128, 256]⟩
abbrev S1x16x2x4x128 : Shape := ⟨5, ![1, 16, 2, 4, 128]⟩
abbrev S1x16x2x4x128x1 : Shape := ⟨6, ![1, 16, 2, 4, 128, 1]⟩
abbrev S1x16x2x4x128x128 : Shape := ⟨6, ![1, 16, 2, 4, 128, 128]⟩
abbrev S1x16x2x128x4 : Shape := ⟨5, ![1, 16, 2, 128, 4]⟩
abbrev S1x16x2x128x4x1 : Shape := ⟨6, ![1, 16, 2, 128, 4, 1]⟩
abbrev S1x16x256x4 : Shape := ⟨4, ![1, 16, 256, 4]⟩
abbrev S1x256x16x4 : Shape := ⟨4, ![1, 256, 16, 4]⟩
abbrev S1x4096x4 : Shape := ⟨3, ![1, 4096, 4]⟩
abbrev S1x4096x4x1 : Shape := ⟨4, ![1, 4096, 4, 1]⟩
abbrev S4096x4 : Shape := ⟨2, ![4096, 4]⟩
abbrev S16x2x128x4 : Shape := ⟨4, ![16, 2, 128, 4]⟩
abbrev S16x2x4x128 : Shape := ⟨4, ![16, 2, 4, 128]⟩
abbrev S1x16x2x4x256x128 : Shape := ⟨6, ![1, 16, 2, 4, 256, 128]⟩

abbrev nBuf : Space → Nat
  | .hbm => 202
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S1x4096x4x128, .f32⟩
  | 6 => ⟨S1x4096x4x128, .f32⟩
  | 7 => ⟨S1x4096x4x128, .f32⟩
  | 8 => ⟨S1x256x16x4x128, .f32⟩
  | 9 => ⟨S1x16x256x4x128, .f32⟩
  | 10 => ⟨S1x16x2x128x4x128, .f32⟩
  | 11 => ⟨S1x256x16x4x128, .f32⟩
  | 12 => ⟨S1x16x256x4x128, .f32⟩
  | 13 => ⟨S1x16x2x128x4x128, .f32⟩
  | 14 => ⟨S1x16x1x128x4x128, .f32⟩
  | 15 => ⟨S_, .f32⟩
  | 16 => ⟨S1x16x1x128x4x128, .f32⟩
  | 17 => ⟨S1x16x1x128x4x128, .f32⟩
  | 18 => ⟨S1x16x2x128x4x128, .f32⟩
  | 19 => ⟨S_, .f32⟩
  | 20 => ⟨S1x16x1x128x4x128, .f32⟩
  | 21 => ⟨S1x16x2x256x4x128, .f32⟩
  | 22 => ⟨S1x256x16x4x128, .f32⟩
  | 23 => ⟨S1x16x256x4x128, .f32⟩
  | 24 => ⟨S1x16x2x128x4x128, .f32⟩
  | 25 => ⟨S1x16x1x128x4x128, .f32⟩
  | 26 => ⟨S_, .f32⟩
  | 27 => ⟨S1x16x1x128x4x128, .f32⟩
  | 28 => ⟨S1x16x1x128x4x128, .f32⟩
  | 29 => ⟨S1x16x2x128x4x128, .f32⟩
  | 30 => ⟨S_, .f32⟩
  | 31 => ⟨S1x16x1x128x4x128, .f32⟩
  | 32 => ⟨S1x16x2x256x4x128, .f32⟩
  | 33 => ⟨S1x16x2x4x128x256, .f32⟩
  | 34 => ⟨S_, .f32⟩
  | 35 => ⟨S1x16x2x4x128x256, .f32⟩
  | 36 => ⟨S1x16x2x4x128x256, .f32⟩
  | 37 => ⟨S128, .i32⟩
  | 38 => ⟨S128x1, .i32⟩
  | 39 => ⟨S256, .i32⟩
  | 40 => ⟨S1x256, .i32⟩
  | 41 => ⟨S_, .i32⟩
  | 42 => ⟨S128x1, .i32⟩
  | 43 => ⟨S128x1, .i32⟩
  | 44 => ⟨S128x256, .i32⟩
  | 45 => ⟨S128x256, .i32⟩
  | 46 => ⟨S128x256, .i32⟩
  | 47 => ⟨S_, .i32⟩
  | 48 => ⟨S128x256, .i32⟩
  | 49 => ⟨S128x256, .i1⟩
  | 50 => ⟨S_, .i32⟩
  | 51 => ⟨S128x256, .i32⟩
  | 52 => ⟨S128x256, .i1⟩
  | 53 => ⟨S128x256, .i1⟩
  | 54 => ⟨S2, .i32⟩
  | 55 => ⟨S_, .i32⟩
  | 56 => ⟨S2, .i32⟩
  | 57 => ⟨S2, .i1⟩
  | 58 => ⟨S2x1x1, .i1⟩
  | 59 => ⟨S_, .i32⟩
  | 60 => ⟨S1x256, .i32⟩
  | 61 => ⟨S1x256, .i1⟩
  | 62 => ⟨S1x1x256, .i1⟩
  | 63 => ⟨S2x1x256, .i1⟩
  | 64 => ⟨S2x1x256, .i1⟩
  | 65 => ⟨S2x1x256, .i1⟩
  | 66 => ⟨S1x128x256, .i1⟩
  | 67 => ⟨S2x128x256, .i1⟩
  | 68 => ⟨S2x128x256, .i1⟩
  | 69 => ⟨S2x128x256, .i1⟩
  | 70 => ⟨S2x1x128x256, .i1⟩
  | 71 => ⟨S_, .f32⟩
  | 72 => ⟨S_, .f32⟩
  | 73 => ⟨S1x16x2x4x128x256, .i1⟩
  | 74 => ⟨S1x16x2x4x128x256, .f32⟩
  | 75 => ⟨S1x16x2x4x128x256, .f32⟩
  | 76 => ⟨S_, .f32⟩
  | 77 => ⟨S1x16x2x4x128x256, .f32⟩
  | 78 => ⟨S_, .f32⟩
  | 79 => ⟨S1x16x2x4x128, .f32⟩
  | 80 => ⟨S1x16x2x4x128x1, .f32⟩
  | 81 => ⟨S1x16x2x4x128x256, .f32⟩
  | 82 => ⟨S1x16x2x4x128x256, .i1⟩
  | 83 => ⟨S1x16x2x4x128x256, .f32⟩
  | 84 => ⟨S_, .f32⟩
  | 85 => ⟨S1x16x2x4x128, .f32⟩
  | 86 => ⟨S1x16x2x4x128x1, .f32⟩
  | 87 => ⟨S1x16x2x4x128x256, .f32⟩
  | 88 => ⟨S1x16x2x4x128x256, .f32⟩
  | 89 => ⟨S1x16x2x4x128x256, .f32⟩
  | 90 => ⟨S_, .f32⟩
  | 91 => ⟨S1x16x2x4x128, .f32⟩
  | 92 => ⟨S1x16x2x4x128x128, .f32⟩
  | 93 => ⟨S1x16x2x128x4x128, .f32⟩
  | 94 => ⟨S1x16x2x128x4, .f32⟩
  | 95 => ⟨S1x16x2x128x4x1, .f32⟩
  | 96 => ⟨S1x16x2x128x4x128, .f32⟩
  | 97 => ⟨S1x16x2x128x4x128, .f32⟩
  | 98 => ⟨S1x16x2x128x4x1, .f32⟩
  | 99 => ⟨S_, .f32⟩
  | 100 => ⟨S1x16x2x128x4x1, .f32⟩
  | 101 => ⟨S1x16x2x128x4x1, .f32⟩
  | 102 => ⟨S1x16x2x4x128, .f32⟩
  | 103 => ⟨S1x16x2x4x128, .f32⟩
  | 104 => ⟨S1x16x2x4x128, .f32⟩
  | 105 => ⟨S1x16x2x128x4, .f32⟩
  | 106 => ⟨S1x16x256x4x128, .f32⟩
  | 107 => ⟨S1x256x16x4x128, .f32⟩
  | 108 => ⟨S1x4096x4x128, .f32⟩
  | 109 => ⟨S1x16x256x4, .f32⟩
  | 110 => ⟨S1x256x16x4, .f32⟩
  | 111 => ⟨S1x4096x4, .f32⟩
  | 112 => ⟨S1x4096x4x1, .f32⟩
  | 113 => ⟨S1x4096x4x128, .f32⟩
  | 114 => ⟨S4096x512, .f32⟩
  | 115 => ⟨S4096x512, .f32⟩
  | 116 => ⟨S1x4096x4x128, .f32⟩
  | 117 => ⟨S1x4096x4x128, .f32⟩
  | 118 => ⟨S_, .f32⟩
  | 119 => ⟨S4096x4, .f32⟩
  | 120 => ⟨S1x4096x4x1, .f32⟩
  | 121 => ⟨S_, .f32⟩
  | 122 => ⟨S4096x4, .f32⟩
  | 123 => ⟨S1x4096x4, .f32⟩
  | 124 => ⟨S1x256x16x4, .f32⟩
  | 125 => ⟨S1x16x256x4, .f32⟩
  | 126 => ⟨S1x16x2x128x4, .f32⟩
  | 127 => ⟨S1x256x16x4x128, .f32⟩
  | _ => ⟨S4096x512, .f32⟩

abbrev hbmTy0_1 (i : Nat) : BufTy := match i % 128 with
  | 0 => ⟨S1x16x256x4x128, .f32⟩
  | 1 => ⟨S1x16x2x128x4x128, .f32⟩
  | 2 => ⟨S1x16x2x4x128, .f32⟩
  | 3 => ⟨S1x16x2x4x128, .f32⟩
  | 4 => ⟨S1x16x2x4x128x1, .f32⟩
  | 5 => ⟨S1x16x2x128x4x128, .f32⟩
  | 6 => ⟨S1x16x2x128x4x128, .f32⟩
  | 7 => ⟨S1x16x2x128x4x128, .f32⟩
  | 8 => ⟨S_, .f32⟩
  | 9 => ⟨S1x16x2x128x4, .f32⟩
  | 10 => ⟨S1x16x2x128x4x1, .f32⟩
  | 11 => ⟨S1x16x2x128x4x1, .f32⟩
  | 12 => ⟨S1x16x2x128x4x128, .f32⟩
  | 13 => ⟨S1x16x2x128x4x128, .f32⟩
  | 14 => ⟨S_, .f32⟩
  | 15 => ⟨S16x2x128x4, .f32⟩
  | 16 => ⟨S1x16x2x128x4, .f32⟩
  | 17 => ⟨S1x16x2x4x128, .f32⟩
  | 18 => ⟨S1x16x2x4x128, .f32⟩
  | 19 => ⟨S1x16x2x4x128x128, .f32⟩
  | 20 => ⟨S1x16x2x4x128x256, .f32⟩
  | 21 => ⟨S1x16x2x4x128x256, .f32⟩
  | 22 => ⟨S1x16x2x256x4x128, .f32⟩
  | 23 => ⟨S1x16x2x4x128x256, .f32⟩
  | 24 => ⟨S1x16x2x4x128x256, .f32⟩
  | 25 => ⟨S1x16x2x4x128x256, .f32⟩
  | 26 => ⟨S1x16x2x4x128x256, .f32⟩
  | 27 => ⟨S_, .f32⟩
  | 28 => ⟨S1x16x2x4x128, .f32⟩
  | 29 => ⟨S1x16x2x4x128x1, .f32⟩
  | 30 => ⟨S1x16x2x4x128x1, .f32⟩
  | 31 => ⟨S_, .f32⟩
  | 32 => ⟨S16x2x4x128, .f32⟩
  | 33 => ⟨S1x16x2x4x128, .f32⟩
  | 34 => ⟨S1x16x2x4x128, .f32⟩
  | 35 => ⟨S1x16x2x4x128x256, .f32⟩
  | 36 => ⟨S1x16x2x4x128x256, .f32⟩
  | 37 => ⟨S1x16x2x4x128x256, .f32⟩
  | 38 => ⟨S_, .f32⟩
  | 39 => ⟨S1x16x2x4x128x256, .f32⟩
  | 40 => ⟨S1x16x2x4x128x256, .f32⟩
  | 41 => ⟨S_, .f32⟩
  | 42 => ⟨S1x16x2x4x128x256, .f32⟩
  | 43 => ⟨S1x16x2x4x128x256, .f32⟩
  | 44 => ⟨S1x16x2x4x256x128, .f32⟩
  | 45 => ⟨S1x16x2x256x4x128, .f32⟩
  | 46 => ⟨S1x16x2x4x128x128, .f32⟩
  | 47 => ⟨S1x16x2x128x4x128, .f32⟩
  | 48 => ⟨S1x16x2x128x4x128, .f32⟩
  | 49 => ⟨S1x16x2x128x4x128, .f32⟩
  | 50 => ⟨S1x16x1x128x4x128, .f32⟩
  | 51 => ⟨S1x16x1x128x4x128, .f32⟩
  | 52 => ⟨S_, .f32⟩
  | 53 => ⟨S1x16x2x128x4x128, .f32⟩
  | 54 => ⟨S1x16x2x128x4x128, .f32⟩
  | 55 => ⟨S1x16x256x4x128, .f32⟩
  | 56 => ⟨S1x256x16x4x128, .f32⟩
  | 57 => ⟨S1x4096x4x128, .f32⟩
  | 58 => ⟨S1x16x2x128x4x128, .f32⟩
  | 59 => ⟨S1x16x2x128x4x128, .f32⟩
  | 60 => ⟨S1x16x1x128x4x128, .f32⟩
  | 61 => ⟨S1x16x1x128x4x128, .f32⟩
  | 62 => ⟨S_, .f32⟩
  | 63 => ⟨S1x16x2x128x4x128, .f32⟩
  | 64 => ⟨S1x16x2x128x4x128, .f32⟩
  | 65 => ⟨S1x16x256x4x128, .f32⟩
  | 66 => ⟨S1x256x16x4x128, .f32⟩
  | 67 => ⟨S1x4096x4x128, .f32⟩
  | 68 => ⟨S1x16x256x4x128, .f32⟩
  | 69 => ⟨S1x256x16x4x128, .f32⟩
  | 70 => ⟨S1x4096x4x128, .f32⟩
  | 71 => ⟨S4096x512, .f32⟩
  | 72 => ⟨S4096x512, .f32⟩
  | 73 => ⟨S4096x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_call0_v0 : Ref sig .tc := ⟨.hbm, 72, rfl⟩
abbrev main_v56_1 : Ref sig .tc := ⟨.hbm, 73, rfl⟩
abbrev main_call0_v2 : Ref sig .tc := ⟨.hbm, 74, rfl⟩
abbrev main_v56_0 : Ref sig .tc := ⟨.hbm, 75, rfl⟩
abbrev main_call0_cst : Ref sig .tc := ⟨.hbm, 76, rfl⟩
abbrev main_v56_2 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_13 : Ref sig .tc := ⟨.hbm, 118, rfl⟩
abbrev main_v93 : Ref sig .tc := ⟨.hbm, 119, rfl⟩
abbrev main_v94 : Ref sig .tc := ⟨.hbm, 120, rfl⟩
abbrev main_cst_14 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_15 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_16 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_cst_17 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_cst_18 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_call1_cst : Ref sig .tc := ⟨.hbm, 166, rfl⟩
abbrev main_call1_v0 : Ref sig .tc := ⟨.hbm, 167, rfl⟩
abbrev main_v135 : Ref sig .tc := ⟨.hbm, 168, rfl⟩
abbrev main_cst_19 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_cst_20 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_cst_21 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩

abbrev nD : Nat := 1
abbrev τ : Topo := Topo.v7x

variable {F : FTy → Type} [FloatOps F]
-- ==== DhKernel.lean ====
abbrev S4096x1024 : Shape := ⟨2, ![4096, 1024]⟩
abbrev S4096x384 : Shape := ⟨2, ![4096, 384]⟩
abbrev S4096x256 : Shape := ⟨2, ![4096, 256]⟩
abbrev S4096x128 : Shape := ⟨2, ![4096, 128]⟩
abbrev S4096x512 : Shape := ⟨2, ![4096, 512]⟩
abbrev S4096x1536 : Shape := ⟨2, ![4096, 1536]⟩
abbrev S4096x4608 : Shape := ⟨2, ![4096, 4608]⟩
abbrev S4096x3072 : Shape := ⟨2, ![4096, 3072]⟩
abbrev S1024x384 : Shape := ⟨2, ![1024, 384]⟩
abbrev S1024x256 : Shape := ⟨2, ![1024, 256]⟩
abbrev S1024x128 : Shape := ⟨2, ![1024, 128]⟩
abbrev S1024x512 : Shape := ⟨2, ![1024, 512]⟩
abbrev S1024x1536 : Shape := ⟨2, ![1024, 1536]⟩
abbrev S1024x4608 : Shape := ⟨2, ![1024, 4608]⟩
abbrev S1024x3072 : Shape := ⟨2, ![1024, 3072]⟩
abbrev S512x384 : Shape := ⟨2, ![512, 384]⟩
abbrev S512x256 : Shape := ⟨2, ![512, 256]⟩
abbrev S512x128 : Shape := ⟨2, ![512, 128]⟩
abbrev S512x512 : Shape := ⟨2, ![512, 512]⟩
abbrev S512x1024 : Shape := ⟨2, ![512, 1024]⟩
abbrev S512x1536 : Shape := ⟨2, ![512, 1536]⟩
abbrev S512x3072 : Shape := ⟨2, ![512, 3072]⟩
abbrev S512x4608 : Shape := ⟨2, ![512, 4608]⟩

abbrev nBuf : Space → Nat
  | .hbm => 25
  | .vmem => 44
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S4096x256, .bf16⟩
  | .hbm, ⟨3, _⟩ => ⟨S4096x128, .bf16⟩
  | .hbm, ⟨4, _⟩ => ⟨S4096x512, .bf16⟩
  | .hbm, ⟨5, _⟩ => ⟨S4096x1536, .bf16⟩
  | .hbm, ⟨6, _⟩ => ⟨S4096x128, .bf16⟩
  | .hbm, ⟨7, _⟩ => ⟨S4096x512, .bf16⟩
  | .hbm, ⟨8, _⟩ => ⟨S4096x4608, .bf16⟩
  | .hbm, ⟨9, _⟩ => ⟨S4096x512, .bf16⟩
  | .hbm, ⟨10, _⟩ => ⟨S4096x3072, .bf16⟩
  | .hbm, ⟨11, _⟩ => ⟨S1024x384, .bf16⟩
  | .hbm, ⟨12, _⟩ => ⟨S1024x256, .bf16⟩
  | .hbm, ⟨13, _⟩ => ⟨S1024x128, .bf16⟩
  | .hbm, ⟨14, _⟩ => ⟨S1024x512, .bf16⟩
  | .hbm, ⟨15, _⟩ => ⟨S1024x1536, .bf16⟩
  | .hbm, ⟨16, _⟩ => ⟨S1024x128, .bf16⟩
  | .hbm, ⟨17, _⟩ => ⟨S1024x512, .bf16⟩
  | .hbm, ⟨18, _⟩ => ⟨S1024x4608, .bf16⟩
  | .hbm, ⟨19, _⟩ => ⟨S1024x512, .bf16⟩
  | .hbm, ⟨20, _⟩ => ⟨S1024x3072, .bf16⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .local _ .vmem, ⟨0, _⟩ => ⟨S512x384, .bf16⟩
  | .local _ .vmem, ⟨1, _⟩ => ⟨S512x384, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1024x384, .bf16⟩
  | .local _ .vmem, ⟨15, _⟩ => ⟨S1024x256, .bf16⟩
  | .local _ .vmem, ⟨16, _⟩ => ⟨S1024x128, .bf16⟩
  | .local _ .vmem, ⟨17, _⟩ => ⟨S1024x512, .bf16⟩
  | .local _ .vmem, ⟨18, _⟩ => ⟨S1024x128, .bf16⟩
  | .local _ .vmem, ⟨19, _⟩ => ⟨S1024x512, .bf16⟩
  | .local _ .vmem, ⟨20, _⟩ => ⟨S1024x512, .bf16⟩
  | .local _ .vmem, ⟨21, _⟩ => ⟨S512x1024, .f32⟩
  | .local _ .vmem, ⟨22, _⟩ => ⟨S512x1024, .f32⟩
  | .local _ .vmem, ⟨23, _⟩ => ⟨S512x1536, .bf16⟩
  | .local _ .vmem, ⟨24, _⟩ => ⟨S512x1536, .bf16⟩
  | .local _ .vmem, ⟨25, _⟩ => ⟨S1024x1536, .bf16⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x3072, .bf16⟩
  | .local _ .vmem, ⟨31, _⟩ => ⟨S512x3072, .bf16⟩
  | .local _ .vmem, ⟨32, _⟩ => ⟨S1024x3072, .bf16⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x4608, .bf16⟩
  | .local _ .vmem, ⟨38, _⟩ => ⟨S512x4608, .bf16⟩
  | .local _ .vmem, ⟨39, _⟩ => ⟨S1024x4608, .bf16⟩
  | .local _ .vmem, ⟨40, _⟩ => ⟨S512x1024, .f32⟩
  | .local _ .vmem, ⟨41, _⟩ => ⟨S512x1024, .f32⟩
  | .local _ .vmem, ⟨42, _⟩ => ⟨S512x1024, .bf16⟩
  | .local _ .vmem, ⟨43, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc1_sem0_0 : DmaSem sig := 23
abbrev cc1_sem0_1 : DmaSem sig := 24
abbrev cc1_sem1_0 : DmaSem sig := 25
abbrev cc1_sem2_0 : DmaSem sig := 26
abbrev cc1_sem2_1 : DmaSem sig := 27
abbrev cc1_sem3_0 : DmaSem sig := 28
abbrev cc1_sem3_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem2_1 : DmaSem sig := 34
abbrev cc2_sem3_0 : DmaSem sig := 35
abbrev cc2_sem3_1 : DmaSem sig := 36
abbrev cc3_sem0_0 : DmaSem sig := 37
abbrev cc3_sem0_1 : DmaSem sig := 38
abbrev cc3_sem1_0 : DmaSem sig := 39
abbrev cc3_sem2_0 : DmaSem sig := 40
abbrev cc3_sem2_1 : DmaSem sig := 41
abbrev cc3_sem3_0 : DmaSem sig := 42
abbrev cc3_sem3_1 : DmaSem sig := 43

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true]

abbrev stage0_13 : Fin 1 → Memref sig .tc .vmem S1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x1536 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x3072 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x3072 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![8, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x4608 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1024x4608 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== DhReferenceIdeal.lean ====
abbrev S4096x1024 : Shape := ⟨2, ![4096, 1024]⟩
abbrev S4096x384 : Shape := ⟨2, ![4096, 384]⟩
abbrev S4096x256 : Shape := ⟨2, ![4096, 256]⟩
abbrev S4096x128 : Shape := ⟨2, ![4096, 128]⟩
abbrev S4096x512 : Shape := ⟨2, ![4096, 512]⟩
abbrev S4096x1536 : Shape := ⟨2, ![4096, 1536]⟩
abbrev S4096x4608 : Shape := ⟨2, ![4096, 4608]⟩
abbrev S4096x3072 : Shape := ⟨2, ![4096, 3072]⟩
abbrev S1024x384 : Shape := ⟨2, ![1024, 384]⟩
abbrev S1024x256 : Shape := ⟨2, ![1024, 256]⟩
abbrev S1024x128 : Shape := ⟨2, ![1024, 128]⟩
abbrev S1024x512 : Shape := ⟨2, ![1024, 512]⟩
abbrev S1024x1536 : Shape := ⟨2, ![1024, 1536]⟩
abbrev S1024x4608 : Shape := ⟨2, ![1024, 4608]⟩
abbrev S1024x3072 : Shape := ⟨2, ![1024, 3072]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S4096x256, .bf16⟩
  | .hbm, ⟨3, _⟩ => ⟨S4096x128, .bf16⟩
  | .hbm, ⟨4, _⟩ => ⟨S4096x512, .bf16⟩
  | .hbm, ⟨5, _⟩ => ⟨S4096x1536, .bf16⟩
  | .hbm, ⟨6, _⟩ => ⟨S4096x128, .bf16⟩
  | .hbm, ⟨7, _⟩ => ⟨S4096x512, .bf16⟩
  | .hbm, ⟨8, _⟩ => ⟨S4096x4608, .bf16⟩
  | .hbm, ⟨9, _⟩ => ⟨S4096x512, .bf16⟩
  | .hbm, ⟨10, _⟩ => ⟨S4096x3072, .bf16⟩
  | .hbm, ⟨11, _⟩ => ⟨S1024x384, .bf16⟩
  | .hbm, ⟨12, _⟩ => ⟨S1024x256, .bf16⟩
  | .hbm, ⟨13, _⟩ => ⟨S1024x128, .bf16⟩
  | .hbm, ⟨14, _⟩ => ⟨S1024x512, .bf16⟩
  | .hbm, ⟨15, _⟩ => ⟨S1024x1536, .bf16⟩
  | .hbm, ⟨16, _⟩ => ⟨S1024x128, .bf16⟩
  | .hbm, ⟨17, _⟩ => ⟨S1024x512, .bf16⟩
  | .hbm, ⟨18, _⟩ => ⟨S1024x4608, .bf16⟩
  | .hbm, ⟨19, _⟩ => ⟨S1024x512, .bf16⟩
  | .hbm, ⟨20, _⟩ => ⟨S1024x3072, .bf16⟩
  | .hbm, ⟨21, _⟩ => ⟨S4096x384, .f32⟩
  | .hbm, ⟨22, _⟩ => ⟨S4096x384, .bf16⟩
  | .hbm, ⟨23, _⟩ => ⟨S4096x256, .f32⟩
  | .hbm, ⟨24, _⟩ => ⟨S4096x256, .bf16⟩
  | .hbm, ⟨25, _⟩ => ⟨S4096x128, .f32⟩
  | .hbm, ⟨26, _⟩ => ⟨S4096x128, .bf16⟩
  | .hbm, ⟨27, _⟩ => ⟨S4096x512, .f32⟩
  | .hbm, ⟨28, _⟩ => ⟨S4096x512, .bf16⟩
  | .hbm, ⟨29, _⟩ => ⟨S4096x1536, .f32⟩
  | .hbm, ⟨30, _⟩ => ⟨S4096x1536, .bf16⟩
  | .hbm, ⟨31, _⟩ => ⟨S4096x128, .f32⟩
  | .hbm, ⟨32, _⟩ => ⟨S4096x128, .bf16⟩
  | .hbm, ⟨33, _⟩ => ⟨S4096x512, .f32⟩
  | .hbm, ⟨34, _⟩ => ⟨S4096x512, .bf16⟩
  | .hbm, ⟨35, _⟩ => ⟨S4096x4608, .f32⟩
  | .hbm, ⟨36, _⟩ => ⟨S4096x4608, .bf16⟩
  | .hbm, ⟨37, _⟩ => ⟨S4096x512, .f32⟩
  | .hbm, ⟨38, _⟩ => ⟨S4096x512, .bf16⟩
  | .hbm, ⟨39, _⟩ => ⟨S4096x3072, .f32⟩
  | .hbm, ⟨40, _⟩ => ⟨S4096x3072, .bf16⟩
  | .hbm, ⟨41, _⟩ => ⟨S4096x3072, .f32⟩
  | .hbm, ⟨42, _⟩ => ⟨S4096x1024, .f32⟩
  | .hbm, ⟨43, _⟩ => ⟨S4096x1024, .bf16⟩
  | .hbm, ⟨44, _⟩ => ⟨S4096x512, .f32⟩
  | .hbm, ⟨45, _⟩ => ⟨S4096x1024, .f32⟩
  | .hbm, ⟨46, _⟩ => ⟨S4096x1024, .bf16⟩
  | .hbm, ⟨47, _⟩ => ⟨S4096x1024, .bf16⟩
  | .hbm, ⟨48, _⟩ => ⟨S4096x4608, .f32⟩
  | .hbm, ⟨49, _⟩ => ⟨S4096x1024, .f32⟩
  | .hbm, ⟨50, _⟩ => ⟨S4096x1024, .bf16⟩
  | .hbm, ⟨51, _⟩ => ⟨S4096x1024, .bf16⟩
  | .hbm, ⟨52, _⟩ => ⟨S4096x512, .f32⟩
  | .hbm, ⟨53, _⟩ => ⟨S4096x1024, .f32⟩
  | .hbm, ⟨54, _⟩ => ⟨S4096x1024, .bf16⟩
  | .hbm, ⟨55, _⟩ => ⟨S4096x1024, .bf16⟩
  | .hbm, ⟨56, _⟩ => ⟨S4096x128, .f32⟩
  | .hbm, ⟨57, _⟩ => ⟨S4096x1024, .f32⟩
  | .hbm, ⟨58, _⟩ => ⟨S4096x1024, .bf16⟩
  | .hbm, ⟨59, _⟩ => ⟨S4096x1024, .bf16⟩
  | .hbm, ⟨60, _⟩ => ⟨S4096x1536, .f32⟩
  | .hbm, ⟨61, _⟩ => ⟨S4096x1024, .f32⟩
  | .hbm, ⟨62, _⟩ => ⟨S4096x1024, .bf16⟩
  | .hbm, ⟨63, _⟩ => ⟨S4096x1024, .bf16⟩
  | .hbm, ⟨64, _⟩ => ⟨S4096x512, .f32⟩
  | .hbm, ⟨65, _⟩ => ⟨S4096x1024, .f32⟩
  | .hbm, ⟨66, _⟩ => ⟨S4096x1024, .bf16⟩
  | .hbm, ⟨67, _⟩ => ⟨S4096x1024, .bf16⟩
  | .hbm, ⟨68, _⟩ => ⟨S4096x128, .f32⟩
  | .hbm, ⟨69, _⟩ => ⟨S4096x1024, .f32⟩
  | .hbm, ⟨70, _⟩ => ⟨S4096x1024, .bf16⟩
  | .hbm, ⟨71, _⟩ => ⟨S4096x1024, .bf16⟩
  | .hbm, ⟨72, _⟩ => ⟨S4096x256, .f32⟩
  | .hbm, ⟨73, _⟩ => ⟨S4096x1024, .f32⟩
  | .hbm, ⟨74, _⟩ => ⟨S4096x1024, .bf16⟩
  | .hbm, ⟨75, _⟩ => ⟨S4096x1024, .bf16⟩
  | .hbm, ⟨76, _⟩ => ⟨S4096x384, .f32⟩
  | .hbm, ⟨77, _⟩ => ⟨S4096x1024, .f32⟩
  | .hbm, ⟨78, _⟩ => ⟨S4096x1024, .bf16⟩
  | .hbm, ⟨79, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== DwDilKernel.lean ====
abbrev S4096x1024 : Shape := ⟨2, ![4096, 1024]⟩
abbrev S4096x4608 : Shape := ⟨2, ![4096, 4608]⟩
abbrev S1024x4608 : Shape := ⟨2, ![1024, 4608]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4608, .bf16⟩
  | .hbm, ⟨2, _⟩ => ⟨S1024x4608, .bf16⟩
  | .hbm, ⟨3, _⟩ => ⟨S1024x4608, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDilKernelIdeal.lean ====
abbrev S4096x1024 : Shape := ⟨2, ![4096, 1024]⟩
abbrev S4096x4608 : Shape := ⟨2, ![4096, 4608]⟩
abbrev S1024x4608 : Shape := ⟨2, ![1024, 4608]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4608, .bf16⟩
  | .hbm, ⟨2, _⟩ => ⟨S1024x4608, .bf16⟩
  | .hbm, ⟨3, _⟩ => ⟨S1024x4608, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDilReferenceIdeal.lean ====
abbrev S4096x1024 : Shape := ⟨2, ![4096, 1024]⟩
abbrev S4096x4608 : Shape := ⟨2, ![4096, 4608]⟩
abbrev S1024x4608 : Shape := ⟨2, ![1024, 4608]⟩
abbrev S4608x1024 : Shape := ⟨2, ![4608, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4608, .bf16⟩
  | .hbm, ⟨2, _⟩ => ⟨S1024x4608, .bf16⟩
  | .hbm, ⟨3, _⟩ => ⟨S4096x4608, .f32⟩
  | .hbm, ⟨4, _⟩ => ⟨S4096x4608, .bf16⟩
  | .hbm, ⟨5, _⟩ => ⟨S4096x4608, .f32⟩
  | .hbm, ⟨6, _⟩ => ⟨S4608x1024, .f32⟩
  | .hbm, ⟨7, _⟩ => ⟨S1024x4608, .f32⟩
  | .hbm, ⟨8, _⟩ => ⟨S1024x4608, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwGateKernel.lean ====
abbrev S4096x1024 : Shape := ⟨2, ![4096, 1024]⟩
abbrev S4096x3072 : Shape := ⟨2, ![4096, 3072]⟩
abbrev S1024x3072 : Shape := ⟨2, ![1024, 3072]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .hbm, ⟨3, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateKernelIdeal.lean ====
abbrev S4096x1024 : Shape := ⟨2, ![4096, 1024]⟩
abbrev S4096x3072 : Shape := ⟨2, ![4096, 3072]⟩
abbrev S1024x3072 : Shape := ⟨2, ![1024, 3072]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .hbm, ⟨3, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateReferenceIdeal.lean ====
abbrev S4096x1024 : Shape := ⟨2, ![4096, 1024]⟩
abbrev S4096x3072 : Shape := ⟨2, ![4096, 3072]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .hbm, ⟨3, _⟩ => ⟨S4096x3072, .f32⟩
  | .hbm, ⟨4, _⟩ => ⟨S4096x3072, .bf16⟩
  | .hbm, ⟨5, _⟩ => ⟨S4096x3072, .f32⟩
  | .hbm, ⟨6, _⟩ => ⟨S3072x1024, .f32⟩
  | .hbm, ⟨7, _⟩ => ⟨S1024x3072, .f32⟩
  | .hbm, ⟨8, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwDnKernel.lean ====
abbrev S4096x1024 : Shape := ⟨2, ![4096, 1024]⟩
abbrev S4096x1536 : Shape := ⟨2, ![4096, 1536]⟩
abbrev S1024x1536 : Shape := ⟨2, ![1024, 1536]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .bf16⟩
  | .hbm, ⟨3, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDnReferenceIdeal.lean ====
abbrev S4096x1024 : Shape := ⟨2, ![4096, 1024]⟩
abbrev S4096x1536 : Shape := ⟨2, ![4096, 1536]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .bf16⟩
  | .hbm, ⟨3, _⟩ => ⟨S4096x1536, .f32⟩
  | .hbm, ⟨4, _⟩ => ⟨S4096x1536, .bf16⟩
  | .hbm, ⟨5, _⟩ => ⟨S4096x1536, .f32⟩
  | .hbm, ⟨6, _⟩ => ⟨S1536x1024, .f32⟩
  | .hbm, ⟨7, _⟩ => ⟨S1024x1536, .f32⟩
  | .hbm, ⟨8, _⟩ => ⟨S1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FwdKernel.lean ====
abbrev S4096x1024 : Shape := ⟨2, ![4096, 1024]⟩
abbrev S1024x384 : Shape := ⟨2, ![1024, 384]⟩
abbrev S1024x256 : Shape := ⟨2, ![1024, 256]⟩
abbrev S1024x128 : Shape := ⟨2, ![1024, 128]⟩
abbrev S1024x512 : Shape := ⟨2, ![1024, 512]⟩
abbrev S1024x1536 : Shape := ⟨2, ![1024, 1536]⟩
abbrev S1024x4608 : Shape := ⟨2, ![1024, 4608]⟩
abbrev S1024x3072 : Shape := ⟨2, ![1024, 3072]⟩
abbrev S4096x384 : Shape := ⟨2, ![4096, 384]⟩
abbrev S4096x256 : Shape := ⟨2, ![4096, 256]⟩
abbrev S4096x128 : Shape := ⟨2, ![4096, 128]⟩
abbrev S4096x512 : Shape := ⟨2, ![4096, 512]⟩
abbrev S1024x1024 : Shape := ⟨2, ![1024, 1024]⟩
abbrev S4096x1536 : Shape := ⟨2, ![4096, 1536]⟩
abbrev S4096x4608 : Shape := ⟨2, ![4096, 4608]⟩
abbrev S4096x3072 : Shape := ⟨2, ![4096, 3072]⟩

abbrev nBuf : Space → Nat
  | .hbm => 21
  | .vmem => 40
  | .smem => 0
  | _ => 0

abbrev bufTy : (tb : Table) → Fin (tcTables nBuf tb) → BufTy
  | .hbm, ⟨0, _⟩ => ⟨S4096x1024, .bf16⟩
  | .hbm, ⟨1, _⟩ => ⟨S1024x384, .bf16⟩
  | .hbm, ⟨2, _⟩ => ⟨S1024x256, .bf16⟩
  | .hbm, ⟨3, _⟩ => ⟨S1024x128, .bf16⟩
  | .hbm, ⟨4, _⟩ => ⟨S1024x512, .bf16⟩
  | .hbm, ⟨5, _⟩ => ⟨S1024x1536, .bf16⟩
  | .hbm, ⟨6, _⟩ => ⟨S1024x128, .bf16⟩
  | .hbm, ⟨7, _⟩ => ⟨S1024x512, .bf16⟩
  | .hbm, ⟨8, _⟩ => ⟨S1024x4608, .bf16⟩
  | .hbm, ⟨9, _⟩ => ⟨S1024x512, .bf16⟩
  | .hbm, ⟨10, _⟩ => ⟨S1024x3072, .bf16⟩
  | .hbm, ⟨11, _⟩ => ⟨S4096x384, .bf16⟩
  | .hbm, ⟨12, _⟩ => ⟨S4096x256, .bf16⟩
  | .hbm, ⟨13, _⟩ => ⟨S4096x128, .bf16⟩
  | .hbm, ⟨14, _⟩ => ⟨S4096x512, .bf16⟩
  | .hbm, ⟨15, _⟩ => ⟨S4096x128, .bf16⟩
  | .hbm, ⟨16, _⟩ => ⟨S4096x512, .bf16⟩
  | .hbm, ⟨17, _⟩ => ⟨S4096x512, .bf16⟩
  | .hbm, ⟨18, _⟩ => ⟨S4096x1536, .bf16⟩
  | .hbm, ⟨19, _⟩ => ⟨S4096x4608, .bf16⟩
  | .hbm, ⟨20, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x256, .bf16⟩
  | .local _ .vmem, ⟨4, _⟩ => ⟨S1024x128, .bf16⟩
  | .local _ .vmem, ⟨5, _⟩ => ⟨S1024x512, .bf16⟩
  | .local _ .vmem, ⟨6, _⟩ => ⟨S1024x128, .bf16⟩
  | .local _ .vmem, ⟨7, _⟩ => ⟨S1024x512, .bf16⟩
  | .local _ .vmem, ⟨8, _⟩ => ⟨S1024x512, .bf16⟩
  | .local _ .vmem, ⟨9, _⟩ => ⟨S1024x384, .bf16⟩
  | .local _ .vmem, ⟨10, _⟩ => ⟨S1024x384, .bf16⟩
  | .local _ .vmem, ⟨11, _⟩ => ⟨S1024x256, .bf16⟩
  | .local _ .vmem, ⟨12, _⟩ => ⟨S1024x256, .bf16⟩
  | .local _ .vmem, ⟨13, _⟩ => ⟨S1024x128, .bf16⟩
  | .local _ .vmem, ⟨14, _⟩ => ⟨S1024x128, .bf16⟩
  | .local _ .vmem, ⟨15, _⟩ => ⟨S1024x512, .bf16⟩
  | .local _ .vmem, ⟨16, _⟩ => ⟨S1024x512, .bf16⟩
  | .local _ .vmem, ⟨17, _⟩ => ⟨S1024x128, .bf16⟩
  | .local _ .vmem, ⟨18, _⟩ => ⟨S1024x128, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1536, .bf16⟩
  | .local _ .vmem, ⟨26, _⟩ => ⟨S1024x1536, .bf16⟩
  | .local _ .vmem, ⟨27, _⟩ => ⟨S1024x1536, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1536, .bf16⟩
  | .local _ .vmem, ⟨31, _⟩ => ⟨S1024x1536, .bf16⟩
  | .local _ .vmem, ⟨32, _⟩ => ⟨S1024x1536, .bf16⟩
  | .local _ .vmem, ⟨33, _⟩ => ⟨S1024x1536, .bf16⟩
  | .local _ .vmem, ⟨34, _⟩ => ⟨S1024x1024, .bf16⟩
  | .local _ .vmem, ⟨35, _⟩ => ⟨S1024x1024, .bf16⟩
  | .local _ .vmem, ⟨36, _⟩ => ⟨S1024x1536, .bf16⟩
  | .local _ .vmem, ⟨37, _⟩ => ⟨S1024x1536, .bf16⟩
  | .local _ .vmem, ⟨38, _⟩ => ⟨S1024x1536, .bf16⟩
  | .local _ .vmem, ⟨39, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg2_0 : Ref sig .tc := ⟨.vmem, 26, rfl⟩
abbrev cc1_stg2_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc1_sem0_0 : DmaSem sig := 23
abbrev cc1_sem0_1 : DmaSem sig := 24
abbrev cc1_sem1_0 : DmaSem sig := 25
abbrev cc1_sem2_0 : DmaSem sig := 26
abbrev cc1_sem2_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1536 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1536 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 3, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1536 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1536 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1536 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1536 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== FwdReferenceIdeal.lean ====
abbrev S4096x1024 : Shape := ⟨2, ![4096, 1024]⟩
abbrev S1024x384 : Shape := ⟨2, ![1024, 384]⟩
abbrev S1024x256 : Shape := ⟨2, ![1024, 256]⟩
abbrev S1024x128 : Shape := ⟨2, ![1024, 128]⟩
abbrev S1024x512 : Shape := ⟨2, ![1024, 512]⟩
abbrev S1024x1536 : Shape := ⟨2, ![1024, 1536]⟩
abbrev S1024x4608 : Shape := ⟨2, ![1024, 4608]⟩
abbrev S1024x3072 : Shape := ⟨2, ![1024, 3072]⟩
abbrev S4096x384 : Shape := ⟨2, ![4096, 384]⟩
abbrev S4096x256 : Shape := ⟨2, ![4096, 256]⟩
abbrev S4096x128 : Shape := ⟨2, ![4096, 128]⟩
abbrev S4096x512 : Shape := ⟨2, ![4096, 512]⟩
abbrev S4096x1536 : Shape := ⟨2, ![4096, 1536]⟩
abbrev S4096x4608 : Shape := ⟨2, ![4096, 4608]⟩
abbrev S4096x3072 : Shape := ⟨2, ![4096, 3072]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x384, .bf16⟩
  | .hbm, ⟨2, _⟩ => ⟨S1024x256, .bf16⟩
  | .hbm, ⟨3, _⟩ => ⟨S1024x128, .bf16⟩
  | .hbm, ⟨4, _⟩ => ⟨S1024x512, .bf16⟩
  | .hbm, ⟨5, _⟩ => ⟨S1024x1536, .bf16⟩
  | .hbm, ⟨6, _⟩ => ⟨S1024x128, .bf16⟩
  | .hbm, ⟨7, _⟩ => ⟨S1024x512, .bf16⟩
  | .hbm, ⟨8, _⟩ => ⟨S1024x4608, .bf16⟩
  | .hbm, ⟨9, _⟩ => ⟨S1024x512, .bf16⟩
  | .hbm, ⟨10, _⟩ => ⟨S1024x3072, .bf16⟩
  | .hbm, ⟨11, _⟩ => ⟨S4096x384, .f32⟩
  | .hbm, ⟨12, _⟩ => ⟨S4096x384, .bf16⟩
  | .hbm, ⟨13, _⟩ => ⟨S4096x256, .f32⟩
  | .hbm, ⟨14, _⟩ => ⟨S4096x256, .bf16⟩
  | .hbm, ⟨15, _⟩ => ⟨S4096x128, .f32⟩
  | .hbm, ⟨16, _⟩ => ⟨S4096x128, .bf16⟩
  | .hbm, ⟨17, _⟩ => ⟨S4096x512, .f32⟩
  | .hbm, ⟨18, _⟩ => ⟨S4096x512, .bf16⟩
  | .hbm, ⟨19, _⟩ => ⟨S4096x1536, .f32⟩
  | .hbm, ⟨20, _⟩ => ⟨S4096x1536, .bf16⟩
  | .hbm, ⟨21, _⟩ => ⟨S4096x128, .f32⟩
  | .hbm, ⟨22, _⟩ => ⟨S4096x128, .bf16⟩
  | .hbm, ⟨23, _⟩ => ⟨S4096x512, .f32⟩
  | .hbm, ⟨24, _⟩ => ⟨S4096x512, .bf16⟩
  | .hbm, ⟨25, _⟩ => ⟨S4096x4608, .f32⟩
  | .hbm, ⟨26, _⟩ => ⟨S4096x4608, .bf16⟩
  | .hbm, ⟨27, _⟩ => ⟨S4096x512, .f32⟩
  | .hbm, ⟨28, _⟩ => ⟨S4096x512, .bf16⟩
  | .hbm, ⟨29, _⟩ => ⟨S4096x3072, .f32⟩
  | .hbm, ⟨30, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== BrFwdKernel.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrFwdKernelIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrFwdReferenceIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BrDhKernel.lean ====
abbrev S4096x512 : Shape := ⟨2, ![4096, 512]⟩
abbrev S512x1024 : Shape := ⟨2, ![512, 1024]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S4096x512, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrDhKernelIdeal.lean ====
abbrev S4096x512 : Shape := ⟨2, ![4096, 512]⟩
abbrev S512x1024 : Shape := ⟨2, ![512, 1024]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S4096x512, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrDhReferenceIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S4096x1024, .f32⟩
  | .hbm, ⟨4, _⟩ => ⟨S4096x512, .f32⟩
  | .hbm, ⟨5, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BrDwKernel.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrDwKernelIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrDwReferenceIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S4096x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutFwdKernel.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwdReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutDhKernel.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDhKernelIdeal.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDhReferenceIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDwKernel.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwKernelIdeal.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QbFwdKernel.lean ====
abbrev S4096x384 : Shape := ⟨2, ![4096, 384]⟩
abbrev S384x1024 : Shape := ⟨2, ![384, 1024]⟩
abbrev S4096x1024 : Shape := ⟨2, ![4096, 1024]⟩
abbrev S1024x384 : Shape := ⟨2, ![1024, 384]⟩
abbrev S384x512 : Shape := ⟨2, ![384, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x384, .bf16⟩
  | .hbm, ⟨1, _⟩ => ⟨S384x1024, .bf16⟩
  | .hbm, ⟨2, _⟩ => ⟨S4096x1024, .f32⟩
  | .local _ .vmem, ⟨0, _⟩ => ⟨S1024x384, .bf16⟩
  | .local _ .vmem, ⟨1, _⟩ => ⟨S1024x384, .bf16⟩
  | .local _ .vmem, ⟨2, _⟩ => ⟨S384x512, .bf16⟩
  | .local _ .vmem, ⟨3, _⟩ => ⟨S384x512, .bf16⟩
  | .local _ .vmem, ⟨4, _⟩ => ⟨S1024x512, .f32⟩
  | .local _ .vmem, ⟨5, _⟩ => ⟨S1024x512, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QbFwdKernelIdeal.lean ====
abbrev S4096x384 : Shape := ⟨2, ![4096, 384]⟩
abbrev S384x1024 : Shape := ⟨2, ![384, 1024]⟩
abbrev S4096x1024 : Shape := ⟨2, ![4096, 1024]⟩
abbrev S1024x384 : Shape := ⟨2, ![1024, 384]⟩
abbrev S384x512 : Shape := ⟨2, ![384, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x384, .bf16⟩
  | .hbm, ⟨1, _⟩ => ⟨S384x1024, .bf16⟩
  | .hbm, ⟨2, _⟩ => ⟨S4096x1024, .f32⟩
  | .local _ .vmem, ⟨0, _⟩ => ⟨S1024x384, .bf16⟩
  | .local _ .vmem, ⟨1, _⟩ => ⟨S1024x384, .bf16⟩
  | .local _ .vmem, ⟨2, _⟩ => ⟨S384x512, .bf16⟩
  | .local _ .vmem, ⟨3, _⟩ => ⟨S384x512, .bf16⟩
  | .local _ .vmem, ⟨4, _⟩ => ⟨S1024x512, .f32⟩
  | .local _ .vmem, ⟨5, _⟩ => ⟨S1024x512, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QbFwdReferenceIdeal.lean ====
abbrev S4096x384 : Shape := ⟨2, ![4096, 384]⟩
abbrev S384x1024 : Shape := ⟨2, ![384, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S384x1024, .bf16⟩
  | .hbm, ⟨2, _⟩ => ⟨S4096x1024, .f32⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== QbDhKernel.lean ====
abbrev S4096x384 : Shape := ⟨2, ![4096, 384]⟩
abbrev S384x1024 : Shape := ⟨2, ![384, 1024]⟩
abbrev S4096x1024 : Shape := ⟨2, ![4096, 1024]⟩
abbrev S1024x1024 : Shape := ⟨2, ![1024, 1024]⟩
abbrev S1024x384 : Shape := ⟨2, ![1024, 384]⟩

abbrev nBuf : Space → Nat
  | .hbm => 4
  | .vmem => 5
  | .smem => 0
  | _ => 0

abbrev bufTy : (tb : Table) → Fin (tcTables nBuf tb) → BufTy
  | .hbm, ⟨0, _⟩ => ⟨S4096x384, .bf16⟩
  | .hbm, ⟨1, _⟩ => ⟨S384x1024, .bf16⟩
  | .hbm, ⟨2, _⟩ => ⟨S4096x1024, .f32⟩
  | .hbm, ⟨3, _⟩ => ⟨S4096x384, .bf16⟩
  | .local _ .vmem, ⟨0, _⟩ => ⟨S1024x1024, .f32⟩
  | .local _ .vmem, ⟨1, _⟩ => ⟨S1024x1024, .f32⟩
  | .local _ .vmem, ⟨2, _⟩ => ⟨S384x1024, .bf16⟩
  | .local _ .vmem, ⟨3, _⟩ => ⟨S1024x384, .bf16⟩
  | .local _ .vmem, ⟨4, _⟩ => ⟨S1024x384, .bf16⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QbDhReferenceIdeal.lean ====
abbrev S4096x384 : Shape := ⟨2, ![4096, 384]⟩
abbrev S384x1024 : Shape := ⟨2, ![384, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S384x1024, .bf16⟩
  | .hbm, ⟨2, _⟩ => ⟨S4096x1024, .f32⟩
  | .hbm, ⟨3, _⟩ => ⟨S4096x1024, .f32⟩
  | .hbm, ⟨4, _⟩ => ⟨S4096x384, .f32⟩
  | .hbm, ⟨5, _⟩ => ⟨S4096x384, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== QbDwKernel.lean ====
abbrev S4096x384 : Shape := ⟨2, ![4096, 384]⟩
abbrev S384x1024 : Shape := ⟨2, ![384, 1024]⟩
abbrev S4096x1024 : Shape := ⟨2, ![4096, 1024]⟩
abbrev S1024x384 : Shape := ⟨2, ![1024, 384]⟩
abbrev S1024x512 : Shape := ⟨2, ![1024, 512]⟩
abbrev S384x512 : Shape := ⟨2, ![384, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x384, .bf16⟩
  | .hbm, ⟨1, _⟩ => ⟨S384x1024, .bf16⟩
  | .hbm, ⟨2, _⟩ => ⟨S4096x1024, .f32⟩
  | .hbm, ⟨3, _⟩ => ⟨S384x1024, .bf16⟩
  | .local _ .vmem, ⟨0, _⟩ => ⟨S1024x384, .bf16⟩
  | .local _ .vmem, ⟨1, _⟩ => ⟨S1024x384, .bf16⟩
  | .local _ .vmem, ⟨2, _⟩ => ⟨S1024x512, .f32⟩
  | .local _ .vmem, ⟨3, _⟩ => ⟨S1024x512, .f32⟩
  | .local _ .vmem, ⟨4, _⟩ => ⟨S384x512, .bf16⟩
  | .local _ .vmem, ⟨5, _⟩ => ⟨S384x512, .bf16⟩
  | .local _ .vmem, ⟨6, _⟩ => ⟨S384x512, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QbDwKernelIdeal.lean ====
abbrev S4096x384 : Shape := ⟨2, ![4096, 384]⟩
abbrev S384x1024 : Shape := ⟨2, ![384, 1024]⟩
abbrev S4096x1024 : Shape := ⟨2, ![4096, 1024]⟩
abbrev S1024x384 : Shape := ⟨2, ![1024, 384]⟩
abbrev S1024x512 : Shape := ⟨2, ![1024, 512]⟩
abbrev S384x512 : Shape := ⟨2, ![384, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x384, .bf16⟩
  | .hbm, ⟨1, _⟩ => ⟨S384x1024, .bf16⟩
  | .hbm, ⟨2, _⟩ => ⟨S4096x1024, .f32⟩
  | .hbm, ⟨3, _⟩ => ⟨S384x1024, .bf16⟩
  | .local _ .vmem, ⟨0, _⟩ => ⟨S1024x384, .bf16⟩
  | .local _ .vmem, ⟨1, _⟩ => ⟨S1024x384, .bf16⟩
  | .local _ .vmem, ⟨2, _⟩ => ⟨S1024x512, .f32⟩
  | .local _ .vmem, ⟨3, _⟩ => ⟨S1024x512, .f32⟩
  | .local _ .vmem, ⟨4, _⟩ => ⟨S384x512, .bf16⟩
  | .local _ .vmem, ⟨5, _⟩ => ⟨S384x512, .bf16⟩
  | .local _ .vmem, ⟨6, _⟩ => ⟨S384x512, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QbDwReferenceIdeal.lean ====
abbrev S4096x384 : Shape := ⟨2, ![4096, 384]⟩
abbrev S384x1024 : Shape := ⟨2, ![384, 1024]⟩
abbrev S4096x1024 : Shape := ⟨2, ![4096, 1024]⟩
abbrev S1024x384 : Shape := ⟨2, ![1024, 384]⟩

abbrev nBuf : Space → Nat
  | .hbm => 7
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S384x1024, .bf16⟩
  | .hbm, ⟨2, _⟩ => ⟨S4096x1024, .f32⟩
  | .hbm, ⟨3, _⟩ => ⟨S4096x1024, .f32⟩
  | .hbm, ⟨4, _⟩ => ⟨S1024x384, .f32⟩
  | .hbm, ⟨5, _⟩ => ⟨S384x1024, .f32⟩
  | .hbm, ⟨6, _⟩ => ⟨S384x1024, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KvFwdKernel.lean ====
abbrev S4096x256 : Shape := ⟨2, ![4096, 256]⟩
abbrev S256x512 : Shape := ⟨2, ![256, 512]⟩
abbrev S4096x512 : Shape := ⟨2, ![4096, 512]⟩
abbrev S1024x256 : Shape := ⟨2, ![1024, 256]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x512, .bf16⟩
  | .hbm, ⟨2, _⟩ => ⟨S4096x512, .f32⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S1024x512, .f32⟩
  | .local _ .vmem, ⟨4, _⟩ => ⟨S1024x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvFwdReferenceIdeal.lean ====
abbrev S4096x256 : Shape := ⟨2, ![4096, 256]⟩
abbrev S256x512 : Shape := ⟨2, ![256, 512]⟩
abbrev S4096x512 : Shape := ⟨2, ![4096, 512]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x512, .bf16⟩
  | .hbm, ⟨2, _⟩ => ⟨S4096x512, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KvDwKernel.lean ====
abbrev S4096x256 : Shape := ⟨2, ![4096, 256]⟩
abbrev S256x512 : Shape := ⟨2, ![256, 512]⟩
abbrev S4096x512 : Shape := ⟨2, ![4096, 512]⟩
abbrev S1024x256 : Shape := ⟨2, ![1024, 256]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S256x512, .bf16⟩
  | .hbm, ⟨2, _⟩ => ⟨S4096x512, .f32⟩
  | .hbm, ⟨3, _⟩ => ⟨S256x512, .bf16⟩
  | .local _ .vmem, ⟨0, _⟩ => ⟨S1024x256, .bf16⟩
  | .local _ .vmem, ⟨1, _⟩ => ⟨S1024x256, .bf16⟩
  | .local _ .vmem, ⟨2, _⟩ => ⟨S1024x512, .f32⟩
  | .local _ .vmem, ⟨3, _⟩ => ⟨S1024x512, .f32⟩
  | .local _ .vmem, ⟨4, _⟩ => ⟨S256x512, .bf16⟩
  | .local _ .vmem, ⟨5, _⟩ => ⟨S256x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvDwReferenceIdeal.lean ====
abbrev S4096x256 : Shape := ⟨2, ![4096, 256]⟩
abbrev S256x512 : Shape := ⟨2, ![256, 512]⟩
abbrev S4096x512 : Shape := ⟨2, ![4096, 512]⟩
abbrev S512x256 : Shape := ⟨2, ![512, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x512, .bf16⟩
  | .hbm, ⟨2, _⟩ => ⟨S4096x512, .f32⟩
  | .hbm, ⟨3, _⟩ => ⟨S4096x512, .f32⟩
  | .hbm, ⟨4, _⟩ => ⟨S512x256, .f32⟩
  | .hbm, ⟨5, _⟩ => ⟨S256x512, .f32⟩
  | .hbm, ⟨6, _⟩ => ⟨S256x512, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwNarrowKernel.lean ====
abbrev S4096x1024 : Shape := ⟨2, ![4096, 1024]⟩
abbrev S4096x384 : Shape := ⟨2, ![4096, 384]⟩
abbrev S4096x256 : Shape := ⟨2, ![4096, 256]⟩
abbrev S4096x128 : Shape := ⟨2, ![4096, 128]⟩
abbrev S4096x512 : Shape := ⟨2, ![4096, 512]⟩
abbrev S1024x384 : Shape := ⟨2, ![1024, 384]⟩
abbrev S1024x256 : Shape := ⟨2, ![1024, 256]⟩
abbrev S1024x128 : Shape := ⟨2, ![1024, 128]⟩
abbrev S1024x512 : Shape := ⟨2, ![1024, 512]⟩
abbrev S1024x1024 : Shape := ⟨2, ![1024, 1024]⟩

abbrev nBuf : Space → Nat
  | .hbm => 22
  | .vmem => 30
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S4096x256, .bf16⟩
  | .hbm, ⟨3, _⟩ => ⟨S4096x128, .bf16⟩
  | .hbm, ⟨4, _⟩ => ⟨S4096x512, .bf16⟩
  | .hbm, ⟨5, _⟩ => ⟨S4096x128, .bf16⟩
  | .hbm, ⟨6, _⟩ => ⟨S4096x512, .bf16⟩
  | .hbm, ⟨7, _⟩ => ⟨S4096x512, .bf16⟩
  | .hbm, ⟨8, _⟩ => ⟨S1024x384, .bf16⟩
  | .hbm, ⟨9, _⟩ => ⟨S1024x256, .bf16⟩
  | .hbm, ⟨10, _⟩ => ⟨S1024x128, .bf16⟩
  | .hbm, ⟨11, _⟩ => ⟨S1024x512, .bf16⟩
  | .hbm, ⟨12, _⟩ => ⟨S1024x128, .bf16⟩
  | .hbm, ⟨13, _⟩ => ⟨S1024x512, .bf16⟩
  | .hbm, ⟨14, _⟩ => ⟨S1024x512, .bf16⟩
  | .hbm, ⟨15, _⟩ => ⟨S1024x384, .bf16⟩
  | .hbm, ⟨16, _⟩ => ⟨S1024x256, .bf16⟩
  | .hbm, ⟨17, _⟩ => ⟨S1024x128, .bf16⟩
  | .hbm, ⟨18, _⟩ => ⟨S1024x512, .bf16⟩
  | .hbm, ⟨19, _⟩ => ⟨S1024x128, .bf16⟩
  | .hbm, ⟨20, _⟩ => ⟨S1024x512, .bf16⟩
  | .hbm, ⟨21, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x256, .bf16⟩
  | .local _ .vmem, ⟨5, _⟩ => ⟨S1024x256, .bf16⟩
  | .local _ .vmem, ⟨6, _⟩ => ⟨S1024x128, .bf16⟩
  | .local _ .vmem, ⟨7, _⟩ => ⟨S1024x128, .bf16⟩
  | .local _ .vmem, ⟨8, _⟩ => ⟨S1024x512, .bf16⟩
  | .local _ .vmem, ⟨9, _⟩ => ⟨S1024x512, .bf16⟩
  | .local _ .vmem, ⟨10, _⟩ => ⟨S1024x128, .bf16⟩
  | .local _ .vmem, ⟨11, _⟩ => ⟨S1024x128, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x384, .bf16⟩
  | .local _ .vmem, ⟨17, _⟩ => ⟨S1024x256, .bf16⟩
  | .local _ .vmem, ⟨18, _⟩ => ⟨S1024x128, .bf16⟩
  | .local _ .vmem, ⟨19, _⟩ => ⟨S1024x512, .bf16⟩
  | .local _ .vmem, ⟨20, _⟩ => ⟨S1024x128, .bf16⟩
  | .local _ .vmem, ⟨21, _⟩ => ⟨S1024x512, .bf16⟩
  | .local _ .vmem, ⟨22, _⟩ => ⟨S1024x512, .bf16⟩
  | .local _ .vmem, ⟨23, _⟩ => ⟨S1024x384, .f32⟩
  | .local _ .vmem, ⟨24, _⟩ => ⟨S1024x256, .f32⟩
  | .local _ .vmem, ⟨25, _⟩ => ⟨S1024x128, .f32⟩
  | .local _ .vmem, ⟨26, _⟩ => ⟨S1024x512, .f32⟩
  | .local _ .vmem, ⟨27, _⟩ => ⟨S1024x128, .f32⟩
  | .local _ .vmem, ⟨28, _⟩ => ⟨S1024x512, .f32⟩
  | .local _ .vmem, ⟨29, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_6 : BitVec 32 := 0#32
  let v11 : BitVec 1 := Scalar.cmpi .ne v10 c0_i32_6
  v11

def k0_cond6 (i : grid0.Coords) : BitVec 1 :=
  let arg0 : BitVec 32 := BitVec.ofNat 32 (i 0).val
  let c3_i32_14 : BitVec 32 := 3#32
  let v20 : BitVec 1 := Scalar.cmpi .eq arg0 c3_i32_14
  let v21 : BitVec 32 := Scalar.extui v20
  let c0_i32_15 : BitVec 32 := 0#32
  let v22 : BitVec 1 := Scalar.cmpi .ne v21 c0_i32_15
  v22

def k0_cond9 (i : grid0.Coords) : BitVec 1 :=
  let arg0 : BitVec 32 := BitVec.ofNat 32 (i 0).val
  let c3_i32_23 : BitVec 32 := 3#32
  let v31 : BitVec 1 := Scalar.cmpi .eq arg0 c3_i32_23
  let v32 : BitVec 32 := Scalar.extui v31
  let c0_i32_24 : BitVec 32 := 0#32
  let v33 : BitVec 1 := Scalar.cmpi .ne v32 c0_i32_24
  v33

def k0_cond12 (i : grid0.Coords) : BitVec 1 :=
  let arg0 : BitVec 32 := BitVec.ofNat 32 (i 0).val
  let c3_i32_32 : BitVec 32 := 3#32
  let v42 : BitVec 1 := Scalar.cmpi .eq arg0 c3_i32_32
  let v43 : BitVec 32 := Scalar.extui v42
  let c0_i32_33 : BitVec 32 := 0#32
  let v44 : BitVec 1 := Scalar.cmpi .ne v43 c0_i32_33
  v44

def k0_cond15 (i : grid0.Coords) : BitVec 1 :=
  let arg0 : BitVec 32 := BitVec.ofNat 32 (i 0).val
  let c3_i32_41 : BitVec 32 := 3#32
  let v53 : BitVec 1 := Scalar.cmpi .eq arg0 c3_i32_41
  let v54 : BitVec 32 := Scalar.extui v53
  let c0_i32_42 : BitVec 32 := 0#32
  let v55 : BitVec 1 := Scalar.cmpi .ne v54 c0_i32_42
  v55

def k0_cond18 (i : grid0.Coords) : BitVec 1 :=
  let arg0 : BitVec 32 := BitVec.ofNat 32 (i 0).val
  let c3_i32_50 : BitVec 32 := 3#32
  let v64 : BitVec 1 := Scalar.cmpi .eq arg0 c3_i32_50
  let v65 : BitVec 32 := Scalar.extui v64
  let c0_i32_51 : BitVec 32 := 0#32
  let v66 : BitVec 1 := Scalar.cmpi .ne v65 c0_i32_51
  v66

def k0_cond21 (i : grid0.Coords) : BitVec 1 :=
  let arg0 : BitVec 32 := BitVec.ofNat 32 (i 0).val
  let c3_i32_59 : BitVec 32 := 3#32
  let v75 : BitVec 1 := Scalar.cmpi .eq arg0 c3_i32_59
  let v76 : BitVec 32 := Scalar.extui v75
  let c0_i32_60 : BitVec 32 := 0#32
  let v77 : BitVec 1 := Scalar.cmpi .ne v76 c0_i32_60
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== DwNarrowReferenceIdeal.lean ====
abbrev S4096x1024 : Shape := ⟨2, ![4096, 1024]⟩
abbrev S4096x384 : Shape := ⟨2, ![4096, 384]⟩
abbrev S4096x256 : Shape := ⟨2, ![4096, 256]⟩
abbrev S4096x128 : Shape := ⟨2, ![4096, 128]⟩
abbrev S4096x512 : Shape := ⟨2, ![4096, 512]⟩
abbrev S1024x384 : Shape := ⟨2, ![1024, 384]⟩
abbrev S1024x256 : Shape := ⟨2, ![1024, 256]⟩
abbrev S1024x128 : Shape := ⟨2, ![1024, 128]⟩
abbrev S1024x512 : Shape := ⟨2, ![1024, 512]⟩
abbrev S512x1024 : Shape := ⟨2, ![512, 1024]⟩
abbrev S128x1024 : Shape := ⟨2, ![128, 1024]⟩
abbrev S256x1024 : Shape := ⟨2, ![256, 1024]⟩
abbrev S384x1024 : Shape := ⟨2, ![384, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S4096x256, .bf16⟩
  | .hbm, ⟨3, _⟩ => ⟨S4096x128, .bf16⟩
  | .hbm, ⟨4, _⟩ => ⟨S4096x512, .bf16⟩
  | .hbm, ⟨5, _⟩ => ⟨S4096x128, .bf16⟩
  | .hbm, ⟨6, _⟩ => ⟨S4096x512, .bf16⟩
  | .hbm, ⟨7, _⟩ => ⟨S4096x512, .bf16⟩
  | .hbm, ⟨8, _⟩ => ⟨S1024x384, .bf16⟩
  | .hbm, ⟨9, _⟩ => ⟨S1024x256, .bf16⟩
  | .hbm, ⟨10, _⟩ => ⟨S1024x128, .bf16⟩
  | .hbm, ⟨11, _⟩ => ⟨S1024x512, .bf16⟩
  | .hbm, ⟨12, _⟩ => ⟨S1024x128, .bf16⟩
  | .hbm, ⟨13, _⟩ => ⟨S1024x512, .bf16⟩
  | .hbm, ⟨14, _⟩ => ⟨S1024x512, .bf16⟩
  | .hbm, ⟨15, _⟩ => ⟨S4096x384, .f32⟩
  | .hbm, ⟨16, _⟩ => ⟨S4096x384, .bf16⟩
  | .hbm, ⟨17, _⟩ => ⟨S4096x256, .f32⟩
  | .hbm, ⟨18, _⟩ => ⟨S4096x256, .bf16⟩
  | .hbm, ⟨19, _⟩ => ⟨S4096x128, .f32⟩
  | .hbm, ⟨20, _⟩ => ⟨S4096x128, .bf16⟩
  | .hbm, ⟨21, _⟩ => ⟨S4096x512, .f32⟩
  | .hbm, ⟨22, _⟩ => ⟨S4096x512, .bf16⟩
  | .hbm, ⟨23, _⟩ => ⟨S4096x128, .f32⟩
  | .hbm, ⟨24, _⟩ => ⟨S4096x128, .bf16⟩
  | .hbm, ⟨25, _⟩ => ⟨S4096x512, .f32⟩
  | .hbm, ⟨26, _⟩ => ⟨S4096x512, .bf16⟩
  | .hbm, ⟨27, _⟩ => ⟨S4096x512, .f32⟩
  | .hbm, ⟨28, _⟩ => ⟨S4096x512, .bf16⟩
  | .hbm, ⟨29, _⟩ => ⟨S4096x512, .f32⟩
  | .hbm, ⟨30, _⟩ => ⟨S512x1024, .f32⟩
  | .hbm, ⟨31, _⟩ => ⟨S1024x512, .f32⟩
  | .hbm, ⟨32, _⟩ => ⟨S1024x512, .bf16⟩
  | .hbm, ⟨33, _⟩ => ⟨S4096x512, .f32⟩
  | .hbm, ⟨34, _⟩ => ⟨S512x1024, .f32⟩
  | .hbm, ⟨35, _⟩ => ⟨S1024x512, .f32⟩
  | .hbm, ⟨36, _⟩ => ⟨S1024x512, .bf16⟩
  | .hbm, ⟨37, _⟩ => ⟨S4096x128, .f32⟩
  | .hbm, ⟨38, _⟩ => ⟨S128x1024, .f32⟩
  | .hbm, ⟨39, _⟩ => ⟨S1024x128, .f32⟩
  | .hbm, ⟨40, _⟩ => ⟨S1024x128, .bf16⟩
  | .hbm, ⟨41, _⟩ => ⟨S4096x512, .f32⟩
  | .hbm, ⟨42, _⟩ => ⟨S512x1024, .f32⟩
  | .hbm, ⟨43, _⟩ => ⟨S1024x512, .f32⟩
  | .hbm, ⟨44, _⟩ => ⟨S1024x512, .bf16⟩
  | .hbm, ⟨45, _⟩ => ⟨S4096x128, .f32⟩
  | .hbm, ⟨46, _⟩ => ⟨S128x1024, .f32⟩
  | .hbm, ⟨47, _⟩ => ⟨S1024x128, .f32⟩
  | .hbm, ⟨48, _⟩ => ⟨S1024x128, .bf16⟩
  | .hbm, ⟨49, _⟩ => ⟨S4096x256, .f32⟩
  | .hbm, ⟨50, _⟩ => ⟨S256x1024, .f32⟩
  | .hbm, ⟨51, _⟩ => ⟨S1024x256, .f32⟩
  | .hbm, ⟨52, _⟩ => ⟨S1024x256, .bf16⟩
  | .hbm, ⟨53, _⟩ => ⟨S4096x384, .f32⟩
  | .hbm, ⟨54, _⟩ => ⟨S384x1024, .f32⟩
  | .hbm, ⟨55, _⟩ => ⟨S1024x384, .f32⟩
  | .hbm, ⟨56, _⟩ => ⟨S1024x384, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proof.PI.Trip.lean ====
/-
  One trip of the kernel's loop over the residues: the twelve buffers before it, and the five pieces it writes.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## A block's gradient, by the program's payloads -/

section Block

variable (v1 : BitVec 32) (q kp kc vp vc go gl : Vec F S128x128 .f32)

/-- The masked scores of a block's queries against the block before it and itself. -/
abbrev scB : FVec F S128x256 .f32 := k0_pay8 v1 kp q kc

/-- The queries' gradient of a block. -/
def dqB : FVec F S128x128 .f32 :=
  k0_pay25 (k0_pay5 v1) (k0_pay7 kp kc) (k0_pay10 (scB v1 q kp kc)) (k0_pay11 (scB v1 q kp kc)) (k0_pay12 (scB v1 q kp kc))
    (k0_pay16 gl) (k0_pay17 vp vc (scB v1 q kp kc) go gl) (k0_pay20 vp vc (scB v1 q kp kc) go)

/-- The keys' gradient of a block: its own half, with what the block after it owes added. -/
def dkB (owed : Vec F S128x128 .f32) : FVec F S128x128 .f32 :=
  k0_pay26 (k0_pay5 v1) (k0_pay6 q) (k0_pay10 (scB v1 q kp kc)) (k0_pay11 (scB v1 q kp kc)) (k0_pay12 (scB v1 q kp kc))
    (k0_pay16 gl) (k0_pay17 vp vc (scB v1 q kp kc) go gl) (k0_pay20 vp vc (scB v1 q kp kc) go) owed

/-- The values' gradient of a block: its own half, with what the block after it owes added. -/
def dvB (owed : Vec F S128x128 .f32) : FVec F S128x128 .f32 :=
  k0_pay27 (k0_pay19 (scB v1 q kp kc) go) owed

/-- What a block owes the keys of the block before it. -/
def okB : FVec F S128x128 .f32 :=
  k0_pay3 (k0_pay24 (k0_pay5 v1) (k0_pay6 q) (k0_pay10 (scB v1 q kp kc)) (k0_pay11 (scB v1 q kp kc)) (k0_pay12 (scB v1 q kp kc))
    (k0_pay16 gl) (k0_pay17 vp vc (scB v1 q kp kc) go gl) (k0_pay20 vp vc (scB v1 q kp kc) go))

/-- What a block owes the values of the block before it. -/
def ovB : FVec F S128x128 .f32 := k0_pay4 (k0_pay21 (scB v1 q kp kc) go)

end Block

/-! ## One trip -/

/-- The rows of residue `k`: every sixteenth row from row `k`. -/
abbrev lrow (k : Fin k0_t1_loop.trips) : LoadRect S2048x128 := ⟨k0_off1 k, S128x128.size, ![16, 1], k0_off1_inb k⟩
abbrev rrow (k : Fin k0_t1_loop.trips) : Rect S2048x128 := ⟨lrow k, spos_16_1⟩

/-- A memref's buffer on core `c`, held whole at `f`. -/
abbrev Pt (c : Dev nD) (M : Memref sig .tc .vmem S2048x128 .f32) (f : Buf (Elt F) (M.view.loc (c : Thread nD τ))) : sProp 𝕄 :=
  M.view.loc (c : Thread nD τ) ↦[M.view.set]{fullShare} f

section Trip

variable (c : Dev nD) (i : grid0.Coords)
  (arg2 : Memref sig .tc .vmem S2048x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x128 .f32) (harg7 : arg7.IsWhole)
  (arg8 : Memref sig .tc .vmem S2048x128 .f32) (harg8 : arg8.IsWhole) (arg9 : Memref sig .tc .vmem S2048x128 .f32) (harg9 : arg9.IsWhole)
  (arg10 : Memref sig .tc .vmem S2048x128 .f32) (harg10 : arg10.IsWhole) (arg11 : Memref sig .tc .vmem S2048x128 .f32) (harg11 : arg11.IsWhole)
  (arg12 : Memref sig .tc .vmem S2048x128 .f32) (harg12 : arg12.IsWhole) (arg13 : Memref sig .tc .vmem S2048x128 .f32) (harg13 : arg13.IsWhole)
  (v1 : BitVec 32)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))
  (f8 : Buf (Elt F) (arg8.view.loc (c : Thread nD τ)))

/-- A memref's rows of residue `k`. -/
abbrev rd (M : Memref sig .tc .vmem S2048x128 .f32) (f : Buf (Elt F) (M.view.loc (c : Thread nD τ))) (k : Fin k0_t1_loop.trips) :
    Vec F S128x128 .f32 := M.view.readAt (Elt F) (lrow k) f

/-- The buffers of a trip: the seven it reads at their contents, the five it writes at theirs. -/
abbrev Held (f9 : Buf (Elt F) (arg9.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) : sProp 𝕄 :=
  iprop(Pt c arg2 f2 ∗ Pt c arg3 f3 ∗ Pt c arg4 f4 ∗ Pt c arg5 f5 ∗ Pt c arg6 f6 ∗ Pt c arg7 f7 ∗ Pt c arg8 f8
    ∗ Pt c arg9 f9 ∗ Pt c arg10 f10 ∗ Pt c arg11 f11 ∗ Pt c arg12 f12 ∗ Pt c arg13 f13)

/-- The five pieces of trip `k`. -/
abbrev pdq (k : Fin k0_t1_loop.trips) : View.Piece (Elt F) S2048x128 .f32 :=
  ⟨rrow k, dqB v1 (rd c arg2 f2 k) (rd c arg3 f3 k) (rd c arg4 f4 k) (rd c arg5 f5 k) (rd c arg6 f6 k) (rd c arg7 f7 k) (rd c arg8 f8 k)⟩
abbrev pdk (k : Fin k0_t1_loop.trips) (f12 : Buf (Elt F) (arg12.view.loc (c : Thread nD τ))) : View.Piece (Elt F) S2048x128 .f32 :=
  ⟨rrow k, dkB v1 (rd c arg2 f2 k) (rd c arg3 f3 k) (rd c arg4 f4 k) (rd c arg5 f5 k) (rd c arg6 f6 k) (rd c arg7 f7 k) (rd c arg8 f8 k)
    (rd c arg12 f12 k)⟩
abbrev pdv (k : Fin k0_t1_loop.trips) (f13 : Buf (Elt F) (arg13.view.loc (c : Thread nD τ))) : View.Piece (Elt F) S2048x128 .f32 :=
  ⟨rrow k, dvB v1 (rd c arg2 f2 k) (rd c arg3 f3 k) (rd c arg4 f4 k) (rd c arg7 f7 k) (rd c arg13 f13 k)⟩
abbrev pok (k : Fin k0_t1_loop.trips) : View.Piece (Elt F) S2048x128 .f32 :=
  ⟨rrow k, okB v1 (rd c arg2 f2 k) (rd c arg3 f3 k) (rd c arg4 f4 k) (rd c arg5 f5 k) (rd c arg6 f6 k) (rd c arg7 f7 k) (rd c arg8 f8 k)⟩
abbrev pov (k : Fin k0_t1_loop.trips) : View.Piece (Elt F) S2048x128 .f32 :=
  ⟨rrow k, ovB v1 (rd c arg2 f2 k) (rd c arg3 f3 k) (rd c arg4 f4 k) (rd c arg7 f7 k)⟩

/-- One trip, from any contents. -/
theorem trip (k : Fin k0_t1_loop.trips)
    (f9 : Buf (Elt F) (arg9.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) :
    Held c arg2 arg3 arg4 arg5 arg6 arg7 arg8 arg9 arg10 arg11 arg12 arg13 f2 f3 f4 f5 f6 f7 f8 f9 f10 f11 f12 f13
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10
            arg11 harg11 arg12 harg12 arg13 harg13 v1 k ())
          (fun _ => Held c arg2 arg3 arg4 arg5 arg6 arg7 arg8 arg9 arg10 arg11 arg12 arg13 f2 f3 f4 f5 f6 f7 f8
            (arg9.view.writes (Elt F) f9 [pdq c arg2 arg3 arg4 arg5 arg6 arg7 arg8 v1 f2 f3 f4 f5 f6 f7 f8 k])
            (arg10.view.writes (Elt F) f10 [pdk c arg2 arg3 arg4 arg5 arg6 arg7 arg8 arg12 v1 f2 f3 f4 f5 f6 f7 f8 k f12])
            (arg11.view.writes (Elt F) f11 [pdv c arg2 arg3 arg4 arg7 arg13 v1 f2 f3 f4 f7 k f13])
            (arg12.view.writes (Elt F) f12 [pok c arg2 arg3 arg4 arg5 arg6 arg7 arg8 v1 f2 f3 f4 f5 f6 f7 f8 k])
            (arg13.view.writes (Elt F) f13 [pov c arg2 arg3 arg4 arg7 v1 f2 f3 f4 f7 k])) := by
  unfold k0_t1_body
  iintro ⟨H2, H3, H4, H5, H6, H7, H8, H9, H10, H11, H12, H13⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Trip

end Cert.Proof.PI

end
-- ==== Proof.PI.Loop.lean ====
/-
  The kernel's loop over the sixteen residues: what the five buffers it writes hold after it, element by element.
-/
module

public import proofs.«01_k».proof.Proof.PI.Trip
public import Idealize.ShloMosaic.Lib.PointwiseCore

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem trips_eq : k0_t1_loop.trips = 16 := by decide +kernel

theorem off1_eq : ∀ k : Fin k0_t1_loop.trips, k0_off1 k 0 = k.val ∧ k0_off1 k 1 = 0 := by decide +kernel

theorem lt16 (k : Fin k0_t1_loop.trips) : k.val < 16 := lt_of_lt_of_eq k.isLt trips_eq

/-- A residue as a trip of the loop. -/
def res (n : ℕ) : Fin k0_t1_loop.trips := ⟨n % 16, by rw [trips_eq]; exact Nat.mod_lt _ (by decide)⟩

theorem res_val (n : ℕ) : (res n).val = n % 16 := rfl

theorem res_self (k : Fin k0_t1_loop.trips) (n : ℕ) (h : n % 16 = k.val) : res n = k := Fin.ext h

/-- The rows of residue `k` of a [2048, 128] array. -/
def rowsOf (X : Vec F S2048x128 .f32) (k : Fin k0_t1_loop.trips) : Vec F S128x128 .f32 := fun x => X ((lrow k).idx x)

/-- The [2048, 128] array whose rows of residue `k` are `w k`. -/
def mix (w : Fin k0_t1_loop.trips → Vec F S128x128 .f32) : Vec F S2048x128 .f32 := fun y =>
  w (res (y 0).val) (ix2 (⟨(y 0).val / 16, by have h := (y 0).isLt; change (y 0).val < 2048 at h; omega⟩ : Fin 128) (y 1 : Fin 128))

section Pieces

variable (M : Memref sig .tc .vmem S2048x128 .f32) (w : Fin k0_t1_loop.trips → Vec F S128x128 .f32)

/-- The pieces of the trips before `n`, the last one first. -/
def pcs : ℕ → List (View.Piece (Elt F) S2048x128 .f32)
  | 0 => []
  | n + 1 => if h : n < k0_t1_loop.trips then ⟨rrow ⟨n, h⟩, w ⟨n, h⟩⟩ :: pcs n else pcs n

theorem pcs_succ (k : Fin k0_t1_loop.trips) : pcs w (k.val + 1) = ⟨rrow k, w k⟩ :: pcs w k.val := by
  rw [pcs.eq_2]; exact dif_pos k.isLt

theorem writes_pcs_succ (f : M.view.ty.Contents (Elt F)) (k : Fin k0_t1_loop.trips) :
    M.view.writes (Elt F) f (pcs w (k.val + 1)) = M.view.writes (Elt F) (M.view.writes (Elt F) f (pcs w k.val)) [⟨rrow k, w k⟩] := by
  rw [pcs_succ]; rfl

/-- An element outside the rows of residue `k`. -/
theorem not_mem_rrow (k : Fin k0_t1_loop.trips) (y : S2048x128.Idx) (h : (y 0).val % 16 ≠ k.val) : y ∉ (rrow k).set := fun hy => by
  obtain ⟨j, hj, hy'⟩ := (rrow k).mem_set.mp hy 0
  have h0 := (off1_eq k).1
  have hk : k.val < 16 := lt16 k
  have hs : (rrow k).stride 0 = 16 := rfl
  have ho : (rrow k).off 0 = k.val := h0
  rw [hs, ho] at hy'
  omega

/-- Where an element of residue `k` lies among that residue's rows. -/
theorem coords_mix (k : Fin k0_t1_loop.trips) (y : S2048x128.Idx) (h : (y 0).val % 16 = k.val) (a : Fin 2) :
    (y a).val = (rrow k).off a + (rrow k).stride a
      * ((ix2 (⟨(y 0).val / 16, by have h := (y 0).isLt; change (y 0).val < 2048 at h; omega⟩ : Fin 128) (y 1 : Fin 128) : S128x128.Idx) a).val := by
  have o := off1_eq k
  match a with
  | 0 =>
    have hs : (rrow k).stride 0 = 16 := rfl
    have ho : (rrow k).off 0 = k.val := o.1
    rw [hs, ho]
    change (y 0).val = k.val + 16 * ((y 0).val / 16)
    omega
  | 1 =>
    have hs : (rrow k).stride 1 = 1 := rfl
    have ho : (rrow k).off 1 = 0 := o.2
    rw [hs, ho]
    change (y 1).val = 0 + 1 * (y 1).val
    omega

/-- What the buffer reads after the trips before `n`. -/
theorem read_pcs (f : M.view.ty.Contents (Elt F)) (n : ℕ) (hn : n ≤ 16) (y : S2048x128.Idx) :
    M.view.read (Elt F) (M.view.writes (Elt F) f (pcs w n)) y
      = if (y 0).val % 16 < n then mix w y else M.view.read (Elt F) f y := by
  induction n with
  | zero => simp [pcs]
  | succ n ih =>
    have hlt : n < k0_t1_loop.trips := by rw [trips_eq]; omega
    have e := pcs_succ w ⟨n, hlt⟩
    dsimp only at e
    rw [e]
    by_cases h : (y 0).val % 16 = n
    · rw [if_pos (by omega)]
      have hy0 : (y 0).val < 2048 := (y 0).isLt
      refine (View.read_writes_cons_hit_of_coords M.view f (rrow ⟨n, hlt⟩) (w ⟨n, hlt⟩) (pcs w n)
        (ix2 (⟨(y 0).val / 16, by omega⟩ : Fin 128) (y 1 : Fin 128)) y (coords_mix ⟨n, hlt⟩ y h)).trans ?_
      unfold mix
      rw [res_self ⟨n, hlt⟩ _ h]
    · refine (View.read_writes_cons_miss M.view f ⟨rrow ⟨n, hlt⟩, w ⟨n, hlt⟩⟩ (pcs w n) y (not_mem_rrow ⟨n, hlt⟩ y h)).trans ?_
      rw [ih (by omega)]
      by_cases h' : (y 0).val % 16 < n
      · rw [if_pos h', if_pos (by omega)]
      · rw [if_neg h', if_neg (by omega)]

/-- After all the trips: every element written. -/
theorem read_pcs_all (f : M.view.ty.Contents (Elt F)) :
    M.view.read (Elt F) (M.view.writes (Elt F) f (pcs w k0_t1_loop.trips)) = mix w := funext fun y => by
  rw [trips_eq, read_pcs M w f 16 le_rfl y, if_pos (Nat.mod_lt _ (by decide))]

/-- The rows of residue `k` are as they were before the earlier trips. -/
theorem rd_pcs (c : Dev nD) (f : Buf (Elt F) (M.view.loc (c : Thread nD τ))) (k : Fin k0_t1_loop.trips) :
    rd c M (M.view.writes (Elt F) f (pcs w k.val)) k = rd c M f k := funext fun x => by
  have hk : k.val < 16 := lt16 k
  have e : (((lrow k).idx x) 0).val % 16 = k.val := by
    change (k0_off1 k 0 + 16 * (x 0).val) % 16 = k.val
    rw [(off1_eq k).1]; omega
  refine (read_pcs M w f k.val (by omega) ((lrow k).idx x)).trans ?_
  rw [if_neg (by rw [e]; omega)]; rfl

end Pieces

/-! ## The body's results, from the arrays it reads -/

section Results

variable (v1 : BitVec 32) (X2 X3 X4 X5 X6 X7 X8 X12 X13 : Vec F S2048x128 .f32)

def outDq : Vec F S2048x128 .f32 := mix fun k =>
  dqB v1 (rowsOf X2 k) (rowsOf X3 k) (rowsOf X4 k) (rowsOf X5 k) (rowsOf X6 k) (rowsOf X7 k) (rowsOf X8 k)
def outDk : Vec F S2048x128 .f32 := mix fun k =>
  dkB v1 (rowsOf X2 k) (rowsOf X3 k) (rowsOf X4 k) (rowsOf X5 k) (rowsOf X6 k) (rowsOf X7 k) (rowsOf X8 k) (rowsOf X12 k)
def outDv : Vec F S2048x128 .f32 := mix fun k =>
  dvB v1 (rowsOf X2 k) (rowsOf X3 k) (rowsOf X4 k) (rowsOf X7 k) (rowsOf X13 k)
def outOk : Vec F S2048x128 .f32 := mix fun k =>
  okB v1 (rowsOf X2 k) (rowsOf X3 k) (rowsOf X4 k) (rowsOf X5 k) (rowsOf X6 k) (rowsOf X7 k) (rowsOf X8 k)
def outOv : Vec F S2048x128 .f32 := mix fun k =>
  ovB v1 (rowsOf X2 k) (rowsOf X3 k) (rowsOf X4 k) (rowsOf X7 k)

end Results

/-! ## The loop -/

section Loop

variable (c : Dev nD) (i : grid0.Coords)
  (arg2 : Memref sig .tc .vmem S2048x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x128 .f32) (harg7 : arg7.IsWhole)
  (arg8 : Memref sig .tc .vmem S2048x128 .f32) (harg8 : arg8.IsWhole) (arg9 : Memref sig .tc .vmem S2048x128 .f32) (harg9 : arg9.IsWhole)
  (arg10 : Memref sig .tc .vmem S2048x128 .f32) (harg10 : arg10.IsWhole) (arg11 : Memref sig .tc .vmem S2048x128 .f32) (harg11 : arg11.IsWhole)
  (arg12 : Memref sig .tc .vmem S2048x128 .f32) (harg12 : arg12.IsWhole) (arg13 : Memref sig .tc .vmem S2048x128 .f32) (harg13 : arg13.IsWhole)
  (v1 : BitVec 32)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))
  (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ))) (f12 : Buf (Elt F) (arg12.view.loc (c : Thread nD τ)))
  (f13 : Buf (Elt F) (arg13.view.loc (c : Thread nD τ)))

/-- The buffers before trip `n`. -/
def inv (n : ℕ) : sProp 𝕄 :=
  Held c arg2 arg3 arg4 arg5 arg6 arg7 arg8 arg9 arg10 arg11 arg12 arg13 f2 f3 f4 f5 f6 f7 f8
    (arg9.view.writes (Elt F) f9 (pcs (fun k => (pdq c arg2 arg3 arg4 arg5 arg6 arg7 arg8 v1 f2 f3 f4 f5 f6 f7 f8 k).2) n))
    (arg10.view.writes (Elt F) f10 (pcs (fun k => (pdk c arg2 arg3 arg4 arg5 arg6 arg7 arg8 arg12 v1 f2 f3 f4 f5 f6 f7 f8 k f12).2) n))
    (arg11.view.writes (Elt F) f11 (pcs (fun k => (pdv c arg2 arg3 arg4 arg7 arg13 v1 f2 f3 f4 f7 k f13).2) n))
    (arg12.view.writes (Elt F) f12 (pcs (fun k => (pok c arg2 arg3 arg4 arg5 arg6 arg7 arg8 v1 f2 f3 f4 f5 f6 f7 f8 k).2) n))
    (arg13.view.writes (Elt F) f13 (pcs (fun k => (pov c arg2 arg3 arg4 arg7 v1 f2 f3 f4 f7 k).2) n))

theorem inv_step (k : Fin k0_t1_loop.trips) :
    inv c arg2 arg3 arg4 arg5 arg6 arg7 arg8 arg9 arg10 arg11 arg12 arg13 v1 f2 f3 f4 f5 f6 f7 f8 f9 f10 f11 f12 f13 k.val
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10
            arg11 harg11 arg12 harg12 arg13 harg13 v1 k ())
          (fun _ => inv c arg2 arg3 arg4 arg5 arg6 arg7 arg8 arg9 arg10 arg11 arg12 arg13 v1 f2 f3 f4 f5 f6 f7 f8 f9 f10 f11 f12 f13 (k.val + 1)) := by
  unfold inv
  rw [writes_pcs_succ, writes_pcs_succ, writes_pcs_succ, writes_pcs_succ, writes_pcs_succ]
  have h := trip c i arg2 harg2 arg3 harg3 arg4 harg4 arg5 harg5 arg6 harg6 arg7 harg7 arg8 harg8 arg9 harg9 arg10 harg10
    arg11 harg11 arg12 harg12 arg13 harg13 v1 f2 f3 f4 f5 f6 f7 f8 k
    (arg9.view.writes (Elt F) f9 (pcs (fun k => (pdq c arg2 arg3 arg4 arg5 arg6 arg7 arg8 v1 f2 f3 f4 f5 f6 f7 f8 k).2) k.val))
    (arg10.view.writes (Elt F) f10 (pcs (fun k => (pdk c arg2 arg3 arg4 arg5 arg6 arg7 arg8 arg12 v1 f2 f3 f4 f5 f6 f7 f8 k f12).2) k.val))
    (arg11.view.writes (Elt F) f11 (pcs (fun k => (pdv c arg2 arg3 arg4 arg7 arg13 v1 f2 f3 f4 f7 k f13).2) k.val))
    (arg12.view.writes (Elt F) f12 (pcs (fun k => (pok c arg2 arg3 arg4 arg5 arg6 arg7 arg8 v1 f2 f3 f4 f5 f6 f7 f8 k).2) k.val))
    (arg13.view.writes (Elt F) f13 (pcs (fun k => (pov c arg2 arg3 arg4 arg7 v1 f2 f3 f4 f7 k).2) k.val))
  unfold pdk pdv at h
  rw [rd_pcs, rd_pcs] at h
  exact h

set_option warn.classDefReducibility false in
/-- The loop's invariant, as the run through the body finds it. -/
@[sl_loop] def loopInv_k0_t1 :
    LoopInvTy_k0_t1 (F := F) Unit ℕ (UR sig nD τ) ℕ Variants.none c none Set.univ i arg2 harg2 arg3 harg3 arg4 harg4 arg5 harg5 arg6 harg6
      arg7 harg7 arg8 harg8 arg9 harg9 arg10 harg10 arg11 harg11 arg12 harg12 arg13 harg13 v1 where
  inv n _ := inv c arg2 arg3 arg4 arg5 arg6 arg7 arg8 arg9 arg10 arg11 arg12 arg13 v1 f2 f3 f4 f5 f6 f7 f8 f9 f10 f11 f12 f13 n
  step k _ := inv_step c i arg2 harg2 arg3 harg3 arg4 harg4 arg5 harg5 arg6 harg6 arg7 harg7 arg8 harg8 arg9 harg9 arg10 harg10
    arg11 harg11 arg12 harg12 arg13 harg13 v1 f2 f3 f4 f5 f6 f7 f8 f9 f10 f11 f12 f13 k

/-- The loop, from the buffers at any contents: afterwards the five written ones read the results. -/
theorem loop_run {X2 X3 X4 X5 X6 X7 X8 X12 X13 : Vec F S2048x128 .f32} (K : Unit → sProp 𝕄) :
    iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg7 fullShare X7
        ∗ owns (c : Thread nD τ) arg8 fullShare X8
        ∗ (∃ d, owns (c : Thread nD τ) arg9 fullShare d) ∗ (∃ d, owns (c : Thread nD τ) arg10 fullShare d)
        ∗ (∃ d, owns (c : Thread nD τ) arg11 fullShare d)
        ∗ owns (c : Thread nD τ) arg12 fullShare X12 ∗ owns (c : Thread nD τ) arg13 fullShare X13
        ∗ (iprop(owns (c : Thread nD τ) arg2 fullShare X2 ∗ owns (c : Thread nD τ) arg3 fullShare X3 ∗ owns (c : Thread nD τ) arg4 fullShare X4
            ∗ owns (c : Thread nD τ) arg5 fullShare X5 ∗ owns (c : Thread nD τ) arg6 fullShare X6 ∗ owns (c : Thread nD τ) arg7 fullShare X7
            ∗ owns (c : Thread nD τ) arg8 fullShare X8
            ∗ owns (c : Thread nD τ) arg9 fullShare (outDq v1 X2 X3 X4 X5 X6 X7 X8)
            ∗ owns (c : Thread nD τ) arg10 fullShare (outDk v1 X2 X3 X4 X5 X6 X7 X8 X12)
            ∗ owns (c : Thread nD τ) arg11 fullShare (outDv v1 X2 X3 X4 X7 X13)
            ∗ owns (c : Thread nD τ) arg12 fullShare (outOk v1 X2 X3 X4 X5 X6 X7 X8)
            ∗ owns (c : Thread nD τ) arg13 fullShare (outOv v1 X2 X3 X4 X7)) -∗ K ()))
      ⊢ wp frame (wpE (defs₀ (F := F)) Variants.none (c : Thread nD τ) none) Set.univ
          (Scf.Loop.for k0_t1_loop k0_t1_ok () (k0_t1_body (F := F) i arg2 harg2 arg3 harg3 arg4 harg4 arg5 harg5 arg6 harg6 arg7 harg7
            arg8 harg8 arg9 harg9 arg10 harg10 arg11 harg11 arg12 harg12 arg13 harg13 v1)) K := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩,
    ⟨%d9, %f9, -, H9⟩, ⟨%d10, %f10, -, H10⟩, ⟨%d11, %f11, -, H11⟩, ⟨%f12, %h12, H12⟩, ⟨%f13, %h13, H13⟩, Hk⟩
  subst h2 h3 h4 h5 h6 h7 h8 h12 h13
  iapply (Scf.wp_for frame (wpE (defs₀ (F := F)) Variants.none (c : Thread nD τ) none) Set.univ _ _ _ k0_t1_ok () _
    (fun n _ => inv c arg2 arg3 arg4 arg5 arg6 arg7 arg8 arg9 arg10 arg11 arg12 arg13 v1 f2 f3 f4 f5 f6 f7 f8 f9 f10 f11 f12 f13 n)
    (fun k _ => inv_step c i arg2 harg2 arg3 harg3 arg4 harg4 arg5 harg5 arg6 harg6 arg7 harg7 arg8 harg8 arg9 harg9 arg10 harg10
      arg11 harg11 arg12 harg12 arg13 harg13 v1 f2 f3 f4 f5 f6 f7 f8 f9 f10 f11 f12 f13 k))
  isplitr [Hk]
  · unfold inv
    simp only [pcs, View.writes_nil]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %_ Hinv
  iapply Hk
  unfold inv
  icases Hinv with ⟨H2, H3, H4, H5, H6, H7, H8, H9, H10, H11, H12, H13⟩
  isplitl [H2]; · iexists f2; isplitr; · (ipureintro; rfl)
                  iexact H2
  isplitl [H3]; · iexists f3; isplitr; · (ipureintro; rfl)
                  iexact H3
  isplitl [H4]; · iexists f4; isplitr; · (ipureintro; rfl)
                  iexact H4
  isplitl [H5]; · iexists f5; isplitr; · (ipureintro; rfl)
                  iexact H5
  isplitl [H6]; · iexists f6; isplitr; · (ipureintro; rfl)
                  iexact H6
  isplitl [H7]; · iexists f7; isplitr; · (ipureintro; rfl)
                  iexact H7
  isplitl [H8]; · iexists f8; isplitr; · (ipureintro; rfl)
                  iexact H8
  isplitl [H9]
  · iexists _; isplitr; swap; · iexact H9
    ipureintro; exact read_pcs_all arg9 _ f9
  isplitl [H10]
  · iexists _; isplitr; swap; · iexact H10
    ipureintro; exact read_pcs_all arg10 _ f10
  isplitl [H11]
  · iexists _; isplitr; swap; · iexact H11
    ipureintro; exact read_pcs_all arg11 _ f11
  isplitl [H12]
  · iexists _; isplitr; swap; · iexact H12
    ipureintro; exact read_pcs_all arg12 _ f12
  iexists _; isplitr; swap; · iexact H13
  ipureintro; exact read_pcs_all arg13 _ f13

end Loop

end Cert.Proof.PI

end
-- ==== Proof.PI.Body.lean ====
/-
  The kernel's body at a grid point.
-/
module

public import proofs.«01_k».proof.Proof.PI.Loop
public import Idealize.ShloMosaic.Lib.WordCmp

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-! ## The body -/

/-- The block a point works on, as the program computes it. -/
abbrev blkW (i : grid0.Coords) : BitVec 32 := Scalar.muli (Scalar.subi 1#32 (BitVec.ofNat 32 (i 1).val)) 1#32

/-- The test for a head's first point, as the program computes it. -/
abbrev cond0 (i : grid0.Coords) : Prop :=
  Scalar.cmpi .ne (Scalar.extui (Scalar.cmpi .eq (BitVec.ofNat 32 (i 1).val) 0#32)) 0#32 = 1#1

theorem cond0_iff (t : Fin cfg0.N) : cond0 (grid0.coords t) ↔ t.val % 2 = 0 := by
  have ht : t.val < 8 := Nat.lt_of_lt_of_eq t.isLt N_0
  have e0 : (grid0.coords t 1).val = t.val / 1 % 2 := Pipeline.Grid.coords_val t 1 (by decide) rfl
  simp only [cond0, e0]
  word_cmp

/-- The whole [2048, 128] array as a rectangle. -/
abbrev rW : Rect S2048x128 := Rect.unit (s := S2048x128) ![0, 0] S2048x128.size inb_S2048x128_S2048x128_0_0

theorem coords_whole (y : S2048x128.Idx) (a : Fin 2) : (y a).val = rW.off a + rW.stride a * (y a).val := by
  match a with
  | 0 =>
    have hs : rW.stride 0 = 1 := rfl
    have ho : rW.off 0 = 0 := rfl
    rw [hs, ho, Nat.one_mul, Nat.zero_add]
  | 1 =>
    have hs : rW.stride 1 = 1 := rfl
    have ho : rW.off 1 = 0 := rfl
    rw [hs, ho, Nat.one_mul, Nat.zero_add]

/-- A whole store: what the buffer reads afterwards. -/
theorem read_whole_store (M : Memref sig .tc .vmem S2048x128 .f32) (f : M.view.ty.Contents (Elt F)) (w : Vec F S2048x128 .f32) :
    M.view.read (Elt F) (M.view.writes (Elt F) f [⟨rW, w⟩]) = w := funext fun y =>
  View.read_writes_cons_hit_of_coords M.view f rW w [] y y (coords_whole y)

section Run

variable (c : Dev nD) (i : grid0.Coords)
  (arg2 : Memref sig .tc .vmem S2048x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x128 .f32) (harg7 : arg7.IsWhole)
  (arg8 : Memref sig .tc .vmem S2048x128 .f32) (harg8 : arg8.IsWhole) (arg9 : Memref sig .tc .vmem S2048x128 .f32) (harg9 : arg9.IsWhole)
  (arg10 : Memref sig .tc .vmem S2048x128 .f32) (harg10 : arg10.IsWhole) (arg11 : Memref sig .tc .vmem S2048x128 .f32) (harg11 : arg11.IsWhole)
  (arg12 : Memref sig .tc .vmem S2048x128 .f32) (harg12 : arg12.IsWhole) (arg13 : Memref sig .tc .vmem S2048x128 .f32) (harg13 : arg13.IsWhole)
  {X2 X3 X4 X5 X6 X7 X8 X12 X13 : Vec F S2048x128 .f32}

/-- What the body returns. -/
abbrev Done (X2 X3 X4 X5 X6 X7 X8 X12 X13 : Vec F S2048x128 .f32) : sProp 𝕄 :=
  iprop(owns (c : Thread nD τ) arg2 fullShare X2 ∗ owns (c : Thread nD τ) arg3 fullShare X3 ∗ owns (c : Thread nD τ) arg4 fullShare X4
    ∗ owns (c : Thread nD τ) arg5 fullShare X5 ∗ owns (c : Thread nD τ) arg6 fullShare X6 ∗ owns (c : Thread nD τ) arg7 fullShare X7
    ∗ owns (c : Thread nD τ) arg8 fullShare X8
    ∗ owns (c : Thread nD τ) arg9 fullShare (outDq (blkW i) X2 X3 X4 X5 X6 X7 X8)
    ∗ owns (c : Thread nD τ) arg10 fullShare (outDk (blkW i) X2 X3 X4 X5 X6 X7 X8 X12)
    ∗ owns (c : Thread nD τ) arg11 fullShare (outDv (blkW i) X2 X3 X4 X7 X13)
    ∗ owns (c : Thread nD τ) arg12 fullShare (outOk (blkW i) X2 X3 X4 X5 X6 X7 X8)
    ∗ owns (c : Thread nD τ) arg13 fullShare (outOv (blkW i) X2 X3 X4 X7))

/-- At a head's first point the scratches are zeroed before the loop. -/
theorem run_first (K : Unit → sProp 𝕄) (hc : cond0 i) :
    iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg7 fullShare X7
        ∗ owns (c : Thread nD τ) arg8 fullShare X8
        ∗ (∃ d, owns (c : Thread nD τ) arg9 fullShare d) ∗ (∃ d, owns (c : Thread nD τ) arg10 fullShare d)
        ∗ (∃ d, owns (c : Thread nD τ) arg11 fullShare d)
        ∗ (∃ d, owns (c : Thread nD τ) arg12 fullShare d) ∗ (∃ d, owns (c : Thread nD τ) arg13 fullShare d)
        ∗ (Done c i arg2 arg3 arg4 arg5 arg6 arg7 arg8 arg9 arg10 arg11 arg12 arg13 X2 X3 X4 X5 X6 X7 X8 k0_pay1 k0_pay2 -∗ K ()))
      ⊢ wp frame (wpE (defs₀ (F := F)) Variants.none (c : Thread nD τ) none) Set.univ
          (cc0_dil2_bwd (F := F) i arg2 harg2 arg3 harg3 arg4 harg4 arg5 harg5 arg6 harg6 arg7 harg7
            arg8 harg8 arg9 harg9 arg10 harg10 arg11 harg11 arg12 harg12 arg13 harg13) K := by
  simp only [cc0_dil2_bwd_eq_skeleton]; unfold cc0_dil2_bwd_skel
  simp only [Prog.lift, Prog.bind_op, Prog.bind_ret, Prog.pure_eq_ret]
  rw [dif_pos hc]
  unfold owns
  iintro ⟨H2, H3, H4, H5, H6, H7, H8, H9, H10, H11, ⟨%d12, %f12, -, H12⟩, ⟨%d13, %f13, -, H13⟩, Hk⟩
  sl_step
  sl_step
  sl_step
  sl_step
  rw [wp_bind]
  iapply (loop_run c i arg2 harg2 arg3 harg3 arg4 harg4 arg5 harg5 arg6 harg6 arg7 harg7 arg8 harg8 arg9 harg9 arg10 harg10
    arg11 harg11 arg12 harg12 arg13 harg13 (blkW i) _)
  isplitl [H2]; · unfold owns; iexact H2
  isplitl [H3]; · unfold owns; iexact H3
  isplitl [H4]; · unfold owns; iexact H4
  isplitl [H5]; · unfold owns; iexact H5
  isplitl [H6]; · unfold owns; iexact H6
  isplitl [H7]; · unfold owns; iexact H7
  isplitl [H8]; · unfold owns; iexact H8
  isplitl [H9]; · unfold owns; iexact H9
  isplitl [H10]; · unfold owns; iexact H10
  isplitl [H11]; · unfold owns; iexact H11
  isplitl [H12]
  · unfold owns; iexists _; isplitr; swap; · iexact H12
    ipureintro; exact read_whole_store arg12 f12 _
  isplitl [H13]
  · unfold owns; iexists _; isplitr; swap; · iexact H13
    ipureintro; exact read_whole_store arg13 f13 _
  iintro H
  rw [wp_ret]; imodintro
  iapply Hk
  iexact H

/-- At the other points the scratches hold what the point before left. -/
theorem run_next (K : Unit → sProp 𝕄) (hc : ¬ cond0 i) :
    iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg7 fullShare X7
        ∗ owns (c : Thread nD τ) arg8 fullShare X8
        ∗ (∃ d, owns (c : Thread nD τ) arg9 fullShare d) ∗ (∃ d, owns (c : Thread nD τ) arg10 fullShare d)
        ∗ (∃ d, owns (c : Thread nD τ) arg11 fullShare d)
        ∗ owns (c : Thread nD τ) arg12 fullShare X12 ∗ owns (c : Thread nD τ) arg13 fullShare X13
        ∗ (Done c i arg2 arg3 arg4 arg5 arg6 arg7 arg8 arg9 arg10 arg11 arg12 arg13 X2 X3 X4 X5 X6 X7 X8 X12 X13 -∗ K ()))
      ⊢ wp frame (wpE (defs₀ (F := F)) Variants.none (c : Thread nD τ) none) Set.univ
          (cc0_dil2_bwd (F := F) i arg2 harg2 arg3 harg3 arg4 harg4 arg5 harg5 arg6 harg6 arg7 harg7
            arg8 harg8 arg9 harg9 arg10 harg10 arg11 harg11 arg12 harg12 arg13 harg13) K := by
  simp only [cc0_dil2_bwd_eq_skeleton]; unfold cc0_dil2_bwd_skel
  simp only [Prog.lift, Prog.bind_op, Prog.bind_ret, Prog.pure_eq_ret]
  rw [dif_neg hc]
  iintro ⟨H2, H3, H4, H5, H6, H7, H8, H9, H10, H11, H12, H13, Hk⟩
  rw [wp_bind]
  iapply (loop_run c i arg2 harg2 arg3 harg3 arg4 harg4 arg5 harg5 arg6 harg6 arg7 harg7 arg8 harg8 arg9 harg9 arg10 harg10
    arg11 harg11 arg12 harg12 arg13 harg13 (blkW i) _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro H
  rw [wp_ret]; imodintro
  iapply Hk
  iexact H

end Run

end Cert.Proof.PI

end
-- ==== Proof.PI.Frame.lean ====
/-
  The kernel's points in turn, the two scratches carried from one to the next, and the frame.
-/
module

public import proofs.«01_k».proof.Proof.PI.Body
public import Idealize.ShloMosaic.Lib.WordCmp
public import Idealize.ShloMosaic.Lib.Claim

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-! ## The points -/

variable (m : (ℓ : Loc nD τ sig) → Buf (Elt F) ℓ) (ρ : Dev nD → PrngReg)

abbrev ms0 (t : Fin cfg0.N) : Memref sig .tc .vmem S2048x128 .f32 := win0_0.stage (cfg0.slots t 0)
abbrev ms1 (t : Fin cfg0.N) : Memref sig .tc .vmem S2048x128 .f32 := win0_1.stage (cfg0.slots t 1)
abbrev ms2 (t : Fin cfg0.N) : Memref sig .tc .vmem S2048x128 .f32 := win0_2.stage (cfg0.slots t 2)
abbrev ms3 (t : Fin cfg0.N) : Memref sig .tc .vmem S2048x128 .f32 := win0_3.stage (cfg0.slots t 3)
abbrev ms4 (t : Fin cfg0.N) : Memref sig .tc .vmem S2048x128 .f32 := win0_4.stage (cfg0.slots t 4)
abbrev ms5 (t : Fin cfg0.N) : Memref sig .tc .vmem S2048x128 .f32 := win0_5.stage (cfg0.slots t 5)
abbrev ms6 (t : Fin cfg0.N) : Memref sig .tc .vmem S2048x128 .f32 := win0_6.stage (cfg0.slots t 6)
abbrev ms7 (t : Fin cfg0.N) : Memref sig .tc .vmem S2048x128 .f32 := win0_7.stage (cfg0.slots t 7)
abbrev ms8 (t : Fin cfg0.N) : Memref sig .tc .vmem S2048x128 .f32 := win0_8.stage (cfg0.slots t 8)
abbrev ms9 (t : Fin cfg0.N) : Memref sig .tc .vmem S2048x128 .f32 := win0_9.stage (cfg0.slots t 9)
abbrev sc0 : Memref sig .tc .vmem S2048x128 .f32 := Memref.whole cc0_scratch0
abbrev sc1 : Memref sig .tc .vmem S2048x128 .f32 := Memref.whole cc0_scratch1

/-- The block point `t` works on. -/
abbrev blkAt (t : Fin cfg0.N) : BitVec 32 := blkW (grid0.coords t)

/-- What the scratches hold after point `t`: what its windows owe the block before. -/
def okAt (c : Dev nD) (t : Fin cfg0.N) : Vec F S2048x128 .f32 :=
  outOk (blkAt t) (iblk m c 0 t) (iblk m c 1 t) (iblk m c 2 t) (iblk m c 3 t) (iblk m c 4 t) (iblk m c 5 t) (iblk m c 6 t)

def ovAt (c : Dev nD) (t : Fin cfg0.N) : Vec F S2048x128 .f32 :=
  outOv (blkAt t) (iblk m c 0 t) (iblk m c 1 t) (iblk m c 2 t) (iblk m c 5 t)

/-- What they hold when point `t` adds them: zeros at a head's first point, else what the point before left. -/
def ckAt (c : Dev nD) (t : Fin cfg0.N) : Vec F S2048x128 .f32 :=
  if h : t.val % 2 = 0 then k0_pay1 else okAt m c ⟨t.val - 1, lt_of_le_of_lt (Nat.sub_le _ _) t.isLt⟩

def cvAt (c : Dev nD) (t : Fin cfg0.N) : Vec F S2048x128 .f32 :=
  if h : t.val % 2 = 0 then k0_pay2 else ovAt m c ⟨t.val - 1, lt_of_le_of_lt (Nat.sub_le _ _) t.isLt⟩

/-- The three results at point `t`. -/
def dqAt (c : Dev nD) (t : Fin cfg0.N) : Vec F S2048x128 .f32 :=
  outDq (blkAt t) (iblk m c 0 t) (iblk m c 1 t) (iblk m c 2 t) (iblk m c 3 t) (iblk m c 4 t) (iblk m c 5 t) (iblk m c 6 t)

def dkAt (c : Dev nD) (t : Fin cfg0.N) : Vec F S2048x128 .f32 :=
  outDk (blkAt t) (iblk m c 0 t) (iblk m c 1 t) (iblk m c 2 t) (iblk m c 3 t) (iblk m c 4 t) (iblk m c 5 t) (iblk m c 6 t) (ckAt m c t)

def dvAt (c : Dev nD) (t : Fin cfg0.N) : Vec F S2048x128 .f32 :=
  outDv (blkAt t) (iblk m c 0 t) (iblk m c 1 t) (iblk m c 2 t) (iblk m c 5 t) (cvAt m c t)

/-- The scratches and the generator register, each at anything. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; rfl

/-- What holds before position `n`. -/
def PhiS (c : Dev nD) : (n : ℕ) → n ≤ cfg0.N → sProp 𝕄
  | 0, _ => Pipeline.ΦA spec0 c
  | n + 1, hn => iprop(iprop(owns (c : Thread nD τ) sc0 fullShare (okAt m c ⟨n, hn⟩) ∗ owns (c : Thread nD τ) sc1 fullShare (ovAt m c ⟨n, hn⟩))
      ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (okAt m c ⟨n, hn⟩) ∗ owns (c : Thread nD τ) sc1 fullShare (ovAt m c ⟨n, hn⟩))
      ∗ (∃ r, prngReg c r)) := rfl

theorem PhiS_pos (c : Dev nD) (n : ℕ) (h : n ≤ cfg0.N) (hz : n ≠ 0) :
    PhiS m c n h = iprop(iprop(owns (c : Thread nD τ) sc0 fullShare (okAt m c ⟨n - 1, by omega⟩)
      ∗ owns (c : Thread nD τ) sc1 fullShare (ovAt m c ⟨n - 1, by omega⟩)) ∗ (∃ r, prngReg c r)) := by
  cases n with
  | zero => exact absurd rfl hz
  | succ n => rfl

/-- The pipeline's data: every input at its block, every result at what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAt m c t
    | ⟨8, _⟩ => dkAt m c t
    | ⟨9, _⟩ => dvAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = dqAt m c t := by dsimp only [dats]
theorem after_8 (c : Dev nD) (t : Fin cfg0.N) : (dats m 0 c).after 8 t = dkAt m c t := by dsimp only [dats]
theorem after_9 (c : Dev nD) (t : Fin cfg0.N) : (dats m 0 c).after 9 t = dvAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7, after_8, after_9]
  rw [show (dats m 0 c).Φ t.succ = PhiS m c (t.val + 1) t.isLt from rfl, PhiS_succ, PhiS_castSucc m c t]
  have hΦ : t.val % 2 = 0 → PhiS m c t.val (Nat.le_of_lt t.isLt) ⊢ Pipeline.ΦA spec0 c := by
    intro _
    by_cases hz : t.val = 0
    · rw [PhiS_zero m c _ _ hz]
    · rw [PhiS_pos m c _ _ hz, PhiA_eq]
      iintro ⟨⟨H0, H1⟩, Hg⟩
      isplitl [H0 H1]
      · isplitl [H0]
        · iexists _; iexact H0
        iexists _; iexact H1
      iexact Hg
  unfold dqAt dkAt dvAt
  by_cases h0 : t.val % 2 = 0
  · refine (sep_mono_left (hΦ h0)).trans ?_
    rw [PhiA_eq]
    rw [show ckAt m c t = k0_pay1 from dif_pos h0, show cvAt m c t = k0_pay2 from dif_pos h0]
    iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) _ _ _ _ _ _ _ _ _ _ _ _ _ _ _ _ _ _ _ _ _ _ _ _ _ ((cond0_iff t).mpr h0)
      (X2 := iblk m c 0 t) (X3 := iblk m c 1 t) (X4 := iblk m c 2 t) (X5 := iblk m c 3 t) (X6 := iblk m c 4 t) (X7 := iblk m c 5 t)
      (X8 := iblk m c 6 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [S0]; · iexact S0
    isplitl [S1]; · iexact S1
    iintro ⟨H0, H1, H2, H3, H4, H5, H6, H7, H8, H9, S0, S1⟩
    isplitl [S0 S1 Hg]
    · isplitl [S0 S1]
      · isplitl [S0]; · iexact S0
        iexact S1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hz : t.val ≠ 0 := fun h => h0 (by rw [h])
    rw [PhiS_pos m c _ _ hz]
    rw [show ckAt m c t = okAt m c ⟨t.val - 1, lt_of_le_of_lt (Nat.sub_le _ _) t.isLt⟩ from dif_neg h0,
      show cvAt m c t = ovAt m c ⟨t.val - 1, lt_of_le_of_lt (Nat.sub_le _ _) t.isLt⟩ from dif_neg h0]
    iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_next c (grid0.coords t) _ _ _ _ _ _ _ _ _ _ _ _ _ _ _ _ _ _ _ _ _ _ _ _ _ (fun h => h0 ((cond0_iff t).mp h))
      (X2 := iblk m c 0 t) (X3 := iblk m c 1 t) (X4 := iblk m c 2 t) (X5 := iblk m c 3 t) (X6 := iblk m c 4 t) (X7 := iblk m c 5 t)
      (X8 := iblk m c 6 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [S0]; · iexact S0
    isplitl [S1]; · iexact S1
    iintro ⟨H0, H1, H2, H3, H4, H5, H6, H7, H8, H9, S0, S1⟩
    isplitl [S0 S1 Hg]
    · isplitl [S0 S1]
      · isplitl [S0]; · iexact S0
        iexact S1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hz : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl,
    PhiS_pos m c _ _ hz, PhiA_eq]
  iintro ⟨⟨H0, H1⟩, Hg⟩
  isplitl [H0 H1]
  · isplitl [H0]
    · iexists _; iexact H0
    iexists _; iexact H1
  iexact Hg

/-! ## The run and the frame -/

set_option backward.isDefEq.respectTransparency.types false in
/-- The launch: every array as the pipeline's data leave it, and every counter at zero. -/
theorem run_all : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_all m ρ)

/-- The frame: the arguments end as they were, every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_post m ρ)) ((θ_run defs _ _).mono (fun _ h => h.2) (run_all m ρ))

end Cert.Proof.PI

end
-- ==== Proof.Val.Spec.lean ====
/-
  The gradient of one block of the windowed attention over the extended reals: 128 queries against 256 keys (the block
  before it and itself), written once for the kernel and for the reference, and what does not depend on the keys and
  values a query may not look at.
-/
module

public import Idealize.ShloMosaic.Lib.Pointwise

@[expose] public section

noncomputable section

namespace Cert.Proof.Val

open Idealize.ShloMosaic

/-- The factor of the scores, `128^(-1/2)` rounded to binary32. -/
def sig : EReal := Ideal.ofBits .f32 0x3DB504F3#32

theorem neg_inf : (Ideal.ofBits .f32 0xFF800000#32 : EReal) = ⊥ := by simp [Ideal.ofBits, Ideal.ieee]

/-- A bit read as a number. -/
theorem word_hit' (p : Prop) [Decidable p] :
    (FloatOps.uitofp .f32 (BitVec.ofBool (decide p)) : Ideal .f32) = if p then (1 : EReal) else 0 := by
  by_cases h : p
  · rw [if_pos h, decide_eq_true h]; change (((1#1).toNat : ℝ) : EReal) = 1; norm_num
  · rw [if_neg h, decide_eq_false h]; change (((0#1).toNat : ℝ) : EReal) = 0; norm_num

theorem sig_eq : sig = (((11863283 : ℝ) / 134217728 : ℝ) : EReal) := by
  unfold sig
  simp [Ideal.ofBits, Ideal.ieee]
  rw [← EReal.coe_mul]; congr 1; norm_num

theorem sig_nonneg : 0 ≤ sig := by rw [sig_eq]; exact_mod_cast (by norm_num : (0 : ℝ) ≤ 11863283 / 134217728)
theorem sig_ne_top : sig ≠ ⊤ := by rw [sig_eq]; exact EReal.coe_ne_top _

/-- The factor goes through a sum. -/
theorem sum_mul_sig {ι : Type*} (S : Finset ι) (f : ι → EReal) : (∑ i ∈ S, f i) * sig = ∑ i ∈ S, f i * sig := by
  classical
  induction S using Finset.induction_on with
  | empty => simp
  | insert a S ha ih =>
    rw [Finset.sum_insert ha, Finset.sum_insert ha, EReal.right_distrib_of_nonneg_of_ne_top sig_nonneg sig_ne_top, ih]

/-- Two [128, 128] vectors, one above the other. -/
def cat (a b : Fin 128 → Fin 128 → EReal) : Fin 256 → Fin 128 → EReal := fun c d =>
  if h : c.val < 128 then a ⟨c.val, h⟩ d else b ⟨c.val - 128, by omega⟩ d

/-- The pairs of a query and a key in the band: the block's own keys up to the query, and those of the block before from
    the query on, which the first block has not. -/
def band (n : Fin 2) (r : Fin 128) (c : Fin 256) : BitVec 1 :=
  BitVec.ofBool (decide ((n.val = 1 ∧ c.val < 128 ∧ r.val ≤ c.val) ∨ (128 ≤ c.val ∧ c.val - 128 ≤ r.val)))

/-- The row of an array where query `r` of block `n` of residue `g` lies, and the column of lane `d` of head `h`. -/
def row (g : Fin 16) (n : Fin 2) (r : Fin 128) : Fin 4096 := ⟨(n.val * 128 + r.val) * 16 + g.val, by omega⟩
def col (h : Fin 4) (d : Fin 128) : Fin 512 := ⟨h.val * 128 + d.val, by omega⟩

/-- A block of an array. -/
def blk (A : Vec Ideal ⟨2, ![4096, 512]⟩ .f32) (g : Fin 16) (n : Fin 2) (h : Fin 4) : Fin 128 → Fin 128 → EReal :=
  fun r d => A (ix2 (row g n r) (col h d))

/-- A block of an array below the block before it, which is zeros before the first. -/
def win (A : Vec Ideal ⟨2, ![4096, 512]⟩ .f32) (g : Fin 16) (n : Fin 2) (h : Fin 4) : Fin 256 → Fin 128 → EReal :=
  cat (fun r d => if n.val < 1 then 0 else blk A g 0 h r d) (blk A g n h)

section Block

variable (ok : Fin 128 → Fin 256 → BitVec 1) (q go : Fin 128 → Fin 128 → EReal) (kk vv : Fin 256 → Fin 128 → EReal) (gl : Fin 128 → EReal)

/-- The masked scores. -/
def sc (r : Fin 128) (c : Fin 256) : EReal := Scalar.select (ok r c) ((∑ d, q r d * kk c d) * sig) ⊥
/-- A row's maximum. -/
def mx (r : Fin 128) : EReal := Finset.univ.fold max ⊥ (sc ok q kk r)
/-- Where a row takes its maximum. -/
def hit (r : Fin 128) (c : Fin 256) : EReal := if sc ok q kk r c = mx ok q kk r then 1 else 0
/-- The exponentials. -/
def ex (r : Fin 128) (c : Fin 256) : EReal := Ideal.exp (sc ok q kk r c - mx ok q kk r)
/-- Their sum. -/
def den (r : Fin 128) : EReal := ∑ c, ex ok q kk r c
/-- The output before the division. -/
def num (r d : Fin 128) : EReal := ∑ c, vv c d * ex ok q kk r c
/-- The output's gradient divided by the sum. -/
def dn (r d : Fin 128) : EReal := Ideal.div (go r d) (den ok q kk r)
/-- The gradient of the sum of the exponentials. -/
def gden (r : Fin 128) : EReal :=
  Ideal.div (gl r) (den ok q kk r) + -∑ d, go r d * Ideal.div 1 (den ok q kk r * den ok q kk r) * num ok q kk vv r d
/-- The gradient of the exponents. -/
def gex (r : Fin 128) (c : Fin 256) : EReal := (∑ d, dn ok q go kk r d * vv c d + gden ok q go kk vv gl r) * ex ok q kk r c
/-- The gradient of the masked scores: with the maximum's share. -/
def gsc (r : Fin 128) (c : Fin 256) : EReal :=
  Scalar.select (ok r c)
    (gex ok q go kk vv gl r c + Ideal.div (gl r + ∑ c, -gex ok q go kk vv gl r c) (∑ c, hit ok q kk r c) * hit ok q kk r c) 0

/-- The gradient of the queries. -/
def gq (r d : Fin 128) : EReal := ∑ c, gsc ok q go kk vv gl r c * sig * kk c d
/-- The gradient of the keys. -/
def gk (c : Fin 256) (d : Fin 128) : EReal := ∑ r, gsc ok q go kk vv gl r c * sig * q r d
/-- The gradient of the values. -/
def gv (c : Fin 256) (d : Fin 128) : EReal := ∑ r, dn ok q go kk r d * ex ok q kk r c

variable {ok} {kk vv} {kk' vv' : Fin 256 → Fin 128 → EReal}

theorem sel_zero (a b : EReal) : Scalar.select 0#1 a b = b := rfl

theorem word_zero {b : BitVec 1} (h : b ≠ 1#1) : b = 0#1 := by revert h; revert b; decide

/-- A key a query may not look at has exponential zero. -/
theorem ex_zero {r : Fin 128} {c : Fin 256} (h : ok r c ≠ 1#1) : ex ok q kk r c = 0 := by
  have hs : sc ok q kk r c = ⊥ := by rw [sc, word_zero h, sel_zero]
  rw [ex, hs, EReal.bot_sub]; rfl

theorem gsc_zero {r : Fin 128} {c : Fin 256} (h : ok r c ≠ 1#1) : gsc ok q go kk vv gl r c = 0 := by
  rw [gsc, word_zero h, sel_zero]

section Congr

variable (hk : ∀ r c, ok r c = 1#1 → kk c = kk' c) (hv : ∀ r c, ok r c = 1#1 → vv c = vv' c)
include hk

theorem sc_congr : sc ok q kk = sc ok q kk' := by
  funext r c
  by_cases h : ok r c = 1#1
  · rw [sc, sc, hk r c h]
  · rw [sc, sc, word_zero h, sel_zero, sel_zero]

theorem mx_congr : mx ok q kk = mx ok q kk' := by funext r; rw [mx, mx, sc_congr q hk]
theorem hit_congr : hit ok q kk = hit ok q kk' := by funext r c; rw [hit, hit, sc_congr q hk, mx_congr q hk]
theorem ex_congr : ex ok q kk = ex ok q kk' := by funext r c; rw [ex, ex, sc_congr q hk, mx_congr q hk]
theorem den_congr : den ok q kk = den ok q kk' := by funext r; rw [den, den, ex_congr q hk]
theorem dn_congr : dn ok q go kk = dn ok q go kk' := by funext r d; rw [dn, dn, den_congr q hk]
theorem gv_congr : gv ok q go kk = gv ok q go kk' := by funext c d; rw [gv, gv, dn_congr q go hk, ex_congr q hk]

include hv

theorem num_congr : num ok q kk vv = num ok q kk' vv' := by
  funext r d
  rw [num, num, ← ex_congr q hk]
  refine Finset.sum_congr rfl fun c _ => ?_
  by_cases h : ok r c = 1#1
  · rw [hv r c h]
  · rw [ex_zero q h, mul_zero, mul_zero]

theorem gden_congr : gden ok q go kk vv gl = gden ok q go kk' vv' gl := by
  funext r; rw [gden, gden, den_congr q hk, num_congr q hk hv]

theorem gex_congr : gex ok q go kk vv gl = gex ok q go kk' vv' gl := by
  funext r c
  rw [gex, gex, ← ex_congr q hk, ← dn_congr q go hk, ← gden_congr q go gl hk hv]
  by_cases h : ok r c = 1#1
  · rw [hv r c h]
  · rw [ex_zero q h, mul_zero, mul_zero]

theorem gsc_congr : gsc ok q go kk vv gl = gsc ok q go kk' vv' gl := by
  funext r c; rw [gsc, gsc, gex_congr q go gl hk hv, hit_congr q hk]

theorem gq_congr : gq ok q go kk vv gl = gq ok q go kk' vv' gl := by
  funext r d
  rw [gq, gq, ← gsc_congr q go gl hk hv]
  refine Finset.sum_congr rfl fun c _ => ?_
  by_cases h : ok r c = 1#1
  · rw [hk r c h]
  · rw [gsc_zero q go gl h, zero_mul, zero_mul, zero_mul]

theorem gk_congr : gk ok q go kk vv gl = gk ok q go kk' vv' gl := by
  funext c d; rw [gk, gk, gsc_congr q go gl hk hv]

end Congr

end Block

end Cert.Proof.Val

end
-- ==== Proof.Val.Ker.lean ====
/-
  The kernel's gradient of one block, read element by element over the extended reals: the common functions of a block.
-/
module

public import proofs.«01_k».proof.Proof.PI.Trip
public import proofs.«01_k».proof.Proof.Val.Spec

@[expose] public section

set_option maxRecDepth 16384

noncomputable section

namespace Cert.Proof.Val

open Cert.KernelIdeal Cert.KernelIdeal.Gen Cert.Proof.PI
open Idealize.ShloMosaic Idealize.ShloMosaic.TcCoe

/-- A [128, 128] vector by its two coordinates. -/
abbrev fn (x : Vec Ideal S128x128 .f32) : Fin 128 → Fin 128 → EReal := fun r d => x (ix2 r d)

/-- The kernel's mask. -/
abbrev okK (v1 : BitVec 32) : Fin 128 → Fin 256 → BitVec 1 := fun r c => k0_pay5 v1 (ix2 r c)

theorem mask_eq : (Named.named (F := Ideal) κ "mask" (φ := .f32) 0xF149F2CA#32 : EReal) = ⊥ :=
  (IdealRules.named_const.statement κ "mask" .f32 0xF149F2CA#32 ⊥ rfl).2.2

theorem word_hit (p : Prop) [Decidable p] :
    (FloatOps.sitofp .f32 (BitVec.setWidth 32 (BitVec.ofBool (decide p))) : Ideal .f32) = if p then (1 : EReal) else 0 := by
  by_cases h : p
  · rw [if_pos h, decide_eq_true h]; change (((1#32).toInt : ℝ) : EReal) = 1; norm_num
  · rw [if_neg h, decide_eq_false h]; change (((0#32).toInt : ℝ) : EReal) = 0; norm_num

section Block

variable (v1 : BitVec 32) (q kp kc vp vc go gl : Vec Ideal S128x128 .f32)

theorem pay6_at (r d : Fin 128) : k0_pay6 (F := Ideal) q (ix2 r d) = q (ix2 r d) * sig := by
  pointwise [k0_pay6, sig]

theorem pay7_at (c : Fin 256) (d : Fin 128) : k0_pay7 (F := Ideal) kp kc (ix2 c d) = cat (fn kp) (fn kc) c d := by
  pointwise [k0_pay7, cat]

theorem pay15_at (c : Fin 256) (d : Fin 128) : k0_pay15 (F := Ideal) vp vc (ix2 c d) = cat (fn vp) (fn vc) c d := by
  pointwise [k0_pay15, cat]

theorem scB_at (r : Fin 128) (c : Fin 256) : scB (F := Ideal) v1 q kp kc (ix2 r c) = sc (okK v1) (fn q) (cat (fn kp) (fn kc)) r c := by
  unfold sc
  rw [sum_mul_sig]
  pointwise [k0_pay8, pay6_at, pay7_at, mask_eq]
  refine congrArg (fun x => Scalar.select (k0_pay5 v1 (ix2 r c)) x ⊥) (Finset.sum_congr rfl fun d _ => ?_)
  rw [mul_right_comm]

section Rows

variable {ok : Fin 128 → Fin 256 → BitVec 1} {q : Fin 128 → Fin 128 → EReal} {kk : Fin 256 → Fin 128 → EReal}
  {S : FVec Ideal S128x256 .f32} (hS : ∀ r c, S (ix2 r c) = sc ok q kk r c)
include hS

theorem pay9_at (r : Fin 128) : k0_pay9 (F := Ideal) S (ix1 r) = mx ok q kk r := by
  unfold mx
  pointwise [k0_pay9, neg_inf, hS]

theorem pay10_at (r : Fin 128) (c : Fin 256) : k0_pay10 (F := Ideal) S (ix2 r c) = hit ok q kk r c := by
  unfold hit
  pointwise [k0_pay10, pay9_at hS, hS]
  exact word_hit _

theorem pay11_at (r : Fin 128) : k0_pay11 (F := Ideal) S (ix1 r) = ∑ c, hit ok q kk r c := by
  pointwise [k0_pay11, pay10_at hS]

theorem pay12_at (r : Fin 128) (c : Fin 256) : k0_pay12 (F := Ideal) S (ix2 r c) = ex ok q kk r c := by
  unfold ex
  pointwise [k0_pay12, pay9_at hS, hS]

theorem pay13_at (r : Fin 128) : k0_pay13 (F := Ideal) S (ix2 r 0) = den ok q kk r := by
  unfold den
  pointwise [k0_pay13, pay12_at hS]

theorem pay14_at (r : Fin 128) (c : Fin 256) : k0_pay14 (F := Ideal) S (ix2 r c) = ex ok q kk r c := by
  pointwise [k0_pay14, pay12_at hS]

theorem pay18_at (r d : Fin 128) : k0_pay18 (F := Ideal) S go (ix2 r d) = dn ok q (fn go) kk r d := by
  unfold dn
  pointwise [k0_pay18, pay13_at hS]

theorem pay19_at (c : Fin 256) (d : Fin 128) : k0_pay19 (F := Ideal) S go (ix2 c d) = gv ok q (fn go) kk c d := by
  unfold gv
  pointwise [k0_pay19, pay18_at go hS, pay14_at hS]

theorem pay20_at (r : Fin 128) (c : Fin 256) : k0_pay20 (F := Ideal) vp vc S go (ix2 r c)
    = ∑ d, dn ok q (fn go) kk r d * cat (fn vp) (fn vc) c d := by
  pointwise [k0_pay20, pay18_at go hS, pay15_at]

omit hS in
theorem pay16_at (r : Fin 128) : k0_pay16 (F := Ideal) gl (ix2 r 0) = ∑ d, gl (ix2 r d) := by
  pointwise [k0_pay16]

theorem pay17_at (r : Fin 128) : k0_pay17 (F := Ideal) vp vc S go gl (ix2 r 0)
    = gden ok q (fn go) kk (cat (fn vp) (fn vc)) (fun r => ∑ d, gl (ix2 r d)) r := by
  unfold gden num
  pointwise [k0_pay17, pay13_at hS, pay14_at hS, pay15_at, pay16_at]
  rw [zero_sub]
  refine congrArg (fun x => Ideal.div _ _ + -x) (Finset.sum_congr rfl fun d _ => ?_)
  exact congrArg (_ * ·) (Finset.sum_congr rfl fun c _ => mul_comm _ _)

variable {vv : Fin 256 → Fin 128 → EReal} {g : Fin 128 → EReal} {go' : Fin 128 → Fin 128 → EReal}

theorem pay22_at (P20 : FVec Ideal S128x256 .f32) (P17 P16 : FVec Ideal S128x1 .f32) (M : IVec S128x256 1)
    (hM : ∀ r c, M (ix2 r c) = ok r c) (h20 : ∀ r c, P20 (ix2 r c) = ∑ d, dn ok q go' kk r d * vv c d)
    (h17 : ∀ r, P17 (ix2 r 0) = gden ok q go' kk vv g r) (h16 : ∀ r, P16 (ix2 r 0) = g r) (r : Fin 128) (c : Fin 256) :
    k0_pay22 (F := Ideal) M (k0_pay10 S) (k0_pay11 S) (k0_pay12 S) P16 P17 P20 (ix2 r c) = gsc ok q go' kk vv g r c := by
  unfold gsc gex
  pointwise [k0_pay22, pay10_at hS, pay11_at hS, pay12_at hS, hM, h20, h17, h16]
  simp only [Fin.sum_univ_one, zero_sub, h16, h17]

end Rows

/-! ### The block's five results -/

/-- The gradient of the masked scores, as the kernel computes it. -/
theorem gsc_at (r : Fin 128) (c : Fin 256) :
    k0_pay22 (F := Ideal) (k0_pay5 v1) (k0_pay10 (scB v1 q kp kc)) (k0_pay11 (scB v1 q kp kc)) (k0_pay12 (scB v1 q kp kc))
      (k0_pay16 gl) (k0_pay17 vp vc (scB v1 q kp kc) go gl) (k0_pay20 vp vc (scB v1 q kp kc) go) (ix2 r c)
      = gsc (okK v1) (fn q) (fn go) (cat (fn kp) (fn kc)) (cat (fn vp) (fn vc)) (fun r => ∑ d, gl (ix2 r d)) r c :=
  pay22_at (scB_at v1 q kp kc) _ _ _ _ (fun _ _ => rfl) (fun r c => pay20_at vp vc go (scB_at v1 q kp kc) r c)
    (fun r => pay17_at vp vc go gl (scB_at v1 q kp kc) r) (fun r => pay16_at gl r) r c

/-- The queries' gradient. -/
theorem dqB_at (r d : Fin 128) : dqB (F := Ideal) v1 q kp kc vp vc go gl (ix2 r d)
    = gq (okK v1) (fn q) (fn go) (cat (fn kp) (fn kc)) (cat (fn vp) (fn vc)) (fun r => ∑ d, gl (ix2 r d)) r d := by
  unfold gq
  pointwise [dqB, k0_pay25, gsc_at, pay7_at]
  refine (sum_mul_sig _ _).trans (Finset.sum_congr rfl fun c _ => ?_)
  rw [mul_right_comm]

theorem pay23_at (c : Fin 256) (d : Fin 128) :
    k0_pay23 (F := Ideal) (k0_pay5 v1) (k0_pay6 q) (k0_pay10 (scB v1 q kp kc)) (k0_pay11 (scB v1 q kp kc)) (k0_pay12 (scB v1 q kp kc))
      (k0_pay16 gl) (k0_pay17 vp vc (scB v1 q kp kc) go gl) (k0_pay20 vp vc (scB v1 q kp kc) go) (ix2 c d)
      = gk (okK v1) (fn q) (fn go) (cat (fn kp) (fn kc)) (cat (fn vp) (fn vc)) (fun r => ∑ d, gl (ix2 r d)) c d := by
  unfold gk
  pointwise [k0_pay23, gsc_at, pay6_at]
  refine Finset.sum_congr rfl fun r _ => ?_
  rw [mul_assoc, mul_comm sig]

/-- The keys' gradient of the block's own half. -/
theorem dkB_at (owed : Vec Ideal S128x128 .f32) (r d : Fin 128) : dkB (F := Ideal) v1 q kp kc vp vc go gl owed (ix2 r d)
    = gk (okK v1) (fn q) (fn go) (cat (fn kp) (fn kc)) (cat (fn vp) (fn vc)) (fun r => ∑ d, gl (ix2 r d)) ⟨128 + r.val, by omega⟩ d
      + owed (ix2 r d) := by
  pointwise [dkB, k0_pay26, pay23_at]

/-- The keys' gradient of the half before. -/
theorem okB_at (r d : Fin 128) : okB (F := Ideal) v1 q kp kc vp vc go gl (ix2 r d)
    = gk (okK v1) (fn q) (fn go) (cat (fn kp) (fn kc)) (cat (fn vp) (fn vc)) (fun r => ∑ d, gl (ix2 r d)) ⟨r.val, by omega⟩ d := by
  pointwise [okB, k0_pay3, k0_pay24, pay23_at]

/-- The values' gradient of the block's own half. -/
theorem dvB_at (owed : Vec Ideal S128x128 .f32) (r d : Fin 128) : dvB (F := Ideal) v1 q kp kc go owed (ix2 r d)
    = gv (okK v1) (fn q) (fn go) (cat (fn kp) (fn kc)) ⟨128 + r.val, by omega⟩ d + owed (ix2 r d) := by
  pointwise [dvB, k0_pay27, pay19_at go (scB_at v1 q kp kc)]

/-- The values' gradient of the half before. -/
theorem ovB_at (r d : Fin 128) : ovB (F := Ideal) v1 q kp kc go (ix2 r d)
    = gv (okK v1) (fn q) (fn go) (cat (fn kp) (fn kc)) ⟨r.val, by omega⟩ d := by
  pointwise [ovB, k0_pay4, k0_pay21, pay19_at go (scB_at v1 q kp kc)]

end Block

end Cert.Proof.Val

end
-- ==== Proof.Val.Mask.lean ====
/-
  The kernel's mask is the band.
-/
module

public import proofs.«01_k».proof.Proof.Val.Ker

@[expose] public section

set_option maxRecDepth 16384

noncomputable section

namespace Cert.Proof.Val

open Cert.KernelIdeal Cert.KernelIdeal.Gen
open Idealize.ShloMosaic Idealize.ShloMosaic.TcCoe

theorem okK_first : okK 0#32 = band 0 := by
  funext r c
  pointwise [okK, k0_pay5, band]
  revert c; revert r; decide +kernel

theorem okK_next : okK 1#32 = band 1 := by
  funext r c
  pointwise [okK, k0_pay5, band]
  revert c; revert r; decide +kernel

end Cert.Proof.Val

end
-- ==== Proof.Val.Lay.lean ====
/-
  The three gradients over whole arrays: where an element lies among the blocks, and its block's gradient there.
-/
module

public import proofs.«01_k».proof.Proof.Val.Spec

@[expose] public section

noncomputable section

namespace Cert.Proof.Val

open Idealize.ShloMosaic

/-- A row's sum over the lanes. -/
def lsum (g : Fin 16) (n : Fin 2) (h : Fin 4) (A : Vec Ideal ⟨2, ![4096, 512]⟩ .f32) : Fin 128 → EReal := fun r => ∑ d, blk A g n h r d

/-- Where an element of an array lies among the blocks. -/
def rg (y : (⟨2, ![4096, 512]⟩ : Shape).Idx) : Fin 16 := ⟨(y 0).val % 16, Nat.mod_lt _ (by decide)⟩
def rn (y : (⟨2, ![4096, 512]⟩ : Shape).Idx) : Fin 2 := ⟨(y 0).val / 16 / 128, by have h := (y 0).isLt; change (y 0).val < 4096 at h; omega⟩
def rr (y : (⟨2, ![4096, 512]⟩ : Shape).Idx) : Fin 128 := ⟨(y 0).val / 16 % 128, Nat.mod_lt _ (by decide)⟩
def rh (y : (⟨2, ![4096, 512]⟩ : Shape).Idx) : Fin 4 := ⟨(y 1).val / 128, by have h := (y 1).isLt; change (y 1).val < 512 at h; omega⟩
def rd (y : (⟨2, ![4096, 512]⟩ : Shape).Idx) : Fin 128 := ⟨(y 1).val % 128, Nat.mod_lt _ (by decide)⟩

/-- The gradient of the queries. -/
abbrev specQ (Q K V O L : Vec Ideal ⟨2, ![4096, 512]⟩ .f32) (g : Fin 16) (n : Fin 2) (h : Fin 4) : Fin 128 → Fin 128 → EReal :=
  gq (band n) (blk Q g n h) (blk O g n h) (win K g n h) (win V g n h) (lsum g n h L)
/-- The gradient of the keys and of the values of a block and of the block before it. -/
abbrev specK (Q K V O L : Vec Ideal ⟨2, ![4096, 512]⟩ .f32) (g : Fin 16) (n : Fin 2) (h : Fin 4) : Fin 256 → Fin 128 → EReal :=
  gk (band n) (blk Q g n h) (blk O g n h) (win K g n h) (win V g n h) (lsum g n h L)
abbrev specV (Q K O : Vec Ideal ⟨2, ![4096, 512]⟩ .f32) (g : Fin 16) (n : Fin 2) (h : Fin 4) : Fin 256 → Fin 128 → EReal :=
  gv (band n) (blk Q g n h) (blk O g n h) (win K g n h)

end Cert.Proof.Val

end
-- ==== Proof.Val.Arr.lean ====
/-
  The kernel's three results, element by element over the extended reals: the arrays its points write back.
-/
module

public import proofs.«01_k».proof.Proof.PI.Frame
public import proofs.«01_k».proof.Proof.Val.Ker
public import proofs.«01_k».proof.Proof.Val.Mask
public import proofs.«01_k».proof.Proof.Val.Lay
public import Idealize.ShloMosaic.Lib.Pipeline.ValueKit.Geometry

@[expose] public section

set_option maxRecDepth 16384

noncomputable section

namespace Cert.Proof.Val

open Cert.KernelIdeal Cert.KernelIdeal.Gen Cert.Proof.PI
open Idealize.ShloMosaic Idealize.ShloMosaic.TcCoe

variable (m : (ℓ : Loc Cert.KernelIdeal.nD Cert.KernelIdeal.τ Cert.KernelIdeal.sig) → Buf (Elt Ideal) ℓ) (c : Dev Cert.KernelIdeal.nD)

/-! ### The points -/

theorem lt8 (t : Fin cfg0.N) : t.val < 8 := Nat.lt_of_lt_of_eq t.isLt N_0

/-- The block and the head of point `t`: a head's second block first. -/
def bn (t : Fin cfg0.N) : Fin 2 := ⟨1 - t.val % 2, by omega⟩
def bh (t : Fin cfg0.N) : Fin 4 := ⟨t.val / 2, by have := lt8 t; omega⟩

/-- Every window's block index: the point's own block, or (windows 1 and 3) the first. -/
theorem idx_own : ∀ t : Fin cfg0.N, win0_0.index t = ![1 - t.val % 2, t.val / 2] ∧ win0_2.index t = ![1 - t.val % 2, t.val / 2]
    ∧ win0_4.index t = ![1 - t.val % 2, t.val / 2] ∧ win0_5.index t = ![1 - t.val % 2, t.val / 2]
    ∧ win0_6.index t = ![1 - t.val % 2, t.val / 2] ∧ win0_7.index t = ![1 - t.val % 2, t.val / 2]
    ∧ win0_8.index t = ![1 - t.val % 2, t.val / 2] ∧ win0_9.index t = ![1 - t.val % 2, t.val / 2] :=
  (by decide +kernel : ∀ t : Fin grid0.N, _)
theorem idx_before : ∀ t : Fin cfg0.N, win0_1.index t = ![0, t.val / 2] ∧ win0_3.index t = ![0, t.val / 2] :=
  (by decide +kernel : ∀ t : Fin grid0.N, _)
theorem word : ∀ t : Fin cfg0.N, blkAt t = if t.val % 2 = 0 then 1#32 else 0#32 :=
  (by decide +kernel : ∀ t : Fin grid0.N, _)

/-- A point's mask is its block's band. -/
theorem okK_at (t : Fin cfg0.N) : okK (blkAt t) = band (bn t) := by
  rw [word t]
  by_cases h : t.val % 2 = 0
  · rw [if_pos h, okK_next]; exact congrArg band (Fin.ext (by simp only [bn, Fin.val_one]; omega))
  · rw [if_neg h, okK_first]; exact congrArg band (Fin.ext (by simp only [bn, Fin.val_zero]; omega))

/-! ### The blocks -/

/-- The array element under index (a, b) of block `n` of head `h`. -/
def el (n : Fin 2) (h : Fin 4) (a : Fin 2048) (b : Fin 128) : (⟨2, ![4096, 512]⟩ : Shape).Idx :=
  ix2 (⟨n.val * 2048 + a.val, by omega⟩ : Fin 4096) (⟨h.val * 128 + b.val, by omega⟩ : Fin 512)

theorem iblk0_at (t : Fin cfg0.N) (a : Fin 2048) (b : Fin 128) :
    iblk m c 0 t (ix2 a b) = V m c main_arg0 (el (bn t) (bh t) a b) := by
  have e := (idx_own t).1
  blk_simp [iblk]
  refine congrArg (V m c main_arg0) ?_
  blk_ext [e, el, bn, bh]

theorem iblk2_at (t : Fin cfg0.N) (a : Fin 2048) (b : Fin 128) :
    iblk m c 2 t (ix2 a b) = V m c main_arg1 (el (bn t) (bh t) a b) := by
  have e := (idx_own t).2.1
  blk_simp [iblk]
  refine congrArg (V m c main_arg1) ?_
  blk_ext [e, el, bn, bh]

theorem iblk4_at (t : Fin cfg0.N) (a : Fin 2048) (b : Fin 128) :
    iblk m c 4 t (ix2 a b) = V m c main_arg2 (el (bn t) (bh t) a b) := by
  have e := (idx_own t).2.2.1
  blk_simp [iblk]
  refine congrArg (V m c main_arg2) ?_
  blk_ext [e, el, bn, bh]

theorem iblk5_at (t : Fin cfg0.N) (a : Fin 2048) (b : Fin 128) :
    iblk m c 5 t (ix2 a b) = V m c main_arg3 (el (bn t) (bh t) a b) := by
  have e := (idx_own t).2.2.2.1
  blk_simp [iblk]
  refine congrArg (V m c main_arg3) ?_
  blk_ext [e, el, bn, bh]

theorem iblk6_at (t : Fin cfg0.N) (a : Fin 2048) (b : Fin 128) :
    iblk m c 6 t (ix2 a b) = V m c main_arg4 (el (bn t) (bh t) a b) := by
  have e := (idx_own t).2.2.2.2.1
  blk_simp [iblk]
  refine congrArg (V m c main_arg4) ?_
  blk_ext [e, el, bn, bh]

theorem iblk1_at (t : Fin cfg0.N) (a : Fin 2048) (b : Fin 128) :
    iblk m c 1 t (ix2 a b) = V m c main_arg1 (el 0 (bh t) a b) := by
  have e := (idx_before t).1
  blk_simp [iblk]
  refine congrArg (V m c main_arg1) ?_
  blk_ext [e, el, bh]

theorem iblk3_at (t : Fin cfg0.N) (a : Fin 2048) (b : Fin 128) :
    iblk m c 3 t (ix2 a b) = V m c main_arg2 (el 0 (bh t) a b) := by
  have e := (idx_before t).2
  blk_simp [iblk]
  refine congrArg (V m c main_arg2) ?_
  blk_ext [e, el, bh]

/-- The residue of a trip. -/
def gk16 (k : Fin k0_t1_loop.trips) : Fin 16 := ⟨k.val, lt16 k⟩

/-- The rows of residue `k` of a block of an array. -/
theorem rows_blk (X : Vec Ideal S2048x128 .f32) (A : Vec Ideal ⟨2, ![4096, 512]⟩ .f32) (n : Fin 2) (h : Fin 4)
    (hX : ∀ (a : Fin 2048) (b : Fin 128), X (ix2 a b) = A (el n h a b)) (k : Fin k0_t1_loop.trips) :
    fn (rowsOf X k) = blk A (gk16 k) n h := by
  funext r d
  have hk := lt16 k
  have hi : (lrow k).idx (ix2 r d : S128x128.Idx) = (ix2 (⟨k.val + 16 * r.val, by omega⟩ : Fin 2048) d : S2048x128.Idx) := by
    funext a
    match a with
    | 0 =>
      refine Fin.ext ?_
      change k0_off1 k 0 + 16 * r.val = k.val + 16 * r.val
      rw [(off1_eq k).1]
    | 1 =>
      refine Fin.ext ?_
      change k0_off1 k 1 + 1 * d.val = d.val
      rw [(off1_eq k).2]; omega
  have e : fn (rowsOf X k) r d = X (ix2 (⟨k.val + 16 * r.val, by omega⟩ : Fin 2048) d) := congrArg X hi
  rw [e, hX]
  refine congrArg A ?_
  funext a
  match a with
  | 0 => refine Fin.ext ?_; change n.val * 2048 + (k.val + 16 * r.val) = (n.val * 128 + r.val) * 16 + k.val; omega
  | 1 => rfl

/-- Where an element of a point's block lies among the blocks. -/
theorem at_el (f : Fin 16 → Fin 2 → Fin 4 → Fin 128 → Fin 128 → EReal) (n : Fin 2) (h : Fin 4) (a : Fin 2048) (b : Fin 128) :
    f (rg (el n h a b)) (rn (el n h a b)) (rh (el n h a b)) (rr (el n h a b)) (rd (el n h a b))
      = f ⟨a.val % 16, Nat.mod_lt _ (by decide)⟩ n h ⟨a.val / 16, by omega⟩ b := by
  have hg : rg (el n h a b) = ⟨a.val % 16, Nat.mod_lt _ (by decide)⟩ := Fin.ext (by change (n.val * 2048 + a.val) % 16 = a.val % 16; omega)
  have hn : rn (el n h a b) = n := Fin.ext (by change (n.val * 2048 + a.val) / 16 / 128 = n.val; omega)
  have hh : rh (el n h a b) = h := Fin.ext (by change (h.val * 128 + b.val) / 128 = h.val; omega)
  have hr : rr (el n h a b) = ⟨a.val / 16, by omega⟩ := Fin.ext (by change (n.val * 2048 + a.val) / 16 % 128 = a.val / 16; omega)
  have hd : rd (el n h a b) = b := Fin.ext (by change (h.val * 128 + b.val) % 128 = b.val; omega)
  rw [hg, hn, hh, hr, hd]

theorem mix_at (w : Fin k0_t1_loop.trips → Vec Ideal S128x128 .f32) (a : Fin 2048) (b : Fin 128) :
    mix w (ix2 a b) = w (res a.val) (ix2 (⟨a.val / 16, by omega⟩ : Fin 128) b) := rfl

theorem gk16_res (n : ℕ) : gk16 (res n) = ⟨n % 16, Nat.mod_lt _ (by decide)⟩ := rfl

/-! ### A point's block of each result -/

/-- The keys a query may look at: the block before is the first block, and the first block's queries look at none of it. -/
theorem cat_win (A : Vec Ideal ⟨2, ![4096, 512]⟩ .f32) (g : Fin 16) (n : Fin 2) (h : Fin 4) (r : Fin 128) (c : Fin 256)
    (hb : band n r c = 1#1) : cat (blk A g 0 h) (blk A g n h) c = win A g n h c := by
  funext d
  unfold win cat
  by_cases hc : c.val < 128
  · rw [dif_pos hc, dif_pos hc]
    by_cases hn : n.val < 1
    · exfalso
      unfold band at hb
      rw [decide_eq_false (by omega)] at hb
      exact absurd hb (by decide)
    · exact (if_neg hn).symm
  · rw [dif_neg hc, dif_neg hc]

section Point

variable (t : Fin cfg0.N)

/-- The five arrays. -/
abbrev kq : Vec Ideal ⟨2, ![4096, 512]⟩ .f32 := V m c main_arg0
abbrev kk : Vec Ideal ⟨2, ![4096, 512]⟩ .f32 := V m c main_arg1
abbrev kv : Vec Ideal ⟨2, ![4096, 512]⟩ .f32 := V m c main_arg2
abbrev ko : Vec Ideal ⟨2, ![4096, 512]⟩ .f32 := V m c main_arg3
abbrev kl : Vec Ideal ⟨2, ![4096, 512]⟩ .f32 := V m c main_arg4

theorem rows0 (k) : fn (rowsOf (iblk m c 0 t) k) = blk (kq m c) (gk16 k) (bn t) (bh t) := rows_blk _ _ _ _ (iblk0_at m c t) k
theorem rows1 (k) : fn (rowsOf (iblk m c 1 t) k) = blk (kk m c) (gk16 k) 0 (bh t) := rows_blk _ _ _ _ (iblk1_at m c t) k
theorem rows2 (k) : fn (rowsOf (iblk m c 2 t) k) = blk (kk m c) (gk16 k) (bn t) (bh t) := rows_blk _ _ _ _ (iblk2_at m c t) k
theorem rows3 (k) : fn (rowsOf (iblk m c 3 t) k) = blk (kv m c) (gk16 k) 0 (bh t) := rows_blk _ _ _ _ (iblk3_at m c t) k
theorem rows4 (k) : fn (rowsOf (iblk m c 4 t) k) = blk (kv m c) (gk16 k) (bn t) (bh t) := rows_blk _ _ _ _ (iblk4_at m c t) k
theorem rows5 (k) : fn (rowsOf (iblk m c 5 t) k) = blk (ko m c) (gk16 k) (bn t) (bh t) := rows_blk _ _ _ _ (iblk5_at m c t) k
theorem rows6 (k) : fn (rowsOf (iblk m c 6 t) k) = blk (kl m c) (gk16 k) (bn t) (bh t) := rows_blk _ _ _ _ (iblk6_at m c t) k

theorem rows6_sum (k) : (fun r : Fin 128 => ∑ d : Fin 128, rowsOf (iblk m c 6 t) k (ix2 r d)) = lsum (gk16 k) (bn t) (bh t) (kl m c) :=
  funext fun r => Finset.sum_congr rfl fun d _ => congrFun (congrFun (rows6 m c t k) r) d

theorem dq_at (a : Fin 2048) (b : Fin 128) : dqAt m c t (ix2 a b)
    = specQ (kq m c) (kk m c) (kv m c) (ko m c) (kl m c) ⟨a.val % 16, Nat.mod_lt _ (by decide)⟩ (bn t) (bh t) ⟨a.val / 16, by omega⟩ b := by
  unfold dqAt outDq specQ
  rw [mix_at, dqB_at, okK_at, rows0, rows1, rows2, rows3, rows4, rows5, rows6_sum, gk16_res]
  exact congrFun (congrFun (gq_congr _ _ _ (cat_win (kk m c) _ (bn t) (bh t)) (cat_win (kv m c) _ (bn t) (bh t))) _) _

theorem ok_at (a : Fin 2048) (b : Fin 128) : okAt m c t (ix2 a b)
    = specK (kq m c) (kk m c) (kv m c) (ko m c) (kl m c) ⟨a.val % 16, Nat.mod_lt _ (by decide)⟩ (bn t) (bh t) ⟨a.val / 16, by omega⟩ b := by
  unfold okAt outOk specK
  rw [mix_at, okB_at, okK_at, rows0, rows1, rows2, rows3, rows4, rows5, rows6_sum, gk16_res]
  exact congrFun (congrFun (gk_congr _ _ _ (cat_win (kk m c) _ (bn t) (bh t)) (cat_win (kv m c) _ (bn t) (bh t))) _) _

theorem ov_at (a : Fin 2048) (b : Fin 128) : ovAt m c t (ix2 a b)
    = specV (kq m c) (kk m c) (ko m c) ⟨a.val % 16, Nat.mod_lt _ (by decide)⟩ (bn t) (bh t) ⟨a.val / 16, by omega⟩ b := by
  unfold ovAt outOv specV
  rw [mix_at, ovB_at, okK_at, rows0, rows1, rows2, rows5, gk16_res]
  exact congrFun (congrFun (gv_congr _ _ (cat_win (kk m c) _ (bn t) (bh t))) _) _

theorem rowsOf_res (X : Vec Ideal S2048x128 .f32) (a : Fin 2048) (b : Fin 128) :
    rowsOf X (res a.val) (ix2 (⟨a.val / 16, by omega⟩ : Fin 128) b) = X (ix2 a b) := by
  refine congrArg X ?_
  funext x
  match x with
  | 0 =>
    refine Fin.ext ?_
    change k0_off1 (res a.val) 0 + 16 * (a.val / 16) = a.val
    rw [(off1_eq _).1, res_val]; omega
  | 1 =>
    refine Fin.ext ?_
    change k0_off1 (res a.val) 1 + 1 * b.val = b.val
    rw [(off1_eq _).2]; omega

theorem pay1_at (y : S2048x128.Idx) : k0_pay1 (F := Ideal) y = (0 : EReal) := by idx_vars y; pointwise [k0_pay1]
theorem pay2_at (y : S2048x128.Idx) : k0_pay2 (F := Ideal) y = (0 : EReal) := by idx_vars y; pointwise [k0_pay2]

/-- The point before a head's second point is its first. -/
theorem point_before (h : ¬ t.val % 2 = 0) (hlt : t.val - 1 < cfg0.N) :
    bn ⟨t.val - 1, hlt⟩ = 1 ∧ bh ⟨t.val - 1, hlt⟩ = bh t :=
  ⟨Fin.ext (by simp only [bn, Fin.val_one]; omega), Fin.ext (by simp only [bh]; omega)⟩

/-- What a block is owed by the block after it. -/
theorem ck_at (a : Fin 2048) (b : Fin 128) : ckAt m c t (ix2 a b)
    = if (bn t).val < 1 then specK (kq m c) (kk m c) (kv m c) (ko m c) (kl m c) ⟨a.val % 16, Nat.mod_lt _ (by decide)⟩ 1 (bh t) ⟨a.val / 16, by omega⟩ b
      else 0 := by
  unfold ckAt
  by_cases h : t.val % 2 = 0
  · rw [dif_pos h, pay1_at, if_neg (by simp only [bn]; omega)]
  · rw [dif_neg h, ok_at, if_pos (by simp only [bn]; omega), (point_before t h _).1, (point_before t h _).2]

theorem cv_at (a : Fin 2048) (b : Fin 128) : cvAt m c t (ix2 a b)
    = if (bn t).val < 1 then specV (kq m c) (kk m c) (ko m c) ⟨a.val % 16, Nat.mod_lt _ (by decide)⟩ 1 (bh t) ⟨a.val / 16, by omega⟩ b
      else 0 := by
  unfold cvAt
  by_cases h : t.val % 2 = 0
  · rw [dif_pos h, pay2_at, if_neg (by simp only [bn]; omega)]
  · rw [dif_neg h, ov_at, if_pos (by simp only [bn]; omega), (point_before t h _).1, (point_before t h _).2]

theorem dk_at (a : Fin 2048) (b : Fin 128) : dkAt m c t (ix2 a b)
    = specK (kq m c) (kk m c) (kv m c) (ko m c) (kl m c) ⟨a.val % 16, Nat.mod_lt _ (by decide)⟩ (bn t) (bh t) ⟨128 + a.val / 16, by omega⟩ b
      + if (bn t).val < 1 then specK (kq m c) (kk m c) (kv m c) (ko m c) (kl m c) ⟨a.val % 16, Nat.mod_lt _ (by decide)⟩ 1 (bh t) ⟨a.val / 16, by omega⟩ b
        else 0 := by
  rw [← ck_at]
  unfold dkAt outDk specK
  rw [mix_at, dkB_at, okK_at, rows0, rows1, rows2, rows3, rows4, rows5, rows6_sum, rowsOf_res, gk16_res]
  exact congrArg (· + _) (congrFun (congrFun (gk_congr _ _ _ (cat_win (kk m c) _ (bn t) (bh t)) (cat_win (kv m c) _ (bn t) (bh t))) _) _)

theorem dv_at (a : Fin 2048) (b : Fin 128) : dvAt m c t (ix2 a b)
    = specV (kq m c) (kk m c) (ko m c) ⟨a.val % 16, Nat.mod_lt _ (by decide)⟩ (bn t) (bh t) ⟨128 + a.val / 16, by omega⟩ b
      + if (bn t).val < 1 then specV (kq m c) (kk m c) (ko m c) ⟨a.val % 16, Nat.mod_lt _ (by decide)⟩ 1 (bh t) ⟨a.val / 16, by omega⟩ b
        else 0 := by
  rw [← cv_at]
  unfold dvAt outDv specV
  rw [mix_at, dvB_at, okK_at, rows0, rows1, rows2, rows5, rowsOf_res, gk16_res]
  exact congrArg (· + _) (congrFun (congrFun (gv_congr _ _ (cat_win (kk m c) _ (bn t) (bh t))) _) _)

end Point

/-! ### The arrays -/

/-- The three results over whole arrays. -/
def arrQ (Q K V O L : Vec Ideal ⟨2, ![4096, 512]⟩ .f32) : Vec Ideal ⟨2, ![4096, 512]⟩ .f32 := fun y =>
  specQ Q K V O L (rg y) (rn y) (rh y) (rr y) (rd y)
def arrK (Q K V O L : Vec Ideal ⟨2, ![4096, 512]⟩ .f32) : Vec Ideal ⟨2, ![4096, 512]⟩ .f32 := fun y =>
  specK Q K V O L (rg y) (rn y) (rh y) ⟨128 + (rr y).val, by omega⟩ (rd y)
    + if (rn y).val < 1 then specK Q K V O L (rg y) 1 (rh y) ⟨(rr y).val, by omega⟩ (rd y) else 0
def arrV (Q K O : Vec Ideal ⟨2, ![4096, 512]⟩ .f32) : Vec Ideal ⟨2, ![4096, 512]⟩ .f32 := fun y =>
  specV Q K O (rg y) (rn y) (rh y) ⟨128 + (rr y).val, by omega⟩ (rd y)
    + if (rn y).val < 1 then specV Q K O (rg y) 1 (rh y) ⟨(rr y).val, by omega⟩ (rd y) else 0

theorem emb7 (t : Fin cfg0.N) (a : Fin 2048) (b : Fin 128) :
    ((cfg0.win 7).blk t).view.emb (ix2 a b) = el (bn t) (bh t) a b := by
  have e := (idx_own t).2.2.2.2.2.1
  blk_ext [e, el, bn, bh]
theorem emb8 (t : Fin cfg0.N) (a : Fin 2048) (b : Fin 128) :
    ((cfg0.win 8).blk t).view.emb (ix2 a b) = el (bn t) (bh t) a b := by
  have e := (idx_own t).2.2.2.2.2.2.1
  blk_ext [e, el, bn, bh]
theorem emb9 (t : Fin cfg0.N) (a : Fin 2048) (b : Fin 128) :
    ((cfg0.win 9).blk t).view.emb (ix2 a b) = el (bn t) (bh t) a b := by
  have e := (idx_own t).2.2.2.2.2.2.2
  blk_ext [e, el, bn, bh]

theorem final7 : (dats m 0 c).arrAt 7 cfg0.N = arrQ (kq m c) (kk m c) (kv m c) (ko m c) (kl m c) := by
  refine (dats m 0 c).arrAt_eq_of_covers 7 _ (by decide +kernel) fun t hf y => ?_
  blk_simp
  rw [after_7]
  obtain ⟨a, b, rfl⟩ : ∃ (a : Fin 2048) (b : Fin 128), y = ix2 a b := ⟨y 0, y 1, by idx_vars y⟩
  refine (dq_at m c t a b).trans ?_
  rw [emb7]
  exact (at_el (fun g n h r d => specQ (kq m c) (kk m c) (kv m c) (ko m c) (kl m c) g n h r d) (bn t) (bh t) a b).symm

theorem final8 : (dats m 0 c).arrAt 8 cfg0.N = arrK (kq m c) (kk m c) (kv m c) (ko m c) (kl m c) := by
  refine (dats m 0 c).arrAt_eq_of_covers 8 _ (by decide +kernel) fun t hf y => ?_
  blk_simp
  rw [after_8]
  obtain ⟨a, b, rfl⟩ : ∃ (a : Fin 2048) (b : Fin 128), y = ix2 a b := ⟨y 0, y 1, by idx_vars y⟩
  refine (dk_at m c t a b).trans ?_
  rw [emb8]
  exact (at_el (fun g n h r d => specK (kq m c) (kk m c) (kv m c) (ko m c) (kl m c) g n h ⟨128 + r.val, by omega⟩ d
    + if n.val < 1 then specK (kq m c) (kk m c) (kv m c) (ko m c) (kl m c) g 1 h ⟨r.val, by omega⟩ d else 0) (bn t) (bh t) a b).symm

theorem final9 : (dats m 0 c).arrAt 9 cfg0.N = arrV (kq m c) (kk m c) (ko m c) := by
  refine (dats m 0 c).arrAt_eq_of_covers 9 _ (by decide +kernel) fun t hf y => ?_
  blk_simp
  rw [after_9]
  obtain ⟨a, b, rfl⟩ : ∃ (a : Fin 2048) (b : Fin 128), y = ix2 a b := ⟨y 0, y 1, by idx_vars y⟩
  refine (dv_at m c t a b).trans ?_
  rw [emb9]
  exact (at_el (fun g n h r d => specV (kq m c) (kk m c) (ko m c) g n h ⟨128 + r.val, by omega⟩ d
    + if n.val < 1 then specV (kq m c) (kk m c) (ko m c) g 1 h ⟨r.val, by omega⟩ d else 0) (bn t) (bh t) a b).symm

end Cert.Proof.Val

end
-- ==== Proof.Val.Red.lean ====
/-
  The host's sums and maxima of the reference read at an index over the extended reals: along the last axis of a rank-6
  array, and along the first and the last axis where the first has one entry.
-/
module

public import Idealize.ShloMosaic.Lib.Pointwise

@[expose] public section

noncomputable section

namespace Cert.Proof.Val

open Idealize.ShloMosaic

section Last

variable {n0 n1 n2 n3 n4 n5 : ℕ} (h : (⟨6, ![n0, n1, n2, n3, n4, n5]⟩ : Shape).ReducesTo [5] ⟨5, ![n0, n1, n2, n3, n4]⟩)
  (a0 : Fin n0) (a1 : Fin n1) (a2 : Fin n2) (a3 : Fin n3) (a4 : Fin n4)

theorem fiber_last (i : (⟨6, ![n0, n1, n2, n3, n4, n5]⟩ : Shape).Idx) :
    h.drop i = ix5 a0 a1 a2 a3 a4 ↔ ∃ k : Fin n5, ix6 a0 a1 a2 a3 a4 k = i := by
  constructor
  · intro e
    refine ⟨i 5, ?_⟩
    funext a
    match a with
    | ⟨0, _⟩ => exact (congrFun e 0).symm
    | ⟨1, _⟩ => exact (congrFun e 1).symm
    | ⟨2, _⟩ => exact (congrFun e 2).symm
    | ⟨3, _⟩ => exact (congrFun e 3).symm
    | ⟨4, _⟩ => exact (congrFun e 4).symm
    | ⟨5, _⟩ => rfl
  · rintro ⟨k, rfl⟩
    funext b
    match b with
    | ⟨0, _⟩ => rfl
    | ⟨1, _⟩ => rfl
    | ⟨2, _⟩ => rfl
    | ⟨3, _⟩ => rfl
    | ⟨4, _⟩ => rfl

/-- A sum along the last of six axes. -/
theorem reduceAdd_last (v : (⟨6, ![n0, n1, n2, n3, n4, n5]⟩ : Shape).Idx → EReal) (init : EReal) :
    Ideal.hostReduceAdd h v init (ix5 a0 a1 a2 a3 a4) = init + ∑ k : Fin n5, v (ix6 a0 a1 a2 a3 a4 k) :=
  congrArg (init + ·) (Finset.sum_filter_eq_sum_of_fiber _ (fun k : Fin n5 => ix6 a0 a1 a2 a3 a4 k)
    (fun _ _ e => congrFun e 5) (fiber_last h a0 a1 a2 a3 a4) v)

/-- A maximum along the last of six axes. -/
theorem reduceMax_last {u : Shape} (v : FVec Ideal ⟨6, ![n0, n1, n2, n3, n4, n5]⟩ .f32) (init : FVec Ideal u .f32) (hu : 0 < u.numel) :
    Host.reduce (FloatOps.maximumf (F := Ideal) (φ := .f32)) v init h hu (ix5 a0 a1 a2 a3 a4)
      = (Finset.univ : Finset (Fin n5)).fold max (init (Shape.Idx.first hu)) (fun k => v (ix6 a0 a1 a2 a3 a4 k)) := by
  rw [Host.reduce_eq_fold]
  exact Finset.fold_filter_eq_fold_of_fiber (max : EReal → EReal → EReal) _ (fun k : Fin n5 => ix6 a0 a1 a2 a3 a4 k)
    (fun _ _ e => congrFun e 5) (fiber_last h a0 a1 a2 a3 a4) _ v

end Last

section Ends6

variable {n1 n2 n3 n4 n5 : ℕ} (h : (⟨6, ![1, n1, n2, n3, n4, n5]⟩ : Shape).ReducesTo [0, 5] ⟨4, ![n1, n2, n3, n4]⟩)
  (a1 : Fin n1) (a2 : Fin n2) (a3 : Fin n3) (a4 : Fin n4)

theorem fiber_ends6 (i : (⟨6, ![1, n1, n2, n3, n4, n5]⟩ : Shape).Idx) :
    h.drop i = ix4 a1 a2 a3 a4 ↔ ∃ k : Fin n5, ix6 (0 : Fin 1) a1 a2 a3 a4 k = i := by
  constructor
  · intro e
    refine ⟨i 5, ?_⟩
    funext a
    match a with
    | ⟨0, _⟩ => exact (Subsingleton.elim (α := Fin 1) _ _)
    | ⟨1, _⟩ => exact (congrFun e 0).symm
    | ⟨2, _⟩ => exact (congrFun e 1).symm
    | ⟨3, _⟩ => exact (congrFun e 2).symm
    | ⟨4, _⟩ => exact (congrFun e 3).symm
    | ⟨5, _⟩ => rfl
  · rintro ⟨k, rfl⟩
    funext b
    match b with
    | ⟨0, _⟩ => rfl
    | ⟨1, _⟩ => rfl
    | ⟨2, _⟩ => rfl
    | ⟨3, _⟩ => rfl

/-- A sum along the last axis and a first axis of one entry, of six axes. -/
theorem reduceAdd_ends6 (v : (⟨6, ![1, n1, n2, n3, n4, n5]⟩ : Shape).Idx → EReal) (init : EReal) :
    Ideal.hostReduceAdd h v init (ix4 a1 a2 a3 a4) = init + ∑ k : Fin n5, v (ix6 (0 : Fin 1) a1 a2 a3 a4 k) :=
  congrArg (init + ·) (Finset.sum_filter_eq_sum_of_fiber _ (fun k : Fin n5 => ix6 (0 : Fin 1) a1 a2 a3 a4 k)
    (fun _ _ e => congrFun e 5) (fiber_ends6 h a1 a2 a3 a4) v)

end Ends6

section Ends4

variable {n1 n2 n3 : ℕ} (h : (⟨4, ![1, n1, n2, n3]⟩ : Shape).ReducesTo [0, 3] ⟨2, ![n1, n2]⟩) (a1 : Fin n1) (a2 : Fin n2)

theorem fiber_ends4 (i : (⟨4, ![1, n1, n2, n3]⟩ : Shape).Idx) :
    h.drop i = ix2 a1 a2 ↔ ∃ k : Fin n3, ix4 (0 : Fin 1) a1 a2 k = i := by
  constructor
  · intro e
    refine ⟨i 3, ?_⟩
    funext a
    match a with
    | ⟨0, _⟩ => exact (Subsingleton.elim (α := Fin 1) _ _)
    | ⟨1, _⟩ => exact (congrFun e 0).symm
    | ⟨2, _⟩ => exact (congrFun e 1).symm
    | ⟨3, _⟩ => rfl
  · rintro ⟨k, rfl⟩
    funext b
    match b with
    | ⟨0, _⟩ => rfl
    | ⟨1, _⟩ => rfl

/-- A sum along the last axis and a first axis of one entry, of four axes. -/
theorem reduceAdd_ends4 (v : (⟨4, ![1, n1, n2, n3]⟩ : Shape).Idx → EReal) (init : EReal) :
    Ideal.hostReduceAdd h v init (ix2 a1 a2) = init + ∑ k : Fin n3, v (ix4 (0 : Fin 1) a1 a2 k) :=
  congrArg (init + ·) (Finset.sum_filter_eq_sum_of_fiber _ (fun k : Fin n3 => ix4 (0 : Fin 1) a1 a2 k)
    (fun _ _ e => congrFun e 3) (fiber_ends4 h a1 a2) v)

end Ends4

end Cert.Proof.Val

end
-- ==== Proof.Val.MaskR.lean ====
/-
  The reference's mask is the band: the words.
-/
module

public import proofs.«01_k».proof.Proof.Val.Spec

@[expose] public section

set_option maxRecDepth 16384

noncomputable section

namespace Cert.Proof.Val

open Idealize.ShloMosaic

theorem band_words (n : Fin 2) (r : Fin 128) (c : Fin 256) :
    IntOp.andi
      (IntOp.andi
        (IntOp.cmpi CmpIPredicate.sge (IntOp.subi (IntOp.addi (128#32) (BitVec.ofNat 32 r.val)) (BitVec.ofNat 32 c.val)) 0#32)
        (IntOp.cmpi CmpIPredicate.sle (IntOp.subi (IntOp.addi (128#32) (BitVec.ofNat 32 r.val)) (BitVec.ofNat 32 c.val)) 128#32))
      (IntOp.ori (IntOp.cmpi CmpIPredicate.sgt (BitVec.ofNat 32 n.val) 0#32) (IntOp.cmpi CmpIPredicate.sge (BitVec.ofNat 32 c.val) 128#32))
      = band n r c := by
  revert c; revert r; revert n
  decide +kernel

end Cert.Proof.Val

end
-- ==== Proof.Val.Ref.lean ====
/-
  The reference's terms read element by element over the extended reals: the common functions of a block.
-/
module

public import proofs.«01_k».proof.Proof.Gen.ReferenceIdeal.Run
public import proofs.«01_k».proof.Proof.Val.Lay
public import proofs.«01_k».proof.Proof.Val.Red
public import proofs.«01_k».proof.Proof.Val.MaskR

@[expose] public section

set_option maxRecDepth 16384

noncomputable section

namespace Cert.Proof.Val

open Cert.ReferenceIdeal Cert.ReferenceIdeal.Gen Cert.ReferenceIdeal.Value
open Idealize.ShloMosaic Idealize.ShloMosaic.TcCoe Idealize.ShloMosaic.StableHlo

variable (V0 : Valuation Cert.ReferenceIdeal.τ Cert.ReferenceIdeal.sig (Elt Ideal))

/-- The five arguments. -/
abbrev aq : Vec Ideal ⟨2, ![4096, 512]⟩ .f32 := V0 (Proc.devRef .tc main_arg0)
abbrev ak : Vec Ideal ⟨2, ![4096, 512]⟩ .f32 := V0 (Proc.devRef .tc main_arg1)
abbrev av : Vec Ideal ⟨2, ![4096, 512]⟩ .f32 := V0 (Proc.devRef .tc main_arg2)
abbrev ao : Vec Ideal ⟨2, ![4096, 512]⟩ .f32 := V0 (Proc.devRef .tc main_arg3)
abbrev al : Vec Ideal ⟨2, ![4096, 512]⟩ .f32 := V0 (Proc.devRef .tc main_arg4)

section At

variable (g : Fin 16) (n : Fin 2) (h : Fin 4)

theorem v5_at (r d : Fin 128) : res_main_v5 V0 (ix6 0 g n r h d) = blk (aq V0) g n h r d := by
  pointwise [res_main_v5, blk, row, col]

theorem v8_at (r d : Fin 128) : res_main_v8 V0 (ix6 0 g n r h d) = blk (ak V0) g n h r d := by
  pointwise [res_main_v8, blk, row, col]

theorem v17_at (r d : Fin 128) : res_main_v17 V0 (ix6 0 g n r h d) = blk (av V0) g n h r d := by
  pointwise [res_main_v17, blk, row, col]

theorem v102_at (r d : Fin 128) : res_main_v102 V0 (ix6 0 g n r h d) = blk (ao V0) g n h r d := by
  pointwise [res_main_v102, blk, row, col]

/-- The block before the second is the first. -/
theorem before (A : Vec Ideal ⟨2, ![4096, 512]⟩ .f32) (r d : Fin 128) (hn : ¬ n.val < 1) (hlt : n.val - 1 < 2) :
    blk A g ⟨n.val - 1, hlt⟩ h r d = blk A g 0 h r d := by
  have e : (⟨n.val - 1, hlt⟩ : Fin 2) = 0 := Fin.ext (by simp only [Fin.val_zero]; omega)
  rw [e]

theorem v14_at (c : Fin 256) (d : Fin 128) : res_main_v14 V0 (ix6 0 g n c h d) = win (ak V0) g n h c d := by
  pointwise [res_main_v14, win, cat, v8_at]
  split
  · split
    · rfl
    · exact before g n h _ _ _ ‹_› _
  · rfl

theorem v23_at (c : Fin 256) (d : Fin 128) : res_main_v23 V0 (ix6 0 g n c h d) = win (av V0) g n h c d := by
  pointwise [res_main_v23, win, cat, v17_at]
  split
  · split
    · rfl
    · exact before g n h _ _ _ ‹_› _
  · rfl

theorem v56_1_at (r : Fin 128) (c : Fin 256) : res_main_v56_1 V0 (ix6 0 g n h r c) = band n r c := by
  pointwise [res_main_v56_1, res_main_v35, res_main_v30]
  exact band_words n r c

/-! ### The common functions -/

theorem v56_0_at (r : Fin 128) (c : Fin 256) :
    res_main_v56_0 V0 (ix6 0 g n h r c) = sc (band n) (blk (aq V0) g n h) (win (ak V0) g n h) r c := by
  unfold sc sig
  pointwise [res_main_v56_0, v56_1_at, v5_at, v14_at, id]
  rw [neg_inf]

theorem v57_at (r : Fin 128) : res_main_v57 V0 (ix5 0 g n h r) = mx (band n) (blk (aq V0) g n h) (win (ak V0) g n h) r := by
  unfold mx res_main_v57
  rw [reduceMax_last]
  pointwise [v56_0_at, neg_inf]

theorem v61_at (r : Fin 128) (c : Fin 256) :
    res_main_v61 V0 (ix6 0 g n h r c) = hit (band n) (blk (aq V0) g n h) (win (ak V0) g n h) r c := by
  unfold hit
  pointwise [res_main_v61, v57_at, v56_0_at]
  exact word_hit' _

theorem v66_at (r : Fin 128) (c : Fin 256) :
    res_main_v66 V0 (ix6 0 g n h r c) = ex (band n) (blk (aq V0) g n h) (win (ak V0) g n h) r c := by
  unfold ex
  pointwise [res_main_v66, res_main_v63, v57_at, v56_0_at]

theorem v67_at (r : Fin 128) : res_main_v67 V0 (ix5 0 g n h r) = den (band n) (blk (aq V0) g n h) (win (ak V0) g n h) r := by
  unfold den
  pointwise [res_main_v67, reduceAdd_last, v66_at]

theorem v69_at (r d : Fin 128) :
    res_main_v69 V0 (ix6 0 g n r h d) = num (band n) (blk (aq V0) g n h) (win (ak V0) g n h) (win (av V0) g n h) r d := by
  unfold num
  pointwise [res_main_v69, v66_at, v23_at]

theorem v71_at (r : Fin 128) : res_main_v71 V0 (ix6 0 g n r h 0) = den (band n) (blk (aq V0) g n h) (win (ak V0) g n h) r := by
  pointwise [res_main_v71, v67_at]

theorem v103_at (r : Fin 128) : res_main_v103 V0 (ix5 0 g n h r) = lsum g n h (al V0) r := by
  unfold lsum
  pointwise [res_main_v103, reduceAdd_ends4, blk, row, col]
  rw [Fin.sum_univ_one]

theorem v118_at (r d : Fin 128) :
    res_main_v118 V0 (ix6 0 g n h d r) = dn (band n) (blk (aq V0) g n h) (blk (ao V0) g n h) (win (ak V0) g n h) r d := by
  unfold dn
  pointwise [res_main_v118, v102_at, v71_at]

theorem v121_at (c : Fin 256) (d : Fin 128) :
    res_main_v121 V0 (ix6 0 g n c h d) = gv (band n) (blk (aq V0) g n h) (blk (ao V0) g n h) (win (ak V0) g n h) c d := by
  unfold gv
  pointwise [res_main_v121, v118_at, v66_at]

theorem v124_at (r : Fin 128) (c : Fin 256) :
    res_main_v124 V0 (ix6 0 g n h r c)
      = gex (band n) (blk (aq V0) g n h) (blk (ao V0) g n h) (win (ak V0) g n h) (win (av V0) g n h) (lsum g n h (al V0)) r c := by
  unfold gex gden
  pointwise [res_main_v124, v118_at, v66_at, v23_at, v103_at, v67_at, v71_at, v69_at, v102_at, reduceAdd_ends6, reduceAdd_last]
  rw [Fin.sum_univ_one]

theorem v137_at (r : Fin 128) (c : Fin 256) :
    res_main_v137 V0 (ix6 0 g n h r c)
      = gsc (band n) (blk (aq V0) g n h) (blk (ao V0) g n h) (win (ak V0) g n h) (win (av V0) g n h) (lsum g n h (al V0)) r c * sig := by
  unfold gsc sig
  pointwise [res_main_v137, v124_at, v56_1_at, v61_at, v103_at, reduceAdd_ends6, reduceAdd_last]
  rw [Fin.sum_univ_one]

theorem v139_at (c : Fin 256) (d : Fin 128) :
    res_main_v139 V0 (ix6 0 g n c h d)
      = gk (band n) (blk (aq V0) g n h) (blk (ao V0) g n h) (win (ak V0) g n h) (win (av V0) g n h) (lsum g n h (al V0)) c d := by
  unfold gk
  pointwise [res_main_v139, v137_at, v5_at]

end At

end Cert.Proof.Val

end
-- ==== Proof.Val.Res.lean ====
/-
  The reference's three results, element by element over the extended reals.
-/
module

public import proofs.«01_k».proof.Proof.Val.Ref

@[expose] public section

set_option maxRecDepth 16384

noncomputable section

namespace Cert.Proof.Val

open Cert.ReferenceIdeal Cert.ReferenceIdeal.Gen Cert.ReferenceIdeal.Value
open Idealize.ShloMosaic Idealize.ShloMosaic.TcCoe Idealize.ShloMosaic.StableHlo

/-- The product of the scores' gradients and the keys, laid out as the queries are. -/
def layQ (A : Vec Ideal S1x16x2x4x128x256 .f32) (B : Vec Ideal S1x16x2x256x4x128 .f32) : Vec Ideal S4096x512 .f32 :=
  shapeCast _ (shapeCast _ (transpose S1x256x16x4x128 [0, 2, 1, 3, 4] (shapeCast _ (transpose S1x16x2x128x4x128 [0, 1, 2, 4, 3, 5] (Host.dotGeneral (F := Ideal) (φ₁ := .f32) (φ₂ := .f32) dot_S1x16x2x4x128x256_S1x16x2x256x4x128_S1x16x2x4x128x128_5_3_4_5_0123_0124 none A B) transposes_S1x16x2x4x128x128_S1x16x2x128x4x128_0_1_2_4_3_5) shapeCasts_S1x16x2x128x4x128_S1x16x256x4x128) transposes_S1x16x256x4x128_S1x256x16x4x128_0_2_1_3_4) shapeCasts_S1x256x16x4x128_S1x4096x4x128) shapeCasts_S1x4096x4x128_S4096x512

/-- A block's second half plus the first half of the block after it, laid out as the keys are. -/
def layK (T : Vec Ideal S1x16x2x256x4x128 .f32) : Vec Ideal S4096x512 .f32 :=
  shapeCast _ (shapeCast _ (transpose S1x256x16x4x128 [0, 2, 1, 3, 4] (shapeCast _ (addf (F := Ideal) (extractStridedSlice S1x16x2x128x4x128 ![0, 0, 0, 128, 0, 0] T slices_S1x16x2x256x4x128_S1x16x2x128x4x128_0_0_0_128_0_0) (pad S1x16x2x128x4x128 ![0, 0, 0, 0, 0, 0] ![0, 0, 1, 0, 0, 0] ![0, 0, 0, 0, 0, 0] (extractStridedSlice S1x16x1x128x4x128 ![0, 0, 1, 0, 0, 0] (extractStridedSlice S1x16x2x128x4x128 ![0, 0, 0, 0, 0, 0] T slices_S1x16x2x256x4x128_S1x16x2x128x4x128_0_0_0_0_0_0) slices_S1x16x2x128x4x128_S1x16x1x128x4x128_0_0_1_0_0_0) (constant S_ .f32 0x00000000#32) pads_S1x16x1x128x4x128_S1x16x2x128x4x128_000_000_010_000_000_000 h_S_)) shapeCasts_S1x16x2x128x4x128_S1x16x256x4x128) transposes_S1x16x256x4x128_S1x256x16x4x128_0_2_1_3_4) shapeCasts_S1x256x16x4x128_S1x4096x4x128) shapeCasts_S1x4096x4x128_S4096x512

theorem layQ_at (A : Vec Ideal S1x16x2x4x128x256 .f32) (B : Vec Ideal S1x16x2x256x4x128 .f32)
    (a : Fin 16 → Fin 2 → Fin 4 → Fin 128 → Fin 256 → EReal) (b : Fin 16 → Fin 2 → Fin 4 → Fin 256 → Fin 128 → EReal)
    (hA : ∀ g n h r c, A (ix6 0 g n h r c) = a g n h r c) (hB : ∀ g n h c d, B (ix6 0 g n c h d) = b g n h c d)
    (y : (⟨2, ![4096, 512]⟩ : Shape).Idx) :
    layQ A B y = ∑ c, a (rg y) (rn y) (rh y) (rr y) c * b (rg y) (rn y) (rh y) c (rd y) := by
  idx_vars y
  pointwise [layQ, hA, hB, rg, rn, rr, rh, rd]

theorem layK_at (T : Vec Ideal S1x16x2x256x4x128 .f32) (t : Fin 16 → Fin 2 → Fin 4 → Fin 256 → Fin 128 → EReal)
    (hT : ∀ g n h c d, T (ix6 0 g n c h d) = t g n h c d) (y : (⟨2, ![4096, 512]⟩ : Shape).Idx) :
    layK T y = t (rg y) (rn y) (rh y) ⟨128 + (rr y).val, by omega⟩ (rd y)
      + if (rn y).val < 1 then t (rg y) 1 (rh y) ⟨(rr y).val, by omega⟩ (rd y) else 0 := by
  idx_vars y
  pointwise [layK, hT, rg, rn, rr, rh, rd]
  refine congrArg₂ (· + ·) rfl ?_
  have e : ∀ k : Fin 2, k.val = 1 → ∀ g h c d, t g k h c d = t g 1 h c d := fun k hk g h c d => by rw [show k = 1 from Fin.ext hk]
  split_ifs with h1 h2 h2
  · refine e _ ?_ _ _ _ _
    have := h1.2.1
    show 1 + _ = 1
    omega
  · exact absurd h1.2.1 h2
  · refine absurd ⟨?_, h2, ?_, ?_, ?_⟩ h1
    · exact Nat.mod_lt _ (by decide)
    · exact Nat.mod_lt _ (by decide)
    · omega
    · exact Nat.mod_lt _ (by decide)
  · rfl

variable (V0 : Valuation Cert.ReferenceIdeal.τ Cert.ReferenceIdeal.sig (Elt Ideal)) (y : (⟨2, ![4096, 512]⟩ : Shape).Idx)

theorem refQ_at : layQ (res_main_v137 V0) (res_main_v14 V0) y
      = specQ (aq V0) (ak V0) (av V0) (ao V0) (al V0) (rg y) (rn y) (rh y) (rr y) (rd y) := by
  rw [layQ_at _ _ (fun g n h r c => gsc (band n) (blk (aq V0) g n h) (blk (ao V0) g n h) (win (ak V0) g n h) (win (av V0) g n h) (lsum g n h (al V0)) r c * sig)
    (fun g n h c d => win (ak V0) g n h c d) (fun g n h r c => v137_at V0 g n h r c) (fun g n h c d => v14_at V0 g n h c d) y]
  rfl

theorem refK_at : layK (res_main_v139 V0) y
      = specK (aq V0) (ak V0) (av V0) (ao V0) (al V0) (rg y) (rn y) (rh y) ⟨128 + (rr y).val, by omega⟩ (rd y)
        + if (rn y).val < 1 then specK (aq V0) (ak V0) (av V0) (ao V0) (al V0) (rg y) 1 (rh y) ⟨(rr y).val, by omega⟩ (rd y) else 0 :=
  layK_at _ (specK (aq V0) (ak V0) (av V0) (ao V0) (al V0)) (fun g n h c d => v139_at V0 g n h c d) y

theorem refV_at : layK (res_main_v121 V0) y
      = specV (aq V0) (ak V0) (ao V0) (rg y) (rn y) (rh y) ⟨128 + (rr y).val, by omega⟩ (rd y)
        + if (rn y).val < 1 then specV (aq V0) (ak V0) (ao V0) (rg y) 1 (rh y) ⟨(rr y).val, by omega⟩ (rd y) else 0 :=
  layK_at _ (specV (aq V0) (ak V0) (ao V0)) (fun g n h c d => v121_at V0 g n h c d) y

end Cert.Proof.Val

end
-- ==== Proof.Val.Claim.lean ====
/-
  The kernel's results are the reference's, over the extended reals, and the reference's frame.
-/
module

public import proofs.«01_k».proof.Proof.Val.Arr
public import proofs.«01_k».proof.Proof.Val.Res
public import Idealize.ShloMosaic.Lib.Quiescent
public import Idealize.ShloMosaic.Lib.Claim

@[expose] public section

set_option maxRecDepth 16384

noncomputable section

namespace Cert.Proof.Val

open Idealize.ShloMosaic Idealize.ShloMosaic.TcCoe Idealize.ShloMosaic.StableHlo
open Idealize.SL.Sem

section Reference

open Cert.ReferenceIdeal Cert.ReferenceIdeal.Gen Cert.ReferenceIdeal.Value

variable (m : (ℓ : Loc Cert.ReferenceIdeal.nD Cert.ReferenceIdeal.τ Cert.ReferenceIdeal.sig) → Buf (Elt Ideal) ℓ)
  (ρ : Dev Cert.ReferenceIdeal.nD → PrngReg)

/-- The reference's frame: its arguments end as they were; it has no semaphore. -/
theorem ref_frame : θ_run (defs (F := Ideal)) (onTc (τ := Cert.ReferenceIdeal.τ) (main (F := Ideal))) ⟨m, fun _ => 0, ρ⟩ (fun r =>
    (∀ c : Dev Cert.ReferenceIdeal.nD,
      r.2.mem ((c.tc : Thread Cert.ReferenceIdeal.nD Cert.ReferenceIdeal.τ).loc main_arg0) = m ((c.tc : Thread Cert.ReferenceIdeal.nD Cert.ReferenceIdeal.τ).loc main_arg0)
      ∧ r.2.mem ((c.tc : Thread Cert.ReferenceIdeal.nD Cert.ReferenceIdeal.τ).loc main_arg1) = m ((c.tc : Thread Cert.ReferenceIdeal.nD Cert.ReferenceIdeal.τ).loc main_arg1)
      ∧ r.2.mem ((c.tc : Thread Cert.ReferenceIdeal.nD Cert.ReferenceIdeal.τ).loc main_arg2) = m ((c.tc : Thread Cert.ReferenceIdeal.nD Cert.ReferenceIdeal.τ).loc main_arg2)
      ∧ r.2.mem ((c.tc : Thread Cert.ReferenceIdeal.nD Cert.ReferenceIdeal.τ).loc main_arg3) = m ((c.tc : Thread Cert.ReferenceIdeal.nD Cert.ReferenceIdeal.τ).loc main_arg3)
      ∧ r.2.mem ((c.tc : Thread Cert.ReferenceIdeal.nD Cert.ReferenceIdeal.τ).loc main_arg4) = m ((c.tc : Thread Cert.ReferenceIdeal.nD Cert.ReferenceIdeal.τ).loc main_arg4))
    ∧ r.2.sem = fun _ => 0) :=
  (θ_run defs _ _).mono (fun r h => ⟨fun c => (h c).2.2.2, sem_eq_zero_of_no_sems (by decide) _⟩) (run m ρ)

/-- The reference's results as one function of its arguments. -/
theorem res_q (V0 : Valuation Cert.ReferenceIdeal.τ Cert.ReferenceIdeal.sig (Elt Ideal)) :
    layQ (res_main_v137 V0) (res_main_v14 V0) = arrQ (aq V0) (ak V0) (av V0) (ao V0) (al V0) := funext fun y => refQ_at V0 y
theorem res_k (V0 : Valuation Cert.ReferenceIdeal.τ Cert.ReferenceIdeal.sig (Elt Ideal)) :
    layK (res_main_v139 V0) = arrK (aq V0) (ak V0) (av V0) (ao V0) (al V0) := funext fun y => refK_at V0 y
theorem res_v (V0 : Valuation Cert.ReferenceIdeal.τ Cert.ReferenceIdeal.sig (Elt Ideal)) :
    layK (res_main_v121 V0) = arrV (aq V0) (ak V0) (ao V0) := funext fun y => refV_at V0 y

/-- The arguments as the reference is launched with them. -/
abbrev mq (c : Dev Cert.ReferenceIdeal.nD) : Vec Ideal ⟨2, ![4096, 512]⟩ .f32 := m ((c.tc : Thread Cert.ReferenceIdeal.nD Cert.ReferenceIdeal.τ).loc main_arg0)
abbrev mk (c : Dev Cert.ReferenceIdeal.nD) : Vec Ideal ⟨2, ![4096, 512]⟩ .f32 := m ((c.tc : Thread Cert.ReferenceIdeal.nD Cert.ReferenceIdeal.τ).loc main_arg1)
abbrev mv (c : Dev Cert.ReferenceIdeal.nD) : Vec Ideal ⟨2, ![4096, 512]⟩ .f32 := m ((c.tc : Thread Cert.ReferenceIdeal.nD Cert.ReferenceIdeal.τ).loc main_arg2)
abbrev mo (c : Dev Cert.ReferenceIdeal.nD) : Vec Ideal ⟨2, ![4096, 512]⟩ .f32 := m ((c.tc : Thread Cert.ReferenceIdeal.nD Cert.ReferenceIdeal.τ).loc main_arg3)
abbrev ml (c : Dev Cert.ReferenceIdeal.nD) : Vec Ideal ⟨2, ![4096, 512]⟩ .f32 := m ((c.tc : Thread Cert.ReferenceIdeal.nD Cert.ReferenceIdeal.τ).loc main_arg4)

theorem args_at (c : Dev Cert.ReferenceIdeal.nD) : aq (launchContents m c) = mq m c ∧ ak (launchContents m c) = mk m c ∧ av (launchContents m c) = mv m c
    ∧ ao (launchContents m c) = mo m c ∧ al (launchContents m c) = ml m c :=
  ⟨launchContents_devRef m c main_arg0, launchContents_devRef m c main_arg1, launchContents_devRef m c main_arg2,
    launchContents_devRef m c main_arg3, launchContents_devRef m c main_arg4⟩

/-- The reference's run, its results as the three arrays. -/
theorem ref_run : θ_run (defs (F := Ideal)) (onTc (τ := Cert.ReferenceIdeal.τ) (main (F := Ideal))) ⟨m, fun _ => 0, ρ⟩ (fun r =>
    ∀ c : Dev Cert.ReferenceIdeal.nD,
      r.2.mem ((c.tc : Thread Cert.ReferenceIdeal.nD Cert.ReferenceIdeal.τ).loc main_v165) = arrQ (mq m c) (mk m c) (mv m c) (mo m c) (ml m c)
      ∧ r.2.mem ((c.tc : Thread Cert.ReferenceIdeal.nD Cert.ReferenceIdeal.τ).loc main_v164) = arrK (mq m c) (mk m c) (mv m c) (mo m c) (ml m c)
      ∧ r.2.mem ((c.tc : Thread Cert.ReferenceIdeal.nD Cert.ReferenceIdeal.τ).loc main_v163) = arrV (mq m c) (mk m c) (mo m c)
      ∧ r.2.mem ((c.tc : Thread Cert.ReferenceIdeal.nD Cert.ReferenceIdeal.τ).loc main_arg0) = m ((c.tc : Thread Cert.ReferenceIdeal.nD Cert.ReferenceIdeal.τ).loc main_arg0)
      ∧ r.2.mem ((c.tc : Thread Cert.ReferenceIdeal.nD Cert.ReferenceIdeal.τ).loc main_arg1) = m ((c.tc : Thread Cert.ReferenceIdeal.nD Cert.ReferenceIdeal.τ).loc main_arg1)
      ∧ r.2.mem ((c.tc : Thread Cert.ReferenceIdeal.nD Cert.ReferenceIdeal.τ).loc main_arg2) = m ((c.tc : Thread Cert.ReferenceIdeal.nD Cert.ReferenceIdeal.τ).loc main_arg2)
      ∧ r.2.mem ((c.tc : Thread Cert.ReferenceIdeal.nD Cert.ReferenceIdeal.τ).loc main_arg3) = m ((c.tc : Thread Cert.ReferenceIdeal.nD Cert.ReferenceIdeal.τ).loc main_arg3)
      ∧ r.2.mem ((c.tc : Thread Cert.ReferenceIdeal.nD Cert.ReferenceIdeal.τ).loc main_arg4) = m ((c.tc : Thread Cert.ReferenceIdeal.nD Cert.ReferenceIdeal.τ).loc main_arg4)) := by
  refine (θ_run defs _ _).mono (fun r h c => ?_) (run m ρ)
  obtain ⟨h0, h1, h2, h3⟩ := h c
  obtain ⟨e0, e1, e2, e3, e4⟩ := args_at m c
  refine ⟨?_, ?_, ?_, h3⟩
  · have e := res_q (launchContents m c)
    rw [e0, e1, e2, e3, e4] at e
    exact Eq.trans h0 e
  · have e := res_k (launchContents m c)
    rw [e0, e1, e2, e3, e4] at e
    exact Eq.trans h1 e
  · have e := res_v (launchContents m c)
    rw [e0, e1, e3] at e
    exact Eq.trans h2 e

end Reference

section Kernel

open Cert.KernelIdeal Cert.KernelIdeal.Gen Cert.Proof.PI

variable (m : (ℓ : Loc Cert.KernelIdeal.nD Cert.KernelIdeal.τ Cert.KernelIdeal.sig) → Buf (Elt Ideal) ℓ)
  (ρ : Dev Cert.KernelIdeal.nD → PrngReg)

/-- The kernel's run, its results as the three arrays. -/
theorem ker_run : θ_run (defs (F := Ideal)) (onTc (τ := Cert.KernelIdeal.τ) (main (F := Ideal))) ⟨m, fun _ => 0, ρ⟩ (fun r =>
    ∀ c : Dev Cert.KernelIdeal.nD,
      r.2.mem ((c.tc : Thread Cert.KernelIdeal.nD Cert.KernelIdeal.τ).loc main_v0_0) = arrQ (kq m c) (kk m c) (kv m c) (ko m c) (kl m c)
      ∧ r.2.mem ((c.tc : Thread Cert.KernelIdeal.nD Cert.KernelIdeal.τ).loc main_v0_1) = arrK (kq m c) (kk m c) (kv m c) (ko m c) (kl m c)
      ∧ r.2.mem ((c.tc : Thread Cert.KernelIdeal.nD Cert.KernelIdeal.τ).loc main_v0_2) = arrV (kq m c) (kk m c) (ko m c)
      ∧ r.2.mem ((c.tc : Thread Cert.KernelIdeal.nD Cert.KernelIdeal.τ).loc main_arg0) = m ((c.tc : Thread Cert.KernelIdeal.nD Cert.KernelIdeal.τ).loc main_arg0)
      ∧ r.2.mem ((c.tc : Thread Cert.KernelIdeal.nD Cert.KernelIdeal.τ).loc main_arg1) = m ((c.tc : Thread Cert.KernelIdeal.nD Cert.KernelIdeal.τ).loc main_arg1)
      ∧ r.2.mem ((c.tc : Thread Cert.KernelIdeal.nD Cert.KernelIdeal.τ).loc main_arg2) = m ((c.tc : Thread Cert.KernelIdeal.nD Cert.KernelIdeal.τ).loc main_arg2)
      ∧ r.2.mem ((c.tc : Thread Cert.KernelIdeal.nD Cert.KernelIdeal.τ).loc main_arg3) = m ((c.tc : Thread Cert.KernelIdeal.nD Cert.KernelIdeal.τ).loc main_arg3)
      ∧ r.2.mem ((c.tc : Thread Cert.KernelIdeal.nD Cert.KernelIdeal.τ).loc main_arg4) = m ((c.tc : Thread Cert.KernelIdeal.nD Cert.KernelIdeal.τ).loc main_arg4)) :=
  (θ_run defs _ _).mono (fun r h c => ⟨((h.1 c).1 7).trans (final7 m c), ((h.1 c).1 8).trans (final8 m c), ((h.1 c).1 9).trans (final9 m c), h.2 c⟩)
    (θ_run_and (run_post m ρ) (frame_of m ρ (dats m) (A_eq m) (run_post m ρ)))

end Kernel

/-- The kernel's three results are the reference's three. -/
theorem algebraic (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (e0 : ∀ c, mq m' c = kq m c) (e1 : ∀ c, mk m' c = kk m c) (e2 : ∀ c, mv m' c = kv m c) (e3 : ∀ c, mo m' c = ko m c) (e4 : ∀ c, ml m' c = kl m c) (c) :
    arrQ (mq m' c) (mk m' c) (mv m' c) (mo m' c) (ml m' c) = arrQ (kq m c) (kk m c) (kv m c) (ko m c) (kl m c)
    ∧ arrK (mq m' c) (mk m' c) (mv m' c) (mo m' c) (ml m' c) = arrK (kq m c) (kk m c) (kv m c) (ko m c) (kl m c)
    ∧ arrV (mq m' c) (mk m' c) (mo m' c) = arrV (kq m c) (kk m c) (ko m c) := by
  rw [e0, e1, e2, e3, e4]; exact ⟨rfl, rfl, rfl⟩

end Cert.Proof.Val

end
-- ==== Proof.Ip.Dh.lean ====
/-
  The gradient of the normalised activations: the kernel's four calls add the ten segments' products one group after the
  other, the reference adds the ten products in its own order.
-/
module

public import proofs.«01_k».proof.Defs
public import proofs.«01_k».proof.Proof.Gen.DhKernelIdeal.Frame
public import proofs.«01_k».proof.Proof.Gen.DhReferenceIdeal.Run
public import Idealize.ShloMosaic.Lib.Pointwise
public import Idealize.ShloMosaic.Lib.Pipeline.ValueKit.Geometry
public import Idealize.ShloMosaic.Lib.Pipeline.Value
public import Idealize.ShloMosaic.Lib.Tactic
public import Idealize.ShloMosaic.Lib.Quiescent

@[expose] public section

set_option maxRecDepth 16384

noncomputable section

namespace Cert.DhKernelIdeal.Own

open Cert.DhKernelIdeal Cert.DhKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem hz : (![0, 0] : Fin 2 → Nat) = fun _ => 0 := funext fun a => by fin_cases a <;> rfl

/-- A product of two arrays over their second axes, at an index of the result. -/
def nt {p q n : ℕ} (A : Vec Ideal ⟨2, ![p, n]⟩ .bf16) (B : Vec Ideal ⟨2, ![q, n]⟩ .bf16) (a : Fin p) (b : Fin q) : EReal :=
  ∑ k : Fin n, A (ix2 a k) * B (ix2 b k)

/-! ### What each call's body leaves -/

theorem body0 (x0 : Vec Ideal S512x384 .bf16) (x1 : Vec Ideal S512x256 .bf16) (x2 : Vec Ideal S512x128 .bf16) (x3 : Vec Ideal S512x512 .bf16) (x4 : Vec Ideal S512x128 .bf16) (x5 : Vec Ideal S512x512 .bf16) (x6 : Vec Ideal S512x512 .bf16) (x7 : Vec Ideal S1024x384 .bf16) (x8 : Vec Ideal S1024x256 .bf16) (x9 : Vec Ideal S1024x128 .bf16) (x10 : Vec Ideal S1024x512 .bf16) (x11 : Vec Ideal S1024x128 .bf16) (x12 : Vec Ideal S1024x512 .bf16) (x13 : Vec Ideal S1024x512 .bf16)
    (a : Fin 512) (b : Fin 1024) :
    out0_14 x0 x1 x2 x3 x4 x5 x6 x7 x8 x9 x10 x11 x12 x13 (ix2 a b)
      = nt x0 x7 a b + nt x1 x8 a b + nt x2 x9 a b + nt x3 x10 a b + nt x4 x11 a b + nt x5 x12 a b + nt x6 x13 a b := by
  unfold out0_14
  rw [View.canon_unit_zero hz]
  simp only [View.ld_unit_zero (S := S512x128) hz, View.ld_unit_zero (S := S1024x128) hz,
    View.ld_unit_zero (S := S512x256) hz, View.ld_unit_zero (S := S1024x256) hz,
    View.ld_unit_zero (S := S512x384) hz, View.ld_unit_zero (S := S1024x384) hz,
    View.ld_unit_zero (S := S512x512) hz, View.ld_unit_zero (S := S1024x512) hz]
  pointwise [k0_pay1, k0_pay2, nt]

theorem body1 (x0 : Vec Ideal S512x1536 .bf16) (x1 : Vec Ideal S1024x1536 .bf16) (x2 : Vec Ideal S512x1024 .f32) (a : Fin 512) (b : Fin 1024) :
    out1_3 x0 x1 x2 (ix2 a b) = (x2 (ix2 a b) + nt x0 x1 a b : EReal) := by
  unfold out1_3
  rw [View.canon_unit_zero hz]
  simp only [View.ld_unit_zero (S := S512x1536) hz, View.ld_unit_zero (S := S1024x1536) hz, View.ld_unit_zero (S := S512x1024) hz]
  pointwise [k1_pay1, nt]

theorem body2 (x0 : Vec Ideal S512x3072 .bf16) (x1 : Vec Ideal S1024x3072 .bf16) (x2 : Vec Ideal S512x1024 .f32) (a : Fin 512) (b : Fin 1024) :
    out2_3 x0 x1 x2 (ix2 a b) = (x2 (ix2 a b) + nt x0 x1 a b : EReal) := by
  unfold out2_3
  rw [View.canon_unit_zero hz]
  simp only [View.ld_unit_zero (S := S512x3072) hz, View.ld_unit_zero (S := S1024x3072) hz, View.ld_unit_zero (S := S512x1024) hz]
  pointwise [k2_pay1, nt]

theorem body3 (x0 : Vec Ideal S512x4608 .bf16) (x1 : Vec Ideal S1024x4608 .bf16) (x2 : Vec Ideal S512x1024 .f32) (a : Fin 512) (b : Fin 1024) :
    out3_3 x0 x1 x2 (ix2 a b) = (x2 (ix2 a b) + nt x0 x1 a b : EReal) := by
  unfold out3_3
  rw [View.canon_unit_zero hz]
  simp only [View.ld_unit_zero (S := S512x4608) hz, View.ld_unit_zero (S := S1024x4608) hz, View.ld_unit_zero (S := S512x1024) hz]
  pointwise [k3_pay1, nt]

/-! ### What each call leaves in its result -/

section Calls

variable (V : (c : Dev nD) → (b : Ref sig .tc) → Buf (Elt Ideal) ((c : Thread nD τ).loc b)) (c : Dev nD)

theorem lt0 (t : Fin cfg0.N) : t.val < 8 := Nat.lt_of_lt_of_eq t.isLt N_0

theorem lt1 (t : Fin cfg1.N) : t.val < 8 := Nat.lt_of_lt_of_eq t.isLt N_1

theorem lt2 (t : Fin cfg2.N) : t.val < 8 := Nat.lt_of_lt_of_eq t.isLt N_2

theorem lt3 (t : Fin cfg3.N) : t.val < 8 := Nat.lt_of_lt_of_eq t.isLt N_3

theorem blk0_0 (t : Fin cfg0.N) (a : Fin 512) (b : Fin 384) :
    iblk0 V c 0 t (ix2 a b) = (V c main_arg1 : Vec Ideal S4096x384 .bf16) (ix2 (⟨t.val * 512 + a.val, by have := lt0 t; omega⟩ : Fin 4096) b) := by
  have e : win0_0.index t = ![t.val, 0] := (by decide +kernel : ∀ t : Fin grid0.N, win0_0.index t = ![t.val, 0]) t
  blk_simp [iblk0]
  refine congrArg (V c main_arg1) ?_
  blk_ext [e]

theorem blk0_1 (t : Fin cfg0.N) (a : Fin 512) (b : Fin 256) :
    iblk0 V c 1 t (ix2 a b) = (V c main_arg2 : Vec Ideal S4096x256 .bf16) (ix2 (⟨t.val * 512 + a.val, by have := lt0 t; omega⟩ : Fin 4096) b) := by
  have e : win0_1.index t = ![t.val, 0] := (by decide +kernel : ∀ t : Fin grid0.N, win0_1.index t = ![t.val, 0]) t
  blk_simp [iblk0]
  refine congrArg (V c main_arg2) ?_
  blk_ext [e]

theorem blk0_2 (t : Fin cfg0.N) (a : Fin 512) (b : Fin 128) :
    iblk0 V c 2 t (ix2 a b) = (V c main_arg3 : Vec Ideal S4096x128 .bf16) (ix2 (⟨t.val * 512 + a.val, by have := lt0 t; omega⟩ : Fin 4096) b) := by
  have e : win0_2.index t = ![t.val, 0] := (by decide +kernel : ∀ t : Fin grid0.N, win0_2.index t = ![t.val, 0]) t
  blk_simp [iblk0]
  refine congrArg (V c main_arg3) ?_
  blk_ext [e]

theorem blk0_3 (t : Fin cfg0.N) (a : Fin 512) (b : Fin 512) :
    iblk0 V c 3 t (ix2 a b) = (V c main_arg4 : Vec Ideal S4096x512 .bf16) (ix2 (⟨t.val * 512 + a.val, by have := lt0 t; omega⟩ : Fin 4096) b) := by
  have e : win0_3.index t = ![t.val, 0] := (by decide +kernel : ∀ t : Fin grid0.N, win0_3.index t = ![t.val, 0]) t
  blk_simp [iblk0]
  refine congrArg (V c main_arg4) ?_
  blk_ext [e]

theorem blk0_4 (t : Fin cfg0.N) (a : Fin 512) (b : Fin 128) :
    iblk0 V c 4 t (ix2 a b) = (V c main_arg6 : Vec Ideal S4096x128 .bf16) (ix2 (⟨t.val * 512 + a.val, by have := lt0 t; omega⟩ : Fin 4096) b) := by
  have e : win0_4.index t = ![t.val, 0] := (by decide +kernel : ∀ t : Fin grid0.N, win0_4.index t = ![t.val, 0]) t
  blk_simp [iblk0]
  refine congrArg (V c main_arg6) ?_
  blk_ext [e]

theorem blk0_5 (t : Fin cfg0.N) (a : Fin 512) (b : Fin 512) :
    iblk0 V c 5 t (ix2 a b) = (V c main_arg7 : Vec Ideal S4096x512 .bf16) (ix2 (⟨t.val * 512 + a.val, by have := lt0 t; omega⟩ : Fin 4096) b) := by
  have e : win0_5.index t = ![t.val, 0] := (by decide +kernel : ∀ t : Fin grid0.N, win0_5.index t = ![t.val, 0]) t
  blk_simp [iblk0]
  refine congrArg (V c main_arg7) ?_
  blk_ext [e]

theorem blk0_6 (t : Fin cfg0.N) (a : Fin 512) (b : Fin 512) :
    iblk0 V c 6 t (ix2 a b) = (V c main_arg9 : Vec Ideal S4096x512 .bf16) (ix2 (⟨t.val * 512 + a.val, by have := lt0 t; omega⟩ : Fin 4096) b) := by
  have e : win0_6.index t = ![t.val, 0] := (by decide +kernel : ∀ t : Fin grid0.N, win0_6.index t = ![t.val, 0]) t
  blk_simp [iblk0]
  refine congrArg (V c main_arg9) ?_
  blk_ext [e]

theorem blk0_7 (t : Fin cfg0.N) (a : Fin 1024) (b : Fin 384) :
    iblk0 V c 7 t (ix2 a b) = (V c main_arg11 : Vec Ideal S1024x384 .bf16) (ix2 (a : Fin 1024) b) := by
  have e : win0_7.index t = ![0, 0] := (by decide +kernel : ∀ t : Fin grid0.N, win0_7.index t = ![0, 0]) t
  blk_simp [iblk0]
  refine congrArg (V c main_arg11) ?_
  blk_ext [e]

theorem blk0_8 (t : Fin cfg0.N) (a : Fin 1024) (b : Fin 256) :
    iblk0 V c 8 t (ix2 a b) = (V c main_arg12 : Vec Ideal S1024x256 .bf16) (ix2 (a : Fin 1024) b) := by
  have e : win0_8.index t = ![0, 0] := (by decide +kernel : ∀ t : Fin grid0.N, win0_8.index t = ![0, 0]) t
  blk_simp [iblk0]
  refine congrArg (V c main_arg12) ?_
  blk_ext [e]

theorem blk0_9 (t : Fin cfg0.N) (a : Fin 1024) (b : Fin 128) :
    iblk0 V c 9 t (ix2 a b) = (V c main_arg13 : Vec Ideal S1024x128 .bf16) (ix2 (a : Fin 1024) b) := by
  have e : win0_9.index t = ![0, 0] := (by decide +kernel : ∀ t : Fin grid0.N, win0_9.index t = ![0, 0]) t
  blk_simp [iblk0]
  refine congrArg (V c main_arg13) ?_
  blk_ext [e]

theorem blk0_10 (t : Fin cfg0.N) (a : Fin 1024) (b : Fin 512) :
    iblk0 V c 10 t (ix2 a b) = (V c main_arg14 : Vec Ideal S1024x512 .bf16) (ix2 (a : Fin 1024) b) := by
  have e : win0_10.index t = ![0, 0] := (by decide +kernel : ∀ t : Fin grid0.N, win0_10.index t = ![0, 0]) t
  blk_simp [iblk0]
  refine congrArg (V c main_arg14) ?_
  blk_ext [e]

theorem blk0_11 (t : Fin cfg0.N) (a : Fin 1024) (b : Fin 128) :
    iblk0 V c 11 t (ix2 a b) = (V c main_arg16 : Vec Ideal S1024x128 .bf16) (ix2 (a : Fin 1024) b) := by
  have e : win0_11.index t = ![0, 0] := (by decide +kernel : ∀ t : Fin grid0.N, win0_11.index t = ![0, 0]) t
  blk_simp [iblk0]
  refine congrArg (V c main_arg16) ?_
  blk_ext [e]

theorem blk0_12 (t : Fin cfg0.N) (a : Fin 1024) (b : Fin 512) :
    iblk0 V c 12 t (ix2 a b) = (V c main_arg17 : Vec Ideal S1024x512 .bf16) (ix2 (a : Fin 1024) b) := by
  have e : win0_12.index t = ![0, 0] := (by decide +kernel : ∀ t : Fin grid0.N, win0_12.index t = ![0, 0]) t
  blk_simp [iblk0]
  refine congrArg (V c main_arg17) ?_
  blk_ext [e]

theorem blk0_13 (t : Fin cfg0.N) (a : Fin 1024) (b : Fin 512) :
    iblk0 V c 13 t (ix2 a b) = (V c main_arg19 : Vec Ideal S1024x512 .bf16) (ix2 (a : Fin 1024) b) := by
  have e : win0_13.index t = ![0, 0] := (by decide +kernel : ∀ t : Fin grid0.N, win0_13.index t = ![0, 0]) t
  blk_simp [iblk0]
  refine congrArg (V c main_arg19) ?_
  blk_ext [e]

/-- The first call's result: seven products. -/
def res0 : Vec Ideal S4096x1024 .f32 := fun i =>
  (
    nt (V c main_arg1 : Vec Ideal S4096x384 .bf16) (V c main_arg11 : Vec Ideal S1024x384 .bf16) (i 0) (i 1) +
    nt (V c main_arg2 : Vec Ideal S4096x256 .bf16) (V c main_arg12 : Vec Ideal S1024x256 .bf16) (i 0) (i 1) +
    nt (V c main_arg3 : Vec Ideal S4096x128 .bf16) (V c main_arg13 : Vec Ideal S1024x128 .bf16) (i 0) (i 1) +
    nt (V c main_arg4 : Vec Ideal S4096x512 .bf16) (V c main_arg14 : Vec Ideal S1024x512 .bf16) (i 0) (i 1) +
    nt (V c main_arg6 : Vec Ideal S4096x128 .bf16) (V c main_arg16 : Vec Ideal S1024x128 .bf16) (i 0) (i 1) +
    nt (V c main_arg7 : Vec Ideal S4096x512 .bf16) (V c main_arg17 : Vec Ideal S1024x512 .bf16) (i 0) (i 1) +
    nt (V c main_arg9 : Vec Ideal S4096x512 .bf16) (V c main_arg19 : Vec Ideal S1024x512 .bf16) (i 0) (i 1) : EReal)

theorem call0 : (dat0 V c).arrAt 14 cfg0.N = res0 V c := by
  refine (dat0 V c).arrAt_eq_of_covers 14 _ (by decide +kernel) fun t hf y => ?_
  have e : win0_14.index t = ![t.val, 0] := (by decide +kernel : ∀ t : Fin grid0.N, win0_14.index t = ![t.val, 0]) t
  blk_simp
  obtain ⟨a, b, rfl⟩ : ∃ a b, y = ix2 a b := ⟨y 0, y 1, by idx_vars y⟩
  rw [after0_14, body0]
  refine Eq.trans ?_ (congrArg (res0 V c) (?_ : (ix2 (⟨t.val * 512 + a.val, by have := lt0 t; omega⟩ : Fin 4096) (b : Fin 1024) : S4096x1024.Idx) = _))
  · unfold res0 nt
    simp only [blk0_0, blk0_1, blk0_2, blk0_3, blk0_4, blk0_5, blk0_6, blk0_7, blk0_8, blk0_9, blk0_10, blk0_11, blk0_12, blk0_13]
    rfl
  · blk_ext [e]

theorem blk1_0 (t : Fin cfg1.N) (a : Fin 512) (b : Fin 1536) :
    iblk1 V c 0 t (ix2 a b) = (V c main_arg5 : Vec Ideal S4096x1536 .bf16) (ix2 (⟨t.val * 512 + a.val, by have := lt1 t; omega⟩ : Fin 4096) b) := by
  have e : win1_0.index t = ![t.val, 0] := (by decide +kernel : ∀ t : Fin grid1.N, win1_0.index t = ![t.val, 0]) t
  blk_simp [iblk1]
  refine congrArg (V c main_arg5) ?_
  blk_ext [e]

theorem blk1_1 (t : Fin cfg1.N) (a : Fin 1024) (b : Fin 1536) :
    iblk1 V c 1 t (ix2 a b) = (V c main_arg15 : Vec Ideal S1024x1536 .bf16) (ix2 (a : Fin 1024) b) := by
  have e : win1_1.index t = ![0, 0] := (by decide +kernel : ∀ t : Fin grid1.N, win1_1.index t = ![0, 0]) t
  blk_simp [iblk1]
  refine congrArg (V c main_arg15) ?_
  blk_ext [e]

theorem blk1_2 (t : Fin cfg1.N) (a : Fin 512) (b : Fin 1024) :
    iblk1 V c 2 t (ix2 a b) = (V c main_v0 : Vec Ideal S4096x1024 .f32) (ix2 (⟨t.val * 512 + a.val, by have := lt1 t; omega⟩ : Fin 4096) b) := by
  have e : win1_2.index t = ![t.val, 0] := (by decide +kernel : ∀ t : Fin grid1.N, win1_2.index t = ![t.val, 0]) t
  blk_simp [iblk1]
  refine congrArg (V c main_v0) ?_
  blk_ext [e]

/-- Call 1's result: a product added to the result before. -/
def res1 : Vec Ideal S4096x1024 .f32 := fun i =>
  @HAdd.hAdd EReal EReal EReal _ ((V c main_v0 : Vec Ideal S4096x1024 .f32) i) (nt (V c main_arg5 : Vec Ideal S4096x1536 .bf16) (V c main_arg15 : Vec Ideal S1024x1536 .bf16) (i 0) (i 1))

theorem call1 : (dat1 V c).arrAt 3 cfg1.N = res1 V c := by
  refine (dat1 V c).arrAt_eq_of_covers 3 _ (by decide +kernel) fun t hf y => ?_
  have e : win1_3.index t = ![t.val, 0] := (by decide +kernel : ∀ t : Fin grid1.N, win1_3.index t = ![t.val, 0]) t
  blk_simp
  obtain ⟨a, b, rfl⟩ : ∃ a b, y = ix2 a b := ⟨y 0, y 1, by idx_vars y⟩
  rw [after1_3, body1]
  refine Eq.trans ?_ (congrArg (res1 V c) (?_ : (ix2 (⟨t.val * 512 + a.val, by have := lt1 t; omega⟩ : Fin 4096) (b : Fin 1024) : S4096x1024.Idx) = _))
  · unfold res1 nt
    simp only [blk1_0, blk1_1, blk1_2]
    rfl
  · blk_ext [e]

theorem blk2_0 (t : Fin cfg2.N) (a : Fin 512) (b : Fin 3072) :
    iblk2 V c 0 t (ix2 a b) = (V c main_arg10 : Vec Ideal S4096x3072 .bf16) (ix2 (⟨t.val * 512 + a.val, by have := lt2 t; omega⟩ : Fin 4096) b) := by
  have e : win2_0.index t = ![t.val, 0] := (by decide +kernel : ∀ t : Fin grid2.N, win2_0.index t = ![t.val, 0]) t
  blk_simp [iblk2]
  refine congrArg (V c main_arg10) ?_
  blk_ext [e]

theorem blk2_1 (t : Fin cfg2.N) (a : Fin 1024) (b : Fin 3072) :
    iblk2 V c 1 t (ix2 a b) = (V c main_arg20 : Vec Ideal S1024x3072 .bf16) (ix2 (a : Fin 1024) b) := by
  have e : win2_1.index t = ![0, 0] := (by decide +kernel : ∀ t : Fin grid2.N, win2_1.index t = ![0, 0]) t
  blk_simp [iblk2]
  refine congrArg (V c main_arg20) ?_
  blk_ext [e]

theorem blk2_2 (t : Fin cfg2.N) (a : Fin 512) (b : Fin 1024) :
    iblk2 V c 2 t (ix2 a b) = (V c main_v1 : Vec Ideal S4096x1024 .f32) (ix2 (⟨t.val * 512 + a.val, by have := lt2 t; omega⟩ : Fin 4096) b) := by
  have e : win2_2.index t = ![t.val, 0] := (by decide +kernel : ∀ t : Fin grid2.N, win2_2.index t = ![t.val, 0]) t
  blk_simp [iblk2]
  refine congrArg (V c main_v1) ?_
  blk_ext [e]

/-- Call 2's result: a product added to the result before. -/
def res2 : Vec Ideal S4096x1024 .f32 := fun i =>
  @HAdd.hAdd EReal EReal EReal _ ((V c main_v1 : Vec Ideal S4096x1024 .f32) i) (nt (V c main_arg10 : Vec Ideal S4096x3072 .bf16) (V c main_arg20 : Vec Ideal S1024x3072 .bf16) (i 0) (i 1))

theorem call2 : (dat2 V c).arrAt 3 cfg2.N = res2 V c := by
  refine (dat2 V c).arrAt_eq_of_covers 3 _ (by decide +kernel) fun t hf y => ?_
  have e : win2_3.index t = ![t.val, 0] := (by decide +kernel : ∀ t : Fin grid2.N, win2_3.index t = ![t.val, 0]) t
  blk_simp
  obtain ⟨a, b, rfl⟩ : ∃ a b, y = ix2 a b := ⟨y 0, y 1, by idx_vars y⟩
  rw [after2_3, body2]
  refine Eq.trans ?_ (congrArg (res2 V c) (?_ : (ix2 (⟨t.val * 512 + a.val, by have := lt2 t; omega⟩ : Fin 4096) (b : Fin 1024) : S4096x1024.Idx) = _))
  · unfold res2 nt
    simp only [blk2_0, blk2_1, blk2_2]
    rfl
  · blk_ext [e]

theorem blk3_0 (t : Fin cfg3.N) (a : Fin 512) (b : Fin 4608) :
    iblk3 V c 0 t (ix2 a b) = (V c main_arg8 : Vec Ideal S4096x4608 .bf16) (ix2 (⟨t.val * 512 + a.val, by have := lt3 t; omega⟩ : Fin 4096) b) := by
  have e : win3_0.index t = ![t.val, 0] := (by decide +kernel : ∀ t : Fin grid3.N, win3_0.index t = ![t.val, 0]) t
  blk_simp [iblk3]
  refine congrArg (V c main_arg8) ?_
  blk_ext [e]

theorem blk3_1 (t : Fin cfg3.N) (a : Fin 1024) (b : Fin 4608) :
    iblk3 V c 1 t (ix2 a b) = (V c main_arg18 : Vec Ideal S1024x4608 .bf16) (ix2 (a : Fin 1024) b) := by
  have e : win3_1.index t = ![0, 0] := (by decide +kernel : ∀ t : Fin grid3.N, win3_1.index t = ![0, 0]) t
  blk_simp [iblk3]
  refine congrArg (V c main_arg18) ?_
  blk_ext [e]

theorem blk3_2 (t : Fin cfg3.N) (a : Fin 512) (b : Fin 1024) :
    iblk3 V c 2 t (ix2 a b) = (V c main_v2 : Vec Ideal S4096x1024 .f32) (ix2 (⟨t.val * 512 + a.val, by have := lt3 t; omega⟩ : Fin 4096) b) := by
  have e : win3_2.index t = ![t.val, 0] := (by decide +kernel : ∀ t : Fin grid3.N, win3_2.index t = ![t.val, 0]) t
  blk_simp [iblk3]
  refine congrArg (V c main_v2) ?_
  blk_ext [e]

/-- Call 3's result: a product added to the result before. -/
def res3 : Vec Ideal S4096x1024 .bf16 := fun i =>
  @HAdd.hAdd EReal EReal EReal _ ((V c main_v2 : Vec Ideal S4096x1024 .f32) i) (nt (V c main_arg8 : Vec Ideal S4096x4608 .bf16) (V c main_arg18 : Vec Ideal S1024x4608 .bf16) (i 0) (i 1))

theorem call3 : (dat3 V c).arrAt 3 cfg3.N = res3 V c := by
  refine (dat3 V c).arrAt_eq_of_covers 3 _ (by decide +kernel) fun t hf y => ?_
  have e : win3_3.index t = ![t.val, 0] := (by decide +kernel : ∀ t : Fin grid3.N, win3_3.index t = ![t.val, 0]) t
  blk_simp
  obtain ⟨a, b, rfl⟩ : ∃ a b, y = ix2 a b := ⟨y 0, y 1, by idx_vars y⟩
  rw [after3_3, body3]
  refine Eq.trans ?_ (congrArg (res3 V c) (?_ : (ix2 (⟨t.val * 512 + a.val, by have := lt3 t; omega⟩ : Fin 4096) (b : Fin 1024) : S4096x1024.Idx) = _))
  · unfold res3 nt
    simp only [blk3_0, blk3_1, blk3_2]
    rfl
  · blk_ext [e]

end Calls

/-! ### The run -/

section Run

variable {F : FTy → Type} [FloatOps F] (m : (ℓ : Loc nD τ sig) → Buf (Elt F) ℓ) (ρ : Dev nD → PrngReg)

set_option backward.isDefEq.respectTransparency.types false in
/-- The four calls one after the other: the last result ends with what the last call leaves, the arguments as they were. -/
theorem run : θ_run defs (onTc (τ := τ) (main (F := F))) ⟨m, fun _ => 0, ρ⟩ (fun r => ∀ c : Dev nD,
      r.2.mem ((c : Thread nD τ).loc main_v3) = W4 m ρ c (Proc.devRef .tc main_v3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => BI.emp)
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c),
       (h c _ (mem_uc main_arg20 (by decide))).trans (W4_main_arg20 m ρ c)⟩)

end Run

section Value

variable (m : (ℓ : Loc nD τ sig) → Buf (Elt Ideal) ℓ) (ρ : Dev nD → PrngReg) (c : Dev nD)

/-- Segment `s`'s product over the arguments. -/
def seg0 (D : Vec Ideal S4096x384 .bf16) (W : Vec Ideal S1024x384 .bf16) : Fin 4096 → Fin 1024 → EReal := nt D W
def seg1 (D : Vec Ideal S4096x256 .bf16) (W : Vec Ideal S1024x256 .bf16) : Fin 4096 → Fin 1024 → EReal := nt D W
def seg2 (D : Vec Ideal S4096x128 .bf16) (W : Vec Ideal S1024x128 .bf16) : Fin 4096 → Fin 1024 → EReal := nt D W
def seg3 (D : Vec Ideal S4096x512 .bf16) (W : Vec Ideal S1024x512 .bf16) : Fin 4096 → Fin 1024 → EReal := nt D W
def seg4 (D : Vec Ideal S4096x1536 .bf16) (W : Vec Ideal S1024x1536 .bf16) : Fin 4096 → Fin 1024 → EReal := nt D W
def seg5 (D : Vec Ideal S4096x128 .bf16) (W : Vec Ideal S1024x128 .bf16) : Fin 4096 → Fin 1024 → EReal := nt D W
def seg6 (D : Vec Ideal S4096x512 .bf16) (W : Vec Ideal S1024x512 .bf16) : Fin 4096 → Fin 1024 → EReal := nt D W
def seg7 (D : Vec Ideal S4096x4608 .bf16) (W : Vec Ideal S1024x4608 .bf16) : Fin 4096 → Fin 1024 → EReal := nt D W
def seg8 (D : Vec Ideal S4096x512 .bf16) (W : Vec Ideal S1024x512 .bf16) : Fin 4096 → Fin 1024 → EReal := nt D W
def seg9 (D : Vec Ideal S4096x3072 .bf16) (W : Vec Ideal S1024x3072 .bf16) : Fin 4096 → Fin 1024 → EReal := nt D W

theorem value : W4 m ρ c (Proc.devRef .tc main_v3) = (fun i =>
    (seg0 (m ((c : Thread nD τ).loc main_arg1)) (m ((c : Thread nD τ).loc main_arg11)) (i 0) (i 1) + seg1 (m ((c : Thread nD τ).loc main_arg2)) (m ((c : Thread nD τ).loc main_arg12)) (i 0) (i 1) + seg2 (m ((c : Thread nD τ).loc main_arg3)) (m ((c : Thread nD τ).loc main_arg13)) (i 0) (i 1) + seg3 (m ((c : Thread nD τ).loc main_arg4)) (m ((c : Thread nD τ).loc main_arg14)) (i 0) (i 1) + seg5 (m ((c : Thread nD τ).loc main_arg6)) (m ((c : Thread nD τ).loc main_arg16)) (i 0) (i 1) + seg6 (m ((c : Thread nD τ).loc main_arg7)) (m ((c : Thread nD τ).loc main_arg17)) (i 0) (i 1) + seg8 (m ((c : Thread nD τ).loc main_arg9)) (m ((c : Thread nD τ).loc main_arg19)) (i 0) (i 1) + seg4 (m ((c : Thread nD τ).loc main_arg5)) (m ((c : Thread nD τ).loc main_arg15)) (i 0) (i 1) + seg9 (m ((c : Thread nD τ).loc main_arg10)) (m ((c : Thread nD τ).loc main_arg20)) (i 0) (i 1) + seg7 (m ((c : Thread nD τ).loc main_arg8)) (m ((c : Thread nD τ).loc main_arg18)) (i 0) (i 1) : EReal) : Vec Ideal S4096x1024 .bf16) := by
  have h0 : V1 m ρ c main_v0 = res0 (V0 m ρ) c := (W1_arr m ρ c 14).trans (call0 (V0 m ρ) c)
  have h1 : V2 m ρ c main_v1 = res1 (V1 m ρ) c := (W2_arr m ρ c 3).trans (call1 (V1 m ρ) c)
  have h2 : V3 m ρ c main_v2 = res2 (V2 m ρ) c := (W3_arr m ρ c 3).trans (call2 (V2 m ρ) c)
  have h3 : W4 m ρ c (Proc.devRef .tc main_v3) = res3 (V3 m ρ) c := (W4_arr m ρ c 3).trans (call3 (V3 m ρ) c)
  have a4 : V1 m ρ c main_arg5 = m ((c : Thread nD τ).loc main_arg5) := W1_args m ρ c main_arg5 (by simp)
  have b4 : V1 m ρ c main_arg15 = m ((c : Thread nD τ).loc main_arg15) := W1_args m ρ c main_arg15 (by simp)
  have a9 : V2 m ρ c main_arg10 = m ((c : Thread nD τ).loc main_arg10) := W2_args m ρ c main_arg10 (by simp)
  have b9 : V2 m ρ c main_arg20 = m ((c : Thread nD τ).loc main_arg20) := W2_args m ρ c main_arg20 (by simp)
  have a7 : V3 m ρ c main_arg8 = m ((c : Thread nD τ).loc main_arg8) := W3_args m ρ c main_arg8 (by simp)
  have b7 : V3 m ρ c main_arg18 = m ((c : Thread nD τ).loc main_arg18) := W3_args m ρ c main_arg18 (by simp)
  rw [h3]
  unfold res3
  rw [h2, a7, b7]
  unfold res2
  rw [h1, a9, b9]
  unfold res1
  rw [h0, a4, b4]
  rfl

end Value

theorem term128 (D : Vec Ideal S4096x128 .bf16) (W : Vec Ideal S1024x128 .bf16) (a : Fin 4096) (b : Fin 1024) :
    truncf .bf16 (Host.dotGeneral (F := Ideal) (φ₁ := .f32) (φ₂ := .bf16) Cert.DhReferenceIdeal.dot_S4096x128_S1024x128_S4096x1024_1_1_0_0_n_n none
      (extf .f32 D Cert.DhReferenceIdeal.Gen.bitsLt_bf16_f32) W) Cert.DhReferenceIdeal.Gen.bitsLt_bf16_f32 (ix2 a b) = nt D W a b := by
  pointwise [nt]

theorem term256 (D : Vec Ideal S4096x256 .bf16) (W : Vec Ideal S1024x256 .bf16) (a : Fin 4096) (b : Fin 1024) :
    truncf .bf16 (Host.dotGeneral (F := Ideal) (φ₁ := .f32) (φ₂ := .bf16) Cert.DhReferenceIdeal.dot_S4096x256_S1024x256_S4096x1024_1_1_0_0_n_n none
      (extf .f32 D Cert.DhReferenceIdeal.Gen.bitsLt_bf16_f32) W) Cert.DhReferenceIdeal.Gen.bitsLt_bf16_f32 (ix2 a b) = nt D W a b := by
  pointwise [nt]

theorem term384 (D : Vec Ideal S4096x384 .bf16) (W : Vec Ideal S1024x384 .bf16) (a : Fin 4096) (b : Fin 1024) :
    truncf .bf16 (Host.dotGeneral (F := Ideal) (φ₁ := .f32) (φ₂ := .bf16) Cert.DhReferenceIdeal.dot_S4096x384_S1024x384_S4096x1024_1_1_0_0_n_n none
      (extf .f32 D Cert.DhReferenceIdeal.Gen.bitsLt_bf16_f32) W) Cert.DhReferenceIdeal.Gen.bitsLt_bf16_f32 (ix2 a b) = nt D W a b := by
  pointwise [nt]

theorem term512 (D : Vec Ideal S4096x512 .bf16) (W : Vec Ideal S1024x512 .bf16) (a : Fin 4096) (b : Fin 1024) :
    truncf .bf16 (Host.dotGeneral (F := Ideal) (φ₁ := .f32) (φ₂ := .bf16) Cert.DhReferenceIdeal.dot_S4096x512_S1024x512_S4096x1024_1_1_0_0_n_n none
      (extf .f32 D Cert.DhReferenceIdeal.Gen.bitsLt_bf16_f32) W) Cert.DhReferenceIdeal.Gen.bitsLt_bf16_f32 (ix2 a b) = nt D W a b := by
  pointwise [nt]

theorem term1536 (D : Vec Ideal S4096x1536 .bf16) (W : Vec Ideal S1024x1536 .bf16) (a : Fin 4096) (b : Fin 1024) :
    truncf .bf16 (Host.dotGeneral (F := Ideal) (φ₁ := .f32) (φ₂ := .bf16) Cert.DhReferenceIdeal.dot_S4096x1536_S1024x1536_S4096x1024_1_1_0_0_n_n none
      (extf .f32 D Cert.DhReferenceIdeal.Gen.bitsLt_bf16_f32) W) Cert.DhReferenceIdeal.Gen.bitsLt_bf16_f32 (ix2 a b) = nt D W a b := by
  pointwise [nt]

theorem term3072 (D : Vec Ideal S4096x3072 .bf16) (W : Vec Ideal S1024x3072 .bf16) (a : Fin 4096) (b : Fin 1024) :
    truncf .bf16 (Host.dotGeneral (F := Ideal) (φ₁ := .f32) (φ₂ := .bf16) Cert.DhReferenceIdeal.dot_S4096x3072_S1024x3072_S4096x1024_1_1_0_0_n_n none
      (extf .f32 D Cert.DhReferenceIdeal.Gen.bitsLt_bf16_f32) W) Cert.DhReferenceIdeal.Gen.bitsLt_bf16_f32 (ix2 a b) = nt D W a b := by
  pointwise [nt]

theorem term4608 (D : Vec Ideal S4096x4608 .bf16) (W : Vec Ideal S1024x4608 .bf16) (a : Fin 4096) (b : Fin 1024) :
    truncf .bf16 (Host.dotGeneral (F := Ideal) (φ₁ := .f32) (φ₂ := .bf16) Cert.DhReferenceIdeal.dot_S4096x4608_S1024x4608_S4096x1024_1_1_0_0_n_n none
      (extf .f32 D Cert.DhReferenceIdeal.Gen.bitsLt_bf16_f32) W) Cert.DhReferenceIdeal.Gen.bitsLt_bf16_f32 (ix2 a b) = nt D W a b := by
  pointwise [nt]

theorem add_at (x y : FVec Ideal S4096x1024 .bf16) (i : S4096x1024.Idx) : addf (F := Ideal) (φ := .bf16) x y i = (x i + y i : EReal) := rfl

/-- Ten summands in the two orders. -/
theorem reorder (s0 s1 s2 s3 s4 s5 s6 s7 s8 s9 : EReal) :
    s9 + s8 + s7 + s6 + s5 + s4 + s3 + s2 + s1 + s0 = s0 + s1 + s2 + s3 + s5 + s6 + s8 + s4 + s9 + s7 := by
  abel

/-- The reference's term, element by element. -/
theorem reference_eq (D0 : Vec Ideal S4096x384 .bf16) (D1 : Vec Ideal S4096x256 .bf16) (D2 : Vec Ideal S4096x128 .bf16) (D3 : Vec Ideal S4096x512 .bf16) (D4 : Vec Ideal S4096x1536 .bf16) (D5 : Vec Ideal S4096x128 .bf16) (D6 : Vec Ideal S4096x512 .bf16) (D7 : Vec Ideal S4096x4608 .bf16) (D8 : Vec Ideal S4096x512 .bf16) (D9 : Vec Ideal S4096x3072 .bf16)
    (W0 : Vec Ideal S1024x384 .bf16) (W1 : Vec Ideal S1024x256 .bf16) (W2 : Vec Ideal S1024x128 .bf16) (W3 : Vec Ideal S1024x512 .bf16) (W4 : Vec Ideal S1024x1536 .bf16) (W5 : Vec Ideal S1024x128 .bf16) (W6 : Vec Ideal S1024x512 .bf16) (W7 : Vec Ideal S1024x4608 .bf16) (W8 : Vec Ideal S1024x512 .bf16) (W9 : Vec Ideal S1024x3072 .bf16) :
    (addf (F := Ideal) (addf (F := Ideal) (addf (F := Ideal) (addf (F := Ideal) (addf (F := Ideal) (addf (F := Ideal) (addf (F := Ideal) (addf (F := Ideal) (addf (F := Ideal) (truncf .bf16 (Host.dotGeneral (F := Ideal) (φ₁ := .f32) (φ₂ := .bf16) Cert.DhReferenceIdeal.dot_S4096x3072_S1024x3072_S4096x1024_1_1_0_0_n_n none (extf .f32 D9 Cert.DhReferenceIdeal.Gen.bitsLt_bf16_f32) W9) Cert.DhReferenceIdeal.Gen.bitsLt_bf16_f32)
      (truncf .bf16 (Host.dotGeneral (F := Ideal) (φ₁ := .f32) (φ₂ := .bf16) Cert.DhReferenceIdeal.dot_S4096x512_S1024x512_S4096x1024_1_1_0_0_n_n none (extf .f32 D8 Cert.DhReferenceIdeal.Gen.bitsLt_bf16_f32) W8) Cert.DhReferenceIdeal.Gen.bitsLt_bf16_f32))
      (truncf .bf16 (Host.dotGeneral (F := Ideal) (φ₁ := .f32) (φ₂ := .bf16) Cert.DhReferenceIdeal.dot_S4096x4608_S1024x4608_S4096x1024_1_1_0_0_n_n none (extf .f32 D7 Cert.DhReferenceIdeal.Gen.bitsLt_bf16_f32) W7) Cert.DhReferenceIdeal.Gen.bitsLt_bf16_f32))
      (truncf .bf16 (Host.dotGeneral (F := Ideal) (φ₁ := .f32) (φ₂ := .bf16) Cert.DhReferenceIdeal.dot_S4096x512_S1024x512_S4096x1024_1_1_0_0_n_n none (extf .f32 D6 Cert.DhReferenceIdeal.Gen.bitsLt_bf16_f32) W6) Cert.DhReferenceIdeal.Gen.bitsLt_bf16_f32))
      (truncf .bf16 (Host.dotGeneral (F := Ideal) (φ₁ := .f32) (φ₂ := .bf16) Cert.DhReferenceIdeal.dot_S4096x128_S1024x128_S4096x1024_1_1_0_0_n_n none (extf .f32 D5 Cert.DhReferenceIdeal.Gen.bitsLt_bf16_f32) W5) Cert.DhReferenceIdeal.Gen.bitsLt_bf16_f32))
      (truncf .bf16 (Host.dotGeneral (F := Ideal) (φ₁ := .f32) (φ₂ := .bf16) Cert.DhReferenceIdeal.dot_S4096x1536_S1024x1536_S4096x1024_1_1_0_0_n_n none (extf .f32 D4 Cert.DhReferenceIdeal.Gen.bitsLt_bf16_f32) W4) Cert.DhReferenceIdeal.Gen.bitsLt_bf16_f32))
      (truncf .bf16 (Host.dotGeneral (F := Ideal) (φ₁ := .f32) (φ₂ := .bf16) Cert.DhReferenceIdeal.dot_S4096x512_S1024x512_S4096x1024_1_1_0_0_n_n none (extf .f32 D3 Cert.DhReferenceIdeal.Gen.bitsLt_bf16_f32) W3) Cert.DhReferenceIdeal.Gen.bitsLt_bf16_f32))
      (truncf .bf16 (Host.dotGeneral (F := Ideal) (φ₁ := .f32) (φ₂ := .bf16) Cert.DhReferenceIdeal.dot_S4096x128_S1024x128_S4096x1024_1_1_0_0_n_n none (extf .f32 D2 Cert.DhReferenceIdeal.Gen.bitsLt_bf16_f32) W2) Cert.DhReferenceIdeal.Gen.bitsLt_bf16_f32))
      (truncf .bf16 (Host.dotGeneral (F := Ideal) (φ₁ := .f32) (φ₂ := .bf16) Cert.DhReferenceIdeal.dot_S4096x256_S1024x256_S4096x1024_1_1_0_0_n_n none (extf .f32 D1 Cert.DhReferenceIdeal.Gen.bitsLt_bf16_f32) W1) Cert.DhReferenceIdeal.Gen.bitsLt_bf16_f32))
      (truncf .bf16 (Host.dotGeneral (F := Ideal) (φ₁ := .f32) (φ₂ := .bf16) Cert.DhReferenceIdeal.dot_S4096x384_S1024x384_S4096x1024_1_1_0_0_n_n none (extf .f32 D0 Cert.DhReferenceIdeal.Gen.bitsLt_bf16_f32) W0) Cert.DhReferenceIdeal.Gen.bitsLt_bf16_f32))
      = (fun i => (seg0 D0 W0 (i 0) (i 1) + seg1 D1 W1 (i 0) (i 1) + seg2 D2 W2 (i 0) (i 1) + seg3 D3 W3 (i 0) (i 1) + seg5 D5 W5 (i 0) (i 1) + seg6 D6 W6 (i 0) (i 1) + seg8 D8 W8 (i 0) (i 1) + seg4 D4 W4 (i 0) (i 1) + seg9 D9 W9 (i 0) (i 1) + seg7 D7 W7 (i 0) (i 1) : EReal) : Vec Ideal S4096x1024 .bf16) := by
  funext i
  obtain ⟨a, b, rfl⟩ : ∃ a b, i = ix2 a b := ⟨i 0, i 1, by idx_vars i⟩
  rw [add_at, add_at, add_at, add_at, add_at, add_at, add_at, add_at, add_at, term3072, term512, term4608, term512, term128, term1536, term512, term128, term256, term384]
  exact reorder (nt D0 W0 a b) (nt D1 W1 a b) (nt D2 W2 a b) (nt D3 W3 a b) (nt D4 W4 a b) (nt D5 W5 a b) (nt D6 W6 a b) (nt D7 W7 a b) (nt D8 W8 a b) (nt D9 W9 a b)

/-- The kernel's result is the reference's. -/
theorem algebraic : Cert.algebraic_DhKernelIdeal_DhReferenceIdeal := by
  intro m ρ m' ρ' _ hagree
  refine ⟨_, run (F := Ideal) m ρ, ?_⟩
  refine (θ_run Cert.DhReferenceIdeal.defs _ _).mono (fun _ h c => ⟨?_, (h c).2⟩) (Cert.DhReferenceIdeal.Value.run (F := Ideal) m' ρ')
  obtain ⟨e0, e1, e2, e3, e4, e5, e6, e7, e8, e9, e10, e11, e12, e13, e14, e15, e16, e17, e18, e19, e20⟩ := hagree c
  rw [(h c).1, value]
  refine (reference_eq _ _ _ _ _ _ _ _ _ _ _ _ _ _ _ _ _ _ _ _).trans ?_
  rw [e1, e2, e3, e4, e5, e6, e7, e8, e9, e10, e11, e12, e13, e14, e15, e16, e17, e18, e19, e20]

end Cert.DhKernelIdeal.Own

end
-- ==== Proof.Ip.Sum.lean ====
/-
  A sum over 4096 rows taken in blocks, in the order a product accumulates them.
-/
module

public import Idealize.ShloMosaic.Lib.Pointwise

@[expose] public section

noncomputable section

namespace Cert.Proof.Ip

open Idealize.ShloMosaic

/-- Two blocks of 2048. -/
theorem sum_two (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

/-- Four blocks of 1024. -/
theorem sum_four (f : Fin 4096 → EReal) :
    ∑ k : Fin 4096, f k = (((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ := by
  refine (Fin.sum_univ_add (a := 3072) (b := 1024) f).trans (congrArg (· + _) ?_)
  refine (Fin.sum_univ_add (a := 2048) (b := 1024) _).trans (congrArg (· + _) ?_)
  exact Fin.sum_univ_add (a := 1024) (b := 1024) _

end Cert.Proof.Ip

end
-- ==== Proof.Ip.DwDil.lean ====
/-
  The gradient of the projection's weights to the dilated branch's queries, keys and values: the kernel accumulates two
  blocks of 2048 rows, the reference is one product.
-/
module

public import proofs.«01_k».proof.Defs
public import proofs.«01_k».proof.Proof.Gen.DwDilKernelIdeal.Value
public import proofs.«01_k».proof.Proof.Gen.DwDilReferenceIdeal.Run
public import proofs.«01_k».proof.Proof.Ip.Sum
public import Idealize.ShloMosaic.Lib.Pipeline.ValueKit.Geometry
public import Idealize.ShloMosaic.Lib.Pipeline.Value
public import Idealize.ShloMosaic.Lib.Tactic
public import Idealize.ShloMosaic.Lib.Quiescent

@[expose] public section

set_option maxRecDepth 16384

noncomputable section

namespace Cert.DwDilKernelIdeal.Own

open Cert.Proof.Ip Cert.DwDilKernelIdeal Cert.DwDilKernelIdeal.Gen Idealize.ShloMosaic Idealize.ShloMosaic.TcCoe Idealize.SL.Sem

theorem hz : (![0, 0] : Fin 2 → Nat) = fun _ => 0 := funext fun a => by fin_cases a <;> rfl

section Body

variable {F : FTy → Type} [FloatOps F]

/-- The product of a block of rows. -/
abbrev prod (x0 : Vec F S2048x1024 .bf16) (x1 : Vec F S2048x768 .bf16) : FVec F S1024x768 .f32 :=
  matmul dot_S2048x1024_S2048x768_S1024x768_0_0_1_1_n_n none x0 x1 (constant S1024x768 .f32 0x00000000#32)

/-- What the first of two points leaves in the accumulator. -/
theorem first_eq (c : Dev nD) (i : grid0.Coords) (a3 : Memref sig .tc .vmem S2048x1024 .bf16) (h3 : a3.IsWhole)
    (a4 : Memref sig .tc .vmem S2048x768 .bf16) (h4 : a4.IsWhole) (a5 : Memref sig .tc .vmem S1024x768 .bf16) (h5 : a5.IsWhole)
    (a6 : Memref sig .tc .vmem S1024x768 .f32) (h6 : a6.IsWhole) (c0 : cond0_0 i) (c1 : ¬cond0_1 i) (c2 : ¬cond0_2 i)
    (x0 : Vec F S2048x1024 .bf16) (x1 : Vec F S2048x768 .bf16) :
    sout0_A_0 c i a3 h3 a4 h4 a5 h5 a6 h6 c0 c1 c2 x0 x1 = prod x0 x1 := by
  unfold sout0_A_0
  rw [View.read_writes_eq_canon _ _ _ (scover0_A_0 c i a3 h3 a4 h4 a5 h5 a6 h6 c0 c1 c2 x0 x1)]
  unfold kernelRun0_A
  dsimp only
  sl_unfold_words
  rw [View.canon_unit_zero hz]
  simp only [View.readAt_eq_ld, h3.read_unread, h4.read_unread, View.ld_unit_zero (S := S2048x1024) hz,
    View.ld_unit_zero (S := S2048x768) hz, shapeCast_self]
  unfold k0_pay2 k0_pay1
  simp only [shapeCast_self]

/-- What the second leaves in the result's block. -/
theorem second_eq (c : Dev nD) (i : grid0.Coords) (a3 : Memref sig .tc .vmem S2048x1024 .bf16) (h3 : a3.IsWhole)
    (a4 : Memref sig .tc .vmem S2048x768 .bf16) (h4 : a4.IsWhole) (a5 : Memref sig .tc .vmem S1024x768 .bf16) (h5 : a5.IsWhole)
    (a6 : Memref sig .tc .vmem S1024x768 .f32) (h6 : a6.IsWhole) (c0 : ¬cond0_0 i) (c1 : cond0_1 i) (c2 : cond0_2 i)
    (x0 : Vec F S2048x1024 .bf16) (x1 : Vec F S2048x768 .bf16) (xs : Vec F S1024x768 .f32) :
    out0_B_2 c i a3 h3 a4 h4 a5 h5 a6 h6 c0 c1 c2 x0 x1 xs = truncf .bf16 (addf xs (prod x0 x1)) bitsLt_bf16_f32 := by
  unfold out0_B_2
  rw [View.read_writes_eq_canon _ _ _ (cover0_B_2 c i a3 h3 a4 h4 a5 h5 a6 h6 c0 c1 c2 x0 x1 xs)]
  unfold kernelRun0_B
  dsimp only
  sl_unfold_words
  rw [View.canon_unit_zero hz]
  simp only [View.readCov_unit_zero (S := S1024x768) _ hz, View.readAt_eq_ld, h3.read_unread, h4.read_unread, h6.read_unread,
    View.ld_unit_zero (S := S2048x1024) hz, View.ld_unit_zero (S := S2048x768) hz, View.ld_unit_zero (S := S1024x768) hz, shapeCast_self]
  unfold k0_pay4 k0_pay3 k0_pay1
  simp only [shapeCast_self]

end Body

/-- A product of a block of rows, element by element. -/
theorem prod_at (x0 : Vec Ideal S2048x1024 .bf16) (x1 : Vec Ideal S2048x768 .bf16) (a : Fin 1024) (b : Fin 768) :
    prod x0 x1 (ix2 a b) = ∑ k : Fin 2048, x0 (ix2 k a) * x1 (ix2 k b) := by
  pointwise [prod]

theorem cast_add_at (xs y : Vec Ideal S1024x768 .f32) (i : S1024x768.Idx) :
    truncf .bf16 (addf (F := Ideal) xs y) bitsLt_bf16_f32 i = (xs i + y i : EReal) := rfl

section Kernel

variable (m : (ℓ : Loc nD τ sig) → Buf (Elt Ideal) ℓ) (c : Dev nD)

/-- The arguments: the normalised activations and the segment's gradient. -/
abbrev act : Vec Ideal S4096x1024 .bf16 := V m c main_arg0
abbrev seg : Vec Ideal S4096x4608 .bf16 := V m c main_arg1

/-- The gradient of the weights, element by element. -/
def grad (H : Vec Ideal S4096x1024 .bf16) (D : Vec Ideal S4096x4608 .bf16) : Vec Ideal S1024x4608 .bf16 :=
  fun i => ∑ k : Fin 4096, H (ix2 k (i 0)) * D (ix2 k (i 1))

theorem lt_points (t : Fin cfg0.N) : t.val < 12 := Nat.lt_of_lt_of_eq t.isLt N_0

theorem idx_pt : ∀ t : Fin cfg0.N, win0_0.index t = ![t.val % 2, 0] ∧ win0_1.index t = ![t.val % 2, t.val / 2]
    ∧ win0_2.index t = ![0, t.val / 2] :=
  (by decide +kernel : ∀ t : Fin grid0.N, _)

theorem iblk0_at (t : Fin cfg0.N) (a : Fin 2048) (b : Fin 1024) :
    iblk m c 0 t (ix2 a b) = act m c (ix2 (⟨t.val % 2 * 2048 + a.val, by omega⟩ : Fin 4096) b) := by
  have e := (idx_pt t).1
  blk_simp [iblk]
  refine congrArg (V m c main_arg0) ?_
  blk_ext [e]

theorem iblk1_at (t : Fin cfg0.N) (a : Fin 2048) (b : Fin 768) :
    iblk m c 1 t (ix2 a b) = seg m c (ix2 (⟨t.val % 2 * 2048 + a.val, by omega⟩ : Fin 4096)
      (⟨t.val / 2 * 768 + b.val, by have := lt_points t; omega⟩ : Fin 4608)) := by
  have e := (idx_pt t).2.1
  blk_simp [iblk]
  refine congrArg (V m c main_arg1) ?_
  blk_ext [e]

/-- What the second point of a block writes back. -/
theorem after_at (t : Fin cfg0.N) (h : t.val % 2 = 1) (a : Fin 1024) (b : Fin 768) :
    (dats m 0 c).after 2 t (ix2 a b)
      = grad (act m c) (seg m c) (ix2 a (⟨t.val / 2 * 768 + b.val, by have := lt_points t; omega⟩ : Fin 4608)) := by
  have hl := lt_points t
  have hp : t.val - 1 < cfg0.N := Nat.lt_of_le_of_lt (Nat.sub_le _ _) t.isLt
  rw [after0_2, outsAt0_B m c t (by omega) h h, outsAt0_A m c ⟨t.val - 1, hp⟩ (by dsimp only; omega) (by dsimp only; omega) (by dsimp only; omega)]
  dsimp only
  rw [second_eq, first_eq, cast_add_at, prod_at, prod_at]
  refine Eq.trans ?_ (sum_two _).symm
  refine congrArg₂ (· + ·) (Finset.sum_congr rfl fun k _ => ?_) (Finset.sum_congr rfl fun k _ => ?_)
  · rw [iblk0_at, iblk1_at]
    refine congrArg₂ (· * ·) (congrArg (act m c) ?_) (congrArg (seg m c) ?_)
    · exact congrArg (fun r : Fin 4096 => (ix2 r a : S4096x1024.Idx)) (Fin.ext (by dsimp only; omega))
    · exact congrArg₂ (fun (r : Fin 4096) (s : Fin 4608) => (ix2 r s : S4096x4608.Idx)) (Fin.ext (by dsimp only; omega))
        (Fin.ext (by change (t.val - 1) / 2 * 768 + b.val = t.val / 2 * 768 + b.val; omega))
  · rw [iblk0_at, iblk1_at]
    refine congrArg₂ (· * ·) (congrArg (act m c) ?_) (congrArg (seg m c) ?_)
    · exact congrArg (fun r : Fin 4096 => (ix2 r a : S4096x1024.Idx)) (Fin.ext (by dsimp only; omega))
    · exact congrArg₂ (fun (r : Fin 4096) (s : Fin 4608) => (ix2 r s : S4096x4608.Idx)) (Fin.ext (by dsimp only; omega)) rfl

/-- The result's array after the run. -/
theorem result : Value.G2 m c = grad (act m c) (seg m c) := by
  refine (Value.final2 m c).symm.trans ?_
  refine (dats m 0 c).arrAt_eq_of_covers 2 _ (by decide +kernel) fun t hf y => ?_
  have h := (flush0_2 t).mp hf
  have e := (idx_pt t).2.2
  blk_simp
  obtain ⟨a, b, rfl⟩ : ∃ a b, y = ix2 a b := ⟨y 0, y 1, by idx_vars y⟩
  rw [after_at m c t h]
  refine congrArg (grad (act m c) (seg m c)) ?_
  blk_ext [e]

end Kernel

/-- The reference's term, element by element. -/
theorem reference_eq (H : Vec Ideal S4096x1024 .bf16) (D : Vec Ideal S4096x4608 .bf16) :
    truncf .bf16 (transpose Cert.DwDilReferenceIdeal.S1024x4608 [1, 0] (Host.dotGeneral (F := Ideal) (φ₁ := .f32) (φ₂ := .bf16)
      Cert.DwDilReferenceIdeal.dot_S4096x4608_S4096x1024_S4608x1024_0_0_1_1_n_n none (extf .f32 D Cert.DwDilReferenceIdeal.Gen.bitsLt_bf16_f32) H)
      Cert.DwDilReferenceIdeal.Gen.transposes_S4608x1024_S1024x4608_1_0) Cert.DwDilReferenceIdeal.Gen.bitsLt_bf16_f32 = grad H D := by
  funext i
  idx_vars i
  pointwise [grad]
  exact Finset.sum_congr rfl fun k _ => mul_comm _ _

/-- The kernel's result is the reference's. -/
theorem algebraic : Cert.algebraic_DwDilKernelIdeal_DwDilReferenceIdeal := by
  intro m ρ m' ρ' _ hagree
  refine ⟨_, Cert.DwDilKernelIdeal.Value.run (F := Ideal) m ρ, ?_⟩
  refine (θ_run Cert.DwDilReferenceIdeal.defs _ _).mono (fun _ h c => ⟨?_, (h c).2⟩) (Cert.DwDilReferenceIdeal.Value.run (F := Ideal) m' ρ')
  rw [(h c).1, result]
  refine (reference_eq _ _).trans ?_
  rw [(hagree c).1, (hagree c).2.1]

end Cert.DwDilKernelIdeal.Own

end
-- ==== Proof.Ip.DwGate.lean ====
/-
  The gradient of the projection's weights to the gate: the kernel accumulates two
  blocks of 2048 rows, the reference is one product.
-/
module

public import proofs.«01_k».proof.Defs
public import proofs.«01_k».proof.Proof.Gen.DwGateKernelIdeal.Value
public import proofs.«01_k».proof.Proof.Gen.DwGateReferenceIdeal.Run
public import proofs.«01_k».proof.Proof.Ip.Sum
public import Idealize.ShloMosaic.Lib.Pipeline.ValueKit.Geometry
public import Idealize.ShloMosaic.Lib.Pipeline.Value
public import Idealize.ShloMosaic.Lib.Tactic
public import Idealize.ShloMosaic.Lib.Quiescent

@[expose] public section

set_option maxRecDepth 16384

noncomputable section

namespace Cert.DwGateKernelIdeal.Own

open Cert.Proof.Ip Cert.DwGateKernelIdeal Cert.DwGateKernelIdeal.Gen Idealize.ShloMosaic Idealize.ShloMosaic.TcCoe Idealize.SL.Sem

theorem hz : (![0, 0] : Fin 2 → Nat) = fun _ => 0 := funext fun a => by fin_cases a <;> rfl

section Body

variable {F : FTy → Type} [FloatOps F]

/-- The product of a block of rows. -/
abbrev prod (x0 : Vec F S2048x1024 .bf16) (x1 : Vec F S2048x768 .bf16) : FVec F S1024x768 .f32 :=
  matmul dot_S2048x1024_S2048x768_S1024x768_0_0_1_1_n_n none x0 x1 (constant S1024x768 .f32 0x00000000#32)

/-- What the first of two points leaves in the accumulator. -/
theorem first_eq (c : Dev nD) (i : grid0.Coords) (a3 : Memref sig .tc .vmem S2048x1024 .bf16) (h3 : a3.IsWhole)
    (a4 : Memref sig .tc .vmem S2048x768 .bf16) (h4 : a4.IsWhole) (a5 : Memref sig .tc .vmem S1024x768 .bf16) (h5 : a5.IsWhole)
    (a6 : Memref sig .tc .vmem S1024x768 .f32) (h6 : a6.IsWhole) (c0 : cond0_0 i) (c1 : ¬cond0_1 i) (c2 : ¬cond0_2 i)
    (x0 : Vec F S2048x1024 .bf16) (x1 : Vec F S2048x768 .bf16) :
    sout0_A_0 c i a3 h3 a4 h4 a5 h5 a6 h6 c0 c1 c2 x0 x1 = prod x0 x1 := by
  unfold sout0_A_0
  rw [View.read_writes_eq_canon _ _ _ (scover0_A_0 c i a3 h3 a4 h4 a5 h5 a6 h6 c0 c1 c2 x0 x1)]
  unfold kernelRun0_A
  dsimp only
  sl_unfold_words
  rw [View.canon_unit_zero hz]
  simp only [View.readAt_eq_ld, h3.read_unread, h4.read_unread, View.ld_unit_zero (S := S2048x1024) hz,
    View.ld_unit_zero (S := S2048x768) hz, shapeCast_self]
  unfold k0_pay2 k0_pay1
  simp only [shapeCast_self]

/-- What the second leaves in the result's block. -/
theorem second_eq (c : Dev nD) (i : grid0.Coords) (a3 : Memref sig .tc .vmem S2048x1024 .bf16) (h3 : a3.IsWhole)
    (a4 : Memref sig .tc .vmem S2048x768 .bf16) (h4 : a4.IsWhole) (a5 : Memref sig .tc .vmem S1024x768 .bf16) (h5 : a5.IsWhole)
    (a6 : Memref sig .tc .vmem S1024x768 .f32) (h6 : a6.IsWhole) (c0 : ¬cond0_0 i) (c1 : cond0_1 i) (c2 : cond0_2 i)
    (x0 : Vec F S2048x1024 .bf16) (x1 : Vec F S2048x768 .bf16) (xs : Vec F S1024x768 .f32) :
    out0_B_2 c i a3 h3 a4 h4 a5 h5 a6 h6 c0 c1 c2 x0 x1 xs = truncf .bf16 (addf xs (prod x0 x1)) bitsLt_bf16_f32 := by
  unfold out0_B_2
  rw [View.read_writes_eq_canon _ _ _ (cover0_B_2 c i a3 h3 a4 h4 a5 h5 a6 h6 c0 c1 c2 x0 x1 xs)]
  unfold kernelRun0_B
  dsimp only
  sl_unfold_words
  rw [View.canon_unit_zero hz]
  simp only [View.readCov_unit_zero (S := S1024x768) _ hz, View.readAt_eq_ld, h3.read_unread, h4.read_unread, h6.read_unread,
    View.ld_unit_zero (S := S2048x1024) hz, View.ld_unit_zero (S := S2048x768) hz, View.ld_unit_zero (S := S1024x768) hz, shapeCast_self]
  unfold k0_pay4 k0_pay3 k0_pay1
  simp only [shapeCast_self]

end Body

/-- A product of a block of rows, element by element. -/
theorem prod_at (x0 : Vec Ideal S2048x1024 .bf16) (x1 : Vec Ideal S2048x768 .bf16) (a : Fin 1024) (b : Fin 768) :
    prod x0 x1 (ix2 a b) = ∑ k : Fin 2048, x0 (ix2 k a) * x1 (ix2 k b) := by
  pointwise [prod]

theorem cast_add_at (xs y : Vec Ideal S1024x768 .f32) (i : S1024x768.Idx) :
    truncf .bf16 (addf (F := Ideal) xs y) bitsLt_bf16_f32 i = (xs i + y i : EReal) := rfl

section Kernel

variable (m : (ℓ : Loc nD τ sig) → Buf (Elt Ideal) ℓ) (c : Dev nD)

/-- The arguments: the normalised activations and the segment's gradient. -/
abbrev act : Vec Ideal S4096x1024 .bf16 := V m c main_arg0
abbrev seg : Vec Ideal S4096x3072 .bf16 := V m c main_arg1

/-- The gradient of the weights, element by element. -/
def grad (H : Vec Ideal S4096x1024 .bf16) (D : Vec Ideal S4096x3072 .bf16) : Vec Ideal S1024x3072 .bf16 :=
  fun i => ∑ k : Fin 4096, H (ix2 k (i 0)) * D (ix2 k (i 1))

theorem lt_points (t : Fin cfg0.N) : t.val < 8 := Nat.lt_of_lt_of_eq t.isLt N_0

theorem idx_pt : ∀ t : Fin cfg0.N, win0_0.index t = ![t.val % 2, 0] ∧ win0_1.index t = ![t.val % 2, t.val / 2]
    ∧ win0_2.index t = ![0, t.val / 2] :=
  (by decide +kernel : ∀ t : Fin grid0.N, _)

theorem iblk0_at (t : Fin cfg0.N) (a : Fin 2048) (b : Fin 1024) :
    iblk m c 0 t (ix2 a b) = act m c (ix2 (⟨t.val % 2 * 2048 + a.val, by omega⟩ : Fin 4096) b) := by
  have e := (idx_pt t).1
  blk_simp [iblk]
  refine congrArg (V m c main_arg0) ?_
  blk_ext [e]

theorem iblk1_at (t : Fin cfg0.N) (a : Fin 2048) (b : Fin 768) :
    iblk m c 1 t (ix2 a b) = seg m c (ix2 (⟨t.val % 2 * 2048 + a.val, by omega⟩ : Fin 4096)
      (⟨t.val / 2 * 768 + b.val, by have := lt_points t; omega⟩ : Fin 3072)) := by
  have e := (idx_pt t).2.1
  blk_simp [iblk]
  refine congrArg (V m c main_arg1) ?_
  blk_ext [e]

/-- What the second point of a block writes back. -/
theorem after_at (t : Fin cfg0.N) (h : t.val % 2 = 1) (a : Fin 1024) (b : Fin 768) :
    (dats m 0 c).after 2 t (ix2 a b)
      = grad (act m c) (seg m c) (ix2 a (⟨t.val / 2 * 768 + b.val, by have := lt_points t; omega⟩ : Fin 3072)) := by
  have hl := lt_points t
  have hp : t.val - 1 < cfg0.N := Nat.lt_of_le_of_lt (Nat.sub_le _ _) t.isLt
  rw [after0_2, outsAt0_B m c t (by omega) h h, outsAt0_A m c ⟨t.val - 1, hp⟩ (by dsimp only; omega) (by dsimp only; omega) (by dsimp only; omega)]
  dsimp only
  rw [second_eq, first_eq, cast_add_at, prod_at, prod_at]
  refine Eq.trans ?_ (sum_two _).symm
  refine congrArg₂ (· + ·) (Finset.sum_congr rfl fun k _ => ?_) (Finset.sum_congr rfl fun k _ => ?_)
  · rw [iblk0_at, iblk1_at]
    refine congrArg₂ (· * ·) (congrArg (act m c) ?_) (congrArg (seg m c) ?_)
    · exact congrArg (fun r : Fin 4096 => (ix2 r a : S4096x1024.Idx)) (Fin.ext (by dsimp only; omega))
    · exact congrArg₂ (fun (r : Fin 4096) (s : Fin 3072) => (ix2 r s : S4096x3072.Idx)) (Fin.ext (by dsimp only; omega))
        (Fin.ext (by change (t.val - 1) / 2 * 768 + b.val = t.val / 2 * 768 + b.val; omega))
  · rw [iblk0_at, iblk1_at]
    refine congrArg₂ (· * ·) (congrArg (act m c) ?_) (congrArg (seg m c) ?_)
    · exact congrArg (fun r : Fin 4096 => (ix2 r a : S4096x1024.Idx)) (Fin.ext (by dsimp only; omega))
    · exact congrArg₂ (fun (r : Fin 4096) (s : Fin 3072) => (ix2 r s : S4096x3072.Idx)) (Fin.ext (by dsimp only; omega)) rfl

/-- The result's array after the run. -/
theorem result : Value.G2 m c = grad (act m c) (seg m c) := by
  refine (Value.final2 m c).symm.trans ?_
  refine (dats m 0 c).arrAt_eq_of_covers 2 _ (by decide +kernel) fun t hf y => ?_
  have h := (flush0_2 t).mp hf
  have e := (idx_pt t).2.2
  blk_simp
  obtain ⟨a, b, rfl⟩ : ∃ a b, y = ix2 a b := ⟨y 0, y 1, by idx_vars y⟩
  rw [after_at m c t h]
  refine congrArg (grad (act m c) (seg m c)) ?_
  blk_ext [e]

end Kernel

/-- The reference's term, element by element. -/
theorem reference_eq (H : Vec Ideal S4096x1024 .bf16) (D : Vec Ideal S4096x3072 .bf16) :
    truncf .bf16 (transpose Cert.DwGateReferenceIdeal.S1024x3072 [1, 0] (Host.dotGeneral (F := Ideal) (φ₁ := .f32) (φ₂ := .bf16)
      Cert.DwGateReferenceIdeal.dot_S4096x3072_S4096x1024_S3072x1024_0_0_1_1_n_n none (extf .f32 D Cert.DwGateReferenceIdeal.Gen.bitsLt_bf16_f32) H)
      Cert.DwGateReferenceIdeal.Gen.transposes_S3072x1024_S1024x3072_1_0) Cert.DwGateReferenceIdeal.Gen.bitsLt_bf16_f32 = grad H D := by
  funext i
  idx_vars i
  pointwise [grad]
  exact Finset.sum_congr rfl fun k _ => mul_comm _ _

/-- The kernel's result is the reference's. -/
theorem algebraic : Cert.algebraic_DwGateKernelIdeal_DwGateReferenceIdeal := by
  intro m ρ m' ρ' _ hagree
  refine ⟨_, Cert.DwGateKernelIdeal.Value.run (F := Ideal) m ρ, ?_⟩
  refine (θ_run Cert.DwGateReferenceIdeal.defs _ _).mono (fun _ h c => ⟨?_, (h c).2⟩) (Cert.DwGateReferenceIdeal.Value.run (F := Ideal) m' ρ')
  rw [(h c).1, result]
  refine (reference_eq _ _).trans ?_
  rw [(hagree c).1, (hagree c).2.1]

end Cert.DwGateKernelIdeal.Own

end
-- ==== Proof.Ip.DwDn.lean ====
/-
  The gradient of the projection's weights to the delta rule's queries, keys and values: the kernel accumulates two
  blocks of 2048 rows, the reference is one product.
-/
module

public import proofs.«01_k».proof.Defs
public import proofs.«01_k».proof.Proof.Gen.DwDnKernelIdeal.Value
public import proofs.«01_k».proof.Proof.Gen.DwDnReferenceIdeal.Run
public import proofs.«01_k».proof.Proof.Ip.Sum
public import Idealize.ShloMosaic.Lib.Pipeline.ValueKit.Geometry
public import Idealize.ShloMosaic.Lib.Pipeline.Value
public import Idealize.ShloMosaic.Lib.Tactic
public import Idealize.ShloMosaic.Lib.Quiescent

@[expose] public section

set_option maxRecDepth 16384

noncomputable section

namespace Cert.DwDnKernelIdeal.Own

open Cert.Proof.Ip Cert.DwDnKernelIdeal Cert.DwDnKernelIdeal.Gen Idealize.ShloMosaic Idealize.ShloMosaic.TcCoe Idealize.SL.Sem

theorem hz : (![0, 0] : Fin 2 → Nat) = fun _ => 0 := funext fun a => by fin_cases a <;> rfl

section Body

variable {F : FTy → Type} [FloatOps F]

/-- The product of a block of rows. -/
abbrev prod (x0 : Vec F S2048x1024 .bf16) (x1 : Vec F S2048x768 .bf16) : FVec F S1024x768 .f32 :=
  matmul dot_S2048x1024_S2048x768_S1024x768_0_0_1_1_n_n none x0 x1 (constant S1024x768 .f32 0x00000000#32)

/-- What the first of two points leaves in the accumulator. -/
theorem first_eq (c : Dev nD) (i : grid0.Coords) (a3 : Memref sig .tc .vmem S2048x1024 .bf16) (h3 : a3.IsWhole)
    (a4 : Memref sig .tc .vmem S2048x768 .bf16) (h4 : a4.IsWhole) (a5 : Memref sig .tc .vmem S1024x768 .bf16) (h5 : a5.IsWhole)
    (a6 : Memref sig .tc .vmem S1024x768 .f32) (h6 : a6.IsWhole) (c0 : cond0_0 i) (c1 : ¬cond0_1 i) (c2 : ¬cond0_2 i)
    (x0 : Vec F S2048x1024 .bf16) (x1 : Vec F S2048x768 .bf16) :
    sout0_A_0 c i a3 h3 a4 h4 a5 h5 a6 h6 c0 c1 c2 x0 x1 = prod x0 x1 := by
  unfold sout0_A_0
  rw [View.read_writes_eq_canon _ _ _ (scover0_A_0 c i a3 h3 a4 h4 a5 h5 a6 h6 c0 c1 c2 x0 x1)]
  unfold kernelRun0_A
  dsimp only
  sl_unfold_words
  rw [View.canon_unit_zero hz]
  simp only [View.readAt_eq_ld, h3.read_unread, h4.read_unread, View.ld_unit_zero (S := S2048x1024) hz,
    View.ld_unit_zero (S := S2048x768) hz, shapeCast_self]
  unfold k0_pay2 k0_pay1
  simp only [shapeCast_self]

/-- What the second leaves in the result's block. -/
theorem second_eq (c : Dev nD) (i : grid0.Coords) (a3 : Memref sig .tc .vmem S2048x1024 .bf16) (h3 : a3.IsWhole)
    (a4 : Memref sig .tc .vmem S2048x768 .bf16) (h4 : a4.IsWhole) (a5 : Memref sig .tc .vmem S1024x768 .bf16) (h5 : a5.IsWhole)
    (a6 : Memref sig .tc .vmem S1024x768 .f32) (h6 : a6.IsWhole) (c0 : ¬cond0_0 i) (c1 : cond0_1 i) (c2 : cond0_2 i)
    (x0 : Vec F S2048x1024 .bf16) (x1 : Vec F S2048x768 .bf16) (xs : Vec F S1024x768 .f32) :
    out0_B_2 c i a3 h3 a4 h4 a5 h5 a6 h6 c0 c1 c2 x0 x1 xs = truncf .bf16 (addf xs (prod x0 x1)) bitsLt_bf16_f32 := by
  unfold out0_B_2
  rw [View.read_writes_eq_canon _ _ _ (cover0_B_2 c i a3 h3 a4 h4 a5 h5 a6 h6 c0 c1 c2 x0 x1 xs)]
  unfold kernelRun0_B
  dsimp only
  sl_unfold_words
  rw [View.canon_unit_zero hz]
  simp only [View.readCov_unit_zero (S := S1024x768) _ hz, View.readAt_eq_ld, h3.read_unread, h4.read_unread, h6.read_unread,
    View.ld_unit_zero (S := S2048x1024) hz, View.ld_unit_zero (S := S2048x768) hz, View.ld_unit_zero (S := S1024x768) hz, shapeCast_self]
  unfold k0_pay4 k0_pay3 k0_pay1
  simp only [shapeCast_self]

end Body

/-- A product of a block of rows, element by element. -/
theorem prod_at (x0 : Vec Ideal S2048x1024 .bf16) (x1 : Vec Ideal S2048x768 .bf16) (a : Fin 1024) (b : Fin 768) :
    prod x0 x1 (ix2 a b) = ∑ k : Fin 2048, x0 (ix2 k a) * x1 (ix2 k b) := by
  pointwise [prod]

theorem cast_add_at (xs y : Vec Ideal S1024x768 .f32) (i : S1024x768.Idx) :
    truncf .bf16 (addf (F := Ideal) xs y) bitsLt_bf16_f32 i = (xs i + y i : EReal) := rfl

section Kernel

variable (m : (ℓ : Loc nD τ sig) → Buf (Elt Ideal) ℓ) (c : Dev nD)

/-- The arguments: the normalised activations and the segment's gradient. -/
abbrev act : Vec Ideal S4096x1024 .bf16 := V m c main_arg0
abbrev seg : Vec Ideal S4096x1536 .bf16 := V m c main_arg1

/-- The gradient of the weights, element by element. -/
def grad (H : Vec Ideal S4096x1024 .bf16) (D : Vec Ideal S4096x1536 .bf16) : Vec Ideal S1024x1536 .bf16 :=
  fun i => ∑ k : Fin 4096, H (ix2 k (i 0)) * D (ix2 k (i 1))

theorem lt_points (t : Fin cfg0.N) : t.val < 4 := Nat.lt_of_lt_of_eq t.isLt N_0

theorem idx_pt : ∀ t : Fin cfg0.N, win0_0.index t = ![t.val % 2, 0] ∧ win0_1.index t = ![t.val % 2, t.val / 2]
    ∧ win0_2.index t = ![0, t.val / 2] :=
  (by decide +kernel : ∀ t : Fin grid0.N, _)

theorem iblk0_at (t : Fin cfg0.N) (a : Fin 2048) (b : Fin 1024) :
    iblk m c 0 t (ix2 a b) = act m c (ix2 (⟨t.val % 2 * 2048 + a.val, by omega⟩ : Fin 4096) b) := by
  have e := (idx_pt t).1
  blk_simp [iblk]
  refine congrArg (V m c main_arg0) ?_
  blk_ext [e]

theorem iblk1_at (t : Fin cfg0.N) (a : Fin 2048) (b : Fin 768) :
    iblk m c 1 t (ix2 a b) = seg m c (ix2 (⟨t.val % 2 * 2048 + a.val, by omega⟩ : Fin 4096)
      (⟨t.val / 2 * 768 + b.val, by have := lt_points t; omega⟩ : Fin 1536)) := by
  have e := (idx_pt t).2.1
  blk_simp [iblk]
  refine congrArg (V m c main_arg1) ?_
  blk_ext [e]

/-- What the second point of a block writes back. -/
theorem after_at (t : Fin cfg0.N) (h : t.val % 2 = 1) (a : Fin 1024) (b : Fin 768) :
    (dats m 0 c).after 2 t (ix2 a b)
      = grad (act m c) (seg m c) (ix2 a (⟨t.val / 2 * 768 + b.val, by have := lt_points t; omega⟩ : Fin 1536)) := by
  have hl := lt_points t
  have hp : t.val - 1 < cfg0.N := Nat.lt_of_le_of_lt (Nat.sub_le _ _) t.isLt
  rw [after0_2, outsAt0_B m c t (by omega) h h, outsAt0_A m c ⟨t.val - 1, hp⟩ (by dsimp only; omega) (by dsimp only; omega) (by dsimp only; omega)]
  dsimp only
  rw [second_eq, first_eq, cast_add_at, prod_at, prod_at]
  refine Eq.trans ?_ (sum_two _).symm
  refine congrArg₂ (· + ·) (Finset.sum_congr rfl fun k _ => ?_) (Finset.sum_congr rfl fun k _ => ?_)
  · rw [iblk0_at, iblk1_at]
    refine congrArg₂ (· * ·) (congrArg (act m c) ?_) (congrArg (seg m c) ?_)
    · exact congrArg (fun r : Fin 4096 => (ix2 r a : S4096x1024.Idx)) (Fin.ext (by dsimp only; omega))
    · exact congrArg₂ (fun (r : Fin 4096) (s : Fin 1536) => (ix2 r s : S4096x1536.Idx)) (Fin.ext (by dsimp only; omega))
        (Fin.ext (by change (t.val - 1) / 2 * 768 + b.val = t.val / 2 * 768 + b.val; omega))
  · rw [iblk0_at, iblk1_at]
    refine congrArg₂ (· * ·) (congrArg (act m c) ?_) (congrArg (seg m c) ?_)
    · exact congrArg (fun r : Fin 4096 => (ix2 r a : S4096x1024.Idx)) (Fin.ext (by dsimp only; omega))
    · exact congrArg₂ (fun (r : Fin 4096) (s : Fin 1536) => (ix2 r s : S4096x1536.Idx)) (Fin.ext (by dsimp only; omega)) rfl

/-- The result's array after the run. -/
theorem result : Value.G2 m c = grad (act m c) (seg m c) := by
  refine (Value.final2 m c).symm.trans ?_
  refine (dats m 0 c).arrAt_eq_of_covers 2 _ (by decide +kernel) fun t hf y => ?_
  have h := (flush0_2 t).mp hf
  have e := (idx_pt t).2.2
  blk_simp
  obtain ⟨a, b, rfl⟩ : ∃ a b, y = ix2 a b := ⟨y 0, y 1, by idx_vars y⟩
  rw [after_at m c t h]
  refine congrArg (grad (act m c) (seg m c)) ?_
  blk_ext [e]

end Kernel

/-- The reference's term, element by element. -/
theorem reference_eq (H : Vec Ideal S4096x1024 .bf16) (D : Vec Ideal S4096x1536 .bf16) :
    truncf .bf16 (transpose Cert.DwDnReferenceIdeal.S1024x1536 [1, 0] (Host.dotGeneral (F := Ideal) (φ₁ := .f32) (φ₂ := .bf16)
      Cert.DwDnReferenceIdeal.dot_S4096x1536_S4096x1024_S1536x1024_0_0_1_1_n_n none (extf .f32 D Cert.DwDnReferenceIdeal.Gen.bitsLt_bf16_f32) H)
      Cert.DwDnReferenceIdeal.Gen.transposes_S1536x1024_S1024x1536_1_0) Cert.DwDnReferenceIdeal.Gen.bitsLt_bf16_f32 = grad H D := by
  funext i
  idx_vars i
  pointwise [grad]
  exact Finset.sum_congr rfl fun k _ => mul_comm _ _

/-- The kernel's result is the reference's. -/
theorem algebraic : Cert.algebraic_DwDnKernelIdeal_DwDnReferenceIdeal := by
  intro m ρ m' ρ' _ hagree
  refine ⟨_, Cert.DwDnKernelIdeal.Value.run (F := Ideal) m ρ, ?_⟩
  refine (θ_run Cert.DwDnReferenceIdeal.defs _ _).mono (fun _ h c => ⟨?_, (h c).2⟩) (Cert.DwDnReferenceIdeal.Value.run (F := Ideal) m' ρ')
  rw [(h c).1, result]
  refine (reference_eq _ _).trans ?_
  rw [(hagree c).1, (hagree c).2.1]

end Cert.DwDnKernelIdeal.Own

end
-- ==== Proof.Ip.Fwd.lean ====
/-
  The projection of the normalised activations onto the ten segments, with the rounding of the results: the kernel's four
  calls go over blocks of rows and columns, the reference is one product per segment.
-/
module

public import proofs.«01_k».proof.Defs
public import proofs.«01_k».proof.Proof.Gen.FwdKernelIdeal.Frame
public import proofs.«01_k».proof.Proof.Gen.FwdReferenceIdeal.Run
public import Idealize.ShloMosaic.Lib.Pointwise
public import Idealize.ShloMosaic.Lib.Pipeline.ValueKit.Geometry
public import Idealize.ShloMosaic.Lib.Pipeline.Value
public import Idealize.ShloMosaic.Lib.Tactic
public import Idealize.ShloMosaic.Lib.Quiescent

@[expose] public section

set_option maxRecDepth 16384

noncomputable section

namespace Cert.FwdKernelIdeal.Own

open Cert.FwdKernelIdeal Cert.FwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem hz : (![0, 0] : Fin 2 → Nat) = fun _ => 0 := funext fun a => by fin_cases a <;> rfl

/-- A product of two arrays. -/
def nn {p q n : ℕ} (A : Vec Ideal ⟨2, ![p, n]⟩ .bf16) (B : Vec Ideal ⟨2, ![n, q]⟩ .bf16) : Vec Ideal ⟨2, ![p, q]⟩ .bf16 := fun i =>
  ∑ k : Fin n, A (ix2 (i 0) k) * B (ix2 k (i 1))

theorem nn_congr {p p' q q' n : ℕ} {A : Vec Ideal ⟨2, ![p, n]⟩ .bf16} {B : Vec Ideal ⟨2, ![n, q]⟩ .bf16}
    {A' : Vec Ideal ⟨2, ![p', n]⟩ .bf16} {B' : Vec Ideal ⟨2, ![n, q']⟩ .bf16} {a : Fin p} {b : Fin q} {a' : Fin p'} {b' : Fin q'}
    (hA : ∀ k : Fin n, A (ix2 a k) = A' (ix2 a' k)) (hB : ∀ k : Fin n, B (ix2 k b) = B' (ix2 k b')) :
    nn A B (ix2 a b) = nn A' B' (ix2 a' b') := by
  unfold nn
  exact Finset.sum_congr rfl fun k _ => congrArg₂ (· * ·) (hA k) (hB k)

/-! ### What each call's body leaves -/

theorem body0_0 (x0 : Vec Ideal S1024x1024 .bf16) (x1 : Vec Ideal S1024x384 .bf16) (x2 : Vec Ideal S1024x256 .bf16) (x3 : Vec Ideal S1024x128 .bf16) (x4 : Vec Ideal S1024x512 .bf16) (x5 : Vec Ideal S1024x128 .bf16) (x6 : Vec Ideal S1024x512 .bf16) (x7 : Vec Ideal S1024x512 .bf16)
    (a : Fin 1024) (b : Fin 384) : out0_8 x0 x1 x2 x3 x4 x5 x6 x7 (ix2 a b) = nn x0 x1 (ix2 a b) := by
  unfold out0_8
  rw [View.canon_unit_zero hz]
  simp only [View.ld_unit_zero (S := S1024x1024) hz, View.ld_unit_zero (S := S1024x384) hz]
  pointwise [k0_pay2, nn]

theorem body0_1 (x0 : Vec Ideal S1024x1024 .bf16) (x1 : Vec Ideal S1024x384 .bf16) (x2 : Vec Ideal S1024x256 .bf16) (x3 : Vec Ideal S1024x128 .bf16) (x4 : Vec Ideal S1024x512 .bf16) (x5 : Vec Ideal S1024x128 .bf16) (x6 : Vec Ideal S1024x512 .bf16) (x7 : Vec Ideal S1024x512 .bf16)
    (a : Fin 1024) (b : Fin 256) : out0_9 x0 x1 x2 x3 x4 x5 x6 x7 (ix2 a b) = nn x0 x2 (ix2 a b) := by
  unfold out0_9
  rw [View.canon_unit_zero hz]
  simp only [View.ld_unit_zero (S := S1024x1024) hz, View.ld_unit_zero (S := S1024x256) hz]
  pointwise [k0_pay3, nn]

theorem body0_2 (x0 : Vec Ideal S1024x1024 .bf16) (x1 : Vec Ideal S1024x384 .bf16) (x2 : Vec Ideal S1024x256 .bf16) (x3 : Vec Ideal S1024x128 .bf16) (x4 : Vec Ideal S1024x512 .bf16) (x5 : Vec Ideal S1024x128 .bf16) (x6 : Vec Ideal S1024x512 .bf16) (x7 : Vec Ideal S1024x512 .bf16)
    (a : Fin 1024) (b : Fin 128) : out0_10 x0 x1 x2 x3 x4 x5 x6 x7 (ix2 a b) = nn x0 x3 (ix2 a b) := by
  unfold out0_10
  rw [View.canon_unit_zero hz]
  simp only [View.ld_unit_zero (S := S1024x1024) hz, View.ld_unit_zero (S := S1024x128) hz]
  pointwise [k0_pay4, nn]

theorem body0_3 (x0 : Vec Ideal S1024x1024 .bf16) (x1 : Vec Ideal S1024x384 .bf16) (x2 : Vec Ideal S1024x256 .bf16) (x3 : Vec Ideal S1024x128 .bf16) (x4 : Vec Ideal S1024x512 .bf16) (x5 : Vec Ideal S1024x128 .bf16) (x6 : Vec Ideal S1024x512 .bf16) (x7 : Vec Ideal S1024x512 .bf16)
    (a : Fin 1024) (b : Fin 512) : out0_11 x0 x1 x2 x3 x4 x5 x6 x7 (ix2 a b) = nn x0 x4 (ix2 a b) := by
  unfold out0_11
  rw [View.canon_unit_zero hz]
  simp only [View.ld_unit_zero (S := S1024x1024) hz, View.ld_unit_zero (S := S1024x512) hz]
  pointwise [k0_pay5, nn]

theorem body0_4 (x0 : Vec Ideal S1024x1024 .bf16) (x1 : Vec Ideal S1024x384 .bf16) (x2 : Vec Ideal S1024x256 .bf16) (x3 : Vec Ideal S1024x128 .bf16) (x4 : Vec Ideal S1024x512 .bf16) (x5 : Vec Ideal S1024x128 .bf16) (x6 : Vec Ideal S1024x512 .bf16) (x7 : Vec Ideal S1024x512 .bf16)
    (a : Fin 1024) (b : Fin 128) : out0_12 x0 x1 x2 x3 x4 x5 x6 x7 (ix2 a b) = nn x0 x5 (ix2 a b) := by
  unfold out0_12
  rw [View.canon_unit_zero hz]
  simp only [View.ld_unit_zero (S := S1024x1024) hz, View.ld_unit_zero (S := S1024x128) hz]
  pointwise [k0_pay6, nn]

theorem body0_5 (x0 : Vec Ideal S1024x1024 .bf16) (x1 : Vec Ideal S1024x384 .bf16) (x2 : Vec Ideal S1024x256 .bf16) (x3 : Vec Ideal S1024x128 .bf16) (x4 : Vec Ideal S1024x512 .bf16) (x5 : Vec Ideal S1024x128 .bf16) (x6 : Vec Ideal S1024x512 .bf16) (x7 : Vec Ideal S1024x512 .bf16)
    (a : Fin 1024) (b : Fin 512) : out0_13 x0 x1 x2 x3 x4 x5 x6 x7 (ix2 a b) = nn x0 x6 (ix2 a b) := by
  unfold out0_13
  rw [View.canon_unit_zero hz]
  simp only [View.ld_unit_zero (S := S1024x1024) hz, View.ld_unit_zero (S := S1024x512) hz]
  pointwise [k0_pay7, nn]

theorem body0_6 (x0 : Vec Ideal S1024x1024 .bf16) (x1 : Vec Ideal S1024x384 .bf16) (x2 : Vec Ideal S1024x256 .bf16) (x3 : Vec Ideal S1024x128 .bf16) (x4 : Vec Ideal S1024x512 .bf16) (x5 : Vec Ideal S1024x128 .bf16) (x6 : Vec Ideal S1024x512 .bf16) (x7 : Vec Ideal S1024x512 .bf16)
    (a : Fin 1024) (b : Fin 512) : out0_14 x0 x1 x2 x3 x4 x5 x6 x7 (ix2 a b) = nn x0 x7 (ix2 a b) := by
  unfold out0_14
  rw [View.canon_unit_zero hz]
  simp only [View.ld_unit_zero (S := S1024x1024) hz, View.ld_unit_zero (S := S1024x512) hz]
  pointwise [k0_pay1, nn]

theorem body1 (x0 : Vec Ideal S1024x1024 .bf16) (x1 : Vec Ideal S1024x1536 .bf16) (a : Fin 1024) (b : Fin 1536) :
    out1_2 x0 x1 (ix2 a b) = nn x0 x1 (ix2 a b) := by
  unfold out1_2
  rw [View.canon_unit_zero hz]
  simp only [View.ld_unit_zero (S := S1024x1024) hz, View.ld_unit_zero (S := S1024x1536) hz]
  pointwise [k1_pay1, nn]

theorem body2 (x0 : Vec Ideal S1024x1024 .bf16) (x1 : Vec Ideal S1024x1536 .bf16) (a : Fin 1024) (b : Fin 1536) :
    out2_2 x0 x1 (ix2 a b) = nn x0 x1 (ix2 a b) := by
  unfold out2_2
  rw [View.canon_unit_zero hz]
  simp only [View.ld_unit_zero (S := S1024x1024) hz, View.ld_unit_zero (S := S1024x1536) hz]
  pointwise [k2_pay1, nn]

theorem body3 (x0 : Vec Ideal S1024x1024 .bf16) (x1 : Vec Ideal S1024x1536 .bf16) (a : Fin 1024) (b : Fin 1536) :
    out3_2 x0 x1 (ix2 a b) = nn x0 x1 (ix2 a b) := by
  unfold out3_2
  rw [View.canon_unit_zero hz]
  simp only [View.ld_unit_zero (S := S1024x1024) hz, View.ld_unit_zero (S := S1024x1536) hz]
  pointwise [k3_pay1, nn]

/-! ### What each call leaves in its results -/

section Calls

variable (V : (c : Dev nD) → (b : Ref sig .tc) → Buf (Elt Ideal) ((c : Thread nD τ).loc b)) (c : Dev nD)

theorem lt0 (t : Fin cfg0.N) : t.val < 4 := Nat.lt_of_lt_of_eq t.isLt N_0

theorem blk0_0 (t : Fin cfg0.N) (a b : Fin 1024) :
    iblk0 V c 0 t (ix2 a b) = (V c main_arg0 : Vec Ideal S4096x1024 .bf16) (ix2 (⟨t.val * 1024 + a.val, by have := lt0 t; omega⟩ : Fin 4096) b) := by
  have e : win0_0.index t = ![t.val, 0] := (by decide +kernel : ∀ t : Fin grid0.N, win0_0.index t = ![t.val, 0]) t
  blk_simp [iblk0]
  refine congrArg (V c main_arg0) ?_
  blk_ext [e]

theorem blk0_1 (t : Fin cfg0.N) (a : Fin 1024) (b : Fin 384) :
    iblk0 V c 1 t (ix2 a b) = (V c main_arg1 : Vec Ideal S1024x384 .bf16) (ix2 (a : Fin 1024) b) := by
  have e : win0_1.index t = ![0, 0] := (by decide +kernel : ∀ t : Fin grid0.N, win0_1.index t = ![0, 0]) t
  blk_simp [iblk0]
  refine congrArg (V c main_arg1) ?_
  blk_ext [e]

theorem call0_0 : (dat0 V c).arrAt 8 cfg0.N
    = nn (V c main_arg0 : Vec Ideal S4096x1024 .bf16) (V c main_arg1 : Vec Ideal S1024x384 .bf16) := by
  refine (dat0 V c).arrAt_eq_of_covers 8 _ (by decide +kernel) fun t hf y => ?_
  have e : win0_8.index t = ![t.val, 0] := (by decide +kernel : ∀ t : Fin grid0.N, win0_8.index t = ![t.val, 0]) t
  blk_simp
  obtain ⟨a, b, rfl⟩ : ∃ a b, y = ix2 a b := ⟨y 0, y 1, by idx_vars y⟩
  rw [after0_8, body0_0]
  refine Eq.trans ?_ (congrArg (nn (V c main_arg0 : Vec Ideal S4096x1024 .bf16) (V c main_arg1 : Vec Ideal S1024x384 .bf16))
    (?_ : (ix2 (⟨t.val * 1024 + a.val, by have := lt0 t; omega⟩ : Fin 4096) (b : Fin 384) : S4096x384.Idx) = _))
  · exact nn_congr (blk0_0 V c t a) (blk0_1 V c t · b)
  · blk_ext [e]

theorem blk0_2 (t : Fin cfg0.N) (a : Fin 1024) (b : Fin 256) :
    iblk0 V c 2 t (ix2 a b) = (V c main_arg2 : Vec Ideal S1024x256 .bf16) (ix2 (a : Fin 1024) b) := by
  have e : win0_2.index t = ![0, 0] := (by decide +kernel : ∀ t : Fin grid0.N, win0_2.index t = ![0, 0]) t
  blk_simp [iblk0]
  refine congrArg (V c main_arg2) ?_
  blk_ext [e]

theorem call0_1 : (dat0 V c).arrAt 9 cfg0.N
    = nn (V c main_arg0 : Vec Ideal S4096x1024 .bf16) (V c main_arg2 : Vec Ideal S1024x256 .bf16) := by
  refine (dat0 V c).arrAt_eq_of_covers 9 _ (by decide +kernel) fun t hf y => ?_
  have e : win0_9.index t = ![t.val, 0] := (by decide +kernel : ∀ t : Fin grid0.N, win0_9.index t = ![t.val, 0]) t
  blk_simp
  obtain ⟨a, b, rfl⟩ : ∃ a b, y = ix2 a b := ⟨y 0, y 1, by idx_vars y⟩
  rw [after0_9, body0_1]
  refine Eq.trans ?_ (congrArg (nn (V c main_arg0 : Vec Ideal S4096x1024 .bf16) (V c main_arg2 : Vec Ideal S1024x256 .bf16))
    (?_ : (ix2 (⟨t.val * 1024 + a.val, by have := lt0 t; omega⟩ : Fin 4096) (b : Fin 256) : S4096x256.Idx) = _))
  · exact nn_congr (blk0_0 V c t a) (blk0_2 V c t · b)
  · blk_ext [e]

theorem blk0_3 (t : Fin cfg0.N) (a : Fin 1024) (b : Fin 128) :
    iblk0 V c 3 t (ix2 a b) = (V c main_arg3 : Vec Ideal S1024x128 .bf16) (ix2 (a : Fin 1024) b) := by
  have e : win0_3.index t = ![0, 0] := (by decide +kernel : ∀ t : Fin grid0.N, win0_3.index t = ![0, 0]) t
  blk_simp [iblk0]
  refine congrArg (V c main_arg3) ?_
  blk_ext [e]

theorem call0_2 : (dat0 V c).arrAt 10 cfg0.N
    = nn (V c main_arg0 : Vec Ideal S4096x1024 .bf16) (V c main_arg3 : Vec Ideal S1024x128 .bf16) := by
  refine (dat0 V c).arrAt_eq_of_covers 10 _ (by decide +kernel) fun t hf y => ?_
  have e : win0_10.index t = ![t.val, 0] := (by decide +kernel : ∀ t : Fin grid0.N, win0_10.index t = ![t.val, 0]) t
  blk_simp
  obtain ⟨a, b, rfl⟩ : ∃ a b, y = ix2 a b := ⟨y 0, y 1, by idx_vars y⟩
  rw [after0_10, body0_2]
  refine Eq.trans ?_ (congrArg (nn (V c main_arg0 : Vec Ideal S4096x1024 .bf16) (V c main_arg3 : Vec Ideal S1024x128 .bf16))
    (?_ : (ix2 (⟨t.val * 1024 + a.val, by have := lt0 t; omega⟩ : Fin 4096) (b : Fin 128) : S4096x128.Idx) = _))
  · exact nn_congr (blk0_0 V c t a) (blk0_3 V c t · b)
  · blk_ext [e]

theorem blk0_4 (t : Fin cfg0.N) (a : Fin 1024) (b : Fin 512) :
    iblk0 V c 4 t (ix2 a b) = (V c main_arg4 : Vec Ideal S1024x512 .bf16) (ix2 (a : Fin 1024) b) := by
  have e : win0_4.index t = ![0, 0] := (by decide +kernel : ∀ t : Fin grid0.N, win0_4.index t = ![0, 0]) t
  blk_simp [iblk0]
  refine congrArg (V c main_arg4) ?_
  blk_ext [e]

theorem call0_3 : (dat0 V c).arrAt 11 cfg0.N
    = nn (V c main_arg0 : Vec Ideal S4096x1024 .bf16) (V c main_arg4 : Vec Ideal S1024x512 .bf16) := by
  refine (dat0 V c).arrAt_eq_of_covers 11 _ (by decide +kernel) fun t hf y => ?_
  have e : win0_11.index t = ![t.val, 0] := (by decide +kernel : ∀ t : Fin grid0.N, win0_11.index t = ![t.val, 0]) t
  blk_simp
  obtain ⟨a, b, rfl⟩ : ∃ a b, y = ix2 a b := ⟨y 0, y 1, by idx_vars y⟩
  rw [after0_11, body0_3]
  refine Eq.trans ?_ (congrArg (nn (V c main_arg0 : Vec Ideal S4096x1024 .bf16) (V c main_arg4 : Vec Ideal S1024x512 .bf16))
    (?_ : (ix2 (⟨t.val * 1024 + a.val, by have := lt0 t; omega⟩ : Fin 4096) (b : Fin 512) : S4096x512.Idx) = _))
  · exact nn_congr (blk0_0 V c t a) (blk0_4 V c t · b)
  · blk_ext [e]

theorem blk0_5 (t : Fin cfg0.N) (a : Fin 1024) (b : Fin 128) :
    iblk0 V c 5 t (ix2 a b) = (V c main_arg6 : Vec Ideal S1024x128 .bf16) (ix2 (a : Fin 1024) b) := by
  have e : win0_5.index t = ![0, 0] := (by decide +kernel : ∀ t : Fin grid0.N, win0_5.index t = ![0, 0]) t
  blk_simp [iblk0]
  refine congrArg (V c main_arg6) ?_
  blk_ext [e]

theorem call0_4 : (dat0 V c).arrAt 12 cfg0.N
    = nn (V c main_arg0 : Vec Ideal S4096x1024 .bf16) (V c main_arg6 : Vec Ideal S1024x128 .bf16) := by
  refine (dat0 V c).arrAt_eq_of_covers 12 _ (by decide +kernel) fun t hf y => ?_
  have e : win0_12.index t = ![t.val, 0] := (by decide +kernel : ∀ t : Fin grid0.N, win0_12.index t = ![t.val, 0]) t
  blk_simp
  obtain ⟨a, b, rfl⟩ : ∃ a b, y = ix2 a b := ⟨y 0, y 1, by idx_vars y⟩
  rw [after0_12, body0_4]
  refine Eq.trans ?_ (congrArg (nn (V c main_arg0 : Vec Ideal S4096x1024 .bf16) (V c main_arg6 : Vec Ideal S1024x128 .bf16))
    (?_ : (ix2 (⟨t.val * 1024 + a.val, by have := lt0 t; omega⟩ : Fin 4096) (b : Fin 128) : S4096x128.Idx) = _))
  · exact nn_congr (blk0_0 V c t a) (blk0_5 V c t · b)
  · blk_ext [e]

theorem blk0_6 (t : Fin cfg0.N) (a : Fin 1024) (b : Fin 512) :
    iblk0 V c 6 t (ix2 a b) = (V c main_arg7 : Vec Ideal S1024x512 .bf16) (ix2 (a : Fin 1024) b) := by
  have e : win0_6.index t = ![0, 0] := (by decide +kernel : ∀ t : Fin grid0.N, win0_6.index t = ![0, 0]) t
  blk_simp [iblk0]
  refine congrArg (V c main_arg7) ?_
  blk_ext [e]

theorem call0_5 : (dat0 V c).arrAt 13 cfg0.N
    = nn (V c main_arg0 : Vec Ideal S4096x1024 .bf16) (V c main_arg7 : Vec Ideal S1024x512 .bf16) := by
  refine (dat0 V c).arrAt_eq_of_covers 13 _ (by decide +kernel) fun t hf y => ?_
  have e : win0_13.index t = ![t.val, 0] := (by decide +kernel : ∀ t : Fin grid0.N, win0_13.index t = ![t.val, 0]) t
  blk_simp
  obtain ⟨a, b, rfl⟩ : ∃ a b, y = ix2 a b := ⟨y 0, y 1, by idx_vars y⟩
  rw [after0_13, body0_5]
  refine Eq.trans ?_ (congrArg (nn (V c main_arg0 : Vec Ideal S4096x1024 .bf16) (V c main_arg7 : Vec Ideal S1024x512 .bf16))
    (?_ : (ix2 (⟨t.val * 1024 + a.val, by have := lt0 t; omega⟩ : Fin 4096) (b : Fin 512) : S4096x512.Idx) = _))
  · exact nn_congr (blk0_0 V c t a) (blk0_6 V c t · b)
  · blk_ext [e]

theorem blk0_7 (t : Fin cfg0.N) (a : Fin 1024) (b : Fin 512) :
    iblk0 V c 7 t (ix2 a b) = (V c main_arg9 : Vec Ideal S1024x512 .bf16) (ix2 (a : Fin 1024) b) := by
  have e : win0_7.index t = ![0, 0] := (by decide +kernel : ∀ t : Fin grid0.N, win0_7.index t = ![0, 0]) t
  blk_simp [iblk0]
  refine congrArg (V c main_arg9) ?_
  blk_ext [e]

theorem call0_6 : (dat0 V c).arrAt 14 cfg0.N
    = nn (V c main_arg0 : Vec Ideal S4096x1024 .bf16) (V c main_arg9 : Vec Ideal S1024x512 .bf16) := by
  refine (dat0 V c).arrAt_eq_of_covers 14 _ (by decide +kernel) fun t hf y => ?_
  have e : win0_14.index t = ![t.val, 0] := (by decide +kernel : ∀ t : Fin grid0.N, win0_14.index t = ![t.val, 0]) t
  blk_simp
  obtain ⟨a, b, rfl⟩ : ∃ a b, y = ix2 a b := ⟨y 0, y 1, by idx_vars y⟩
  rw [after0_14, body0_6]
  refine Eq.trans ?_ (congrArg (nn (V c main_arg0 : Vec Ideal S4096x1024 .bf16) (V c main_arg9 : Vec Ideal S1024x512 .bf16))
    (?_ : (ix2 (⟨t.val * 1024 + a.val, by have := lt0 t; omega⟩ : Fin 4096) (b : Fin 512) : S4096x512.Idx) = _))
  · exact nn_congr (blk0_0 V c t a) (blk0_7 V c t · b)
  · blk_ext [e]

theorem lt1 (t : Fin cfg1.N) : t.val < 4 := Nat.lt_of_lt_of_eq t.isLt N_1

theorem blk1_0 (t : Fin cfg1.N) (a b : Fin 1024) :
    iblk1 V c 0 t (ix2 a b) = (V c main_arg0 : Vec Ideal S4096x1024 .bf16) (ix2 (⟨t.val / 1 * 1024 + a.val, by have := lt1 t; omega⟩ : Fin 4096) b) := by
  have e : win1_0.index t = ![t.val / 1, 0] := (by decide +kernel : ∀ t : Fin grid1.N, win1_0.index t = ![t.val / 1, 0]) t
  blk_simp [iblk1]
  refine congrArg (V c main_arg0) ?_
  blk_ext [e]

theorem blk1_1 (t : Fin cfg1.N) (a : Fin 1024) (b : Fin 1536) :
    iblk1 V c 1 t (ix2 a b) = (V c main_arg5 : Vec Ideal S1024x1536 .bf16) (ix2 (a : Fin 1024) (⟨t.val % 1 * 1536 + b.val, by omega⟩ : Fin 1536)) := by
  have e : win1_1.index t = ![0, t.val % 1] := (by decide +kernel : ∀ t : Fin grid1.N, win1_1.index t = ![0, t.val % 1]) t
  blk_simp [iblk1]
  refine congrArg (V c main_arg5) ?_
  blk_ext [e]

theorem call1 : (dat1 V c).arrAt 2 cfg1.N
    = nn (V c main_arg0 : Vec Ideal S4096x1024 .bf16) (V c main_arg5 : Vec Ideal S1024x1536 .bf16) := by
  refine (dat1 V c).arrAt_eq_of_covers 2 _ (by decide +kernel) fun t hf y => ?_
  have e : win1_2.index t = ![t.val / 1, t.val % 1] := (by decide +kernel : ∀ t : Fin grid1.N, win1_2.index t = ![t.val / 1, t.val % 1]) t
  blk_simp
  obtain ⟨a, b, rfl⟩ : ∃ a b, y = ix2 a b := ⟨y 0, y 1, by idx_vars y⟩
  rw [after1_2, body1]
  refine Eq.trans ?_ (congrArg (nn (V c main_arg0 : Vec Ideal S4096x1024 .bf16) (V c main_arg5 : Vec Ideal S1024x1536 .bf16))
    (?_ : (ix2 (⟨t.val / 1 * 1024 + a.val, by have := lt1 t; omega⟩ : Fin 4096) (⟨t.val % 1 * 1536 + b.val, by omega⟩ : Fin 1536) : S4096x1536.Idx) = _))
  · exact nn_congr (blk1_0 V c t a) (blk1_1 V c t · b)
  · blk_ext [e]

theorem lt2 (t : Fin cfg2.N) : t.val < 12 := Nat.lt_of_lt_of_eq t.isLt N_2

theorem blk2_0 (t : Fin cfg2.N) (a b : Fin 1024) :
    iblk2 V c 0 t (ix2 a b) = (V c main_arg0 : Vec Ideal S4096x1024 .bf16) (ix2 (⟨t.val / 3 * 1024 + a.val, by have := lt2 t; omega⟩ : Fin 4096) b) := by
  have e : win2_0.index t = ![t.val / 3, 0] := (by decide +kernel : ∀ t : Fin grid2.N, win2_0.index t = ![t.val / 3, 0]) t
  blk_simp [iblk2]
  refine congrArg (V c main_arg0) ?_
  blk_ext [e]

theorem blk2_1 (t : Fin cfg2.N) (a : Fin 1024) (b : Fin 1536) :
    iblk2 V c 1 t (ix2 a b) = (V c main_arg8 : Vec Ideal S1024x4608 .bf16) (ix2 (a : Fin 1024) (⟨t.val % 3 * 1536 + b.val, by omega⟩ : Fin 4608)) := by
  have e : win2_1.index t = ![0, t.val % 3] := (by decide +kernel : ∀ t : Fin grid2.N, win2_1.index t = ![0, t.val % 3]) t
  blk_simp [iblk2]
  refine congrArg (V c main_arg8) ?_
  blk_ext [e]

theorem call2 : (dat2 V c).arrAt 2 cfg2.N
    = nn (V c main_arg0 : Vec Ideal S4096x1024 .bf16) (V c main_arg8 : Vec Ideal S1024x4608 .bf16) := by
  refine (dat2 V c).arrAt_eq_of_covers 2 _ (by decide +kernel) fun t hf y => ?_
  have e : win2_2.index t = ![t.val / 3, t.val % 3] := (by decide +kernel : ∀ t : Fin grid2.N, win2_2.index t = ![t.val / 3, t.val % 3]) t
  blk_simp
  obtain ⟨a, b, rfl⟩ : ∃ a b, y = ix2 a b := ⟨y 0, y 1, by idx_vars y⟩
  rw [after2_2, body2]
  refine Eq.trans ?_ (congrArg (nn (V c main_arg0 : Vec Ideal S4096x1024 .bf16) (V c main_arg8 : Vec Ideal S1024x4608 .bf16))
    (?_ : (ix2 (⟨t.val / 3 * 1024 + a.val, by have := lt2 t; omega⟩ : Fin 4096) (⟨t.val % 3 * 1536 + b.val, by omega⟩ : Fin 4608) : S4096x4608.Idx) = _))
  · exact nn_congr (blk2_0 V c t a) (blk2_1 V c t · b)
  · blk_ext [e]

theorem lt3 (t : Fin cfg3.N) : t.val < 8 := Nat.lt_of_lt_of_eq t.isLt N_3

theorem blk3_0 (t : Fin cfg3.N) (a b : Fin 1024) :
    iblk3 V c 0 t (ix2 a b) = (V c main_arg0 : Vec Ideal S4096x1024 .bf16) (ix2 (⟨t.val / 2 * 1024 + a.val, by have := lt3 t; omega⟩ : Fin 4096) b) := by
  have e : win3_0.index t = ![t.val / 2, 0] := (by decide +kernel : ∀ t : Fin grid3.N, win3_0.index t = ![t.val / 2, 0]) t
  blk_simp [iblk3]
  refine congrArg (V c main_arg0) ?_
  blk_ext [e]

theorem blk3_1 (t : Fin cfg3.N) (a : Fin 1024) (b : Fin 1536) :
    iblk3 V c 1 t (ix2 a b) = (V c main_arg10 : Vec Ideal S1024x3072 .bf16) (ix2 (a : Fin 1024) (⟨t.val % 2 * 1536 + b.val, by omega⟩ : Fin 3072)) := by
  have e : win3_1.index t = ![0, t.val % 2] := (by decide +kernel : ∀ t : Fin grid3.N, win3_1.index t = ![0, t.val % 2]) t
  blk_simp [iblk3]
  refine congrArg (V c main_arg10) ?_
  blk_ext [e]

theorem call3 : (dat3 V c).arrAt 2 cfg3.N
    = nn (V c main_arg0 : Vec Ideal S4096x1024 .bf16) (V c main_arg10 : Vec Ideal S1024x3072 .bf16) := by
  refine (dat3 V c).arrAt_eq_of_covers 2 _ (by decide +kernel) fun t hf y => ?_
  have e : win3_2.index t = ![t.val / 2, t.val % 2] := (by decide +kernel : ∀ t : Fin grid3.N, win3_2.index t = ![t.val / 2, t.val % 2]) t
  blk_simp
  obtain ⟨a, b, rfl⟩ : ∃ a b, y = ix2 a b := ⟨y 0, y 1, by idx_vars y⟩
  rw [after3_2, body3]
  refine Eq.trans ?_ (congrArg (nn (V c main_arg0 : Vec Ideal S4096x1024 .bf16) (V c main_arg10 : Vec Ideal S1024x3072 .bf16))
    (?_ : (ix2 (⟨t.val / 2 * 1024 + a.val, by have := lt3 t; omega⟩ : Fin 4096) (⟨t.val % 2 * 1536 + b.val, by omega⟩ : Fin 3072) : S4096x3072.Idx) = _))
  · exact nn_congr (blk3_0 V c t a) (blk3_1 V c t · b)
  · blk_ext [e]

end Calls

/-! ### The run -/

section Run

variable {F : FTy → Type} [FloatOps F] (m : (ℓ : Loc nD τ sig) → Buf (Elt F) ℓ) (ρ : Dev nD → PrngReg)

set_option backward.isDefEq.respectTransparency.types false in
/-- The four calls one after the other: each result ends with what its call leaves, the arguments as they were. -/
theorem run : θ_run defs (onTc (τ := τ) (main (F := F))) ⟨m, fun _ => 0, ρ⟩ (fun r => ∀ c : Dev nD,
      r.2.mem ((c : Thread nD τ).loc main_v0_0) = W4 m ρ c (Proc.devRef .tc main_v0_0)
      ∧ r.2.mem ((c : Thread nD τ).loc main_v0_1) = W4 m ρ c (Proc.devRef .tc main_v0_1)
      ∧ r.2.mem ((c : Thread nD τ).loc main_v0_2) = W4 m ρ c (Proc.devRef .tc main_v0_2)
      ∧ r.2.mem ((c : Thread nD τ).loc main_v0_3) = W4 m ρ c (Proc.devRef .tc main_v0_3)
      ∧ r.2.mem ((c : Thread nD τ).loc main_v1) = W4 m ρ c (Proc.devRef .tc main_v1)
      ∧ r.2.mem ((c : Thread nD τ).loc main_v0_4) = W4 m ρ c (Proc.devRef .tc main_v0_4)
      ∧ r.2.mem ((c : Thread nD τ).loc main_v0_5) = W4 m ρ c (Proc.devRef .tc main_v0_5)
      ∧ r.2.mem ((c : Thread nD τ).loc main_v2) = W4 m ρ c (Proc.devRef .tc main_v2)
      ∧ r.2.mem ((c : Thread nD τ).loc main_v0_6) = W4 m ρ c (Proc.devRef .tc main_v0_6)
      ∧ r.2.mem ((c : Thread nD τ).loc main_v3) = W4 m ρ c (Proc.devRef .tc main_v3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => BI.emp)
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v0_0 (by decide)),
       h c _ (mem_uc main_v0_1 (by decide)),
       h c _ (mem_uc main_v0_2 (by decide)),
       h c _ (mem_uc main_v0_3 (by decide)),
       h c _ (mem_uc main_v1 (by decide)),
       h c _ (mem_uc main_v0_4 (by decide)),
       h c _ (mem_uc main_v0_5 (by decide)),
       h c _ (mem_uc main_v2 (by decide)),
       h c _ (mem_uc main_v0_6 (by decide)),
       h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Run

section Value

variable (m : (ℓ : Loc nD τ sig) → Buf (Elt Ideal) ℓ) (ρ : Dev nD → PrngReg) (c : Dev nD)

theorem value0 : W4 m ρ c (Proc.devRef .tc main_v0_0)
    = nn (m ((c : Thread nD τ).loc main_arg0) : Vec Ideal S4096x1024 .bf16) (m ((c : Thread nD τ).loc main_arg1) : Vec Ideal S1024x384 .bf16) := by
  have h : V0 m ρ c main_arg0 = m ((c : Thread nD τ).loc main_arg0) := W0_args m ρ c main_arg0 (by simp)
  have k : V0 m ρ c main_arg1 = m ((c : Thread nD τ).loc main_arg1) := W0_args m ρ c main_arg1 (by simp)
  rw [← h, ← k]
  exact (W4_of m ρ c main_v0_0 (by decide +kernel)).trans ((W3_of m ρ c main_v0_0 (by decide +kernel)).trans ((W2_of m ρ c main_v0_0 (by decide +kernel)).trans ((W1_arr m ρ c 8).trans (call0_0 (V0 m ρ) c))))

theorem value1 : W4 m ρ c (Proc.devRef .tc main_v0_1)
    = nn (m ((c : Thread nD τ).loc main_arg0) : Vec Ideal S4096x1024 .bf16) (m ((c : Thread nD τ).loc main_arg2) : Vec Ideal S1024x256 .bf16) := by
  have h : V0 m ρ c main_arg0 = m ((c : Thread nD τ).loc main_arg0) := W0_args m ρ c main_arg0 (by simp)
  have k : V0 m ρ c main_arg2 = m ((c : Thread nD τ).loc main_arg2) := W0_args m ρ c main_arg2 (by simp)
  rw [← h, ← k]
  exact (W4_of m ρ c main_v0_1 (by decide +kernel)).trans ((W3_of m ρ c main_v0_1 (by decide +kernel)).trans ((W2_of m ρ c main_v0_1 (by decide +kernel)).trans ((W1_arr m ρ c 9).trans (call0_1 (V0 m ρ) c))))

theorem value2 : W4 m ρ c (Proc.devRef .tc main_v0_2)
    = nn (m ((c : Thread nD τ).loc main_arg0) : Vec Ideal S4096x1024 .bf16) (m ((c : Thread nD τ).loc main_arg3) : Vec Ideal S1024x128 .bf16) := by
  have h : V0 m ρ c main_arg0 = m ((c : Thread nD τ).loc main_arg0) := W0_args m ρ c main_arg0 (by simp)
  have k : V0 m ρ c main_arg3 = m ((c : Thread nD τ).loc main_arg3) := W0_args m ρ c main_arg3 (by simp)
  rw [← h, ← k]
  exact (W4_of m ρ c main_v0_2 (by decide +kernel)).trans ((W3_of m ρ c main_v0_2 (by decide +kernel)).trans ((W2_of m ρ c main_v0_2 (by decide +kernel)).trans ((W1_arr m ρ c 10).trans (call0_2 (V0 m ρ) c))))

theorem value3 : W4 m ρ c (Proc.devRef .tc main_v0_3)
    = nn (m ((c : Thread nD τ).loc main_arg0) : Vec Ideal S4096x1024 .bf16) (m ((c : Thread nD τ).loc main_arg4) : Vec Ideal S1024x512 .bf16) := by
  have h : V0 m ρ c main_arg0 = m ((c : Thread nD τ).loc main_arg0) := W0_args m ρ c main_arg0 (by simp)
  have k : V0 m ρ c main_arg4 = m ((c : Thread nD τ).loc main_arg4) := W0_args m ρ c main_arg4 (by simp)
  rw [← h, ← k]
  exact (W4_of m ρ c main_v0_3 (by decide +kernel)).trans ((W3_of m ρ c main_v0_3 (by decide +kernel)).trans ((W2_of m ρ c main_v0_3 (by decide +kernel)).trans ((W1_arr m ρ c 11).trans (call0_3 (V0 m ρ) c))))

theorem value4 : W4 m ρ c (Proc.devRef .tc main_v1)
    = nn (m ((c : Thread nD τ).loc main_arg0) : Vec Ideal S4096x1024 .bf16) (m ((c : Thread nD τ).loc main_arg5) : Vec Ideal S1024x1536 .bf16) := by
  have h : V1 m ρ c main_arg0 = m ((c : Thread nD τ).loc main_arg0) := W1_args m ρ c main_arg0 (by simp)
  have k : V1 m ρ c main_arg5 = m ((c : Thread nD τ).loc main_arg5) := W1_args m ρ c main_arg5 (by simp)
  rw [← h, ← k]
  exact (W4_of m ρ c main_v1 (by decide +kernel)).trans ((W3_of m ρ c main_v1 (by decide +kernel)).trans ((W2_arr m ρ c 2).trans (call1 (V1 m ρ) c)))

theorem value5 : W4 m ρ c (Proc.devRef .tc main_v0_4)
    = nn (m ((c : Thread nD τ).loc main_arg0) : Vec Ideal S4096x1024 .bf16) (m ((c : Thread nD τ).loc main_arg6) : Vec Ideal S1024x128 .bf16) := by
  have h : V0 m ρ c main_arg0 = m ((c : Thread nD τ).loc main_arg0) := W0_args m ρ c main_arg0 (by simp)
  have k : V0 m ρ c main_arg6 = m ((c : Thread nD τ).loc main_arg6) := W0_args m ρ c main_arg6 (by simp)
  rw [← h, ← k]
  exact (W4_of m ρ c main_v0_4 (by decide +kernel)).trans ((W3_of m ρ c main_v0_4 (by decide +kernel)).trans ((W2_of m ρ c main_v0_4 (by decide +kernel)).trans ((W1_arr m ρ c 12).trans (call0_4 (V0 m ρ) c))))

theorem value6 : W4 m ρ c (Proc.devRef .tc main_v0_5)
    = nn (m ((c : Thread nD τ).loc main_arg0) : Vec Ideal S4096x1024 .bf16) (m ((c : Thread nD τ).loc main_arg7) : Vec Ideal S1024x512 .bf16) := by
  have h : V0 m ρ c main_arg0 = m ((c : Thread nD τ).loc main_arg0) := W0_args m ρ c main_arg0 (by simp)
  have k : V0 m ρ c main_arg7 = m ((c : Thread nD τ).loc main_arg7) := W0_args m ρ c main_arg7 (by simp)
  rw [← h, ← k]
  exact (W4_of m ρ c main_v0_5 (by decide +kernel)).trans ((W3_of m ρ c main_v0_5 (by decide +kernel)).trans ((W2_of m ρ c main_v0_5 (by decide +kernel)).trans ((W1_arr m ρ c 13).trans (call0_5 (V0 m ρ) c))))

theorem value7 : W4 m ρ c (Proc.devRef .tc main_v2)
    = nn (m ((c : Thread nD τ).loc main_arg0) : Vec Ideal S4096x1024 .bf16) (m ((c : Thread nD τ).loc main_arg8) : Vec Ideal S1024x4608 .bf16) := by
  have h : V2 m ρ c main_arg0 = m ((c : Thread nD τ).loc main_arg0) := W2_args m ρ c main_arg0 (by simp)
  have k : V2 m ρ c main_arg8 = m ((c : Thread nD τ).loc main_arg8) := W2_args m ρ c main_arg8 (by simp)
  rw [← h, ← k]
  exact (W4_of m ρ c main_v2 (by decide +kernel)).trans ((W3_arr m ρ c 2).trans (call2 (V2 m ρ) c))

theorem value8 : W4 m ρ c (Proc.devRef .tc main_v0_6)
    = nn (m ((c : Thread nD τ).loc main_arg0) : Vec Ideal S4096x1024 .bf16) (m ((c : Thread nD τ).loc main_arg9) : Vec Ideal S1024x512 .bf16) := by
  have h : V0 m ρ c main_arg0 = m ((c : Thread nD τ).loc main_arg0) := W0_args m ρ c main_arg0 (by simp)
  have k : V0 m ρ c main_arg9 = m ((c : Thread nD τ).loc main_arg9) := W0_args m ρ c main_arg9 (by simp)
  rw [← h, ← k]
  exact (W4_of m ρ c main_v0_6 (by decide +kernel)).trans ((W3_of m ρ c main_v0_6 (by decide +kernel)).trans ((W2_of m ρ c main_v0_6 (by decide +kernel)).trans ((W1_arr m ρ c 14).trans (call0_6 (V0 m ρ) c))))

theorem value9 : W4 m ρ c (Proc.devRef .tc main_v3)
    = nn (m ((c : Thread nD τ).loc main_arg0) : Vec Ideal S4096x1024 .bf16) (m ((c : Thread nD τ).loc main_arg10) : Vec Ideal S1024x3072 .bf16) := by
  have h : V3 m ρ c main_arg0 = m ((c : Thread nD τ).loc main_arg0) := W3_args m ρ c main_arg0 (by simp)
  have k : V3 m ρ c main_arg10 = m ((c : Thread nD τ).loc main_arg10) := W3_args m ρ c main_arg10 (by simp)
  rw [← h, ← k]
  exact (W4_arr m ρ c 2).trans (call3 (V3 m ρ) c)

end Value

theorem term128 (A : Vec Ideal S4096x1024 .bf16) (B : Vec Ideal S1024x128 .bf16) :
    truncf .bf16 (Host.dotGeneral (F := Ideal) (φ₁ := .bf16) (φ₂ := .bf16) Cert.FwdReferenceIdeal.dot_S4096x1024_S1024x128_S4096x128_1_0_0_1_n_n none A B)
      Cert.FwdReferenceIdeal.Gen.bitsLt_bf16_f32 = nn A B := by
  funext i
  obtain ⟨a, b, rfl⟩ : ∃ a b, i = ix2 a b := ⟨i 0, i 1, by idx_vars i⟩
  pointwise [nn]

theorem term256 (A : Vec Ideal S4096x1024 .bf16) (B : Vec Ideal S1024x256 .bf16) :
    truncf .bf16 (Host.dotGeneral (F := Ideal) (φ₁ := .bf16) (φ₂ := .bf16) Cert.FwdReferenceIdeal.dot_S4096x1024_S1024x256_S4096x256_1_0_0_1_n_n none A B)
      Cert.FwdReferenceIdeal.Gen.bitsLt_bf16_f32 = nn A B := by
  funext i
  obtain ⟨a, b, rfl⟩ : ∃ a b, i = ix2 a b := ⟨i 0, i 1, by idx_vars i⟩
  pointwise [nn]

theorem term384 (A : Vec Ideal S4096x1024 .bf16) (B : Vec Ideal S1024x384 .bf16) :
    truncf .bf16 (Host.dotGeneral (F := Ideal) (φ₁ := .bf16) (φ₂ := .bf16) Cert.FwdReferenceIdeal.dot_S4096x1024_S1024x384_S4096x384_1_0_0_1_n_n none A B)
      Cert.FwdReferenceIdeal.Gen.bitsLt_bf16_f32 = nn A B := by
  funext i
  obtain ⟨a, b, rfl⟩ : ∃ a b, i = ix2 a b := ⟨i 0, i 1, by idx_vars i⟩
  pointwise [nn]

theorem term512 (A : Vec Ideal S4096x1024 .bf16) (B : Vec Ideal S1024x512 .bf16) :
    truncf .bf16 (Host.dotGeneral (F := Ideal) (φ₁ := .bf16) (φ₂ := .bf16) Cert.FwdReferenceIdeal.dot_S4096x1024_S1024x512_S4096x512_1_0_0_1_n_n none A B)
      Cert.FwdReferenceIdeal.Gen.bitsLt_bf16_f32 = nn A B := by
  funext i
  obtain ⟨a, b, rfl⟩ : ∃ a b, i = ix2 a b := ⟨i 0, i 1, by idx_vars i⟩
  pointwise [nn]

theorem term1536 (A : Vec Ideal S4096x1024 .bf16) (B : Vec Ideal S1024x1536 .bf16) :
    truncf .bf16 (Host.dotGeneral (F := Ideal) (φ₁ := .bf16) (φ₂ := .bf16) Cert.FwdReferenceIdeal.dot_S4096x1024_S1024x1536_S4096x1536_1_0_0_1_n_n none A B)
      Cert.FwdReferenceIdeal.Gen.bitsLt_bf16_f32 = nn A B := by
  funext i
  obtain ⟨a, b, rfl⟩ : ∃ a b, i = ix2 a b := ⟨i 0, i 1, by idx_vars i⟩
  pointwise [nn]

theorem term3072 (A : Vec Ideal S4096x1024 .bf16) (B : Vec Ideal S1024x3072 .bf16) :
    truncf .bf16 (Host.dotGeneral (F := Ideal) (φ₁ := .bf16) (φ₂ := .bf16) Cert.FwdReferenceIdeal.dot_S4096x1024_S1024x3072_S4096x3072_1_0_0_1_n_n none A B)
      Cert.FwdReferenceIdeal.Gen.bitsLt_bf16_f32 = nn A B := by
  funext i
  obtain ⟨a, b, rfl⟩ : ∃ a b, i = ix2 a b := ⟨i 0, i 1, by idx_vars i⟩
  pointwise [nn]

theorem term4608 (A : Vec Ideal S4096x1024 .bf16) (B : Vec Ideal S1024x4608 .bf16) :
    truncf .bf16 (Host.dotGeneral (F := Ideal) (φ₁ := .bf16) (φ₂ := .bf16) Cert.FwdReferenceIdeal.dot_S4096x1024_S1024x4608_S4096x4608_1_0_0_1_n_n none A B)
      Cert.FwdReferenceIdeal.Gen.bitsLt_bf16_f32 = nn A B := by
  funext i
  obtain ⟨a, b, rfl⟩ : ∃ a b, i = ix2 a b := ⟨i 0, i 1, by idx_vars i⟩
  pointwise [nn]

/-- The kernel's results are the reference's. -/
theorem algebraic : Cert.algebraic_FwdKernelIdeal_FwdReferenceIdeal := by
  intro m ρ m' ρ' _ hagree
  refine ⟨_, _, _, _, _, _, _, _, _, _, run (F := Ideal) m ρ, ?_⟩
  refine (θ_run Cert.FwdReferenceIdeal.defs _ _).mono (fun _ h c => ?_) (Cert.FwdReferenceIdeal.Value.run (F := Ideal) m' ρ')
  obtain ⟨h0, h1, h2, h3, h4, h5, h6, h7, h8, h9, hargs⟩ := h c
  obtain ⟨e0, e1, e2, e3, e4, e5, e6, e7, e8, e9, e10⟩ := hagree c
  refine ⟨?_, ?_, ?_, ?_, ?_, ?_, ?_, ?_, ?_, ?_, hargs⟩
  · rw [h0, value0, ← e0, ← e1]; exact term384 _ _
  · rw [h1, value1, ← e0, ← e2]; exact term256 _ _
  · rw [h2, value2, ← e0, ← e3]; exact term128 _ _
  · rw [h3, value3, ← e0, ← e4]; exact term512 _ _
  · rw [h4, value4, ← e0, ← e5]; exact term1536 _ _
  · rw [h5, value5, ← e0, ← e6]; exact term128 _ _
  · rw [h6, value6, ← e0, ← e7]; exact term512 _ _
  · rw [h7, value7, ← e0, ← e8]; exact term4608 _ _
  · rw [h8, value8, ← e0, ← e9]; exact term512 _ _
  · rw [h9, value9, ← e0, ← e10]; exact term3072 _ _

end Cert.FwdKernelIdeal.Own

end
-- ==== Proof.Ip.Lin.lean ====
/-
  The three products of a linear map, element by element: the map itself, the gradient of its argument and the gradient
  of its weights.
-/
module

public import Idealize.ShloMosaic.Lib.Pointwise

@[expose] public section

noncomputable section

namespace Cert.Proof.Ip

open Idealize.ShloMosaic

variable {p q n p' q' : ℕ}

/-- The map: a row times a column. -/
def nn (A : Shape.Idx ⟨2, ![p, n]⟩ → EReal) (B : Shape.Idx ⟨2, ![n, q]⟩ → EReal) (a : Fin p) (b : Fin q) : EReal :=
  ∑ k : Fin n, A (ix2 a k) * B (ix2 k b)

/-- The gradient of the argument: a row times a row. -/
def nt (A : Shape.Idx ⟨2, ![p, n]⟩ → EReal) (B : Shape.Idx ⟨2, ![q, n]⟩ → EReal) (a : Fin p) (b : Fin q) : EReal :=
  ∑ k : Fin n, A (ix2 a k) * B (ix2 b k)

/-- The gradient of the weights: a column times a column. -/
def tn (A : Shape.Idx ⟨2, ![n, p]⟩ → EReal) (B : Shape.Idx ⟨2, ![n, q]⟩ → EReal) (a : Fin p) (b : Fin q) : EReal :=
  ∑ k : Fin n, A (ix2 k a) * B (ix2 k b)

theorem nn_congr {A : Shape.Idx ⟨2, ![p, n]⟩ → EReal} {B : Shape.Idx ⟨2, ![n, q]⟩ → EReal} {A' : Shape.Idx ⟨2, ![p', n]⟩ → EReal}
    {B' : Shape.Idx ⟨2, ![n, q']⟩ → EReal} {a : Fin p} {b : Fin q} {a' : Fin p'} {b' : Fin q'}
    (hA : ∀ k : Fin n, A (ix2 a k) = A' (ix2 a' k)) (hB : ∀ k : Fin n, B (ix2 k b) = B' (ix2 k b')) : nn A B a b = nn A' B' a' b' :=
  Finset.sum_congr rfl fun k _ => congrArg₂ (· * ·) (hA k) (hB k)

theorem nt_congr {A : Shape.Idx ⟨2, ![p, n]⟩ → EReal} {B : Shape.Idx ⟨2, ![q, n]⟩ → EReal} {A' : Shape.Idx ⟨2, ![p', n]⟩ → EReal}
    {B' : Shape.Idx ⟨2, ![q', n]⟩ → EReal} {a : Fin p} {b : Fin q} {a' : Fin p'} {b' : Fin q'}
    (hA : ∀ k : Fin n, A (ix2 a k) = A' (ix2 a' k)) (hB : ∀ k : Fin n, B (ix2 b k) = B' (ix2 b' k)) : nt A B a b = nt A' B' a' b' :=
  Finset.sum_congr rfl fun k _ => congrArg₂ (· * ·) (hA k) (hB k)

/-- Four blocks of 1024 rows. -/
theorem tn_four (A : Shape.Idx ⟨2, ![4096, p]⟩ → EReal) (B : Shape.Idx ⟨2, ![4096, q]⟩ → EReal) (a : Fin p) (b : Fin q)
    (X : Fin 4 → Shape.Idx ⟨2, ![1024, p']⟩ → EReal) (Y : Fin 4 → Shape.Idx ⟨2, ![1024, q']⟩ → EReal) (a' : Fin p') (b' : Fin q')
    (hX : ∀ (s : Fin 4) (k : Fin 1024), X s (ix2 k a') = A (ix2 (⟨s.val * 1024 + k.val, by omega⟩ : Fin 4096) a))
    (hY : ∀ (s : Fin 4) (k : Fin 1024), Y s (ix2 k b') = B (ix2 (⟨s.val * 1024 + k.val, by omega⟩ : Fin 4096) b)) :
    ((tn (X 0) (Y 0) a' b' + tn (X 1) (Y 1) a' b') + tn (X 2) (Y 2) a' b') + tn (X 3) (Y 3) a' b' = tn A B a b := by
  have h : ∀ s : Fin 4, tn (X s) (Y s) a' b'
      = ∑ k : Fin 1024, A (ix2 (⟨s.val * 1024 + k.val, by omega⟩ : Fin 4096) a) * B (ix2 (⟨s.val * 1024 + k.val, by omega⟩ : Fin 4096) b) :=
    fun s => Finset.sum_congr rfl fun k _ => congrArg₂ (· * ·) (hX s k) (hY s k)
  rw [h, h, h, h]
  unfold tn
  refine Eq.symm ((Fin.sum_univ_add (a := 3072) (b := 1024) _).trans (congrArg₂ (· + ·) ?_ (Finset.sum_congr rfl fun k _ => rfl)))
  refine (Fin.sum_univ_add (a := 2048) (b := 1024) _).trans (congrArg₂ (· + ·) ?_ (Finset.sum_congr rfl fun k _ => rfl))
  refine (Fin.sum_univ_add (a := 1024) (b := 1024) _).trans (congrArg₂ (· + ·) (Finset.sum_congr rfl fun k _ => ?_) (Finset.sum_congr rfl fun k _ => rfl))
  exact congrArg (fun r : Fin 4096 => A (ix2 r a) * B (ix2 r b)) (Fin.ext (by simp))

end Cert.Proof.Ip

end
-- ==== Proof.Ip.BrFwd.lean ====
/-
  The product making a branch's output: the kernel goes over blocks of rows and columns, the reference is one product.
-/
module

public import proofs.«01_k».proof.Defs
public import proofs.«01_k».proof.Proof.Gen.BrFwdKernelIdeal.Value
public import proofs.«01_k».proof.Proof.Gen.BrFwdReferenceIdeal.Run
public import proofs.«01_k».proof.Proof.Ip.Lin
public import Idealize.ShloMosaic.Lib.Pointwise
public import Idealize.ShloMosaic.Lib.Pipeline.ValueKit.Geometry
public import Idealize.ShloMosaic.Lib.Quiescent

@[expose] public section

set_option maxRecDepth 16384

noncomputable section

namespace Cert.BrFwdKernelIdeal.Own

open Cert.Proof.Ip Cert.BrFwdKernelIdeal Cert.BrFwdKernelIdeal.Gen Idealize.ShloMosaic Idealize.ShloMosaic.TcCoe Idealize.SL.Sem

theorem hz : (![0, 0] : Fin 2 → Nat) = fun _ => 0 := funext fun a => by fin_cases a <;> rfl

/-- What the body leaves. -/
theorem body (x0 : Vec Ideal S1024x512 .bf16) (x1 : Vec Ideal S512x512 .bf16) (a : Fin 1024) (b : Fin 512) :
    out0_2 x0 x1 (ix2 a b) = (nn x0 x1 a b : EReal) := by
  unfold out0_2
  rw [View.canon_unit_zero hz]
  simp only [View.ld_unit_zero (S := S1024x512) hz, View.ld_unit_zero (S := S512x512) hz]
  pointwise [k0_pay1, nn]

/-- The result, element by element. -/
def res (A : Vec Ideal S4096x512 .bf16) (B : Vec Ideal S512x1024 .bf16) : Vec Ideal S4096x1024 .f32 := fun i => nn A B (i 0) (i 1)

section Kernel

variable (m : (ℓ : Loc nD τ sig) → Buf (Elt Ideal) ℓ) (c : Dev nD)

theorem lt_points (t : Fin cfg0.N) : t.val < 8 := Nat.lt_of_lt_of_eq t.isLt N_0

theorem blk0 (t : Fin cfg0.N) (a : Fin 1024) (b : Fin 512) :
    iblk m c 0 t (ix2 a b) = (V m c main_arg0 : Vec Ideal S4096x512 .bf16) (ix2 (⟨t.val / 2 * 1024 + a.val, by have := lt_points t; omega⟩ : Fin 4096) (b : Fin 512)) := by
  have e : win0_0.index t = ![t.val / 2, 0] := (by decide +kernel : ∀ t : Fin grid0.N, win0_0.index t = ![t.val / 2, 0]) t
  blk_simp [iblk]
  refine congrArg (V m c main_arg0) ?_
  blk_ext [e]

theorem blk1 (t : Fin cfg0.N) (a : Fin 512) (b : Fin 512) :
    iblk m c 1 t (ix2 a b) = (V m c main_arg1 : Vec Ideal S512x1024 .bf16) (ix2 (a : Fin 512) (⟨t.val % 2 * 512 + b.val, by have := lt_points t; omega⟩ : Fin 1024)) := by
  have e : win0_1.index t = ![0, t.val % 2] := (by decide +kernel : ∀ t : Fin grid0.N, win0_1.index t = ![0, t.val % 2]) t
  blk_simp [iblk]
  refine congrArg (V m c main_arg1) ?_
  blk_ext [e]

/-- The result's array after the run. -/
theorem result : (dats m 0 c).arrAt 2 cfg0.N = res (V m c main_arg0 : Vec Ideal S4096x512 .bf16) (V m c main_arg1 : Vec Ideal S512x1024 .bf16) := by
  refine (dats m 0 c).arrAt_eq_of_covers 2 _ (by decide +kernel) fun t hf y => ?_
  have e : win0_2.index t = ![t.val / 2, t.val % 2] := (by decide +kernel : ∀ t : Fin grid0.N, win0_2.index t = ![t.val / 2, t.val % 2]) t
  blk_simp
  obtain ⟨a, b, rfl⟩ : ∃ a b, y = ix2 a b := ⟨y 0, y 1, by idx_vars y⟩
  rw [after0_2, body]
  refine Eq.trans ?_ (congrArg (res (V m c main_arg0 : Vec Ideal S4096x512 .bf16) (V m c main_arg1 : Vec Ideal S512x1024 .bf16))
    (?_ : (ix2 (⟨t.val / 2 * 1024 + a.val, by have := lt_points t; omega⟩ : Fin 4096) (⟨t.val % 2 * 512 + b.val, by have := lt_points t; omega⟩ : Fin 1024) : S4096x1024.Idx) = _))
  · exact nn_congr (blk0 m c t a) (blk1 m c t · b)
  · blk_ext [e]

end Kernel

/-- The reference's term. -/
theorem reference_eq (A : Vec Ideal S4096x512 .bf16) (B : Vec Ideal S512x1024 .bf16) :
    Host.dotGeneral (F := Ideal) (φ₁ := .bf16) (φ₂ := .bf16) Cert.BrFwdReferenceIdeal.dot_S4096x512_S512x1024_S4096x1024_1_0_0_1_n_n none A B = res A B := by
  funext i
  idx_vars i
  pointwise [res, nn]

/-- The kernel's result is the reference's. -/
theorem algebraic : Cert.algebraic_BrFwdKernelIdeal_BrFwdReferenceIdeal := by
  intro m ρ m' ρ' _ hagree
  refine ⟨_, Cert.BrFwdKernelIdeal.Value.run_blocks (F := Ideal) m ρ, ?_⟩
  refine (θ_run Cert.BrFwdReferenceIdeal.defs _ _).mono (fun _ h c => ⟨?_, (h c).2⟩) (Cert.BrFwdReferenceIdeal.Value.run (F := Ideal) m' ρ')
  obtain ⟨e0, e1⟩ := hagree c
  rw [(h c).1, result]
  refine (reference_eq _ _).trans ?_
  rw [e0, e1]

end Cert.BrFwdKernelIdeal.Own

end
-- ==== Proof.Ip.BrDh.lean ====
/-
  The gradient of the argument of the product making a branch's output: the kernel goes over blocks of rows and columns, the
  reference is one product.
-/
module

public import proofs.«01_k».proof.Defs
public import proofs.«01_k».proof.Proof.Gen.BrDhKernelIdeal.Value
public import proofs.«01_k».proof.Proof.Gen.BrDhReferenceIdeal.Run
public import proofs.«01_k».proof.Proof.Ip.Lin
public import Idealize.ShloMosaic.Lib.Pointwise
public import Idealize.ShloMosaic.Lib.Pipeline.ValueKit.Geometry
public import Idealize.ShloMosaic.Lib.Quiescent

@[expose] public section

set_option maxRecDepth 16384

noncomputable section

namespace Cert.BrDhKernelIdeal.Own

open Cert.Proof.Ip Cert.BrDhKernelIdeal Cert.BrDhKernelIdeal.Gen Idealize.ShloMosaic Idealize.ShloMosaic.TcCoe Idealize.SL.Sem

theorem hz : (![0, 0] : Fin 2 → Nat) = fun _ => 0 := funext fun a => by fin_cases a <;> rfl

/-- What the body leaves. -/
theorem body (x0 : Vec Ideal S1024x1024 .f32) (x1 : Vec Ideal S512x1024 .bf16) (a : Fin 1024) (b : Fin 512) :
    out0_2 x0 x1 (ix2 a b) = (nt x0 x1 a b : EReal) := by
  unfold out0_2
  rw [View.canon_unit_zero hz]
  simp only [View.ld_unit_zero (S := S1024x1024) hz, View.ld_unit_zero (S := S512x1024) hz]
  pointwise [k0_pay1, nt]

/-- The result, element by element. -/
def res (W : Vec Ideal S512x1024 .bf16) (D : Vec Ideal S4096x1024 .f32) : Vec Ideal S4096x512 .bf16 := fun i => nt D W (i 0) (i 1)

section Kernel

variable (m : (ℓ : Loc nD τ sig) → Buf (Elt Ideal) ℓ) (c : Dev nD)

theorem lt_points (t : Fin cfg0.N) : t.val < 4 := Nat.lt_of_lt_of_eq t.isLt N_0

theorem blk0 (t : Fin cfg0.N) (a : Fin 1024) (b : Fin 1024) :
    iblk m c 0 t (ix2 a b) = (V m c main_arg2 : Vec Ideal S4096x1024 .f32) (ix2 (⟨t.val * 1024 + a.val, by have := lt_points t; omega⟩ : Fin 4096) (b : Fin 1024)) := by
  have e : win0_0.index t = ![t.val, 0] := (by decide +kernel : ∀ t : Fin grid0.N, win0_0.index t = ![t.val, 0]) t
  blk_simp [iblk]
  refine congrArg (V m c main_arg2) ?_
  blk_ext [e]

theorem blk1 (t : Fin cfg0.N) (a : Fin 512) (b : Fin 1024) :
    iblk m c 1 t (ix2 a b) = (V m c main_arg1 : Vec Ideal S512x1024 .bf16) (ix2 (a : Fin 512) (b : Fin 1024)) := by
  have e : win0_1.index t = ![0, 0] := (by decide +kernel : ∀ t : Fin grid0.N, win0_1.index t = ![0, 0]) t
  blk_simp [iblk]
  refine congrArg (V m c main_arg1) ?_
  blk_ext [e]

/-- The result's array after the run. -/
theorem result : (dats m 0 c).arrAt 2 cfg0.N = res (V m c main_arg1 : Vec Ideal S512x1024 .bf16) (V m c main_arg2 : Vec Ideal S4096x1024 .f32) := by
  refine (dats m 0 c).arrAt_eq_of_covers 2 _ (by decide +kernel) fun t hf y => ?_
  have e : win0_2.index t = ![t.val, 0] := (by decide +kernel : ∀ t : Fin grid0.N, win0_2.index t = ![t.val, 0]) t
  blk_simp
  obtain ⟨a, b, rfl⟩ : ∃ a b, y = ix2 a b := ⟨y 0, y 1, by idx_vars y⟩
  rw [after0_2, body]
  refine Eq.trans ?_ (congrArg (res (V m c main_arg1 : Vec Ideal S512x1024 .bf16) (V m c main_arg2 : Vec Ideal S4096x1024 .f32))
    (?_ : (ix2 (⟨t.val * 1024 + a.val, by have := lt_points t; omega⟩ : Fin 4096) (b : Fin 512) : S4096x512.Idx) = _))
  · exact nt_congr (blk0 m c t a) (blk1 m c t b)
  · blk_ext [e]

end Kernel

/-- The reference's term. -/
theorem reference_eq (W : Vec Ideal S512x1024 .bf16) (D : Vec Ideal S4096x1024 .f32) :
    truncf .bf16 (Host.dotGeneral (F := Ideal) (φ₁ := .f32) (φ₂ := .bf16) Cert.BrDhReferenceIdeal.dot_S4096x1024_S512x1024_S4096x512_1_1_0_0_n_n none D W)
      Cert.BrDhReferenceIdeal.Gen.bitsLt_bf16_f32 = res W D := by
  funext i
  idx_vars i
  pointwise [res, nt]

/-- The kernel's result is the reference's. -/
theorem algebraic : Cert.algebraic_BrDhKernelIdeal_BrDhReferenceIdeal := by
  intro m ρ m' ρ' _ hagree
  refine ⟨_, Cert.BrDhKernelIdeal.Value.run_blocks (F := Ideal) m ρ, ?_⟩
  refine (θ_run Cert.BrDhReferenceIdeal.defs _ _).mono (fun _ h c => ⟨?_, (h c).2⟩) (Cert.BrDhReferenceIdeal.Value.run (F := Ideal) m' ρ')
  obtain ⟨e0, e1, e2⟩ := hagree c
  rw [(h c).1, result]
  refine (reference_eq _ _).trans ?_
  rw [e1, e2]

end Cert.BrDhKernelIdeal.Own

end
-- ==== Proof.Ip.BrDw.lean ====
/-
  The gradient of the weights of the product making a branch's output: the kernel accumulates four blocks of 1024 rows, the
  reference is one product.
-/
module

public import proofs.«01_k».proof.Defs
public import proofs.«01_k».proof.Proof.Gen.BrDwKernelIdeal.Value
public import proofs.«01_k».proof.Proof.Gen.BrDwReferenceIdeal.Run
public import proofs.«01_k».proof.Proof.Ip.Lin
public import Idealize.ShloMosaic.Lib.Pointwise
public import Idealize.ShloMosaic.Lib.Pipeline.ValueKit.Geometry
public import Idealize.ShloMosaic.Lib.Quiescent

@[expose] public section

set_option maxRecDepth 16384

noncomputable section

namespace Cert.BrDwKernelIdeal.Own

open Cert.Proof.Ip Cert.BrDwKernelIdeal Cert.BrDwKernelIdeal.Gen Idealize.ShloMosaic Idealize.ShloMosaic.TcCoe Idealize.SL.Sem

theorem hz : (![0, 0] : Fin 2 → Nat) = fun _ => 0 := funext fun a => by fin_cases a <;> rfl

section Body

variable {F : FTy → Type} [FloatOps F]

/-- The product of a block of rows. -/
abbrev prod (x0 : Vec F S1024x512 .bf16) (x1 : Vec F S1024x512 .f32) : FVec F S512x512 .f32 :=
  matmul dot_S1024x512_S1024x512_S512x512_0_0_1_1_n_n none x0 (truncf .bf16 x1 bitsLt_bf16_f32) (constant S512x512 .f32 0x00000000#32)

/-- What the first of four points leaves in the accumulator. -/
theorem first_eq (c : Dev nD) (i : grid0.Coords) (a3 : Memref sig .tc .vmem S1024x512 .bf16) (h3 : a3.IsWhole)
    (a4 : Memref sig .tc .vmem S1024x512 .f32) (h4 : a4.IsWhole) (a5 : Memref sig .tc .vmem S512x512 .bf16) (h5 : a5.IsWhole)
    (a6 : Memref sig .tc .vmem S512x512 .f32) (h6 : a6.IsWhole) (c0 : cond0_0 i) (c1 : ¬cond0_1 i) (c2 : ¬cond0_2 i)
    (x0 : Vec F S1024x512 .bf16) (x1 : Vec F S1024x512 .f32) :
    sout0_A_0 c i a3 h3 a4 h4 a5 h5 a6 h6 c0 c1 c2 x0 x1 = prod x0 x1 := by
  unfold sout0_A_0
  rw [View.read_writes_eq_canon _ _ _ (scover0_A_0 c i a3 h3 a4 h4 a5 h5 a6 h6 c0 c1 c2 x0 x1)]
  unfold kernelRun0_A
  dsimp only
  sl_unfold_words
  rw [View.canon_unit_zero hz]
  simp only [View.readAt_eq_ld, h3.read_unread, h4.read_unread, View.ld_unit_zero (S := S1024x512) hz, View.ld_unit_zero (S := S512x512) hz, shapeCast_self]
  unfold k0_pay2 k0_pay1
  simp only [shapeCast_self]

/-- What the second and the third leave there. -/
theorem next_eq (c : Dev nD) (i : grid0.Coords) (a3 : Memref sig .tc .vmem S1024x512 .bf16) (h3 : a3.IsWhole)
    (a4 : Memref sig .tc .vmem S1024x512 .f32) (h4 : a4.IsWhole) (a5 : Memref sig .tc .vmem S512x512 .bf16) (h5 : a5.IsWhole)
    (a6 : Memref sig .tc .vmem S512x512 .f32) (h6 : a6.IsWhole) (c0 : ¬cond0_0 i) (c1 : cond0_1 i) (c2 : ¬cond0_2 i)
    (x0 : Vec F S1024x512 .bf16) (x1 : Vec F S1024x512 .f32) (xs : Vec F S512x512 .f32) :
    sout0_B_0 c i a3 h3 a4 h4 a5 h5 a6 h6 c0 c1 c2 x0 x1 xs = addf xs (prod x0 x1) := by
  unfold sout0_B_0
  rw [View.read_writes_eq_canon _ _ _ (scover0_B_0 c i a3 h3 a4 h4 a5 h5 a6 h6 c0 c1 c2 x0 x1 xs)]
  unfold kernelRun0_B
  dsimp only
  sl_unfold_words
  rw [View.canon_unit_zero hz]
  simp only [View.readAt_eq_ld, h3.read_unread, h4.read_unread, h6.read_unread, View.ld_unit_zero (S := S1024x512) hz, View.ld_unit_zero (S := S512x512) hz, shapeCast_self]
  unfold k0_pay3 k0_pay1
  simp only [shapeCast_self]

/-- What the fourth leaves in the result's block. -/
theorem last_eq (c : Dev nD) (i : grid0.Coords) (a3 : Memref sig .tc .vmem S1024x512 .bf16) (h3 : a3.IsWhole)
    (a4 : Memref sig .tc .vmem S1024x512 .f32) (h4 : a4.IsWhole) (a5 : Memref sig .tc .vmem S512x512 .bf16) (h5 : a5.IsWhole)
    (a6 : Memref sig .tc .vmem S512x512 .f32) (h6 : a6.IsWhole) (c0 : ¬cond0_0 i) (c1 : cond0_1 i) (c2 : cond0_2 i)
    (x0 : Vec F S1024x512 .bf16) (x1 : Vec F S1024x512 .f32) (xs : Vec F S512x512 .f32) :
    out0_C_2 c i a3 h3 a4 h4 a5 h5 a6 h6 c0 c1 c2 x0 x1 xs = truncf .bf16 (addf xs (prod x0 x1)) bitsLt_bf16_f32 := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero hz]
  simp only [View.readCov_unit_zero (S := S512x512) _ hz, View.readAt_eq_ld, h3.read_unread, h4.read_unread, h6.read_unread, View.ld_unit_zero (S := S1024x512) hz, View.ld_unit_zero (S := S512x512) hz, shapeCast_self]
  unfold k0_pay4 k0_pay3 k0_pay1
  simp only [shapeCast_self]

end Body

/-- A product of a block of rows, element by element. -/
theorem prod_at (x0 : Vec Ideal S1024x512 .bf16) (x1 : Vec Ideal S1024x512 .f32) (a : Fin 512) (b : Fin 512) :
    prod x0 x1 (ix2 a b) = (tn x0 x1 a b : EReal) := by
  pointwise [prod, tn]

theorem add_at (xs y : Vec Ideal S512x512 .f32) (i : S512x512.Idx) : addf (F := Ideal) (φ := .f32) xs y i = (xs i + y i : EReal) := rfl

theorem cast_add_at (xs y : Vec Ideal S512x512 .f32) (i : S512x512.Idx) :
    truncf .bf16 (addf (F := Ideal) xs y) bitsLt_bf16_f32 i = (xs i + y i : EReal) := rfl

/-- The gradient, element by element. -/
def grad (H : Vec Ideal S4096x512 .bf16) (D : Vec Ideal S4096x1024 .f32) : Vec Ideal S512x1024 .bf16 := fun i => tn H D (i 0) (i 1)

section Kernel

variable (m : (ℓ : Loc nD τ sig) → Buf (Elt Ideal) ℓ) (c : Dev nD)

theorem lt_points (t : Fin cfg0.N) : t.val < 8 := Nat.lt_of_lt_of_eq t.isLt N_0

theorem blk0 (t : Fin cfg0.N) (a : Fin 1024) (b : Fin 512) :
    iblk m c 0 t (ix2 a b) = (V m c main_arg0 : Vec Ideal S4096x512 .bf16) (ix2 (⟨t.val % 4 * 1024 + a.val, by have := lt_points t; omega⟩ : Fin 4096) (b : Fin 512)) := by
  have e : win0_0.index t = ![t.val % 4, 0] := (by decide +kernel : ∀ t : Fin grid0.N, win0_0.index t = ![t.val % 4, 0]) t
  blk_simp [iblk]
  refine congrArg (V m c main_arg0) ?_
  blk_ext [e]

theorem blk1 (t : Fin cfg0.N) (a : Fin 1024) (b : Fin 512) :
    iblk m c 1 t (ix2 a b) = (V m c main_arg2 : Vec Ideal S4096x1024 .f32) (ix2 (⟨t.val % 4 * 1024 + a.val, by have := lt_points t; omega⟩ : Fin 4096) (⟨t.val / 4 * 512 + b.val, by have := lt_points t; omega⟩ : Fin 1024)) := by
  have e : win0_1.index t = ![t.val % 4, t.val / 4] := (by decide +kernel : ∀ t : Fin grid0.N, win0_1.index t = ![t.val % 4, t.val / 4]) t
  blk_simp [iblk]
  refine congrArg (V m c main_arg2) ?_
  blk_ext [e]

/-- What the fourth point of a block writes back. -/
theorem after_at (t : Fin cfg0.N) (h : t.val % 4 = 3) (a : Fin 512) (b : Fin 512) :
    (dats m 0 c).after 2 t (ix2 a b) = grad (V m c main_arg0 : Vec Ideal S4096x512 .bf16) (V m c main_arg2 : Vec Ideal S4096x1024 .f32) (ix2 a (⟨t.val / 4 * 512 + b.val, by have := lt_points t; omega⟩ : Fin 1024)) := by
  have hl := lt_points t
  have hp1 : t.val - 1 < cfg0.N := Nat.lt_of_le_of_lt (Nat.sub_le _ _) t.isLt
  have hp2 : t.val - 1 - 1 < cfg0.N := Nat.lt_of_le_of_lt (Nat.sub_le _ _) hp1
  have hp3 : t.val - 1 - 1 - 1 < cfg0.N := Nat.lt_of_le_of_lt (Nat.sub_le _ _) hp2
  rw [after0_2, outsAt0_C m c t (by omega) (by omega) (by omega)]
  dsimp only
  rw [last_eq, outsAt0_B m c ⟨t.val - 1, hp1⟩ (by dsimp only; omega) (by dsimp only; omega) (by dsimp only; omega)]
  dsimp only
  rw [next_eq, outsAt0_B m c ⟨t.val - 1 - 1, hp2⟩ (by dsimp only; omega) (by dsimp only; omega) (by dsimp only; omega)]
  dsimp only
  rw [next_eq, outsAt0_A m c ⟨t.val - 1 - 1 - 1, hp3⟩ (by dsimp only; omega) (by dsimp only; omega) (by dsimp only; omega)]
  dsimp only
  rw [first_eq, cast_add_at, add_at, add_at, prod_at, prod_at, prod_at, prod_at]
  have hs : ∀ s : Fin 4, t.val - 3 + s.val < cfg0.N := fun s => by have := t.isLt; omega
  have key := tn_four (V m c main_arg0 : Vec Ideal S4096x512 .bf16) (V m c main_arg2 : Vec Ideal S4096x1024 .f32) a (⟨t.val / 4 * 512 + b.val, by have := lt_points t; omega⟩ : Fin 1024)
    (fun s => iblk m c 0 ⟨t.val - 3 + s.val, hs s⟩) (fun s => iblk m c 1 ⟨t.val - 3 + s.val, hs s⟩) a b
    (fun s k => (blk0 m c ⟨t.val - 3 + s.val, hs s⟩ k a).trans (congrArg (V m c main_arg0)
      (congrArg (fun r : Fin 4096 => (ix2 r a : S4096x512.Idx)) (Fin.ext (by dsimp only; omega)))))
    (fun s k => (blk1 m c ⟨t.val - 3 + s.val, hs s⟩ k b).trans (congrArg (V m c main_arg2)
      (congrArg₂ (fun (r : Fin 4096) (l : Fin 1024) => (ix2 r l : S4096x1024.Idx)) (Fin.ext (by dsimp only; omega)) (Fin.ext (by dsimp only; omega)))))
  refine Eq.trans ?_ key
  have q : ∀ (s : Fin 4) (u : Fin cfg0.N), u.val = t.val - 3 + s.val → (tn (iblk m c 0 u) (iblk m c 1 u) a b : EReal)
      = tn (iblk m c 0 ⟨t.val - 3 + s.val, hs s⟩) (iblk m c 1 ⟨t.val - 3 + s.val, hs s⟩) a b := fun s u e => by
    have : u = ⟨t.val - 3 + s.val, hs s⟩ := Fin.ext e
    rw [this]
  exact congrArg₂ (fun x y : EReal => x + y) (congrArg₂ (fun x y : EReal => x + y) (congrArg₂ (fun x y : EReal => x + y)
    (q 0 _ (by dsimp only; change _ = _ + 0; omega)) (q 1 _ (by dsimp only; change _ = _ + 1; omega))) (q 2 _ (by dsimp only; change _ = _ + 2; omega)))
    (q 3 _ (by change _ = _ + 3; omega))

/-- The result's array after the run. -/
theorem result : Value.G2 m c = grad (V m c main_arg0 : Vec Ideal S4096x512 .bf16) (V m c main_arg2 : Vec Ideal S4096x1024 .f32) := by
  refine (Value.final2 m c).symm.trans ?_
  refine (dats m 0 c).arrAt_eq_of_covers 2 _ (by decide +kernel) fun t hf y => ?_
  have h := (flush0_2 t).mp hf
  have e : win0_2.index t = ![0, t.val / 4] := (by decide +kernel : ∀ t : Fin grid0.N, win0_2.index t = ![0, t.val / 4]) t
  blk_simp
  obtain ⟨a, b, rfl⟩ : ∃ a b, y = ix2 a b := ⟨y 0, y 1, by idx_vars y⟩
  rw [after_at m c t h]
  refine congrArg (grad (V m c main_arg0 : Vec Ideal S4096x512 .bf16) (V m c main_arg2 : Vec Ideal S4096x1024 .f32)) ?_
  blk_ext [e]

end Kernel

/-- The reference's term. -/
theorem reference_eq (H : Vec Ideal S4096x512 .bf16) (D : Vec Ideal S4096x1024 .f32) :
    truncf .bf16 (transpose Cert.BrDwReferenceIdeal.S512x1024 [1, 0] (Host.dotGeneral (F := Ideal) (φ₁ := .f32) (φ₂ := .bf16)
      Cert.BrDwReferenceIdeal.dot_S4096x1024_S4096x512_S1024x512_0_0_1_1_n_n none D H) Cert.BrDwReferenceIdeal.Gen.transposes_S1024x512_S512x1024_1_0)
      Cert.BrDwReferenceIdeal.Gen.bitsLt_bf16_f32 = grad H D := by
  funext i
  idx_vars i
  pointwise [grad, tn]
  exact Finset.sum_congr rfl fun k _ => mul_comm _ _

/-- The kernel's result is the reference's. -/
theorem algebraic : Cert.algebraic_BrDwKernelIdeal_BrDwReferenceIdeal := by
  intro m ρ m' ρ' _ hagree
  refine ⟨_, Cert.BrDwKernelIdeal.Value.run (F := Ideal) m ρ, ?_⟩
  refine (θ_run Cert.BrDwReferenceIdeal.defs _ _).mono (fun _ h c => ⟨?_, (h c).2⟩) (Cert.BrDwReferenceIdeal.Value.run (F := Ideal) m' ρ')
  obtain ⟨e0, e1, e2⟩ := hagree c
  rw [(h c).1, result]
  refine (reference_eq _ _).trans ?_
  rw [e0, e2]

end Cert.BrDwKernelIdeal.Own

end
-- ==== Proof.Ip.OutFwd.lean ====
/-
  The product making the layer's output: the kernel goes over blocks of rows and columns, the reference is one product.
-/
module

public import proofs.«01_k».proof.Defs
public import proofs.«01_k».proof.Proof.Gen.OutFwdKernelIdeal.Value
public import proofs.«01_k».proof.Proof.Gen.OutFwdReferenceIdeal.Run
public import proofs.«01_k».proof.Proof.Ip.Lin
public import Idealize.ShloMosaic.Lib.Pointwise
public import Idealize.ShloMosaic.Lib.Pipeline.ValueKit.Geometry
public import Idealize.ShloMosaic.Lib.Quiescent

@[expose] public section

set_option maxRecDepth 16384

noncomputable section

namespace Cert.OutFwdKernelIdeal.Own

open Cert.Proof.Ip Cert.OutFwdKernelIdeal Cert.OutFwdKernelIdeal.Gen Idealize.ShloMosaic Idealize.ShloMosaic.TcCoe Idealize.SL.Sem

theorem hz : (![0, 0] : Fin 2 → Nat) = fun _ => 0 := funext fun a => by fin_cases a <;> rfl

/-- What the body leaves. -/
theorem body (x0 : Vec Ideal S1024x1024 .bf16) (x1 : Vec Ideal S1024x512 .bf16) (x2 : Vec Ideal S1024x512 .f32) (a : Fin 1024) (b : Fin 512) :
    out0_3 x0 x1 x2 (ix2 a b) = @HAdd.hAdd EReal EReal EReal _ (nn x0 x1 a b) (x2 (ix2 a b)) := by
  unfold out0_3
  rw [View.canon_unit_zero hz]
  simp only [View.ld_unit_zero (S := S1024x1024) hz, View.ld_unit_zero (S := S1024x512) hz, View.ld_unit_zero (S := S1024x512) hz]
  pointwise [k0_pay1, nn]

/-- The result, element by element. -/
def res (X : Vec Ideal S4096x1024 .f32) (A : Vec Ideal S4096x1024 .bf16) (B : Vec Ideal S1024x1024 .bf16) : Vec Ideal S4096x1024 .f32 := fun i => @HAdd.hAdd EReal EReal EReal _ (X i) (nn A B (i 0) (i 1))

section Kernel

variable (m : (ℓ : Loc nD τ sig) → Buf (Elt Ideal) ℓ) (c : Dev nD)

theorem lt_points (t : Fin cfg0.N) : t.val < 8 := Nat.lt_of_lt_of_eq t.isLt N_0

theorem blk0 (t : Fin cfg0.N) (a : Fin 1024) (b : Fin 1024) :
    iblk m c 0 t (ix2 a b) = (V m c main_arg1 : Vec Ideal S4096x1024 .bf16) (ix2 (⟨t.val / 2 * 1024 + a.val, by have := lt_points t; omega⟩ : Fin 4096) (b : Fin 1024)) := by
  have e : win0_0.index t = ![t.val / 2, 0] := (by decide +kernel : ∀ t : Fin grid0.N, win0_0.index t = ![t.val / 2, 0]) t
  blk_simp [iblk]
  refine congrArg (V m c main_arg1) ?_
  blk_ext [e]

theorem blk1 (t : Fin cfg0.N) (a : Fin 1024) (b : Fin 512) :
    iblk m c 1 t (ix2 a b) = (V m c main_arg2 : Vec Ideal S1024x1024 .bf16) (ix2 (a : Fin 1024) (⟨t.val % 2 * 512 + b.val, by have := lt_points t; omega⟩ : Fin 1024)) := by
  have e : win0_1.index t = ![0, t.val % 2] := (by decide +kernel : ∀ t : Fin grid0.N, win0_1.index t = ![0, t.val % 2]) t
  blk_simp [iblk]
  refine congrArg (V m c main_arg2) ?_
  blk_ext [e]

theorem blk2 (t : Fin cfg0.N) (a : Fin 1024) (b : Fin 512) :
    iblk m c 2 t (ix2 a b) = (V m c main_arg0 : Vec Ideal S4096x1024 .f32) (ix2 (⟨t.val / 2 * 1024 + a.val, by have := lt_points t; omega⟩ : Fin 4096) (⟨t.val % 2 * 512 + b.val, by have := lt_points t; omega⟩ : Fin 1024)) := by
  have e : win0_2.index t = ![t.val / 2, t.val % 2] := (by decide +kernel : ∀ t : Fin grid0.N, win0_2.index t = ![t.val / 2, t.val % 2]) t
  blk_simp [iblk]
  refine congrArg (V m c main_arg0) ?_
  blk_ext [e]

/-- The result's array after the run. -/
theorem result : (dats m 0 c).arrAt 3 cfg0.N = res (V m c main_arg0 : Vec Ideal S4096x1024 .f32) (V m c main_arg1 : Vec Ideal S4096x1024 .bf16) (V m c main_arg2 : Vec Ideal S1024x1024 .bf16) := by
  refine (dats m 0 c).arrAt_eq_of_covers 3 _ (by decide +kernel) fun t hf y => ?_
  have e : win0_3.index t = ![t.val / 2, t.val % 2] := (by decide +kernel : ∀ t : Fin grid0.N, win0_3.index t = ![t.val / 2, t.val % 2]) t
  blk_simp
  obtain ⟨a, b, rfl⟩ : ∃ a b, y = ix2 a b := ⟨y 0, y 1, by idx_vars y⟩
  rw [after0_3, body]
  refine Eq.trans ?_ (congrArg (res (V m c main_arg0 : Vec Ideal S4096x1024 .f32) (V m c main_arg1 : Vec Ideal S4096x1024 .bf16) (V m c main_arg2 : Vec Ideal S1024x1024 .bf16))
    (?_ : (ix2 (⟨t.val / 2 * 1024 + a.val, by have := lt_points t; omega⟩ : Fin 4096) (⟨t.val % 2 * 512 + b.val, by have := lt_points t; omega⟩ : Fin 1024) : S4096x1024.Idx) = _))
  · refine (add_comm (nn _ _ a b : EReal) _).trans ?_
    exact congrArg₂ (fun x y : EReal => x + y) (blk2 m c t a b) (nn_congr (blk0 m c t a) (blk1 m c t · b))
  · blk_ext [e]

end Kernel

/-- The reference's term. -/
theorem reference_eq (X : Vec Ideal S4096x1024 .f32) (A : Vec Ideal S4096x1024 .bf16) (B : Vec Ideal S1024x1024 .bf16) :
    addf (F := Ideal) (φ := .f32) X (Host.dotGeneral (F := Ideal) (φ₁ := .bf16) (φ₂ := .bf16) Cert.OutFwdReferenceIdeal.dot_S4096x1024_S1024x1024_S4096x1024_1_0_0_1_n_n none A B) = res X A B := by
  funext i
  idx_vars i
  pointwise [res, nn]

/-- The kernel's result is the reference's. -/
theorem algebraic : Cert.algebraic_OutFwdKernelIdeal_OutFwdReferenceIdeal := by
  intro m ρ m' ρ' _ hagree
  refine ⟨_, Cert.OutFwdKernelIdeal.Value.run_blocks (F := Ideal) m ρ, ?_⟩
  refine (θ_run Cert.OutFwdReferenceIdeal.defs _ _).mono (fun _ h c => ⟨?_, (h c).2⟩) (Cert.OutFwdReferenceIdeal.Value.run (F := Ideal) m' ρ')
  obtain ⟨e0, e1, e2⟩ := hagree c
  rw [(h c).1, result]
  refine (reference_eq _ _ _).trans ?_
  rw [e0, e1, e2]

end Cert.OutFwdKernelIdeal.Own

end
-- ==== Proof.Ip.OutDh.lean ====
/-
  The gradient of the argument of the product making the layer's output: the kernel goes over blocks of rows and columns, the
  reference is one product.
-/
module

public import proofs.«01_k».proof.Defs
public import proofs.«01_k».proof.Proof.Gen.OutDhKernelIdeal.Value
public import proofs.«01_k».proof.Proof.Gen.OutDhReferenceIdeal.Run
public import proofs.«01_k».proof.Proof.Ip.Lin
public import Idealize.ShloMosaic.Lib.Pointwise
public import Idealize.ShloMosaic.Lib.Pipeline.ValueKit.Geometry
public import Idealize.ShloMosaic.Lib.Quiescent

@[expose] public section

set_option maxRecDepth 16384

noncomputable section

namespace Cert.OutDhKernelIdeal.Own

open Cert.Proof.Ip Cert.OutDhKernelIdeal Cert.OutDhKernelIdeal.Gen Idealize.ShloMosaic Idealize.ShloMosaic.TcCoe Idealize.SL.Sem

theorem hz : (![0, 0] : Fin 2 → Nat) = fun _ => 0 := funext fun a => by fin_cases a <;> rfl

/-- What the body leaves. -/
theorem body (x0 : Vec Ideal S1024x1024 .f32) (x1 : Vec Ideal S512x1024 .bf16) (a : Fin 1024) (b : Fin 512) :
    out0_2 x0 x1 (ix2 a b) = (nt x0 x1 a b : EReal) := by
  unfold out0_2
  rw [View.canon_unit_zero hz]
  simp only [View.ld_unit_zero (S := S1024x1024) hz, View.ld_unit_zero (S := S512x1024) hz]
  pointwise [k0_pay1, nt]

/-- The result, element by element. -/
def res (W : Vec Ideal S1024x1024 .bf16) (D : Vec Ideal S4096x1024 .f32) : Vec Ideal S4096x1024 .bf16 := fun i => nt D W (i 0) (i 1)

section Kernel

variable (m : (ℓ : Loc nD τ sig) → Buf (Elt Ideal) ℓ) (c : Dev nD)

theorem lt_points (t : Fin cfg0.N) : t.val < 8 := Nat.lt_of_lt_of_eq t.isLt N_0

theorem blk0 (t : Fin cfg0.N) (a : Fin 1024) (b : Fin 1024) :
    iblk m c 0 t (ix2 a b) = (V m c main_arg2 : Vec Ideal S4096x1024 .f32) (ix2 (⟨t.val / 2 * 1024 + a.val, by have := lt_points t; omega⟩ : Fin 4096) (b : Fin 1024)) := by
  have e : win0_0.index t = ![t.val / 2, 0] := (by decide +kernel : ∀ t : Fin grid0.N, win0_0.index t = ![t.val / 2, 0]) t
  blk_simp [iblk]
  refine congrArg (V m c main_arg2) ?_
  blk_ext [e]

theorem blk1 (t : Fin cfg0.N) (a : Fin 512) (b : Fin 1024) :
    iblk m c 1 t (ix2 a b) = (V m c main_arg1 : Vec Ideal S1024x1024 .bf16) (ix2 (⟨t.val % 2 * 512 + a.val, by have := lt_points t; omega⟩ : Fin 1024) (b : Fin 1024)) := by
  have e : win0_1.index t = ![t.val % 2, 0] := (by decide +kernel : ∀ t : Fin grid0.N, win0_1.index t = ![t.val % 2, 0]) t
  blk_simp [iblk]
  refine congrArg (V m c main_arg1) ?_
  blk_ext [e]

/-- The result's array after the run. -/
theorem result : (dats m 0 c).arrAt 2 cfg0.N = res (V m c main_arg1 : Vec Ideal S1024x1024 .bf16) (V m c main_arg2 : Vec Ideal S4096x1024 .f32) := by
  refine (dats m 0 c).arrAt_eq_of_covers 2 _ (by decide +kernel) fun t hf y => ?_
  have e : win0_2.index t = ![t.val / 2, t.val % 2] := (by decide +kernel : ∀ t : Fin grid0.N, win0_2.index t = ![t.val / 2, t.val % 2]) t
  blk_simp
  obtain ⟨a, b, rfl⟩ : ∃ a b, y = ix2 a b := ⟨y 0, y 1, by idx_vars y⟩
  rw [after0_2, body]
  refine Eq.trans ?_ (congrArg (res (V m c main_arg1 : Vec Ideal S1024x1024 .bf16) (V m c main_arg2 : Vec Ideal S4096x1024 .f32))
    (?_ : (ix2 (⟨t.val / 2 * 1024 + a.val, by have := lt_points t; omega⟩ : Fin 4096) (⟨t.val % 2 * 512 + b.val, by have := lt_points t; omega⟩ : Fin 1024) : S4096x1024.Idx) = _))
  · exact nt_congr (blk0 m c t a) (blk1 m c t b)
  · blk_ext [e]

end Kernel

/-- The reference's term. -/
theorem reference_eq (W : Vec Ideal S1024x1024 .bf16) (D : Vec Ideal S4096x1024 .f32) :
    truncf .bf16 (Host.dotGeneral (F := Ideal) (φ₁ := .f32) (φ₂ := .bf16) Cert.OutDhReferenceIdeal.dot_S4096x1024_S1024x1024_S4096x1024_1_1_0_0_n_n none D W)
      Cert.OutDhReferenceIdeal.Gen.bitsLt_bf16_f32 = res W D := by
  funext i
  idx_vars i
  pointwise [res, nt]

/-- The kernel's result is the reference's. -/
theorem algebraic : Cert.algebraic_OutDhKernelIdeal_OutDhReferenceIdeal := by
  intro m ρ m' ρ' _ hagree
  refine ⟨_, Cert.OutDhKernelIdeal.Value.run_blocks (F := Ideal) m ρ, ?_⟩
  refine (θ_run Cert.OutDhReferenceIdeal.defs _ _).mono (fun _ h c => ⟨?_, (h c).2⟩) (Cert.OutDhReferenceIdeal.Value.run (F := Ideal) m' ρ')
  obtain ⟨e0, e1, e2⟩ := hagree c
  rw [(h c).1, result]
  refine (reference_eq _ _).trans ?_
  rw [e1, e2]

end Cert.OutDhKernelIdeal.Own

end
-- ==== Proof.Ip.OutDw.lean ====
/-
  The gradient of the weights of the product making the layer's output: the kernel accumulates four blocks of 1024 rows, the
  reference is one product.
-/
module

public import proofs.«01_k».proof.Defs
public import proofs.«01_k».proof.Proof.Gen.OutDwKernelIdeal.Value
public import proofs.«01_k».proof.Proof.Gen.OutDwReferenceIdeal.Run
public import proofs.«01_k».proof.Proof.Ip.Lin
public import Idealize.ShloMosaic.Lib.Pointwise
public import Idealize.ShloMosaic.Lib.Pipeline.ValueKit.Geometry
public import Idealize.ShloMosaic.Lib.Quiescent

@[expose] public section

set_option maxRecDepth 16384

noncomputable section

namespace Cert.OutDwKernelIdeal.Own

open Cert.Proof.Ip Cert.OutDwKernelIdeal Cert.OutDwKernelIdeal.Gen Idealize.ShloMosaic Idealize.ShloMosaic.TcCoe Idealize.SL.Sem

theorem hz : (![0, 0] : Fin 2 → Nat) = fun _ => 0 := funext fun a => by fin_cases a <;> rfl

section Body

variable {F : FTy → Type} [FloatOps F]

/-- The product of a block of rows. -/
abbrev prod (x0 : Vec F S1024x1024 .bf16) (x1 : Vec F S1024x512 .f32) : FVec F S1024x512 .f32 :=
  matmul dot_S1024x1024_S1024x512_S1024x512_0_0_1_1_n_n none x0 (truncf .bf16 x1 bitsLt_bf16_f32) (constant S1024x512 .f32 0x00000000#32)

/-- What the first of four points leaves in the accumulator. -/
theorem first_eq (c : Dev nD) (i : grid0.Coords) (a3 : Memref sig .tc .vmem S1024x1024 .bf16) (h3 : a3.IsWhole)
    (a4 : Memref sig .tc .vmem S1024x512 .f32) (h4 : a4.IsWhole) (a5 : Memref sig .tc .vmem S1024x512 .bf16) (h5 : a5.IsWhole)
    (a6 : Memref sig .tc .vmem S1024x512 .f32) (h6 : a6.IsWhole) (c0 : cond0_0 i) (c1 : ¬cond0_1 i) (c2 : ¬cond0_2 i)
    (x0 : Vec F S1024x1024 .bf16) (x1 : Vec F S1024x512 .f32) :
    sout0_A_0 c i a3 h3 a4 h4 a5 h5 a6 h6 c0 c1 c2 x0 x1 = prod x0 x1 := by
  unfold sout0_A_0
  rw [View.read_writes_eq_canon _ _ _ (scover0_A_0 c i a3 h3 a4 h4 a5 h5 a6 h6 c0 c1 c2 x0 x1)]
  unfold kernelRun0_A
  dsimp only
  sl_unfold_words
  rw [View.canon_unit_zero hz]
  simp only [View.readAt_eq_ld, h3.read_unread, h4.read_unread, View.ld_unit_zero (S := S1024x1024) hz, View.ld_unit_zero (S := S1024x512) hz, shapeCast_self]
  unfold k0_pay2 k0_pay1
  simp only [shapeCast_self]

/-- What the second and the third leave there. -/
theorem next_eq (c : Dev nD) (i : grid0.Coords) (a3 : Memref sig .tc .vmem S1024x1024 .bf16) (h3 : a3.IsWhole)
    (a4 : Memref sig .tc .vmem S1024x512 .f32) (h4 : a4.IsWhole) (a5 : Memref sig .tc .vmem S1024x512 .bf16) (h5 : a5.IsWhole)
    (a6 : Memref sig .tc .vmem S1024x512 .f32) (h6 : a6.IsWhole) (c0 : ¬cond0_0 i) (c1 : cond0_1 i) (c2 : ¬cond0_2 i)
    (x0 : Vec F S1024x1024 .bf16) (x1 : Vec F S1024x512 .f32) (xs : Vec F S1024x512 .f32) :
    sout0_B_0 c i a3 h3 a4 h4 a5 h5 a6 h6 c0 c1 c2 x0 x1 xs = addf xs (prod x0 x1) := by
  unfold sout0_B_0
  rw [View.read_writes_eq_canon _ _ _ (scover0_B_0 c i a3 h3 a4 h4 a5 h5 a6 h6 c0 c1 c2 x0 x1 xs)]
  unfold kernelRun0_B
  dsimp only
  sl_unfold_words
  rw [View.canon_unit_zero hz]
  simp only [View.readAt_eq_ld, h3.read_unread, h4.read_unread, h6.read_unread, View.ld_unit_zero (S := S1024x1024) hz, View.ld_unit_zero (S := S1024x512) hz, shapeCast_self]
  unfold k0_pay3 k0_pay1
  simp only [shapeCast_self]

/-- What the fourth leaves in the result's block. -/
theorem last_eq (c : Dev nD) (i : grid0.Coords) (a3 : Memref sig .tc .vmem S1024x1024 .bf16) (h3 : a3.IsWhole)
    (a4 : Memref sig .tc .vmem S1024x512 .f32) (h4 : a4.IsWhole) (a5 : Memref sig .tc .vmem S1024x512 .bf16) (h5 : a5.IsWhole)
    (a6 : Memref sig .tc .vmem S1024x512 .f32) (h6 : a6.IsWhole) (c0 : ¬cond0_0 i) (c1 : cond0_1 i) (c2 : cond0_2 i)
    (x0 : Vec F S1024x1024 .bf16) (x1 : Vec F S1024x512 .f32) (xs : Vec F S1024x512 .f32) :
    out0_C_2 c i a3 h3 a4 h4 a5 h5 a6 h6 c0 c1 c2 x0 x1 xs = truncf .bf16 (addf xs (prod x0 x1)) bitsLt_bf16_f32 := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero hz]
  simp only [View.readCov_unit_zero (S := S1024x512) _ hz, View.readAt_eq_ld, h3.read_unread, h4.read_unread, h6.read_unread, View.ld_unit_zero (S := S1024x1024) hz, View.ld_unit_zero (S := S1024x512) hz, shapeCast_self]
  unfold k0_pay4 k0_pay3 k0_pay1
  simp only [shapeCast_self]

end Body

/-- A product of a block of rows, element by element. -/
theorem prod_at (x0 : Vec Ideal S1024x1024 .bf16) (x1 : Vec Ideal S1024x512 .f32) (a : Fin 1024) (b : Fin 512) :
    prod x0 x1 (ix2 a b) = (tn x0 x1 a b : EReal) := by
  pointwise [prod, tn]

theorem add_at (xs y : Vec Ideal S1024x512 .f32) (i : S1024x512.Idx) : addf (F := Ideal) (φ := .f32) xs y i = (xs i + y i : EReal) := rfl

theorem cast_add_at (xs y : Vec Ideal S1024x512 .f32) (i : S1024x512.Idx) :
    truncf .bf16 (addf (F := Ideal) xs y) bitsLt_bf16_f32 i = (xs i + y i : EReal) := rfl

/-- The gradient, element by element. -/
def grad (H : Vec Ideal S4096x1024 .bf16) (D : Vec Ideal S4096x1024 .f32) : Vec Ideal S1024x1024 .bf16 := fun i => tn H D (i 0) (i 1)

section Kernel

variable (m : (ℓ : Loc nD τ sig) → Buf (Elt Ideal) ℓ) (c : Dev nD)

theorem lt_points (t : Fin cfg0.N) : t.val < 8 := Nat.lt_of_lt_of_eq t.isLt N_0

theorem blk0 (t : Fin cfg0.N) (a : Fin 1024) (b : Fin 1024) :
    iblk m c 0 t (ix2 a b) = (V m c main_arg0 : Vec Ideal S4096x1024 .bf16) (ix2 (⟨t.val % 4 * 1024 + a.val, by have := lt_points t; omega⟩ : Fin 4096) (b : Fin 1024)) := by
  have e : win0_0.index t = ![t.val % 4, 0] := (by decide +kernel : ∀ t : Fin grid0.N, win0_0.index t = ![t.val % 4, 0]) t
  blk_simp [iblk]
  refine congrArg (V m c main_arg0) ?_
  blk_ext [e]

theorem blk1 (t : Fin cfg0.N) (a : Fin 1024) (b : Fin 512) :
    iblk m c 1 t (ix2 a b) = (V m c main_arg2 : Vec Ideal S4096x1024 .f32) (ix2 (⟨t.val % 4 * 1024 + a.val, by have := lt_points t; omega⟩ : Fin 4096) (⟨t.val / 4 * 512 + b.val, by have := lt_points t; omega⟩ : Fin 1024)) := by
  have e : win0_1.index t = ![t.val % 4, t.val / 4] := (by decide +kernel : ∀ t : Fin grid0.N, win0_1.index t = ![t.val % 4, t.val / 4]) t
  blk_simp [iblk]
  refine congrArg (V m c main_arg2) ?_
  blk_ext [e]

/-- What the fourth point of a block writes back. -/
theorem after_at (t : Fin cfg0.N) (h : t.val % 4 = 3) (a : Fin 1024) (b : Fin 512) :
    (dats m 0 c).after 2 t (ix2 a b) = grad (V m c main_arg0 : Vec Ideal S4096x1024 .bf16) (V m c main_arg2 : Vec Ideal S4096x1024 .f32) (ix2 a (⟨t.val / 4 * 512 + b.val, by have := lt_points t; omega⟩ : Fin 1024)) := by
  have hl := lt_points t
  have hp1 : t.val - 1 < cfg0.N := Nat.lt_of_le_of_lt (Nat.sub_le _ _) t.isLt
  have hp2 : t.val - 1 - 1 < cfg0.N := Nat.lt_of_le_of_lt (Nat.sub_le _ _) hp1
  have hp3 : t.val - 1 - 1 - 1 < cfg0.N := Nat.lt_of_le_of_lt (Nat.sub_le _ _) hp2
  rw [after0_2, outsAt0_C m c t (by omega) (by omega) (by omega)]
  dsimp only
  rw [last_eq, outsAt0_B m c ⟨t.val - 1, hp1⟩ (by dsimp only; omega) (by dsimp only; omega) (by dsimp only; omega)]
  dsimp only
  rw [next_eq, outsAt0_B m c ⟨t.val - 1 - 1, hp2⟩ (by dsimp only; omega) (by dsimp only; omega) (by dsimp only; omega)]
  dsimp only
  rw [next_eq, outsAt0_A m c ⟨t.val - 1 - 1 - 1, hp3⟩ (by dsimp only; omega) (by dsimp only; omega) (by dsimp only; omega)]
  dsimp only
  rw [first_eq, cast_add_at, add_at, add_at, prod_at, prod_at, prod_at, prod_at]
  have hs : ∀ s : Fin 4, t.val - 3 + s.val < cfg0.N := fun s => by have := t.isLt; omega
  have key := tn_four (V m c main_arg0 : Vec Ideal S4096x1024 .bf16) (V m c main_arg2 : Vec Ideal S4096x1024 .f32) a (⟨t.val / 4 * 512 + b.val, by have := lt_points t; omega⟩ : Fin 1024)
    (fun s => iblk m c 0 ⟨t.val - 3 + s.val, hs s⟩) (fun s => iblk m c 1 ⟨t.val - 3 + s.val, hs s⟩) a b
    (fun s k => (blk0 m c ⟨t.val - 3 + s.val, hs s⟩ k a).trans (congrArg (V m c main_arg0)
      (congrArg (fun r : Fin 4096 => (ix2 r a : S4096x1024.Idx)) (Fin.ext (by dsimp only; omega)))))
    (fun s k => (blk1 m c ⟨t.val - 3 + s.val, hs s⟩ k b).trans (congrArg (V m c main_arg2)
      (congrArg₂ (fun (r : Fin 4096) (l : Fin 1024) => (ix2 r l : S4096x1024.Idx)) (Fin.ext (by dsimp only; omega)) (Fin.ext (by dsimp only; omega)))))
  refine Eq.trans ?_ key
  have q : ∀ (s : Fin 4) (u : Fin cfg0.N), u.val = t.val - 3 + s.val → (tn (iblk m c 0 u) (iblk m c 1 u) a b : EReal)
      = tn (iblk m c 0 ⟨t.val - 3 + s.val, hs s⟩) (iblk m c 1 ⟨t.val - 3 + s.val, hs s⟩) a b := fun s u e => by
    have : u = ⟨t.val - 3 + s.val, hs s⟩ := Fin.ext e
    rw [this]
  exact congrArg₂ (fun x y : EReal => x + y) (congrArg₂ (fun x y : EReal => x + y) (congrArg₂ (fun x y : EReal => x + y)
    (q 0 _ (by dsimp only; change _ = _ + 0; omega)) (q 1 _ (by dsimp only; change _ = _ + 1; omega))) (q 2 _ (by dsimp only; change _ = _ + 2; omega)))
    (q 3 _ (by change _ = _ + 3; omega))

/-- The result's array after the run. -/
theorem result : Value.G2 m c = grad (V m c main_arg0 : Vec Ideal S4096x1024 .bf16) (V m c main_arg2 : Vec Ideal S4096x1024 .f32) := by
  refine (Value.final2 m c).symm.trans ?_
  refine (dats m 0 c).arrAt_eq_of_covers 2 _ (by decide +kernel) fun t hf y => ?_
  have h := (flush0_2 t).mp hf
  have e : win0_2.index t = ![0, t.val / 4] := (by decide +kernel : ∀ t : Fin grid0.N, win0_2.index t = ![0, t.val / 4]) t
  blk_simp
  obtain ⟨a, b, rfl⟩ : ∃ a b, y = ix2 a b := ⟨y 0, y 1, by idx_vars y⟩
  rw [after_at m c t h]
  refine congrArg (grad (V m c main_arg0 : Vec Ideal S4096x1024 .bf16) (V m c main_arg2 : Vec Ideal S4096x1024 .f32)) ?_
  blk_ext [e]

end Kernel

/-- The reference's term. -/
theorem reference_eq (H : Vec Ideal S4096x1024 .bf16) (D : Vec Ideal S4096x1024 .f32) :
    truncf .bf16 (transpose Cert.OutDwReferenceIdeal.S1024x1024 [1, 0] (Host.dotGeneral (F := Ideal) (φ₁ := .f32) (φ₂ := .bf16)
      Cert.OutDwReferenceIdeal.dot_S4096x1024_S4096x1024_S1024x1024_0_0_1_1_n_n none D H) Cert.OutDwReferenceIdeal.Gen.transposes_S1024x1024_S1024x1024_1_0)
      Cert.OutDwReferenceIdeal.Gen.bitsLt_bf16_f32 = grad H D := by
  funext i
  idx_vars i
  pointwise [grad, tn]
  exact Finset.sum_congr rfl fun k _ => mul_comm _ _

/-- The kernel's result is the reference's. -/
theorem algebraic : Cert.algebraic_OutDwKernelIdeal_OutDwReferenceIdeal := by
  intro m ρ m' ρ' _ hagree
  refine ⟨_, Cert.OutDwKernelIdeal.Value.run (F := Ideal) m ρ, ?_⟩
  refine (θ_run Cert.OutDwReferenceIdeal.defs _ _).mono (fun _ h c => ⟨?_, (h c).2⟩) (Cert.OutDwReferenceIdeal.Value.run (F := Ideal) m' ρ')
  obtain ⟨e0, e1, e2⟩ := hagree c
  rw [(h c).1, result]
  refine (reference_eq _ _).trans ?_
  rw [e0, e2]

end Cert.OutDwKernelIdeal.Own

end
-- ==== Proof.Ip.QbFwd.lean ====
/-
  The product making the latent attention's queries: the kernel goes over blocks of rows and columns, the reference is one product.
-/
module

public import proofs.«01_k».proof.Defs
public import proofs.«01_k».proof.Proof.Gen.QbFwdKernelIdeal.Value
public import proofs.«01_k».proof.Proof.Gen.QbFwdReferenceIdeal.Run
public import proofs.«01_k».proof.Proof.Ip.Lin
public import Idealize.ShloMosaic.Lib.Pointwise
public import Idealize.ShloMosaic.Lib.Pipeline.ValueKit.Geometry
public import Idealize.ShloMosaic.Lib.Quiescent

@[expose] public section

set_option maxRecDepth 16384

noncomputable section

namespace Cert.QbFwdKernelIdeal.Own

open Cert.Proof.Ip Cert.QbFwdKernelIdeal Cert.QbFwdKernelIdeal.Gen Idealize.ShloMosaic Idealize.ShloMosaic.TcCoe Idealize.SL.Sem

theorem hz : (![0, 0] : Fin 2 → Nat) = fun _ => 0 := funext fun a => by fin_cases a <;> rfl

/-- What the body leaves. -/
theorem body (x0 : Vec Ideal S1024x384 .bf16) (x1 : Vec Ideal S384x512 .bf16) (a : Fin 1024) (b : Fin 512) :
    out0_2 x0 x1 (ix2 a b) = (nn x0 x1 a b : EReal) := by
  unfold out0_2
  rw [View.canon_unit_zero hz]
  simp only [View.ld_unit_zero (S := S1024x384) hz, View.ld_unit_zero (S := S384x512) hz]
  pointwise [k0_pay1, nn]

/-- The result, element by element. -/
def res (A : Vec Ideal S4096x384 .bf16) (B : Vec Ideal S384x1024 .bf16) : Vec Ideal S4096x1024 .f32 := fun i => nn A B (i 0) (i 1)

section Kernel

variable (m : (ℓ : Loc nD τ sig) → Buf (Elt Ideal) ℓ) (c : Dev nD)

theorem lt_points (t : Fin cfg0.N) : t.val < 8 := Nat.lt_of_lt_of_eq t.isLt N_0

theorem blk0 (t : Fin cfg0.N) (a : Fin 1024) (b : Fin 384) :
    iblk m c 0 t (ix2 a b) = (V m c main_arg0 : Vec Ideal S4096x384 .bf16) (ix2 (⟨t.val / 2 * 1024 + a.val, by have := lt_points t; omega⟩ : Fin 4096) (b : Fin 384)) := by
  have e : win0_0.index t = ![t.val / 2, 0] := (by decide +kernel : ∀ t : Fin grid0.N, win0_0.index t = ![t.val / 2, 0]) t
  blk_simp [iblk]
  refine congrArg (V m c main_arg0) ?_
  blk_ext [e]

theorem blk1 (t : Fin cfg0.N) (a : Fin 384) (b : Fin 512) :
    iblk m c 1 t (ix2 a b) = (V m c main_arg1 : Vec Ideal S384x1024 .bf16) (ix2 (a : Fin 384) (⟨t.val % 2 * 512 + b.val, by have := lt_points t; omega⟩ : Fin 1024)) := by
  have e : win0_1.index t = ![0, t.val % 2] := (by decide +kernel : ∀ t : Fin grid0.N, win0_1.index t = ![0, t.val % 2]) t
  blk_simp [iblk]
  refine congrArg (V m c main_arg1) ?_
  blk_ext [e]

/-- The result's array after the run. -/
theorem result : (dats m 0 c).arrAt 2 cfg0.N = res (V m c main_arg0 : Vec Ideal S4096x384 .bf16) (V m c main_arg1 : Vec Ideal S384x1024 .bf16) := by
  refine (dats m 0 c).arrAt_eq_of_covers 2 _ (by decide +kernel) fun t hf y => ?_
  have e : win0_2.index t = ![t.val / 2, t.val % 2] := (by decide +kernel : ∀ t : Fin grid0.N, win0_2.index t = ![t.val / 2, t.val % 2]) t
  blk_simp
  obtain ⟨a, b, rfl⟩ : ∃ a b, y = ix2 a b := ⟨y 0, y 1, by idx_vars y⟩
  rw [after0_2, body]
  refine Eq.trans ?_ (congrArg (res (V m c main_arg0 : Vec Ideal S4096x384 .bf16) (V m c main_arg1 : Vec Ideal S384x1024 .bf16))
    (?_ : (ix2 (⟨t.val / 2 * 1024 + a.val, by have := lt_points t; omega⟩ : Fin 4096) (⟨t.val % 2 * 512 + b.val, by have := lt_points t; omega⟩ : Fin 1024) : S4096x1024.Idx) = _))
  · exact nn_congr (blk0 m c t a) (blk1 m c t · b)
  · blk_ext [e]

end Kernel

/-- The reference's term. -/
theorem reference_eq (A : Vec Ideal S4096x384 .bf16) (B : Vec Ideal S384x1024 .bf16) :
    Host.dotGeneral (F := Ideal) (φ₁ := .bf16) (φ₂ := .bf16) Cert.QbFwdReferenceIdeal.dot_S4096x384_S384x1024_S4096x1024_1_0_0_1_n_n none A B = res A B := by
  funext i
  idx_vars i
  pointwise [res, nn]

/-- The kernel's result is the reference's. -/
theorem algebraic : Cert.algebraic_QbFwdKernelIdeal_QbFwdReferenceIdeal := by
  intro m ρ m' ρ' _ hagree
  refine ⟨_, Cert.QbFwdKernelIdeal.Value.run_blocks (F := Ideal) m ρ, ?_⟩
  refine (θ_run Cert.QbFwdReferenceIdeal.defs _ _).mono (fun _ h c => ⟨?_, (h c).2⟩) (Cert.QbFwdReferenceIdeal.Value.run (F := Ideal) m' ρ')
  obtain ⟨e0, e1⟩ := hagree c
  rw [(h c).1, result]
  refine (reference_eq _ _).trans ?_
  rw [e0, e1]

end Cert.QbFwdKernelIdeal.Own

end
-- ==== Proof.Ip.QbDh.lean ====
/-
  The gradient of the argument of the product making the latent attention's queries: the kernel goes over blocks of rows and columns, the
  reference is one product.
-/
module

public import proofs.«01_k».proof.Defs
public import proofs.«01_k».proof.Proof.Gen.QbDhKernelIdeal.Value
public import proofs.«01_k».proof.Proof.Gen.QbDhReferenceIdeal.Run
public import proofs.«01_k».proof.Proof.Ip.Lin
public import Idealize.ShloMosaic.Lib.Pointwise
public import Idealize.ShloMosaic.Lib.Pipeline.ValueKit.Geometry
public import Idealize.ShloMosaic.Lib.Quiescent

@[expose] public section

set_option maxRecDepth 16384

noncomputable section

namespace Cert.QbDhKernelIdeal.Own

open Cert.Proof.Ip Cert.QbDhKernelIdeal Cert.QbDhKernelIdeal.Gen Idealize.ShloMosaic Idealize.ShloMosaic.TcCoe Idealize.SL.Sem

theorem hz : (![0, 0] : Fin 2 → Nat) = fun _ => 0 := funext fun a => by fin_cases a <;> rfl

/-- What the body leaves. -/
theorem body (x0 : Vec Ideal S1024x1024 .f32) (x1 : Vec Ideal S384x1024 .bf16) (a : Fin 1024) (b : Fin 384) :
    out0_2 x0 x1 (ix2 a b) = (nt x0 x1 a b : EReal) := by
  unfold out0_2
  rw [View.canon_unit_zero hz]
  simp only [View.ld_unit_zero (S := S1024x1024) hz, View.ld_unit_zero (S := S384x1024) hz]
  pointwise [k0_pay1, nt]

/-- The result, element by element. -/
def res (W : Vec Ideal S384x1024 .bf16) (D : Vec Ideal S4096x1024 .f32) : Vec Ideal S4096x384 .bf16 := fun i => nt D W (i 0) (i 1)

section Kernel

variable (m : (ℓ : Loc nD τ sig) → Buf (Elt Ideal) ℓ) (c : Dev nD)

theorem lt_points (t : Fin cfg0.N) : t.val < 4 := Nat.lt_of_lt_of_eq t.isLt N_0

theorem blk0 (t : Fin cfg0.N) (a : Fin 1024) (b : Fin 1024) :
    iblk m c 0 t (ix2 a b) = (V m c main_arg2 : Vec Ideal S4096x1024 .f32) (ix2 (⟨t.val * 1024 + a.val, by have := lt_points t; omega⟩ : Fin 4096) (b : Fin 1024)) := by
  have e : win0_0.index t = ![t.val, 0] := (by decide +kernel : ∀ t : Fin grid0.N, win0_0.index t = ![t.val, 0]) t
  blk_simp [iblk]
  refine congrArg (V m c main_arg2) ?_
  blk_ext [e]

theorem blk1 (t : Fin cfg0.N) (a : Fin 384) (b : Fin 1024) :
    iblk m c 1 t (ix2 a b) = (V m c main_arg1 : Vec Ideal S384x1024 .bf16) (ix2 (a : Fin 384) (b : Fin 1024)) := by
  have e : win0_1.index t = ![0, 0] := (by decide +kernel : ∀ t : Fin grid0.N, win0_1.index t = ![0, 0]) t
  blk_simp [iblk]
  refine congrArg (V m c main_arg1) ?_
  blk_ext [e]

/-- The result's array after the run. -/
theorem result : (dats m 0 c).arrAt 2 cfg0.N = res (V m c main_arg1 : Vec Ideal S384x1024 .bf16) (V m c main_arg2 : Vec Ideal S4096x1024 .f32) := by
  refine (dats m 0 c).arrAt_eq_of_covers 2 _ (by decide +kernel) fun t hf y => ?_
  have e : win0_2.index t = ![t.val, 0] := (by decide +kernel : ∀ t : Fin grid0.N, win0_2.index t = ![t.val, 0]) t
  blk_simp
  obtain ⟨a, b, rfl⟩ : ∃ a b, y = ix2 a b := ⟨y 0, y 1, by idx_vars y⟩
  rw [after0_2, body]
  refine Eq.trans ?_ (congrArg (res (V m c main_arg1 : Vec Ideal S384x1024 .bf16) (V m c main_arg2 : Vec Ideal S4096x1024 .f32))
    (?_ : (ix2 (⟨t.val * 1024 + a.val, by have := lt_points t; omega⟩ : Fin 4096) (b : Fin 384) : S4096x384.Idx) = _))
  · exact nt_congr (blk0 m c t a) (blk1 m c t b)
  · blk_ext [e]

end Kernel

/-- The reference's term. -/
theorem reference_eq (W : Vec Ideal S384x1024 .bf16) (D : Vec Ideal S4096x1024 .f32) :
    truncf .bf16 (Host.dotGeneral (F := Ideal) (φ₁ := .f32) (φ₂ := .bf16) Cert.QbDhReferenceIdeal.dot_S4096x1024_S384x1024_S4096x384_1_1_0_0_n_n none D W)
      Cert.QbDhReferenceIdeal.Gen.bitsLt_bf16_f32 = res W D := by
  funext i
  idx_vars i
  pointwise [res, nt]

/-- The kernel's result is the reference's. -/
theorem algebraic : Cert.algebraic_QbDhKernelIdeal_QbDhReferenceIdeal := by
  intro m ρ m' ρ' _ hagree
  refine ⟨_, Cert.QbDhKernelIdeal.Value.run_blocks (F := Ideal) m ρ, ?_⟩
  refine (θ_run Cert.QbDhReferenceIdeal.defs _ _).mono (fun _ h c => ⟨?_, (h c).2⟩) (Cert.QbDhReferenceIdeal.Value.run (F := Ideal) m' ρ')
  obtain ⟨e0, e1, e2⟩ := hagree c
  rw [(h c).1, result]
  refine (reference_eq _ _).trans ?_
  rw [e1, e2]

end Cert.QbDhKernelIdeal.Own

end
-- ==== Proof.Ip.QbDw.lean ====
/-
  The gradient of the weights of the product making the latent attention's queries: the kernel accumulates four blocks of 1024 rows, the
  reference is one product.
-/
module

public import proofs.«01_k».proof.Defs
public import proofs.«01_k».proof.Proof.Gen.QbDwKernelIdeal.Value
public import proofs.«01_k».proof.Proof.Gen.QbDwReferenceIdeal.Run
public import proofs.«01_k».proof.Proof.Ip.Lin
public import Idealize.ShloMosaic.Lib.Pointwise
public import Idealize.ShloMosaic.Lib.Pipeline.ValueKit.Geometry
public import Idealize.ShloMosaic.Lib.Quiescent

@[expose] public section

set_option maxRecDepth 16384

noncomputable section

namespace Cert.QbDwKernelIdeal.Own

open Cert.Proof.Ip Cert.QbDwKernelIdeal Cert.QbDwKernelIdeal.Gen Idealize.ShloMosaic Idealize.ShloMosaic.TcCoe Idealize.SL.Sem

theorem hz : (![0, 0] : Fin 2 → Nat) = fun _ => 0 := funext fun a => by fin_cases a <;> rfl

section Body

variable {F : FTy → Type} [FloatOps F]

/-- The product of a block of rows. -/
abbrev prod (x0 : Vec F S1024x384 .bf16) (x1 : Vec F S1024x512 .f32) : FVec F S384x512 .f32 :=
  matmul dot_S1024x384_S1024x512_S384x512_0_0_1_1_n_n none x0 (truncf .bf16 x1 bitsLt_bf16_f32) (constant S384x512 .f32 0x00000000#32)

/-- What the first of four points leaves in the accumulator. -/
theorem first_eq (c : Dev nD) (i : grid0.Coords) (a3 : Memref sig .tc .vmem S1024x384 .bf16) (h3 : a3.IsWhole)
    (a4 : Memref sig .tc .vmem S1024x512 .f32) (h4 : a4.IsWhole) (a5 : Memref sig .tc .vmem S384x512 .bf16) (h5 : a5.IsWhole)
    (a6 : Memref sig .tc .vmem S384x512 .f32) (h6 : a6.IsWhole) (c0 : cond0_0 i) (c1 : ¬cond0_1 i) (c2 : ¬cond0_2 i)
    (x0 : Vec F S1024x384 .bf16) (x1 : Vec F S1024x512 .f32) :
    sout0_A_0 c i a3 h3 a4 h4 a5 h5 a6 h6 c0 c1 c2 x0 x1 = prod x0 x1 := by
  unfold sout0_A_0
  rw [View.read_writes_eq_canon _ _ _ (scover0_A_0 c i a3 h3 a4 h4 a5 h5 a6 h6 c0 c1 c2 x0 x1)]
  unfold kernelRun0_A
  dsimp only
  sl_unfold_words
  rw [View.canon_unit_zero hz]
  simp only [View.readAt_eq_ld, h3.read_unread, h4.read_unread, View.ld_unit_zero (S := S1024x384) hz, View.ld_unit_zero (S := S1024x512) hz, View.ld_unit_zero (S := S384x512) hz, shapeCast_self]
  unfold k0_pay2 k0_pay1
  simp only [shapeCast_self]

/-- What the second and the third leave there. -/
theorem next_eq (c : Dev nD) (i : grid0.Coords) (a3 : Memref sig .tc .vmem S1024x384 .bf16) (h3 : a3.IsWhole)
    (a4 : Memref sig .tc .vmem S1024x512 .f32) (h4 : a4.IsWhole) (a5 : Memref sig .tc .vmem S384x512 .bf16) (h5 : a5.IsWhole)
    (a6 : Memref sig .tc .vmem S384x512 .f32) (h6 : a6.IsWhole) (c0 : ¬cond0_0 i) (c1 : cond0_1 i) (c2 : ¬cond0_2 i)
    (x0 : Vec F S1024x384 .bf16) (x1 : Vec F S1024x512 .f32) (xs : Vec F S384x512 .f32) :
    sout0_B_0 c i a3 h3 a4 h4 a5 h5 a6 h6 c0 c1 c2 x0 x1 xs = addf xs (prod x0 x1) := by
  unfold sout0_B_0
  rw [View.read_writes_eq_canon _ _ _ (scover0_B_0 c i a3 h3 a4 h4 a5 h5 a6 h6 c0 c1 c2 x0 x1 xs)]
  unfold kernelRun0_B
  dsimp only
  sl_unfold_words
  rw [View.canon_unit_zero hz]
  simp only [View.readAt_eq_ld, h3.read_unread, h4.read_unread, h6.read_unread, View.ld_unit_zero (S := S1024x384) hz, View.ld_unit_zero (S := S1024x512) hz, View.ld_unit_zero (S := S384x512) hz, shapeCast_self]
  unfold k0_pay3 k0_pay1
  simp only [shapeCast_self]

/-- What the fourth leaves in the result's block. -/
theorem last_eq (c : Dev nD) (i : grid0.Coords) (a3 : Memref sig .tc .vmem S1024x384 .bf16) (h3 : a3.IsWhole)
    (a4 : Memref sig .tc .vmem S1024x512 .f32) (h4 : a4.IsWhole) (a5 : Memref sig .tc .vmem S384x512 .bf16) (h5 : a5.IsWhole)
    (a6 : Memref sig .tc .vmem S384x512 .f32) (h6 : a6.IsWhole) (c0 : ¬cond0_0 i) (c1 : cond0_1 i) (c2 : cond0_2 i)
    (x0 : Vec F S1024x384 .bf16) (x1 : Vec F S1024x512 .f32) (xs : Vec F S384x512 .f32) :
    out0_C_2 c i a3 h3 a4 h4 a5 h5 a6 h6 c0 c1 c2 x0 x1 xs = truncf .bf16 (addf xs (prod x0 x1)) bitsLt_bf16_f32 := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero hz]
  simp only [View.readCov_unit_zero (S := S384x512) _ hz, View.readAt_eq_ld, h3.read_unread, h4.read_unread, h6.read_unread, View.ld_unit_zero (S := S1024x384) hz, View.ld_unit_zero (S := S1024x512) hz, View.ld_unit_zero (S := S384x512) hz, shapeCast_self]
  unfold k0_pay4 k0_pay3 k0_pay1
  simp only [shapeCast_self]

end Body

/-- A product of a block of rows, element by element. -/
theorem prod_at (x0 : Vec Ideal S1024x384 .bf16) (x1 : Vec Ideal S1024x512 .f32) (a : Fin 384) (b : Fin 512) :
    prod x0 x1 (ix2 a b) = (tn x0 x1 a b : EReal) := by
  pointwise [prod, tn]

theorem add_at (xs y : Vec Ideal S384x512 .f32) (i : S384x512.Idx) : addf (F := Ideal) (φ := .f32) xs y i = (xs i + y i : EReal) := rfl

theorem cast_add_at (xs y : Vec Ideal S384x512 .f32) (i : S384x512.Idx) :
    truncf .bf16 (addf (F := Ideal) xs y) bitsLt_bf16_f32 i = (xs i + y i : EReal) := rfl

/-- The gradient, element by element. -/
def grad (H : Vec Ideal S4096x384 .bf16) (D : Vec Ideal S4096x1024 .f32) : Vec Ideal S384x1024 .bf16 := fun i => tn H D (i 0) (i 1)

section Kernel

variable (m : (ℓ : Loc nD τ sig) → Buf (Elt Ideal) ℓ) (c : Dev nD)

theorem lt_points (t : Fin cfg0.N) : t.val < 8 := Nat.lt_of_lt_of_eq t.isLt N_0

theorem blk0 (t : Fin cfg0.N) (a : Fin 1024) (b : Fin 384) :
    iblk m c 0 t (ix2 a b) = (V m c main_arg0 : Vec Ideal S4096x384 .bf16) (ix2 (⟨t.val % 4 * 1024 + a.val, by have := lt_points t; omega⟩ : Fin 4096) (b : Fin 384)) := by
  have e : win0_0.index t = ![t.val % 4, 0] := (by decide +kernel : ∀ t : Fin grid0.N, win0_0.index t = ![t.val % 4, 0]) t
  blk_simp [iblk]
  refine congrArg (V m c main_arg0) ?_
  blk_ext [e]

theorem blk1 (t : Fin cfg0.N) (a : Fin 1024) (b : Fin 512) :
    iblk m c 1 t (ix2 a b) = (V m c main_arg2 : Vec Ideal S4096x1024 .f32) (ix2 (⟨t.val % 4 * 1024 + a.val, by have := lt_points t; omega⟩ : Fin 4096) (⟨t.val / 4 * 512 + b.val, by have := lt_points t; omega⟩ : Fin 1024)) := by
  have e : win0_1.index t = ![t.val % 4, t.val / 4] := (by decide +kernel : ∀ t : Fin grid0.N, win0_1.index t = ![t.val % 4, t.val / 4]) t
  blk_simp [iblk]
  refine congrArg (V m c main_arg2) ?_
  blk_ext [e]

/-- What the fourth point of a block writes back. -/
theorem after_at (t : Fin cfg0.N) (h : t.val % 4 = 3) (a : Fin 384) (b : Fin 512) :
    (dats m 0 c).after 2 t (ix2 a b) = grad (V m c main_arg0 : Vec Ideal S4096x384 .bf16) (V m c main_arg2 : Vec Ideal S4096x1024 .f32) (ix2 a (⟨t.val / 4 * 512 + b.val, by have := lt_points t; omega⟩ : Fin 1024)) := by
  have hl := lt_points t
  have hp1 : t.val - 1 < cfg0.N := Nat.lt_of_le_of_lt (Nat.sub_le _ _) t.isLt
  have hp2 : t.val - 1 - 1 < cfg0.N := Nat.lt_of_le_of_lt (Nat.sub_le _ _) hp1
  have hp3 : t.val - 1 - 1 - 1 < cfg0.N := Nat.lt_of_le_of_lt (Nat.sub_le _ _) hp2
  rw [after0_2, outsAt0_C m c t (by omega) (by omega) (by omega)]
  dsimp only
  rw [last_eq, outsAt0_B m c ⟨t.val - 1, hp1⟩ (by dsimp only; omega) (by dsimp only; omega) (by dsimp only; omega)]
  dsimp only
  rw [next_eq, outsAt0_B m c ⟨t.val - 1 - 1, hp2⟩ (by dsimp only; omega) (by dsimp only; omega) (by dsimp only; omega)]
  dsimp only
  rw [next_eq, outsAt0_A m c ⟨t.val - 1 - 1 - 1, hp3⟩ (by dsimp only; omega) (by dsimp only; omega) (by dsimp only; omega)]
  dsimp only
  rw [first_eq, cast_add_at, add_at, add_at, prod_at, prod_at, prod_at, prod_at]
  have hs : ∀ s : Fin 4, t.val - 3 + s.val < cfg0.N := fun s => by have := t.isLt; omega
  have key := tn_four (V m c main_arg0 : Vec Ideal S4096x384 .bf16) (V m c main_arg2 : Vec Ideal S4096x1024 .f32) a (⟨t.val / 4 * 512 + b.val, by have := lt_points t; omega⟩ : Fin 1024)
    (fun s => iblk m c 0 ⟨t.val - 3 + s.val, hs s⟩) (fun s => iblk m c 1 ⟨t.val - 3 + s.val, hs s⟩) a b
    (fun s k => (blk0 m c ⟨t.val - 3 + s.val, hs s⟩ k a).trans (congrArg (V m c main_arg0)
      (congrArg (fun r : Fin 4096 => (ix2 r a : S4096x384.Idx)) (Fin.ext (by dsimp only; omega)))))
    (fun s k => (blk1 m c ⟨t.val - 3 + s.val, hs s⟩ k b).trans (congrArg (V m c main_arg2)
      (congrArg₂ (fun (r : Fin 4096) (l : Fin 1024) => (ix2 r l : S4096x1024.Idx)) (Fin.ext (by dsimp only; omega)) (Fin.ext (by dsimp only; omega)))))
  refine Eq.trans ?_ key
  have q : ∀ (s : Fin 4) (u : Fin cfg0.N), u.val = t.val - 3 + s.val → (tn (iblk m c 0 u) (iblk m c 1 u) a b : EReal)
      = tn (iblk m c 0 ⟨t.val - 3 + s.val, hs s⟩) (iblk m c 1 ⟨t.val - 3 + s.val, hs s⟩) a b := fun s u e => by
    have : u = ⟨t.val - 3 + s.val, hs s⟩ := Fin.ext e
    rw [this]
  exact congrArg₂ (fun x y : EReal => x + y) (congrArg₂ (fun x y : EReal => x + y) (congrArg₂ (fun x y : EReal => x + y)
    (q 0 _ (by dsimp only; change _ = _ + 0; omega)) (q 1 _ (by dsimp only; change _ = _ + 1; omega))) (q 2 _ (by dsimp only; change _ = _ + 2; omega)))
    (q 3 _ (by change _ = _ + 3; omega))

/-- The result's array after the run. -/
theorem result : Value.G2 m c = grad (V m c main_arg0 : Vec Ideal S4096x384 .bf16) (V m c main_arg2 : Vec Ideal S4096x1024 .f32) := by
  refine (Value.final2 m c).symm.trans ?_
  refine (dats m 0 c).arrAt_eq_of_covers 2 _ (by decide +kernel) fun t hf y => ?_
  have h := (flush0_2 t).mp hf
  have e : win0_2.index t = ![0, t.val / 4] := (by decide +kernel : ∀ t : Fin grid0.N, win0_2.index t = ![0, t.val / 4]) t
  blk_simp
  obtain ⟨a, b, rfl⟩ : ∃ a b, y = ix2 a b := ⟨y 0, y 1, by idx_vars y⟩
  rw [after_at m c t h]
  refine congrArg (grad (V m c main_arg0 : Vec Ideal S4096x384 .bf16) (V m c main_arg2 : Vec Ideal S4096x1024 .f32)) ?_
  blk_ext [e]

end Kernel

/-- The reference's term. -/
theorem reference_eq (H : Vec Ideal S4096x384 .bf16) (D : Vec Ideal S4096x1024 .f32) :
    truncf .bf16 (transpose Cert.QbDwReferenceIdeal.S384x1024 [1, 0] (Host.dotGeneral (F := Ideal) (φ₁ := .f32) (φ₂ := .bf16)
      Cert.QbDwReferenceIdeal.dot_S4096x1024_S4096x384_S1024x384_0_0_1_1_n_n none D H) Cert.QbDwReferenceIdeal.Gen.transposes_S1024x384_S384x1024_1_0)
      Cert.QbDwReferenceIdeal.Gen.bitsLt_bf16_f32 = grad H D := by
  funext i
  idx_vars i
  pointwise [grad, tn]
  exact Finset.sum_congr rfl fun k _ => mul_comm _ _

/-- The kernel's result is the reference's. -/
theorem algebraic : Cert.algebraic_QbDwKernelIdeal_QbDwReferenceIdeal := by
  intro m ρ m' ρ' _ hagree
  refine ⟨_, Cert.QbDwKernelIdeal.Value.run (F := Ideal) m ρ, ?_⟩
  refine (θ_run Cert.QbDwReferenceIdeal.defs _ _).mono (fun _ h c => ⟨?_, (h c).2⟩) (Cert.QbDwReferenceIdeal.Value.run (F := Ideal) m' ρ')
  obtain ⟨e0, e1, e2⟩ := hagree c
  rw [(h c).1, result]
  refine (reference_eq _ _).trans ?_
  rw [e0, e2]

end Cert.QbDwKernelIdeal.Own

end
-- ==== Proof.Ip.KvFwd.lean ====
/-
  The product making the latent attention's keys, or of its values: the kernel goes over blocks of rows and columns, the reference is one product.
-/
module

public import proofs.«01_k».proof.Defs
public import proofs.«01_k».proof.Proof.Gen.KvFwdKernelIdeal.Value
public import proofs.«01_k».proof.Proof.Gen.KvFwdReferenceIdeal.Run
public import proofs.«01_k».proof.Proof.Ip.Lin
public import Idealize.ShloMosaic.Lib.Pointwise
public import Idealize.ShloMosaic.Lib.Pipeline.ValueKit.Geometry
public import Idealize.ShloMosaic.Lib.Quiescent

@[expose] public section

set_option maxRecDepth 16384

noncomputable section

namespace Cert.KvFwdKernelIdeal.Own

open Cert.Proof.Ip Cert.KvFwdKernelIdeal Cert.KvFwdKernelIdeal.Gen Idealize.ShloMosaic Idealize.ShloMosaic.TcCoe Idealize.SL.Sem

theorem hz : (![0, 0] : Fin 2 → Nat) = fun _ => 0 := funext fun a => by fin_cases a <;> rfl

/-- What the body leaves. -/
theorem body (x0 : Vec Ideal S1024x256 .bf16) (x1 : Vec Ideal S256x512 .bf16) (a : Fin 1024) (b : Fin 512) :
    out0_2 x0 x1 (ix2 a b) = (nn x0 x1 a b : EReal) := by
  unfold out0_2
  rw [View.canon_unit_zero hz]
  simp only [View.ld_unit_zero (S := S1024x256) hz, View.ld_unit_zero (S := S256x512) hz]
  pointwise [k0_pay1, nn]

/-- The result, element by element. -/
def res (A : Vec Ideal S4096x256 .bf16) (B : Vec Ideal S256x512 .bf16) : Vec Ideal S4096x512 .f32 := fun i => nn A B (i 0) (i 1)

section Kernel

variable (m : (ℓ : Loc nD τ sig) → Buf (Elt Ideal) ℓ) (c : Dev nD)

theorem lt_points (t : Fin cfg0.N) : t.val < 4 := Nat.lt_of_lt_of_eq t.isLt N_0

theorem blk0 (t : Fin cfg0.N) (a : Fin 1024) (b : Fin 256) :
    iblk m c 0 t (ix2 a b) = (V m c main_arg0 : Vec Ideal S4096x256 .bf16) (ix2 (⟨t.val * 1024 + a.val, by have := lt_points t; omega⟩ : Fin 4096) (b : Fin 256)) := by
  have e : win0_0.index t = ![t.val, 0] := (by decide +kernel : ∀ t : Fin grid0.N, win0_0.index t = ![t.val, 0]) t
  blk_simp [iblk]
  refine congrArg (V m c main_arg0) ?_
  blk_ext [e]

theorem blk1 (t : Fin cfg0.N) (a : Fin 256) (b : Fin 512) :
    iblk m c 1 t (ix2 a b) = (V m c main_arg1 : Vec Ideal S256x512 .bf16) (ix2 (a : Fin 256) (b : Fin 512)) := by
  have e : win0_1.index t = ![0, 0] := (by decide +kernel : ∀ t : Fin grid0.N, win0_1.index t = ![0, 0]) t
  blk_simp [iblk]
  refine congrArg (V m c main_arg1) ?_
  blk_ext [e]

/-- The result's array after the run. -/
theorem result : (dats m 0 c).arrAt 2 cfg0.N = res (V m c main_arg0 : Vec Ideal S4096x256 .bf16) (V m c main_arg1 : Vec Ideal S256x512 .bf16) := by
  refine (dats m 0 c).arrAt_eq_of_covers 2 _ (by decide +kernel) fun t hf y => ?_
  have e : win0_2.index t = ![t.val, 0] := (by decide +kernel : ∀ t : Fin grid0.N, win0_2.index t = ![t.val, 0]) t
  blk_simp
  obtain ⟨a, b, rfl⟩ : ∃ a b, y = ix2 a b := ⟨y 0, y 1, by idx_vars y⟩
  rw [after0_2, body]
  refine Eq.trans ?_ (congrArg (res (V m c main_arg0 : Vec Ideal S4096x256 .bf16) (V m c main_arg1 : Vec Ideal S256x512 .bf16))
    (?_ : (ix2 (⟨t.val * 1024 + a.val, by have := lt_points t; omega⟩ : Fin 4096) (b : Fin 512) : S4096x512.Idx) = _))
  · exact nn_congr (blk0 m c t a) (blk1 m c t · b)
  · blk_ext [e]

end Kernel

/-- The reference's term. -/
theorem reference_eq (A : Vec Ideal S4096x256 .bf16) (B : Vec Ideal S256x512 .bf16) :
    Host.dotGeneral (F := Ideal) (φ₁ := .bf16) (φ₂ := .bf16) Cert.KvFwdReferenceIdeal.dot_S4096x256_S256x512_S4096x512_1_0_0_1_n_n none A B = res A B := by
  funext i
  idx_vars i
  pointwise [res, nn]

/-- The kernel's result is the reference's. -/
theorem algebraic : Cert.algebraic_KvFwdKernelIdeal_KvFwdReferenceIdeal := by
  intro m ρ m' ρ' _ hagree
  refine ⟨_, Cert.KvFwdKernelIdeal.Value.run_blocks (F := Ideal) m ρ, ?_⟩
  refine (θ_run Cert.KvFwdReferenceIdeal.defs _ _).mono (fun _ h c => ⟨?_, (h c).2⟩) (Cert.KvFwdReferenceIdeal.Value.run (F := Ideal) m' ρ')
  obtain ⟨e0, e1⟩ := hagree c
  rw [(h c).1, result]
  refine (reference_eq _ _).trans ?_
  rw [e0, e1]

end Cert.KvFwdKernelIdeal.Own

end
-- ==== Proof.Ip.KvDw.lean ====
/-
  The gradient of the weights of the product making the latent attention's keys, or of its values: the kernel accumulates four blocks of 1024 rows, the
  reference is one product.
-/
module

public import proofs.«01_k».proof.Defs
public import proofs.«01_k».proof.Proof.Gen.KvDwKernelIdeal.Value
public import proofs.«01_k».proof.Proof.Gen.KvDwReferenceIdeal.Run
public import proofs.«01_k».proof.Proof.Ip.Lin
public import Idealize.ShloMosaic.Lib.Pointwise
public import Idealize.ShloMosaic.Lib.Pipeline.ValueKit.Geometry
public import Idealize.ShloMosaic.Lib.Quiescent

@[expose] public section

set_option maxRecDepth 16384

noncomputable section

namespace Cert.KvDwKernelIdeal.Own

open Cert.Proof.Ip Cert.KvDwKernelIdeal Cert.KvDwKernelIdeal.Gen Idealize.ShloMosaic Idealize.ShloMosaic.TcCoe Idealize.SL.Sem

theorem hz : (![0, 0] : Fin 2 → Nat) = fun _ => 0 := funext fun a => by fin_cases a <;> rfl

section Body

variable {F : FTy → Type} [FloatOps F]

/-- The product of a block of rows. -/
abbrev prod (x0 : Vec F S1024x256 .bf16) (x1 : Vec F S1024x512 .f32) : FVec F S256x512 .f32 :=
  matmul dot_S1024x256_S1024x512_S256x512_0_0_1_1_n_n none x0 (truncf .bf16 x1 bitsLt_bf16_f32) (constant S256x512 .f32 0x00000000#32)

/-- What the first of four points leaves in the accumulator. -/
theorem first_eq (c : Dev nD) (i : grid0.Coords) (a3 : Memref sig .tc .vmem S1024x256 .bf16) (h3 : a3.IsWhole)
    (a4 : Memref sig .tc .vmem S1024x512 .f32) (h4 : a4.IsWhole) (a5 : Memref sig .tc .vmem S256x512 .bf16) (h5 : a5.IsWhole)
    (a6 : Memref sig .tc .vmem S256x512 .f32) (h6 : a6.IsWhole) (c0 : cond0_0 i) (c1 : ¬cond0_1 i) (c2 : ¬cond0_2 i)
    (x0 : Vec F S1024x256 .bf16) (x1 : Vec F S1024x512 .f32) :
    sout0_A_0 c i a3 h3 a4 h4 a5 h5 a6 h6 c0 c1 c2 x0 x1 = prod x0 x1 := by
  unfold sout0_A_0
  rw [View.read_writes_eq_canon _ _ _ (scover0_A_0 c i a3 h3 a4 h4 a5 h5 a6 h6 c0 c1 c2 x0 x1)]
  unfold kernelRun0_A
  dsimp only
  sl_unfold_words
  rw [View.canon_unit_zero hz]
  simp only [View.readAt_eq_ld, h3.read_unread, h4.read_unread, View.ld_unit_zero (S := S1024x256) hz, View.ld_unit_zero (S := S1024x512) hz, View.ld_unit_zero (S := S256x512) hz, shapeCast_self]
  unfold k0_pay2 k0_pay1
  simp only [shapeCast_self]

/-- What the second and the third leave there. -/
theorem next_eq (c : Dev nD) (i : grid0.Coords) (a3 : Memref sig .tc .vmem S1024x256 .bf16) (h3 : a3.IsWhole)
    (a4 : Memref sig .tc .vmem S1024x512 .f32) (h4 : a4.IsWhole) (a5 : Memref sig .tc .vmem S256x512 .bf16) (h5 : a5.IsWhole)
    (a6 : Memref sig .tc .vmem S256x512 .f32) (h6 : a6.IsWhole) (c0 : ¬cond0_0 i) (c1 : cond0_1 i) (c2 : ¬cond0_2 i)
    (x0 : Vec F S1024x256 .bf16) (x1 : Vec F S1024x512 .f32) (xs : Vec F S256x512 .f32) :
    sout0_B_0 c i a3 h3 a4 h4 a5 h5 a6 h6 c0 c1 c2 x0 x1 xs = addf xs (prod x0 x1) := by
  unfold sout0_B_0
  rw [View.read_writes_eq_canon _ _ _ (scover0_B_0 c i a3 h3 a4 h4 a5 h5 a6 h6 c0 c1 c2 x0 x1 xs)]
  unfold kernelRun0_B
  dsimp only
  sl_unfold_words
  rw [View.canon_unit_zero hz]
  simp only [View.readAt_eq_ld, h3.read_unread, h4.read_unread, h6.read_unread, View.ld_unit_zero (S := S1024x256) hz, View.ld_unit_zero (S := S1024x512) hz, View.ld_unit_zero (S := S256x512) hz, shapeCast_self]
  unfold k0_pay3 k0_pay1
  simp only [shapeCast_self]

/-- What the fourth leaves in the result's block. -/
theorem last_eq (c : Dev nD) (i : grid0.Coords) (a3 : Memref sig .tc .vmem S1024x256 .bf16) (h3 : a3.IsWhole)
    (a4 : Memref sig .tc .vmem S1024x512 .f32) (h4 : a4.IsWhole) (a5 : Memref sig .tc .vmem S256x512 .bf16) (h5 : a5.IsWhole)
    (a6 : Memref sig .tc .vmem S256x512 .f32) (h6 : a6.IsWhole) (c0 : ¬cond0_0 i) (c1 : cond0_1 i) (c2 : cond0_2 i)
    (x0 : Vec F S1024x256 .bf16) (x1 : Vec F S1024x512 .f32) (xs : Vec F S256x512 .f32) :
    out0_C_2 c i a3 h3 a4 h4 a5 h5 a6 h6 c0 c1 c2 x0 x1 xs = truncf .bf16 (addf xs (prod x0 x1)) bitsLt_bf16_f32 := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero hz]
  simp only [View.readCov_unit_zero (S := S256x512) _ hz, View.readAt_eq_ld, h3.read_unread, h4.read_unread, h6.read_unread, View.ld_unit_zero (S := S1024x256) hz, View.ld_unit_zero (S := S1024x512) hz, View.ld_unit_zero (S := S256x512) hz, shapeCast_self]
  unfold k0_pay4 k0_pay3 k0_pay1
  simp only [shapeCast_self]

end Body

/-- A product of a block of rows, element by element. -/
theorem prod_at (x0 : Vec Ideal S1024x256 .bf16) (x1 : Vec Ideal S1024x512 .f32) (a : Fin 256) (b : Fin 512) :
    prod x0 x1 (ix2 a b) = (tn x0 x1 a b : EReal) := by
  pointwise [prod, tn]

theorem add_at (xs y : Vec Ideal S256x512 .f32) (i : S256x512.Idx) : addf (F := Ideal) (φ := .f32) xs y i = (xs i + y i : EReal) := rfl

theorem cast_add_at (xs y : Vec Ideal S256x512 .f32) (i : S256x512.Idx) :
    truncf .bf16 (addf (F := Ideal) xs y) bitsLt_bf16_f32 i = (xs i + y i : EReal) := rfl

/-- The gradient, element by element. -/
def grad (H : Vec Ideal S4096x256 .bf16) (D : Vec Ideal S4096x512 .f32) : Vec Ideal S256x512 .bf16 := fun i => tn H D (i 0) (i 1)

section Kernel

variable (m : (ℓ : Loc nD τ sig) → Buf (Elt Ideal) ℓ) (c : Dev nD)

theorem lt_points (t : Fin cfg0.N) : t.val < 4 := Nat.lt_of_lt_of_eq t.isLt N_0

theorem blk0 (t : Fin cfg0.N) (a : Fin 1024) (b : Fin 256) :
    iblk m c 0 t (ix2 a b) = (V m c main_arg0 : Vec Ideal S4096x256 .bf16) (ix2 (⟨t.val * 1024 + a.val, by have := lt_points t; omega⟩ : Fin 4096) (b : Fin 256)) := by
  have e : win0_0.index t = ![t.val, 0] := (by decide +kernel : ∀ t : Fin grid0.N, win0_0.index t = ![t.val, 0]) t
  blk_simp [iblk]
  refine congrArg (V m c main_arg0) ?_
  blk_ext [e]

theorem blk1 (t : Fin cfg0.N) (a : Fin 1024) (b : Fin 512) :
    iblk m c 1 t (ix2 a b) = (V m c main_arg2 : Vec Ideal S4096x512 .f32) (ix2 (⟨t.val * 1024 + a.val, by have := lt_points t; omega⟩ : Fin 4096) (b : Fin 512)) := by
  have e : win0_1.index t = ![t.val, 0] := (by decide +kernel : ∀ t : Fin grid0.N, win0_1.index t = ![t.val, 0]) t
  blk_simp [iblk]
  refine congrArg (V m c main_arg2) ?_
  blk_ext [e]

/-- What the fourth point of a block writes back. -/
theorem after_at (t : Fin cfg0.N) (h : t.val % 4 = 3) (a : Fin 256) (b : Fin 512) :
    (dats m 0 c).after 2 t (ix2 a b) = grad (V m c main_arg0 : Vec Ideal S4096x256 .bf16) (V m c main_arg2 : Vec Ideal S4096x512 .f32) (ix2 a (b : Fin 512)) := by
  have hl := lt_points t
  have hp1 : t.val - 1 < cfg0.N := Nat.lt_of_le_of_lt (Nat.sub_le _ _) t.isLt
  have hp2 : t.val - 1 - 1 < cfg0.N := Nat.lt_of_le_of_lt (Nat.sub_le _ _) hp1
  have hp3 : t.val - 1 - 1 - 1 < cfg0.N := Nat.lt_of_le_of_lt (Nat.sub_le _ _) hp2
  rw [after0_2, outsAt0_C m c t (by omega) (by omega) (by omega)]
  dsimp only
  rw [last_eq, outsAt0_B m c ⟨t.val - 1, hp1⟩ (by dsimp only; omega) (by dsimp only; omega) (by dsimp only; omega)]
  dsimp only
  rw [next_eq, outsAt0_B m c ⟨t.val - 1 - 1, hp2⟩ (by dsimp only; omega) (by dsimp only; omega) (by dsimp only; omega)]
  dsimp only
  rw [next_eq, outsAt0_A m c ⟨t.val - 1 - 1 - 1, hp3⟩ (by dsimp only; omega) (by dsimp only; omega) (by dsimp only; omega)]
  dsimp only
  rw [first_eq, cast_add_at, add_at, add_at, prod_at, prod_at, prod_at, prod_at]
  have hs : ∀ s : Fin 4, t.val - 3 + s.val < cfg0.N := fun s => by have := t.isLt; omega
  have key := tn_four (V m c main_arg0 : Vec Ideal S4096x256 .bf16) (V m c main_arg2 : Vec Ideal S4096x512 .f32) a (b : Fin 512)
    (fun s => iblk m c 0 ⟨t.val - 3 + s.val, hs s⟩) (fun s => iblk m c 1 ⟨t.val - 3 + s.val, hs s⟩) a b
    (fun s k => (blk0 m c ⟨t.val - 3 + s.val, hs s⟩ k a).trans (congrArg (V m c main_arg0)
      (congrArg (fun r : Fin 4096 => (ix2 r a : S4096x256.Idx)) (Fin.ext (by dsimp only; omega)))))
    (fun s k => (blk1 m c ⟨t.val - 3 + s.val, hs s⟩ k b).trans (congrArg (V m c main_arg2)
      (congrArg₂ (fun (r : Fin 4096) (l : Fin 512) => (ix2 r l : S4096x512.Idx)) (Fin.ext (by dsimp only; omega)) rfl)))
  refine Eq.trans ?_ key
  have q : ∀ (s : Fin 4) (u : Fin cfg0.N), u.val = t.val - 3 + s.val → (tn (iblk m c 0 u) (iblk m c 1 u) a b : EReal)
      = tn (iblk m c 0 ⟨t.val - 3 + s.val, hs s⟩) (iblk m c 1 ⟨t.val - 3 + s.val, hs s⟩) a b := fun s u e => by
    have : u = ⟨t.val - 3 + s.val, hs s⟩ := Fin.ext e
    rw [this]
  exact congrArg₂ (fun x y : EReal => x + y) (congrArg₂ (fun x y : EReal => x + y) (congrArg₂ (fun x y : EReal => x + y)
    (q 0 _ (by dsimp only; change _ = _ + 0; omega)) (q 1 _ (by dsimp only; change _ = _ + 1; omega))) (q 2 _ (by dsimp only; change _ = _ + 2; omega)))
    (q 3 _ (by change _ = _ + 3; omega))

/-- The result's array after the run. -/
theorem result : Value.G2 m c = grad (V m c main_arg0 : Vec Ideal S4096x256 .bf16) (V m c main_arg2 : Vec Ideal S4096x512 .f32) := by
  refine (Value.final2 m c).symm.trans ?_
  refine (dats m 0 c).arrAt_eq_of_covers 2 _ (by decide +kernel) fun t hf y => ?_
  have h := (flush0_2 t).mp hf
  have e : win0_2.index t = ![0, 0] := (by decide +kernel : ∀ t : Fin grid0.N, win0_2.index t = ![0, 0]) t
  blk_simp
  obtain ⟨a, b, rfl⟩ : ∃ a b, y = ix2 a b := ⟨y 0, y 1, by idx_vars y⟩
  rw [after_at m c t h]
  refine congrArg (grad (V m c main_arg0 : Vec Ideal S4096x256 .bf16) (V m c main_arg2 : Vec Ideal S4096x512 .f32)) ?_
  blk_ext [e]

end Kernel

/-- The reference's term. -/
theorem reference_eq (H : Vec Ideal S4096x256 .bf16) (D : Vec Ideal S4096x512 .f32) :
    truncf .bf16 (transpose Cert.KvDwReferenceIdeal.S256x512 [1, 0] (Host.dotGeneral (F := Ideal) (φ₁ := .f32) (φ₂ := .bf16)
      Cert.KvDwReferenceIdeal.dot_S4096x512_S4096x256_S512x256_0_0_1_1_n_n none D H) Cert.KvDwReferenceIdeal.Gen.transposes_S512x256_S256x512_1_0)
      Cert.KvDwReferenceIdeal.Gen.bitsLt_bf16_f32 = grad H D := by
  funext i
  idx_vars i
  pointwise [grad, tn]
  exact Finset.sum_congr rfl fun k _ => mul_comm _ _

/-- The kernel's result is the reference's. -/
theorem algebraic : Cert.algebraic_KvDwKernelIdeal_KvDwReferenceIdeal := by
  intro m ρ m' ρ' _ hagree
  refine ⟨_, Cert.KvDwKernelIdeal.Value.run (F := Ideal) m ρ, ?_⟩
  refine (θ_run Cert.KvDwReferenceIdeal.defs _ _).mono (fun _ h c => ⟨?_, (h c).2⟩) (Cert.KvDwReferenceIdeal.Value.run (F := Ideal) m' ρ')
  obtain ⟨e0, e1, e2⟩ := hagree c
  rw [(h c).1, result]
  refine (reference_eq _ _).trans ?_
  rw [e0, e2]

end Cert.KvDwKernelIdeal.Own

end
-- ==== Proof.Ip.DwNarrow.lean ====
/-
  The gradients of the weights of the seven narrower segments of the input product: one call accumulates, for each of them,
  four blocks of 1024 rows; the reference is one product a segment.
-/
module

public import proofs.«01_k».proof.Defs
public import proofs.«01_k».proof.Proof.Gen.DwNarrowKernel.Frame
public import proofs.«01_k».proof.Proof.Gen.DwNarrowKernelIdeal.Value
public import proofs.«01_k».proof.Proof.Gen.DwNarrowReferenceIdeal.Run
public import proofs.«01_k».proof.Proof.Ip.Lin
public import Idealize.ShloMosaic.Lib.Pointwise
public import Idealize.ShloMosaic.Lib.Pipeline.ValueKit.Geometry
public import Idealize.ShloMosaic.Lib.Quiescent

@[expose] public section

set_option maxRecDepth 16384

noncomputable section

namespace Cert.DwNarrowKernelIdeal.Own

open Cert.Proof.Ip Cert.DwNarrowKernelIdeal Cert.DwNarrowKernelIdeal.Gen Idealize.ShloMosaic Idealize.ShloMosaic.TcCoe Idealize.SL.Sem

theorem hz : (![0, 0] : Fin 2 → Nat) = fun _ => 0 := funext fun a => by fin_cases a <;> rfl

section Body

variable {F : FTy → Type} [FloatOps F]

/-- The product of a block of rows, for a segment 128 wide. -/
abbrev prod128 (x : Vec F S1024x1024 .bf16) (y : Vec F S1024x128 .bf16) : FVec F S1024x128 .f32 :=
  matmul dot_S1024x1024_S1024x128_S1024x128_0_0_1_1_n_n none x y (constant S1024x128 .f32 0x00000000#32)

/-- The product of a block of rows, for a segment 256 wide. -/
abbrev prod256 (x : Vec F S1024x1024 .bf16) (y : Vec F S1024x256 .bf16) : FVec F S1024x256 .f32 :=
  matmul dot_S1024x1024_S1024x256_S1024x256_0_0_1_1_n_n none x y (constant S1024x256 .f32 0x00000000#32)

/-- The product of a block of rows, for a segment 384 wide. -/
abbrev prod384 (x : Vec F S1024x1024 .bf16) (y : Vec F S1024x384 .bf16) : FVec F S1024x384 .f32 :=
  matmul dot_S1024x1024_S1024x384_S1024x384_0_0_1_1_n_n none x y (constant S1024x384 .f32 0x00000000#32)

/-- The product of a block of rows, for a segment 512 wide. -/
abbrev prod512 (x : Vec F S1024x1024 .bf16) (y : Vec F S1024x512 .bf16) : FVec F S1024x512 .f32 :=
  matmul dot_S1024x1024_S1024x512_S1024x512_0_0_1_1_n_n none x y (constant S1024x512 .f32 0x00000000#32)

variable (c : Dev nD) (i : grid0.Coords)
  (a1 : Memref sig .tc .vmem S1024x1024 .bf16) (h1 : a1.IsWhole)
  (a2 : Memref sig .tc .vmem S1024x384 .bf16) (h2 : a2.IsWhole)
  (a3 : Memref sig .tc .vmem S1024x256 .bf16) (h3 : a3.IsWhole)
  (a4 : Memref sig .tc .vmem S1024x128 .bf16) (h4 : a4.IsWhole)
  (a5 : Memref sig .tc .vmem S1024x512 .bf16) (h5 : a5.IsWhole)
  (a6 : Memref sig .tc .vmem S1024x128 .bf16) (h6 : a6.IsWhole)
  (a7 : Memref sig .tc .vmem S1024x512 .bf16) (h7 : a7.IsWhole)
  (a8 : Memref sig .tc .vmem S1024x512 .bf16) (h8 : a8.IsWhole)
  (a9 : Memref sig .tc .vmem S1024x384 .bf16) (h9 : a9.IsWhole)
  (a10 : Memref sig .tc .vmem S1024x256 .bf16) (h10 : a10.IsWhole)
  (a11 : Memref sig .tc .vmem S1024x128 .bf16) (h11 : a11.IsWhole)
  (a12 : Memref sig .tc .vmem S1024x512 .bf16) (h12 : a12.IsWhole)
  (a13 : Memref sig .tc .vmem S1024x128 .bf16) (h13 : a13.IsWhole)
  (a14 : Memref sig .tc .vmem S1024x512 .bf16) (h14 : a14.IsWhole)
  (a15 : Memref sig .tc .vmem S1024x512 .bf16) (h15 : a15.IsWhole)
  (a16 : Memref sig .tc .vmem S1024x384 .f32) (h16 : a16.IsWhole)
  (a17 : Memref sig .tc .vmem S1024x256 .f32) (h17 : a17.IsWhole)
  (a18 : Memref sig .tc .vmem S1024x128 .f32) (h18 : a18.IsWhole)
  (a19 : Memref sig .tc .vmem S1024x512 .f32) (h19 : a19.IsWhole)
  (a20 : Memref sig .tc .vmem S1024x128 .f32) (h20 : a20.IsWhole)
  (a21 : Memref sig .tc .vmem S1024x512 .f32) (h21 : a21.IsWhole)
  (a22 : Memref sig .tc .vmem S1024x512 .f32) (h22 : a22.IsWhole)
  (x : Vec F S1024x1024 .bf16) (y0 : Vec F S1024x384 .bf16) (y1 : Vec F S1024x256 .bf16) (y2 : Vec F S1024x128 .bf16) (y3 : Vec F S1024x512 .bf16) (y4 : Vec F S1024x128 .bf16) (y5 : Vec F S1024x512 .bf16) (y6 : Vec F S1024x512 .bf16)
  (z0 : Vec F S1024x384 .f32) (z1 : Vec F S1024x256 .f32) (z2 : Vec F S1024x128 .f32) (z3 : Vec F S1024x512 .f32) (z4 : Vec F S1024x128 .f32) (z5 : Vec F S1024x512 .f32) (z6 : Vec F S1024x512 .f32)

section CaseA

variable (k0 : cond0_0 i) (k1 : ¬cond0_1 i) (k2 : ¬cond0_2 i) (k3 : cond0_3 i) (k4 : ¬cond0_4 i) (k5 : ¬cond0_5 i) (k6 : cond0_6 i) (k7 : ¬cond0_7 i) (k8 : ¬cond0_8 i) (k9 : cond0_9 i) (k10 : ¬cond0_10 i) (k11 : ¬cond0_11 i) (k12 : cond0_12 i) (k13 : ¬cond0_13 i) (k14 : ¬cond0_14 i) (k15 : cond0_15 i) (k16 : ¬cond0_16 i) (k17 : ¬cond0_17 i) (k18 : cond0_18 i) (k19 : ¬cond0_19 i) (k20 : ¬cond0_20 i)

/-- What the first of the four points leaves in the accumulator: segment 0. -/
theorem first0 : sout0_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 = prod384 x y0 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6)]
  unfold kernelRun0_A
  dsimp only
  sl_unfold_words
  rw [View.canon_unit_zero hz]
  simp only [View.readAt_eq_ld, h1.read_unread, h2.read_unread, View.ld_unit_zero (S := S1024x1024) hz, View.ld_unit_zero (S := S1024x384) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the first of the four points leaves in the accumulator: segment 1. -/
theorem first1 : sout0_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 = prod256 x y1 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6)]
  unfold kernelRun0_A
  dsimp only
  sl_unfold_words
  rw [View.canon_unit_zero hz]
  simp only [View.readAt_eq_ld, h1.read_unread, h3.read_unread, View.ld_unit_zero (S := S1024x1024) hz, View.ld_unit_zero (S := S1024x256) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the first of the four points leaves in the accumulator: segment 2. -/
theorem first2 : sout0_A_2 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 = prod128 x y2 := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6)]
  unfold kernelRun0_A
  dsimp only
  sl_unfold_words
  rw [View.canon_unit_zero hz]
  simp only [View.readAt_eq_ld, h1.read_unread, h4.read_unread, View.ld_unit_zero (S := S1024x1024) hz, View.ld_unit_zero (S := S1024x128) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the first of the four points leaves in the accumulator: segment 3. -/
theorem first3 : sout0_A_3 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 = prod512 x y3 := by
  unfold sout0_A_3
  rw [View.read_writes_eq_canon _ _ _ (scover0_A_3 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6)]
  unfold kernelRun0_A
  dsimp only
  sl_unfold_words
  rw [View.canon_unit_zero hz]
  simp only [View.readAt_eq_ld, h1.read_unread, h5.read_unread, View.ld_unit_zero (S := S1024x1024) hz, View.ld_unit_zero (S := S1024x512) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the first of the four points leaves in the accumulator: segment 4. -/
theorem first4 : sout0_A_4 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 = prod128 x y4 := by
  unfold sout0_A_4
  rw [View.read_writes_eq_canon _ _ _ (scover0_A_4 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6)]
  unfold kernelRun0_A
  dsimp only
  sl_unfold_words
  rw [View.canon_unit_zero hz]
  simp only [View.readAt_eq_ld, h1.read_unread, h6.read_unread, View.ld_unit_zero (S := S1024x1024) hz, View.ld_unit_zero (S := S1024x128) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the first of the four points leaves in the accumulator: segment 5. -/
theorem first5 : sout0_A_5 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 = prod512 x y5 := by
  unfold sout0_A_5
  rw [View.read_writes_eq_canon _ _ _ (scover0_A_5 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6)]
  unfold kernelRun0_A
  dsimp only
  sl_unfold_words
  rw [View.canon_unit_zero hz]
  simp only [View.readAt_eq_ld, h1.read_unread, h7.read_unread, View.ld_unit_zero (S := S1024x1024) hz, View.ld_unit_zero (S := S1024x512) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the first of the four points leaves in the accumulator: segment 6. -/
theorem first6 : sout0_A_6 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 = prod512 x y6 := by
  unfold sout0_A_6
  rw [View.read_writes_eq_canon _ _ _ (scover0_A_6 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6)]
  unfold kernelRun0_A
  dsimp only
  sl_unfold_words
  rw [View.canon_unit_zero hz]
  simp only [View.readAt_eq_ld, h1.read_unread, h8.read_unread, View.ld_unit_zero (S := S1024x1024) hz, View.ld_unit_zero (S := S1024x512) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

end CaseA

section CaseB

variable (k0 : ¬cond0_0 i) (k1 : cond0_1 i) (k2 : ¬cond0_2 i) (k3 : ¬cond0_3 i) (k4 : cond0_4 i) (k5 : ¬cond0_5 i) (k6 : ¬cond0_6 i) (k7 : cond0_7 i) (k8 : ¬cond0_8 i) (k9 : ¬cond0_9 i) (k10 : cond0_10 i) (k11 : ¬cond0_11 i) (k12 : ¬cond0_12 i) (k13 : cond0_13 i) (k14 : ¬cond0_14 i) (k15 : ¬cond0_15 i) (k16 : cond0_16 i) (k17 : ¬cond0_17 i) (k18 : ¬cond0_18 i) (k19 : cond0_19 i) (k20 : ¬cond0_20 i)

/-- What the second and the third leave there: segment 0. -/
theorem next0 : sout0_B_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6 = addf z0 (prod384 x y0) := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6)]
  unfold kernelRun0_B
  dsimp only
  sl_unfold_words
  rw [View.canon_unit_zero hz]
  simp only [View.readAt_eq_ld, h1.read_unread, h2.read_unread, h16.read_unread, View.ld_unit_zero (S := S1024x1024) hz, View.ld_unit_zero (S := S1024x384) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the second and the third leave there: segment 1. -/
theorem next1 : sout0_B_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6 = addf z1 (prod256 x y1) := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6)]
  unfold kernelRun0_B
  dsimp only
  sl_unfold_words
  rw [View.canon_unit_zero hz]
  simp only [View.readAt_eq_ld, h1.read_unread, h3.read_unread, h17.read_unread, View.ld_unit_zero (S := S1024x1024) hz, View.ld_unit_zero (S := S1024x256) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the second and the third leave there: segment 2. -/
theorem next2 : sout0_B_2 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6 = addf z2 (prod128 x y2) := by
  unfold sout0_B_2
  rw [View.read_writes_eq_canon _ _ _ (scover0_B_2 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6)]
  unfold kernelRun0_B
  dsimp only
  sl_unfold_words
  rw [View.canon_unit_zero hz]
  simp only [View.readAt_eq_ld, h1.read_unread, h4.read_unread, h18.read_unread, View.ld_unit_zero (S := S1024x1024) hz, View.ld_unit_zero (S := S1024x128) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the second and the third leave there: segment 3. -/
theorem next3 : sout0_B_3 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6 = addf z3 (prod512 x y3) := by
  unfold sout0_B_3
  rw [View.read_writes_eq_canon _ _ _ (scover0_B_3 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6)]
  unfold kernelRun0_B
  dsimp only
  sl_unfold_words
  rw [View.canon_unit_zero hz]
  simp only [View.readAt_eq_ld, h1.read_unread, h5.read_unread, h19.read_unread, View.ld_unit_zero (S := S1024x1024) hz, View.ld_unit_zero (S := S1024x512) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the second and the third leave there: segment 4. -/
theorem next4 : sout0_B_4 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6 = addf z4 (prod128 x y4) := by
  unfold sout0_B_4
  rw [View.read_writes_eq_canon _ _ _ (scover0_B_4 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6)]
  unfold kernelRun0_B
  dsimp only
  sl_unfold_words
  rw [View.canon_unit_zero hz]
  simp only [View.readAt_eq_ld, h1.read_unread, h6.read_unread, h20.read_unread, View.ld_unit_zero (S := S1024x1024) hz, View.ld_unit_zero (S := S1024x128) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the second and the third leave there: segment 5. -/
theorem next5 : sout0_B_5 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6 = addf z5 (prod512 x y5) := by
  unfold sout0_B_5
  rw [View.read_writes_eq_canon _ _ _ (scover0_B_5 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6)]
  unfold kernelRun0_B
  dsimp only
  sl_unfold_words
  rw [View.canon_unit_zero hz]
  simp only [View.readAt_eq_ld, h1.read_unread, h7.read_unread, h21.read_unread, View.ld_unit_zero (S := S1024x1024) hz, View.ld_unit_zero (S := S1024x512) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the second and the third leave there: segment 6. -/
theorem next6 : sout0_B_6 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6 = addf z6 (prod512 x y6) := by
  unfold sout0_B_6
  rw [View.read_writes_eq_canon _ _ _ (scover0_B_6 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6)]
  unfold kernelRun0_B
  dsimp only
  sl_unfold_words
  rw [View.canon_unit_zero hz]
  simp only [View.readAt_eq_ld, h1.read_unread, h8.read_unread, h22.read_unread, View.ld_unit_zero (S := S1024x1024) hz, View.ld_unit_zero (S := S1024x512) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

end CaseB

section CaseC

variable (k0 : ¬cond0_0 i) (k1 : cond0_1 i) (k2 : cond0_2 i) (k3 : ¬cond0_3 i) (k4 : cond0_4 i) (k5 : cond0_5 i) (k6 : ¬cond0_6 i) (k7 : cond0_7 i) (k8 : cond0_8 i) (k9 : ¬cond0_9 i) (k10 : cond0_10 i) (k11 : cond0_11 i) (k12 : ¬cond0_12 i) (k13 : cond0_13 i) (k14 : cond0_14 i) (k15 : ¬cond0_15 i) (k16 : cond0_16 i) (k17 : cond0_17 i) (k18 : ¬cond0_18 i) (k19 : cond0_19 i) (k20 : cond0_20 i)

/-- What the fourth writes back: segment 0. -/
theorem last0 : out0_C_8 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6 = truncf .bf16 (addf z0 (prod384 x y0)) bitsLt_bf16_f32 := by
  unfold out0_C_8
  rw [View.read_writes_eq_canon _ _ _ (cover0_C_8 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6)]
  unfold kernelRun0_C
  dsimp only
  sl_unfold_words
  rw [View.canon_unit_zero hz]
  simp only [View.readCov_unit_zero (S := S1024x384) _ hz, View.readAt_eq_ld, h1.read_unread, h2.read_unread, h16.read_unread, View.ld_unit_zero (S := S1024x1024) hz, View.ld_unit_zero (S := S1024x384) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the fourth writes back: segment 1. -/
theorem last1 : out0_C_9 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6 = truncf .bf16 (addf z1 (prod256 x y1)) bitsLt_bf16_f32 := by
  unfold out0_C_9
  rw [View.read_writes_eq_canon _ _ _ (cover0_C_9 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6)]
  unfold kernelRun0_C
  dsimp only
  sl_unfold_words
  rw [View.canon_unit_zero hz]
  simp only [View.readCov_unit_zero (S := S1024x256) _ hz, View.readAt_eq_ld, h1.read_unread, h3.read_unread, h17.read_unread, View.ld_unit_zero (S := S1024x1024) hz, View.ld_unit_zero (S := S1024x256) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the fourth writes back: segment 2. -/
theorem last2 : out0_C_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6 = truncf .bf16 (addf z2 (prod128 x y2)) bitsLt_bf16_f32 := by
  unfold out0_C_10
  rw [View.read_writes_eq_canon _ _ _ (cover0_C_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6)]
  unfold kernelRun0_C
  dsimp only
  sl_unfold_words
  rw [View.canon_unit_zero hz]
  simp only [View.readCov_unit_zero (S := S1024x128) _ hz, View.readAt_eq_ld, h1.read_unread, h4.read_unread, h18.read_unread, View.ld_unit_zero (S := S1024x1024) hz, View.ld_unit_zero (S := S1024x128) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the fourth writes back: segment 3. -/
theorem last3 : out0_C_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6 = truncf .bf16 (addf z3 (prod512 x y3)) bitsLt_bf16_f32 := by
  unfold out0_C_11
  rw [View.read_writes_eq_canon _ _ _ (cover0_C_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6)]
  unfold kernelRun0_C
  dsimp only
  sl_unfold_words
  rw [View.canon_unit_zero hz]
  simp only [View.readCov_unit_zero (S := S1024x512) _ hz, View.readAt_eq_ld, h1.read_unread, h5.read_unread, h19.read_unread, View.ld_unit_zero (S := S1024x1024) hz, View.ld_unit_zero (S := S1024x512) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the fourth writes back: segment 4. -/
theorem last4 : out0_C_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6 = truncf .bf16 (addf z4 (prod128 x y4)) bitsLt_bf16_f32 := by
  unfold out0_C_12
  rw [View.read_writes_eq_canon _ _ _ (cover0_C_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6)]
  unfold kernelRun0_C
  dsimp only
  sl_unfold_words
  rw [View.canon_unit_zero hz]
  simp only [View.readCov_unit_zero (S := S1024x128) _ hz, View.readAt_eq_ld, h1.read_unread, h6.read_unread, h20.read_unread, View.ld_unit_zero (S := S1024x1024) hz, View.ld_unit_zero (S := S1024x128) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the fourth writes back: segment 5. -/
theorem last5 : out0_C_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6 = truncf .bf16 (addf z5 (prod512 x y5)) bitsLt_bf16_f32 := by
  unfold out0_C_13
  rw [View.read_writes_eq_canon _ _ _ (cover0_C_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6)]
  unfold kernelRun0_C
  dsimp only
  sl_unfold_words
  rw [View.canon_unit_zero hz]
  simp only [View.readCov_unit_zero (S := S1024x512) _ hz, View.readAt_eq_ld, h1.read_unread, h7.read_unread, h21.read_unread, View.ld_unit_zero (S := S1024x1024) hz, View.ld_unit_zero (S := S1024x512) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

/-- What the fourth writes back: segment 6. -/
theorem last6 : out0_C_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6 = truncf .bf16 (addf z6 (prod512 x y6)) bitsLt_bf16_f32 := by
  unfold out0_C_14
  rw [View.read_writes_eq_canon _ _ _ (cover0_C_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 k0 k1 k2 k3 k4 k5 k6 k7 k8 k9 k10 k11 k12 k13 k14 k15 k16 k17 k18 k19 k20 x y0 y1 y2 y3 y4 y5 y6 z0 z1 z2 z3 z4 z5 z6)]
  unfold kernelRun0_C
  dsimp only
  sl_unfold_words
  rw [View.canon_unit_zero hz]
  simp only [View.readCov_unit_zero (S := S1024x512) _ hz, View.readAt_eq_ld, h1.read_unread, h8.read_unread, h22.read_unread, View.ld_unit_zero (S := S1024x1024) hz, View.ld_unit_zero (S := S1024x512) hz, shapeCast_self]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]

end CaseC

end Body

/-- A product of a block of rows, element by element. -/
theorem prod128_at (x : Vec Ideal S1024x1024 .bf16) (y : Vec Ideal S1024x128 .bf16) (a : Fin 1024) (b : Fin 128) :
    prod128 x y (ix2 a b) = (tn x y a b : EReal) := by
  pointwise [prod128, tn]

/-- The gradient of the weights of a segment 128 wide, element by element. -/
def grad128 (H : Vec Ideal S4096x1024 .bf16) (D : Vec Ideal S4096x128 .bf16) : Vec Ideal S1024x128 .bf16 := fun i => tn H D (i 0) (i 1)

/-- The reference's term. -/
theorem reference128 (H : Vec Ideal S4096x1024 .bf16) (D : Vec Ideal S4096x128 .bf16) :
    truncf .bf16 (transpose Cert.DwNarrowReferenceIdeal.S1024x128 [1, 0] (Host.dotGeneral (F := Ideal) (φ₁ := .f32) (φ₂ := .bf16)
      Cert.DwNarrowReferenceIdeal.dot_S4096x128_S4096x1024_S128x1024_0_0_1_1_n_n none (extf .f32 D Cert.DwNarrowReferenceIdeal.Gen.bitsLt_bf16_f32) H)
      Cert.DwNarrowReferenceIdeal.Gen.transposes_S128x1024_S1024x128_1_0) Cert.DwNarrowReferenceIdeal.Gen.bitsLt_bf16_f32 = grad128 H D := by
  funext i
  idx_vars i
  pointwise [grad128, tn]
  exact Finset.sum_congr rfl fun k _ => mul_comm _ _

/-- Four blocks of rows make the gradient. -/
theorem sum128 (H : Vec Ideal S4096x1024 .bf16) (D : Vec Ideal S4096x128 .bf16) (X : Fin 4 → Vec Ideal S1024x1024 .bf16) (Y : Fin 4 → Vec Ideal S1024x128 .bf16)
    (hX : ∀ (s : Fin 4) (k : Fin 1024) (a : Fin 1024), X s (ix2 k a) = H (ix2 (⟨s.val * 1024 + k.val, by omega⟩ : Fin 4096) a))
    (hY : ∀ (s : Fin 4) (k : Fin 1024) (b : Fin 128), Y s (ix2 k b) = D (ix2 (⟨s.val * 1024 + k.val, by omega⟩ : Fin 4096) b)) :
    truncf .bf16 (addf (F := Ideal) (φ := .f32) (addf (F := Ideal) (φ := .f32) (addf (F := Ideal) (φ := .f32) (prod128 (X 0) (Y 0)) (prod128 (X 1) (Y 1))) (prod128 (X 2) (Y 2))) (prod128 (X 3) (Y 3))) bitsLt_bf16_f32 = grad128 H D := by
  funext i
  obtain ⟨a, b, rfl⟩ : ∃ a b, i = ix2 a b := ⟨i 0, i 1, by idx_vars i⟩
  have e : truncf .bf16 (addf (F := Ideal) (φ := .f32) (addf (F := Ideal) (φ := .f32) (addf (F := Ideal) (φ := .f32) (prod128 (X 0) (Y 0)) (prod128 (X 1) (Y 1))) (prod128 (X 2) (Y 2))) (prod128 (X 3) (Y 3))) bitsLt_bf16_f32 (ix2 a b)
      = (prod128 (X 0) (Y 0) (ix2 a b) + prod128 (X 1) (Y 1) (ix2 a b) + prod128 (X 2) (Y 2) (ix2 a b) + prod128 (X 3) (Y 3) (ix2 a b) : EReal) := rfl
  rw [e, prod128_at, prod128_at, prod128_at, prod128_at]
  exact tn_four H D a b X Y a b (fun s k => hX s k a) (fun s k => hY s k b)

/-- A product of a block of rows, element by element. -/
theorem prod256_at (x : Vec Ideal S1024x1024 .bf16) (y : Vec Ideal S1024x256 .bf16) (a : Fin 1024) (b : Fin 256) :
    prod256 x y (ix2 a b) = (tn x y a b : EReal) := by
  pointwise [prod256, tn]

/-- The gradient of the weights of a segment 256 wide, element by element. -/
def grad256 (H : Vec Ideal S4096x1024 .bf16) (D : Vec Ideal S4096x256 .bf16) : Vec Ideal S1024x256 .bf16 := fun i => tn H D (i 0) (i 1)

/-- The reference's term. -/
theorem reference256 (H : Vec Ideal S4096x1024 .bf16) (D : Vec Ideal S4096x256 .bf16) :
    truncf .bf16 (transpose Cert.DwNarrowReferenceIdeal.S1024x256 [1, 0] (Host.dotGeneral (F := Ideal) (φ₁ := .f32) (φ₂ := .bf16)
      Cert.DwNarrowReferenceIdeal.dot_S4096x256_S4096x1024_S256x1024_0_0_1_1_n_n none (extf .f32 D Cert.DwNarrowReferenceIdeal.Gen.bitsLt_bf16_f32) H)
      Cert.DwNarrowReferenceIdeal.Gen.transposes_S256x1024_S1024x256_1_0) Cert.DwNarrowReferenceIdeal.Gen.bitsLt_bf16_f32 = grad256 H D := by
  funext i
  idx_vars i
  pointwise [grad256, tn]
  exact Finset.sum_congr rfl fun k _ => mul_comm _ _

/-- Four blocks of rows make the gradient. -/
theorem sum256 (H : Vec Ideal S4096x1024 .bf16) (D : Vec Ideal S4096x256 .bf16) (X : Fin 4 → Vec Ideal S1024x1024 .bf16) (Y : Fin 4 → Vec Ideal S1024x256 .bf16)
    (hX : ∀ (s : Fin 4) (k : Fin 1024) (a : Fin 1024), X s (ix2 k a) = H (ix2 (⟨s.val * 1024 + k.val, by omega⟩ : Fin 4096) a))
    (hY : ∀ (s : Fin 4) (k : Fin 1024) (b : Fin 256), Y s (ix2 k b) = D (ix2 (⟨s.val * 1024 + k.val, by omega⟩ : Fin 4096) b)) :
    truncf .bf16 (addf (F := Ideal) (φ := .f32) (addf (F := Ideal) (φ := .f32) (addf (F := Ideal) (φ := .f32) (prod256 (X 0) (Y 0)) (prod256 (X 1) (Y 1))) (prod256 (X 2) (Y 2))) (prod256 (X 3) (Y 3))) bitsLt_bf16_f32 = grad256 H D := by
  funext i
  obtain ⟨a, b, rfl⟩ : ∃ a b, i = ix2 a b := ⟨i 0, i 1, by idx_vars i⟩
  have e : truncf .bf16 (addf (F := Ideal) (φ := .f32) (addf (F := Ideal) (φ := .f32) (addf (F := Ideal) (φ := .f32) (prod256 (X 0) (Y 0)) (prod256 (X 1) (Y 1))) (prod256 (X 2) (Y 2))) (prod256 (X 3) (Y 3))) bitsLt_bf16_f32 (ix2 a b)
      = (prod256 (X 0) (Y 0) (ix2 a b) + prod256 (X 1) (Y 1) (ix2 a b) + prod256 (X 2) (Y 2) (ix2 a b) + prod256 (X 3) (Y 3) (ix2 a b) : EReal) := rfl
  rw [e, prod256_at, prod256_at, prod256_at, prod256_at]
  exact tn_four H D a b X Y a b (fun s k => hX s k a) (fun s k => hY s k b)

/-- A product of a block of rows, element by element. -/
theorem prod384_at (x : Vec Ideal S1024x1024 .bf16) (y : Vec Ideal S1024x384 .bf16) (a : Fin 1024) (b : Fin 384) :
    prod384 x y (ix2 a b) = (tn x y a b : EReal) := by
  pointwise [prod384, tn]

/-- The gradient of the weights of a segment 384 wide, element by element. -/
def grad384 (H : Vec Ideal S4096x1024 .bf16) (D : Vec Ideal S4096x384 .bf16) : Vec Ideal S1024x384 .bf16 := fun i => tn H D (i 0) (i 1)

/-- The reference's term. -/
theorem reference384 (H : Vec Ideal S4096x1024 .bf16) (D : Vec Ideal S4096x384 .bf16) :
    truncf .bf16 (transpose Cert.DwNarrowReferenceIdeal.S1024x384 [1, 0] (Host.dotGeneral (F := Ideal) (φ₁ := .f32) (φ₂ := .bf16)
      Cert.DwNarrowReferenceIdeal.dot_S4096x384_S4096x1024_S384x1024_0_0_1_1_n_n none (extf .f32 D Cert.DwNarrowReferenceIdeal.Gen.bitsLt_bf16_f32) H)
      Cert.DwNarrowReferenceIdeal.Gen.transposes_S384x1024_S1024x384_1_0) Cert.DwNarrowReferenceIdeal.Gen.bitsLt_bf16_f32 = grad384 H D := by
  funext i
  idx_vars i
  pointwise [grad384, tn]
  exact Finset.sum_congr rfl fun k _ => mul_comm _ _

/-- Four blocks of rows make the gradient. -/
theorem sum384 (H : Vec Ideal S4096x1024 .bf16) (D : Vec Ideal S4096x384 .bf16) (X : Fin 4 → Vec Ideal S1024x1024 .bf16) (Y : Fin 4 → Vec Ideal S1024x384 .bf16)
    (hX : ∀ (s : Fin 4) (k : Fin 1024) (a : Fin 1024), X s (ix2 k a) = H (ix2 (⟨s.val * 1024 + k.val, by omega⟩ : Fin 4096) a))
    (hY : ∀ (s : Fin 4) (k : Fin 1024) (b : Fin 384), Y s (ix2 k b) = D (ix2 (⟨s.val * 1024 + k.val, by omega⟩ : Fin 4096) b)) :
    truncf .bf16 (addf (F := Ideal) (φ := .f32) (addf (F := Ideal) (φ := .f32) (addf (F := Ideal) (φ := .f32) (prod384 (X 0) (Y 0)) (prod384 (X 1) (Y 1))) (prod384 (X 2) (Y 2))) (prod384 (X 3) (Y 3))) bitsLt_bf16_f32 = grad384 H D := by
  funext i
  obtain ⟨a, b, rfl⟩ : ∃ a b, i = ix2 a b := ⟨i 0, i 1, by idx_vars i⟩
  have e : truncf .bf16 (addf (F := Ideal) (φ := .f32) (addf (F := Ideal) (φ := .f32) (addf (F := Ideal) (φ := .f32) (prod384 (X 0) (Y 0)) (prod384 (X 1) (Y 1))) (prod384 (X 2) (Y 2))) (prod384 (X 3) (Y 3))) bitsLt_bf16_f32 (ix2 a b)
      = (prod384 (X 0) (Y 0) (ix2 a b) + prod384 (X 1) (Y 1) (ix2 a b) + prod384 (X 2) (Y 2) (ix2 a b) + prod384 (X 3) (Y 3) (ix2 a b) : EReal) := rfl
  rw [e, prod384_at, prod384_at, prod384_at, prod384_at]
  exact tn_four H D a b X Y a b (fun s k => hX s k a) (fun s k => hY s k b)

/-- A product of a block of rows, element by element. -/
theorem prod512_at (x : Vec Ideal S1024x1024 .bf16) (y : Vec Ideal S1024x512 .bf16) (a : Fin 1024) (b : Fin 512) :
    prod512 x y (ix2 a b) = (tn x y a b : EReal) := by
  pointwise [prod512, tn]

/-- The gradient of the weights of a segment 512 wide, element by element. -/
def grad512 (H : Vec Ideal S4096x1024 .bf16) (D : Vec Ideal S4096x512 .bf16) : Vec Ideal S1024x512 .bf16 := fun i => tn H D (i 0) (i 1)

/-- The reference's term. -/
theorem reference512 (H : Vec Ideal S4096x1024 .bf16) (D : Vec Ideal S4096x512 .bf16) :
    truncf .bf16 (transpose Cert.DwNarrowReferenceIdeal.S1024x512 [1, 0] (Host.dotGeneral (F := Ideal) (φ₁ := .f32) (φ₂ := .bf16)
      Cert.DwNarrowReferenceIdeal.dot_S4096x512_S4096x1024_S512x1024_0_0_1_1_n_n none (extf .f32 D Cert.DwNarrowReferenceIdeal.Gen.bitsLt_bf16_f32) H)
      Cert.DwNarrowReferenceIdeal.Gen.transposes_S512x1024_S1024x512_1_0) Cert.DwNarrowReferenceIdeal.Gen.bitsLt_bf16_f32 = grad512 H D := by
  funext i
  idx_vars i
  pointwise [grad512, tn]
  exact Finset.sum_congr rfl fun k _ => mul_comm _ _

/-- Four blocks of rows make the gradient. -/
theorem sum512 (H : Vec Ideal S4096x1024 .bf16) (D : Vec Ideal S4096x512 .bf16) (X : Fin 4 → Vec Ideal S1024x1024 .bf16) (Y : Fin 4 → Vec Ideal S1024x512 .bf16)
    (hX : ∀ (s : Fin 4) (k : Fin 1024) (a : Fin 1024), X s (ix2 k a) = H (ix2 (⟨s.val * 1024 + k.val, by omega⟩ : Fin 4096) a))
    (hY : ∀ (s : Fin 4) (k : Fin 1024) (b : Fin 512), Y s (ix2 k b) = D (ix2 (⟨s.val * 1024 + k.val, by omega⟩ : Fin 4096) b)) :
    truncf .bf16 (addf (F := Ideal) (φ := .f32) (addf (F := Ideal) (φ := .f32) (addf (F := Ideal) (φ := .f32) (prod512 (X 0) (Y 0)) (prod512 (X 1) (Y 1))) (prod512 (X 2) (Y 2))) (prod512 (X 3) (Y 3))) bitsLt_bf16_f32 = grad512 H D := by
  funext i
  obtain ⟨a, b, rfl⟩ : ∃ a b, i = ix2 a b := ⟨i 0, i 1, by idx_vars i⟩
  have e : truncf .bf16 (addf (F := Ideal) (φ := .f32) (addf (F := Ideal) (φ := .f32) (addf (F := Ideal) (φ := .f32) (prod512 (X 0) (Y 0)) (prod512 (X 1) (Y 1))) (prod512 (X 2) (Y 2))) (prod512 (X 3) (Y 3))) bitsLt_bf16_f32 (ix2 a b)
      = (prod512 (X 0) (Y 0) (ix2 a b) + prod512 (X 1) (Y 1) (ix2 a b) + prod512 (X 2) (Y 2) (ix2 a b) + prod512 (X 3) (Y 3) (ix2 a b) : EReal) := rfl
  rw [e, prod512_at, prod512_at, prod512_at, prod512_at]
  exact tn_four H D a b X Y a b (fun s k => hX s k a) (fun s k => hY s k b)

section Kernel

variable (m : (ℓ : Loc nD τ sig) → Buf (Elt Ideal) ℓ) (c : Dev nD)

theorem lt_points (t : Fin cfg0.N) : t.val < 4 := Nat.lt_of_lt_of_eq t.isLt N_0

/-- The point of a block of rows. -/
abbrev pt (s : Fin 4) : Fin cfg0.N := ⟨s.val, Nat.lt_of_lt_of_eq s.isLt N_0.symm⟩

theorem blk0 (t : Fin cfg0.N) (a : Fin 1024) (b : Fin 1024) :
    iblk m c 0 t (ix2 a b) = (V m c main_arg0 : Vec Ideal S4096x1024 .bf16) (ix2 (⟨t.val * 1024 + a.val, by have := lt_points t; omega⟩ : Fin 4096) (b : Fin 1024)) := by
  have e : win0_0.index t = ![t.val, 0] := (by decide +kernel : ∀ t : Fin grid0.N, win0_0.index t = ![t.val, 0]) t
  blk_simp [iblk]
  refine congrArg (V m c main_arg0) ?_
  blk_ext [e]

theorem blk1 (t : Fin cfg0.N) (a : Fin 1024) (b : Fin 384) :
    iblk m c 1 t (ix2 a b) = (V m c main_arg1 : Vec Ideal S4096x384 .bf16) (ix2 (⟨t.val * 1024 + a.val, by have := lt_points t; omega⟩ : Fin 4096) (b : Fin 384)) := by
  have e : win0_1.index t = ![t.val, 0] := (by decide +kernel : ∀ t : Fin grid0.N, win0_1.index t = ![t.val, 0]) t
  blk_simp [iblk]
  refine congrArg (V m c main_arg1) ?_
  blk_ext [e]

theorem blk2 (t : Fin cfg0.N) (a : Fin 1024) (b : Fin 256) :
    iblk m c 2 t (ix2 a b) = (V m c main_arg2 : Vec Ideal S4096x256 .bf16) (ix2 (⟨t.val * 1024 + a.val, by have := lt_points t; omega⟩ : Fin 4096) (b : Fin 256)) := by
  have e : win0_2.index t = ![t.val, 0] := (by decide +kernel : ∀ t : Fin grid0.N, win0_2.index t = ![t.val, 0]) t
  blk_simp [iblk]
  refine congrArg (V m c main_arg2) ?_
  blk_ext [e]

theorem blk3 (t : Fin cfg0.N) (a : Fin 1024) (b : Fin 128) :
    iblk m c 3 t (ix2 a b) = (V m c main_arg3 : Vec Ideal S4096x128 .bf16) (ix2 (⟨t.val * 1024 + a.val, by have := lt_points t; omega⟩ : Fin 4096) (b : Fin 128)) := by
  have e : win0_3.index t = ![t.val, 0] := (by decide +kernel : ∀ t : Fin grid0.N, win0_3.index t = ![t.val, 0]) t
  blk_simp [iblk]
  refine congrArg (V m c main_arg3) ?_
  blk_ext [e]

theorem blk4 (t : Fin cfg0.N) (a : Fin 1024) (b : Fin 512) :
    iblk m c 4 t (ix2 a b) = (V m c main_arg4 : Vec Ideal S4096x512 .bf16) (ix2 (⟨t.val * 1024 + a.val, by have := lt_points t; omega⟩ : Fin 4096) (b : Fin 512)) := by
  have e : win0_4.index t = ![t.val, 0] := (by decide +kernel : ∀ t : Fin grid0.N, win0_4.index t = ![t.val, 0]) t
  blk_simp [iblk]
  refine congrArg (V m c main_arg4) ?_
  blk_ext [e]

theorem blk5 (t : Fin cfg0.N) (a : Fin 1024) (b : Fin 128) :
    iblk m c 5 t (ix2 a b) = (V m c main_arg5 : Vec Ideal S4096x128 .bf16) (ix2 (⟨t.val * 1024 + a.val, by have := lt_points t; omega⟩ : Fin 4096) (b : Fin 128)) := by
  have e : win0_5.index t = ![t.val, 0] := (by decide +kernel : ∀ t : Fin grid0.N, win0_5.index t = ![t.val, 0]) t
  blk_simp [iblk]
  refine congrArg (V m c main_arg5) ?_
  blk_ext [e]

theorem blk6 (t : Fin cfg0.N) (a : Fin 1024) (b : Fin 512) :
    iblk m c 6 t (ix2 a b) = (V m c main_arg6 : Vec Ideal S4096x512 .bf16) (ix2 (⟨t.val * 1024 + a.val, by have := lt_points t; omega⟩ : Fin 4096) (b : Fin 512)) := by
  have e : win0_6.index t = ![t.val, 0] := (by decide +kernel : ∀ t : Fin grid0.N, win0_6.index t = ![t.val, 0]) t
  blk_simp [iblk]
  refine congrArg (V m c main_arg6) ?_
  blk_ext [e]

theorem blk7 (t : Fin cfg0.N) (a : Fin 1024) (b : Fin 512) :
    iblk m c 7 t (ix2 a b) = (V m c main_arg7 : Vec Ideal S4096x512 .bf16) (ix2 (⟨t.val * 1024 + a.val, by have := lt_points t; omega⟩ : Fin 4096) (b : Fin 512)) := by
  have e : win0_7.index t = ![t.val, 0] := (by decide +kernel : ∀ t : Fin grid0.N, win0_7.index t = ![t.val, 0]) t
  blk_simp [iblk]
  refine congrArg (V m c main_arg7) ?_
  blk_ext [e]

/-- What the sweep leaves at a point depends on the point's number alone. -/
theorem outs_congr {n k : ℕ} (h : n = k) (hn : n < cfg0.N) (hk : k < cfg0.N) : outsAt0 m c n hn = outsAt0 m c k hk := by
  subst h
  rfl

/-- Segment 0 at the first of the four points, as the sweep leaves it. -/
theorem atFirst0 (t : Fin cfg0.N) (u0 : t.val % 4 = 0) (u1 : ¬1 ≤ t.val) (u2 : ¬t.val % 4 = 3) :
    (outsAt0 m c t.val t.isLt).2.2.2.2.2.2.2.1 = prod384 (iblk m c 0 t) (iblk m c 1 t) := by
  rw [outsAt0_A m c t u0 u1 u2 u0 u1 u2 u0 u1 u2 u0 u1 u2 u0 u1 u2 u0 u1 u2 u0 u1 u2]
  dsimp only
  rw [first0]

/-- Segment 1 at the first of the four points, as the sweep leaves it. -/
theorem atFirst1 (t : Fin cfg0.N) (u0 : t.val % 4 = 0) (u1 : ¬1 ≤ t.val) (u2 : ¬t.val % 4 = 3) :
    (outsAt0 m c t.val t.isLt).2.2.2.2.2.2.2.2.1 = prod256 (iblk m c 0 t) (iblk m c 2 t) := by
  rw [outsAt0_A m c t u0 u1 u2 u0 u1 u2 u0 u1 u2 u0 u1 u2 u0 u1 u2 u0 u1 u2 u0 u1 u2]
  dsimp only
  rw [first1]

/-- Segment 2 at the first of the four points, as the sweep leaves it. -/
theorem atFirst2 (t : Fin cfg0.N) (u0 : t.val % 4 = 0) (u1 : ¬1 ≤ t.val) (u2 : ¬t.val % 4 = 3) :
    (outsAt0 m c t.val t.isLt).2.2.2.2.2.2.2.2.2.1 = prod128 (iblk m c 0 t) (iblk m c 3 t) := by
  rw [outsAt0_A m c t u0 u1 u2 u0 u1 u2 u0 u1 u2 u0 u1 u2 u0 u1 u2 u0 u1 u2 u0 u1 u2]
  dsimp only
  rw [first2]

/-- Segment 3 at the first of the four points, as the sweep leaves it. -/
theorem atFirst3 (t : Fin cfg0.N) (u0 : t.val % 4 = 0) (u1 : ¬1 ≤ t.val) (u2 : ¬t.val % 4 = 3) :
    (outsAt0 m c t.val t.isLt).2.2.2.2.2.2.2.2.2.2.1 = prod512 (iblk m c 0 t) (iblk m c 4 t) := by
  rw [outsAt0_A m c t u0 u1 u2 u0 u1 u2 u0 u1 u2 u0 u1 u2 u0 u1 u2 u0 u1 u2 u0 u1 u2]
  dsimp only
  rw [first3]

/-- Segment 4 at the first of the four points, as the sweep leaves it. -/
theorem atFirst4 (t : Fin cfg0.N) (u0 : t.val % 4 = 0) (u1 : ¬1 ≤ t.val) (u2 : ¬t.val % 4 = 3) :
    (outsAt0 m c t.val t.isLt).2.2.2.2.2.2.2.2.2.2.2.1 = prod128 (iblk m c 0 t) (iblk m c 5 t) := by
  rw [outsAt0_A m c t u0 u1 u2 u0 u1 u2 u0 u1 u2 u0 u1 u2 u0 u1 u2 u0 u1 u2 u0 u1 u2]
  dsimp only
  rw [first4]

/-- Segment 5 at the first of the four points, as the sweep leaves it. -/
theorem atFirst5 (t : Fin cfg0.N) (u0 : t.val % 4 = 0) (u1 : ¬1 ≤ t.val) (u2 : ¬t.val % 4 = 3) :
    (outsAt0 m c t.val t.isLt).2.2.2.2.2.2.2.2.2.2.2.2.1 = prod512 (iblk m c 0 t) (iblk m c 6 t) := by
  rw [outsAt0_A m c t u0 u1 u2 u0 u1 u2 u0 u1 u2 u0 u1 u2 u0 u1 u2 u0 u1 u2 u0 u1 u2]
  dsimp only
  rw [first5]

/-- Segment 6 at the first of the four points, as the sweep leaves it. -/
theorem atFirst6 (t : Fin cfg0.N) (u0 : t.val % 4 = 0) (u1 : ¬1 ≤ t.val) (u2 : ¬t.val % 4 = 3) :
    (outsAt0 m c t.val t.isLt).2.2.2.2.2.2.2.2.2.2.2.2.2 = prod512 (iblk m c 0 t) (iblk m c 7 t) := by
  rw [outsAt0_A m c t u0 u1 u2 u0 u1 u2 u0 u1 u2 u0 u1 u2 u0 u1 u2 u0 u1 u2 u0 u1 u2]
  dsimp only
  rw [first6]

/-- Segment 0 at a point between. -/
theorem atNext0 (t u : Fin cfg0.N) (e : t.val - 1 = u.val) (u0 : ¬t.val % 4 = 0) (u1 : 1 ≤ t.val) (u2 : ¬t.val % 4 = 3) :
    (outsAt0 m c t.val t.isLt).2.2.2.2.2.2.2.1 = addf (F := Ideal) (φ := .f32) (outsAt0 m c u.val u.isLt).2.2.2.2.2.2.2.1 (prod384 (iblk m c 0 t) (iblk m c 1 t)) := by
  rw [outsAt0_B m c t u0 u1 u2 u0 u1 u2 u0 u1 u2 u0 u1 u2 u0 u1 u2 u0 u1 u2 u0 u1 u2]
  dsimp only
  rw [next0, outs_congr m c e _ u.isLt]

/-- Segment 1 at a point between. -/
theorem atNext1 (t u : Fin cfg0.N) (e : t.val - 1 = u.val) (u0 : ¬t.val % 4 = 0) (u1 : 1 ≤ t.val) (u2 : ¬t.val % 4 = 3) :
    (outsAt0 m c t.val t.isLt).2.2.2.2.2.2.2.2.1 = addf (F := Ideal) (φ := .f32) (outsAt0 m c u.val u.isLt).2.2.2.2.2.2.2.2.1 (prod256 (iblk m c 0 t) (iblk m c 2 t)) := by
  rw [outsAt0_B m c t u0 u1 u2 u0 u1 u2 u0 u1 u2 u0 u1 u2 u0 u1 u2 u0 u1 u2 u0 u1 u2]
  dsimp only
  rw [next1, outs_congr m c e _ u.isLt]

/-- Segment 2 at a point between. -/
theorem atNext2 (t u : Fin cfg0.N) (e : t.val - 1 = u.val) (u0 : ¬t.val % 4 = 0) (u1 : 1 ≤ t.val) (u2 : ¬t.val % 4 = 3) :
    (outsAt0 m c t.val t.isLt).2.2.2.2.2.2.2.2.2.1 = addf (F := Ideal) (φ := .f32) (outsAt0 m c u.val u.isLt).2.2.2.2.2.2.2.2.2.1 (prod128 (iblk m c 0 t) (iblk m c 3 t)) := by
  rw [outsAt0_B m c t u0 u1 u2 u0 u1 u2 u0 u1 u2 u0 u1 u2 u0 u1 u2 u0 u1 u2 u0 u1 u2]
  dsimp only
  rw [next2, outs_congr m c e _ u.isLt]

/-- Segment 3 at a point between. -/
theorem atNext3 (t u : Fin cfg0.N) (e : t.val - 1 = u.val) (u0 : ¬t.val % 4 = 0) (u1 : 1 ≤ t.val) (u2 : ¬t.val % 4 = 3) :
    (outsAt0 m c t.val t.isLt).2.2.2.2.2.2.2.2.2.2.1 = addf (F := Ideal) (φ := .f32) (outsAt0 m c u.val u.isLt).2.2.2.2.2.2.2.2.2.2.1 (prod512 (iblk m c 0 t) (iblk m c 4 t)) := by
  rw [outsAt0_B m c t u0 u1 u2 u0 u1 u2 u0 u1 u2 u0 u1 u2 u0 u1 u2 u0 u1 u2 u0 u1 u2]
  dsimp only
  rw [next3, outs_congr m c e _ u.isLt]

/-- Segment 4 at a point between. -/
theorem atNext4 (t u : Fin cfg0.N) (e : t.val - 1 = u.val) (u0 : ¬t.val % 4 = 0) (u1 : 1 ≤ t.val) (u2 : ¬t.val % 4 = 3) :
    (outsAt0 m c t.val t.isLt).2.2.2.2.2.2.2.2.2.2.2.1 = addf (F := Ideal) (φ := .f32) (outsAt0 m c u.val u.isLt).2.2.2.2.2.2.2.2.2.2.2.1 (prod128 (iblk m c 0 t) (iblk m c 5 t)) := by
  rw [outsAt0_B m c t u0 u1 u2 u0 u1 u2 u0 u1 u2 u0 u1 u2 u0 u1 u2 u0 u1 u2 u0 u1 u2]
  dsimp only
  rw [next4, outs_congr m c e _ u.isLt]

/-- Segment 5 at a point between. -/
theorem atNext5 (t u : Fin cfg0.N) (e : t.val - 1 = u.val) (u0 : ¬t.val % 4 = 0) (u1 : 1 ≤ t.val) (u2 : ¬t.val % 4 = 3) :
    (outsAt0 m c t.val t.isLt).2.2.2.2.2.2.2.2.2.2.2.2.1 = addf (F := Ideal) (φ := .f32) (outsAt0 m c u.val u.isLt).2.2.2.2.2.2.2.2.2.2.2.2.1 (prod512 (iblk m c 0 t) (iblk m c 6 t)) := by
  rw [outsAt0_B m c t u0 u1 u2 u0 u1 u2 u0 u1 u2 u0 u1 u2 u0 u1 u2 u0 u1 u2 u0 u1 u2]
  dsimp only
  rw [next5, outs_congr m c e _ u.isLt]

/-- Segment 6 at a point between. -/
theorem atNext6 (t u : Fin cfg0.N) (e : t.val - 1 = u.val) (u0 : ¬t.val % 4 = 0) (u1 : 1 ≤ t.val) (u2 : ¬t.val % 4 = 3) :
    (outsAt0 m c t.val t.isLt).2.2.2.2.2.2.2.2.2.2.2.2.2 = addf (F := Ideal) (φ := .f32) (outsAt0 m c u.val u.isLt).2.2.2.2.2.2.2.2.2.2.2.2.2 (prod512 (iblk m c 0 t) (iblk m c 7 t)) := by
  rw [outsAt0_B m c t u0 u1 u2 u0 u1 u2 u0 u1 u2 u0 u1 u2 u0 u1 u2 u0 u1 u2 u0 u1 u2]
  dsimp only
  rw [next6, outs_congr m c e _ u.isLt]

/-- Segment 0 at the last. -/
theorem atLast0 (t u : Fin cfg0.N) (e : t.val - 1 = u.val) (u0 : ¬t.val % 4 = 0) (u1 : 1 ≤ t.val) (u2 : t.val % 4 = 3) :
    (outsAt0 m c t.val t.isLt).1 = truncf .bf16 (addf (F := Ideal) (φ := .f32) (outsAt0 m c u.val u.isLt).2.2.2.2.2.2.2.1 (prod384 (iblk m c 0 t) (iblk m c 1 t))) bitsLt_bf16_f32 := by
  rw [outsAt0_C m c t u0 u1 u2 u0 u1 u2 u0 u1 u2 u0 u1 u2 u0 u1 u2 u0 u1 u2 u0 u1 u2]
  dsimp only
  rw [last0, outs_congr m c e _ u.isLt]

/-- Segment 1 at the last. -/
theorem atLast1 (t u : Fin cfg0.N) (e : t.val - 1 = u.val) (u0 : ¬t.val % 4 = 0) (u1 : 1 ≤ t.val) (u2 : t.val % 4 = 3) :
    (outsAt0 m c t.val t.isLt).2.1 = truncf .bf16 (addf (F := Ideal) (φ := .f32) (outsAt0 m c u.val u.isLt).2.2.2.2.2.2.2.2.1 (prod256 (iblk m c 0 t) (iblk m c 2 t))) bitsLt_bf16_f32 := by
  rw [outsAt0_C m c t u0 u1 u2 u0 u1 u2 u0 u1 u2 u0 u1 u2 u0 u1 u2 u0 u1 u2 u0 u1 u2]
  dsimp only
  rw [last1, outs_congr m c e _ u.isLt]

/-- Segment 2 at the last. -/
theorem atLast2 (t u : Fin cfg0.N) (e : t.val - 1 = u.val) (u0 : ¬t.val % 4 = 0) (u1 : 1 ≤ t.val) (u2 : t.val % 4 = 3) :
    (outsAt0 m c t.val t.isLt).2.2.1 = truncf .bf16 (addf (F := Ideal) (φ := .f32) (outsAt0 m c u.val u.isLt).2.2.2.2.2.2.2.2.2.1 (prod128 (iblk m c 0 t) (iblk m c 3 t))) bitsLt_bf16_f32 := by
  rw [outsAt0_C m c t u0 u1 u2 u0 u1 u2 u0 u1 u2 u0 u1 u2 u0 u1 u2 u0 u1 u2 u0 u1 u2]
  dsimp only
  rw [last2, outs_congr m c e _ u.isLt]

/-- Segment 3 at the last. -/
theorem atLast3 (t u : Fin cfg0.N) (e : t.val - 1 = u.val) (u0 : ¬t.val % 4 = 0) (u1 : 1 ≤ t.val) (u2 : t.val % 4 = 3) :
    (outsAt0 m c t.val t.isLt).2.2.2.1 = truncf .bf16 (addf (F := Ideal) (φ := .f32) (outsAt0 m c u.val u.isLt).2.2.2.2.2.2.2.2.2.2.1 (prod512 (iblk m c 0 t) (iblk m c 4 t))) bitsLt_bf16_f32 := by
  rw [outsAt0_C m c t u0 u1 u2 u0 u1 u2 u0 u1 u2 u0 u1 u2 u0 u1 u2 u0 u1 u2 u0 u1 u2]
  dsimp only
  rw [last3, outs_congr m c e _ u.isLt]

/-- Segment 4 at the last. -/
theorem atLast4 (t u : Fin cfg0.N) (e : t.val - 1 = u.val) (u0 : ¬t.val % 4 = 0) (u1 : 1 ≤ t.val) (u2 : t.val % 4 = 3) :
    (outsAt0 m c t.val t.isLt).2.2.2.2.1 = truncf .bf16 (addf (F := Ideal) (φ := .f32) (outsAt0 m c u.val u.isLt).2.2.2.2.2.2.2.2.2.2.2.1 (prod128 (iblk m c 0 t) (iblk m c 5 t))) bitsLt_bf16_f32 := by
  rw [outsAt0_C m c t u0 u1 u2 u0 u1 u2 u0 u1 u2 u0 u1 u2 u0 u1 u2 u0 u1 u2 u0 u1 u2]
  dsimp only
  rw [last4, outs_congr m c e _ u.isLt]

/-- Segment 5 at the last. -/
theorem atLast5 (t u : Fin cfg0.N) (e : t.val - 1 = u.val) (u0 : ¬t.val % 4 = 0) (u1 : 1 ≤ t.val) (u2 : t.val % 4 = 3) :
    (outsAt0 m c t.val t.isLt).2.2.2.2.2.1 = truncf .bf16 (addf (F := Ideal) (φ := .f32) (outsAt0 m c u.val u.isLt).2.2.2.2.2.2.2.2.2.2.2.2.1 (prod512 (iblk m c 0 t) (iblk m c 6 t))) bitsLt_bf16_f32 := by
  rw [outsAt0_C m c t u0 u1 u2 u0 u1 u2 u0 u1 u2 u0 u1 u2 u0 u1 u2 u0 u1 u2 u0 u1 u2]
  dsimp only
  rw [last5, outs_congr m c e _ u.isLt]

/-- Segment 6 at the last. -/
theorem atLast6 (t u : Fin cfg0.N) (e : t.val - 1 = u.val) (u0 : ¬t.val % 4 = 0) (u1 : 1 ≤ t.val) (u2 : t.val % 4 = 3) :
    (outsAt0 m c t.val t.isLt).2.2.2.2.2.2.1 = truncf .bf16 (addf (F := Ideal) (φ := .f32) (outsAt0 m c u.val u.isLt).2.2.2.2.2.2.2.2.2.2.2.2.2 (prod512 (iblk m c 0 t) (iblk m c 7 t))) bitsLt_bf16_f32 := by
  rw [outsAt0_C m c t u0 u1 u2 u0 u1 u2 u0 u1 u2 u0 u1 u2 u0 u1 u2 u0 u1 u2 u0 u1 u2]
  dsimp only
  rw [last6, outs_congr m c e _ u.isLt]

/-- What is written back of segment 0. -/
theorem outs0 : (outsAt0 m c (pt 3).val (pt 3).isLt).1 = truncf .bf16 (addf (F := Ideal) (φ := .f32) (addf (F := Ideal) (φ := .f32) (addf (F := Ideal) (φ := .f32) (prod384 (iblk m c 0 (pt 0)) (iblk m c 1 (pt 0))) (prod384 (iblk m c 0 (pt 1)) (iblk m c 1 (pt 1)))) (prod384 (iblk m c 0 (pt 2)) (iblk m c 1 (pt 2)))) (prod384 (iblk m c 0 (pt 3)) (iblk m c 1 (pt 3)))) bitsLt_bf16_f32 :=
  (atLast0 m c (pt 3) (pt 2) (by decide) (by decide) (by decide) (by decide)).trans (congrArg (fun z => truncf .bf16 (addf (F := Ideal) (φ := .f32) z (prod384 (iblk m c 0 (pt 3)) (iblk m c 1 (pt 3)))) bitsLt_bf16_f32)
    ((atNext0 m c (pt 2) (pt 1) (by decide) (by decide) (by decide) (by decide)).trans (congrArg (fun z => addf (F := Ideal) (φ := .f32) z (prod384 (iblk m c 0 (pt 2)) (iblk m c 1 (pt 2))))
    ((atNext0 m c (pt 1) (pt 0) (by decide) (by decide) (by decide) (by decide)).trans (congrArg (fun z => addf (F := Ideal) (φ := .f32) z (prod384 (iblk m c 0 (pt 1)) (iblk m c 1 (pt 1))))
    (atFirst0 m c (pt 0) (by decide) (by decide) (by decide)))))))

/-- What is written back of segment 1. -/
theorem outs1 : (outsAt0 m c (pt 3).val (pt 3).isLt).2.1 = truncf .bf16 (addf (F := Ideal) (φ := .f32) (addf (F := Ideal) (φ := .f32) (addf (F := Ideal) (φ := .f32) (prod256 (iblk m c 0 (pt 0)) (iblk m c 2 (pt 0))) (prod256 (iblk m c 0 (pt 1)) (iblk m c 2 (pt 1)))) (prod256 (iblk m c 0 (pt 2)) (iblk m c 2 (pt 2)))) (prod256 (iblk m c 0 (pt 3)) (iblk m c 2 (pt 3)))) bitsLt_bf16_f32 :=
  (atLast1 m c (pt 3) (pt 2) (by decide) (by decide) (by decide) (by decide)).trans (congrArg (fun z => truncf .bf16 (addf (F := Ideal) (φ := .f32) z (prod256 (iblk m c 0 (pt 3)) (iblk m c 2 (pt 3)))) bitsLt_bf16_f32)
    ((atNext1 m c (pt 2) (pt 1) (by decide) (by decide) (by decide) (by decide)).trans (congrArg (fun z => addf (F := Ideal) (φ := .f32) z (prod256 (iblk m c 0 (pt 2)) (iblk m c 2 (pt 2))))
    ((atNext1 m c (pt 1) (pt 0) (by decide) (by decide) (by decide) (by decide)).trans (congrArg (fun z => addf (F := Ideal) (φ := .f32) z (prod256 (iblk m c 0 (pt 1)) (iblk m c 2 (pt 1))))
    (atFirst1 m c (pt 0) (by decide) (by decide) (by decide)))))))

/-- What is written back of segment 2. -/
theorem outs2 : (outsAt0 m c (pt 3).val (pt 3).isLt).2.2.1 = truncf .bf16 (addf (F := Ideal) (φ := .f32) (addf (F := Ideal) (φ := .f32) (addf (F := Ideal) (φ := .f32) (prod128 (iblk m c 0 (pt 0)) (iblk m c 3 (pt 0))) (prod128 (iblk m c 0 (pt 1)) (iblk m c 3 (pt 1)))) (prod128 (iblk m c 0 (pt 2)) (iblk m c 3 (pt 2)))) (prod128 (iblk m c 0 (pt 3)) (iblk m c 3 (pt 3)))) bitsLt_bf16_f32 :=
  (atLast2 m c (pt 3) (pt 2) (by decide) (by decide) (by decide) (by decide)).trans (congrArg (fun z => truncf .bf16 (addf (F := Ideal) (φ := .f32) z (prod128 (iblk m c 0 (pt 3)) (iblk m c 3 (pt 3)))) bitsLt_bf16_f32)
    ((atNext2 m c (pt 2) (pt 1) (by decide) (by decide) (by decide) (by decide)).trans (congrArg (fun z => addf (F := Ideal) (φ := .f32) z (prod128 (iblk m c 0 (pt 2)) (iblk m c 3 (pt 2))))
    ((atNext2 m c (pt 1) (pt 0) (by decide) (by decide) (by decide) (by decide)).trans (congrArg (fun z => addf (F := Ideal) (φ := .f32) z (prod128 (iblk m c 0 (pt 1)) (iblk m c 3 (pt 1))))
    (atFirst2 m c (pt 0) (by decide) (by decide) (by decide)))))))

/-- What is written back of segment 3. -/
theorem outs3 : (outsAt0 m c (pt 3).val (pt 3).isLt).2.2.2.1 = truncf .bf16 (addf (F := Ideal) (φ := .f32) (addf (F := Ideal) (φ := .f32) (addf (F := Ideal) (φ := .f32) (prod512 (iblk m c 0 (pt 0)) (iblk m c 4 (pt 0))) (prod512 (iblk m c 0 (pt 1)) (iblk m c 4 (pt 1)))) (prod512 (iblk m c 0 (pt 2)) (iblk m c 4 (pt 2)))) (prod512 (iblk m c 0 (pt 3)) (iblk m c 4 (pt 3)))) bitsLt_bf16_f32 :=
  (atLast3 m c (pt 3) (pt 2) (by decide) (by decide) (by decide) (by decide)).trans (congrArg (fun z => truncf .bf16 (addf (F := Ideal) (φ := .f32) z (prod512 (iblk m c 0 (pt 3)) (iblk m c 4 (pt 3)))) bitsLt_bf16_f32)
    ((atNext3 m c (pt 2) (pt 1) (by decide) (by decide) (by decide) (by decide)).trans (congrArg (fun z => addf (F := Ideal) (φ := .f32) z (prod512 (iblk m c 0 (pt 2)) (iblk m c 4 (pt 2))))
    ((atNext3 m c (pt 1) (pt 0) (by decide) (by decide) (by decide) (by decide)).trans (congrArg (fun z => addf (F := Ideal) (φ := .f32) z (prod512 (iblk m c 0 (pt 1)) (iblk m c 4 (pt 1))))
    (atFirst3 m c (pt 0) (by decide) (by decide) (by decide)))))))

/-- What is written back of segment 4. -/
theorem outs4 : (outsAt0 m c (pt 3).val (pt 3).isLt).2.2.2.2.1 = truncf .bf16 (addf (F := Ideal) (φ := .f32) (addf (F := Ideal) (φ := .f32) (addf (F := Ideal) (φ := .f32) (prod128 (iblk m c 0 (pt 0)) (iblk m c 5 (pt 0))) (prod128 (iblk m c 0 (pt 1)) (iblk m c 5 (pt 1)))) (prod128 (iblk m c 0 (pt 2)) (iblk m c 5 (pt 2)))) (prod128 (iblk m c 0 (pt 3)) (iblk m c 5 (pt 3)))) bitsLt_bf16_f32 :=
  (atLast4 m c (pt 3) (pt 2) (by decide) (by decide) (by decide) (by decide)).trans (congrArg (fun z => truncf .bf16 (addf (F := Ideal) (φ := .f32) z (prod128 (iblk m c 0 (pt 3)) (iblk m c 5 (pt 3)))) bitsLt_bf16_f32)
    ((atNext4 m c (pt 2) (pt 1) (by decide) (by decide) (by decide) (by decide)).trans (congrArg (fun z => addf (F := Ideal) (φ := .f32) z (prod128 (iblk m c 0 (pt 2)) (iblk m c 5 (pt 2))))
    ((atNext4 m c (pt 1) (pt 0) (by decide) (by decide) (by decide) (by decide)).trans (congrArg (fun z => addf (F := Ideal) (φ := .f32) z (prod128 (iblk m c 0 (pt 1)) (iblk m c 5 (pt 1))))
    (atFirst4 m c (pt 0) (by decide) (by decide) (by decide)))))))

/-- What is written back of segment 5. -/
theorem outs5 : (outsAt0 m c (pt 3).val (pt 3).isLt).2.2.2.2.2.1 = truncf .bf16 (addf (F := Ideal) (φ := .f32) (addf (F := Ideal) (φ := .f32) (addf (F := Ideal) (φ := .f32) (prod512 (iblk m c 0 (pt 0)) (iblk m c 6 (pt 0))) (prod512 (iblk m c 0 (pt 1)) (iblk m c 6 (pt 1)))) (prod512 (iblk m c 0 (pt 2)) (iblk m c 6 (pt 2)))) (prod512 (iblk m c 0 (pt 3)) (iblk m c 6 (pt 3)))) bitsLt_bf16_f32 :=
  (atLast5 m c (pt 3) (pt 2) (by decide) (by decide) (by decide) (by decide)).trans (congrArg (fun z => truncf .bf16 (addf (F := Ideal) (φ := .f32) z (prod512 (iblk m c 0 (pt 3)) (iblk m c 6 (pt 3)))) bitsLt_bf16_f32)
    ((atNext5 m c (pt 2) (pt 1) (by decide) (by decide) (by decide) (by decide)).trans (congrArg (fun z => addf (F := Ideal) (φ := .f32) z (prod512 (iblk m c 0 (pt 2)) (iblk m c 6 (pt 2))))
    ((atNext5 m c (pt 1) (pt 0) (by decide) (by decide) (by decide) (by decide)).trans (congrArg (fun z => addf (F := Ideal) (φ := .f32) z (prod512 (iblk m c 0 (pt 1)) (iblk m c 6 (pt 1))))
    (atFirst5 m c (pt 0) (by decide) (by decide) (by decide)))))))

/-- What is written back of segment 6. -/
theorem outs6 : (outsAt0 m c (pt 3).val (pt 3).isLt).2.2.2.2.2.2.1 = truncf .bf16 (addf (F := Ideal) (φ := .f32) (addf (F := Ideal) (φ := .f32) (addf (F := Ideal) (φ := .f32) (prod512 (iblk m c 0 (pt 0)) (iblk m c 7 (pt 0))) (prod512 (iblk m c 0 (pt 1)) (iblk m c 7 (pt 1)))) (prod512 (iblk m c 0 (pt 2)) (iblk m c 7 (pt 2)))) (prod512 (iblk m c 0 (pt 3)) (iblk m c 7 (pt 3)))) bitsLt_bf16_f32 :=
  (atLast6 m c (pt 3) (pt 2) (by decide) (by decide) (by decide) (by decide)).trans (congrArg (fun z => truncf .bf16 (addf (F := Ideal) (φ := .f32) z (prod512 (iblk m c 0 (pt 3)) (iblk m c 7 (pt 3)))) bitsLt_bf16_f32)
    ((atNext6 m c (pt 2) (pt 1) (by decide) (by decide) (by decide) (by decide)).trans (congrArg (fun z => addf (F := Ideal) (φ := .f32) z (prod512 (iblk m c 0 (pt 2)) (iblk m c 7 (pt 2))))
    ((atNext6 m c (pt 1) (pt 0) (by decide) (by decide) (by decide) (by decide)).trans (congrArg (fun z => addf (F := Ideal) (φ := .f32) z (prod512 (iblk m c 0 (pt 1)) (iblk m c 7 (pt 1))))
    (atFirst6 m c (pt 0) (by decide) (by decide) (by decide)))))))

/-- The array of segment 0 after the run. -/
theorem result0 : Value.G8 m c = grad384 (V m c main_arg0 : Vec Ideal S4096x1024 .bf16) (V m c main_arg1 : Vec Ideal S4096x384 .bf16) := by
  refine (Value.final8 m c).symm.trans ?_
  refine (dats m 0 c).arrAt_eq_of_covers 8 _ (by decide +kernel) fun t hf y => ?_
  have h := (flush0_8 t).mp hf
  obtain rfl : t = pt 3 := Fin.ext (by have := lt_points t; change t.val = 3; omega)
  have e : win0_8.index (pt 3) = ![0, 0] := (by decide +kernel : ∀ t : Fin grid0.N, win0_8.index t = ![0, 0]) (pt 3)
  have v : (dats m 0 c).after 8 (pt 3) = grad384 (V m c main_arg0 : Vec Ideal S4096x1024 .bf16) (V m c main_arg1 : Vec Ideal S4096x384 .bf16) :=
    (after0_8 m c (pt 3)).trans (((outs0 m c)).trans (sum384 _ _ (fun s => iblk m c 0 (pt s)) (fun s => iblk m c 1 (pt s))
      (fun s k a => blk0 m c (pt s) k a) (fun s k b => blk1 m c (pt s) k b)))
  blk_simp
  rw [v]
  refine congrArg (grad384 (V m c main_arg0 : Vec Ideal S4096x1024 .bf16) (V m c main_arg1 : Vec Ideal S4096x384 .bf16)) ?_
  blk_ext [e]

/-- The array of segment 1 after the run. -/
theorem result1 : Value.G9 m c = grad256 (V m c main_arg0 : Vec Ideal S4096x1024 .bf16) (V m c main_arg2 : Vec Ideal S4096x256 .bf16) := by
  refine (Value.final9 m c).symm.trans ?_
  refine (dats m 0 c).arrAt_eq_of_covers 9 _ (by decide +kernel) fun t hf y => ?_
  have h := (flush0_9 t).mp hf
  obtain rfl : t = pt 3 := Fin.ext (by have := lt_points t; change t.val = 3; omega)
  have e : win0_9.index (pt 3) = ![0, 0] := (by decide +kernel : ∀ t : Fin grid0.N, win0_9.index t = ![0, 0]) (pt 3)
  have v : (dats m 0 c).after 9 (pt 3) = grad256 (V m c main_arg0 : Vec Ideal S4096x1024 .bf16) (V m c main_arg2 : Vec Ideal S4096x256 .bf16) :=
    (after0_9 m c (pt 3)).trans (((outs1 m c)).trans (sum256 _ _ (fun s => iblk m c 0 (pt s)) (fun s => iblk m c 2 (pt s))
      (fun s k a => blk0 m c (pt s) k a) (fun s k b => blk2 m c (pt s) k b)))
  blk_simp
  rw [v]
  refine congrArg (grad256 (V m c main_arg0 : Vec Ideal S4096x1024 .bf16) (V m c main_arg2 : Vec Ideal S4096x256 .bf16)) ?_
  blk_ext [e]

/-- The array of segment 2 after the run. -/
theorem result2 : Value.G10 m c = grad128 (V m c main_arg0 : Vec Ideal S4096x1024 .bf16) (V m c main_arg3 : Vec Ideal S4096x128 .bf16) := by
  refine (Value.final10 m c).symm.trans ?_
  refine (dats m 0 c).arrAt_eq_of_covers 10 _ (by decide +kernel) fun t hf y => ?_
  have h := (flush0_10 t).mp hf
  obtain rfl : t = pt 3 := Fin.ext (by have := lt_points t; change t.val = 3; omega)
  have e : win0_10.index (pt 3) = ![0, 0] := (by decide +kernel : ∀ t : Fin grid0.N, win0_10.index t = ![0, 0]) (pt 3)
  have v : (dats m 0 c).after 10 (pt 3) = grad128 (V m c main_arg0 : Vec Ideal S4096x1024 .bf16) (V m c main_arg3 : Vec Ideal S4096x128 .bf16) :=
    (after0_10 m c (pt 3)).trans (((outs2 m c)).trans (sum128 _ _ (fun s => iblk m c 0 (pt s)) (fun s => iblk m c 3 (pt s))
      (fun s k a => blk0 m c (pt s) k a) (fun s k b => blk3 m c (pt s) k b)))
  blk_simp
  rw [v]
  refine congrArg (grad128 (V m c main_arg0 : Vec Ideal S4096x1024 .bf16) (V m c main_arg3 : Vec Ideal S4096x128 .bf16)) ?_
  blk_ext [e]

/-- The array of segment 3 after the run. -/
theorem result3 : Value.G11 m c = grad512 (V m c main_arg0 : Vec Ideal S4096x1024 .bf16) (V m c main_arg4 : Vec Ideal S4096x512 .bf16) := by
  refine (Value.final11 m c).symm.trans ?_
  refine (dats m 0 c).arrAt_eq_of_covers 11 _ (by decide +kernel) fun t hf y => ?_
  have h := (flush0_11 t).mp hf
  obtain rfl : t = pt 3 := Fin.ext (by have := lt_points t; change t.val = 3; omega)
  have e : win0_11.index (pt 3) = ![0, 0] := (by decide +kernel : ∀ t : Fin grid0.N, win0_11.index t = ![0, 0]) (pt 3)
  have v : (dats m 0 c).after 11 (pt 3) = grad512 (V m c main_arg0 : Vec Ideal S4096x1024 .bf16) (V m c main_arg4 : Vec Ideal S4096x512 .bf16) :=
    (after0_11 m c (pt 3)).trans (((outs3 m c)).trans (sum512 _ _ (fun s => iblk m c 0 (pt s)) (fun s => iblk m c 4 (pt s))
      (fun s k a => blk0 m c (pt s) k a) (fun s k b => blk4 m c (pt s) k b)))
  blk_simp
  rw [v]
  refine congrArg (grad512 (V m c main_arg0 : Vec Ideal S4096x1024 .bf16) (V m c main_arg4 : Vec Ideal S4096x512 .bf16)) ?_
  blk_ext [e]

/-- The array of segment 4 after the run. -/
theorem result4 : Value.G12 m c = grad128 (V m c main_arg0 : Vec Ideal S4096x1024 .bf16) (V m c main_arg5 : Vec Ideal S4096x128 .bf16) := by
  refine (Value.final12 m c).symm.trans ?_
  refine (dats m 0 c).arrAt_eq_of_covers 12 _ (by decide +kernel) fun t hf y => ?_
  have h := (flush0_12 t).mp hf
  obtain rfl : t = pt 3 := Fin.ext (by have := lt_points t; change t.val = 3; omega)
  have e : win0_12.index (pt 3) = ![0, 0] := (by decide +kernel : ∀ t : Fin grid0.N, win0_12.index t = ![0, 0]) (pt 3)
  have v : (dats m 0 c).after 12 (pt 3) = grad128 (V m c main_arg0 : Vec Ideal S4096x1024 .bf16) (V m c main_arg5 : Vec Ideal S4096x128 .bf16) :=
    (after0_12 m c (pt 3)).trans (((outs4 m c)).trans (sum128 _ _ (fun s => iblk m c 0 (pt s)) (fun s => iblk m c 5 (pt s))
      (fun s k a => blk0 m c (pt s) k a) (fun s k b => blk5 m c (pt s) k b)))
  blk_simp
  rw [v]
  refine congrArg (grad128 (V m c main_arg0 : Vec Ideal S4096x1024 .bf16) (V m c main_arg5 : Vec Ideal S4096x128 .bf16)) ?_
  blk_ext [e]

/-- The array of segment 5 after the run. -/
theorem result5 : Value.G13 m c = grad512 (V m c main_arg0 : Vec Ideal S4096x1024 .bf16) (V m c main_arg6 : Vec Ideal S4096x512 .bf16) := by
  refine (Value.final13 m c).symm.trans ?_
  refine (dats m 0 c).arrAt_eq_of_covers 13 _ (by decide +kernel) fun t hf y => ?_
  have h := (flush0_13 t).mp hf
  obtain rfl : t = pt 3 := Fin.ext (by have := lt_points t; change t.val = 3; omega)
  have e : win0_13.index (pt 3) = ![0, 0] := (by decide +kernel : ∀ t : Fin grid0.N, win0_13.index t = ![0, 0]) (pt 3)
  have v : (dats m 0 c).after 13 (pt 3) = grad512 (V m c main_arg0 : Vec Ideal S4096x1024 .bf16) (V m c main_arg6 : Vec Ideal S4096x512 .bf16) :=
    (after0_13 m c (pt 3)).trans (((outs5 m c)).trans (sum512 _ _ (fun s => iblk m c 0 (pt s)) (fun s => iblk m c 6 (pt s))
      (fun s k a => blk0 m c (pt s) k a) (fun s k b => blk6 m c (pt s) k b)))
  blk_simp
  rw [v]
  refine congrArg (grad512 (V m c main_arg0 : Vec Ideal S4096x1024 .bf16) (V m c main_arg6 : Vec Ideal S4096x512 .bf16)) ?_
  blk_ext [e]

/-- The array of segment 6 after the run. -/
theorem result6 : Value.G14 m c = grad512 (V m c main_arg0 : Vec Ideal S4096x1024 .bf16) (V m c main_arg7 : Vec Ideal S4096x512 .bf16) := by
  refine (Value.final14 m c).symm.trans ?_
  refine (dats m 0 c).arrAt_eq_of_covers 14 _ (by decide +kernel) fun t hf y => ?_
  have h := (flush0_14 t).mp hf
  obtain rfl : t = pt 3 := Fin.ext (by have := lt_points t; change t.val = 3; omega)
  have e : win0_14.index (pt 3) = ![0, 0] := (by decide +kernel : ∀ t : Fin grid0.N, win0_14.index t = ![0, 0]) (pt 3)
  have v : (dats m 0 c).after 14 (pt 3) = grad512 (V m c main_arg0 : Vec Ideal S4096x1024 .bf16) (V m c main_arg7 : Vec Ideal S4096x512 .bf16) :=
    (after0_14 m c (pt 3)).trans (((outs6 m c)).trans (sum512 _ _ (fun s => iblk m c 0 (pt s)) (fun s => iblk m c 7 (pt s))
      (fun s k a => blk0 m c (pt s) k a) (fun s k b => blk7 m c (pt s) k b)))
  blk_simp
  rw [v]
  refine congrArg (grad512 (V m c main_arg0 : Vec Ideal S4096x1024 .bf16) (V m c main_arg7 : Vec Ideal S4096x512 .bf16)) ?_
  blk_ext [e]

end Kernel

/-- The kernel's results are the reference's. -/
theorem algebraic : Cert.algebraic_DwNarrowKernelIdeal_DwNarrowReferenceIdeal := by
  intro m ρ m' ρ' _ hagree
  refine ⟨_, _, _, _, _, _, _, Value.run (F := Ideal) m ρ, ?_⟩
  refine (θ_run Cert.DwNarrowReferenceIdeal.defs _ _).mono (fun _ h c => ?_) (Cert.DwNarrowReferenceIdeal.Value.run (F := Ideal) m' ρ')
  obtain ⟨h0, h1, h2, h3, h4, h5, h6, hargs⟩ := h c
  obtain ⟨e0, e1, e2, e3, e4, e5, e6, e7, _⟩ := hagree c
  refine ⟨?_, ?_, ?_, ?_, ?_, ?_, ?_, hargs⟩
  · rw [h0, result0]
    exact (reference384 _ _).trans (by rw [e0, e1])
  · rw [h1, result1]
    exact (reference256 _ _).trans (by rw [e0, e2])
  · rw [h2, result2]
    exact (reference128 _ _).trans (by rw [e0, e3])
  · rw [h3, result3]
    exact (reference512 _ _).trans (by rw [e0, e4])
  · rw [h4, result4]
    exact (reference128 _ _).trans (by rw [e0, e5])
  · rw [h5, result5]
    exact (reference512 _ _).trans (by rw [e0, e6])
  · rw [h6, result6]
    exact (reference512 _ _).trans (by rw [e0, e7])

end Cert.DwNarrowKernelIdeal.Own

end
-- ==== Proof.lean ====
/-
  The claim: the frames of the kernel as written and idealized, the reference's frame, what the idealization
  replaced, and the equality of the results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.P.Frame
public import proofs.«01_k».proof.Proof.PI.Frame
public import proofs.«01_k».proof.Proof.Val.Claim
public import proofs.«01_k».proof.Proof.Gen.DhKernel.Frame
public import proofs.«01_k».proof.Proof.Gen.DhKernelIdeal.Frame
public import proofs.«01_k».proof.Proof.Ip.Dh
public import proofs.«01_k».proof.Proof.Gen.DwDilKernel.Frame
public import proofs.«01_k».proof.Proof.Gen.DwDilKernelIdeal.Frame
public import proofs.«01_k».proof.Proof.Ip.DwDil
public import proofs.«01_k».proof.Proof.Gen.DwGateKernel.Frame
public import proofs.«01_k».proof.Proof.Gen.DwGateKernelIdeal.Frame
public import proofs.«01_k».proof.Proof.Ip.DwGate
public import proofs.«01_k».proof.Proof.Gen.DwDnKernel.Frame
public import proofs.«01_k».proof.Proof.Gen.DwDnKernelIdeal.Frame
public import proofs.«01_k».proof.Proof.Ip.DwDn
public import proofs.«01_k».proof.Proof.Gen.FwdKernel.Frame
public import proofs.«01_k».proof.Proof.Gen.FwdKernelIdeal.Frame
public import proofs.«01_k».proof.Proof.Ip.Fwd
public import proofs.«01_k».proof.Proof.Gen.BrFwdKernel.Frame
public import proofs.«01_k».proof.Proof.Gen.BrFwdKernelIdeal.Frame
public import proofs.«01_k».proof.Proof.Ip.BrFwd
public import proofs.«01_k».proof.Proof.Gen.BrDhKernel.Frame
public import proofs.«01_k».proof.Proof.Gen.BrDhKernelIdeal.Frame
public import proofs.«01_k».proof.Proof.Ip.BrDh
public import proofs.«01_k».proof.Proof.Gen.BrDwKernel.Frame
public import proofs.«01_k».proof.Proof.Gen.BrDwKernelIdeal.Frame
public import proofs.«01_k».proof.Proof.Ip.BrDw
public import proofs.«01_k».proof.Proof.Gen.OutFwdKernel.Frame
public import proofs.«01_k».proof.Proof.Gen.OutFwdKernelIdeal.Frame
public import proofs.«01_k».proof.Proof.Ip.OutFwd
public import proofs.«01_k».proof.Proof.Gen.OutDhKernel.Frame
public import proofs.«01_k».proof.Proof.Gen.OutDhKernelIdeal.Frame
public import proofs.«01_k».proof.Proof.Ip.OutDh
public import proofs.«01_k».proof.Proof.Gen.OutDwKernel.Frame
public import proofs.«01_k».proof.Proof.Gen.OutDwKernelIdeal.Frame
public import proofs.«01_k».proof.Proof.Ip.OutDw
public import proofs.«01_k».proof.Proof.Gen.QbFwdKernel.Frame
public import proofs.«01_k».proof.Proof.Gen.QbFwdKernelIdeal.Frame
public import proofs.«01_k».proof.Proof.Ip.QbFwd
public import proofs.«01_k».proof.Proof.Gen.QbDhKernel.Frame
public import proofs.«01_k».proof.Proof.Gen.QbDhKernelIdeal.Frame
public import proofs.«01_k».proof.Proof.Ip.QbDh
public import proofs.«01_k».proof.Proof.Gen.QbDwKernel.Frame
public import proofs.«01_k».proof.Proof.Gen.QbDwKernelIdeal.Frame
public import proofs.«01_k».proof.Proof.Ip.QbDw
public import proofs.«01_k».proof.Proof.Gen.KvFwdKernel.Frame
public import proofs.«01_k».proof.Proof.Gen.KvFwdKernelIdeal.Frame
public import proofs.«01_k».proof.Proof.Ip.KvFwd
public import proofs.«01_k».proof.Proof.Gen.KvDwKernel.Frame
public import proofs.«01_k».proof.Proof.Gen.KvDwKernelIdeal.Frame
public import proofs.«01_k».proof.Proof.Ip.KvDw
public import proofs.«01_k».proof.Proof.Gen.DwNarrowKernel.Frame
public import proofs.«01_k».proof.Proof.Gen.DwNarrowKernelIdeal.Frame
public import proofs.«01_k».proof.Proof.Ip.DwNarrow

@[expose] public section

open Idealize.ShloMosaic Idealize.SL.Sem Cert.Proof.Val

/-- The gradient of the dilated attention: both programs leave the same three arrays. -/
theorem Cert.Proof.dilated : Cert.algebraic_KernelIdeal_ReferenceIdeal := by
  refine fun m g m' g' _ he => ⟨fun c => arrQ (kq m c) (kk m c) (kv m c) (ko m c) (kl m c), fun c => arrK (kq m c) (kk m c) (kv m c) (ko m c) (kl m c),
    fun c => arrV (kq m c) (kk m c) (ko m c), ker_run m g, ?_⟩
  refine (θ_run _ _ _).mono (fun r h c => ?_) (ref_run m' g')
  have e := algebraic m g m' g' (fun c => (he c).1) (fun c => (he c).2.1) (fun c => (he c).2.2.1) (fun c => (he c).2.2.2.1) (fun c => (he c).2.2.2.2) c
  exact ⟨(h c).1.trans e.1, (h c).2.1.trans e.2.1, (h c).2.2.1.trans e.2.2, (h c).2.2.2⟩

/-- The frame of the reference program `DhReference`. -/
theorem Cert.Proof.frameDh : Cert.quiescent_DhReferenceIdeal := fun m ρ _ =>
  (θ_run Cert.DhReferenceIdeal.defs _ _).mono (fun _ h => ⟨fun c => (h c).2, sem_eq_zero_of_no_sems (by decide) _⟩)
    (Cert.DhReferenceIdeal.Value.run (F := Ideal) m ρ)

/-- The frame of the reference program `DwDilReference`. -/
theorem Cert.Proof.frameDwDil : Cert.quiescent_DwDilReferenceIdeal := fun m ρ _ =>
  (θ_run Cert.DwDilReferenceIdeal.defs _ _).mono (fun _ h => ⟨fun c => (h c).2, sem_eq_zero_of_no_sems (by decide) _⟩)
    (Cert.DwDilReferenceIdeal.Value.run (F := Ideal) m ρ)

/-- The frame of the reference program `DwGateReference`. -/
theorem Cert.Proof.frameDwGate : Cert.quiescent_DwGateReferenceIdeal := fun m ρ _ =>
  (θ_run Cert.DwGateReferenceIdeal.defs _ _).mono (fun _ h => ⟨fun c => (h c).2, sem_eq_zero_of_no_sems (by decide) _⟩)
    (Cert.DwGateReferenceIdeal.Value.run (F := Ideal) m ρ)

/-- The frame of the reference program `DwDnReference`. -/
theorem Cert.Proof.frameDwDn : Cert.quiescent_DwDnReferenceIdeal := fun m ρ _ =>
  (θ_run Cert.DwDnReferenceIdeal.defs _ _).mono (fun _ h => ⟨fun c => (h c).2, sem_eq_zero_of_no_sems (by decide) _⟩)
    (Cert.DwDnReferenceIdeal.Value.run (F := Ideal) m ρ)

/-- The frame of the reference program `FwdReference`. -/
theorem Cert.Proof.frameFwd : Cert.quiescent_FwdReferenceIdeal := fun m ρ _ =>
  (θ_run Cert.FwdReferenceIdeal.defs _ _).mono (fun _ h => ⟨fun c => (h c).2.2.2.2.2.2.2.2.2.2, sem_eq_zero_of_no_sems (by decide) _⟩)
    (Cert.FwdReferenceIdeal.Value.run (F := Ideal) m ρ)

/-- The frame of the reference program `BrFwdReference`. -/
theorem Cert.Proof.frameBrFwd : Cert.quiescent_BrFwdReferenceIdeal := fun m ρ _ =>
  (θ_run Cert.BrFwdReferenceIdeal.defs _ _).mono (fun _ h => ⟨fun c => (h c).2, sem_eq_zero_of_no_sems (by decide) _⟩)
    (Cert.BrFwdReferenceIdeal.Value.run (F := Ideal) m ρ)

/-- The frame of the reference program `BrDhReference`. -/
theorem Cert.Proof.frameBrDh : Cert.quiescent_BrDhReferenceIdeal := fun m ρ _ =>
  (θ_run Cert.BrDhReferenceIdeal.defs _ _).mono (fun _ h => ⟨fun c => (h c).2, sem_eq_zero_of_no_sems (by decide) _⟩)
    (Cert.BrDhReferenceIdeal.Value.run (F := Ideal) m ρ)

/-- The frame of the reference program `BrDwReference`. -/
theorem Cert.Proof.frameBrDw : Cert.quiescent_BrDwReferenceIdeal := fun m ρ _ =>
  (θ_run Cert.BrDwReferenceIdeal.defs _ _).mono (fun _ h => ⟨fun c => (h c).2, sem_eq_zero_of_no_sems (by decide) _⟩)
    (Cert.BrDwReferenceIdeal.Value.run (F := Ideal) m ρ)

/-- The frame of the reference program `OutFwdReference`. -/
theorem Cert.Proof.frameOutFwd : Cert.quiescent_OutFwdReferenceIdeal := fun m ρ _ =>
  (θ_run Cert.OutFwdReferenceIdeal.defs _ _).mono (fun _ h => ⟨fun c => (h c).2, sem_eq_zero_of_no_sems (by decide) _⟩)
    (Cert.OutFwdReferenceIdeal.Value.run (F := Ideal) m ρ)

/-- The frame of the reference program `OutDhReference`. -/
theorem Cert.Proof.frameOutDh : Cert.quiescent_OutDhReferenceIdeal := fun m ρ _ =>
  (θ_run Cert.OutDhReferenceIdeal.defs _ _).mono (fun _ h => ⟨fun c => (h c).2, sem_eq_zero_of_no_sems (by decide) _⟩)
    (Cert.OutDhReferenceIdeal.Value.run (F := Ideal) m ρ)

/-- The frame of the reference program `OutDwReference`. -/
theorem Cert.Proof.frameOutDw : Cert.quiescent_OutDwReferenceIdeal := fun m ρ _ =>
  (θ_run Cert.OutDwReferenceIdeal.defs _ _).mono (fun _ h => ⟨fun c => (h c).2, sem_eq_zero_of_no_sems (by decide) _⟩)
    (Cert.OutDwReferenceIdeal.Value.run (F := Ideal) m ρ)

/-- The frame of the reference program `QbFwdReference`. -/
theorem Cert.Proof.frameQbFwd : Cert.quiescent_QbFwdReferenceIdeal := fun m ρ _ =>
  (θ_run Cert.QbFwdReferenceIdeal.defs _ _).mono (fun _ h => ⟨fun c => (h c).2, sem_eq_zero_of_no_sems (by decide) _⟩)
    (Cert.QbFwdReferenceIdeal.Value.run (F := Ideal) m ρ)

/-- The frame of the reference program `QbDhReference`. -/
theorem Cert.Proof.frameQbDh : Cert.quiescent_QbDhReferenceIdeal := fun m ρ _ =>
  (θ_run Cert.QbDhReferenceIdeal.defs _ _).mono (fun _ h => ⟨fun c => (h c).2, sem_eq_zero_of_no_sems (by decide) _⟩)
    (Cert.QbDhReferenceIdeal.Value.run (F := Ideal) m ρ)

/-- The frame of the reference program `QbDwReference`. -/
theorem Cert.Proof.frameQbDw : Cert.quiescent_QbDwReferenceIdeal := fun m ρ _ =>
  (θ_run Cert.QbDwReferenceIdeal.defs _ _).mono (fun _ h => ⟨fun c => (h c).2, sem_eq_zero_of_no_sems (by decide) _⟩)
    (Cert.QbDwReferenceIdeal.Value.run (F := Ideal) m ρ)

/-- The frame of the reference program `KvFwdReference`. -/
theorem Cert.Proof.frameKvFwd : Cert.quiescent_KvFwdReferenceIdeal := fun m ρ _ =>
  (θ_run Cert.KvFwdReferenceIdeal.defs _ _).mono (fun _ h => ⟨fun c => (h c).2, sem_eq_zero_of_no_sems (by decide) _⟩)
    (Cert.KvFwdReferenceIdeal.Value.run (F := Ideal) m ρ)

/-- The frame of the reference program `KvDwReference`. -/
theorem Cert.Proof.frameKvDw : Cert.quiescent_KvDwReferenceIdeal := fun m ρ _ =>
  (θ_run Cert.KvDwReferenceIdeal.defs _ _).mono (fun _ h => ⟨fun c => (h c).2, sem_eq_zero_of_no_sems (by decide) _⟩)
    (Cert.KvDwReferenceIdeal.Value.run (F := Ideal) m ρ)

/-- The frame of the reference program `DwNarrowReference`. -/
theorem Cert.Proof.frameDwNarrow : Cert.quiescent_DwNarrowReferenceIdeal := fun m ρ _ =>
  (θ_run Cert.DwNarrowReferenceIdeal.defs _ _).mono (fun _ h => ⟨fun c => (h c).2.2.2.2.2.2.2, sem_eq_zero_of_no_sems (by decide) _⟩)
    (Cert.DwNarrowReferenceIdeal.Value.run (F := Ideal) m ρ)

/-- The claim. -/
theorem Cert.Proof.claim : Cert.Claim :=
  ⟨Cert.Kernel.Gen.facts, Cert.KernelIdeal.Gen.facts, Cert.ReferenceIdeal.Gen.facts, Cert.DhKernel.Gen.facts,
    Cert.DhKernelIdeal.Gen.facts, Cert.DhReferenceIdeal.Gen.facts, Cert.DwDilKernel.Gen.facts,
    Cert.DwDilKernelIdeal.Gen.facts, Cert.DwDilReferenceIdeal.Gen.facts, Cert.DwGateKernel.Gen.facts,
    Cert.DwGateKernelIdeal.Gen.facts, Cert.DwGateReferenceIdeal.Gen.facts, Cert.DwDnKernel.Gen.facts,
    Cert.DwDnKernelIdeal.Gen.facts, Cert.DwDnReferenceIdeal.Gen.facts, Cert.FwdKernel.Gen.facts,
    Cert.FwdKernelIdeal.Gen.facts, Cert.FwdReferenceIdeal.Gen.facts, Cert.BrFwdKernel.Gen.facts,
    Cert.BrFwdKernelIdeal.Gen.facts, Cert.BrFwdReferenceIdeal.Gen.facts, Cert.BrDhKernel.Gen.facts,
    Cert.BrDhKernelIdeal.Gen.facts, Cert.BrDhReferenceIdeal.Gen.facts, Cert.BrDwKernel.Gen.facts,
    Cert.BrDwKernelIdeal.Gen.facts, Cert.BrDwReferenceIdeal.Gen.facts, Cert.OutFwdKernel.Gen.facts,
    Cert.OutFwdKernelIdeal.Gen.facts, Cert.OutFwdReferenceIdeal.Gen.facts, Cert.OutDhKernel.Gen.facts,
    Cert.OutDhKernelIdeal.Gen.facts, Cert.OutDhReferenceIdeal.Gen.facts, Cert.OutDwKernel.Gen.facts,
    Cert.OutDwKernelIdeal.Gen.facts, Cert.OutDwReferenceIdeal.Gen.facts, Cert.QbFwdKernel.Gen.facts,
    Cert.QbFwdKernelIdeal.Gen.facts, Cert.QbFwdReferenceIdeal.Gen.facts, Cert.QbDhKernel.Gen.facts,
    Cert.QbDhKernelIdeal.Gen.facts, Cert.QbDhReferenceIdeal.Gen.facts, Cert.QbDwKernel.Gen.facts,
    Cert.QbDwKernelIdeal.Gen.facts, Cert.QbDwReferenceIdeal.Gen.facts, Cert.KvFwdKernel.Gen.facts,
    Cert.KvFwdKernelIdeal.Gen.facts, Cert.KvFwdReferenceIdeal.Gen.facts, Cert.KvDwKernel.Gen.facts,
    Cert.KvDwKernelIdeal.Gen.facts, Cert.KvDwReferenceIdeal.Gen.facts, Cert.DwNarrowKernel.Gen.facts,
    Cert.DwNarrowKernelIdeal.Gen.facts, Cert.DwNarrowReferenceIdeal.Gen.facts,
    fun m ρ _ => Cert.Proof.P.frame_all m ρ, fun m ρ _ => Cert.Proof.PI.frame_all m ρ, fun m ρ _ => Cert.Proof.Val.ref_frame m ρ,
    fun m ρ _ => Cert.DhKernel.Gen.frame m ρ, fun m ρ _ => Cert.DhKernelIdeal.Gen.frame m ρ, Cert.Proof.frameDh,
    fun m ρ _ => Cert.DwDilKernel.Gen.frame m ρ, fun m ρ _ => Cert.DwDilKernelIdeal.Gen.frame m ρ, Cert.Proof.frameDwDil,
    fun m ρ _ => Cert.DwGateKernel.Gen.frame m ρ, fun m ρ _ => Cert.DwGateKernelIdeal.Gen.frame m ρ, Cert.Proof.frameDwGate,
    fun m ρ _ => Cert.DwDnKernel.Gen.frame m ρ, fun m ρ _ => Cert.DwDnKernelIdeal.Gen.frame m ρ, Cert.Proof.frameDwDn,
    fun m ρ _ => Cert.FwdKernel.Gen.frame m ρ, fun m ρ _ => Cert.FwdKernelIdeal.Gen.frame m ρ, Cert.Proof.frameFwd,
    fun m ρ _ => Cert.BrFwdKernel.Gen.frame m ρ, fun m ρ _ => Cert.BrFwdKernelIdeal.Gen.frame m ρ, Cert.Proof.frameBrFwd,
    fun m ρ _ => Cert.BrDhKernel.Gen.frame m ρ, fun m ρ _ => Cert.BrDhKernelIdeal.Gen.frame m ρ, Cert.Proof.frameBrDh,
    fun m ρ _ => Cert.BrDwKernel.Gen.frame m ρ, fun m ρ _ => Cert.BrDwKernelIdeal.Gen.frame m ρ, Cert.Proof.frameBrDw,
    fun m ρ _ => Cert.OutFwdKernel.Gen.frame m ρ, fun m ρ _ => Cert.OutFwdKernelIdeal.Gen.frame m ρ, Cert.Proof.frameOutFwd,
    fun m ρ _ => Cert.OutDhKernel.Gen.frame m ρ, fun m ρ _ => Cert.OutDhKernelIdeal.Gen.frame m ρ, Cert.Proof.frameOutDh,
    fun m ρ _ => Cert.OutDwKernel.Gen.frame m ρ, fun m ρ _ => Cert.OutDwKernelIdeal.Gen.frame m ρ, Cert.Proof.frameOutDw,
    fun m ρ _ => Cert.QbFwdKernel.Gen.frame m ρ, fun m ρ _ => Cert.QbFwdKernelIdeal.Gen.frame m ρ, Cert.Proof.frameQbFwd,
    fun m ρ _ => Cert.QbDhKernel.Gen.frame m ρ, fun m ρ _ => Cert.QbDhKernelIdeal.Gen.frame m ρ, Cert.Proof.frameQbDh,
    fun m ρ _ => Cert.QbDwKernel.Gen.frame m ρ, fun m ρ _ => Cert.QbDwKernelIdeal.Gen.frame m ρ, Cert.Proof.frameQbDw,
    fun m ρ _ => Cert.KvFwdKernel.Gen.frame m ρ, fun m ρ _ => Cert.KvFwdKernelIdeal.Gen.frame m ρ, Cert.Proof.frameKvFwd,
    fun m ρ _ => Cert.KvDwKernel.Gen.frame m ρ, fun m ρ _ => Cert.KvDwKernelIdeal.Gen.frame m ρ, Cert.Proof.frameKvDw,
    fun m ρ _ => Cert.DwNarrowKernel.Gen.frame m ρ, fun m ρ _ => Cert.DwNarrowKernelIdeal.Gen.frame m ρ, Cert.Proof.frameDwNarrow,
    IdealRules.named_const.statement Cert.KernelIdeal.κ "mask" .f32 0xF149F2CA#32 ⊥ rfl, Cert.Proof.dilated,
    trivial, Cert.DhKernelIdeal.Own.algebraic,
    trivial, Cert.DwDilKernelIdeal.Own.algebraic,
    trivial, Cert.DwGateKernelIdeal.Own.algebraic,
    trivial, Cert.DwDnKernelIdeal.Own.algebraic,
    trivial, Cert.FwdKernelIdeal.Own.algebraic,
    trivial, Cert.BrFwdKernelIdeal.Own.algebraic,
    trivial, Cert.BrDhKernelIdeal.Own.algebraic,
    trivial, Cert.BrDwKernelIdeal.Own.algebraic,
    trivial, Cert.OutFwdKernelIdeal.Own.algebraic,
    trivial, Cert.OutDhKernelIdeal.Own.algebraic,
    trivial, Cert.OutDwKernelIdeal.Own.algebraic,
    trivial, Cert.QbFwdKernelIdeal.Own.algebraic,
    trivial, Cert.QbDhKernelIdeal.Own.algebraic,
    trivial, Cert.QbDwKernelIdeal.Own.algebraic,
    trivial, Cert.KvFwdKernelIdeal.Own.algebraic,
    trivial, Cert.KvDwKernelIdeal.Own.algebraic,
    trivial, Cert.DwNarrowKernelIdeal.Own.algebraic⟩

end
